-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_InInput (m : (ℓ : Loc Cert.InInput.nD Cert.InInput.τ Cert.InInput.sig) → Buf (Elt Bits) ℓ) : Prop :=
  True

def Pre_InInputIdeal (m : (ℓ : Loc Cert.InInputIdeal.nD Cert.InInputIdeal.τ Cert.InInputIdeal.sig) → Buf (Elt Ideal) ℓ) : Prop :=
  True

def Pre_InInputReferenceIdeal (m : (ℓ : Loc Cert.InInputReferenceIdeal.nD Cert.InInputReferenceIdeal.τ Cert.InInputReferenceIdeal.sig) → Buf (Elt Ideal) ℓ) : Prop :=
  True

def Pre_InWeight (m : (ℓ : Loc Cert.InWeight.nD Cert.InWeight.τ Cert.InWeight.sig) → Buf (Elt Bits) ℓ) : Prop :=
  True

def Pre_InWeightIdeal (m : (ℓ : Loc Cert.InWeightIdeal.nD Cert.InWeightIdeal.τ Cert.InWeightIdeal.sig) → Buf (Elt Ideal) ℓ) : Prop :=
  True

def Pre_InWeightReferenceIdeal (m : (ℓ : Loc Cert.InWeightReferenceIdeal.nD Cert.InWeightReferenceIdeal.τ Cert.InWeightReferenceIdeal.sig) → Buf (Elt Ideal) ℓ) : Prop :=
  True

def Pre_UpWeight (m : (ℓ : Loc Cert.UpWeight.nD Cert.UpWeight.τ Cert.UpWeight.sig) → Buf (Elt Bits) ℓ) : Prop :=
  True

def Pre_UpWeightIdeal (m : (ℓ : Loc Cert.UpWeightIdeal.nD Cert.UpWeightIdeal.τ Cert.UpWeightIdeal.sig) → Buf (Elt Ideal) ℓ) : Prop :=
  True

def Pre_UpWeightReferenceIdeal (m : (ℓ : Loc Cert.UpWeightReferenceIdeal.nD Cert.UpWeightReferenceIdeal.τ Cert.UpWeightReferenceIdeal.sig) → Buf (Elt Ideal) ℓ) : Prop :=
  True

def Pre_DownInput (m : (ℓ : Loc Cert.DownInput.nD Cert.DownInput.τ Cert.DownInput.sig) → Buf (Elt Bits) ℓ) : Prop :=
  True

def Pre_DownInputIdeal (m : (ℓ : Loc Cert.DownInputIdeal.nD Cert.DownInputIdeal.τ Cert.DownInputIdeal.sig) → Buf (Elt Ideal) ℓ) : Prop :=
  True

def Pre_DownInputReferenceIdeal (m : (ℓ : Loc Cert.DownInputReferenceIdeal.nD Cert.DownInputReferenceIdeal.τ Cert.DownInputReferenceIdeal.sig) → Buf (Elt Ideal) ℓ) : Prop :=
  True

def Pre_DownWeight (m : (ℓ : Loc Cert.DownWeight.nD Cert.DownWeight.τ Cert.DownWeight.sig) → Buf (Elt Bits) ℓ) : Prop :=
  True

def Pre_DownWeightIdeal (m : (ℓ : Loc Cert.DownWeightIdeal.nD Cert.DownWeightIdeal.τ Cert.DownWeightIdeal.sig) → Buf (Elt Ideal) ℓ) : Prop :=
  True

def Pre_DownWeightReferenceIdeal (m : (ℓ : Loc Cert.DownWeightReferenceIdeal.nD Cert.DownWeightReferenceIdeal.τ Cert.DownWeightReferenceIdeal.sig) → Buf (Elt Ideal) ℓ) : Prop :=
  True

def Pre_InForward (m : (ℓ : Loc Cert.InForward.nD Cert.InForward.τ Cert.InForward.sig) → Buf (Elt Bits) ℓ) : Prop :=
  True

def Pre_InForwardIdeal (m : (ℓ : Loc Cert.InForwardIdeal.nD Cert.InForwardIdeal.τ Cert.InForwardIdeal.sig) → Buf (Elt Ideal) ℓ) : Prop :=
  True

def Pre_InForwardReferenceIdeal (m : (ℓ : Loc Cert.InForwardReferenceIdeal.nD Cert.InForwardReferenceIdeal.τ Cert.InForwardReferenceIdeal.sig) → Buf (Elt Ideal) ℓ) : Prop :=
  True

def Pre_UpForward (m : (ℓ : Loc Cert.UpForward.nD Cert.UpForward.τ Cert.UpForward.sig) → Buf (Elt Bits) ℓ) : Prop :=
  True

def Pre_UpForwardIdeal (m : (ℓ : Loc Cert.UpForwardIdeal.nD Cert.UpForwardIdeal.τ Cert.UpForwardIdeal.sig) → Buf (Elt Ideal) ℓ) : Prop :=
  True

def Pre_UpForwardReferenceIdeal (m : (ℓ : Loc Cert.UpForwardReferenceIdeal.nD Cert.UpForwardReferenceIdeal.τ Cert.UpForwardReferenceIdeal.sig) → Buf (Elt Ideal) ℓ) : Prop :=
  True

def Pre_DownForward (m : (ℓ : Loc Cert.DownForward.nD Cert.DownForward.τ Cert.DownForward.sig) → Buf (Elt Bits) ℓ) : Prop :=
  True

def Pre_DownForwardIdeal (m : (ℓ : Loc Cert.DownForwardIdeal.nD Cert.DownForwardIdeal.τ Cert.DownForwardIdeal.sig) → Buf (Elt Ideal) ℓ) : Prop :=
  True

def Pre_DownForwardReferenceIdeal (m : (ℓ : Loc Cert.DownForwardReferenceIdeal.nD Cert.DownForwardReferenceIdeal.τ Cert.DownForwardReferenceIdeal.sig) → Buf (Elt Ideal) ℓ) : Prop :=
  True

def Pre_GmOutInput (m : (ℓ : Loc Cert.GmOutInput.nD Cert.GmOutInput.τ Cert.GmOutInput.sig) → Buf (Elt Bits) ℓ) : Prop :=
  True

def Pre_GmOutInputIdeal (m : (ℓ : Loc Cert.GmOutInputIdeal.nD Cert.GmOutInputIdeal.τ Cert.GmOutInputIdeal.sig) → Buf (Elt Ideal) ℓ) : Prop :=
  True

def Pre_GmOutInputReferenceIdeal (m : (ℓ : Loc Cert.GmOutInputReferenceIdeal.nD Cert.GmOutInputReferenceIdeal.τ Cert.GmOutInputReferenceIdeal.sig) → Buf (Elt Ideal) ℓ) : Prop :=
  True

def Pre_GmOutWeight (m : (ℓ : Loc Cert.GmOutWeight.nD Cert.GmOutWeight.τ Cert.GmOutWeight.sig) → Buf (Elt Bits) ℓ) : Prop :=
  True

def Pre_GmOutWeightIdeal (m : (ℓ : Loc Cert.GmOutWeightIdeal.nD Cert.GmOutWeightIdeal.τ Cert.GmOutWeightIdeal.sig) → Buf (Elt Ideal) ℓ) : Prop :=
  True

def Pre_GmOutWeightReferenceIdeal (m : (ℓ : Loc Cert.GmOutWeightReferenceIdeal.nD Cert.GmOutWeightReferenceIdeal.τ Cert.GmOutWeightReferenceIdeal.sig) → Buf (Elt Ideal) ℓ) : Prop :=
  True

def Pre_GmOutForward (m : (ℓ : Loc Cert.GmOutForward.nD Cert.GmOutForward.τ Cert.GmOutForward.sig) → Buf (Elt Bits) ℓ) : Prop :=
  True

def Pre_GmOutForwardIdeal (m : (ℓ : Loc Cert.GmOutForwardIdeal.nD Cert.GmOutForwardIdeal.τ Cert.GmOutForwardIdeal.sig) → Buf (Elt Ideal) ℓ) : Prop :=
  True

def Pre_GmOutForwardReferenceIdeal (m : (ℓ : Loc Cert.GmOutForwardReferenceIdeal.nD Cert.GmOutForwardReferenceIdeal.τ Cert.GmOutForwardReferenceIdeal.sig) → Buf (Elt Ideal) ℓ) : Prop :=
  True

def Pre_HgOutInput (m : (ℓ : Loc Cert.HgOutInput.nD Cert.HgOutInput.τ Cert.HgOutInput.sig) → Buf (Elt Bits) ℓ) : Prop :=
  True

def Pre_HgOutInputIdeal (m : (ℓ : Loc Cert.HgOutInputIdeal.nD Cert.HgOutInputIdeal.τ Cert.HgOutInputIdeal.sig) → Buf (Elt Ideal) ℓ) : Prop :=
  True

def Pre_HgOutInputReferenceIdeal (m : (ℓ : Loc Cert.HgOutInputReferenceIdeal.nD Cert.HgOutInputReferenceIdeal.τ Cert.HgOutInputReferenceIdeal.sig) → Buf (Elt Ideal) ℓ) : Prop :=
  True

def Pre_HgOutWeight (m : (ℓ : Loc Cert.HgOutWeight.nD Cert.HgOutWeight.τ Cert.HgOutWeight.sig) → Buf (Elt Bits) ℓ) : Prop :=
  True

def Pre_HgOutWeightIdeal (m : (ℓ : Loc Cert.HgOutWeightIdeal.nD Cert.HgOutWeightIdeal.τ Cert.HgOutWeightIdeal.sig) → Buf (Elt Ideal) ℓ) : Prop :=
  True

def Pre_HgOutWeightReferenceIdeal (m : (ℓ : Loc Cert.HgOutWeightReferenceIdeal.nD Cert.HgOutWeightReferenceIdeal.τ Cert.HgOutWeightReferenceIdeal.sig) → Buf (Elt Ideal) ℓ) : Prop :=
  True

def Pre_HgOutForward (m : (ℓ : Loc Cert.HgOutForward.nD Cert.HgOutForward.τ Cert.HgOutForward.sig) → Buf (Elt Bits) ℓ) : Prop :=
  True

def Pre_HgOutForwardIdeal (m : (ℓ : Loc Cert.HgOutForwardIdeal.nD Cert.HgOutForwardIdeal.τ Cert.HgOutForwardIdeal.sig) → Buf (Elt Ideal) ℓ) : Prop :=
  True

def Pre_HgOutForwardReferenceIdeal (m : (ℓ : Loc Cert.HgOutForwardReferenceIdeal.nD Cert.HgOutForwardReferenceIdeal.τ Cert.HgOutForwardReferenceIdeal.sig) → Buf (Elt Ideal) ℓ) : Prop :=
  True

def Pre_NormBackward (m : (ℓ : Loc Cert.NormBackward.nD Cert.NormBackward.τ Cert.NormBackward.sig) → Buf (Elt Bits) ℓ) : Prop :=
  True

def Pre_NormBackwardIdeal (m : (ℓ : Loc Cert.NormBackwardIdeal.nD Cert.NormBackwardIdeal.τ Cert.NormBackwardIdeal.sig) → Buf (Elt Ideal) ℓ) : Prop :=
  True

def Pre_NormBackwardReferenceIdeal (m : (ℓ : Loc Cert.NormBackwardReferenceIdeal.nD Cert.NormBackwardReferenceIdeal.τ Cert.NormBackwardReferenceIdeal.sig) → Buf (Elt Ideal) ℓ) : Prop :=
  True

def Pre_AdaForward (m : (ℓ : Loc Cert.AdaForward.nD Cert.AdaForward.τ Cert.AdaForward.sig) → Buf (Elt Bits) ℓ) : Prop :=
  True

def Pre_AdaForwardIdeal (m : (ℓ : Loc Cert.AdaForwardIdeal.nD Cert.AdaForwardIdeal.τ Cert.AdaForwardIdeal.sig) → Buf (Elt Ideal) ℓ) : Prop :=
  True

def Pre_AdaForwardReferenceIdeal (m : (ℓ : Loc Cert.AdaForwardReferenceIdeal.nD Cert.AdaForwardReferenceIdeal.τ Cert.AdaForwardReferenceIdeal.sig) → Buf (Elt Ideal) ℓ) : Prop :=
  True

def Pre_AdaWeight (m : (ℓ : Loc Cert.AdaWeight.nD Cert.AdaWeight.τ Cert.AdaWeight.sig) → Buf (Elt Bits) ℓ) : Prop :=
  True

def Pre_AdaWeightIdeal (m : (ℓ : Loc Cert.AdaWeightIdeal.nD Cert.AdaWeightIdeal.τ Cert.AdaWeightIdeal.sig) → Buf (Elt Ideal) ℓ) : Prop :=
  True

def Pre_AdaWeightReferenceIdeal (m : (ℓ : Loc Cert.AdaWeightReferenceIdeal.nD Cert.AdaWeightReferenceIdeal.τ Cert.AdaWeightReferenceIdeal.sig) → Buf (Elt Ideal) ℓ) : Prop :=
  True

def Pre_FirstNormBackward (m : (ℓ : Loc Cert.FirstNormBackward.nD Cert.FirstNormBackward.τ Cert.FirstNormBackward.sig) → Buf (Elt Bits) ℓ) : Prop :=
  True

def Pre_FirstNormBackwardIdeal (m : (ℓ : Loc Cert.FirstNormBackwardIdeal.nD Cert.FirstNormBackwardIdeal.τ Cert.FirstNormBackwardIdeal.sig) → Buf (Elt Ideal) ℓ) : Prop :=
  True

def Pre_FirstNormBackwardReferenceIdeal (m : (ℓ : Loc Cert.FirstNormBackwardReferenceIdeal.nD Cert.FirstNormBackwardReferenceIdeal.τ Cert.FirstNormBackwardReferenceIdeal.sig) → Buf (Elt Ideal) ℓ) : Prop :=
  True

def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadReferenceIdeal (m : (ℓ : Loc Cert.LossHeadReferenceIdeal.nD Cert.LossHeadReferenceIdeal.τ Cert.LossHeadReferenceIdeal.sig) → Buf (Elt Ideal) ℓ) : Prop :=
  True

def Pre_NormForward (m : (ℓ : Loc Cert.NormForward.nD Cert.NormForward.τ Cert.NormForward.sig) → Buf (Elt Bits) ℓ) : Prop :=
  True

def Pre_NormForwardIdeal (m : (ℓ : Loc Cert.NormForwardIdeal.nD Cert.NormForwardIdeal.τ Cert.NormForwardIdeal.sig) → Buf (Elt Ideal) ℓ) : Prop :=
  True

def Pre_NormForwardReferenceIdeal (m : (ℓ : Loc Cert.NormForwardReferenceIdeal.nD Cert.NormForwardReferenceIdeal.τ Cert.NormForwardReferenceIdeal.sig) → Buf (Elt Ideal) ℓ) : Prop :=
  True

def Pre_FirstNormForward (m : (ℓ : Loc Cert.FirstNormForward.nD Cert.FirstNormForward.τ Cert.FirstNormForward.sig) → Buf (Elt Bits) ℓ) : Prop :=
  True

def Pre_FirstNormForwardIdeal (m : (ℓ : Loc Cert.FirstNormForwardIdeal.nD Cert.FirstNormForwardIdeal.τ Cert.FirstNormForwardIdeal.sig) → Buf (Elt Ideal) ℓ) : Prop :=
  True

def Pre_FirstNormForwardReferenceIdeal (m : (ℓ : Loc Cert.FirstNormForwardReferenceIdeal.nD Cert.FirstNormForwardReferenceIdeal.τ Cert.FirstNormForwardReferenceIdeal.sig) → Buf (Elt Ideal) ℓ) : Prop :=
  True

def Pre_AdaWeightStep (m : (ℓ : Loc Cert.AdaWeightStep.nD Cert.AdaWeightStep.τ Cert.AdaWeightStep.sig) → Buf (Elt Bits) ℓ) : Prop :=
  True

def Pre_AdaWeightStepIdeal (m : (ℓ : Loc Cert.AdaWeightStepIdeal.nD Cert.AdaWeightStepIdeal.τ Cert.AdaWeightStepIdeal.sig) → Buf (Elt Ideal) ℓ) : Prop :=
  True

def Pre_AdaWeightStepReferenceIdeal (m : (ℓ : Loc Cert.AdaWeightStepReferenceIdeal.nD Cert.AdaWeightStepReferenceIdeal.τ Cert.AdaWeightStepReferenceIdeal.sig) → Buf (Elt Ideal) ℓ) : Prop :=
  True

def Pre_GatingForward (m : (ℓ : Loc Cert.GatingForward.nD Cert.GatingForward.τ Cert.GatingForward.sig) → Buf (Elt Bits) ℓ) : Prop :=
  True

def Pre_GatingForwardIdeal (m : (ℓ : Loc Cert.GatingForwardIdeal.nD Cert.GatingForwardIdeal.τ Cert.GatingForwardIdeal.sig) → Buf (Elt Ideal) ℓ) : Prop :=
  True

def Pre_GatingForwardReferenceIdeal (m : (ℓ : Loc Cert.GatingForwardReferenceIdeal.nD Cert.GatingForwardReferenceIdeal.τ Cert.GatingForwardReferenceIdeal.sig) → Buf (Elt Ideal) ℓ) : Prop :=
  True

def Pre_NormGainStep (m : (ℓ : Loc Cert.NormGainStep.nD Cert.NormGainStep.τ Cert.NormGainStep.sig) → Buf (Elt Bits) ℓ) : Prop :=
  True

def Pre_NormGainStepIdeal (m : (ℓ : Loc Cert.NormGainStepIdeal.nD Cert.NormGainStepIdeal.τ Cert.NormGainStepIdeal.sig) → Buf (Elt Ideal) ℓ) : Prop :=
  True

def Pre_NormGainStepReferenceIdeal (m : (ℓ : Loc Cert.NormGainStepReferenceIdeal.nD Cert.NormGainStepReferenceIdeal.τ Cert.NormGainStepReferenceIdeal.sig) → Buf (Elt Ideal) ℓ) : Prop :=
  True

def Pre_FinalGainStep (m : (ℓ : Loc Cert.FinalGainStep.nD Cert.FinalGainStep.τ Cert.FinalGainStep.sig) → Buf (Elt Bits) ℓ) : Prop :=
  True

def Pre_FinalGainStepIdeal (m : (ℓ : Loc Cert.FinalGainStepIdeal.nD Cert.FinalGainStepIdeal.τ Cert.FinalGainStepIdeal.sig) → Buf (Elt Ideal) ℓ) : Prop :=
  True

def Pre_FinalGainStepReferenceIdeal (m : (ℓ : Loc Cert.FinalGainStepReferenceIdeal.nD Cert.FinalGainStepReferenceIdeal.τ Cert.FinalGainStepReferenceIdeal.sig) → Buf (Elt Ideal) ℓ) : Prop :=
  True

def Pre_GatingNormStep (m : (ℓ : Loc Cert.GatingNormStep.nD Cert.GatingNormStep.τ Cert.GatingNormStep.sig) → Buf (Elt Bits) ℓ) : Prop :=
  True

def Pre_GatingNormStepIdeal (m : (ℓ : Loc Cert.GatingNormStepIdeal.nD Cert.GatingNormStepIdeal.τ Cert.GatingNormStepIdeal.sig) → Buf (Elt Ideal) ℓ) : Prop :=
  True

def Pre_GatingNormStepReferenceIdeal (m : (ℓ : Loc Cert.GatingNormStepReferenceIdeal.nD Cert.GatingNormStepReferenceIdeal.τ Cert.GatingNormStepReferenceIdeal.sig) → Buf (Elt Ideal) ℓ) : Prop :=
  True

def Pre_SpatialWeightStep (m : (ℓ : Loc Cert.SpatialWeightStep.nD Cert.SpatialWeightStep.τ Cert.SpatialWeightStep.sig) → Buf (Elt Bits) ℓ) : Prop :=
  True

def Pre_SpatialWeightStepIdeal (m : (ℓ : Loc Cert.SpatialWeightStepIdeal.nD Cert.SpatialWeightStepIdeal.τ Cert.SpatialWeightStepIdeal.sig) → Buf (Elt Ideal) ℓ) : Prop :=
  True

def Pre_SpatialWeightStepReferenceIdeal (m : (ℓ : Loc Cert.SpatialWeightStepReferenceIdeal.nD Cert.SpatialWeightStepReferenceIdeal.τ Cert.SpatialWeightStepReferenceIdeal.sig) → Buf (Elt Ideal) ℓ) : Prop :=
  True

def Pre_SpatialBiasStep (m : (ℓ : Loc Cert.SpatialBiasStep.nD Cert.SpatialBiasStep.τ Cert.SpatialBiasStep.sig) → Buf (Elt Bits) ℓ) : Prop :=
  True

def Pre_SpatialBiasStepIdeal (m : (ℓ : Loc Cert.SpatialBiasStepIdeal.nD Cert.SpatialBiasStepIdeal.τ Cert.SpatialBiasStepIdeal.sig) → Buf (Elt Ideal) ℓ) : Prop :=
  True

def Pre_SpatialBiasStepReferenceIdeal (m : (ℓ : Loc Cert.SpatialBiasStepReferenceIdeal.nD Cert.SpatialBiasStepReferenceIdeal.τ Cert.SpatialBiasStepReferenceIdeal.sig) → Buf (Elt Ideal) ℓ) : Prop :=
  True

def Pre_HeadRowsStep (m : (ℓ : Loc Cert.HeadRowsStep.nD Cert.HeadRowsStep.τ Cert.HeadRowsStep.sig) → Buf (Elt Bits) ℓ) : Prop :=
  True

def Pre_HeadRowsStepIdeal (m : (ℓ : Loc Cert.HeadRowsStepIdeal.nD Cert.HeadRowsStepIdeal.τ Cert.HeadRowsStepIdeal.sig) → Buf (Elt Ideal) ℓ) : Prop :=
  True

def Pre_HeadRowsStepReferenceIdeal (m : (ℓ : Loc Cert.HeadRowsStepReferenceIdeal.nD Cert.HeadRowsStepReferenceIdeal.τ Cert.HeadRowsStepReferenceIdeal.sig) → Buf (Elt Ideal) ℓ) : Prop :=
  True

def Pre_ConvWeightStep (m : (ℓ : Loc Cert.ConvWeightStep.nD Cert.ConvWeightStep.τ Cert.ConvWeightStep.sig) → Buf (Elt Bits) ℓ) : Prop :=
  True

def Pre_ConvWeightStepIdeal (m : (ℓ : Loc Cert.ConvWeightStepIdeal.nD Cert.ConvWeightStepIdeal.τ Cert.ConvWeightStepIdeal.sig) → Buf (Elt Ideal) ℓ) : Prop :=
  True

def Pre_ConvWeightStepReferenceIdeal (m : (ℓ : Loc Cert.ConvWeightStepReferenceIdeal.nD Cert.ConvWeightStepReferenceIdeal.τ Cert.ConvWeightStepReferenceIdeal.sig) → Buf (Elt Ideal) ℓ) : Prop :=
  True

def Pre_ConvBiasStep (m : (ℓ : Loc Cert.ConvBiasStep.nD Cert.ConvBiasStep.τ Cert.ConvBiasStep.sig) → Buf (Elt Bits) ℓ) : Prop :=
  True

def Pre_ConvBiasStepIdeal (m : (ℓ : Loc Cert.ConvBiasStepIdeal.nD Cert.ConvBiasStepIdeal.τ Cert.ConvBiasStepIdeal.sig) → Buf (Elt Ideal) ℓ) : Prop :=
  True

def Pre_ConvBiasStepReferenceIdeal (m : (ℓ : Loc Cert.ConvBiasStepReferenceIdeal.nD Cert.ConvBiasStepReferenceIdeal.τ Cert.ConvBiasStepReferenceIdeal.sig) → Buf (Elt Ideal) ℓ) : Prop :=
  True

def Pre_AdaBiasStep (m : (ℓ : Loc Cert.AdaBiasStep.nD Cert.AdaBiasStep.τ Cert.AdaBiasStep.sig) → Buf (Elt Bits) ℓ) : Prop :=
  True

def Pre_AdaBiasStepIdeal (m : (ℓ : Loc Cert.AdaBiasStepIdeal.nD Cert.AdaBiasStepIdeal.τ Cert.AdaBiasStepIdeal.sig) → Buf (Elt Ideal) ℓ) : Prop :=
  True

def Pre_AdaBiasStepReferenceIdeal (m : (ℓ : Loc Cert.AdaBiasStepReferenceIdeal.nD Cert.AdaBiasStepReferenceIdeal.τ Cert.AdaBiasStepReferenceIdeal.sig) → Buf (Elt Ideal) ℓ) : Prop :=
  True

def Pre_AdaBiasSum (m : (ℓ : Loc Cert.AdaBiasSum.nD Cert.AdaBiasSum.τ Cert.AdaBiasSum.sig) → Buf (Elt Bits) ℓ) : Prop :=
  True

def Pre_AdaBiasSumIdeal (m : (ℓ : Loc Cert.AdaBiasSumIdeal.nD Cert.AdaBiasSumIdeal.τ Cert.AdaBiasSumIdeal.sig) → Buf (Elt Ideal) ℓ) : Prop :=
  True

def Pre_AdaBiasSumReferenceIdeal (m : (ℓ : Loc Cert.AdaBiasSumReferenceIdeal.nD Cert.AdaBiasSumReferenceIdeal.τ Cert.AdaBiasSumReferenceIdeal.sig) → Buf (Elt Ideal) ℓ) : Prop :=
  True

def Pre_DeviceSum (m : (ℓ : Loc Cert.DeviceSum.nD Cert.DeviceSum.τ Cert.DeviceSum.sig) → Buf (Elt Bits) ℓ) : Prop :=
  True

def Pre_DeviceSumIdeal (m : (ℓ : Loc Cert.DeviceSumIdeal.nD Cert.DeviceSumIdeal.τ Cert.DeviceSumIdeal.sig) → Buf (Elt Ideal) ℓ) : Prop :=
  True

def Pre_DeviceSumReferenceIdeal (m : (ℓ : Loc Cert.DeviceSumReferenceIdeal.nD Cert.DeviceSumReferenceIdeal.τ Cert.DeviceSumReferenceIdeal.sig) → Buf (Elt Ideal) ℓ) : Prop :=
  True

def Pre_ConvForward (m : (ℓ : Loc Cert.ConvForward.nD Cert.ConvForward.τ Cert.ConvForward.sig) → Buf (Elt Bits) ℓ) : Prop :=
  True

def Pre_ConvForwardIdeal (m : (ℓ : Loc Cert.ConvForwardIdeal.nD Cert.ConvForwardIdeal.τ Cert.ConvForwardIdeal.sig) → Buf (Elt Ideal) ℓ) : Prop :=
  True

def Pre_ConvForwardReferenceIdeal (m : (ℓ : Loc Cert.ConvForwardReferenceIdeal.nD Cert.ConvForwardReferenceIdeal.τ Cert.ConvForwardReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_InInput [hInInput : Cert.InInput.Facts] : Prop :=
  ∀ (m : (ℓ : Loc Cert.InInput.nD Cert.InInput.τ Cert.InInput.sig) → Buf (Elt Bits) ℓ) (g : Dev Cert.InInput.nD → PrngReg), Pre_InInput m →
    θ_run (Cert.InInput.defs (F := Bits)) (onTc (τ := Cert.InInput.τ) (Cert.InInput.main (F := Bits))) ⟨m, fun _ => 0, g⟩ (fun r => (∀ c : Dev Cert.InInput.nD,
      r.2.mem ((c.tc : Thread Cert.InInput.nD Cert.InInput.τ).loc Cert.InInput.main_arg0) = m ((c.tc : Thread Cert.InInput.nD Cert.InInput.τ).loc Cert.InInput.main_arg0)
      ∧ r.2.mem ((c.tc : Thread Cert.InInput.nD Cert.InInput.τ).loc Cert.InInput.main_arg1) = m ((c.tc : Thread Cert.InInput.nD Cert.InInput.τ).loc Cert.InInput.main_arg1))
      ∧ r.2.sem = fun _ => 0)

def quiescent_InInputIdeal [hInInputIdeal : Cert.InInputIdeal.Facts] : Prop :=
  ∀ (m : (ℓ : Loc Cert.InInputIdeal.nD Cert.InInputIdeal.τ Cert.InInputIdeal.sig) → Buf (Elt Ideal) ℓ) (g : Dev Cert.InInputIdeal.nD → PrngReg), Pre_InInputIdeal m →
    θ_run (Cert.InInputIdeal.defs (F := Ideal)) (onTc (τ := Cert.InInputIdeal.τ) (Cert.InInputIdeal.main (F := Ideal))) ⟨m, fun _ => 0, g⟩ (fun r => (∀ c : Dev Cert.InInputIdeal.nD,
      r.2.mem ((c.tc : Thread Cert.InInputIdeal.nD Cert.InInputIdeal.τ).loc Cert.InInputIdeal.main_arg0) = m ((c.tc : Thread Cert.InInputIdeal.nD Cert.InInputIdeal.τ).loc Cert.InInputIdeal.main_arg0)
      ∧ r.2.mem ((c.tc : Thread Cert.InInputIdeal.nD Cert.InInputIdeal.τ).loc Cert.InInputIdeal.main_arg1) = m ((c.tc : Thread Cert.InInputIdeal.nD Cert.InInputIdeal.τ).loc Cert.InInputIdeal.main_arg1))
      ∧ r.2.sem = fun _ => 0)

def quiescent_InInputReferenceIdeal [hInInputReferenceIdeal : Cert.InInputReferenceIdeal.Facts] : Prop :=
  ∀ (m : (ℓ : Loc Cert.InInputReferenceIdeal.nD Cert.InInputReferenceIdeal.τ Cert.InInputReferenceIdeal.sig) → Buf (Elt Ideal) ℓ) (g : Dev Cert.InInputReferenceIdeal.nD → PrngReg), Pre_InInputReferenceIdeal m →
    θ_run (Cert.InInputReferenceIdeal.defs (F := Ideal)) (onTc (τ := Cert.InInputReferenceIdeal.τ) (Cert.InInputReferenceIdeal.main (F := Ideal))) ⟨m, fun _ => 0, g⟩ (fun r => (∀ c : Dev Cert.InInputReferenceIdeal.nD,
      r.2.mem ((c.tc : Thread Cert.InInputReferenceIdeal.nD Cert.InInputReferenceIdeal.τ).loc Cert.InInputReferenceIdeal.main_arg0) = m ((c.tc : Thread Cert.InInputReferenceIdeal.nD Cert.InInputReferenceIdeal.τ).loc Cert.InInputReferenceIdeal.main_arg0)
      ∧ r.2.mem ((c.tc : Thread Cert.InInputReferenceIdeal.nD Cert.InInputReferenceIdeal.τ).loc Cert.InInputReferenceIdeal.main_arg1) = m ((c.tc : Thread Cert.InInputReferenceIdeal.nD Cert.InInputReferenceIdeal.τ).loc Cert.InInputReferenceIdeal.main_arg1))
      ∧ r.2.sem = fun _ => 0)

def quiescent_InWeight [hInWeight : Cert.InWeight.Facts] : Prop :=
  ∀ (m : (ℓ : Loc Cert.InWeight.nD Cert.InWeight.τ Cert.InWeight.sig) → Buf (Elt Bits) ℓ) (g : Dev Cert.InWeight.nD → PrngReg), Pre_InWeight m →
    θ_run (Cert.InWeight.defs (F := Bits)) (onTc (τ := Cert.InWeight.τ) (Cert.InWeight.main (F := Bits))) ⟨m, fun _ => 0, g⟩ (fun r => (∀ c : Dev Cert.InWeight.nD,
      r.2.mem ((c.tc : Thread Cert.InWeight.nD Cert.InWeight.τ).loc Cert.InWeight.main_arg0) = m ((c.tc : Thread Cert.InWeight.nD Cert.InWeight.τ).loc Cert.InWeight.main_arg0)
      ∧ r.2.mem ((c.tc : Thread Cert.InWeight.nD Cert.InWeight.τ).loc Cert.InWeight.main_arg1) = m ((c.tc : Thread Cert.InWeight.nD Cert.InWeight.τ).loc Cert.InWeight.main_arg1))
      ∧ r.2.sem = fun _ => 0)

def quiescent_InWeightIdeal [hInWeightIdeal : Cert.InWeightIdeal.Facts] : Prop :=
  ∀ (m : (ℓ : Loc Cert.InWeightIdeal.nD Cert.InWeightIdeal.τ Cert.InWeightIdeal.sig) → Buf (Elt Ideal) ℓ) (g : Dev Cert.InWeightIdeal.nD → PrngReg), Pre_InWeightIdeal m →
    θ_run (Cert.InWeightIdeal.defs (F := Ideal)) (onTc (τ := Cert.InWeightIdeal.τ) (Cert.InWeightIdeal.main (F := Ideal))) ⟨m, fun _ => 0, g⟩ (fun r => (∀ c : Dev Cert.InWeightIdeal.nD,
      r.2.mem ((c.tc : Thread Cert.InWeightIdeal.nD Cert.InWeightIdeal.τ).loc Cert.InWeightIdeal.main_arg0) = m ((c.tc : Thread Cert.InWeightIdeal.nD Cert.InWeightIdeal.τ).loc Cert.InWeightIdeal.main_arg0)
      ∧ r.2.mem ((c.tc : Thread Cert.InWeightIdeal.nD Cert.InWeightIdeal.τ).loc Cert.InWeightIdeal.main_arg1) = m ((c.tc : Thread Cert.InWeightIdeal.nD Cert.InWeightIdeal.τ).loc Cert.InWeightIdeal.main_arg1))
      ∧ r.2.sem = fun _ => 0)

def quiescent_InWeightReferenceIdeal [hInWeightReferenceIdeal : Cert.InWeightReferenceIdeal.Facts] : Prop :=
  ∀ (m : (ℓ : Loc Cert.InWeightReferenceIdeal.nD Cert.InWeightReferenceIdeal.τ Cert.InWeightReferenceIdeal.sig) → Buf (Elt Ideal) ℓ) (g : Dev Cert.InWeightReferenceIdeal.nD → PrngReg), Pre_InWeightReferenceIdeal m →
    θ_run (Cert.InWeightReferenceIdeal.defs (F := Ideal)) (onTc (τ := Cert.InWeightReferenceIdeal.τ) (Cert.InWeightReferenceIdeal.main (F := Ideal))) ⟨m, fun _ => 0, g⟩ (fun r => (∀ c : Dev Cert.InWeightReferenceIdeal.nD,
      r.2.mem ((c.tc : Thread Cert.InWeightReferenceIdeal.nD Cert.InWeightReferenceIdeal.τ).loc Cert.InWeightReferenceIdeal.main_arg0) = m ((c.tc : Thread Cert.InWeightReferenceIdeal.nD Cert.InWeightReferenceIdeal.τ).loc Cert.InWeightReferenceIdeal.main_arg0)
      ∧ r.2.mem ((c.tc : Thread Cert.InWeightReferenceIdeal.nD Cert.InWeightReferenceIdeal.τ).loc Cert.InWeightReferenceIdeal.main_arg1) = m ((c.tc : Thread Cert.InWeightReferenceIdeal.nD Cert.InWeightReferenceIdeal.τ).loc Cert.InWeightReferenceIdeal.main_arg1))
      ∧ r.2.sem = fun _ => 0)

def quiescent_UpWeight [hUpWeight : Cert.UpWeight.Facts] : Prop :=
  ∀ (m : (ℓ : Loc Cert.UpWeight.nD Cert.UpWeight.τ Cert.UpWeight.sig) → Buf (Elt Bits) ℓ) (g : Dev Cert.UpWeight.nD → PrngReg), Pre_UpWeight m →
    θ_run (Cert.UpWeight.defs (F := Bits)) (onTc (τ := Cert.UpWeight.τ) (Cert.UpWeight.main (F := Bits))) ⟨m, fun _ => 0, g⟩ (fun r => (∀ c : Dev Cert.UpWeight.nD,
      r.2.mem ((c.tc : Thread Cert.UpWeight.nD Cert.UpWeight.τ).loc Cert.UpWeight.main_arg0) = m ((c.tc : Thread Cert.UpWeight.nD Cert.UpWeight.τ).loc Cert.UpWeight.main_arg0)
      ∧ r.2.mem ((c.tc : Thread Cert.UpWeight.nD Cert.UpWeight.τ).loc Cert.UpWeight.main_arg1) = m ((c.tc : Thread Cert.UpWeight.nD Cert.UpWeight.τ).loc Cert.UpWeight.main_arg1))
      ∧ r.2.sem = fun _ => 0)

def quiescent_UpWeightIdeal [hUpWeightIdeal : Cert.UpWeightIdeal.Facts] : Prop :=
  ∀ (m : (ℓ : Loc Cert.UpWeightIdeal.nD Cert.UpWeightIdeal.τ Cert.UpWeightIdeal.sig) → Buf (Elt Ideal) ℓ) (g : Dev Cert.UpWeightIdeal.nD → PrngReg), Pre_UpWeightIdeal m →
    θ_run (Cert.UpWeightIdeal.defs (F := Ideal)) (onTc (τ := Cert.UpWeightIdeal.τ) (Cert.UpWeightIdeal.main (F := Ideal))) ⟨m, fun _ => 0, g⟩ (fun r => (∀ c : Dev Cert.UpWeightIdeal.nD,
      r.2.mem ((c.tc : Thread Cert.UpWeightIdeal.nD Cert.UpWeightIdeal.τ).loc Cert.UpWeightIdeal.main_arg0) = m ((c.tc : Thread Cert.UpWeightIdeal.nD Cert.UpWeightIdeal.τ).loc Cert.UpWeightIdeal.main_arg0)
      ∧ r.2.mem ((c.tc : Thread Cert.UpWeightIdeal.nD Cert.UpWeightIdeal.τ).loc Cert.UpWeightIdeal.main_arg1) = m ((c.tc : Thread Cert.UpWeightIdeal.nD Cert.UpWeightIdeal.τ).loc Cert.UpWeightIdeal.main_arg1))
      ∧ r.2.sem = fun _ => 0)

def quiescent_UpWeightReferenceIdeal [hUpWeightReferenceIdeal : Cert.UpWeightReferenceIdeal.Facts] : Prop :=
  ∀ (m : (ℓ : Loc Cert.UpWeightReferenceIdeal.nD Cert.UpWeightReferenceIdeal.τ Cert.UpWeightReferenceIdeal.sig) → Buf (Elt Ideal) ℓ) (g : Dev Cert.UpWeightReferenceIdeal.nD → PrngReg), Pre_UpWeightReferenceIdeal m →
    θ_run (Cert.UpWeightReferenceIdeal.defs (F := Ideal)) (onTc (τ := Cert.UpWeightReferenceIdeal.τ) (Cert.UpWeightReferenceIdeal.main (F := Ideal))) ⟨m, fun _ => 0, g⟩ (fun r => (∀ c : Dev Cert.UpWeightReferenceIdeal.nD,
      r.2.mem ((c.tc : Thread Cert.UpWeightReferenceIdeal.nD Cert.UpWeightReferenceIdeal.τ).loc Cert.UpWeightReferenceIdeal.main_arg0) = m ((c.tc : Thread Cert.UpWeightReferenceIdeal.nD Cert.UpWeightReferenceIdeal.τ).loc Cert.UpWeightReferenceIdeal.main_arg0)
      ∧ r.2.mem ((c.tc : Thread Cert.UpWeightReferenceIdeal.nD Cert.UpWeightReferenceIdeal.τ).loc Cert.UpWeightReferenceIdeal.main_arg1) = m ((c.tc : Thread Cert.UpWeightReferenceIdeal.nD Cert.UpWeightReferenceIdeal.τ).loc Cert.UpWeightReferenceIdeal.main_arg1))
      ∧ r.2.sem = fun _ => 0)

def quiescent_DownInput [hDownInput : Cert.DownInput.Facts] : Prop :=
  ∀ (m : (ℓ : Loc Cert.DownInput.nD Cert.DownInput.τ Cert.DownInput.sig) → Buf (Elt Bits) ℓ) (g : Dev Cert.DownInput.nD → PrngReg), Pre_DownInput m →
    θ_run (Cert.DownInput.defs (F := Bits)) (onTc (τ := Cert.DownInput.τ) (Cert.DownInput.main (F := Bits))) ⟨m, fun _ => 0, g⟩ (fun r => (∀ c : Dev Cert.DownInput.nD,
      r.2.mem ((c.tc : Thread Cert.DownInput.nD Cert.DownInput.τ).loc Cert.DownInput.main_arg0) = m ((c.tc : Thread Cert.DownInput.nD Cert.DownInput.τ).loc Cert.DownInput.main_arg0)
      ∧ r.2.mem ((c.tc : Thread Cert.DownInput.nD Cert.DownInput.τ).loc Cert.DownInput.main_arg1) = m ((c.tc : Thread Cert.DownInput.nD Cert.DownInput.τ).loc Cert.DownInput.main_arg1))
      ∧ r.2.sem = fun _ => 0)

def quiescent_DownInputIdeal [hDownInputIdeal : Cert.DownInputIdeal.Facts] : Prop :=
  ∀ (m : (ℓ : Loc Cert.DownInputIdeal.nD Cert.DownInputIdeal.τ Cert.DownInputIdeal.sig) → Buf (Elt Ideal) ℓ) (g : Dev Cert.DownInputIdeal.nD → PrngReg), Pre_DownInputIdeal m →
    θ_run (Cert.DownInputIdeal.defs (F := Ideal)) (onTc (τ := Cert.DownInputIdeal.τ) (Cert.DownInputIdeal.main (F := Ideal))) ⟨m, fun _ => 0, g⟩ (fun r => (∀ c : Dev Cert.DownInputIdeal.nD,
      r.2.mem ((c.tc : Thread Cert.DownInputIdeal.nD Cert.DownInputIdeal.τ).loc Cert.DownInputIdeal.main_arg0) = m ((c.tc : Thread Cert.DownInputIdeal.nD Cert.DownInputIdeal.τ).loc Cert.DownInputIdeal.main_arg0)
      ∧ r.2.mem ((c.tc : Thread Cert.DownInputIdeal.nD Cert.DownInputIdeal.τ).loc Cert.DownInputIdeal.main_arg1) = m ((c.tc : Thread Cert.DownInputIdeal.nD Cert.DownInputIdeal.τ).loc Cert.DownInputIdeal.main_arg1))
      ∧ r.2.sem = fun _ => 0)

def quiescent_DownInputReferenceIdeal [hDownInputReferenceIdeal : Cert.DownInputReferenceIdeal.Facts] : Prop :=
  ∀ (m : (ℓ : Loc Cert.DownInputReferenceIdeal.nD Cert.DownInputReferenceIdeal.τ Cert.DownInputReferenceIdeal.sig) → Buf (Elt Ideal) ℓ) (g : Dev Cert.DownInputReferenceIdeal.nD → PrngReg), Pre_DownInputReferenceIdeal m →
    θ_run (Cert.DownInputReferenceIdeal.defs (F := Ideal)) (onTc (τ := Cert.DownInputReferenceIdeal.τ) (Cert.DownInputReferenceIdeal.main (F := Ideal))) ⟨m, fun _ => 0, g⟩ (fun r => (∀ c : Dev Cert.DownInputReferenceIdeal.nD,
      r.2.mem ((c.tc : Thread Cert.DownInputReferenceIdeal.nD Cert.DownInputReferenceIdeal.τ).loc Cert.DownInputReferenceIdeal.main_arg0) = m ((c.tc : Thread Cert.DownInputReferenceIdeal.nD Cert.DownInputReferenceIdeal.τ).loc Cert.DownInputReferenceIdeal.main_arg0)
      ∧ r.2.mem ((c.tc : Thread Cert.DownInputReferenceIdeal.nD Cert.DownInputReferenceIdeal.τ).loc Cert.DownInputReferenceIdeal.main_arg1) = m ((c.tc : Thread Cert.DownInputReferenceIdeal.nD Cert.DownInputReferenceIdeal.τ).loc Cert.DownInputReferenceIdeal.main_arg1))
      ∧ r.2.sem = fun _ => 0)

def quiescent_DownWeight [hDownWeight : Cert.DownWeight.Facts] : Prop :=
  ∀ (m : (ℓ : Loc Cert.DownWeight.nD Cert.DownWeight.τ Cert.DownWeight.sig) → Buf (Elt Bits) ℓ) (g : Dev Cert.DownWeight.nD → PrngReg), Pre_DownWeight m →
    θ_run (Cert.DownWeight.defs (F := Bits)) (onTc (τ := Cert.DownWeight.τ) (Cert.DownWeight.main (F := Bits))) ⟨m, fun _ => 0, g⟩ (fun r => (∀ c : Dev Cert.DownWeight.nD,
      r.2.mem ((c.tc : Thread Cert.DownWeight.nD Cert.DownWeight.τ).loc Cert.DownWeight.main_arg0) = m ((c.tc : Thread Cert.DownWeight.nD Cert.DownWeight.τ).loc Cert.DownWeight.main_arg0)
      ∧ r.2.mem ((c.tc : Thread Cert.DownWeight.nD Cert.DownWeight.τ).loc Cert.DownWeight.main_arg1) = m ((c.tc : Thread Cert.DownWeight.nD Cert.DownWeight.τ).loc Cert.DownWeight.main_arg1))
      ∧ r.2.sem = fun _ => 0)

def quiescent_DownWeightIdeal [hDownWeightIdeal : Cert.DownWeightIdeal.Facts] : Prop :=
  ∀ (m : (ℓ : Loc Cert.DownWeightIdeal.nD Cert.DownWeightIdeal.τ Cert.DownWeightIdeal.sig) → Buf (Elt Ideal) ℓ) (g : Dev Cert.DownWeightIdeal.nD → PrngReg), Pre_DownWeightIdeal m →
    θ_run (Cert.DownWeightIdeal.defs (F := Ideal)) (onTc (τ := Cert.DownWeightIdeal.τ) (Cert.DownWeightIdeal.main (F := Ideal))) ⟨m, fun _ => 0, g⟩ (fun r => (∀ c : Dev Cert.DownWeightIdeal.nD,
      r.2.mem ((c.tc : Thread Cert.DownWeightIdeal.nD Cert.DownWeightIdeal.τ).loc Cert.DownWeightIdeal.main_arg0) = m ((c.tc : Thread Cert.DownWeightIdeal.nD Cert.DownWeightIdeal.τ).loc Cert.DownWeightIdeal.main_arg0)
      ∧ r.2.mem ((c.tc : Thread Cert.DownWeightIdeal.nD Cert.DownWeightIdeal.τ).loc Cert.DownWeightIdeal.main_arg1) = m ((c.tc : Thread Cert.DownWeightIdeal.nD Cert.DownWeightIdeal.τ).loc Cert.DownWeightIdeal.main_arg1))
      ∧ r.2.sem = fun _ => 0)

def quiescent_DownWeightReferenceIdeal [hDownWeightReferenceIdeal : Cert.DownWeightReferenceIdeal.Facts] : Prop :=
  ∀ (m : (ℓ : Loc Cert.DownWeightReferenceIdeal.nD Cert.DownWeightReferenceIdeal.τ Cert.DownWeightReferenceIdeal.sig) → Buf (Elt Ideal) ℓ) (g : Dev Cert.DownWeightReferenceIdeal.nD → PrngReg), Pre_DownWeightReferenceIdeal m →
    θ_run (Cert.DownWeightReferenceIdeal.defs (F := Ideal)) (onTc (τ := Cert.DownWeightReferenceIdeal.τ) (Cert.DownWeightReferenceIdeal.main (F := Ideal))) ⟨m, fun _ => 0, g⟩ (fun r => (∀ c : Dev Cert.DownWeightReferenceIdeal.nD,
      r.2.mem ((c.tc : Thread Cert.DownWeightReferenceIdeal.nD Cert.DownWeightReferenceIdeal.τ).loc Cert.DownWeightReferenceIdeal.main_arg0) = m ((c.tc : Thread Cert.DownWeightReferenceIdeal.nD Cert.DownWeightReferenceIdeal.τ).loc Cert.DownWeightReferenceIdeal.main_arg0)
      ∧ r.2.mem ((c.tc : Thread Cert.DownWeightReferenceIdeal.nD Cert.DownWeightReferenceIdeal.τ).loc Cert.DownWeightReferenceIdeal.main_arg1) = m ((c.tc : Thread Cert.DownWeightReferenceIdeal.nD Cert.DownWeightReferenceIdeal.τ).loc Cert.DownWeightReferenceIdeal.main_arg1))
      ∧ r.2.sem = fun _ => 0)

def quiescent_InForward [hInForward : Cert.InForward.Facts] : Prop :=
  ∀ (m : (ℓ : Loc Cert.InForward.nD Cert.InForward.τ Cert.InForward.sig) → Buf (Elt Bits) ℓ) (g : Dev Cert.InForward.nD → PrngReg), Pre_InForward m →
    θ_run (Cert.InForward.defs (F := Bits)) (onTc (τ := Cert.InForward.τ) (Cert.InForward.main (F := Bits))) ⟨m, fun _ => 0, g⟩ (fun r => (∀ c : Dev Cert.InForward.nD,
      r.2.mem ((c.tc : Thread Cert.InForward.nD Cert.InForward.τ).loc Cert.InForward.main_arg0) = m ((c.tc : Thread Cert.InForward.nD Cert.InForward.τ).loc Cert.InForward.main_arg0)
      ∧ r.2.mem ((c.tc : Thread Cert.InForward.nD Cert.InForward.τ).loc Cert.InForward.main_arg1) = m ((c.tc : Thread Cert.InForward.nD Cert.InForward.τ).loc Cert.InForward.main_arg1))
      ∧ r.2.sem = fun _ => 0)

def quiescent_InForwardIdeal [hInForwardIdeal : Cert.InForwardIdeal.Facts] : Prop :=
  ∀ (m : (ℓ : Loc Cert.InForwardIdeal.nD Cert.InForwardIdeal.τ Cert.InForwardIdeal.sig) → Buf (Elt Ideal) ℓ) (g : Dev Cert.InForwardIdeal.nD → PrngReg), Pre_InForwardIdeal m →
    θ_run (Cert.InForwardIdeal.defs (F := Ideal)) (onTc (τ := Cert.InForwardIdeal.τ) (Cert.InForwardIdeal.main (F := Ideal))) ⟨m, fun _ => 0, g⟩ (fun r => (∀ c : Dev Cert.InForwardIdeal.nD,
      r.2.mem ((c.tc : Thread Cert.InForwardIdeal.nD Cert.InForwardIdeal.τ).loc Cert.InForwardIdeal.main_arg0) = m ((c.tc : Thread Cert.InForwardIdeal.nD Cert.InForwardIdeal.τ).loc Cert.InForwardIdeal.main_arg0)
      ∧ r.2.mem ((c.tc : Thread Cert.InForwardIdeal.nD Cert.InForwardIdeal.τ).loc Cert.InForwardIdeal.main_arg1) = m ((c.tc : Thread Cert.InForwardIdeal.nD Cert.InForwardIdeal.τ).loc Cert.InForwardIdeal.main_arg1))
      ∧ r.2.sem = fun _ => 0)

def quiescent_InForwardReferenceIdeal [hInForwardReferenceIdeal : Cert.InForwardReferenceIdeal.Facts] : Prop :=
  ∀ (m : (ℓ : Loc Cert.InForwardReferenceIdeal.nD Cert.InForwardReferenceIdeal.τ Cert.InForwardReferenceIdeal.sig) → Buf (Elt Ideal) ℓ) (g : Dev Cert.InForwardReferenceIdeal.nD → PrngReg), Pre_InForwardReferenceIdeal m →
    θ_run (Cert.InForwardReferenceIdeal.defs (F := Ideal)) (onTc (τ := Cert.InForwardReferenceIdeal.τ) (Cert.InForwardReferenceIdeal.main (F := Ideal))) ⟨m, fun _ => 0, g⟩ (fun r => (∀ c : Dev Cert.InForwardReferenceIdeal.nD,
      r.2.mem ((c.tc : Thread Cert.InForwardReferenceIdeal.nD Cert.InForwardReferenceIdeal.τ).loc Cert.InForwardReferenceIdeal.main_arg0) = m ((c.tc : Thread Cert.InForwardReferenceIdeal.nD Cert.InForwardReferenceIdeal.τ).loc Cert.InForwardReferenceIdeal.main_arg0)
      ∧ r.2.mem ((c.tc : Thread Cert.InForwardReferenceIdeal.nD Cert.InForwardReferenceIdeal.τ).loc Cert.InForwardReferenceIdeal.main_arg1) = m ((c.tc : Thread Cert.InForwardReferenceIdeal.nD Cert.InForwardReferenceIdeal.τ).loc Cert.InForwardReferenceIdeal.main_arg1))
      ∧ r.2.sem = fun _ => 0)

def quiescent_UpForward [hUpForward : Cert.UpForward.Facts] : Prop :=
  ∀ (m : (ℓ : Loc Cert.UpForward.nD Cert.UpForward.τ Cert.UpForward.sig) → Buf (Elt Bits) ℓ) (g : Dev Cert.UpForward.nD → PrngReg), Pre_UpForward m →
    θ_run (Cert.UpForward.defs (F := Bits)) (onTc (τ := Cert.UpForward.τ) (Cert.UpForward.main (F := Bits))) ⟨m, fun _ => 0, g⟩ (fun r => (∀ c : Dev Cert.UpForward.nD,
      r.2.mem ((c.tc : Thread Cert.UpForward.nD Cert.UpForward.τ).loc Cert.UpForward.main_arg0) = m ((c.tc : Thread Cert.UpForward.nD Cert.UpForward.τ).loc Cert.UpForward.main_arg0)
      ∧ r.2.mem ((c.tc : Thread Cert.UpForward.nD Cert.UpForward.τ).loc Cert.UpForward.main_arg1) = m ((c.tc : Thread Cert.UpForward.nD Cert.UpForward.τ).loc Cert.UpForward.main_arg1))
      ∧ r.2.sem = fun _ => 0)

def quiescent_UpForwardIdeal [hUpForwardIdeal : Cert.UpForwardIdeal.Facts] : Prop :=
  ∀ (m : (ℓ : Loc Cert.UpForwardIdeal.nD Cert.UpForwardIdeal.τ Cert.UpForwardIdeal.sig) → Buf (Elt Ideal) ℓ) (g : Dev Cert.UpForwardIdeal.nD → PrngReg), Pre_UpForwardIdeal m →
    θ_run (Cert.UpForwardIdeal.defs (F := Ideal)) (onTc (τ := Cert.UpForwardIdeal.τ) (Cert.UpForwardIdeal.main (F := Ideal))) ⟨m, fun _ => 0, g⟩ (fun r => (∀ c : Dev Cert.UpForwardIdeal.nD,
      r.2.mem ((c.tc : Thread Cert.UpForwardIdeal.nD Cert.UpForwardIdeal.τ).loc Cert.UpForwardIdeal.main_arg0) = m ((c.tc : Thread Cert.UpForwardIdeal.nD Cert.UpForwardIdeal.τ).loc Cert.UpForwardIdeal.main_arg0)
      ∧ r.2.mem ((c.tc : Thread Cert.UpForwardIdeal.nD Cert.UpForwardIdeal.τ).loc Cert.UpForwardIdeal.main_arg1) = m ((c.tc : Thread Cert.UpForwardIdeal.nD Cert.UpForwardIdeal.τ).loc Cert.UpForwardIdeal.main_arg1))
      ∧ r.2.sem = fun _ => 0)

def quiescent_UpForwardReferenceIdeal [hUpForwardReferenceIdeal : Cert.UpForwardReferenceIdeal.Facts] : Prop :=
  ∀ (m : (ℓ : Loc Cert.UpForwardReferenceIdeal.nD Cert.UpForwardReferenceIdeal.τ Cert.UpForwardReferenceIdeal.sig) → Buf (Elt Ideal) ℓ) (g : Dev Cert.UpForwardReferenceIdeal.nD → PrngReg), Pre_UpForwardReferenceIdeal m →
    θ_run (Cert.UpForwardReferenceIdeal.defs (F := Ideal)) (onTc (τ := Cert.UpForwardReferenceIdeal.τ) (Cert.UpForwardReferenceIdeal.main (F := Ideal))) ⟨m, fun _ => 0, g⟩ (fun r => (∀ c : Dev Cert.UpForwardReferenceIdeal.nD,
      r.2.mem ((c.tc : Thread Cert.UpForwardReferenceIdeal.nD Cert.UpForwardReferenceIdeal.τ).loc Cert.UpForwardReferenceIdeal.main_arg0) = m ((c.tc : Thread Cert.UpForwardReferenceIdeal.nD Cert.UpForwardReferenceIdeal.τ).loc Cert.UpForwardReferenceIdeal.main_arg0)
      ∧ r.2.mem ((c.tc : Thread Cert.UpForwardReferenceIdeal.nD Cert.UpForwardReferenceIdeal.τ).loc Cert.UpForwardReferenceIdeal.main_arg1) = m ((c.tc : Thread Cert.UpForwardReferenceIdeal.nD Cert.UpForwardReferenceIdeal.τ).loc Cert.UpForwardReferenceIdeal.main_arg1))
      ∧ r.2.sem = fun _ => 0)

def quiescent_DownForward [hDownForward : Cert.DownForward.Facts] : Prop :=
  ∀ (m : (ℓ : Loc Cert.DownForward.nD Cert.DownForward.τ Cert.DownForward.sig) → Buf (Elt Bits) ℓ) (g : Dev Cert.DownForward.nD → PrngReg), Pre_DownForward m →
    θ_run (Cert.DownForward.defs (F := Bits)) (onTc (τ := Cert.DownForward.τ) (Cert.DownForward.main (F := Bits))) ⟨m, fun _ => 0, g⟩ (fun r => (∀ c : Dev Cert.DownForward.nD,
      r.2.mem ((c.tc : Thread Cert.DownForward.nD Cert.DownForward.τ).loc Cert.DownForward.main_arg0) = m ((c.tc : Thread Cert.DownForward.nD Cert.DownForward.τ).loc Cert.DownForward.main_arg0)
      ∧ r.2.mem ((c.tc : Thread Cert.DownForward.nD Cert.DownForward.τ).loc Cert.DownForward.main_arg1) = m ((c.tc : Thread Cert.DownForward.nD Cert.DownForward.τ).loc Cert.DownForward.main_arg1))
      ∧ r.2.sem = fun _ => 0)

def quiescent_DownForwardIdeal [hDownForwardIdeal : Cert.DownForwardIdeal.Facts] : Prop :=
  ∀ (m : (ℓ : Loc Cert.DownForwardIdeal.nD Cert.DownForwardIdeal.τ Cert.DownForwardIdeal.sig) → Buf (Elt Ideal) ℓ) (g : Dev Cert.DownForwardIdeal.nD → PrngReg), Pre_DownForwardIdeal m →
    θ_run (Cert.DownForwardIdeal.defs (F := Ideal)) (onTc (τ := Cert.DownForwardIdeal.τ) (Cert.DownForwardIdeal.main (F := Ideal))) ⟨m, fun _ => 0, g⟩ (fun r => (∀ c : Dev Cert.DownForwardIdeal.nD,
      r.2.mem ((c.tc : Thread Cert.DownForwardIdeal.nD Cert.DownForwardIdeal.τ).loc Cert.DownForwardIdeal.main_arg0) = m ((c.tc : Thread Cert.DownForwardIdeal.nD Cert.DownForwardIdeal.τ).loc Cert.DownForwardIdeal.main_arg0)
      ∧ r.2.mem ((c.tc : Thread Cert.DownForwardIdeal.nD Cert.DownForwardIdeal.τ).loc Cert.DownForwardIdeal.main_arg1) = m ((c.tc : Thread Cert.DownForwardIdeal.nD Cert.DownForwardIdeal.τ).loc Cert.DownForwardIdeal.main_arg1))
      ∧ r.2.sem = fun _ => 0)

def quiescent_DownForwardReferenceIdeal [hDownForwardReferenceIdeal : Cert.DownForwardReferenceIdeal.Facts] : Prop :=
  ∀ (m : (ℓ : Loc Cert.DownForwardReferenceIdeal.nD Cert.DownForwardReferenceIdeal.τ Cert.DownForwardReferenceIdeal.sig) → Buf (Elt Ideal) ℓ) (g : Dev Cert.DownForwardReferenceIdeal.nD → PrngReg), Pre_DownForwardReferenceIdeal m →
    θ_run (Cert.DownForwardReferenceIdeal.defs (F := Ideal)) (onTc (τ := Cert.DownForwardReferenceIdeal.τ) (Cert.DownForwardReferenceIdeal.main (F := Ideal))) ⟨m, fun _ => 0, g⟩ (fun r => (∀ c : Dev Cert.DownForwardReferenceIdeal.nD,
      r.2.mem ((c.tc : Thread Cert.DownForwardReferenceIdeal.nD Cert.DownForwardReferenceIdeal.τ).loc Cert.DownForwardReferenceIdeal.main_arg0) = m ((c.tc : Thread Cert.DownForwardReferenceIdeal.nD Cert.DownForwardReferenceIdeal.τ).loc Cert.DownForwardReferenceIdeal.main_arg0)
      ∧ r.2.mem ((c.tc : Thread Cert.DownForwardReferenceIdeal.nD Cert.DownForwardReferenceIdeal.τ).loc Cert.DownForwardReferenceIdeal.main_arg1) = m ((c.tc : Thread Cert.DownForwardReferenceIdeal.nD Cert.DownForwardReferenceIdeal.τ).loc Cert.DownForwardReferenceIdeal.main_arg1))
      ∧ r.2.sem = fun _ => 0)

def quiescent_GmOutInput [hGmOutInput : Cert.GmOutInput.Facts] : Prop :=
  ∀ (m : (ℓ : Loc Cert.GmOutInput.nD Cert.GmOutInput.τ Cert.GmOutInput.sig) → Buf (Elt Bits) ℓ) (g : Dev Cert.GmOutInput.nD → PrngReg), Pre_GmOutInput m →
    θ_run (Cert.GmOutInput.defs (F := Bits)) (onTc (τ := Cert.GmOutInput.τ) (Cert.GmOutInput.main (F := Bits))) ⟨m, fun _ => 0, g⟩ (fun r => (∀ c : Dev Cert.GmOutInput.nD,
      r.2.mem ((c.tc : Thread Cert.GmOutInput.nD Cert.GmOutInput.τ).loc Cert.GmOutInput.main_arg0) = m ((c.tc : Thread Cert.GmOutInput.nD Cert.GmOutInput.τ).loc Cert.GmOutInput.main_arg0)
      ∧ r.2.mem ((c.tc : Thread Cert.GmOutInput.nD Cert.GmOutInput.τ).loc Cert.GmOutInput.main_arg1) = m ((c.tc : Thread Cert.GmOutInput.nD Cert.GmOutInput.τ).loc Cert.GmOutInput.main_arg1))
      ∧ r.2.sem = fun _ => 0)

def quiescent_GmOutInputIdeal [hGmOutInputIdeal : Cert.GmOutInputIdeal.Facts] : Prop :=
  ∀ (m : (ℓ : Loc Cert.GmOutInputIdeal.nD Cert.GmOutInputIdeal.τ Cert.GmOutInputIdeal.sig) → Buf (Elt Ideal) ℓ) (g : Dev Cert.GmOutInputIdeal.nD → PrngReg), Pre_GmOutInputIdeal m →
    θ_run (Cert.GmOutInputIdeal.defs (F := Ideal)) (onTc (τ := Cert.GmOutInputIdeal.τ) (Cert.GmOutInputIdeal.main (F := Ideal))) ⟨m, fun _ => 0, g⟩ (fun r => (∀ c : Dev Cert.GmOutInputIdeal.nD,
      r.2.mem ((c.tc : Thread Cert.GmOutInputIdeal.nD Cert.GmOutInputIdeal.τ).loc Cert.GmOutInputIdeal.main_arg0) = m ((c.tc : Thread Cert.GmOutInputIdeal.nD Cert.GmOutInputIdeal.τ).loc Cert.GmOutInputIdeal.main_arg0)
      ∧ r.2.mem ((c.tc : Thread Cert.GmOutInputIdeal.nD Cert.GmOutInputIdeal.τ).loc Cert.GmOutInputIdeal.main_arg1) = m ((c.tc : Thread Cert.GmOutInputIdeal.nD Cert.GmOutInputIdeal.τ).loc Cert.GmOutInputIdeal.main_arg1))
      ∧ r.2.sem = fun _ => 0)

def quiescent_GmOutInputReferenceIdeal [hGmOutInputReferenceIdeal : Cert.GmOutInputReferenceIdeal.Facts] : Prop :=
  ∀ (m : (ℓ : Loc Cert.GmOutInputReferenceIdeal.nD Cert.GmOutInputReferenceIdeal.τ Cert.GmOutInputReferenceIdeal.sig) → Buf (Elt Ideal) ℓ) (g : Dev Cert.GmOutInputReferenceIdeal.nD → PrngReg), Pre_GmOutInputReferenceIdeal m →
    θ_run (Cert.GmOutInputReferenceIdeal.defs (F := Ideal)) (onTc (τ := Cert.GmOutInputReferenceIdeal.τ) (Cert.GmOutInputReferenceIdeal.main (F := Ideal))) ⟨m, fun _ => 0, g⟩ (fun r => (∀ c : Dev Cert.GmOutInputReferenceIdeal.nD,
      r.2.mem ((c.tc : Thread Cert.GmOutInputReferenceIdeal.nD Cert.GmOutInputReferenceIdeal.τ).loc Cert.GmOutInputReferenceIdeal.main_arg0) = m ((c.tc : Thread Cert.GmOutInputReferenceIdeal.nD Cert.GmOutInputReferenceIdeal.τ).loc Cert.GmOutInputReferenceIdeal.main_arg0)
      ∧ r.2.mem ((c.tc : Thread Cert.GmOutInputReferenceIdeal.nD Cert.GmOutInputReferenceIdeal.τ).loc Cert.GmOutInputReferenceIdeal.main_arg1) = m ((c.tc : Thread Cert.GmOutInputReferenceIdeal.nD Cert.GmOutInputReferenceIdeal.τ).loc Cert.GmOutInputReferenceIdeal.main_arg1))
      ∧ r.2.sem = fun _ => 0)

def quiescent_GmOutWeight [hGmOutWeight : Cert.GmOutWeight.Facts] : Prop :=
  ∀ (m : (ℓ : Loc Cert.GmOutWeight.nD Cert.GmOutWeight.τ Cert.GmOutWeight.sig) → Buf (Elt Bits) ℓ) (g : Dev Cert.GmOutWeight.nD → PrngReg), Pre_GmOutWeight m →
    θ_run (Cert.GmOutWeight.defs (F := Bits)) (onTc (τ := Cert.GmOutWeight.τ) (Cert.GmOutWeight.main (F := Bits))) ⟨m, fun _ => 0, g⟩ (fun r => (∀ c : Dev Cert.GmOutWeight.nD,
      r.2.mem ((c.tc : Thread Cert.GmOutWeight.nD Cert.GmOutWeight.τ).loc Cert.GmOutWeight.main_arg0) = m ((c.tc : Thread Cert.GmOutWeight.nD Cert.GmOutWeight.τ).loc Cert.GmOutWeight.main_arg0)
      ∧ r.2.mem ((c.tc : Thread Cert.GmOutWeight.nD Cert.GmOutWeight.τ).loc Cert.GmOutWeight.main_arg1) = m ((c.tc : Thread Cert.GmOutWeight.nD Cert.GmOutWeight.τ).loc Cert.GmOutWeight.main_arg1))
      ∧ r.2.sem = fun _ => 0)

def quiescent_GmOutWeightIdeal [hGmOutWeightIdeal : Cert.GmOutWeightIdeal.Facts] : Prop :=
  ∀ (m : (ℓ : Loc Cert.GmOutWeightIdeal.nD Cert.GmOutWeightIdeal.τ Cert.GmOutWeightIdeal.sig) → Buf (Elt Ideal) ℓ) (g : Dev Cert.GmOutWeightIdeal.nD → PrngReg), Pre_GmOutWeightIdeal m →
    θ_run (Cert.GmOutWeightIdeal.defs (F := Ideal)) (onTc (τ := Cert.GmOutWeightIdeal.τ) (Cert.GmOutWeightIdeal.main (F := Ideal))) ⟨m, fun _ => 0, g⟩ (fun r => (∀ c : Dev Cert.GmOutWeightIdeal.nD,
      r.2.mem ((c.tc : Thread Cert.GmOutWeightIdeal.nD Cert.GmOutWeightIdeal.τ).loc Cert.GmOutWeightIdeal.main_arg0) = m ((c.tc : Thread Cert.GmOutWeightIdeal.nD Cert.GmOutWeightIdeal.τ).loc Cert.GmOutWeightIdeal.main_arg0)
      ∧ r.2.mem ((c.tc : Thread Cert.GmOutWeightIdeal.nD Cert.GmOutWeightIdeal.τ).loc Cert.GmOutWeightIdeal.main_arg1) = m ((c.tc : Thread Cert.GmOutWeightIdeal.nD Cert.GmOutWeightIdeal.τ).loc Cert.GmOutWeightIdeal.main_arg1))
      ∧ r.2.sem = fun _ => 0)

def quiescent_GmOutWeightReferenceIdeal [hGmOutWeightReferenceIdeal : Cert.GmOutWeightReferenceIdeal.Facts] : Prop :=
  ∀ (m : (ℓ : Loc Cert.GmOutWeightReferenceIdeal.nD Cert.GmOutWeightReferenceIdeal.τ Cert.GmOutWeightReferenceIdeal.sig) → Buf (Elt Ideal) ℓ) (g : Dev Cert.GmOutWeightReferenceIdeal.nD → PrngReg), Pre_GmOutWeightReferenceIdeal m →
    θ_run (Cert.GmOutWeightReferenceIdeal.defs (F := Ideal)) (onTc (τ := Cert.GmOutWeightReferenceIdeal.τ) (Cert.GmOutWeightReferenceIdeal.main (F := Ideal))) ⟨m, fun _ => 0, g⟩ (fun r => (∀ c : Dev Cert.GmOutWeightReferenceIdeal.nD,
      r.2.mem ((c.tc : Thread Cert.GmOutWeightReferenceIdeal.nD Cert.GmOutWeightReferenceIdeal.τ).loc Cert.GmOutWeightReferenceIdeal.main_arg0) = m ((c.tc : Thread Cert.GmOutWeightReferenceIdeal.nD Cert.GmOutWeightReferenceIdeal.τ).loc Cert.GmOutWeightReferenceIdeal.main_arg0)
      ∧ r.2.mem ((c.tc : Thread Cert.GmOutWeightReferenceIdeal.nD Cert.GmOutWeightReferenceIdeal.τ).loc Cert.GmOutWeightReferenceIdeal.main_arg1) = m ((c.tc : Thread Cert.GmOutWeightReferenceIdeal.nD Cert.GmOutWeightReferenceIdeal.τ).loc Cert.GmOutWeightReferenceIdeal.main_arg1))
      ∧ r.2.sem = fun _ => 0)

def quiescent_GmOutForward [hGmOutForward : Cert.GmOutForward.Facts] : Prop :=
  ∀ (m : (ℓ : Loc Cert.GmOutForward.nD Cert.GmOutForward.τ Cert.GmOutForward.sig) → Buf (Elt Bits) ℓ) (g : Dev Cert.GmOutForward.nD → PrngReg), Pre_GmOutForward m →
    θ_run (Cert.GmOutForward.defs (F := Bits)) (onTc (τ := Cert.GmOutForward.τ) (Cert.GmOutForward.main (F := Bits))) ⟨m, fun _ => 0, g⟩ (fun r => (∀ c : Dev Cert.GmOutForward.nD,
      r.2.mem ((c.tc : Thread Cert.GmOutForward.nD Cert.GmOutForward.τ).loc Cert.GmOutForward.main_arg0) = m ((c.tc : Thread Cert.GmOutForward.nD Cert.GmOutForward.τ).loc Cert.GmOutForward.main_arg0)
      ∧ r.2.mem ((c.tc : Thread Cert.GmOutForward.nD Cert.GmOutForward.τ).loc Cert.GmOutForward.main_arg1) = m ((c.tc : Thread Cert.GmOutForward.nD Cert.GmOutForward.τ).loc Cert.GmOutForward.main_arg1))
      ∧ r.2.sem = fun _ => 0)

def quiescent_GmOutForwardIdeal [hGmOutForwardIdeal : Cert.GmOutForwardIdeal.Facts] : Prop :=
  ∀ (m : (ℓ : Loc Cert.GmOutForwardIdeal.nD Cert.GmOutForwardIdeal.τ Cert.GmOutForwardIdeal.sig) → Buf (Elt Ideal) ℓ) (g : Dev Cert.GmOutForwardIdeal.nD → PrngReg), Pre_GmOutForwardIdeal m →
    θ_run (Cert.GmOutForwardIdeal.defs (F := Ideal)) (onTc (τ := Cert.GmOutForwardIdeal.τ) (Cert.GmOutForwardIdeal.main (F := Ideal))) ⟨m, fun _ => 0, g⟩ (fun r => (∀ c : Dev Cert.GmOutForwardIdeal.nD,
      r.2.mem ((c.tc : Thread Cert.GmOutForwardIdeal.nD Cert.GmOutForwardIdeal.τ).loc Cert.GmOutForwardIdeal.main_arg0) = m ((c.tc : Thread Cert.GmOutForwardIdeal.nD Cert.GmOutForwardIdeal.τ).loc Cert.GmOutForwardIdeal.main_arg0)
      ∧ r.2.mem ((c.tc : Thread Cert.GmOutForwardIdeal.nD Cert.GmOutForwardIdeal.τ).loc Cert.GmOutForwardIdeal.main_arg1) = m ((c.tc : Thread Cert.GmOutForwardIdeal.nD Cert.GmOutForwardIdeal.τ).loc Cert.GmOutForwardIdeal.main_arg1))
      ∧ r.2.sem = fun _ => 0)

def quiescent_GmOutForwardReferenceIdeal [hGmOutForwardReferenceIdeal : Cert.GmOutForwardReferenceIdeal.Facts] : Prop :=
  ∀ (m : (ℓ : Loc Cert.GmOutForwardReferenceIdeal.nD Cert.GmOutForwardReferenceIdeal.τ Cert.GmOutForwardReferenceIdeal.sig) → Buf (Elt Ideal) ℓ) (g : Dev Cert.GmOutForwardReferenceIdeal.nD → PrngReg), Pre_GmOutForwardReferenceIdeal m →
    θ_run (Cert.GmOutForwardReferenceIdeal.defs (F := Ideal)) (onTc (τ := Cert.GmOutForwardReferenceIdeal.τ) (Cert.GmOutForwardReferenceIdeal.main (F := Ideal))) ⟨m, fun _ => 0, g⟩ (fun r => (∀ c : Dev Cert.GmOutForwardReferenceIdeal.nD,
      r.2.mem ((c.tc : Thread Cert.GmOutForwardReferenceIdeal.nD Cert.GmOutForwardReferenceIdeal.τ).loc Cert.GmOutForwardReferenceIdeal.main_arg0) = m ((c.tc : Thread Cert.GmOutForwardReferenceIdeal.nD Cert.GmOutForwardReferenceIdeal.τ).loc Cert.GmOutForwardReferenceIdeal.main_arg0)
      ∧ r.2.mem ((c.tc : Thread Cert.GmOutForwardReferenceIdeal.nD Cert.GmOutForwardReferenceIdeal.τ).loc Cert.GmOutForwardReferenceIdeal.main_arg1) = m ((c.tc : Thread Cert.GmOutForwardReferenceIdeal.nD Cert.GmOutForwardReferenceIdeal.τ).loc Cert.GmOutForwardReferenceIdeal.main_arg1))
      ∧ r.2.sem = fun _ => 0)

def quiescent_HgOutInput [hHgOutInput : Cert.HgOutInput.Facts] : Prop :=
  ∀ (m : (ℓ : Loc Cert.HgOutInput.nD Cert.HgOutInput.τ Cert.HgOutInput.sig) → Buf (Elt Bits) ℓ) (g : Dev Cert.HgOutInput.nD → PrngReg), Pre_HgOutInput m →
    θ_run (Cert.HgOutInput.defs (F := Bits)) (onTc (τ := Cert.HgOutInput.τ) (Cert.HgOutInput.main (F := Bits))) ⟨m, fun _ => 0, g⟩ (fun r => (∀ c : Dev Cert.HgOutInput.nD,
      r.2.mem ((c.tc : Thread Cert.HgOutInput.nD Cert.HgOutInput.τ).loc Cert.HgOutInput.main_arg0) = m ((c.tc : Thread Cert.HgOutInput.nD Cert.HgOutInput.τ).loc Cert.HgOutInput.main_arg0)
      ∧ r.2.mem ((c.tc : Thread Cert.HgOutInput.nD Cert.HgOutInput.τ).loc Cert.HgOutInput.main_arg1) = m ((c.tc : Thread Cert.HgOutInput.nD Cert.HgOutInput.τ).loc Cert.HgOutInput.main_arg1))
      ∧ r.2.sem = fun _ => 0)

def quiescent_HgOutInputIdeal [hHgOutInputIdeal : Cert.HgOutInputIdeal.Facts] : Prop :=
  ∀ (m : (ℓ : Loc Cert.HgOutInputIdeal.nD Cert.HgOutInputIdeal.τ Cert.HgOutInputIdeal.sig) → Buf (Elt Ideal) ℓ) (g : Dev Cert.HgOutInputIdeal.nD → PrngReg), Pre_HgOutInputIdeal m →
    θ_run (Cert.HgOutInputIdeal.defs (F := Ideal)) (onTc (τ := Cert.HgOutInputIdeal.τ) (Cert.HgOutInputIdeal.main (F := Ideal))) ⟨m, fun _ => 0, g⟩ (fun r => (∀ c : Dev Cert.HgOutInputIdeal.nD,
      r.2.mem ((c.tc : Thread Cert.HgOutInputIdeal.nD Cert.HgOutInputIdeal.τ).loc Cert.HgOutInputIdeal.main_arg0) = m ((c.tc : Thread Cert.HgOutInputIdeal.nD Cert.HgOutInputIdeal.τ).loc Cert.HgOutInputIdeal.main_arg0)
      ∧ r.2.mem ((c.tc : Thread Cert.HgOutInputIdeal.nD Cert.HgOutInputIdeal.τ).loc Cert.HgOutInputIdeal.main_arg1) = m ((c.tc : Thread Cert.HgOutInputIdeal.nD Cert.HgOutInputIdeal.τ).loc Cert.HgOutInputIdeal.main_arg1))
      ∧ r.2.sem = fun _ => 0)

def quiescent_HgOutInputReferenceIdeal [hHgOutInputReferenceIdeal : Cert.HgOutInputReferenceIdeal.Facts] : Prop :=
  ∀ (m : (ℓ : Loc Cert.HgOutInputReferenceIdeal.nD Cert.HgOutInputReferenceIdeal.τ Cert.HgOutInputReferenceIdeal.sig) → Buf (Elt Ideal) ℓ) (g : Dev Cert.HgOutInputReferenceIdeal.nD → PrngReg), Pre_HgOutInputReferenceIdeal m →
    θ_run (Cert.HgOutInputReferenceIdeal.defs (F := Ideal)) (onTc (τ := Cert.HgOutInputReferenceIdeal.τ) (Cert.HgOutInputReferenceIdeal.main (F := Ideal))) ⟨m, fun _ => 0, g⟩ (fun r => (∀ c : Dev Cert.HgOutInputReferenceIdeal.nD,
      r.2.mem ((c.tc : Thread Cert.HgOutInputReferenceIdeal.nD Cert.HgOutInputReferenceIdeal.τ).loc Cert.HgOutInputReferenceIdeal.main_arg0) = m ((c.tc : Thread Cert.HgOutInputReferenceIdeal.nD Cert.HgOutInputReferenceIdeal.τ).loc Cert.HgOutInputReferenceIdeal.main_arg0)
      ∧ r.2.mem ((c.tc : Thread Cert.HgOutInputReferenceIdeal.nD Cert.HgOutInputReferenceIdeal.τ).loc Cert.HgOutInputReferenceIdeal.main_arg1) = m ((c.tc : Thread Cert.HgOutInputReferenceIdeal.nD Cert.HgOutInputReferenceIdeal.τ).loc Cert.HgOutInputReferenceIdeal.main_arg1))
      ∧ r.2.sem = fun _ => 0)

def quiescent_HgOutWeight [hHgOutWeight : Cert.HgOutWeight.Facts] : Prop :=
  ∀ (m : (ℓ : Loc Cert.HgOutWeight.nD Cert.HgOutWeight.τ Cert.HgOutWeight.sig) → Buf (Elt Bits) ℓ) (g : Dev Cert.HgOutWeight.nD → PrngReg), Pre_HgOutWeight m →
    θ_run (Cert.HgOutWeight.defs (F := Bits)) (onTc (τ := Cert.HgOutWeight.τ) (Cert.HgOutWeight.main (F := Bits))) ⟨m, fun _ => 0, g⟩ (fun r => (∀ c : Dev Cert.HgOutWeight.nD,
      r.2.mem ((c.tc : Thread Cert.HgOutWeight.nD Cert.HgOutWeight.τ).loc Cert.HgOutWeight.main_arg0) = m ((c.tc : Thread Cert.HgOutWeight.nD Cert.HgOutWeight.τ).loc Cert.HgOutWeight.main_arg0)
      ∧ r.2.mem ((c.tc : Thread Cert.HgOutWeight.nD Cert.HgOutWeight.τ).loc Cert.HgOutWeight.main_arg1) = m ((c.tc : Thread Cert.HgOutWeight.nD Cert.HgOutWeight.τ).loc Cert.HgOutWeight.main_arg1))
      ∧ r.2.sem = fun _ => 0)

def quiescent_HgOutWeightIdeal [hHgOutWeightIdeal : Cert.HgOutWeightIdeal.Facts] : Prop :=
  ∀ (m : (ℓ : Loc Cert.HgOutWeightIdeal.nD Cert.HgOutWeightIdeal.τ Cert.HgOutWeightIdeal.sig) → Buf (Elt Ideal) ℓ) (g : Dev Cert.HgOutWeightIdeal.nD → PrngReg), Pre_HgOutWeightIdeal m →
    θ_run (Cert.HgOutWeightIdeal.defs (F := Ideal)) (onTc (τ := Cert.HgOutWeightIdeal.τ) (Cert.HgOutWeightIdeal.main (F := Ideal))) ⟨m, fun _ => 0, g⟩ (fun r => (∀ c : Dev Cert.HgOutWeightIdeal.nD,
      r.2.mem ((c.tc : Thread Cert.HgOutWeightIdeal.nD Cert.HgOutWeightIdeal.τ).loc Cert.HgOutWeightIdeal.main_arg0) = m ((c.tc : Thread Cert.HgOutWeightIdeal.nD Cert.HgOutWeightIdeal.τ).loc Cert.HgOutWeightIdeal.main_arg0)
      ∧ r.2.mem ((c.tc : Thread Cert.HgOutWeightIdeal.nD Cert.HgOutWeightIdeal.τ).loc Cert.HgOutWeightIdeal.main_arg1) = m ((c.tc : Thread Cert.HgOutWeightIdeal.nD Cert.HgOutWeightIdeal.τ).loc Cert.HgOutWeightIdeal.main_arg1))
      ∧ r.2.sem = fun _ => 0)

def quiescent_HgOutWeightReferenceIdeal [hHgOutWeightReferenceIdeal : Cert.HgOutWeightReferenceIdeal.Facts] : Prop :=
  ∀ (m : (ℓ : Loc Cert.HgOutWeightReferenceIdeal.nD Cert.HgOutWeightReferenceIdeal.τ Cert.HgOutWeightReferenceIdeal.sig) → Buf (Elt Ideal) ℓ) (g : Dev Cert.HgOutWeightReferenceIdeal.nD → PrngReg), Pre_HgOutWeightReferenceIdeal m →
    θ_run (Cert.HgOutWeightReferenceIdeal.defs (F := Ideal)) (onTc (τ := Cert.HgOutWeightReferenceIdeal.τ) (Cert.HgOutWeightReferenceIdeal.main (F := Ideal))) ⟨m, fun _ => 0, g⟩ (fun r => (∀ c : Dev Cert.HgOutWeightReferenceIdeal.nD,
      r.2.mem ((c.tc : Thread Cert.HgOutWeightReferenceIdeal.nD Cert.HgOutWeightReferenceIdeal.τ).loc Cert.HgOutWeightReferenceIdeal.main_arg0) = m ((c.tc : Thread Cert.HgOutWeightReferenceIdeal.nD Cert.HgOutWeightReferenceIdeal.τ).loc Cert.HgOutWeightReferenceIdeal.main_arg0)
      ∧ r.2.mem ((c.tc : Thread Cert.HgOutWeightReferenceIdeal.nD Cert.HgOutWeightReferenceIdeal.τ).loc Cert.HgOutWeightReferenceIdeal.main_arg1) = m ((c.tc : Thread Cert.HgOutWeightReferenceIdeal.nD Cert.HgOutWeightReferenceIdeal.τ).loc Cert.HgOutWeightReferenceIdeal.main_arg1))
      ∧ r.2.sem = fun _ => 0)

def quiescent_HgOutForward [hHgOutForward : Cert.HgOutForward.Facts] : Prop :=
  ∀ (m : (ℓ : Loc Cert.HgOutForward.nD Cert.HgOutForward.τ Cert.HgOutForward.sig) → Buf (Elt Bits) ℓ) (g : Dev Cert.HgOutForward.nD → PrngReg), Pre_HgOutForward m →
    θ_run (Cert.HgOutForward.defs (F := Bits)) (onTc (τ := Cert.HgOutForward.τ) (Cert.HgOutForward.main (F := Bits))) ⟨m, fun _ => 0, g⟩ (fun r => (∀ c : Dev Cert.HgOutForward.nD,
      r.2.mem ((c.tc : Thread Cert.HgOutForward.nD Cert.HgOutForward.τ).loc Cert.HgOutForward.main_arg0) = m ((c.tc : Thread Cert.HgOutForward.nD Cert.HgOutForward.τ).loc Cert.HgOutForward.main_arg0)
      ∧ r.2.mem ((c.tc : Thread Cert.HgOutForward.nD Cert.HgOutForward.τ).loc Cert.HgOutForward.main_arg1) = m ((c.tc : Thread Cert.HgOutForward.nD Cert.HgOutForward.τ).loc Cert.HgOutForward.main_arg1))
      ∧ r.2.sem = fun _ => 0)

def quiescent_HgOutForwardIdeal [hHgOutForwardIdeal : Cert.HgOutForwardIdeal.Facts] : Prop :=
  ∀ (m : (ℓ : Loc Cert.HgOutForwardIdeal.nD Cert.HgOutForwardIdeal.τ Cert.HgOutForwardIdeal.sig) → Buf (Elt Ideal) ℓ) (g : Dev Cert.HgOutForwardIdeal.nD → PrngReg), Pre_HgOutForwardIdeal m →
    θ_run (Cert.HgOutForwardIdeal.defs (F := Ideal)) (onTc (τ := Cert.HgOutForwardIdeal.τ) (Cert.HgOutForwardIdeal.main (F := Ideal))) ⟨m, fun _ => 0, g⟩ (fun r => (∀ c : Dev Cert.HgOutForwardIdeal.nD,
      r.2.mem ((c.tc : Thread Cert.HgOutForwardIdeal.nD Cert.HgOutForwardIdeal.τ).loc Cert.HgOutForwardIdeal.main_arg0) = m ((c.tc : Thread Cert.HgOutForwardIdeal.nD Cert.HgOutForwardIdeal.τ).loc Cert.HgOutForwardIdeal.main_arg0)
      ∧ r.2.mem ((c.tc : Thread Cert.HgOutForwardIdeal.nD Cert.HgOutForwardIdeal.τ).loc Cert.HgOutForwardIdeal.main_arg1) = m ((c.tc : Thread Cert.HgOutForwardIdeal.nD Cert.HgOutForwardIdeal.τ).loc Cert.HgOutForwardIdeal.main_arg1))
      ∧ r.2.sem = fun _ => 0)

def quiescent_HgOutForwardReferenceIdeal [hHgOutForwardReferenceIdeal : Cert.HgOutForwardReferenceIdeal.Facts] : Prop :=
  ∀ (m : (ℓ : Loc Cert.HgOutForwardReferenceIdeal.nD Cert.HgOutForwardReferenceIdeal.τ Cert.HgOutForwardReferenceIdeal.sig) → Buf (Elt Ideal) ℓ) (g : Dev Cert.HgOutForwardReferenceIdeal.nD → PrngReg), Pre_HgOutForwardReferenceIdeal m →
    θ_run (Cert.HgOutForwardReferenceIdeal.defs (F := Ideal)) (onTc (τ := Cert.HgOutForwardReferenceIdeal.τ) (Cert.HgOutForwardReferenceIdeal.main (F := Ideal))) ⟨m, fun _ => 0, g⟩ (fun r => (∀ c : Dev Cert.HgOutForwardReferenceIdeal.nD,
      r.2.mem ((c.tc : Thread Cert.HgOutForwardReferenceIdeal.nD Cert.HgOutForwardReferenceIdeal.τ).loc Cert.HgOutForwardReferenceIdeal.main_arg0) = m ((c.tc : Thread Cert.HgOutForwardReferenceIdeal.nD Cert.HgOutForwardReferenceIdeal.τ).loc Cert.HgOutForwardReferenceIdeal.main_arg0)
      ∧ r.2.mem ((c.tc : Thread Cert.HgOutForwardReferenceIdeal.nD Cert.HgOutForwardReferenceIdeal.τ).loc Cert.HgOutForwardReferenceIdeal.main_arg1) = m ((c.tc : Thread Cert.HgOutForwardReferenceIdeal.nD Cert.HgOutForwardReferenceIdeal.τ).loc Cert.HgOutForwardReferenceIdeal.main_arg1))
      ∧ r.2.sem = fun _ => 0)

def quiescent_NormBackward [hNormBackward : Cert.NormBackward.Facts] : Prop :=
  ∀ (m : (ℓ : Loc Cert.NormBackward.nD Cert.NormBackward.τ Cert.NormBackward.sig) → Buf (Elt Bits) ℓ) (g : Dev Cert.NormBackward.nD → PrngReg), Pre_NormBackward m →
    θ_run (Cert.NormBackward.defs (F := Bits)) (onTc (τ := Cert.NormBackward.τ) (Cert.NormBackward.main (F := Bits))) ⟨m, fun _ => 0, g⟩ (fun r => (∀ c : Dev Cert.NormBackward.nD,
      r.2.mem ((c.tc : Thread Cert.NormBackward.nD Cert.NormBackward.τ).loc Cert.NormBackward.main_arg0) = m ((c.tc : Thread Cert.NormBackward.nD Cert.NormBackward.τ).loc Cert.NormBackward.main_arg0)
      ∧ r.2.mem ((c.tc : Thread Cert.NormBackward.nD Cert.NormBackward.τ).loc Cert.NormBackward.main_arg1) = m ((c.tc : Thread Cert.NormBackward.nD Cert.NormBackward.τ).loc Cert.NormBackward.main_arg1)
      ∧ r.2.mem ((c.tc : Thread Cert.NormBackward.nD Cert.NormBackward.τ).loc Cert.NormBackward.main_arg2) = m ((c.tc : Thread Cert.NormBackward.nD Cert.NormBackward.τ).loc Cert.NormBackward.main_arg2)
      ∧ r.2.mem ((c.tc : Thread Cert.NormBackward.nD Cert.NormBackward.τ).loc Cert.NormBackward.main_arg3) = m ((c.tc : Thread Cert.NormBackward.nD Cert.NormBackward.τ).loc Cert.NormBackward.main_arg3)
      ∧ r.2.mem ((c.tc : Thread Cert.NormBackward.nD Cert.NormBackward.τ).loc Cert.NormBackward.main_arg4) = m ((c.tc : Thread Cert.NormBackward.nD Cert.NormBackward.τ).loc Cert.NormBackward.main_arg4)
      ∧ r.2.mem ((c.tc : Thread Cert.NormBackward.nD Cert.NormBackward.τ).loc Cert.NormBackward.main_arg5) = m ((c.tc : Thread Cert.NormBackward.nD Cert.NormBackward.τ).loc Cert.NormBackward.main_arg5)
      ∧ r.2.mem ((c.tc : Thread Cert.NormBackward.nD Cert.NormBackward.τ).loc Cert.NormBackward.main_arg6) = m ((c.tc : Thread Cert.NormBackward.nD Cert.NormBackward.τ).loc Cert.NormBackward.main_arg6))
      ∧ r.2.sem = fun _ => 0)

def quiescent_NormBackwardIdeal [hNormBackwardIdeal : Cert.NormBackwardIdeal.Facts] : Prop :=
  ∀ (m : (ℓ : Loc Cert.NormBackwardIdeal.nD Cert.NormBackwardIdeal.τ Cert.NormBackwardIdeal.sig) → Buf (Elt Ideal) ℓ) (g : Dev Cert.NormBackwardIdeal.nD → PrngReg), Pre_NormBackwardIdeal m →
    θ_run (Cert.NormBackwardIdeal.defs (F := Ideal)) (onTc (τ := Cert.NormBackwardIdeal.τ) (Cert.NormBackwardIdeal.main (F := Ideal))) ⟨m, fun _ => 0, g⟩ (fun r => (∀ c : Dev Cert.NormBackwardIdeal.nD,
      r.2.mem ((c.tc : Thread Cert.NormBackwardIdeal.nD Cert.NormBackwardIdeal.τ).loc Cert.NormBackwardIdeal.main_arg0) = m ((c.tc : Thread Cert.NormBackwardIdeal.nD Cert.NormBackwardIdeal.τ).loc Cert.NormBackwardIdeal.main_arg0)
      ∧ r.2.mem ((c.tc : Thread Cert.NormBackwardIdeal.nD Cert.NormBackwardIdeal.τ).loc Cert.NormBackwardIdeal.main_arg1) = m ((c.tc : Thread Cert.NormBackwardIdeal.nD Cert.NormBackwardIdeal.τ).loc Cert.NormBackwardIdeal.main_arg1)
      ∧ r.2.mem ((c.tc : Thread Cert.NormBackwardIdeal.nD Cert.NormBackwardIdeal.τ).loc Cert.NormBackwardIdeal.main_arg2) = m ((c.tc : Thread Cert.NormBackwardIdeal.nD Cert.NormBackwardIdeal.τ).loc Cert.NormBackwardIdeal.main_arg2)
      ∧ r.2.mem ((c.tc : Thread Cert.NormBackwardIdeal.nD Cert.NormBackwardIdeal.τ).loc Cert.NormBackwardIdeal.main_arg3) = m ((c.tc : Thread Cert.NormBackwardIdeal.nD Cert.NormBackwardIdeal.τ).loc Cert.NormBackwardIdeal.main_arg3)
      ∧ r.2.mem ((c.tc : Thread Cert.NormBackwardIdeal.nD Cert.NormBackwardIdeal.τ).loc Cert.NormBackwardIdeal.main_arg4) = m ((c.tc : Thread Cert.NormBackwardIdeal.nD Cert.NormBackwardIdeal.τ).loc Cert.NormBackwardIdeal.main_arg4)
      ∧ r.2.mem ((c.tc : Thread Cert.NormBackwardIdeal.nD Cert.NormBackwardIdeal.τ).loc Cert.NormBackwardIdeal.main_arg5) = m ((c.tc : Thread Cert.NormBackwardIdeal.nD Cert.NormBackwardIdeal.τ).loc Cert.NormBackwardIdeal.main_arg5)
      ∧ r.2.mem ((c.tc : Thread Cert.NormBackwardIdeal.nD Cert.NormBackwardIdeal.τ).loc Cert.NormBackwardIdeal.main_arg6) = m ((c.tc : Thread Cert.NormBackwardIdeal.nD Cert.NormBackwardIdeal.τ).loc Cert.NormBackwardIdeal.main_arg6))
      ∧ r.2.sem = fun _ => 0)

def quiescent_NormBackwardReferenceIdeal [hNormBackwardReferenceIdeal : Cert.NormBackwardReferenceIdeal.Facts] : Prop :=
  ∀ (m : (ℓ : Loc Cert.NormBackwardReferenceIdeal.nD Cert.NormBackwardReferenceIdeal.τ Cert.NormBackwardReferenceIdeal.sig) → Buf (Elt Ideal) ℓ) (g : Dev Cert.NormBackwardReferenceIdeal.nD → PrngReg), Pre_NormBackwardReferenceIdeal m →
    θ_run (Cert.NormBackwardReferenceIdeal.defs (F := Ideal)) (onTc (τ := Cert.NormBackwardReferenceIdeal.τ) (Cert.NormBackwardReferenceIdeal.main (F := Ideal))) ⟨m, fun _ => 0, g⟩ (fun r => (∀ c : Dev Cert.NormBackwardReferenceIdeal.nD,
      r.2.mem ((c.tc : Thread Cert.NormBackwardReferenceIdeal.nD Cert.NormBackwardReferenceIdeal.τ).loc Cert.NormBackwardReferenceIdeal.main_arg0) = m ((c.tc : Thread Cert.NormBackwardReferenceIdeal.nD Cert.NormBackwardReferenceIdeal.τ).loc Cert.NormBackwardReferenceIdeal.main_arg0)
      ∧ r.2.mem ((c.tc : Thread Cert.NormBackwardReferenceIdeal.nD Cert.NormBackwardReferenceIdeal.τ).loc Cert.NormBackwardReferenceIdeal.main_arg1) = m ((c.tc : Thread Cert.NormBackwardReferenceIdeal.nD Cert.NormBackwardReferenceIdeal.τ).loc Cert.NormBackwardReferenceIdeal.main_arg1)
      ∧ r.2.mem ((c.tc : Thread Cert.NormBackwardReferenceIdeal.nD Cert.NormBackwardReferenceIdeal.τ).loc Cert.NormBackwardReferenceIdeal.main_arg2) = m ((c.tc : Thread Cert.NormBackwardReferenceIdeal.nD Cert.NormBackwardReferenceIdeal.τ).loc Cert.NormBackwardReferenceIdeal.main_arg2)
      ∧ r.2.mem ((c.tc : Thread Cert.NormBackwardReferenceIdeal.nD Cert.NormBackwardReferenceIdeal.τ).loc Cert.NormBackwardReferenceIdeal.main_arg3) = m ((c.tc : Thread Cert.NormBackwardReferenceIdeal.nD Cert.NormBackwardReferenceIdeal.τ).loc Cert.NormBackwardReferenceIdeal.main_arg3)
      ∧ r.2.mem ((c.tc : Thread Cert.NormBackwardReferenceIdeal.nD Cert.NormBackwardReferenceIdeal.τ).loc Cert.NormBackwardReferenceIdeal.main_arg4) = m ((c.tc : Thread Cert.NormBackwardReferenceIdeal.nD Cert.NormBackwardReferenceIdeal.τ).loc Cert.NormBackwardReferenceIdeal.main_arg4)
      ∧ r.2.mem ((c.tc : Thread Cert.NormBackwardReferenceIdeal.nD Cert.NormBackwardReferenceIdeal.τ).loc Cert.NormBackwardReferenceIdeal.main_arg5) = m ((c.tc : Thread Cert.NormBackwardReferenceIdeal.nD Cert.NormBackwardReferenceIdeal.τ).loc Cert.NormBackwardReferenceIdeal.main_arg5)
      ∧ r.2.mem ((c.tc : Thread Cert.NormBackwardReferenceIdeal.nD Cert.NormBackwardReferenceIdeal.τ).loc Cert.NormBackwardReferenceIdeal.main_arg6) = m ((c.tc : Thread Cert.NormBackwardReferenceIdeal.nD Cert.NormBackwardReferenceIdeal.τ).loc Cert.NormBackwardReferenceIdeal.main_arg6))
      ∧ r.2.sem = fun _ => 0)

def quiescent_AdaForward [hAdaForward : Cert.AdaForward.Facts] : Prop :=
  ∀ (m : (ℓ : Loc Cert.AdaForward.nD Cert.AdaForward.τ Cert.AdaForward.sig) → Buf (Elt Bits) ℓ) (g : Dev Cert.AdaForward.nD → PrngReg), Pre_AdaForward m →
    θ_run (Cert.AdaForward.defs (F := Bits)) (onTc (τ := Cert.AdaForward.τ) (Cert.AdaForward.main (F := Bits))) ⟨m, fun _ => 0, g⟩ (fun r => (∀ c : Dev Cert.AdaForward.nD,
      r.2.mem ((c.tc : Thread Cert.AdaForward.nD Cert.AdaForward.τ).loc Cert.AdaForward.main_arg0) = m ((c.tc : Thread Cert.AdaForward.nD Cert.AdaForward.τ).loc Cert.AdaForward.main_arg0)
      ∧ r.2.mem ((c.tc : Thread Cert.AdaForward.nD Cert.AdaForward.τ).loc Cert.AdaForward.main_arg1) = m ((c.tc : Thread Cert.AdaForward.nD Cert.AdaForward.τ).loc Cert.AdaForward.main_arg1)
      ∧ r.2.mem ((c.tc : Thread Cert.AdaForward.nD Cert.AdaForward.τ).loc Cert.AdaForward.main_arg2) = m ((c.tc : Thread Cert.AdaForward.nD Cert.AdaForward.τ).loc Cert.AdaForward.main_arg2))
      ∧ r.2.sem = fun _ => 0)

def quiescent_AdaForwardIdeal [hAdaForwardIdeal : Cert.AdaForwardIdeal.Facts] : Prop :=
  ∀ (m : (ℓ : Loc Cert.AdaForwardIdeal.nD Cert.AdaForwardIdeal.τ Cert.AdaForwardIdeal.sig) → Buf (Elt Ideal) ℓ) (g : Dev Cert.AdaForwardIdeal.nD → PrngReg), Pre_AdaForwardIdeal m →
    θ_run (Cert.AdaForwardIdeal.defs (F := Ideal)) (onTc (τ := Cert.AdaForwardIdeal.τ) (Cert.AdaForwardIdeal.main (F := Ideal))) ⟨m, fun _ => 0, g⟩ (fun r => (∀ c : Dev Cert.AdaForwardIdeal.nD,
      r.2.mem ((c.tc : Thread Cert.AdaForwardIdeal.nD Cert.AdaForwardIdeal.τ).loc Cert.AdaForwardIdeal.main_arg0) = m ((c.tc : Thread Cert.AdaForwardIdeal.nD Cert.AdaForwardIdeal.τ).loc Cert.AdaForwardIdeal.main_arg0)
      ∧ r.2.mem ((c.tc : Thread Cert.AdaForwardIdeal.nD Cert.AdaForwardIdeal.τ).loc Cert.AdaForwardIdeal.main_arg1) = m ((c.tc : Thread Cert.AdaForwardIdeal.nD Cert.AdaForwardIdeal.τ).loc Cert.AdaForwardIdeal.main_arg1)
      ∧ r.2.mem ((c.tc : Thread Cert.AdaForwardIdeal.nD Cert.AdaForwardIdeal.τ).loc Cert.AdaForwardIdeal.main_arg2) = m ((c.tc : Thread Cert.AdaForwardIdeal.nD Cert.AdaForwardIdeal.τ).loc Cert.AdaForwardIdeal.main_arg2))
      ∧ r.2.sem = fun _ => 0)

def quiescent_AdaForwardReferenceIdeal [hAdaForwardReferenceIdeal : Cert.AdaForwardReferenceIdeal.Facts] : Prop :=
  ∀ (m : (ℓ : Loc Cert.AdaForwardReferenceIdeal.nD Cert.AdaForwardReferenceIdeal.τ Cert.AdaForwardReferenceIdeal.sig) → Buf (Elt Ideal) ℓ) (g : Dev Cert.AdaForwardReferenceIdeal.nD → PrngReg), Pre_AdaForwardReferenceIdeal m →
    θ_run (Cert.AdaForwardReferenceIdeal.defs (F := Ideal)) (onTc (τ := Cert.AdaForwardReferenceIdeal.τ) (Cert.AdaForwardReferenceIdeal.main (F := Ideal))) ⟨m, fun _ => 0, g⟩ (fun r => (∀ c : Dev Cert.AdaForwardReferenceIdeal.nD,
      r.2.mem ((c.tc : Thread Cert.AdaForwardReferenceIdeal.nD Cert.AdaForwardReferenceIdeal.τ).loc Cert.AdaForwardReferenceIdeal.main_arg0) = m ((c.tc : Thread Cert.AdaForwardReferenceIdeal.nD Cert.AdaForwardReferenceIdeal.τ).loc Cert.AdaForwardReferenceIdeal.main_arg0)
      ∧ r.2.mem ((c.tc : Thread Cert.AdaForwardReferenceIdeal.nD Cert.AdaForwardReferenceIdeal.τ).loc Cert.AdaForwardReferenceIdeal.main_arg1) = m ((c.tc : Thread Cert.AdaForwardReferenceIdeal.nD Cert.AdaForwardReferenceIdeal.τ).loc Cert.AdaForwardReferenceIdeal.main_arg1)
      ∧ r.2.mem ((c.tc : Thread Cert.AdaForwardReferenceIdeal.nD Cert.AdaForwardReferenceIdeal.τ).loc Cert.AdaForwardReferenceIdeal.main_arg2) = m ((c.tc : Thread Cert.AdaForwardReferenceIdeal.nD Cert.AdaForwardReferenceIdeal.τ).loc Cert.AdaForwardReferenceIdeal.main_arg2))
      ∧ r.2.sem = fun _ => 0)

def quiescent_AdaWeight [hAdaWeight : Cert.AdaWeight.Facts] : Prop :=
  ∀ (m : (ℓ : Loc Cert.AdaWeight.nD Cert.AdaWeight.τ Cert.AdaWeight.sig) → Buf (Elt Bits) ℓ) (g : Dev Cert.AdaWeight.nD → PrngReg), Pre_AdaWeight m →
    θ_run (Cert.AdaWeight.defs (F := Bits)) (onTc (τ := Cert.AdaWeight.τ) (Cert.AdaWeight.main (F := Bits))) ⟨m, fun _ => 0, g⟩ (fun r => (∀ c : Dev Cert.AdaWeight.nD,
      r.2.mem ((c.tc : Thread Cert.AdaWeight.nD Cert.AdaWeight.τ).loc Cert.AdaWeight.main_arg0) = m ((c.tc : Thread Cert.AdaWeight.nD Cert.AdaWeight.τ).loc Cert.AdaWeight.main_arg0)
      ∧ r.2.mem ((c.tc : Thread Cert.AdaWeight.nD Cert.AdaWeight.τ).loc Cert.AdaWeight.main_arg1) = m ((c.tc : Thread Cert.AdaWeight.nD Cert.AdaWeight.τ).loc Cert.AdaWeight.main_arg1))
      ∧ r.2.sem = fun _ => 0)

def quiescent_AdaWeightIdeal [hAdaWeightIdeal : Cert.AdaWeightIdeal.Facts] : Prop :=
  ∀ (m : (ℓ : Loc Cert.AdaWeightIdeal.nD Cert.AdaWeightIdeal.τ Cert.AdaWeightIdeal.sig) → Buf (Elt Ideal) ℓ) (g : Dev Cert.AdaWeightIdeal.nD → PrngReg), Pre_AdaWeightIdeal m →
    θ_run (Cert.AdaWeightIdeal.defs (F := Ideal)) (onTc (τ := Cert.AdaWeightIdeal.τ) (Cert.AdaWeightIdeal.main (F := Ideal))) ⟨m, fun _ => 0, g⟩ (fun r => (∀ c : Dev Cert.AdaWeightIdeal.nD,
      r.2.mem ((c.tc : Thread Cert.AdaWeightIdeal.nD Cert.AdaWeightIdeal.τ).loc Cert.AdaWeightIdeal.main_arg0) = m ((c.tc : Thread Cert.AdaWeightIdeal.nD Cert.AdaWeightIdeal.τ).loc Cert.AdaWeightIdeal.main_arg0)
      ∧ r.2.mem ((c.tc : Thread Cert.AdaWeightIdeal.nD Cert.AdaWeightIdeal.τ).loc Cert.AdaWeightIdeal.main_arg1) = m ((c.tc : Thread Cert.AdaWeightIdeal.nD Cert.AdaWeightIdeal.τ).loc Cert.AdaWeightIdeal.main_arg1))
      ∧ r.2.sem = fun _ => 0)

def quiescent_AdaWeightReferenceIdeal [hAdaWeightReferenceIdeal : Cert.AdaWeightReferenceIdeal.Facts] : Prop :=
  ∀ (m : (ℓ : Loc Cert.AdaWeightReferenceIdeal.nD Cert.AdaWeightReferenceIdeal.τ Cert.AdaWeightReferenceIdeal.sig) → Buf (Elt Ideal) ℓ) (g : Dev Cert.AdaWeightReferenceIdeal.nD → PrngReg), Pre_AdaWeightReferenceIdeal m →
    θ_run (Cert.AdaWeightReferenceIdeal.defs (F := Ideal)) (onTc (τ := Cert.AdaWeightReferenceIdeal.τ) (Cert.AdaWeightReferenceIdeal.main (F := Ideal))) ⟨m, fun _ => 0, g⟩ (fun r => (∀ c : Dev Cert.AdaWeightReferenceIdeal.nD,
      r.2.mem ((c.tc : Thread Cert.AdaWeightReferenceIdeal.nD Cert.AdaWeightReferenceIdeal.τ).loc Cert.AdaWeightReferenceIdeal.main_arg0) = m ((c.tc : Thread Cert.AdaWeightReferenceIdeal.nD Cert.AdaWeightReferenceIdeal.τ).loc Cert.AdaWeightReferenceIdeal.main_arg0)
      ∧ r.2.mem ((c.tc : Thread Cert.AdaWeightReferenceIdeal.nD Cert.AdaWeightReferenceIdeal.τ).loc Cert.AdaWeightReferenceIdeal.main_arg1) = m ((c.tc : Thread Cert.AdaWeightReferenceIdeal.nD Cert.AdaWeightReferenceIdeal.τ).loc Cert.AdaWeightReferenceIdeal.main_arg1))
      ∧ r.2.sem = fun _ => 0)

def quiescent_FirstNormBackward [hFirstNormBackward : Cert.FirstNormBackward.Facts] : Prop :=
  ∀ (m : (ℓ : Loc Cert.FirstNormBackward.nD Cert.FirstNormBackward.τ Cert.FirstNormBackward.sig) → Buf (Elt Bits) ℓ) (g : Dev Cert.FirstNormBackward.nD → PrngReg), Pre_FirstNormBackward m →
    θ_run (Cert.FirstNormBackward.defs (F := Bits)) (onTc (τ := Cert.FirstNormBackward.τ) (Cert.FirstNormBackward.main (F := Bits))) ⟨m, fun _ => 0, g⟩ (fun r => (∀ c : Dev Cert.FirstNormBackward.nD,
      r.2.mem ((c.tc : Thread Cert.FirstNormBackward.nD Cert.FirstNormBackward.τ).loc Cert.FirstNormBackward.main_arg0) = m ((c.tc : Thread Cert.FirstNormBackward.nD Cert.FirstNormBackward.τ).loc Cert.FirstNormBackward.main_arg0)
      ∧ r.2.mem ((c.tc : Thread Cert.FirstNormBackward.nD Cert.FirstNormBackward.τ).loc Cert.FirstNormBackward.main_arg1) = m ((c.tc : Thread Cert.FirstNormBackward.nD Cert.FirstNormBackward.τ).loc Cert.FirstNormBackward.main_arg1)
      ∧ r.2.mem ((c.tc : Thread Cert.FirstNormBackward.nD Cert.FirstNormBackward.τ).loc Cert.FirstNormBackward.main_arg2) = m ((c.tc : Thread Cert.FirstNormBackward.nD Cert.FirstNormBackward.τ).loc Cert.FirstNormBackward.main_arg2)
      ∧ r.2.mem ((c.tc : Thread Cert.FirstNormBackward.nD Cert.FirstNormBackward.τ).loc Cert.FirstNormBackward.main_arg3) = m ((c.tc : Thread Cert.FirstNormBackward.nD Cert.FirstNormBackward.τ).loc Cert.FirstNormBackward.main_arg3)
      ∧ r.2.mem ((c.tc : Thread Cert.FirstNormBackward.nD Cert.FirstNormBackward.τ).loc Cert.FirstNormBackward.main_arg4) = m ((c.tc : Thread Cert.FirstNormBackward.nD Cert.FirstNormBackward.τ).loc Cert.FirstNormBackward.main_arg4))
      ∧ r.2.sem = fun _ => 0)

def quiescent_FirstNormBackwardIdeal [hFirstNormBackwardIdeal : Cert.FirstNormBackwardIdeal.Facts] : Prop :=
  ∀ (m : (ℓ : Loc Cert.FirstNormBackwardIdeal.nD Cert.FirstNormBackwardIdeal.τ Cert.FirstNormBackwardIdeal.sig) → Buf (Elt Ideal) ℓ) (g : Dev Cert.FirstNormBackwardIdeal.nD → PrngReg), Pre_FirstNormBackwardIdeal m →
    θ_run (Cert.FirstNormBackwardIdeal.defs (F := Ideal)) (onTc (τ := Cert.FirstNormBackwardIdeal.τ) (Cert.FirstNormBackwardIdeal.main (F := Ideal))) ⟨m, fun _ => 0, g⟩ (fun r => (∀ c : Dev Cert.FirstNormBackwardIdeal.nD,
      r.2.mem ((c.tc : Thread Cert.FirstNormBackwardIdeal.nD Cert.FirstNormBackwardIdeal.τ).loc Cert.FirstNormBackwardIdeal.main_arg0) = m ((c.tc : Thread Cert.FirstNormBackwardIdeal.nD Cert.FirstNormBackwardIdeal.τ).loc Cert.FirstNormBackwardIdeal.main_arg0)
      ∧ r.2.mem ((c.tc : Thread Cert.FirstNormBackwardIdeal.nD Cert.FirstNormBackwardIdeal.τ).loc Cert.FirstNormBackwardIdeal.main_arg1) = m ((c.tc : Thread Cert.FirstNormBackwardIdeal.nD Cert.FirstNormBackwardIdeal.τ).loc Cert.FirstNormBackwardIdeal.main_arg1)
      ∧ r.2.mem ((c.tc : Thread Cert.FirstNormBackwardIdeal.nD Cert.FirstNormBackwardIdeal.τ).loc Cert.FirstNormBackwardIdeal.main_arg2) = m ((c.tc : Thread Cert.FirstNormBackwardIdeal.nD Cert.FirstNormBackwardIdeal.τ).loc Cert.FirstNormBackwardIdeal.main_arg2)
      ∧ r.2.mem ((c.tc : Thread Cert.FirstNormBackwardIdeal.nD Cert.FirstNormBackwardIdeal.τ).loc Cert.FirstNormBackwardIdeal.main_arg3) = m ((c.tc : Thread Cert.FirstNormBackwardIdeal.nD Cert.FirstNormBackwardIdeal.τ).loc Cert.FirstNormBackwardIdeal.main_arg3)
      ∧ r.2.mem ((c.tc : Thread Cert.FirstNormBackwardIdeal.nD Cert.FirstNormBackwardIdeal.τ).loc Cert.FirstNormBackwardIdeal.main_arg4) = m ((c.tc : Thread Cert.FirstNormBackwardIdeal.nD Cert.FirstNormBackwardIdeal.τ).loc Cert.FirstNormBackwardIdeal.main_arg4))
      ∧ r.2.sem = fun _ => 0)

def quiescent_FirstNormBackwardReferenceIdeal [hFirstNormBackwardReferenceIdeal : Cert.FirstNormBackwardReferenceIdeal.Facts] : Prop :=
  ∀ (m : (ℓ : Loc Cert.FirstNormBackwardReferenceIdeal.nD Cert.FirstNormBackwardReferenceIdeal.τ Cert.FirstNormBackwardReferenceIdeal.sig) → Buf (Elt Ideal) ℓ) (g : Dev Cert.FirstNormBackwardReferenceIdeal.nD → PrngReg), Pre_FirstNormBackwardReferenceIdeal m →
    θ_run (Cert.FirstNormBackwardReferenceIdeal.defs (F := Ideal)) (onTc (τ := Cert.FirstNormBackwardReferenceIdeal.τ) (Cert.FirstNormBackwardReferenceIdeal.main (F := Ideal))) ⟨m, fun _ => 0, g⟩ (fun r => (∀ c : Dev Cert.FirstNormBackwardReferenceIdeal.nD,
      r.2.mem ((c.tc : Thread Cert.FirstNormBackwardReferenceIdeal.nD Cert.FirstNormBackwardReferenceIdeal.τ).loc Cert.FirstNormBackwardReferenceIdeal.main_arg0) = m ((c.tc : Thread Cert.FirstNormBackwardReferenceIdeal.nD Cert.FirstNormBackwardReferenceIdeal.τ).loc Cert.FirstNormBackwardReferenceIdeal.main_arg0)
      ∧ r.2.mem ((c.tc : Thread Cert.FirstNormBackwardReferenceIdeal.nD Cert.FirstNormBackwardReferenceIdeal.τ).loc Cert.FirstNormBackwardReferenceIdeal.main_arg1) = m ((c.tc : Thread Cert.FirstNormBackwardReferenceIdeal.nD Cert.FirstNormBackwardReferenceIdeal.τ).loc Cert.FirstNormBackwardReferenceIdeal.main_arg1)
      ∧ r.2.mem ((c.tc : Thread Cert.FirstNormBackwardReferenceIdeal.nD Cert.FirstNormBackwardReferenceIdeal.τ).loc Cert.FirstNormBackwardReferenceIdeal.main_arg2) = m ((c.tc : Thread Cert.FirstNormBackwardReferenceIdeal.nD Cert.FirstNormBackwardReferenceIdeal.τ).loc Cert.FirstNormBackwardReferenceIdeal.main_arg2)
      ∧ r.2.mem ((c.tc : Thread Cert.FirstNormBackwardReferenceIdeal.nD Cert.FirstNormBackwardReferenceIdeal.τ).loc Cert.FirstNormBackwardReferenceIdeal.main_arg3) = m ((c.tc : Thread Cert.FirstNormBackwardReferenceIdeal.nD Cert.FirstNormBackwardReferenceIdeal.τ).loc Cert.FirstNormBackwardReferenceIdeal.main_arg3)
      ∧ r.2.mem ((c.tc : Thread Cert.FirstNormBackwardReferenceIdeal.nD Cert.FirstNormBackwardReferenceIdeal.τ).loc Cert.FirstNormBackwardReferenceIdeal.main_arg4) = m ((c.tc : Thread Cert.FirstNormBackwardReferenceIdeal.nD Cert.FirstNormBackwardReferenceIdeal.τ).loc Cert.FirstNormBackwardReferenceIdeal.main_arg4))
      ∧ r.2.sem = fun _ => 0)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1)
      ∧ r.2.mem ((c.tc : Thread Cert.LossHead.nD Cert.LossHead.τ).loc Cert.LossHead.main_arg2) = m ((c.tc : Thread Cert.LossHead.nD Cert.LossHead.τ).loc Cert.LossHead.main_arg2)
      ∧ r.2.mem ((c.tc : Thread Cert.LossHead.nD Cert.LossHead.τ).loc Cert.LossHead.main_arg3) = m ((c.tc : Thread Cert.LossHead.nD Cert.LossHead.τ).loc Cert.LossHead.main_arg3)
      ∧ r.2.mem ((c.tc : Thread Cert.LossHead.nD Cert.LossHead.τ).loc Cert.LossHead.main_arg4) = m ((c.tc : Thread Cert.LossHead.nD Cert.LossHead.τ).loc Cert.LossHead.main_arg4))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2)
      ∧ r.2.mem ((c.tc : Thread Cert.LossHeadIdeal.nD Cert.LossHeadIdeal.τ).loc Cert.LossHeadIdeal.main_arg3) = m ((c.tc : Thread Cert.LossHeadIdeal.nD Cert.LossHeadIdeal.τ).loc Cert.LossHeadIdeal.main_arg3)
      ∧ r.2.mem ((c.tc : Thread Cert.LossHeadIdeal.nD Cert.LossHeadIdeal.τ).loc Cert.LossHeadIdeal.main_arg4) = m ((c.tc : Thread Cert.LossHeadIdeal.nD Cert.LossHeadIdeal.τ).loc Cert.LossHeadIdeal.main_arg4))
      ∧ r.2.sem = fun _ => 0)

def quiescent_LossHeadReferenceIdeal [hLossHeadReferenceIdeal : Cert.LossHeadReferenceIdeal.Facts] : Prop :=
  ∀ (m : (ℓ : Loc Cert.LossHeadReferenceIdeal.nD Cert.LossHeadReferenceIdeal.τ Cert.LossHeadReferenceIdeal.sig) → Buf (Elt Ideal) ℓ) (g : Dev Cert.LossHeadReferenceIdeal.nD → PrngReg), Pre_LossHeadReferenceIdeal m →
    θ_run (Cert.LossHeadReferenceIdeal.defs (F := Ideal)) (onTc (τ := Cert.LossHeadReferenceIdeal.τ) (Cert.LossHeadReferenceIdeal.main (F := Ideal))) ⟨m, fun _ => 0, g⟩ (fun r => (∀ c : Dev Cert.LossHeadReferenceIdeal.nD,
      r.2.mem ((c.tc : Thread Cert.LossHeadReferenceIdeal.nD Cert.LossHeadReferenceIdeal.τ).loc Cert.LossHeadReferenceIdeal.main_arg0) = m ((c.tc : Thread Cert.LossHeadReferenceIdeal.nD Cert.LossHeadReferenceIdeal.τ).loc Cert.LossHeadReferenceIdeal.main_arg0)
      ∧ r.2.mem ((c.tc : Thread Cert.LossHeadReferenceIdeal.nD Cert.LossHeadReferenceIdeal.τ).loc Cert.LossHeadReferenceIdeal.main_arg1) = m ((c.tc : Thread Cert.LossHeadReferenceIdeal.nD Cert.LossHeadReferenceIdeal.τ).loc Cert.LossHeadReferenceIdeal.main_arg1)
      ∧ r.2.mem ((c.tc : Thread Cert.LossHeadReferenceIdeal.nD Cert.LossHeadReferenceIdeal.τ).loc Cert.LossHeadReferenceIdeal.main_arg2) = m ((c.tc : Thread Cert.LossHeadReferenceIdeal.nD Cert.LossHeadReferenceIdeal.τ).loc Cert.LossHeadReferenceIdeal.main_arg2)
      ∧ r.2.mem ((c.tc : Thread Cert.LossHeadReferenceIdeal.nD Cert.LossHeadReferenceIdeal.τ).loc Cert.LossHeadReferenceIdeal.main_arg3) = m ((c.tc : Thread Cert.LossHeadReferenceIdeal.nD Cert.LossHeadReferenceIdeal.τ).loc Cert.LossHeadReferenceIdeal.main_arg3)
      ∧ r.2.mem ((c.tc : Thread Cert.LossHeadReferenceIdeal.nD Cert.LossHeadReferenceIdeal.τ).loc Cert.LossHeadReferenceIdeal.main_arg4) = m ((c.tc : Thread Cert.LossHeadReferenceIdeal.nD Cert.LossHeadReferenceIdeal.τ).loc Cert.LossHeadReferenceIdeal.main_arg4))
      ∧ r.2.sem = fun _ => 0)

def quiescent_NormForward [hNormForward : Cert.NormForward.Facts] : Prop :=
  ∀ (m : (ℓ : Loc Cert.NormForward.nD Cert.NormForward.τ Cert.NormForward.sig) → Buf (Elt Bits) ℓ) (g : Dev Cert.NormForward.nD → PrngReg), Pre_NormForward m →
    θ_run (Cert.NormForward.defs (F := Bits)) (onTc (τ := Cert.NormForward.τ) (Cert.NormForward.main (F := Bits))) ⟨m, fun _ => 0, g⟩ (fun r => (∀ c : Dev Cert.NormForward.nD,
      r.2.mem ((c.tc : Thread Cert.NormForward.nD Cert.NormForward.τ).loc Cert.NormForward.main_arg0) = m ((c.tc : Thread Cert.NormForward.nD Cert.NormForward.τ).loc Cert.NormForward.main_arg0)
      ∧ r.2.mem ((c.tc : Thread Cert.NormForward.nD Cert.NormForward.τ).loc Cert.NormForward.main_arg1) = m ((c.tc : Thread Cert.NormForward.nD Cert.NormForward.τ).loc Cert.NormForward.main_arg1)
      ∧ r.2.mem ((c.tc : Thread Cert.NormForward.nD Cert.NormForward.τ).loc Cert.NormForward.main_arg2) = m ((c.tc : Thread Cert.NormForward.nD Cert.NormForward.τ).loc Cert.NormForward.main_arg2)
      ∧ r.2.mem ((c.tc : Thread Cert.NormForward.nD Cert.NormForward.τ).loc Cert.NormForward.main_arg3) = m ((c.tc : Thread Cert.NormForward.nD Cert.NormForward.τ).loc Cert.NormForward.main_arg3)
      ∧ r.2.mem ((c.tc : Thread Cert.NormForward.nD Cert.NormForward.τ).loc Cert.NormForward.main_arg4) = m ((c.tc : Thread Cert.NormForward.nD Cert.NormForward.τ).loc Cert.NormForward.main_arg4)
      ∧ r.2.mem ((c.tc : Thread Cert.NormForward.nD Cert.NormForward.τ).loc Cert.NormForward.main_arg5) = m ((c.tc : Thread Cert.NormForward.nD Cert.NormForward.τ).loc Cert.NormForward.main_arg5))
      ∧ r.2.sem = fun _ => 0)

def quiescent_NormForwardIdeal [hNormForwardIdeal : Cert.NormForwardIdeal.Facts] : Prop :=
  ∀ (m : (ℓ : Loc Cert.NormForwardIdeal.nD Cert.NormForwardIdeal.τ Cert.NormForwardIdeal.sig) → Buf (Elt Ideal) ℓ) (g : Dev Cert.NormForwardIdeal.nD → PrngReg), Pre_NormForwardIdeal m →
    θ_run (Cert.NormForwardIdeal.defs (F := Ideal)) (onTc (τ := Cert.NormForwardIdeal.τ) (Cert.NormForwardIdeal.main (F := Ideal))) ⟨m, fun _ => 0, g⟩ (fun r => (∀ c : Dev Cert.NormForwardIdeal.nD,
      r.2.mem ((c.tc : Thread Cert.NormForwardIdeal.nD Cert.NormForwardIdeal.τ).loc Cert.NormForwardIdeal.main_arg0) = m ((c.tc : Thread Cert.NormForwardIdeal.nD Cert.NormForwardIdeal.τ).loc Cert.NormForwardIdeal.main_arg0)
      ∧ r.2.mem ((c.tc : Thread Cert.NormForwardIdeal.nD Cert.NormForwardIdeal.τ).loc Cert.NormForwardIdeal.main_arg1) = m ((c.tc : Thread Cert.NormForwardIdeal.nD Cert.NormForwardIdeal.τ).loc Cert.NormForwardIdeal.main_arg1)
      ∧ r.2.mem ((c.tc : Thread Cert.NormForwardIdeal.nD Cert.NormForwardIdeal.τ).loc Cert.NormForwardIdeal.main_arg2) = m ((c.tc : Thread Cert.NormForwardIdeal.nD Cert.NormForwardIdeal.τ).loc Cert.NormForwardIdeal.main_arg2)
      ∧ r.2.mem ((c.tc : Thread Cert.NormForwardIdeal.nD Cert.NormForwardIdeal.τ).loc Cert.NormForwardIdeal.main_arg3) = m ((c.tc : Thread Cert.NormForwardIdeal.nD Cert.NormForwardIdeal.τ).loc Cert.NormForwardIdeal.main_arg3)
      ∧ r.2.mem ((c.tc : Thread Cert.NormForwardIdeal.nD Cert.NormForwardIdeal.τ).loc Cert.NormForwardIdeal.main_arg4) = m ((c.tc : Thread Cert.NormForwardIdeal.nD Cert.NormForwardIdeal.τ).loc Cert.NormForwardIdeal.main_arg4)
      ∧ r.2.mem ((c.tc : Thread Cert.NormForwardIdeal.nD Cert.NormForwardIdeal.τ).loc Cert.NormForwardIdeal.main_arg5) = m ((c.tc : Thread Cert.NormForwardIdeal.nD Cert.NormForwardIdeal.τ).loc Cert.NormForwardIdeal.main_arg5))
      ∧ r.2.sem = fun _ => 0)

def quiescent_NormForwardReferenceIdeal [hNormForwardReferenceIdeal : Cert.NormForwardReferenceIdeal.Facts] : Prop :=
  ∀ (m : (ℓ : Loc Cert.NormForwardReferenceIdeal.nD Cert.NormForwardReferenceIdeal.τ Cert.NormForwardReferenceIdeal.sig) → Buf (Elt Ideal) ℓ) (g : Dev Cert.NormForwardReferenceIdeal.nD → PrngReg), Pre_NormForwardReferenceIdeal m →
    θ_run (Cert.NormForwardReferenceIdeal.defs (F := Ideal)) (onTc (τ := Cert.NormForwardReferenceIdeal.τ) (Cert.NormForwardReferenceIdeal.main (F := Ideal))) ⟨m, fun _ => 0, g⟩ (fun r => (∀ c : Dev Cert.NormForwardReferenceIdeal.nD,
      r.2.mem ((c.tc : Thread Cert.NormForwardReferenceIdeal.nD Cert.NormForwardReferenceIdeal.τ).loc Cert.NormForwardReferenceIdeal.main_arg0) = m ((c.tc : Thread Cert.NormForwardReferenceIdeal.nD Cert.NormForwardReferenceIdeal.τ).loc Cert.NormForwardReferenceIdeal.main_arg0)
      ∧ r.2.mem ((c.tc : Thread Cert.NormForwardReferenceIdeal.nD Cert.NormForwardReferenceIdeal.τ).loc Cert.NormForwardReferenceIdeal.main_arg1) = m ((c.tc : Thread Cert.NormForwardReferenceIdeal.nD Cert.NormForwardReferenceIdeal.τ).loc Cert.NormForwardReferenceIdeal.main_arg1)
      ∧ r.2.mem ((c.tc : Thread Cert.NormForwardReferenceIdeal.nD Cert.NormForwardReferenceIdeal.τ).loc Cert.NormForwardReferenceIdeal.main_arg2) = m ((c.tc : Thread Cert.NormForwardReferenceIdeal.nD Cert.NormForwardReferenceIdeal.τ).loc Cert.NormForwardReferenceIdeal.main_arg2)
      ∧ r.2.mem ((c.tc : Thread Cert.NormForwardReferenceIdeal.nD Cert.NormForwardReferenceIdeal.τ).loc Cert.NormForwardReferenceIdeal.main_arg3) = m ((c.tc : Thread Cert.NormForwardReferenceIdeal.nD Cert.NormForwardReferenceIdeal.τ).loc Cert.NormForwardReferenceIdeal.main_arg3)
      ∧ r.2.mem ((c.tc : Thread Cert.NormForwardReferenceIdeal.nD Cert.NormForwardReferenceIdeal.τ).loc Cert.NormForwardReferenceIdeal.main_arg4) = m ((c.tc : Thread Cert.NormForwardReferenceIdeal.nD Cert.NormForwardReferenceIdeal.τ).loc Cert.NormForwardReferenceIdeal.main_arg4)
      ∧ r.2.mem ((c.tc : Thread Cert.NormForwardReferenceIdeal.nD Cert.NormForwardReferenceIdeal.τ).loc Cert.NormForwardReferenceIdeal.main_arg5) = m ((c.tc : Thread Cert.NormForwardReferenceIdeal.nD Cert.NormForwardReferenceIdeal.τ).loc Cert.NormForwardReferenceIdeal.main_arg5))
      ∧ r.2.sem = fun _ => 0)

def quiescent_FirstNormForward [hFirstNormForward : Cert.FirstNormForward.Facts] : Prop :=
  ∀ (m : (ℓ : Loc Cert.FirstNormForward.nD Cert.FirstNormForward.τ Cert.FirstNormForward.sig) → Buf (Elt Bits) ℓ) (g : Dev Cert.FirstNormForward.nD → PrngReg), Pre_FirstNormForward m →
    θ_run (Cert.FirstNormForward.defs (F := Bits)) (onTc (τ := Cert.FirstNormForward.τ) (Cert.FirstNormForward.main (F := Bits))) ⟨m, fun _ => 0, g⟩ (fun r => (∀ c : Dev Cert.FirstNormForward.nD,
      r.2.mem ((c.tc : Thread Cert.FirstNormForward.nD Cert.FirstNormForward.τ).loc Cert.FirstNormForward.main_arg0) = m ((c.tc : Thread Cert.FirstNormForward.nD Cert.FirstNormForward.τ).loc Cert.FirstNormForward.main_arg0)
      ∧ r.2.mem ((c.tc : Thread Cert.FirstNormForward.nD Cert.FirstNormForward.τ).loc Cert.FirstNormForward.main_arg1) = m ((c.tc : Thread Cert.FirstNormForward.nD Cert.FirstNormForward.τ).loc Cert.FirstNormForward.main_arg1)
      ∧ r.2.mem ((c.tc : Thread Cert.FirstNormForward.nD Cert.FirstNormForward.τ).loc Cert.FirstNormForward.main_arg2) = m ((c.tc : Thread Cert.FirstNormForward.nD Cert.FirstNormForward.τ).loc Cert.FirstNormForward.main_arg2)
      ∧ r.2.mem ((c.tc : Thread Cert.FirstNormForward.nD Cert.FirstNormForward.τ).loc Cert.FirstNormForward.main_arg3) = m ((c.tc : Thread Cert.FirstNormForward.nD Cert.FirstNormForward.τ).loc Cert.FirstNormForward.main_arg3))
      ∧ r.2.sem = fun _ => 0)

def quiescent_FirstNormForwardIdeal [hFirstNormForwardIdeal : Cert.FirstNormForwardIdeal.Facts] : Prop :=
  ∀ (m : (ℓ : Loc Cert.FirstNormForwardIdeal.nD Cert.FirstNormForwardIdeal.τ Cert.FirstNormForwardIdeal.sig) → Buf (Elt Ideal) ℓ) (g : Dev Cert.FirstNormForwardIdeal.nD → PrngReg), Pre_FirstNormForwardIdeal m →
    θ_run (Cert.FirstNormForwardIdeal.defs (F := Ideal)) (onTc (τ := Cert.FirstNormForwardIdeal.τ) (Cert.FirstNormForwardIdeal.main (F := Ideal))) ⟨m, fun _ => 0, g⟩ (fun r => (∀ c : Dev Cert.FirstNormForwardIdeal.nD,
      r.2.mem ((c.tc : Thread Cert.FirstNormForwardIdeal.nD Cert.FirstNormForwardIdeal.τ).loc Cert.FirstNormForwardIdeal.main_arg0) = m ((c.tc : Thread Cert.FirstNormForwardIdeal.nD Cert.FirstNormForwardIdeal.τ).loc Cert.FirstNormForwardIdeal.main_arg0)
      ∧ r.2.mem ((c.tc : Thread Cert.FirstNormForwardIdeal.nD Cert.FirstNormForwardIdeal.τ).loc Cert.FirstNormForwardIdeal.main_arg1) = m ((c.tc : Thread Cert.FirstNormForwardIdeal.nD Cert.FirstNormForwardIdeal.τ).loc Cert.FirstNormForwardIdeal.main_arg1)
      ∧ r.2.mem ((c.tc : Thread Cert.FirstNormForwardIdeal.nD Cert.FirstNormForwardIdeal.τ).loc Cert.FirstNormForwardIdeal.main_arg2) = m ((c.tc : Thread Cert.FirstNormForwardIdeal.nD Cert.FirstNormForwardIdeal.τ).loc Cert.FirstNormForwardIdeal.main_arg2)
      ∧ r.2.mem ((c.tc : Thread Cert.FirstNormForwardIdeal.nD Cert.FirstNormForwardIdeal.τ).loc Cert.FirstNormForwardIdeal.main_arg3) = m ((c.tc : Thread Cert.FirstNormForwardIdeal.nD Cert.FirstNormForwardIdeal.τ).loc Cert.FirstNormForwardIdeal.main_arg3))
      ∧ r.2.sem = fun _ => 0)

def quiescent_FirstNormForwardReferenceIdeal [hFirstNormForwardReferenceIdeal : Cert.FirstNormForwardReferenceIdeal.Facts] : Prop :=
  ∀ (m : (ℓ : Loc Cert.FirstNormForwardReferenceIdeal.nD Cert.FirstNormForwardReferenceIdeal.τ Cert.FirstNormForwardReferenceIdeal.sig) → Buf (Elt Ideal) ℓ) (g : Dev Cert.FirstNormForwardReferenceIdeal.nD → PrngReg), Pre_FirstNormForwardReferenceIdeal m →
    θ_run (Cert.FirstNormForwardReferenceIdeal.defs (F := Ideal)) (onTc (τ := Cert.FirstNormForwardReferenceIdeal.τ) (Cert.FirstNormForwardReferenceIdeal.main (F := Ideal))) ⟨m, fun _ => 0, g⟩ (fun r => (∀ c : Dev Cert.FirstNormForwardReferenceIdeal.nD,
      r.2.mem ((c.tc : Thread Cert.FirstNormForwardReferenceIdeal.nD Cert.FirstNormForwardReferenceIdeal.τ).loc Cert.FirstNormForwardReferenceIdeal.main_arg0) = m ((c.tc : Thread Cert.FirstNormForwardReferenceIdeal.nD Cert.FirstNormForwardReferenceIdeal.τ).loc Cert.FirstNormForwardReferenceIdeal.main_arg0)
      ∧ r.2.mem ((c.tc : Thread Cert.FirstNormForwardReferenceIdeal.nD Cert.FirstNormForwardReferenceIdeal.τ).loc Cert.FirstNormForwardReferenceIdeal.main_arg1) = m ((c.tc : Thread Cert.FirstNormForwardReferenceIdeal.nD Cert.FirstNormForwardReferenceIdeal.τ).loc Cert.FirstNormForwardReferenceIdeal.main_arg1)
      ∧ r.2.mem ((c.tc : Thread Cert.FirstNormForwardReferenceIdeal.nD Cert.FirstNormForwardReferenceIdeal.τ).loc Cert.FirstNormForwardReferenceIdeal.main_arg2) = m ((c.tc : Thread Cert.FirstNormForwardReferenceIdeal.nD Cert.FirstNormForwardReferenceIdeal.τ).loc Cert.FirstNormForwardReferenceIdeal.main_arg2)
      ∧ r.2.mem ((c.tc : Thread Cert.FirstNormForwardReferenceIdeal.nD Cert.FirstNormForwardReferenceIdeal.τ).loc Cert.FirstNormForwardReferenceIdeal.main_arg3) = m ((c.tc : Thread Cert.FirstNormForwardReferenceIdeal.nD Cert.FirstNormForwardReferenceIdeal.τ).loc Cert.FirstNormForwardReferenceIdeal.main_arg3))
      ∧ r.2.sem = fun _ => 0)

def quiescent_AdaWeightStep [hAdaWeightStep : Cert.AdaWeightStep.Facts] : Prop :=
  ∀ (m : (ℓ : Loc Cert.AdaWeightStep.nD Cert.AdaWeightStep.τ Cert.AdaWeightStep.sig) → Buf (Elt Bits) ℓ) (g : Dev Cert.AdaWeightStep.nD → PrngReg), Pre_AdaWeightStep m →
    θ_run (Cert.AdaWeightStep.defs (F := Bits)) (onTc (τ := Cert.AdaWeightStep.τ) (Cert.AdaWeightStep.main (F := Bits))) ⟨m, fun _ => 0, g⟩ (fun r => (∀ c : Dev Cert.AdaWeightStep.nD,
      r.2.mem ((c.tc : Thread Cert.AdaWeightStep.nD Cert.AdaWeightStep.τ).loc Cert.AdaWeightStep.main_arg0) = m ((c.tc : Thread Cert.AdaWeightStep.nD Cert.AdaWeightStep.τ).loc Cert.AdaWeightStep.main_arg0)
      ∧ r.2.mem ((c.tc : Thread Cert.AdaWeightStep.nD Cert.AdaWeightStep.τ).loc Cert.AdaWeightStep.main_arg1) = m ((c.tc : Thread Cert.AdaWeightStep.nD Cert.AdaWeightStep.τ).loc Cert.AdaWeightStep.main_arg1)
      ∧ r.2.mem ((c.tc : Thread Cert.AdaWeightStep.nD Cert.AdaWeightStep.τ).loc Cert.AdaWeightStep.main_arg2) = m ((c.tc : Thread Cert.AdaWeightStep.nD Cert.AdaWeightStep.τ).loc Cert.AdaWeightStep.main_arg2)
      ∧ r.2.mem ((c.tc : Thread Cert.AdaWeightStep.nD Cert.AdaWeightStep.τ).loc Cert.AdaWeightStep.main_arg3) = m ((c.tc : Thread Cert.AdaWeightStep.nD Cert.AdaWeightStep.τ).loc Cert.AdaWeightStep.main_arg3))
      ∧ r.2.sem = fun _ => 0)

def quiescent_AdaWeightStepIdeal [hAdaWeightStepIdeal : Cert.AdaWeightStepIdeal.Facts] : Prop :=
  ∀ (m : (ℓ : Loc Cert.AdaWeightStepIdeal.nD Cert.AdaWeightStepIdeal.τ Cert.AdaWeightStepIdeal.sig) → Buf (Elt Ideal) ℓ) (g : Dev Cert.AdaWeightStepIdeal.nD → PrngReg), Pre_AdaWeightStepIdeal m →
    θ_run (Cert.AdaWeightStepIdeal.defs (F := Ideal)) (onTc (τ := Cert.AdaWeightStepIdeal.τ) (Cert.AdaWeightStepIdeal.main (F := Ideal))) ⟨m, fun _ => 0, g⟩ (fun r => (∀ c : Dev Cert.AdaWeightStepIdeal.nD,
      r.2.mem ((c.tc : Thread Cert.AdaWeightStepIdeal.nD Cert.AdaWeightStepIdeal.τ).loc Cert.AdaWeightStepIdeal.main_arg0) = m ((c.tc : Thread Cert.AdaWeightStepIdeal.nD Cert.AdaWeightStepIdeal.τ).loc Cert.AdaWeightStepIdeal.main_arg0)
      ∧ r.2.mem ((c.tc : Thread Cert.AdaWeightStepIdeal.nD Cert.AdaWeightStepIdeal.τ).loc Cert.AdaWeightStepIdeal.main_arg1) = m ((c.tc : Thread Cert.AdaWeightStepIdeal.nD Cert.AdaWeightStepIdeal.τ).loc Cert.AdaWeightStepIdeal.main_arg1)
      ∧ r.2.mem ((c.tc : Thread Cert.AdaWeightStepIdeal.nD Cert.AdaWeightStepIdeal.τ).loc Cert.AdaWeightStepIdeal.main_arg2) = m ((c.tc : Thread Cert.AdaWeightStepIdeal.nD Cert.AdaWeightStepIdeal.τ).loc Cert.AdaWeightStepIdeal.main_arg2)
      ∧ r.2.mem ((c.tc : Thread Cert.AdaWeightStepIdeal.nD Cert.AdaWeightStepIdeal.τ).loc Cert.AdaWeightStepIdeal.main_arg3) = m ((c.tc : Thread Cert.AdaWeightStepIdeal.nD Cert.AdaWeightStepIdeal.τ).loc Cert.AdaWeightStepIdeal.main_arg3))
      ∧ r.2.sem = fun _ => 0)

def quiescent_AdaWeightStepReferenceIdeal [hAdaWeightStepReferenceIdeal : Cert.AdaWeightStepReferenceIdeal.Facts] : Prop :=
  ∀ (m : (ℓ : Loc Cert.AdaWeightStepReferenceIdeal.nD Cert.AdaWeightStepReferenceIdeal.τ Cert.AdaWeightStepReferenceIdeal.sig) → Buf (Elt Ideal) ℓ) (g : Dev Cert.AdaWeightStepReferenceIdeal.nD → PrngReg), Pre_AdaWeightStepReferenceIdeal m →
    θ_run (Cert.AdaWeightStepReferenceIdeal.defs (F := Ideal)) (onTc (τ := Cert.AdaWeightStepReferenceIdeal.τ) (Cert.AdaWeightStepReferenceIdeal.main (F := Ideal))) ⟨m, fun _ => 0, g⟩ (fun r => (∀ c : Dev Cert.AdaWeightStepReferenceIdeal.nD,
      r.2.mem ((c.tc : Thread Cert.AdaWeightStepReferenceIdeal.nD Cert.AdaWeightStepReferenceIdeal.τ).loc Cert.AdaWeightStepReferenceIdeal.main_arg0) = m ((c.tc : Thread Cert.AdaWeightStepReferenceIdeal.nD Cert.AdaWeightStepReferenceIdeal.τ).loc Cert.AdaWeightStepReferenceIdeal.main_arg0)
      ∧ r.2.mem ((c.tc : Thread Cert.AdaWeightStepReferenceIdeal.nD Cert.AdaWeightStepReferenceIdeal.τ).loc Cert.AdaWeightStepReferenceIdeal.main_arg1) = m ((c.tc : Thread Cert.AdaWeightStepReferenceIdeal.nD Cert.AdaWeightStepReferenceIdeal.τ).loc Cert.AdaWeightStepReferenceIdeal.main_arg1)
      ∧ r.2.mem ((c.tc : Thread Cert.AdaWeightStepReferenceIdeal.nD Cert.AdaWeightStepReferenceIdeal.τ).loc Cert.AdaWeightStepReferenceIdeal.main_arg2) = m ((c.tc : Thread Cert.AdaWeightStepReferenceIdeal.nD Cert.AdaWeightStepReferenceIdeal.τ).loc Cert.AdaWeightStepReferenceIdeal.main_arg2)
      ∧ r.2.mem ((c.tc : Thread Cert.AdaWeightStepReferenceIdeal.nD Cert.AdaWeightStepReferenceIdeal.τ).loc Cert.AdaWeightStepReferenceIdeal.main_arg3) = m ((c.tc : Thread Cert.AdaWeightStepReferenceIdeal.nD Cert.AdaWeightStepReferenceIdeal.τ).loc Cert.AdaWeightStepReferenceIdeal.main_arg3))
      ∧ r.2.sem = fun _ => 0)

def quiescent_GatingForward [hGatingForward : Cert.GatingForward.Facts] : Prop :=
  ∀ (m : (ℓ : Loc Cert.GatingForward.nD Cert.GatingForward.τ Cert.GatingForward.sig) → Buf (Elt Bits) ℓ) (g : Dev Cert.GatingForward.nD → PrngReg), Pre_GatingForward m →
    θ_run (Cert.GatingForward.defs (F := Bits)) (onTc (τ := Cert.GatingForward.τ) (Cert.GatingForward.main (F := Bits))) ⟨m, fun _ => 0, g⟩ (fun r => (∀ c : Dev Cert.GatingForward.nD,
      r.2.mem ((c.tc : Thread Cert.GatingForward.nD Cert.GatingForward.τ).loc Cert.GatingForward.main_arg0) = m ((c.tc : Thread Cert.GatingForward.nD Cert.GatingForward.τ).loc Cert.GatingForward.main_arg0)
      ∧ r.2.mem ((c.tc : Thread Cert.GatingForward.nD Cert.GatingForward.τ).loc Cert.GatingForward.main_arg1) = m ((c.tc : Thread Cert.GatingForward.nD Cert.GatingForward.τ).loc Cert.GatingForward.main_arg1)
      ∧ r.2.mem ((c.tc : Thread Cert.GatingForward.nD Cert.GatingForward.τ).loc Cert.GatingForward.main_arg2) = m ((c.tc : Thread Cert.GatingForward.nD Cert.GatingForward.τ).loc Cert.GatingForward.main_arg2)
      ∧ r.2.mem ((c.tc : Thread Cert.GatingForward.nD Cert.GatingForward.τ).loc Cert.GatingForward.main_arg3) = m ((c.tc : Thread Cert.GatingForward.nD Cert.GatingForward.τ).loc Cert.GatingForward.main_arg3)
      ∧ r.2.mem ((c.tc : Thread Cert.GatingForward.nD Cert.GatingForward.τ).loc Cert.GatingForward.main_arg4) = m ((c.tc : Thread Cert.GatingForward.nD Cert.GatingForward.τ).loc Cert.GatingForward.main_arg4))
      ∧ r.2.sem = fun _ => 0)

def quiescent_GatingForwardIdeal [hGatingForwardIdeal : Cert.GatingForwardIdeal.Facts] : Prop :=
  ∀ (m : (ℓ : Loc Cert.GatingForwardIdeal.nD Cert.GatingForwardIdeal.τ Cert.GatingForwardIdeal.sig) → Buf (Elt Ideal) ℓ) (g : Dev Cert.GatingForwardIdeal.nD → PrngReg), Pre_GatingForwardIdeal m →
    θ_run (Cert.GatingForwardIdeal.defs (F := Ideal)) (onTc (τ := Cert.GatingForwardIdeal.τ) (Cert.GatingForwardIdeal.main (F := Ideal))) ⟨m, fun _ => 0, g⟩ (fun r => (∀ c : Dev Cert.GatingForwardIdeal.nD,
      r.2.mem ((c.tc : Thread Cert.GatingForwardIdeal.nD Cert.GatingForwardIdeal.τ).loc Cert.GatingForwardIdeal.main_arg0) = m ((c.tc : Thread Cert.GatingForwardIdeal.nD Cert.GatingForwardIdeal.τ).loc Cert.GatingForwardIdeal.main_arg0)
      ∧ r.2.mem ((c.tc : Thread Cert.GatingForwardIdeal.nD Cert.GatingForwardIdeal.τ).loc Cert.GatingForwardIdeal.main_arg1) = m ((c.tc : Thread Cert.GatingForwardIdeal.nD Cert.GatingForwardIdeal.τ).loc Cert.GatingForwardIdeal.main_arg1)
      ∧ r.2.mem ((c.tc : Thread Cert.GatingForwardIdeal.nD Cert.GatingForwardIdeal.τ).loc Cert.GatingForwardIdeal.main_arg2) = m ((c.tc : Thread Cert.GatingForwardIdeal.nD Cert.GatingForwardIdeal.τ).loc Cert.GatingForwardIdeal.main_arg2)
      ∧ r.2.mem ((c.tc : Thread Cert.GatingForwardIdeal.nD Cert.GatingForwardIdeal.τ).loc Cert.GatingForwardIdeal.main_arg3) = m ((c.tc : Thread Cert.GatingForwardIdeal.nD Cert.GatingForwardIdeal.τ).loc Cert.GatingForwardIdeal.main_arg3)
      ∧ r.2.mem ((c.tc : Thread Cert.GatingForwardIdeal.nD Cert.GatingForwardIdeal.τ).loc Cert.GatingForwardIdeal.main_arg4) = m ((c.tc : Thread Cert.GatingForwardIdeal.nD Cert.GatingForwardIdeal.τ).loc Cert.GatingForwardIdeal.main_arg4))
      ∧ r.2.sem = fun _ => 0)

def quiescent_GatingForwardReferenceIdeal [hGatingForwardReferenceIdeal : Cert.GatingForwardReferenceIdeal.Facts] : Prop :=
  ∀ (m : (ℓ : Loc Cert.GatingForwardReferenceIdeal.nD Cert.GatingForwardReferenceIdeal.τ Cert.GatingForwardReferenceIdeal.sig) → Buf (Elt Ideal) ℓ) (g : Dev Cert.GatingForwardReferenceIdeal.nD → PrngReg), Pre_GatingForwardReferenceIdeal m →
    θ_run (Cert.GatingForwardReferenceIdeal.defs (F := Ideal)) (onTc (τ := Cert.GatingForwardReferenceIdeal.τ) (Cert.GatingForwardReferenceIdeal.main (F := Ideal))) ⟨m, fun _ => 0, g⟩ (fun r => (∀ c : Dev Cert.GatingForwardReferenceIdeal.nD,
      r.2.mem ((c.tc : Thread Cert.GatingForwardReferenceIdeal.nD Cert.GatingForwardReferenceIdeal.τ).loc Cert.GatingForwardReferenceIdeal.main_arg0) = m ((c.tc : Thread Cert.GatingForwardReferenceIdeal.nD Cert.GatingForwardReferenceIdeal.τ).loc Cert.GatingForwardReferenceIdeal.main_arg0)
      ∧ r.2.mem ((c.tc : Thread Cert.GatingForwardReferenceIdeal.nD Cert.GatingForwardReferenceIdeal.τ).loc Cert.GatingForwardReferenceIdeal.main_arg1) = m ((c.tc : Thread Cert.GatingForwardReferenceIdeal.nD Cert.GatingForwardReferenceIdeal.τ).loc Cert.GatingForwardReferenceIdeal.main_arg1)
      ∧ r.2.mem ((c.tc : Thread Cert.GatingForwardReferenceIdeal.nD Cert.GatingForwardReferenceIdeal.τ).loc Cert.GatingForwardReferenceIdeal.main_arg2) = m ((c.tc : Thread Cert.GatingForwardReferenceIdeal.nD Cert.GatingForwardReferenceIdeal.τ).loc Cert.GatingForwardReferenceIdeal.main_arg2)
      ∧ r.2.mem ((c.tc : Thread Cert.GatingForwardReferenceIdeal.nD Cert.GatingForwardReferenceIdeal.τ).loc Cert.GatingForwardReferenceIdeal.main_arg3) = m ((c.tc : Thread Cert.GatingForwardReferenceIdeal.nD Cert.GatingForwardReferenceIdeal.τ).loc Cert.GatingForwardReferenceIdeal.main_arg3)
      ∧ r.2.mem ((c.tc : Thread Cert.GatingForwardReferenceIdeal.nD Cert.GatingForwardReferenceIdeal.τ).loc Cert.GatingForwardReferenceIdeal.main_arg4) = m ((c.tc : Thread Cert.GatingForwardReferenceIdeal.nD Cert.GatingForwardReferenceIdeal.τ).loc Cert.GatingForwardReferenceIdeal.main_arg4))
      ∧ r.2.sem = fun _ => 0)

def quiescent_NormGainStep [hNormGainStep : Cert.NormGainStep.Facts] : Prop :=
  ∀ (m : (ℓ : Loc Cert.NormGainStep.nD Cert.NormGainStep.τ Cert.NormGainStep.sig) → Buf (Elt Bits) ℓ) (g : Dev Cert.NormGainStep.nD → PrngReg), Pre_NormGainStep m →
    θ_run (Cert.NormGainStep.defs (F := Bits)) (onTc (τ := Cert.NormGainStep.τ) (Cert.NormGainStep.main (F := Bits))) ⟨m, fun _ => 0, g⟩ (fun r => (∀ c : Dev Cert.NormGainStep.nD,
      r.2.mem ((c.tc : Thread Cert.NormGainStep.nD Cert.NormGainStep.τ).loc Cert.NormGainStep.main_arg0) = m ((c.tc : Thread Cert.NormGainStep.nD Cert.NormGainStep.τ).loc Cert.NormGainStep.main_arg0)
      ∧ r.2.mem ((c.tc : Thread Cert.NormGainStep.nD Cert.NormGainStep.τ).loc Cert.NormGainStep.main_arg1) = m ((c.tc : Thread Cert.NormGainStep.nD Cert.NormGainStep.τ).loc Cert.NormGainStep.main_arg1)
      ∧ r.2.mem ((c.tc : Thread Cert.NormGainStep.nD Cert.NormGainStep.τ).loc Cert.NormGainStep.main_arg2) = m ((c.tc : Thread Cert.NormGainStep.nD Cert.NormGainStep.τ).loc Cert.NormGainStep.main_arg2)
      ∧ r.2.mem ((c.tc : Thread Cert.NormGainStep.nD Cert.NormGainStep.τ).loc Cert.NormGainStep.main_arg3) = m ((c.tc : Thread Cert.NormGainStep.nD Cert.NormGainStep.τ).loc Cert.NormGainStep.main_arg3))
      ∧ r.2.sem = fun _ => 0)

def quiescent_NormGainStepIdeal [hNormGainStepIdeal : Cert.NormGainStepIdeal.Facts] : Prop :=
  ∀ (m : (ℓ : Loc Cert.NormGainStepIdeal.nD Cert.NormGainStepIdeal.τ Cert.NormGainStepIdeal.sig) → Buf (Elt Ideal) ℓ) (g : Dev Cert.NormGainStepIdeal.nD → PrngReg), Pre_NormGainStepIdeal m →
    θ_run (Cert.NormGainStepIdeal.defs (F := Ideal)) (onTc (τ := Cert.NormGainStepIdeal.τ) (Cert.NormGainStepIdeal.main (F := Ideal))) ⟨m, fun _ => 0, g⟩ (fun r => (∀ c : Dev Cert.NormGainStepIdeal.nD,
      r.2.mem ((c.tc : Thread Cert.NormGainStepIdeal.nD Cert.NormGainStepIdeal.τ).loc Cert.NormGainStepIdeal.main_arg0) = m ((c.tc : Thread Cert.NormGainStepIdeal.nD Cert.NormGainStepIdeal.τ).loc Cert.NormGainStepIdeal.main_arg0)
      ∧ r.2.mem ((c.tc : Thread Cert.NormGainStepIdeal.nD Cert.NormGainStepIdeal.τ).loc Cert.NormGainStepIdeal.main_arg1) = m ((c.tc : Thread Cert.NormGainStepIdeal.nD Cert.NormGainStepIdeal.τ).loc Cert.NormGainStepIdeal.main_arg1)
      ∧ r.2.mem ((c.tc : Thread Cert.NormGainStepIdeal.nD Cert.NormGainStepIdeal.τ).loc Cert.NormGainStepIdeal.main_arg2) = m ((c.tc : Thread Cert.NormGainStepIdeal.nD Cert.NormGainStepIdeal.τ).loc Cert.NormGainStepIdeal.main_arg2)
      ∧ r.2.mem ((c.tc : Thread Cert.NormGainStepIdeal.nD Cert.NormGainStepIdeal.τ).loc Cert.NormGainStepIdeal.main_arg3) = m ((c.tc : Thread Cert.NormGainStepIdeal.nD Cert.NormGainStepIdeal.τ).loc Cert.NormGainStepIdeal.main_arg3))
      ∧ r.2.sem = fun _ => 0)

def quiescent_NormGainStepReferenceIdeal [hNormGainStepReferenceIdeal : Cert.NormGainStepReferenceIdeal.Facts] : Prop :=
  ∀ (m : (ℓ : Loc Cert.NormGainStepReferenceIdeal.nD Cert.NormGainStepReferenceIdeal.τ Cert.NormGainStepReferenceIdeal.sig) → Buf (Elt Ideal) ℓ) (g : Dev Cert.NormGainStepReferenceIdeal.nD → PrngReg), Pre_NormGainStepReferenceIdeal m →
    θ_run (Cert.NormGainStepReferenceIdeal.defs (F := Ideal)) (onTc (τ := Cert.NormGainStepReferenceIdeal.τ) (Cert.NormGainStepReferenceIdeal.main (F := Ideal))) ⟨m, fun _ => 0, g⟩ (fun r => (∀ c : Dev Cert.NormGainStepReferenceIdeal.nD,
      r.2.mem ((c.tc : Thread Cert.NormGainStepReferenceIdeal.nD Cert.NormGainStepReferenceIdeal.τ).loc Cert.NormGainStepReferenceIdeal.main_arg0) = m ((c.tc : Thread Cert.NormGainStepReferenceIdeal.nD Cert.NormGainStepReferenceIdeal.τ).loc Cert.NormGainStepReferenceIdeal.main_arg0)
      ∧ r.2.mem ((c.tc : Thread Cert.NormGainStepReferenceIdeal.nD Cert.NormGainStepReferenceIdeal.τ).loc Cert.NormGainStepReferenceIdeal.main_arg1) = m ((c.tc : Thread Cert.NormGainStepReferenceIdeal.nD Cert.NormGainStepReferenceIdeal.τ).loc Cert.NormGainStepReferenceIdeal.main_arg1)
      ∧ r.2.mem ((c.tc : Thread Cert.NormGainStepReferenceIdeal.nD Cert.NormGainStepReferenceIdeal.τ).loc Cert.NormGainStepReferenceIdeal.main_arg2) = m ((c.tc : Thread Cert.NormGainStepReferenceIdeal.nD Cert.NormGainStepReferenceIdeal.τ).loc Cert.NormGainStepReferenceIdeal.main_arg2)
      ∧ r.2.mem ((c.tc : Thread Cert.NormGainStepReferenceIdeal.nD Cert.NormGainStepReferenceIdeal.τ).loc Cert.NormGainStepReferenceIdeal.main_arg3) = m ((c.tc : Thread Cert.NormGainStepReferenceIdeal.nD Cert.NormGainStepReferenceIdeal.τ).loc Cert.NormGainStepReferenceIdeal.main_arg3))
      ∧ r.2.sem = fun _ => 0)

def quiescent_FinalGainStep [hFinalGainStep : Cert.FinalGainStep.Facts] : Prop :=
  ∀ (m : (ℓ : Loc Cert.FinalGainStep.nD Cert.FinalGainStep.τ Cert.FinalGainStep.sig) → Buf (Elt Bits) ℓ) (g : Dev Cert.FinalGainStep.nD → PrngReg), Pre_FinalGainStep m →
    θ_run (Cert.FinalGainStep.defs (F := Bits)) (onTc (τ := Cert.FinalGainStep.τ) (Cert.FinalGainStep.main (F := Bits))) ⟨m, fun _ => 0, g⟩ (fun r => (∀ c : Dev Cert.FinalGainStep.nD,
      r.2.mem ((c.tc : Thread Cert.FinalGainStep.nD Cert.FinalGainStep.τ).loc Cert.FinalGainStep.main_arg0) = m ((c.tc : Thread Cert.FinalGainStep.nD Cert.FinalGainStep.τ).loc Cert.FinalGainStep.main_arg0)
      ∧ r.2.mem ((c.tc : Thread Cert.FinalGainStep.nD Cert.FinalGainStep.τ).loc Cert.FinalGainStep.main_arg1) = m ((c.tc : Thread Cert.FinalGainStep.nD Cert.FinalGainStep.τ).loc Cert.FinalGainStep.main_arg1)
      ∧ r.2.mem ((c.tc : Thread Cert.FinalGainStep.nD Cert.FinalGainStep.τ).loc Cert.FinalGainStep.main_arg2) = m ((c.tc : Thread Cert.FinalGainStep.nD Cert.FinalGainStep.τ).loc Cert.FinalGainStep.main_arg2)
      ∧ r.2.mem ((c.tc : Thread Cert.FinalGainStep.nD Cert.FinalGainStep.τ).loc Cert.FinalGainStep.main_arg3) = m ((c.tc : Thread Cert.FinalGainStep.nD Cert.FinalGainStep.τ).loc Cert.FinalGainStep.main_arg3))
      ∧ r.2.sem = fun _ => 0)

def quiescent_FinalGainStepIdeal [hFinalGainStepIdeal : Cert.FinalGainStepIdeal.Facts] : Prop :=
  ∀ (m : (ℓ : Loc Cert.FinalGainStepIdeal.nD Cert.FinalGainStepIdeal.τ Cert.FinalGainStepIdeal.sig) → Buf (Elt Ideal) ℓ) (g : Dev Cert.FinalGainStepIdeal.nD → PrngReg), Pre_FinalGainStepIdeal m →
    θ_run (Cert.FinalGainStepIdeal.defs (F := Ideal)) (onTc (τ := Cert.FinalGainStepIdeal.τ) (Cert.FinalGainStepIdeal.main (F := Ideal))) ⟨m, fun _ => 0, g⟩ (fun r => (∀ c : Dev Cert.FinalGainStepIdeal.nD,
      r.2.mem ((c.tc : Thread Cert.FinalGainStepIdeal.nD Cert.FinalGainStepIdeal.τ).loc Cert.FinalGainStepIdeal.main_arg0) = m ((c.tc : Thread Cert.FinalGainStepIdeal.nD Cert.FinalGainStepIdeal.τ).loc Cert.FinalGainStepIdeal.main_arg0)
      ∧ r.2.mem ((c.tc : Thread Cert.FinalGainStepIdeal.nD Cert.FinalGainStepIdeal.τ).loc Cert.FinalGainStepIdeal.main_arg1) = m ((c.tc : Thread Cert.FinalGainStepIdeal.nD Cert.FinalGainStepIdeal.τ).loc Cert.FinalGainStepIdeal.main_arg1)
      ∧ r.2.mem ((c.tc : Thread Cert.FinalGainStepIdeal.nD Cert.FinalGainStepIdeal.τ).loc Cert.FinalGainStepIdeal.main_arg2) = m ((c.tc : Thread Cert.FinalGainStepIdeal.nD Cert.FinalGainStepIdeal.τ).loc Cert.FinalGainStepIdeal.main_arg2)
      ∧ r.2.mem ((c.tc : Thread Cert.FinalGainStepIdeal.nD Cert.FinalGainStepIdeal.τ).loc Cert.FinalGainStepIdeal.main_arg3) = m ((c.tc : Thread Cert.FinalGainStepIdeal.nD Cert.FinalGainStepIdeal.τ).loc Cert.FinalGainStepIdeal.main_arg3))
      ∧ r.2.sem = fun _ => 0)

def quiescent_FinalGainStepReferenceIdeal [hFinalGainStepReferenceIdeal : Cert.FinalGainStepReferenceIdeal.Facts] : Prop :=
  ∀ (m : (ℓ : Loc Cert.FinalGainStepReferenceIdeal.nD Cert.FinalGainStepReferenceIdeal.τ Cert.FinalGainStepReferenceIdeal.sig) → Buf (Elt Ideal) ℓ) (g : Dev Cert.FinalGainStepReferenceIdeal.nD → PrngReg), Pre_FinalGainStepReferenceIdeal m →
    θ_run (Cert.FinalGainStepReferenceIdeal.defs (F := Ideal)) (onTc (τ := Cert.FinalGainStepReferenceIdeal.τ) (Cert.FinalGainStepReferenceIdeal.main (F := Ideal))) ⟨m, fun _ => 0, g⟩ (fun r => (∀ c : Dev Cert.FinalGainStepReferenceIdeal.nD,
      r.2.mem ((c.tc : Thread Cert.FinalGainStepReferenceIdeal.nD Cert.FinalGainStepReferenceIdeal.τ).loc Cert.FinalGainStepReferenceIdeal.main_arg0) = m ((c.tc : Thread Cert.FinalGainStepReferenceIdeal.nD Cert.FinalGainStepReferenceIdeal.τ).loc Cert.FinalGainStepReferenceIdeal.main_arg0)
      ∧ r.2.mem ((c.tc : Thread Cert.FinalGainStepReferenceIdeal.nD Cert.FinalGainStepReferenceIdeal.τ).loc Cert.FinalGainStepReferenceIdeal.main_arg1) = m ((c.tc : Thread Cert.FinalGainStepReferenceIdeal.nD Cert.FinalGainStepReferenceIdeal.τ).loc Cert.FinalGainStepReferenceIdeal.main_arg1)
      ∧ r.2.mem ((c.tc : Thread Cert.FinalGainStepReferenceIdeal.nD Cert.FinalGainStepReferenceIdeal.τ).loc Cert.FinalGainStepReferenceIdeal.main_arg2) = m ((c.tc : Thread Cert.FinalGainStepReferenceIdeal.nD Cert.FinalGainStepReferenceIdeal.τ).loc Cert.FinalGainStepReferenceIdeal.main_arg2)
      ∧ r.2.mem ((c.tc : Thread Cert.FinalGainStepReferenceIdeal.nD Cert.FinalGainStepReferenceIdeal.τ).loc Cert.FinalGainStepReferenceIdeal.main_arg3) = m ((c.tc : Thread Cert.FinalGainStepReferenceIdeal.nD Cert.FinalGainStepReferenceIdeal.τ).loc Cert.FinalGainStepReferenceIdeal.main_arg3))
      ∧ r.2.sem = fun _ => 0)

def quiescent_GatingNormStep [hGatingNormStep : Cert.GatingNormStep.Facts] : Prop :=
  ∀ (m : (ℓ : Loc Cert.GatingNormStep.nD Cert.GatingNormStep.τ Cert.GatingNormStep.sig) → Buf (Elt Bits) ℓ) (g : Dev Cert.GatingNormStep.nD → PrngReg), Pre_GatingNormStep m →
    θ_run (Cert.GatingNormStep.defs (F := Bits)) (onTc (τ := Cert.GatingNormStep.τ) (Cert.GatingNormStep.main (F := Bits))) ⟨m, fun _ => 0, g⟩ (fun r => (∀ c : Dev Cert.GatingNormStep.nD,
      r.2.mem ((c.tc : Thread Cert.GatingNormStep.nD Cert.GatingNormStep.τ).loc Cert.GatingNormStep.main_arg0) = m ((c.tc : Thread Cert.GatingNormStep.nD Cert.GatingNormStep.τ).loc Cert.GatingNormStep.main_arg0)
      ∧ r.2.mem ((c.tc : Thread Cert.GatingNormStep.nD Cert.GatingNormStep.τ).loc Cert.GatingNormStep.main_arg1) = m ((c.tc : Thread Cert.GatingNormStep.nD Cert.GatingNormStep.τ).loc Cert.GatingNormStep.main_arg1)
      ∧ r.2.mem ((c.tc : Thread Cert.GatingNormStep.nD Cert.GatingNormStep.τ).loc Cert.GatingNormStep.main_arg2) = m ((c.tc : Thread Cert.GatingNormStep.nD Cert.GatingNormStep.τ).loc Cert.GatingNormStep.main_arg2)
      ∧ r.2.mem ((c.tc : Thread Cert.GatingNormStep.nD Cert.GatingNormStep.τ).loc Cert.GatingNormStep.main_arg3) = m ((c.tc : Thread Cert.GatingNormStep.nD Cert.GatingNormStep.τ).loc Cert.GatingNormStep.main_arg3))
      ∧ r.2.sem = fun _ => 0)

def quiescent_GatingNormStepIdeal [hGatingNormStepIdeal : Cert.GatingNormStepIdeal.Facts] : Prop :=
  ∀ (m : (ℓ : Loc Cert.GatingNormStepIdeal.nD Cert.GatingNormStepIdeal.τ Cert.GatingNormStepIdeal.sig) → Buf (Elt Ideal) ℓ) (g : Dev Cert.GatingNormStepIdeal.nD → PrngReg), Pre_GatingNormStepIdeal m →
    θ_run (Cert.GatingNormStepIdeal.defs (F := Ideal)) (onTc (τ := Cert.GatingNormStepIdeal.τ) (Cert.GatingNormStepIdeal.main (F := Ideal))) ⟨m, fun _ => 0, g⟩ (fun r => (∀ c : Dev Cert.GatingNormStepIdeal.nD,
      r.2.mem ((c.tc : Thread Cert.GatingNormStepIdeal.nD Cert.GatingNormStepIdeal.τ).loc Cert.GatingNormStepIdeal.main_arg0) = m ((c.tc : Thread Cert.GatingNormStepIdeal.nD Cert.GatingNormStepIdeal.τ).loc Cert.GatingNormStepIdeal.main_arg0)
      ∧ r.2.mem ((c.tc : Thread Cert.GatingNormStepIdeal.nD Cert.GatingNormStepIdeal.τ).loc Cert.GatingNormStepIdeal.main_arg1) = m ((c.tc : Thread Cert.GatingNormStepIdeal.nD Cert.GatingNormStepIdeal.τ).loc Cert.GatingNormStepIdeal.main_arg1)
      ∧ r.2.mem ((c.tc : Thread Cert.GatingNormStepIdeal.nD Cert.GatingNormStepIdeal.τ).loc Cert.GatingNormStepIdeal.main_arg2) = m ((c.tc : Thread Cert.GatingNormStepIdeal.nD Cert.GatingNormStepIdeal.τ).loc Cert.GatingNormStepIdeal.main_arg2)
      ∧ r.2.mem ((c.tc : Thread Cert.GatingNormStepIdeal.nD Cert.GatingNormStepIdeal.τ).loc Cert.GatingNormStepIdeal.main_arg3) = m ((c.tc : Thread Cert.GatingNormStepIdeal.nD Cert.GatingNormStepIdeal.τ).loc Cert.GatingNormStepIdeal.main_arg3))
      ∧ r.2.sem = fun _ => 0)

def quiescent_GatingNormStepReferenceIdeal [hGatingNormStepReferenceIdeal : Cert.GatingNormStepReferenceIdeal.Facts] : Prop :=
  ∀ (m : (ℓ : Loc Cert.GatingNormStepReferenceIdeal.nD Cert.GatingNormStepReferenceIdeal.τ Cert.GatingNormStepReferenceIdeal.sig) → Buf (Elt Ideal) ℓ) (g : Dev Cert.GatingNormStepReferenceIdeal.nD → PrngReg), Pre_GatingNormStepReferenceIdeal m →
    θ_run (Cert.GatingNormStepReferenceIdeal.defs (F := Ideal)) (onTc (τ := Cert.GatingNormStepReferenceIdeal.τ) (Cert.GatingNormStepReferenceIdeal.main (F := Ideal))) ⟨m, fun _ => 0, g⟩ (fun r => (∀ c : Dev Cert.GatingNormStepReferenceIdeal.nD,
      r.2.mem ((c.tc : Thread Cert.GatingNormStepReferenceIdeal.nD Cert.GatingNormStepReferenceIdeal.τ).loc Cert.GatingNormStepReferenceIdeal.main_arg0) = m ((c.tc : Thread Cert.GatingNormStepReferenceIdeal.nD Cert.GatingNormStepReferenceIdeal.τ).loc Cert.GatingNormStepReferenceIdeal.main_arg0)
      ∧ r.2.mem ((c.tc : Thread Cert.GatingNormStepReferenceIdeal.nD Cert.GatingNormStepReferenceIdeal.τ).loc Cert.GatingNormStepReferenceIdeal.main_arg1) = m ((c.tc : Thread Cert.GatingNormStepReferenceIdeal.nD Cert.GatingNormStepReferenceIdeal.τ).loc Cert.GatingNormStepReferenceIdeal.main_arg1)
      ∧ r.2.mem ((c.tc : Thread Cert.GatingNormStepReferenceIdeal.nD Cert.GatingNormStepReferenceIdeal.τ).loc Cert.GatingNormStepReferenceIdeal.main_arg2) = m ((c.tc : Thread Cert.GatingNormStepReferenceIdeal.nD Cert.GatingNormStepReferenceIdeal.τ).loc Cert.GatingNormStepReferenceIdeal.main_arg2)
      ∧ r.2.mem ((c.tc : Thread Cert.GatingNormStepReferenceIdeal.nD Cert.GatingNormStepReferenceIdeal.τ).loc Cert.GatingNormStepReferenceIdeal.main_arg3) = m ((c.tc : Thread Cert.GatingNormStepReferenceIdeal.nD Cert.GatingNormStepReferenceIdeal.τ).loc Cert.GatingNormStepReferenceIdeal.main_arg3))
      ∧ r.2.sem = fun _ => 0)

def quiescent_SpatialWeightStep [hSpatialWeightStep : Cert.SpatialWeightStep.Facts] : Prop :=
  ∀ (m : (ℓ : Loc Cert.SpatialWeightStep.nD Cert.SpatialWeightStep.τ Cert.SpatialWeightStep.sig) → Buf (Elt Bits) ℓ) (g : Dev Cert.SpatialWeightStep.nD → PrngReg), Pre_SpatialWeightStep m →
    θ_run (Cert.SpatialWeightStep.defs (F := Bits)) (onTc (τ := Cert.SpatialWeightStep.τ) (Cert.SpatialWeightStep.main (F := Bits))) ⟨m, fun _ => 0, g⟩ (fun r => (∀ c : Dev Cert.SpatialWeightStep.nD,
      r.2.mem ((c.tc : Thread Cert.SpatialWeightStep.nD Cert.SpatialWeightStep.τ).loc Cert.SpatialWeightStep.main_arg0) = m ((c.tc : Thread Cert.SpatialWeightStep.nD Cert.SpatialWeightStep.τ).loc Cert.SpatialWeightStep.main_arg0)
      ∧ r.2.mem ((c.tc : Thread Cert.SpatialWeightStep.nD Cert.SpatialWeightStep.τ).loc Cert.SpatialWeightStep.main_arg1) = m ((c.tc : Thread Cert.SpatialWeightStep.nD Cert.SpatialWeightStep.τ).loc Cert.SpatialWeightStep.main_arg1)
      ∧ r.2.mem ((c.tc : Thread Cert.SpatialWeightStep.nD Cert.SpatialWeightStep.τ).loc Cert.SpatialWeightStep.main_arg2) = m ((c.tc : Thread Cert.SpatialWeightStep.nD Cert.SpatialWeightStep.τ).loc Cert.SpatialWeightStep.main_arg2)
      ∧ r.2.mem ((c.tc : Thread Cert.SpatialWeightStep.nD Cert.SpatialWeightStep.τ).loc Cert.SpatialWeightStep.main_arg3) = m ((c.tc : Thread Cert.SpatialWeightStep.nD Cert.SpatialWeightStep.τ).loc Cert.SpatialWeightStep.main_arg3))
      ∧ r.2.sem = fun _ => 0)

def quiescent_SpatialWeightStepIdeal [hSpatialWeightStepIdeal : Cert.SpatialWeightStepIdeal.Facts] : Prop :=
  ∀ (m : (ℓ : Loc Cert.SpatialWeightStepIdeal.nD Cert.SpatialWeightStepIdeal.τ Cert.SpatialWeightStepIdeal.sig) → Buf (Elt Ideal) ℓ) (g : Dev Cert.SpatialWeightStepIdeal.nD → PrngReg), Pre_SpatialWeightStepIdeal m →
    θ_run (Cert.SpatialWeightStepIdeal.defs (F := Ideal)) (onTc (τ := Cert.SpatialWeightStepIdeal.τ) (Cert.SpatialWeightStepIdeal.main (F := Ideal))) ⟨m, fun _ => 0, g⟩ (fun r => (∀ c : Dev Cert.SpatialWeightStepIdeal.nD,
      r.2.mem ((c.tc : Thread Cert.SpatialWeightStepIdeal.nD Cert.SpatialWeightStepIdeal.τ).loc Cert.SpatialWeightStepIdeal.main_arg0) = m ((c.tc : Thread Cert.SpatialWeightStepIdeal.nD Cert.SpatialWeightStepIdeal.τ).loc Cert.SpatialWeightStepIdeal.main_arg0)
      ∧ r.2.mem ((c.tc : Thread Cert.SpatialWeightStepIdeal.nD Cert.SpatialWeightStepIdeal.τ).loc Cert.SpatialWeightStepIdeal.main_arg1) = m ((c.tc : Thread Cert.SpatialWeightStepIdeal.nD Cert.SpatialWeightStepIdeal.τ).loc Cert.SpatialWeightStepIdeal.main_arg1)
      ∧ r.2.mem ((c.tc : Thread Cert.SpatialWeightStepIdeal.nD Cert.SpatialWeightStepIdeal.τ).loc Cert.SpatialWeightStepIdeal.main_arg2) = m ((c.tc : Thread Cert.SpatialWeightStepIdeal.nD Cert.SpatialWeightStepIdeal.τ).loc Cert.SpatialWeightStepIdeal.main_arg2)
      ∧ r.2.mem ((c.tc : Thread Cert.SpatialWeightStepIdeal.nD Cert.SpatialWeightStepIdeal.τ).loc Cert.SpatialWeightStepIdeal.main_arg3) = m ((c.tc : Thread Cert.SpatialWeightStepIdeal.nD Cert.SpatialWeightStepIdeal.τ).loc Cert.SpatialWeightStepIdeal.main_arg3))
      ∧ r.2.sem = fun _ => 0)

def quiescent_SpatialWeightStepReferenceIdeal [hSpatialWeightStepReferenceIdeal : Cert.SpatialWeightStepReferenceIdeal.Facts] : Prop :=
  ∀ (m : (ℓ : Loc Cert.SpatialWeightStepReferenceIdeal.nD Cert.SpatialWeightStepReferenceIdeal.τ Cert.SpatialWeightStepReferenceIdeal.sig) → Buf (Elt Ideal) ℓ) (g : Dev Cert.SpatialWeightStepReferenceIdeal.nD → PrngReg), Pre_SpatialWeightStepReferenceIdeal m →
    θ_run (Cert.SpatialWeightStepReferenceIdeal.defs (F := Ideal)) (onTc (τ := Cert.SpatialWeightStepReferenceIdeal.τ) (Cert.SpatialWeightStepReferenceIdeal.main (F := Ideal))) ⟨m, fun _ => 0, g⟩ (fun r => (∀ c : Dev Cert.SpatialWeightStepReferenceIdeal.nD,
      r.2.mem ((c.tc : Thread Cert.SpatialWeightStepReferenceIdeal.nD Cert.SpatialWeightStepReferenceIdeal.τ).loc Cert.SpatialWeightStepReferenceIdeal.main_arg0) = m ((c.tc : Thread Cert.SpatialWeightStepReferenceIdeal.nD Cert.SpatialWeightStepReferenceIdeal.τ).loc Cert.SpatialWeightStepReferenceIdeal.main_arg0)
      ∧ r.2.mem ((c.tc : Thread Cert.SpatialWeightStepReferenceIdeal.nD Cert.SpatialWeightStepReferenceIdeal.τ).loc Cert.SpatialWeightStepReferenceIdeal.main_arg1) = m ((c.tc : Thread Cert.SpatialWeightStepReferenceIdeal.nD Cert.SpatialWeightStepReferenceIdeal.τ).loc Cert.SpatialWeightStepReferenceIdeal.main_arg1)
      ∧ r.2.mem ((c.tc : Thread Cert.SpatialWeightStepReferenceIdeal.nD Cert.SpatialWeightStepReferenceIdeal.τ).loc Cert.SpatialWeightStepReferenceIdeal.main_arg2) = m ((c.tc : Thread Cert.SpatialWeightStepReferenceIdeal.nD Cert.SpatialWeightStepReferenceIdeal.τ).loc Cert.SpatialWeightStepReferenceIdeal.main_arg2)
      ∧ r.2.mem ((c.tc : Thread Cert.SpatialWeightStepReferenceIdeal.nD Cert.SpatialWeightStepReferenceIdeal.τ).loc Cert.SpatialWeightStepReferenceIdeal.main_arg3) = m ((c.tc : Thread Cert.SpatialWeightStepReferenceIdeal.nD Cert.SpatialWeightStepReferenceIdeal.τ).loc Cert.SpatialWeightStepReferenceIdeal.main_arg3))
      ∧ r.2.sem = fun _ => 0)

def quiescent_SpatialBiasStep [hSpatialBiasStep : Cert.SpatialBiasStep.Facts] : Prop :=
  ∀ (m : (ℓ : Loc Cert.SpatialBiasStep.nD Cert.SpatialBiasStep.τ Cert.SpatialBiasStep.sig) → Buf (Elt Bits) ℓ) (g : Dev Cert.SpatialBiasStep.nD → PrngReg), Pre_SpatialBiasStep m →
    θ_run (Cert.SpatialBiasStep.defs (F := Bits)) (onTc (τ := Cert.SpatialBiasStep.τ) (Cert.SpatialBiasStep.main (F := Bits))) ⟨m, fun _ => 0, g⟩ (fun r => (∀ c : Dev Cert.SpatialBiasStep.nD,
      r.2.mem ((c.tc : Thread Cert.SpatialBiasStep.nD Cert.SpatialBiasStep.τ).loc Cert.SpatialBiasStep.main_arg0) = m ((c.tc : Thread Cert.SpatialBiasStep.nD Cert.SpatialBiasStep.τ).loc Cert.SpatialBiasStep.main_arg0)
      ∧ r.2.mem ((c.tc : Thread Cert.SpatialBiasStep.nD Cert.SpatialBiasStep.τ).loc Cert.SpatialBiasStep.main_arg1) = m ((c.tc : Thread Cert.SpatialBiasStep.nD Cert.SpatialBiasStep.τ).loc Cert.SpatialBiasStep.main_arg1)
      ∧ r.2.mem ((c.tc : Thread Cert.SpatialBiasStep.nD Cert.SpatialBiasStep.τ).loc Cert.SpatialBiasStep.main_arg2) = m ((c.tc : Thread Cert.SpatialBiasStep.nD Cert.SpatialBiasStep.τ).loc Cert.SpatialBiasStep.main_arg2)
      ∧ r.2.mem ((c.tc : Thread Cert.SpatialBiasStep.nD Cert.SpatialBiasStep.τ).loc Cert.SpatialBiasStep.main_arg3) = m ((c.tc : Thread Cert.SpatialBiasStep.nD Cert.SpatialBiasStep.τ).loc Cert.SpatialBiasStep.main_arg3))
      ∧ r.2.sem = fun _ => 0)

def quiescent_SpatialBiasStepIdeal [hSpatialBiasStepIdeal : Cert.SpatialBiasStepIdeal.Facts] : Prop :=
  ∀ (m : (ℓ : Loc Cert.SpatialBiasStepIdeal.nD Cert.SpatialBiasStepIdeal.τ Cert.SpatialBiasStepIdeal.sig) → Buf (Elt Ideal) ℓ) (g : Dev Cert.SpatialBiasStepIdeal.nD → PrngReg), Pre_SpatialBiasStepIdeal m →
    θ_run (Cert.SpatialBiasStepIdeal.defs (F := Ideal)) (onTc (τ := Cert.SpatialBiasStepIdeal.τ) (Cert.SpatialBiasStepIdeal.main (F := Ideal))) ⟨m, fun _ => 0, g⟩ (fun r => (∀ c : Dev Cert.SpatialBiasStepIdeal.nD,
      r.2.mem ((c.tc : Thread Cert.SpatialBiasStepIdeal.nD Cert.SpatialBiasStepIdeal.τ).loc Cert.SpatialBiasStepIdeal.main_arg0) = m ((c.tc : Thread Cert.SpatialBiasStepIdeal.nD Cert.SpatialBiasStepIdeal.τ).loc Cert.SpatialBiasStepIdeal.main_arg0)
      ∧ r.2.mem ((c.tc : Thread Cert.SpatialBiasStepIdeal.nD Cert.SpatialBiasStepIdeal.τ).loc Cert.SpatialBiasStepIdeal.main_arg1) = m ((c.tc : Thread Cert.SpatialBiasStepIdeal.nD Cert.SpatialBiasStepIdeal.τ).loc Cert.SpatialBiasStepIdeal.main_arg1)
      ∧ r.2.mem ((c.tc : Thread Cert.SpatialBiasStepIdeal.nD Cert.SpatialBiasStepIdeal.τ).loc Cert.SpatialBiasStepIdeal.main_arg2) = m ((c.tc : Thread Cert.SpatialBiasStepIdeal.nD Cert.SpatialBiasStepIdeal.τ).loc Cert.SpatialBiasStepIdeal.main_arg2)
      ∧ r.2.mem ((c.tc : Thread Cert.SpatialBiasStepIdeal.nD Cert.SpatialBiasStepIdeal.τ).loc Cert.SpatialBiasStepIdeal.main_arg3) = m ((c.tc : Thread Cert.SpatialBiasStepIdeal.nD Cert.SpatialBiasStepIdeal.τ).loc Cert.SpatialBiasStepIdeal.main_arg3))
      ∧ r.2.sem = fun _ => 0)

def quiescent_SpatialBiasStepReferenceIdeal [hSpatialBiasStepReferenceIdeal : Cert.SpatialBiasStepReferenceIdeal.Facts] : Prop :=
  ∀ (m : (ℓ : Loc Cert.SpatialBiasStepReferenceIdeal.nD Cert.SpatialBiasStepReferenceIdeal.τ Cert.SpatialBiasStepReferenceIdeal.sig) → Buf (Elt Ideal) ℓ) (g : Dev Cert.SpatialBiasStepReferenceIdeal.nD → PrngReg), Pre_SpatialBiasStepReferenceIdeal m →
    θ_run (Cert.SpatialBiasStepReferenceIdeal.defs (F := Ideal)) (onTc (τ := Cert.SpatialBiasStepReferenceIdeal.τ) (Cert.SpatialBiasStepReferenceIdeal.main (F := Ideal))) ⟨m, fun _ => 0, g⟩ (fun r => (∀ c : Dev Cert.SpatialBiasStepReferenceIdeal.nD,
      r.2.mem ((c.tc : Thread Cert.SpatialBiasStepReferenceIdeal.nD Cert.SpatialBiasStepReferenceIdeal.τ).loc Cert.SpatialBiasStepReferenceIdeal.main_arg0) = m ((c.tc : Thread Cert.SpatialBiasStepReferenceIdeal.nD Cert.SpatialBiasStepReferenceIdeal.τ).loc Cert.SpatialBiasStepReferenceIdeal.main_arg0)
      ∧ r.2.mem ((c.tc : Thread Cert.SpatialBiasStepReferenceIdeal.nD Cert.SpatialBiasStepReferenceIdeal.τ).loc Cert.SpatialBiasStepReferenceIdeal.main_arg1) = m ((c.tc : Thread Cert.SpatialBiasStepReferenceIdeal.nD Cert.SpatialBiasStepReferenceIdeal.τ).loc Cert.SpatialBiasStepReferenceIdeal.main_arg1)
      ∧ r.2.mem ((c.tc : Thread Cert.SpatialBiasStepReferenceIdeal.nD Cert.SpatialBiasStepReferenceIdeal.τ).loc Cert.SpatialBiasStepReferenceIdeal.main_arg2) = m ((c.tc : Thread Cert.SpatialBiasStepReferenceIdeal.nD Cert.SpatialBiasStepReferenceIdeal.τ).loc Cert.SpatialBiasStepReferenceIdeal.main_arg2)
      ∧ r.2.mem ((c.tc : Thread Cert.SpatialBiasStepReferenceIdeal.nD Cert.SpatialBiasStepReferenceIdeal.τ).loc Cert.SpatialBiasStepReferenceIdeal.main_arg3) = m ((c.tc : Thread Cert.SpatialBiasStepReferenceIdeal.nD Cert.SpatialBiasStepReferenceIdeal.τ).loc Cert.SpatialBiasStepReferenceIdeal.main_arg3))
      ∧ r.2.sem = fun _ => 0)

def quiescent_HeadRowsStep [hHeadRowsStep : Cert.HeadRowsStep.Facts] : Prop :=
  ∀ (m : (ℓ : Loc Cert.HeadRowsStep.nD Cert.HeadRowsStep.τ Cert.HeadRowsStep.sig) → Buf (Elt Bits) ℓ) (g : Dev Cert.HeadRowsStep.nD → PrngReg), Pre_HeadRowsStep m →
    θ_run (Cert.HeadRowsStep.defs (F := Bits)) (onTc (τ := Cert.HeadRowsStep.τ) (Cert.HeadRowsStep.main (F := Bits))) ⟨m, fun _ => 0, g⟩ (fun r => (∀ c : Dev Cert.HeadRowsStep.nD,
      r.2.mem ((c.tc : Thread Cert.HeadRowsStep.nD Cert.HeadRowsStep.τ).loc Cert.HeadRowsStep.main_arg0) = m ((c.tc : Thread Cert.HeadRowsStep.nD Cert.HeadRowsStep.τ).loc Cert.HeadRowsStep.main_arg0)
      ∧ r.2.mem ((c.tc : Thread Cert.HeadRowsStep.nD Cert.HeadRowsStep.τ).loc Cert.HeadRowsStep.main_arg1) = m ((c.tc : Thread Cert.HeadRowsStep.nD Cert.HeadRowsStep.τ).loc Cert.HeadRowsStep.main_arg1)
      ∧ r.2.mem ((c.tc : Thread Cert.HeadRowsStep.nD Cert.HeadRowsStep.τ).loc Cert.HeadRowsStep.main_arg2) = m ((c.tc : Thread Cert.HeadRowsStep.nD Cert.HeadRowsStep.τ).loc Cert.HeadRowsStep.main_arg2)
      ∧ r.2.mem ((c.tc : Thread Cert.HeadRowsStep.nD Cert.HeadRowsStep.τ).loc Cert.HeadRowsStep.main_arg3) = m ((c.tc : Thread Cert.HeadRowsStep.nD Cert.HeadRowsStep.τ).loc Cert.HeadRowsStep.main_arg3))
      ∧ r.2.sem = fun _ => 0)

def quiescent_HeadRowsStepIdeal [hHeadRowsStepIdeal : Cert.HeadRowsStepIdeal.Facts] : Prop :=
  ∀ (m : (ℓ : Loc Cert.HeadRowsStepIdeal.nD Cert.HeadRowsStepIdeal.τ Cert.HeadRowsStepIdeal.sig) → Buf (Elt Ideal) ℓ) (g : Dev Cert.HeadRowsStepIdeal.nD → PrngReg), Pre_HeadRowsStepIdeal m →
    θ_run (Cert.HeadRowsStepIdeal.defs (F := Ideal)) (onTc (τ := Cert.HeadRowsStepIdeal.τ) (Cert.HeadRowsStepIdeal.main (F := Ideal))) ⟨m, fun _ => 0, g⟩ (fun r => (∀ c : Dev Cert.HeadRowsStepIdeal.nD,
      r.2.mem ((c.tc : Thread Cert.HeadRowsStepIdeal.nD Cert.HeadRowsStepIdeal.τ).loc Cert.HeadRowsStepIdeal.main_arg0) = m ((c.tc : Thread Cert.HeadRowsStepIdeal.nD Cert.HeadRowsStepIdeal.τ).loc Cert.HeadRowsStepIdeal.main_arg0)
      ∧ r.2.mem ((c.tc : Thread Cert.HeadRowsStepIdeal.nD Cert.HeadRowsStepIdeal.τ).loc Cert.HeadRowsStepIdeal.main_arg1) = m ((c.tc : Thread Cert.HeadRowsStepIdeal.nD Cert.HeadRowsStepIdeal.τ).loc Cert.HeadRowsStepIdeal.main_arg1)
      ∧ r.2.mem ((c.tc : Thread Cert.HeadRowsStepIdeal.nD Cert.HeadRowsStepIdeal.τ).loc Cert.HeadRowsStepIdeal.main_arg2) = m ((c.tc : Thread Cert.HeadRowsStepIdeal.nD Cert.HeadRowsStepIdeal.τ).loc Cert.HeadRowsStepIdeal.main_arg2)
      ∧ r.2.mem ((c.tc : Thread Cert.HeadRowsStepIdeal.nD Cert.HeadRowsStepIdeal.τ).loc Cert.HeadRowsStepIdeal.main_arg3) = m ((c.tc : Thread Cert.HeadRowsStepIdeal.nD Cert.HeadRowsStepIdeal.τ).loc Cert.HeadRowsStepIdeal.main_arg3))
      ∧ r.2.sem = fun _ => 0)

def quiescent_HeadRowsStepReferenceIdeal [hHeadRowsStepReferenceIdeal : Cert.HeadRowsStepReferenceIdeal.Facts] : Prop :=
  ∀ (m : (ℓ : Loc Cert.HeadRowsStepReferenceIdeal.nD Cert.HeadRowsStepReferenceIdeal.τ Cert.HeadRowsStepReferenceIdeal.sig) → Buf (Elt Ideal) ℓ) (g : Dev Cert.HeadRowsStepReferenceIdeal.nD → PrngReg), Pre_HeadRowsStepReferenceIdeal m →
    θ_run (Cert.HeadRowsStepReferenceIdeal.defs (F := Ideal)) (onTc (τ := Cert.HeadRowsStepReferenceIdeal.τ) (Cert.HeadRowsStepReferenceIdeal.main (F := Ideal))) ⟨m, fun _ => 0, g⟩ (fun r => (∀ c : Dev Cert.HeadRowsStepReferenceIdeal.nD,
      r.2.mem ((c.tc : Thread Cert.HeadRowsStepReferenceIdeal.nD Cert.HeadRowsStepReferenceIdeal.τ).loc Cert.HeadRowsStepReferenceIdeal.main_arg0) = m ((c.tc : Thread Cert.HeadRowsStepReferenceIdeal.nD Cert.HeadRowsStepReferenceIdeal.τ).loc Cert.HeadRowsStepReferenceIdeal.main_arg0)
      ∧ r.2.mem ((c.tc : Thread Cert.HeadRowsStepReferenceIdeal.nD Cert.HeadRowsStepReferenceIdeal.τ).loc Cert.HeadRowsStepReferenceIdeal.main_arg1) = m ((c.tc : Thread Cert.HeadRowsStepReferenceIdeal.nD Cert.HeadRowsStepReferenceIdeal.τ).loc Cert.HeadRowsStepReferenceIdeal.main_arg1)
      ∧ r.2.mem ((c.tc : Thread Cert.HeadRowsStepReferenceIdeal.nD Cert.HeadRowsStepReferenceIdeal.τ).loc Cert.HeadRowsStepReferenceIdeal.main_arg2) = m ((c.tc : Thread Cert.HeadRowsStepReferenceIdeal.nD Cert.HeadRowsStepReferenceIdeal.τ).loc Cert.HeadRowsStepReferenceIdeal.main_arg2)
      ∧ r.2.mem ((c.tc : Thread Cert.HeadRowsStepReferenceIdeal.nD Cert.HeadRowsStepReferenceIdeal.τ).loc Cert.HeadRowsStepReferenceIdeal.main_arg3) = m ((c.tc : Thread Cert.HeadRowsStepReferenceIdeal.nD Cert.HeadRowsStepReferenceIdeal.τ).loc Cert.HeadRowsStepReferenceIdeal.main_arg3))
      ∧ r.2.sem = fun _ => 0)

def quiescent_ConvWeightStep [hConvWeightStep : Cert.ConvWeightStep.Facts] : Prop :=
  ∀ (m : (ℓ : Loc Cert.ConvWeightStep.nD Cert.ConvWeightStep.τ Cert.ConvWeightStep.sig) → Buf (Elt Bits) ℓ) (g : Dev Cert.ConvWeightStep.nD → PrngReg), Pre_ConvWeightStep m →
    θ_run (Cert.ConvWeightStep.defs (F := Bits)) (onTc (τ := Cert.ConvWeightStep.τ) (Cert.ConvWeightStep.main (F := Bits))) ⟨m, fun _ => 0, g⟩ (fun r => (∀ c : Dev Cert.ConvWeightStep.nD,
      r.2.mem ((c.tc : Thread Cert.ConvWeightStep.nD Cert.ConvWeightStep.τ).loc Cert.ConvWeightStep.main_arg0) = m ((c.tc : Thread Cert.ConvWeightStep.nD Cert.ConvWeightStep.τ).loc Cert.ConvWeightStep.main_arg0)
      ∧ r.2.mem ((c.tc : Thread Cert.ConvWeightStep.nD Cert.ConvWeightStep.τ).loc Cert.ConvWeightStep.main_arg1) = m ((c.tc : Thread Cert.ConvWeightStep.nD Cert.ConvWeightStep.τ).loc Cert.ConvWeightStep.main_arg1)
      ∧ r.2.mem ((c.tc : Thread Cert.ConvWeightStep.nD Cert.ConvWeightStep.τ).loc Cert.ConvWeightStep.main_arg2) = m ((c.tc : Thread Cert.ConvWeightStep.nD Cert.ConvWeightStep.τ).loc Cert.ConvWeightStep.main_arg2)
      ∧ r.2.mem ((c.tc : Thread Cert.ConvWeightStep.nD Cert.ConvWeightStep.τ).loc Cert.ConvWeightStep.main_arg3) = m ((c.tc : Thread Cert.ConvWeightStep.nD Cert.ConvWeightStep.τ).loc Cert.ConvWeightStep.main_arg3))
      ∧ r.2.sem = fun _ => 0)

def quiescent_ConvWeightStepIdeal [hConvWeightStepIdeal : Cert.ConvWeightStepIdeal.Facts] : Prop :=
  ∀ (m : (ℓ : Loc Cert.ConvWeightStepIdeal.nD Cert.ConvWeightStepIdeal.τ Cert.ConvWeightStepIdeal.sig) → Buf (Elt Ideal) ℓ) (g : Dev Cert.ConvWeightStepIdeal.nD → PrngReg), Pre_ConvWeightStepIdeal m →
    θ_run (Cert.ConvWeightStepIdeal.defs (F := Ideal)) (onTc (τ := Cert.ConvWeightStepIdeal.τ) (Cert.ConvWeightStepIdeal.main (F := Ideal))) ⟨m, fun _ => 0, g⟩ (fun r => (∀ c : Dev Cert.ConvWeightStepIdeal.nD,
      r.2.mem ((c.tc : Thread Cert.ConvWeightStepIdeal.nD Cert.ConvWeightStepIdeal.τ).loc Cert.ConvWeightStepIdeal.main_arg0) = m ((c.tc : Thread Cert.ConvWeightStepIdeal.nD Cert.ConvWeightStepIdeal.τ).loc Cert.ConvWeightStepIdeal.main_arg0)
      ∧ r.2.mem ((c.tc : Thread Cert.ConvWeightStepIdeal.nD Cert.ConvWeightStepIdeal.τ).loc Cert.ConvWeightStepIdeal.main_arg1) = m ((c.tc : Thread Cert.ConvWeightStepIdeal.nD Cert.ConvWeightStepIdeal.τ).loc Cert.ConvWeightStepIdeal.main_arg1)
      ∧ r.2.mem ((c.tc : Thread Cert.ConvWeightStepIdeal.nD Cert.ConvWeightStepIdeal.τ).loc Cert.ConvWeightStepIdeal.main_arg2) = m ((c.tc : Thread Cert.ConvWeightStepIdeal.nD Cert.ConvWeightStepIdeal.τ).loc Cert.ConvWeightStepIdeal.main_arg2)
      ∧ r.2.mem ((c.tc : Thread Cert.ConvWeightStepIdeal.nD Cert.ConvWeightStepIdeal.τ).loc Cert.ConvWeightStepIdeal.main_arg3) = m ((c.tc : Thread Cert.ConvWeightStepIdeal.nD Cert.ConvWeightStepIdeal.τ).loc Cert.ConvWeightStepIdeal.main_arg3))
      ∧ r.2.sem = fun _ => 0)

def quiescent_ConvWeightStepReferenceIdeal [hConvWeightStepReferenceIdeal : Cert.ConvWeightStepReferenceIdeal.Facts] : Prop :=
  ∀ (m : (ℓ : Loc Cert.ConvWeightStepReferenceIdeal.nD Cert.ConvWeightStepReferenceIdeal.τ Cert.ConvWeightStepReferenceIdeal.sig) → Buf (Elt Ideal) ℓ) (g : Dev Cert.ConvWeightStepReferenceIdeal.nD → PrngReg), Pre_ConvWeightStepReferenceIdeal m →
    θ_run (Cert.ConvWeightStepReferenceIdeal.defs (F := Ideal)) (onTc (τ := Cert.ConvWeightStepReferenceIdeal.τ) (Cert.ConvWeightStepReferenceIdeal.main (F := Ideal))) ⟨m, fun _ => 0, g⟩ (fun r => (∀ c : Dev Cert.ConvWeightStepReferenceIdeal.nD,
      r.2.mem ((c.tc : Thread Cert.ConvWeightStepReferenceIdeal.nD Cert.ConvWeightStepReferenceIdeal.τ).loc Cert.ConvWeightStepReferenceIdeal.main_arg0) = m ((c.tc : Thread Cert.ConvWeightStepReferenceIdeal.nD Cert.ConvWeightStepReferenceIdeal.τ).loc Cert.ConvWeightStepReferenceIdeal.main_arg0)
      ∧ r.2.mem ((c.tc : Thread Cert.ConvWeightStepReferenceIdeal.nD Cert.ConvWeightStepReferenceIdeal.τ).loc Cert.ConvWeightStepReferenceIdeal.main_arg1) = m ((c.tc : Thread Cert.ConvWeightStepReferenceIdeal.nD Cert.ConvWeightStepReferenceIdeal.τ).loc Cert.ConvWeightStepReferenceIdeal.main_arg1)
      ∧ r.2.mem ((c.tc : Thread Cert.ConvWeightStepReferenceIdeal.nD Cert.ConvWeightStepReferenceIdeal.τ).loc Cert.ConvWeightStepReferenceIdeal.main_arg2) = m ((c.tc : Thread Cert.ConvWeightStepReferenceIdeal.nD Cert.ConvWeightStepReferenceIdeal.τ).loc Cert.ConvWeightStepReferenceIdeal.main_arg2)
      ∧ r.2.mem ((c.tc : Thread Cert.ConvWeightStepReferenceIdeal.nD Cert.ConvWeightStepReferenceIdeal.τ).loc Cert.ConvWeightStepReferenceIdeal.main_arg3) = m ((c.tc : Thread Cert.ConvWeightStepReferenceIdeal.nD Cert.ConvWeightStepReferenceIdeal.τ).loc Cert.ConvWeightStepReferenceIdeal.main_arg3))
      ∧ r.2.sem = fun _ => 0)

def quiescent_ConvBiasStep [hConvBiasStep : Cert.ConvBiasStep.Facts] : Prop :=
  ∀ (m : (ℓ : Loc Cert.ConvBiasStep.nD Cert.ConvBiasStep.τ Cert.ConvBiasStep.sig) → Buf (Elt Bits) ℓ) (g : Dev Cert.ConvBiasStep.nD → PrngReg), Pre_ConvBiasStep m →
    θ_run (Cert.ConvBiasStep.defs (F := Bits)) (onTc (τ := Cert.ConvBiasStep.τ) (Cert.ConvBiasStep.main (F := Bits))) ⟨m, fun _ => 0, g⟩ (fun r => (∀ c : Dev Cert.ConvBiasStep.nD,
      r.2.mem ((c.tc : Thread Cert.ConvBiasStep.nD Cert.ConvBiasStep.τ).loc Cert.ConvBiasStep.main_arg0) = m ((c.tc : Thread Cert.ConvBiasStep.nD Cert.ConvBiasStep.τ).loc Cert.ConvBiasStep.main_arg0)
      ∧ r.2.mem ((c.tc : Thread Cert.ConvBiasStep.nD Cert.ConvBiasStep.τ).loc Cert.ConvBiasStep.main_arg1) = m ((c.tc : Thread Cert.ConvBiasStep.nD Cert.ConvBiasStep.τ).loc Cert.ConvBiasStep.main_arg1)
      ∧ r.2.mem ((c.tc : Thread Cert.ConvBiasStep.nD Cert.ConvBiasStep.τ).loc Cert.ConvBiasStep.main_arg2) = m ((c.tc : Thread Cert.ConvBiasStep.nD Cert.ConvBiasStep.τ).loc Cert.ConvBiasStep.main_arg2)
      ∧ r.2.mem ((c.tc : Thread Cert.ConvBiasStep.nD Cert.ConvBiasStep.τ).loc Cert.ConvBiasStep.main_arg3) = m ((c.tc : Thread Cert.ConvBiasStep.nD Cert.ConvBiasStep.τ).loc Cert.ConvBiasStep.main_arg3))
      ∧ r.2.sem = fun _ => 0)

def quiescent_ConvBiasStepIdeal [hConvBiasStepIdeal : Cert.ConvBiasStepIdeal.Facts] : Prop :=
  ∀ (m : (ℓ : Loc Cert.ConvBiasStepIdeal.nD Cert.ConvBiasStepIdeal.τ Cert.ConvBiasStepIdeal.sig) → Buf (Elt Ideal) ℓ) (g : Dev Cert.ConvBiasStepIdeal.nD → PrngReg), Pre_ConvBiasStepIdeal m →
    θ_run (Cert.ConvBiasStepIdeal.defs (F := Ideal)) (onTc (τ := Cert.ConvBiasStepIdeal.τ) (Cert.ConvBiasStepIdeal.main (F := Ideal))) ⟨m, fun _ => 0, g⟩ (fun r => (∀ c : Dev Cert.ConvBiasStepIdeal.nD,
      r.2.mem ((c.tc : Thread Cert.ConvBiasStepIdeal.nD Cert.ConvBiasStepIdeal.τ).loc Cert.ConvBiasStepIdeal.main_arg0) = m ((c.tc : Thread Cert.ConvBiasStepIdeal.nD Cert.ConvBiasStepIdeal.τ).loc Cert.ConvBiasStepIdeal.main_arg0)
      ∧ r.2.mem ((c.tc : Thread Cert.ConvBiasStepIdeal.nD Cert.ConvBiasStepIdeal.τ).loc Cert.ConvBiasStepIdeal.main_arg1) = m ((c.tc : Thread Cert.ConvBiasStepIdeal.nD Cert.ConvBiasStepIdeal.τ).loc Cert.ConvBiasStepIdeal.main_arg1)
      ∧ r.2.mem ((c.tc : Thread Cert.ConvBiasStepIdeal.nD Cert.ConvBiasStepIdeal.τ).loc Cert.ConvBiasStepIdeal.main_arg2) = m ((c.tc : Thread Cert.ConvBiasStepIdeal.nD Cert.ConvBiasStepIdeal.τ).loc Cert.ConvBiasStepIdeal.main_arg2)
      ∧ r.2.mem ((c.tc : Thread Cert.ConvBiasStepIdeal.nD Cert.ConvBiasStepIdeal.τ).loc Cert.ConvBiasStepIdeal.main_arg3) = m ((c.tc : Thread Cert.ConvBiasStepIdeal.nD Cert.ConvBiasStepIdeal.τ).loc Cert.ConvBiasStepIdeal.main_arg3))
      ∧ r.2.sem = fun _ => 0)

def quiescent_ConvBiasStepReferenceIdeal [hConvBiasStepReferenceIdeal : Cert.ConvBiasStepReferenceIdeal.Facts] : Prop :=
  ∀ (m : (ℓ : Loc Cert.ConvBiasStepReferenceIdeal.nD Cert.ConvBiasStepReferenceIdeal.τ Cert.ConvBiasStepReferenceIdeal.sig) → Buf (Elt Ideal) ℓ) (g : Dev Cert.ConvBiasStepReferenceIdeal.nD → PrngReg), Pre_ConvBiasStepReferenceIdeal m →
    θ_run (Cert.ConvBiasStepReferenceIdeal.defs (F := Ideal)) (onTc (τ := Cert.ConvBiasStepReferenceIdeal.τ) (Cert.ConvBiasStepReferenceIdeal.main (F := Ideal))) ⟨m, fun _ => 0, g⟩ (fun r => (∀ c : Dev Cert.ConvBiasStepReferenceIdeal.nD,
      r.2.mem ((c.tc : Thread Cert.ConvBiasStepReferenceIdeal.nD Cert.ConvBiasStepReferenceIdeal.τ).loc Cert.ConvBiasStepReferenceIdeal.main_arg0) = m ((c.tc : Thread Cert.ConvBiasStepReferenceIdeal.nD Cert.ConvBiasStepReferenceIdeal.τ).loc Cert.ConvBiasStepReferenceIdeal.main_arg0)
      ∧ r.2.mem ((c.tc : Thread Cert.ConvBiasStepReferenceIdeal.nD Cert.ConvBiasStepReferenceIdeal.τ).loc Cert.ConvBiasStepReferenceIdeal.main_arg1) = m ((c.tc : Thread Cert.ConvBiasStepReferenceIdeal.nD Cert.ConvBiasStepReferenceIdeal.τ).loc Cert.ConvBiasStepReferenceIdeal.main_arg1)
      ∧ r.2.mem ((c.tc : Thread Cert.ConvBiasStepReferenceIdeal.nD Cert.ConvBiasStepReferenceIdeal.τ).loc Cert.ConvBiasStepReferenceIdeal.main_arg2) = m ((c.tc : Thread Cert.ConvBiasStepReferenceIdeal.nD Cert.ConvBiasStepReferenceIdeal.τ).loc Cert.ConvBiasStepReferenceIdeal.main_arg2)
      ∧ r.2.mem ((c.tc : Thread Cert.ConvBiasStepReferenceIdeal.nD Cert.ConvBiasStepReferenceIdeal.τ).loc Cert.ConvBiasStepReferenceIdeal.main_arg3) = m ((c.tc : Thread Cert.ConvBiasStepReferenceIdeal.nD Cert.ConvBiasStepReferenceIdeal.τ).loc Cert.ConvBiasStepReferenceIdeal.main_arg3))
      ∧ r.2.sem = fun _ => 0)

def quiescent_AdaBiasStep [hAdaBiasStep : Cert.AdaBiasStep.Facts] : Prop :=
  ∀ (m : (ℓ : Loc Cert.AdaBiasStep.nD Cert.AdaBiasStep.τ Cert.AdaBiasStep.sig) → Buf (Elt Bits) ℓ) (g : Dev Cert.AdaBiasStep.nD → PrngReg), Pre_AdaBiasStep m →
    θ_run (Cert.AdaBiasStep.defs (F := Bits)) (onTc (τ := Cert.AdaBiasStep.τ) (Cert.AdaBiasStep.main (F := Bits))) ⟨m, fun _ => 0, g⟩ (fun r => (∀ c : Dev Cert.AdaBiasStep.nD,
      r.2.mem ((c.tc : Thread Cert.AdaBiasStep.nD Cert.AdaBiasStep.τ).loc Cert.AdaBiasStep.main_arg0) = m ((c.tc : Thread Cert.AdaBiasStep.nD Cert.AdaBiasStep.τ).loc Cert.AdaBiasStep.main_arg0)
      ∧ r.2.mem ((c.tc : Thread Cert.AdaBiasStep.nD Cert.AdaBiasStep.τ).loc Cert.AdaBiasStep.main_arg1) = m ((c.tc : Thread Cert.AdaBiasStep.nD Cert.AdaBiasStep.τ).loc Cert.AdaBiasStep.main_arg1)
      ∧ r.2.mem ((c.tc : Thread Cert.AdaBiasStep.nD Cert.AdaBiasStep.τ).loc Cert.AdaBiasStep.main_arg2) = m ((c.tc : Thread Cert.AdaBiasStep.nD Cert.AdaBiasStep.τ).loc Cert.AdaBiasStep.main_arg2)
      ∧ r.2.mem ((c.tc : Thread Cert.AdaBiasStep.nD Cert.AdaBiasStep.τ).loc Cert.AdaBiasStep.main_arg3) = m ((c.tc : Thread Cert.AdaBiasStep.nD Cert.AdaBiasStep.τ).loc Cert.AdaBiasStep.main_arg3))
      ∧ r.2.sem = fun _ => 0)

def quiescent_AdaBiasStepIdeal [hAdaBiasStepIdeal : Cert.AdaBiasStepIdeal.Facts] : Prop :=
  ∀ (m : (ℓ : Loc Cert.AdaBiasStepIdeal.nD Cert.AdaBiasStepIdeal.τ Cert.AdaBiasStepIdeal.sig) → Buf (Elt Ideal) ℓ) (g : Dev Cert.AdaBiasStepIdeal.nD → PrngReg), Pre_AdaBiasStepIdeal m →
    θ_run (Cert.AdaBiasStepIdeal.defs (F := Ideal)) (onTc (τ := Cert.AdaBiasStepIdeal.τ) (Cert.AdaBiasStepIdeal.main (F := Ideal))) ⟨m, fun _ => 0, g⟩ (fun r => (∀ c : Dev Cert.AdaBiasStepIdeal.nD,
      r.2.mem ((c.tc : Thread Cert.AdaBiasStepIdeal.nD Cert.AdaBiasStepIdeal.τ).loc Cert.AdaBiasStepIdeal.main_arg0) = m ((c.tc : Thread Cert.AdaBiasStepIdeal.nD Cert.AdaBiasStepIdeal.τ).loc Cert.AdaBiasStepIdeal.main_arg0)
      ∧ r.2.mem ((c.tc : Thread Cert.AdaBiasStepIdeal.nD Cert.AdaBiasStepIdeal.τ).loc Cert.AdaBiasStepIdeal.main_arg1) = m ((c.tc : Thread Cert.AdaBiasStepIdeal.nD Cert.AdaBiasStepIdeal.τ).loc Cert.AdaBiasStepIdeal.main_arg1)
      ∧ r.2.mem ((c.tc : Thread Cert.AdaBiasStepIdeal.nD Cert.AdaBiasStepIdeal.τ).loc Cert.AdaBiasStepIdeal.main_arg2) = m ((c.tc : Thread Cert.AdaBiasStepIdeal.nD Cert.AdaBiasStepIdeal.τ).loc Cert.AdaBiasStepIdeal.main_arg2)
      ∧ r.2.mem ((c.tc : Thread Cert.AdaBiasStepIdeal.nD Cert.AdaBiasStepIdeal.τ).loc Cert.AdaBiasStepIdeal.main_arg3) = m ((c.tc : Thread Cert.AdaBiasStepIdeal.nD Cert.AdaBiasStepIdeal.τ).loc Cert.AdaBiasStepIdeal.main_arg3))
      ∧ r.2.sem = fun _ => 0)

def quiescent_AdaBiasStepReferenceIdeal [hAdaBiasStepReferenceIdeal : Cert.AdaBiasStepReferenceIdeal.Facts] : Prop :=
  ∀ (m : (ℓ : Loc Cert.AdaBiasStepReferenceIdeal.nD Cert.AdaBiasStepReferenceIdeal.τ Cert.AdaBiasStepReferenceIdeal.sig) → Buf (Elt Ideal) ℓ) (g : Dev Cert.AdaBiasStepReferenceIdeal.nD → PrngReg), Pre_AdaBiasStepReferenceIdeal m →
    θ_run (Cert.AdaBiasStepReferenceIdeal.defs (F := Ideal)) (onTc (τ := Cert.AdaBiasStepReferenceIdeal.τ) (Cert.AdaBiasStepReferenceIdeal.main (F := Ideal))) ⟨m, fun _ => 0, g⟩ (fun r => (∀ c : Dev Cert.AdaBiasStepReferenceIdeal.nD,
      r.2.mem ((c.tc : Thread Cert.AdaBiasStepReferenceIdeal.nD Cert.AdaBiasStepReferenceIdeal.τ).loc Cert.AdaBiasStepReferenceIdeal.main_arg0) = m ((c.tc : Thread Cert.AdaBiasStepReferenceIdeal.nD Cert.AdaBiasStepReferenceIdeal.τ).loc Cert.AdaBiasStepReferenceIdeal.main_arg0)
      ∧ r.2.mem ((c.tc : Thread Cert.AdaBiasStepReferenceIdeal.nD Cert.AdaBiasStepReferenceIdeal.τ).loc Cert.AdaBiasStepReferenceIdeal.main_arg1) = m ((c.tc : Thread Cert.AdaBiasStepReferenceIdeal.nD Cert.AdaBiasStepReferenceIdeal.τ).loc Cert.AdaBiasStepReferenceIdeal.main_arg1)
      ∧ r.2.mem ((c.tc : Thread Cert.AdaBiasStepReferenceIdeal.nD Cert.AdaBiasStepReferenceIdeal.τ).loc Cert.AdaBiasStepReferenceIdeal.main_arg2) = m ((c.tc : Thread Cert.AdaBiasStepReferenceIdeal.nD Cert.AdaBiasStepReferenceIdeal.τ).loc Cert.AdaBiasStepReferenceIdeal.main_arg2)
      ∧ r.2.mem ((c.tc : Thread Cert.AdaBiasStepReferenceIdeal.nD Cert.AdaBiasStepReferenceIdeal.τ).loc Cert.AdaBiasStepReferenceIdeal.main_arg3) = m ((c.tc : Thread Cert.AdaBiasStepReferenceIdeal.nD Cert.AdaBiasStepReferenceIdeal.τ).loc Cert.AdaBiasStepReferenceIdeal.main_arg3))
      ∧ r.2.sem = fun _ => 0)

def quiescent_AdaBiasSum [hAdaBiasSum : Cert.AdaBiasSum.Facts] : Prop :=
  ∀ (m : (ℓ : Loc Cert.AdaBiasSum.nD Cert.AdaBiasSum.τ Cert.AdaBiasSum.sig) → Buf (Elt Bits) ℓ) (g : Dev Cert.AdaBiasSum.nD → PrngReg), Pre_AdaBiasSum m →
    θ_run (Cert.AdaBiasSum.defs (F := Bits)) (onTc (τ := Cert.AdaBiasSum.τ) (Cert.AdaBiasSum.main (F := Bits))) ⟨m, fun _ => 0, g⟩ (fun r => (∀ c : Dev Cert.AdaBiasSum.nD,
      r.2.mem ((c.tc : Thread Cert.AdaBiasSum.nD Cert.AdaBiasSum.τ).loc Cert.AdaBiasSum.main_arg0) = m ((c.tc : Thread Cert.AdaBiasSum.nD Cert.AdaBiasSum.τ).loc Cert.AdaBiasSum.main_arg0))
      ∧ r.2.sem = fun _ => 0)

def quiescent_AdaBiasSumIdeal [hAdaBiasSumIdeal : Cert.AdaBiasSumIdeal.Facts] : Prop :=
  ∀ (m : (ℓ : Loc Cert.AdaBiasSumIdeal.nD Cert.AdaBiasSumIdeal.τ Cert.AdaBiasSumIdeal.sig) → Buf (Elt Ideal) ℓ) (g : Dev Cert.AdaBiasSumIdeal.nD → PrngReg), Pre_AdaBiasSumIdeal m →
    θ_run (Cert.AdaBiasSumIdeal.defs (F := Ideal)) (onTc (τ := Cert.AdaBiasSumIdeal.τ) (Cert.AdaBiasSumIdeal.main (F := Ideal))) ⟨m, fun _ => 0, g⟩ (fun r => (∀ c : Dev Cert.AdaBiasSumIdeal.nD,
      r.2.mem ((c.tc : Thread Cert.AdaBiasSumIdeal.nD Cert.AdaBiasSumIdeal.τ).loc Cert.AdaBiasSumIdeal.main_arg0) = m ((c.tc : Thread Cert.AdaBiasSumIdeal.nD Cert.AdaBiasSumIdeal.τ).loc Cert.AdaBiasSumIdeal.main_arg0))
      ∧ r.2.sem = fun _ => 0)

def quiescent_AdaBiasSumReferenceIdeal [hAdaBiasSumReferenceIdeal : Cert.AdaBiasSumReferenceIdeal.Facts] : Prop :=
  ∀ (m : (ℓ : Loc Cert.AdaBiasSumReferenceIdeal.nD Cert.AdaBiasSumReferenceIdeal.τ Cert.AdaBiasSumReferenceIdeal.sig) → Buf (Elt Ideal) ℓ) (g : Dev Cert.AdaBiasSumReferenceIdeal.nD → PrngReg), Pre_AdaBiasSumReferenceIdeal m →
    θ_run (Cert.AdaBiasSumReferenceIdeal.defs (F := Ideal)) (onTc (τ := Cert.AdaBiasSumReferenceIdeal.τ) (Cert.AdaBiasSumReferenceIdeal.main (F := Ideal))) ⟨m, fun _ => 0, g⟩ (fun r => (∀ c : Dev Cert.AdaBiasSumReferenceIdeal.nD,
      r.2.mem ((c.tc : Thread Cert.AdaBiasSumReferenceIdeal.nD Cert.AdaBiasSumReferenceIdeal.τ).loc Cert.AdaBiasSumReferenceIdeal.main_arg0) = m ((c.tc : Thread Cert.AdaBiasSumReferenceIdeal.nD Cert.AdaBiasSumReferenceIdeal.τ).loc Cert.AdaBiasSumReferenceIdeal.main_arg0))
      ∧ r.2.sem = fun _ => 0)

def quiescent_DeviceSum [hDeviceSum : Cert.DeviceSum.Facts] : Prop :=
  ∀ (m : (ℓ : Loc Cert.DeviceSum.nD Cert.DeviceSum.τ Cert.DeviceSum.sig) → Buf (Elt Bits) ℓ) (g : Dev Cert.DeviceSum.nD → PrngReg), Pre_DeviceSum m →
    θ_run (Cert.DeviceSum.defs (F := Bits)) (onTc (τ := Cert.DeviceSum.τ) (Cert.DeviceSum.main (F := Bits))) ⟨m, fun _ => 0, g⟩ (fun r => (∀ c : Dev Cert.DeviceSum.nD,
      r.2.mem ((c.tc : Thread Cert.DeviceSum.nD Cert.DeviceSum.τ).loc Cert.DeviceSum.main_arg0) = m ((c.tc : Thread Cert.DeviceSum.nD Cert.DeviceSum.τ).loc Cert.DeviceSum.main_arg0))
      ∧ r.2.sem = fun _ => 0)

def quiescent_DeviceSumIdeal [hDeviceSumIdeal : Cert.DeviceSumIdeal.Facts] : Prop :=
  ∀ (m : (ℓ : Loc Cert.DeviceSumIdeal.nD Cert.DeviceSumIdeal.τ Cert.DeviceSumIdeal.sig) → Buf (Elt Ideal) ℓ) (g : Dev Cert.DeviceSumIdeal.nD → PrngReg), Pre_DeviceSumIdeal m →
    θ_run (Cert.DeviceSumIdeal.defs (F := Ideal)) (onTc (τ := Cert.DeviceSumIdeal.τ) (Cert.DeviceSumIdeal.main (F := Ideal))) ⟨m, fun _ => 0, g⟩ (fun r => (∀ c : Dev Cert.DeviceSumIdeal.nD,
      r.2.mem ((c.tc : Thread Cert.DeviceSumIdeal.nD Cert.DeviceSumIdeal.τ).loc Cert.DeviceSumIdeal.main_arg0) = m ((c.tc : Thread Cert.DeviceSumIdeal.nD Cert.DeviceSumIdeal.τ).loc Cert.DeviceSumIdeal.main_arg0))
      ∧ r.2.sem = fun _ => 0)

def quiescent_DeviceSumReferenceIdeal [hDeviceSumReferenceIdeal : Cert.DeviceSumReferenceIdeal.Facts] : Prop :=
  ∀ (m : (ℓ : Loc Cert.DeviceSumReferenceIdeal.nD Cert.DeviceSumReferenceIdeal.τ Cert.DeviceSumReferenceIdeal.sig) → Buf (Elt Ideal) ℓ) (g : Dev Cert.DeviceSumReferenceIdeal.nD → PrngReg), Pre_DeviceSumReferenceIdeal m →
    θ_run (Cert.DeviceSumReferenceIdeal.defs (F := Ideal)) (onTc (τ := Cert.DeviceSumReferenceIdeal.τ) (Cert.DeviceSumReferenceIdeal.main (F := Ideal))) ⟨m, fun _ => 0, g⟩ (fun r => (∀ c : Dev Cert.DeviceSumReferenceIdeal.nD,
      r.2.mem ((c.tc : Thread Cert.DeviceSumReferenceIdeal.nD Cert.DeviceSumReferenceIdeal.τ).loc Cert.DeviceSumReferenceIdeal.main_arg0) = m ((c.tc : Thread Cert.DeviceSumReferenceIdeal.nD Cert.DeviceSumReferenceIdeal.τ).loc Cert.DeviceSumReferenceIdeal.main_arg0))
      ∧ r.2.sem = fun _ => 0)

def quiescent_ConvForward [hConvForward : Cert.ConvForward.Facts] : Prop :=
  ∀ (m : (ℓ : Loc Cert.ConvForward.nD Cert.ConvForward.τ Cert.ConvForward.sig) → Buf (Elt Bits) ℓ) (g : Dev Cert.ConvForward.nD → PrngReg), Pre_ConvForward m →
    θ_run (Cert.ConvForward.defs (F := Bits)) (onTc (τ := Cert.ConvForward.τ) (Cert.ConvForward.main (F := Bits))) ⟨m, fun _ => 0, g⟩ (fun r => (∀ c : Dev Cert.ConvForward.nD,
      r.2.mem ((c.tc : Thread Cert.ConvForward.nD Cert.ConvForward.τ).loc Cert.ConvForward.main_arg0) = m ((c.tc : Thread Cert.ConvForward.nD Cert.ConvForward.τ).loc Cert.ConvForward.main_arg0)
      ∧ r.2.mem ((c.tc : Thread Cert.ConvForward.nD Cert.ConvForward.τ).loc Cert.ConvForward.main_arg1) = m ((c.tc : Thread Cert.ConvForward.nD Cert.ConvForward.τ).loc Cert.ConvForward.main_arg1)
      ∧ r.2.mem ((c.tc : Thread Cert.ConvForward.nD Cert.ConvForward.τ).loc Cert.ConvForward.main_arg2) = m ((c.tc : Thread Cert.ConvForward.nD Cert.ConvForward.τ).loc Cert.ConvForward.main_arg2))
      ∧ r.2.sem = fun _ => 0)

def quiescent_ConvForwardIdeal [hConvForwardIdeal : Cert.ConvForwardIdeal.Facts] : Prop :=
  ∀ (m : (ℓ : Loc Cert.ConvForwardIdeal.nD Cert.ConvForwardIdeal.τ Cert.ConvForwardIdeal.sig) → Buf (Elt Ideal) ℓ) (g : Dev Cert.ConvForwardIdeal.nD → PrngReg), Pre_ConvForwardIdeal m →
    θ_run (Cert.ConvForwardIdeal.defs (F := Ideal)) (onTc (τ := Cert.ConvForwardIdeal.τ) (Cert.ConvForwardIdeal.main (F := Ideal))) ⟨m, fun _ => 0, g⟩ (fun r => (∀ c : Dev Cert.ConvForwardIdeal.nD,
      r.2.mem ((c.tc : Thread Cert.ConvForwardIdeal.nD Cert.ConvForwardIdeal.τ).loc Cert.ConvForwardIdeal.main_arg0) = m ((c.tc : Thread Cert.ConvForwardIdeal.nD Cert.ConvForwardIdeal.τ).loc Cert.ConvForwardIdeal.main_arg0)
      ∧ r.2.mem ((c.tc : Thread Cert.ConvForwardIdeal.nD Cert.ConvForwardIdeal.τ).loc Cert.ConvForwardIdeal.main_arg1) = m ((c.tc : Thread Cert.ConvForwardIdeal.nD Cert.ConvForwardIdeal.τ).loc Cert.ConvForwardIdeal.main_arg1)
      ∧ r.2.mem ((c.tc : Thread Cert.ConvForwardIdeal.nD Cert.ConvForwardIdeal.τ).loc Cert.ConvForwardIdeal.main_arg2) = m ((c.tc : Thread Cert.ConvForwardIdeal.nD Cert.ConvForwardIdeal.τ).loc Cert.ConvForwardIdeal.main_arg2))
      ∧ r.2.sem = fun _ => 0)

def quiescent_ConvForwardReferenceIdeal [hConvForwardReferenceIdeal : Cert.ConvForwardReferenceIdeal.Facts] : Prop :=
  ∀ (m : (ℓ : Loc Cert.ConvForwardReferenceIdeal.nD Cert.ConvForwardReferenceIdeal.τ Cert.ConvForwardReferenceIdeal.sig) → Buf (Elt Ideal) ℓ) (g : Dev Cert.ConvForwardReferenceIdeal.nD → PrngReg), Pre_ConvForwardReferenceIdeal m →
    θ_run (Cert.ConvForwardReferenceIdeal.defs (F := Ideal)) (onTc (τ := Cert.ConvForwardReferenceIdeal.τ) (Cert.ConvForwardReferenceIdeal.main (F := Ideal))) ⟨m, fun _ => 0, g⟩ (fun r => (∀ c : Dev Cert.ConvForwardReferenceIdeal.nD,
      r.2.mem ((c.tc : Thread Cert.ConvForwardReferenceIdeal.nD Cert.ConvForwardReferenceIdeal.τ).loc Cert.ConvForwardReferenceIdeal.main_arg0) = m ((c.tc : Thread Cert.ConvForwardReferenceIdeal.nD Cert.ConvForwardReferenceIdeal.τ).loc Cert.ConvForwardReferenceIdeal.main_arg0)
      ∧ r.2.mem ((c.tc : Thread Cert.ConvForwardReferenceIdeal.nD Cert.ConvForwardReferenceIdeal.τ).loc Cert.ConvForwardReferenceIdeal.main_arg1) = m ((c.tc : Thread Cert.ConvForwardReferenceIdeal.nD Cert.ConvForwardReferenceIdeal.τ).loc Cert.ConvForwardReferenceIdeal.main_arg1)
      ∧ r.2.mem ((c.tc : Thread Cert.ConvForwardReferenceIdeal.nD Cert.ConvForwardReferenceIdeal.τ).loc Cert.ConvForwardReferenceIdeal.main_arg2) = m ((c.tc : Thread Cert.ConvForwardReferenceIdeal.nD Cert.ConvForwardReferenceIdeal.τ).loc Cert.ConvForwardReferenceIdeal.main_arg2))
      ∧ r.2.sem = fun _ => 0)

def preserves_Kernel_KernelIdeal : Prop :=
  IdealRules.named_const.Statement Cert.KernelIdeal.κ "root_half" .f32 0x3F3504F3#32 (((Real.sqrt 2)⁻¹ : ℝ) : EReal)
  ∧ IdealRules.named_const.Statement Cert.KernelIdeal.κ "inv_root_two_pi" .f32 0x3ECC422A#32 (((Real.sqrt (2 * Real.pi))⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v122) = v0 c
          ∧ r.2.mem ((c.tc : Thread Cert.ReferenceIdeal.nD Cert.ReferenceIdeal.τ).loc Cert.ReferenceIdeal.main_v79) = v1 c
          ∧ r.2.mem ((c.tc : Thread Cert.ReferenceIdeal.nD Cert.ReferenceIdeal.τ).loc Cert.ReferenceIdeal.main_v125) = v2 c
          ∧ r.2.mem ((c.tc : Thread Cert.ReferenceIdeal.nD Cert.ReferenceIdeal.τ).loc Cert.ReferenceIdeal.main_v85) = v3 c
          ∧ r.2.mem ((c.tc : Thread Cert.ReferenceIdeal.nD Cert.ReferenceIdeal.τ).loc Cert.ReferenceIdeal.main_v82) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_InInput_InInputIdeal : Prop :=
  True

def algebraic_InInputIdeal_InInputReferenceIdeal [hInInputIdeal : Cert.InInputIdeal.Facts] [hInInputReferenceIdeal : Cert.InInputReferenceIdeal.Facts] : Prop :=
  ∀ (m : (ℓ : Loc Cert.InInputIdeal.nD Cert.InInputIdeal.τ Cert.InInputIdeal.sig) → Buf (Elt Ideal) ℓ) (g : Dev Cert.InInputIdeal.nD → PrngReg)
    (m' : (ℓ : Loc Cert.InInputReferenceIdeal.nD Cert.InInputReferenceIdeal.τ Cert.InInputReferenceIdeal.sig) → Buf (Elt Ideal) ℓ) (g' : Dev Cert.InInputReferenceIdeal.nD → PrngReg), Pre_InInputIdeal m →
    (∀ c : Dev Cert.InInputIdeal.nD,
      m' ((c.tc : Thread Cert.InInputReferenceIdeal.nD Cert.InInputReferenceIdeal.τ).loc Cert.InInputReferenceIdeal.main_arg0) = m ((c.tc : Thread Cert.InInputIdeal.nD Cert.InInputIdeal.τ).loc Cert.InInputIdeal.main_arg0)
      ∧ m' ((c.tc : Thread Cert.InInputReferenceIdeal.nD Cert.InInputReferenceIdeal.τ).loc Cert.InInputReferenceIdeal.main_arg1) = m ((c.tc : Thread Cert.InInputIdeal.nD Cert.InInputIdeal.τ).loc Cert.InInputIdeal.main_arg1)) →
    ∃ (v0 : (c : Dev Cert.InInputIdeal.nD) → Buf (Elt Ideal) ((c.tc : Thread Cert.InInputIdeal.nD Cert.InInputIdeal.τ).loc Cert.InInputIdeal.main_v0)),
      θ_run (Cert.InInputIdeal.defs (F := Ideal)) (onTc (τ := Cert.InInputIdeal.τ) (Cert.InInputIdeal.main (F := Ideal))) ⟨m, fun _ => 0, g⟩ (fun r => ∀ c : Dev Cert.InInputIdeal.nD,
          r.2.mem ((c.tc : Thread Cert.InInputIdeal.nD Cert.InInputIdeal.τ).loc Cert.InInputIdeal.main_v0) = v0 c
          ∧ r.2.mem ((c.tc : Thread Cert.InInputIdeal.nD Cert.InInputIdeal.τ).loc Cert.InInputIdeal.main_arg0) = m ((c.tc : Thread Cert.InInputIdeal.nD Cert.InInputIdeal.τ).loc Cert.InInputIdeal.main_arg0)
          ∧ r.2.mem ((c.tc : Thread Cert.InInputIdeal.nD Cert.InInputIdeal.τ).loc Cert.InInputIdeal.main_arg1) = m ((c.tc : Thread Cert.InInputIdeal.nD Cert.InInputIdeal.τ).loc Cert.InInputIdeal.main_arg1))
      ∧ θ_run (Cert.InInputReferenceIdeal.defs (F := Ideal)) (onTc (τ := Cert.InInputReferenceIdeal.τ) (Cert.InInputReferenceIdeal.main (F := Ideal))) ⟨m', fun _ => 0, g'⟩ (fun r => ∀ c : Dev Cert.InInputReferenceIdeal.nD,
          r.2.mem ((c.tc : Thread Cert.InInputReferenceIdeal.nD Cert.InInputReferenceIdeal.τ).loc Cert.InInputReferenceIdeal.main_v4) = v0 c
          ∧ r.2.mem ((c.tc : Thread Cert.InInputReferenceIdeal.nD Cert.InInputReferenceIdeal.τ).loc Cert.InInputReferenceIdeal.main_arg0) = m' ((c.tc : Thread Cert.InInputReferenceIdeal.nD Cert.InInputReferenceIdeal.τ).loc Cert.InInputReferenceIdeal.main_arg0)
          ∧ r.2.mem ((c.tc : Thread Cert.InInputReferenceIdeal.nD Cert.InInputReferenceIdeal.τ).loc Cert.InInputReferenceIdeal.main_arg1) = m' ((c.tc : Thread Cert.InInputReferenceIdeal.nD Cert.InInputReferenceIdeal.τ).loc Cert.InInputReferenceIdeal.main_arg1))

def preserves_InWeight_InWeightIdeal : Prop :=
  True

def algebraic_InWeightIdeal_InWeightReferenceIdeal [hInWeightIdeal : Cert.InWeightIdeal.Facts] [hInWeightReferenceIdeal : Cert.InWeightReferenceIdeal.Facts] : Prop :=
  ∀ (m : (ℓ : Loc Cert.InWeightIdeal.nD Cert.InWeightIdeal.τ Cert.InWeightIdeal.sig) → Buf (Elt Ideal) ℓ) (g : Dev Cert.InWeightIdeal.nD → PrngReg)
    (m' : (ℓ : Loc Cert.InWeightReferenceIdeal.nD Cert.InWeightReferenceIdeal.τ Cert.InWeightReferenceIdeal.sig) → Buf (Elt Ideal) ℓ) (g' : Dev Cert.InWeightReferenceIdeal.nD → PrngReg), Pre_InWeightIdeal m →
    (∀ c : Dev Cert.InWeightIdeal.nD,
      m' ((c.tc : Thread Cert.InWeightReferenceIdeal.nD Cert.InWeightReferenceIdeal.τ).loc Cert.InWeightReferenceIdeal.main_arg0) = m ((c.tc : Thread Cert.InWeightIdeal.nD Cert.InWeightIdeal.τ).loc Cert.InWeightIdeal.main_arg0)
      ∧ m' ((c.tc : Thread Cert.InWeightReferenceIdeal.nD Cert.InWeightReferenceIdeal.τ).loc Cert.InWeightReferenceIdeal.main_arg1) = m ((c.tc : Thread Cert.InWeightIdeal.nD Cert.InWeightIdeal.τ).loc Cert.InWeightIdeal.main_arg1)) →
    ∃ (v0 : (c : Dev Cert.InWeightIdeal.nD) → Buf (Elt Ideal) ((c.tc : Thread Cert.InWeightIdeal.nD Cert.InWeightIdeal.τ).loc Cert.InWeightIdeal.main_v0)),
      θ_run (Cert.InWeightIdeal.defs (F := Ideal)) (onTc (τ := Cert.InWeightIdeal.τ) (Cert.InWeightIdeal.main (F := Ideal))) ⟨m, fun _ => 0, g⟩ (fun r => ∀ c : Dev Cert.InWeightIdeal.nD,
          r.2.mem ((c.tc : Thread Cert.InWeightIdeal.nD Cert.InWeightIdeal.τ).loc Cert.InWeightIdeal.main_v0) = v0 c
          ∧ r.2.mem ((c.tc : Thread Cert.InWeightIdeal.nD Cert.InWeightIdeal.τ).loc Cert.InWeightIdeal.main_arg0) = m ((c.tc : Thread Cert.InWeightIdeal.nD Cert.InWeightIdeal.τ).loc Cert.InWeightIdeal.main_arg0)
          ∧ r.2.mem ((c.tc : Thread Cert.InWeightIdeal.nD Cert.InWeightIdeal.τ).loc Cert.InWeightIdeal.main_arg1) = m ((c.tc : Thread Cert.InWeightIdeal.nD Cert.InWeightIdeal.τ).loc Cert.InWeightIdeal.main_arg1))
      ∧ θ_run (Cert.InWeightReferenceIdeal.defs (F := Ideal)) (onTc (τ := Cert.InWeightReferenceIdeal.τ) (Cert.InWeightReferenceIdeal.main (F := Ideal))) ⟨m', fun _ => 0, g'⟩ (fun r => ∀ c : Dev Cert.InWeightReferenceIdeal.nD,
          r.2.mem ((c.tc : Thread Cert.InWeightReferenceIdeal.nD Cert.InWeightReferenceIdeal.τ).loc Cert.InWeightReferenceIdeal.main_v8) = v0 c
          ∧ r.2.mem ((c.tc : Thread Cert.InWeightReferenceIdeal.nD Cert.InWeightReferenceIdeal.τ).loc Cert.InWeightReferenceIdeal.main_arg0) = m' ((c.tc : Thread Cert.InWeightReferenceIdeal.nD Cert.InWeightReferenceIdeal.τ).loc Cert.InWeightReferenceIdeal.main_arg0)
          ∧ r.2.mem ((c.tc : Thread Cert.InWeightReferenceIdeal.nD Cert.InWeightReferenceIdeal.τ).loc Cert.InWeightReferenceIdeal.main_arg1) = m' ((c.tc : Thread Cert.InWeightReferenceIdeal.nD Cert.InWeightReferenceIdeal.τ).loc Cert.InWeightReferenceIdeal.main_arg1))

def preserves_UpWeight_UpWeightIdeal : Prop :=
  True

def algebraic_UpWeightIdeal_UpWeightReferenceIdeal [hUpWeightIdeal : Cert.UpWeightIdeal.Facts] [hUpWeightReferenceIdeal : Cert.UpWeightReferenceIdeal.Facts] : Prop :=
  ∀ (m : (ℓ : Loc Cert.UpWeightIdeal.nD Cert.UpWeightIdeal.τ Cert.UpWeightIdeal.sig) → Buf (Elt Ideal) ℓ) (g : Dev Cert.UpWeightIdeal.nD → PrngReg)
    (m' : (ℓ : Loc Cert.UpWeightReferenceIdeal.nD Cert.UpWeightReferenceIdeal.τ Cert.UpWeightReferenceIdeal.sig) → Buf (Elt Ideal) ℓ) (g' : Dev Cert.UpWeightReferenceIdeal.nD → PrngReg), Pre_UpWeightIdeal m →
    (∀ c : Dev Cert.UpWeightIdeal.nD,
      m' ((c.tc : Thread Cert.UpWeightReferenceIdeal.nD Cert.UpWeightReferenceIdeal.τ).loc Cert.UpWeightReferenceIdeal.main_arg0) = m ((c.tc : Thread Cert.UpWeightIdeal.nD Cert.UpWeightIdeal.τ).loc Cert.UpWeightIdeal.main_arg0)
      ∧ m' ((c.tc : Thread Cert.UpWeightReferenceIdeal.nD Cert.UpWeightReferenceIdeal.τ).loc Cert.UpWeightReferenceIdeal.main_arg1) = m ((c.tc : Thread Cert.UpWeightIdeal.nD Cert.UpWeightIdeal.τ).loc Cert.UpWeightIdeal.main_arg1)) →
    ∃ (v0 : (c : Dev Cert.UpWeightIdeal.nD) → Buf (Elt Ideal) ((c.tc : Thread Cert.UpWeightIdeal.nD Cert.UpWeightIdeal.τ).loc Cert.UpWeightIdeal.main_v0)),
      θ_run (Cert.UpWeightIdeal.defs (F := Ideal)) (onTc (τ := Cert.UpWeightIdeal.τ) (Cert.UpWeightIdeal.main (F := Ideal))) ⟨m, fun _ => 0, g⟩ (fun r => ∀ c : Dev Cert.UpWeightIdeal.nD,
          r.2.mem ((c.tc : Thread Cert.UpWeightIdeal.nD Cert.UpWeightIdeal.τ).loc Cert.UpWeightIdeal.main_v0) = v0 c
          ∧ r.2.mem ((c.tc : Thread Cert.UpWeightIdeal.nD Cert.UpWeightIdeal.τ).loc Cert.UpWeightIdeal.main_arg0) = m ((c.tc : Thread Cert.UpWeightIdeal.nD Cert.UpWeightIdeal.τ).loc Cert.UpWeightIdeal.main_arg0)
          ∧ r.2.mem ((c.tc : Thread Cert.UpWeightIdeal.nD Cert.UpWeightIdeal.τ).loc Cert.UpWeightIdeal.main_arg1) = m ((c.tc : Thread Cert.UpWeightIdeal.nD Cert.UpWeightIdeal.τ).loc Cert.UpWeightIdeal.main_arg1))
      ∧ θ_run (Cert.UpWeightReferenceIdeal.defs (F := Ideal)) (onTc (τ := Cert.UpWeightReferenceIdeal.τ) (Cert.UpWeightReferenceIdeal.main (F := Ideal))) ⟨m', fun _ => 0, g'⟩ (fun r => ∀ c : Dev Cert.UpWeightReferenceIdeal.nD,
          r.2.mem ((c.tc : Thread Cert.UpWeightReferenceIdeal.nD Cert.UpWeightReferenceIdeal.τ).loc Cert.UpWeightReferenceIdeal.main_v8) = v0 c
          ∧ r.2.mem ((c.tc : Thread Cert.UpWeightReferenceIdeal.nD Cert.UpWeightReferenceIdeal.τ).loc Cert.UpWeightReferenceIdeal.main_arg0) = m' ((c.tc : Thread Cert.UpWeightReferenceIdeal.nD Cert.UpWeightReferenceIdeal.τ).loc Cert.UpWeightReferenceIdeal.main_arg0)
          ∧ r.2.mem ((c.tc : Thread Cert.UpWeightReferenceIdeal.nD Cert.UpWeightReferenceIdeal.τ).loc Cert.UpWeightReferenceIdeal.main_arg1) = m' ((c.tc : Thread Cert.UpWeightReferenceIdeal.nD Cert.UpWeightReferenceIdeal.τ).loc Cert.UpWeightReferenceIdeal.main_arg1))

def preserves_DownInput_DownInputIdeal : Prop :=
  True

def algebraic_DownInputIdeal_DownInputReferenceIdeal [hDownInputIdeal : Cert.DownInputIdeal.Facts] [hDownInputReferenceIdeal : Cert.DownInputReferenceIdeal.Facts] : Prop :=
  ∀ (m : (ℓ : Loc Cert.DownInputIdeal.nD Cert.DownInputIdeal.τ Cert.DownInputIdeal.sig) → Buf (Elt Ideal) ℓ) (g : Dev Cert.DownInputIdeal.nD → PrngReg)
    (m' : (ℓ : Loc Cert.DownInputReferenceIdeal.nD Cert.DownInputReferenceIdeal.τ Cert.DownInputReferenceIdeal.sig) → Buf (Elt Ideal) ℓ) (g' : Dev Cert.DownInputReferenceIdeal.nD → PrngReg), Pre_DownInputIdeal m →
    (∀ c : Dev Cert.DownInputIdeal.nD,
      m' ((c.tc : Thread Cert.DownInputReferenceIdeal.nD Cert.DownInputReferenceIdeal.τ).loc Cert.DownInputReferenceIdeal.main_arg0) = m ((c.tc : Thread Cert.DownInputIdeal.nD Cert.DownInputIdeal.τ).loc Cert.DownInputIdeal.main_arg0)
      ∧ m' ((c.tc : Thread Cert.DownInputReferenceIdeal.nD Cert.DownInputReferenceIdeal.τ).loc Cert.DownInputReferenceIdeal.main_arg1) = m ((c.tc : Thread Cert.DownInputIdeal.nD Cert.DownInputIdeal.τ).loc Cert.DownInputIdeal.main_arg1)) →
    ∃ (v0 : (c : Dev Cert.DownInputIdeal.nD) → Buf (Elt Ideal) ((c.tc : Thread Cert.DownInputIdeal.nD Cert.DownInputIdeal.τ).loc Cert.DownInputIdeal.main_v0)),
      θ_run (Cert.DownInputIdeal.defs (F := Ideal)) (onTc (τ := Cert.DownInputIdeal.τ) (Cert.DownInputIdeal.main (F := Ideal))) ⟨m, fun _ => 0, g⟩ (fun r => ∀ c : Dev Cert.DownInputIdeal.nD,
          r.2.mem ((c.tc : Thread Cert.DownInputIdeal.nD Cert.DownInputIdeal.τ).loc Cert.DownInputIdeal.main_v0) = v0 c
          ∧ r.2.mem ((c.tc : Thread Cert.DownInputIdeal.nD Cert.DownInputIdeal.τ).loc Cert.DownInputIdeal.main_arg0) = m ((c.tc : Thread Cert.DownInputIdeal.nD Cert.DownInputIdeal.τ).loc Cert.DownInputIdeal.main_arg0)
          ∧ r.2.mem ((c.tc : Thread Cert.DownInputIdeal.nD Cert.DownInputIdeal.τ).loc Cert.DownInputIdeal.main_arg1) = m ((c.tc : Thread Cert.DownInputIdeal.nD Cert.DownInputIdeal.τ).loc Cert.DownInputIdeal.main_arg1))
      ∧ θ_run (Cert.DownInputReferenceIdeal.defs (F := Ideal)) (onTc (τ := Cert.DownInputReferenceIdeal.τ) (Cert.DownInputReferenceIdeal.main (F := Ideal))) ⟨m', fun _ => 0, g'⟩ (fun r => ∀ c : Dev Cert.DownInputReferenceIdeal.nD,
          r.2.mem ((c.tc : Thread Cert.DownInputReferenceIdeal.nD Cert.DownInputReferenceIdeal.τ).loc Cert.DownInputReferenceIdeal.main_v4) = v0 c
          ∧ r.2.mem ((c.tc : Thread Cert.DownInputReferenceIdeal.nD Cert.DownInputReferenceIdeal.τ).loc Cert.DownInputReferenceIdeal.main_arg0) = m' ((c.tc : Thread Cert.DownInputReferenceIdeal.nD Cert.DownInputReferenceIdeal.τ).loc Cert.DownInputReferenceIdeal.main_arg0)
          ∧ r.2.mem ((c.tc : Thread Cert.DownInputReferenceIdeal.nD Cert.DownInputReferenceIdeal.τ).loc Cert.DownInputReferenceIdeal.main_arg1) = m' ((c.tc : Thread Cert.DownInputReferenceIdeal.nD Cert.DownInputReferenceIdeal.τ).loc Cert.DownInputReferenceIdeal.main_arg1))

def preserves_DownWeight_DownWeightIdeal : Prop :=
  True

def algebraic_DownWeightIdeal_DownWeightReferenceIdeal [hDownWeightIdeal : Cert.DownWeightIdeal.Facts] [hDownWeightReferenceIdeal : Cert.DownWeightReferenceIdeal.Facts] : Prop :=
  ∀ (m : (ℓ : Loc Cert.DownWeightIdeal.nD Cert.DownWeightIdeal.τ Cert.DownWeightIdeal.sig) → Buf (Elt Ideal) ℓ) (g : Dev Cert.DownWeightIdeal.nD → PrngReg)
    (m' : (ℓ : Loc Cert.DownWeightReferenceIdeal.nD Cert.DownWeightReferenceIdeal.τ Cert.DownWeightReferenceIdeal.sig) → Buf (Elt Ideal) ℓ) (g' : Dev Cert.DownWeightReferenceIdeal.nD → PrngReg), Pre_DownWeightIdeal m →
    (∀ c : Dev Cert.DownWeightIdeal.nD,
      m' ((c.tc : Thread Cert.DownWeightReferenceIdeal.nD Cert.DownWeightReferenceIdeal.τ).loc Cert.DownWeightReferenceIdeal.main_arg0) = m ((c.tc : Thread Cert.DownWeightIdeal.nD Cert.DownWeightIdeal.τ).loc Cert.DownWeightIdeal.main_arg0)
      ∧ m' ((c.tc : Thread Cert.DownWeightReferenceIdeal.nD Cert.DownWeightReferenceIdeal.τ).loc Cert.DownWeightReferenceIdeal.main_arg1) = m ((c.tc : Thread Cert.DownWeightIdeal.nD Cert.DownWeightIdeal.τ).loc Cert.DownWeightIdeal.main_arg1)) →
    ∃ (v0 : (c : Dev Cert.DownWeightIdeal.nD) → Buf (Elt Ideal) ((c.tc : Thread Cert.DownWeightIdeal.nD Cert.DownWeightIdeal.τ).loc Cert.DownWeightIdeal.main_v0)),
      θ_run (Cert.DownWeightIdeal.defs (F := Ideal)) (onTc (τ := Cert.DownWeightIdeal.τ) (Cert.DownWeightIdeal.main (F := Ideal))) ⟨m, fun _ => 0, g⟩ (fun r => ∀ c : Dev Cert.DownWeightIdeal.nD,
          r.2.mem ((c.tc : Thread Cert.DownWeightIdeal.nD Cert.DownWeightIdeal.τ).loc Cert.DownWeightIdeal.main_v0) = v0 c
          ∧ r.2.mem ((c.tc : Thread Cert.DownWeightIdeal.nD Cert.DownWeightIdeal.τ).loc Cert.DownWeightIdeal.main_arg0) = m ((c.tc : Thread Cert.DownWeightIdeal.nD Cert.DownWeightIdeal.τ).loc Cert.DownWeightIdeal.main_arg0)
          ∧ r.2.mem ((c.tc : Thread Cert.DownWeightIdeal.nD Cert.DownWeightIdeal.τ).loc Cert.DownWeightIdeal.main_arg1) = m ((c.tc : Thread Cert.DownWeightIdeal.nD Cert.DownWeightIdeal.τ).loc Cert.DownWeightIdeal.main_arg1))
      ∧ θ_run (Cert.DownWeightReferenceIdeal.defs (F := Ideal)) (onTc (τ := Cert.DownWeightReferenceIdeal.τ) (Cert.DownWeightReferenceIdeal.main (F := Ideal))) ⟨m', fun _ => 0, g'⟩ (fun r => ∀ c : Dev Cert.DownWeightReferenceIdeal.nD,
          r.2.mem ((c.tc : Thread Cert.DownWeightReferenceIdeal.nD Cert.DownWeightReferenceIdeal.τ).loc Cert.DownWeightReferenceIdeal.main_v6) = v0 c
          ∧ r.2.mem ((c.tc : Thread Cert.DownWeightReferenceIdeal.nD Cert.DownWeightReferenceIdeal.τ).loc Cert.DownWeightReferenceIdeal.main_arg0) = m' ((c.tc : Thread Cert.DownWeightReferenceIdeal.nD Cert.DownWeightReferenceIdeal.τ).loc Cert.DownWeightReferenceIdeal.main_arg0)
          ∧ r.2.mem ((c.tc : Thread Cert.DownWeightReferenceIdeal.nD Cert.DownWeightReferenceIdeal.τ).loc Cert.DownWeightReferenceIdeal.main_arg1) = m' ((c.tc : Thread Cert.DownWeightReferenceIdeal.nD Cert.DownWeightReferenceIdeal.τ).loc Cert.DownWeightReferenceIdeal.main_arg1))

def preserves_InForward_InForwardIdeal : Prop :=
  True

def algebraic_InForwardIdeal_InForwardReferenceIdeal [hInForwardIdeal : Cert.InForwardIdeal.Facts] [hInForwardReferenceIdeal : Cert.InForwardReferenceIdeal.Facts] : Prop :=
  ∀ (m : (ℓ : Loc Cert.InForwardIdeal.nD Cert.InForwardIdeal.τ Cert.InForwardIdeal.sig) → Buf (Elt Ideal) ℓ) (g : Dev Cert.InForwardIdeal.nD → PrngReg)
    (m' : (ℓ : Loc Cert.InForwardReferenceIdeal.nD Cert.InForwardReferenceIdeal.τ Cert.InForwardReferenceIdeal.sig) → Buf (Elt Ideal) ℓ) (g' : Dev Cert.InForwardReferenceIdeal.nD → PrngReg), Pre_InForwardIdeal m →
    (∀ c : Dev Cert.InForwardIdeal.nD,
      m' ((c.tc : Thread Cert.InForwardReferenceIdeal.nD Cert.InForwardReferenceIdeal.τ).loc Cert.InForwardReferenceIdeal.main_arg0) = m ((c.tc : Thread Cert.InForwardIdeal.nD Cert.InForwardIdeal.τ).loc Cert.InForwardIdeal.main_arg0)
      ∧ m' ((c.tc : Thread Cert.InForwardReferenceIdeal.nD Cert.InForwardReferenceIdeal.τ).loc Cert.InForwardReferenceIdeal.main_arg1) = m ((c.tc : Thread Cert.InForwardIdeal.nD Cert.InForwardIdeal.τ).loc Cert.InForwardIdeal.main_arg1)) →
    ∃ (v0 : (c : Dev Cert.InForwardIdeal.nD) → Buf (Elt Ideal) ((c.tc : Thread Cert.InForwardIdeal.nD Cert.InForwardIdeal.τ).loc Cert.InForwardIdeal.main_v0)),
      θ_run (Cert.InForwardIdeal.defs (F := Ideal)) (onTc (τ := Cert.InForwardIdeal.τ) (Cert.InForwardIdeal.main (F := Ideal))) ⟨m, fun _ => 0, g⟩ (fun r => ∀ c : Dev Cert.InForwardIdeal.nD,
          r.2.mem ((c.tc : Thread Cert.InForwardIdeal.nD Cert.InForwardIdeal.τ).loc Cert.InForwardIdeal.main_v0) = v0 c
          ∧ r.2.mem ((c.tc : Thread Cert.InForwardIdeal.nD Cert.InForwardIdeal.τ).loc Cert.InForwardIdeal.main_arg0) = m ((c.tc : Thread Cert.InForwardIdeal.nD Cert.InForwardIdeal.τ).loc Cert.InForwardIdeal.main_arg0)
          ∧ r.2.mem ((c.tc : Thread Cert.InForwardIdeal.nD Cert.InForwardIdeal.τ).loc Cert.InForwardIdeal.main_arg1) = m ((c.tc : Thread Cert.InForwardIdeal.nD Cert.InForwardIdeal.τ).loc Cert.InForwardIdeal.main_arg1))
      ∧ θ_run (Cert.InForwardReferenceIdeal.defs (F := Ideal)) (onTc (τ := Cert.InForwardReferenceIdeal.τ) (Cert.InForwardReferenceIdeal.main (F := Ideal))) ⟨m', fun _ => 0, g'⟩ (fun r => ∀ c : Dev Cert.InForwardReferenceIdeal.nD,
          r.2.mem ((c.tc : Thread Cert.InForwardReferenceIdeal.nD Cert.InForwardReferenceIdeal.τ).loc Cert.InForwardReferenceIdeal.main_v2) = v0 c
          ∧ r.2.mem ((c.tc : Thread Cert.InForwardReferenceIdeal.nD Cert.InForwardReferenceIdeal.τ).loc Cert.InForwardReferenceIdeal.main_arg0) = m' ((c.tc : Thread Cert.InForwardReferenceIdeal.nD Cert.InForwardReferenceIdeal.τ).loc Cert.InForwardReferenceIdeal.main_arg0)
          ∧ r.2.mem ((c.tc : Thread Cert.InForwardReferenceIdeal.nD Cert.InForwardReferenceIdeal.τ).loc Cert.InForwardReferenceIdeal.main_arg1) = m' ((c.tc : Thread Cert.InForwardReferenceIdeal.nD Cert.InForwardReferenceIdeal.τ).loc Cert.InForwardReferenceIdeal.main_arg1))

def preserves_UpForward_UpForwardIdeal : Prop :=
  True

def algebraic_UpForwardIdeal_UpForwardReferenceIdeal [hUpForwardIdeal : Cert.UpForwardIdeal.Facts] [hUpForwardReferenceIdeal : Cert.UpForwardReferenceIdeal.Facts] : Prop :=
  ∀ (m : (ℓ : Loc Cert.UpForwardIdeal.nD Cert.UpForwardIdeal.τ Cert.UpForwardIdeal.sig) → Buf (Elt Ideal) ℓ) (g : Dev Cert.UpForwardIdeal.nD → PrngReg)
    (m' : (ℓ : Loc Cert.UpForwardReferenceIdeal.nD Cert.UpForwardReferenceIdeal.τ Cert.UpForwardReferenceIdeal.sig) → Buf (Elt Ideal) ℓ) (g' : Dev Cert.UpForwardReferenceIdeal.nD → PrngReg), Pre_UpForwardIdeal m →
    (∀ c : Dev Cert.UpForwardIdeal.nD,
      m' ((c.tc : Thread Cert.UpForwardReferenceIdeal.nD Cert.UpForwardReferenceIdeal.τ).loc Cert.UpForwardReferenceIdeal.main_arg0) = m ((c.tc : Thread Cert.UpForwardIdeal.nD Cert.UpForwardIdeal.τ).loc Cert.UpForwardIdeal.main_arg0)
      ∧ m' ((c.tc : Thread Cert.UpForwardReferenceIdeal.nD Cert.UpForwardReferenceIdeal.τ).loc Cert.UpForwardReferenceIdeal.main_arg1) = m ((c.tc : Thread Cert.UpForwardIdeal.nD Cert.UpForwardIdeal.τ).loc Cert.UpForwardIdeal.main_arg1)) →
    ∃ (v0 : (c : Dev Cert.UpForwardIdeal.nD) → Buf (Elt Ideal) ((c.tc : Thread Cert.UpForwardIdeal.nD Cert.UpForwardIdeal.τ).loc Cert.UpForwardIdeal.main_v0)),
      θ_run (Cert.UpForwardIdeal.defs (F := Ideal)) (onTc (τ := Cert.UpForwardIdeal.τ) (Cert.UpForwardIdeal.main (F := Ideal))) ⟨m, fun _ => 0, g⟩ (fun r => ∀ c : Dev Cert.UpForwardIdeal.nD,
          r.2.mem ((c.tc : Thread Cert.UpForwardIdeal.nD Cert.UpForwardIdeal.τ).loc Cert.UpForwardIdeal.main_v0) = v0 c
          ∧ r.2.mem ((c.tc : Thread Cert.UpForwardIdeal.nD Cert.UpForwardIdeal.τ).loc Cert.UpForwardIdeal.main_arg0) = m ((c.tc : Thread Cert.UpForwardIdeal.nD Cert.UpForwardIdeal.τ).loc Cert.UpForwardIdeal.main_arg0)
          ∧ r.2.mem ((c.tc : Thread Cert.UpForwardIdeal.nD Cert.UpForwardIdeal.τ).loc Cert.UpForwardIdeal.main_arg1) = m ((c.tc : Thread Cert.UpForwardIdeal.nD Cert.UpForwardIdeal.τ).loc Cert.UpForwardIdeal.main_arg1))
      ∧ θ_run (Cert.UpForwardReferenceIdeal.defs (F := Ideal)) (onTc (τ := Cert.UpForwardReferenceIdeal.τ) (Cert.UpForwardReferenceIdeal.main (F := Ideal))) ⟨m', fun _ => 0, g'⟩ (fun r => ∀ c : Dev Cert.UpForwardReferenceIdeal.nD,
          r.2.mem ((c.tc : Thread Cert.UpForwardReferenceIdeal.nD Cert.UpForwardReferenceIdeal.τ).loc Cert.UpForwardReferenceIdeal.main_v2) = v0 c
          ∧ r.2.mem ((c.tc : Thread Cert.UpForwardReferenceIdeal.nD Cert.UpForwardReferenceIdeal.τ).loc Cert.UpForwardReferenceIdeal.main_arg0) = m' ((c.tc : Thread Cert.UpForwardReferenceIdeal.nD Cert.UpForwardReferenceIdeal.τ).loc Cert.UpForwardReferenceIdeal.main_arg0)
          ∧ r.2.mem ((c.tc : Thread Cert.UpForwardReferenceIdeal.nD Cert.UpForwardReferenceIdeal.τ).loc Cert.UpForwardReferenceIdeal.main_arg1) = m' ((c.tc : Thread Cert.UpForwardReferenceIdeal.nD Cert.UpForwardReferenceIdeal.τ).loc Cert.UpForwardReferenceIdeal.main_arg1))

def preserves_DownForward_DownForwardIdeal : Prop :=
  True

def algebraic_DownForwardIdeal_DownForwardReferenceIdeal [hDownForwardIdeal : Cert.DownForwardIdeal.Facts] [hDownForwardReferenceIdeal : Cert.DownForwardReferenceIdeal.Facts] : Prop :=
  ∀ (m : (ℓ : Loc Cert.DownForwardIdeal.nD Cert.DownForwardIdeal.τ Cert.DownForwardIdeal.sig) → Buf (Elt Ideal) ℓ) (g : Dev Cert.DownForwardIdeal.nD → PrngReg)
    (m' : (ℓ : Loc Cert.DownForwardReferenceIdeal.nD Cert.DownForwardReferenceIdeal.τ Cert.DownForwardReferenceIdeal.sig) → Buf (Elt Ideal) ℓ) (g' : Dev Cert.DownForwardReferenceIdeal.nD → PrngReg), Pre_DownForwardIdeal m →
    (∀ c : Dev Cert.DownForwardIdeal.nD,
      m' ((c.tc : Thread Cert.DownForwardReferenceIdeal.nD Cert.DownForwardReferenceIdeal.τ).loc Cert.DownForwardReferenceIdeal.main_arg0) = m ((c.tc : Thread Cert.DownForwardIdeal.nD Cert.DownForwardIdeal.τ).loc Cert.DownForwardIdeal.main_arg0)
      ∧ m' ((c.tc : Thread Cert.DownForwardReferenceIdeal.nD Cert.DownForwardReferenceIdeal.τ).loc Cert.DownForwardReferenceIdeal.main_arg1) = m ((c.tc : Thread Cert.DownForwardIdeal.nD Cert.DownForwardIdeal.τ).loc Cert.DownForwardIdeal.main_arg1)) →
    ∃ (v0 : (c : Dev Cert.DownForwardIdeal.nD) → Buf (Elt Ideal) ((c.tc : Thread Cert.DownForwardIdeal.nD Cert.DownForwardIdeal.τ).loc Cert.DownForwardIdeal.main_v0)),
      θ_run (Cert.DownForwardIdeal.defs (F := Ideal)) (onTc (τ := Cert.DownForwardIdeal.τ) (Cert.DownForwardIdeal.main (F := Ideal))) ⟨m, fun _ => 0, g⟩ (fun r => ∀ c : Dev Cert.DownForwardIdeal.nD,
          r.2.mem ((c.tc : Thread Cert.DownForwardIdeal.nD Cert.DownForwardIdeal.τ).loc Cert.DownForwardIdeal.main_v0) = v0 c
          ∧ r.2.mem ((c.tc : Thread Cert.DownForwardIdeal.nD Cert.DownForwardIdeal.τ).loc Cert.DownForwardIdeal.main_arg0) = m ((c.tc : Thread Cert.DownForwardIdeal.nD Cert.DownForwardIdeal.τ).loc Cert.DownForwardIdeal.main_arg0)
          ∧ r.2.mem ((c.tc : Thread Cert.DownForwardIdeal.nD Cert.DownForwardIdeal.τ).loc Cert.DownForwardIdeal.main_arg1) = m ((c.tc : Thread Cert.DownForwardIdeal.nD Cert.DownForwardIdeal.τ).loc Cert.DownForwardIdeal.main_arg1))
      ∧ θ_run (Cert.DownForwardReferenceIdeal.defs (F := Ideal)) (onTc (τ := Cert.DownForwardReferenceIdeal.τ) (Cert.DownForwardReferenceIdeal.main (F := Ideal))) ⟨m', fun _ => 0, g'⟩ (fun r => ∀ c : Dev Cert.DownForwardReferenceIdeal.nD,
          r.2.mem ((c.tc : Thread Cert.DownForwardReferenceIdeal.nD Cert.DownForwardReferenceIdeal.τ).loc Cert.DownForwardReferenceIdeal.main_v2) = v0 c
          ∧ r.2.mem ((c.tc : Thread Cert.DownForwardReferenceIdeal.nD Cert.DownForwardReferenceIdeal.τ).loc Cert.DownForwardReferenceIdeal.main_arg0) = m' ((c.tc : Thread Cert.DownForwardReferenceIdeal.nD Cert.DownForwardReferenceIdeal.τ).loc Cert.DownForwardReferenceIdeal.main_arg0)
          ∧ r.2.mem ((c.tc : Thread Cert.DownForwardReferenceIdeal.nD Cert.DownForwardReferenceIdeal.τ).loc Cert.DownForwardReferenceIdeal.main_arg1) = m' ((c.tc : Thread Cert.DownForwardReferenceIdeal.nD Cert.DownForwardReferenceIdeal.τ).loc Cert.DownForwardReferenceIdeal.main_arg1))

def preserves_GmOutInput_GmOutInputIdeal : Prop :=
  True

def algebraic_GmOutInputIdeal_GmOutInputReferenceIdeal [hGmOutInputIdeal : Cert.GmOutInputIdeal.Facts] [hGmOutInputReferenceIdeal : Cert.GmOutInputReferenceIdeal.Facts] : Prop :=
  ∀ (m : (ℓ : Loc Cert.GmOutInputIdeal.nD Cert.GmOutInputIdeal.τ Cert.GmOutInputIdeal.sig) → Buf (Elt Ideal) ℓ) (g : Dev Cert.GmOutInputIdeal.nD → PrngReg)
    (m' : (ℓ : Loc Cert.GmOutInputReferenceIdeal.nD Cert.GmOutInputReferenceIdeal.τ Cert.GmOutInputReferenceIdeal.sig) → Buf (Elt Ideal) ℓ) (g' : Dev Cert.GmOutInputReferenceIdeal.nD → PrngReg), Pre_GmOutInputIdeal m →
    (∀ c : Dev Cert.GmOutInputIdeal.nD,
      m' ((c.tc : Thread Cert.GmOutInputReferenceIdeal.nD Cert.GmOutInputReferenceIdeal.τ).loc Cert.GmOutInputReferenceIdeal.main_arg0) = m ((c.tc : Thread Cert.GmOutInputIdeal.nD Cert.GmOutInputIdeal.τ).loc Cert.GmOutInputIdeal.main_arg0)
      ∧ m' ((c.tc : Thread Cert.GmOutInputReferenceIdeal.nD Cert.GmOutInputReferenceIdeal.τ).loc Cert.GmOutInputReferenceIdeal.main_arg1) = m ((c.tc : Thread Cert.GmOutInputIdeal.nD Cert.GmOutInputIdeal.τ).loc Cert.GmOutInputIdeal.main_arg1)) →
    ∃ (v0 : (c : Dev Cert.GmOutInputIdeal.nD) → Buf (Elt Ideal) ((c.tc : Thread Cert.GmOutInputIdeal.nD Cert.GmOutInputIdeal.τ).loc Cert.GmOutInputIdeal.main_v0)),
      θ_run (Cert.GmOutInputIdeal.defs (F := Ideal)) (onTc (τ := Cert.GmOutInputIdeal.τ) (Cert.GmOutInputIdeal.main (F := Ideal))) ⟨m, fun _ => 0, g⟩ (fun r => ∀ c : Dev Cert.GmOutInputIdeal.nD,
          r.2.mem ((c.tc : Thread Cert.GmOutInputIdeal.nD Cert.GmOutInputIdeal.τ).loc Cert.GmOutInputIdeal.main_v0) = v0 c
          ∧ r.2.mem ((c.tc : Thread Cert.GmOutInputIdeal.nD Cert.GmOutInputIdeal.τ).loc Cert.GmOutInputIdeal.main_arg0) = m ((c.tc : Thread Cert.GmOutInputIdeal.nD Cert.GmOutInputIdeal.τ).loc Cert.GmOutInputIdeal.main_arg0)
          ∧ r.2.mem ((c.tc : Thread Cert.GmOutInputIdeal.nD Cert.GmOutInputIdeal.τ).loc Cert.GmOutInputIdeal.main_arg1) = m ((c.tc : Thread Cert.GmOutInputIdeal.nD Cert.GmOutInputIdeal.τ).loc Cert.GmOutInputIdeal.main_arg1))
      ∧ θ_run (Cert.GmOutInputReferenceIdeal.defs (F := Ideal)) (onTc (τ := Cert.GmOutInputReferenceIdeal.τ) (Cert.GmOutInputReferenceIdeal.main (F := Ideal))) ⟨m', fun _ => 0, g'⟩ (fun r => ∀ c : Dev Cert.GmOutInputReferenceIdeal.nD,
          r.2.mem ((c.tc : Thread Cert.GmOutInputReferenceIdeal.nD Cert.GmOutInputReferenceIdeal.τ).loc Cert.GmOutInputReferenceIdeal.main_v4) = v0 c
          ∧ r.2.mem ((c.tc : Thread Cert.GmOutInputReferenceIdeal.nD Cert.GmOutInputReferenceIdeal.τ).loc Cert.GmOutInputReferenceIdeal.main_arg0) = m' ((c.tc : Thread Cert.GmOutInputReferenceIdeal.nD Cert.GmOutInputReferenceIdeal.τ).loc Cert.GmOutInputReferenceIdeal.main_arg0)
          ∧ r.2.mem ((c.tc : Thread Cert.GmOutInputReferenceIdeal.nD Cert.GmOutInputReferenceIdeal.τ).loc Cert.GmOutInputReferenceIdeal.main_arg1) = m' ((c.tc : Thread Cert.GmOutInputReferenceIdeal.nD Cert.GmOutInputReferenceIdeal.τ).loc Cert.GmOutInputReferenceIdeal.main_arg1))

def preserves_GmOutWeight_GmOutWeightIdeal : Prop :=
  True

def algebraic_GmOutWeightIdeal_GmOutWeightReferenceIdeal [hGmOutWeightIdeal : Cert.GmOutWeightIdeal.Facts] [hGmOutWeightReferenceIdeal : Cert.GmOutWeightReferenceIdeal.Facts] : Prop :=
  ∀ (m : (ℓ : Loc Cert.GmOutWeightIdeal.nD Cert.GmOutWeightIdeal.τ Cert.GmOutWeightIdeal.sig) → Buf (Elt Ideal) ℓ) (g : Dev Cert.GmOutWeightIdeal.nD → PrngReg)
    (m' : (ℓ : Loc Cert.GmOutWeightReferenceIdeal.nD Cert.GmOutWeightReferenceIdeal.τ Cert.GmOutWeightReferenceIdeal.sig) → Buf (Elt Ideal) ℓ) (g' : Dev Cert.GmOutWeightReferenceIdeal.nD → PrngReg), Pre_GmOutWeightIdeal m →
    (∀ c : Dev Cert.GmOutWeightIdeal.nD,
      m' ((c.tc : Thread Cert.GmOutWeightReferenceIdeal.nD Cert.GmOutWeightReferenceIdeal.τ).loc Cert.GmOutWeightReferenceIdeal.main_arg0) = m ((c.tc : Thread Cert.GmOutWeightIdeal.nD Cert.GmOutWeightIdeal.τ).loc Cert.GmOutWeightIdeal.main_arg0)
      ∧ m' ((c.tc : Thread Cert.GmOutWeightReferenceIdeal.nD Cert.GmOutWeightReferenceIdeal.τ).loc Cert.GmOutWeightReferenceIdeal.main_arg1) = m ((c.tc : Thread Cert.GmOutWeightIdeal.nD Cert.GmOutWeightIdeal.τ).loc Cert.GmOutWeightIdeal.main_arg1)) →
    ∃ (v0 : (c : Dev Cert.GmOutWeightIdeal.nD) → Buf (Elt Ideal) ((c.tc : Thread Cert.GmOutWeightIdeal.nD Cert.GmOutWeightIdeal.τ).loc Cert.GmOutWeightIdeal.main_v0)),
      θ_run (Cert.GmOutWeightIdeal.defs (F := Ideal)) (onTc (τ := Cert.GmOutWeightIdeal.τ) (Cert.GmOutWeightIdeal.main (F := Ideal))) ⟨m, fun _ => 0, g⟩ (fun r => ∀ c : Dev Cert.GmOutWeightIdeal.nD,
          r.2.mem ((c.tc : Thread Cert.GmOutWeightIdeal.nD Cert.GmOutWeightIdeal.τ).loc Cert.GmOutWeightIdeal.main_v0) = v0 c
          ∧ r.2.mem ((c.tc : Thread Cert.GmOutWeightIdeal.nD Cert.GmOutWeightIdeal.τ).loc Cert.GmOutWeightIdeal.main_arg0) = m ((c.tc : Thread Cert.GmOutWeightIdeal.nD Cert.GmOutWeightIdeal.τ).loc Cert.GmOutWeightIdeal.main_arg0)
          ∧ r.2.mem ((c.tc : Thread Cert.GmOutWeightIdeal.nD Cert.GmOutWeightIdeal.τ).loc Cert.GmOutWeightIdeal.main_arg1) = m ((c.tc : Thread Cert.GmOutWeightIdeal.nD Cert.GmOutWeightIdeal.τ).loc Cert.GmOutWeightIdeal.main_arg1))
      ∧ θ_run (Cert.GmOutWeightReferenceIdeal.defs (F := Ideal)) (onTc (τ := Cert.GmOutWeightReferenceIdeal.τ) (Cert.GmOutWeightReferenceIdeal.main (F := Ideal))) ⟨m', fun _ => 0, g'⟩ (fun r => ∀ c : Dev Cert.GmOutWeightReferenceIdeal.nD,
          r.2.mem ((c.tc : Thread Cert.GmOutWeightReferenceIdeal.nD Cert.GmOutWeightReferenceIdeal.τ).loc Cert.GmOutWeightReferenceIdeal.main_v6) = v0 c
          ∧ r.2.mem ((c.tc : Thread Cert.GmOutWeightReferenceIdeal.nD Cert.GmOutWeightReferenceIdeal.τ).loc Cert.GmOutWeightReferenceIdeal.main_arg0) = m' ((c.tc : Thread Cert.GmOutWeightReferenceIdeal.nD Cert.GmOutWeightReferenceIdeal.τ).loc Cert.GmOutWeightReferenceIdeal.main_arg0)
          ∧ r.2.mem ((c.tc : Thread Cert.GmOutWeightReferenceIdeal.nD Cert.GmOutWeightReferenceIdeal.τ).loc Cert.GmOutWeightReferenceIdeal.main_arg1) = m' ((c.tc : Thread Cert.GmOutWeightReferenceIdeal.nD Cert.GmOutWeightReferenceIdeal.τ).loc Cert.GmOutWeightReferenceIdeal.main_arg1))

def preserves_GmOutForward_GmOutForwardIdeal : Prop :=
  True

def algebraic_GmOutForwardIdeal_GmOutForwardReferenceIdeal [hGmOutForwardIdeal : Cert.GmOutForwardIdeal.Facts] [hGmOutForwardReferenceIdeal : Cert.GmOutForwardReferenceIdeal.Facts] : Prop :=
  ∀ (m : (ℓ : Loc Cert.GmOutForwardIdeal.nD Cert.GmOutForwardIdeal.τ Cert.GmOutForwardIdeal.sig) → Buf (Elt Ideal) ℓ) (g : Dev Cert.GmOutForwardIdeal.nD → PrngReg)
    (m' : (ℓ : Loc Cert.GmOutForwardReferenceIdeal.nD Cert.GmOutForwardReferenceIdeal.τ Cert.GmOutForwardReferenceIdeal.sig) → Buf (Elt Ideal) ℓ) (g' : Dev Cert.GmOutForwardReferenceIdeal.nD → PrngReg), Pre_GmOutForwardIdeal m →
    (∀ c : Dev Cert.GmOutForwardIdeal.nD,
      m' ((c.tc : Thread Cert.GmOutForwardReferenceIdeal.nD Cert.GmOutForwardReferenceIdeal.τ).loc Cert.GmOutForwardReferenceIdeal.main_arg0) = m ((c.tc : Thread Cert.GmOutForwardIdeal.nD Cert.GmOutForwardIdeal.τ).loc Cert.GmOutForwardIdeal.main_arg0)
      ∧ m' ((c.tc : Thread Cert.GmOutForwardReferenceIdeal.nD Cert.GmOutForwardReferenceIdeal.τ).loc Cert.GmOutForwardReferenceIdeal.main_arg1) = m ((c.tc : Thread Cert.GmOutForwardIdeal.nD Cert.GmOutForwardIdeal.τ).loc Cert.GmOutForwardIdeal.main_arg1)) →
    ∃ (v0 : (c : Dev Cert.GmOutForwardIdeal.nD) → Buf (Elt Ideal) ((c.tc : Thread Cert.GmOutForwardIdeal.nD Cert.GmOutForwardIdeal.τ).loc Cert.GmOutForwardIdeal.main_v0)),
      θ_run (Cert.GmOutForwardIdeal.defs (F := Ideal)) (onTc (τ := Cert.GmOutForwardIdeal.τ) (Cert.GmOutForwardIdeal.main (F := Ideal))) ⟨m, fun _ => 0, g⟩ (fun r => ∀ c : Dev Cert.GmOutForwardIdeal.nD,
          r.2.mem ((c.tc : Thread Cert.GmOutForwardIdeal.nD Cert.GmOutForwardIdeal.τ).loc Cert.GmOutForwardIdeal.main_v0) = v0 c
          ∧ r.2.mem ((c.tc : Thread Cert.GmOutForwardIdeal.nD Cert.GmOutForwardIdeal.τ).loc Cert.GmOutForwardIdeal.main_arg0) = m ((c.tc : Thread Cert.GmOutForwardIdeal.nD Cert.GmOutForwardIdeal.τ).loc Cert.GmOutForwardIdeal.main_arg0)
          ∧ r.2.mem ((c.tc : Thread Cert.GmOutForwardIdeal.nD Cert.GmOutForwardIdeal.τ).loc Cert.GmOutForwardIdeal.main_arg1) = m ((c.tc : Thread Cert.GmOutForwardIdeal.nD Cert.GmOutForwardIdeal.τ).loc Cert.GmOutForwardIdeal.main_arg1))
      ∧ θ_run (Cert.GmOutForwardReferenceIdeal.defs (F := Ideal)) (onTc (τ := Cert.GmOutForwardReferenceIdeal.τ) (Cert.GmOutForwardReferenceIdeal.main (F := Ideal))) ⟨m', fun _ => 0, g'⟩ (fun r => ∀ c : Dev Cert.GmOutForwardReferenceIdeal.nD,
          r.2.mem ((c.tc : Thread Cert.GmOutForwardReferenceIdeal.nD Cert.GmOutForwardReferenceIdeal.τ).loc Cert.GmOutForwardReferenceIdeal.main_v2) = v0 c
          ∧ r.2.mem ((c.tc : Thread Cert.GmOutForwardReferenceIdeal.nD Cert.GmOutForwardReferenceIdeal.τ).loc Cert.GmOutForwardReferenceIdeal.main_arg0) = m' ((c.tc : Thread Cert.GmOutForwardReferenceIdeal.nD Cert.GmOutForwardReferenceIdeal.τ).loc Cert.GmOutForwardReferenceIdeal.main_arg0)
          ∧ r.2.mem ((c.tc : Thread Cert.GmOutForwardReferenceIdeal.nD Cert.GmOutForwardReferenceIdeal.τ).loc Cert.GmOutForwardReferenceIdeal.main_arg1) = m' ((c.tc : Thread Cert.GmOutForwardReferenceIdeal.nD Cert.GmOutForwardReferenceIdeal.τ).loc Cert.GmOutForwardReferenceIdeal.main_arg1))

def preserves_HgOutInput_HgOutInputIdeal : Prop :=
  True

def algebraic_HgOutInputIdeal_HgOutInputReferenceIdeal [hHgOutInputIdeal : Cert.HgOutInputIdeal.Facts] [hHgOutInputReferenceIdeal : Cert.HgOutInputReferenceIdeal.Facts] : Prop :=
  ∀ (m : (ℓ : Loc Cert.HgOutInputIdeal.nD Cert.HgOutInputIdeal.τ Cert.HgOutInputIdeal.sig) → Buf (Elt Ideal) ℓ) (g : Dev Cert.HgOutInputIdeal.nD → PrngReg)
    (m' : (ℓ : Loc Cert.HgOutInputReferenceIdeal.nD Cert.HgOutInputReferenceIdeal.τ Cert.HgOutInputReferenceIdeal.sig) → Buf (Elt Ideal) ℓ) (g' : Dev Cert.HgOutInputReferenceIdeal.nD → PrngReg), Pre_HgOutInputIdeal m →
    (∀ c : Dev Cert.HgOutInputIdeal.nD,
      m' ((c.tc : Thread Cert.HgOutInputReferenceIdeal.nD Cert.HgOutInputReferenceIdeal.τ).loc Cert.HgOutInputReferenceIdeal.main_arg0) = m ((c.tc : Thread Cert.HgOutInputIdeal.nD Cert.HgOutInputIdeal.τ).loc Cert.HgOutInputIdeal.main_arg0)
      ∧ m' ((c.tc : Thread Cert.HgOutInputReferenceIdeal.nD Cert.HgOutInputReferenceIdeal.τ).loc Cert.HgOutInputReferenceIdeal.main_arg1) = m ((c.tc : Thread Cert.HgOutInputIdeal.nD Cert.HgOutInputIdeal.τ).loc Cert.HgOutInputIdeal.main_arg1)) →
    ∃ (v0 : (c : Dev Cert.HgOutInputIdeal.nD) → Buf (Elt Ideal) ((c.tc : Thread Cert.HgOutInputIdeal.nD Cert.HgOutInputIdeal.τ).loc Cert.HgOutInputIdeal.main_v0)),
      θ_run (Cert.HgOutInputIdeal.defs (F := Ideal)) (onTc (τ := Cert.HgOutInputIdeal.τ) (Cert.HgOutInputIdeal.main (F := Ideal))) ⟨m, fun _ => 0, g⟩ (fun r => ∀ c : Dev Cert.HgOutInputIdeal.nD,
          r.2.mem ((c.tc : Thread Cert.HgOutInputIdeal.nD Cert.HgOutInputIdeal.τ).loc Cert.HgOutInputIdeal.main_v0) = v0 c
          ∧ r.2.mem ((c.tc : Thread Cert.HgOutInputIdeal.nD Cert.HgOutInputIdeal.τ).loc Cert.HgOutInputIdeal.main_arg0) = m ((c.tc : Thread Cert.HgOutInputIdeal.nD Cert.HgOutInputIdeal.τ).loc Cert.HgOutInputIdeal.main_arg0)
          ∧ r.2.mem ((c.tc : Thread Cert.HgOutInputIdeal.nD Cert.HgOutInputIdeal.τ).loc Cert.HgOutInputIdeal.main_arg1) = m ((c.tc : Thread Cert.HgOutInputIdeal.nD Cert.HgOutInputIdeal.τ).loc Cert.HgOutInputIdeal.main_arg1))
      ∧ θ_run (Cert.HgOutInputReferenceIdeal.defs (F := Ideal)) (onTc (τ := Cert.HgOutInputReferenceIdeal.τ) (Cert.HgOutInputReferenceIdeal.main (F := Ideal))) ⟨m', fun _ => 0, g'⟩ (fun r => ∀ c : Dev Cert.HgOutInputReferenceIdeal.nD,
          r.2.mem ((c.tc : Thread Cert.HgOutInputReferenceIdeal.nD Cert.HgOutInputReferenceIdeal.τ).loc Cert.HgOutInputReferenceIdeal.main_v4) = v0 c
          ∧ r.2.mem ((c.tc : Thread Cert.HgOutInputReferenceIdeal.nD Cert.HgOutInputReferenceIdeal.τ).loc Cert.HgOutInputReferenceIdeal.main_arg0) = m' ((c.tc : Thread Cert.HgOutInputReferenceIdeal.nD Cert.HgOutInputReferenceIdeal.τ).loc Cert.HgOutInputReferenceIdeal.main_arg0)
          ∧ r.2.mem ((c.tc : Thread Cert.HgOutInputReferenceIdeal.nD Cert.HgOutInputReferenceIdeal.τ).loc Cert.HgOutInputReferenceIdeal.main_arg1) = m' ((c.tc : Thread Cert.HgOutInputReferenceIdeal.nD Cert.HgOutInputReferenceIdeal.τ).loc Cert.HgOutInputReferenceIdeal.main_arg1))

def preserves_HgOutWeight_HgOutWeightIdeal : Prop :=
  True

def algebraic_HgOutWeightIdeal_HgOutWeightReferenceIdeal [hHgOutWeightIdeal : Cert.HgOutWeightIdeal.Facts] [hHgOutWeightReferenceIdeal : Cert.HgOutWeightReferenceIdeal.Facts] : Prop :=
  ∀ (m : (ℓ : Loc Cert.HgOutWeightIdeal.nD Cert.HgOutWeightIdeal.τ Cert.HgOutWeightIdeal.sig) → Buf (Elt Ideal) ℓ) (g : Dev Cert.HgOutWeightIdeal.nD → PrngReg)
    (m' : (ℓ : Loc Cert.HgOutWeightReferenceIdeal.nD Cert.HgOutWeightReferenceIdeal.τ Cert.HgOutWeightReferenceIdeal.sig) → Buf (Elt Ideal) ℓ) (g' : Dev Cert.HgOutWeightReferenceIdeal.nD → PrngReg), Pre_HgOutWeightIdeal m →
    (∀ c : Dev Cert.HgOutWeightIdeal.nD,
      m' ((c.tc : Thread Cert.HgOutWeightReferenceIdeal.nD Cert.HgOutWeightReferenceIdeal.τ).loc Cert.HgOutWeightReferenceIdeal.main_arg0) = m ((c.tc : Thread Cert.HgOutWeightIdeal.nD Cert.HgOutWeightIdeal.τ).loc Cert.HgOutWeightIdeal.main_arg0)
      ∧ m' ((c.tc : Thread Cert.HgOutWeightReferenceIdeal.nD Cert.HgOutWeightReferenceIdeal.τ).loc Cert.HgOutWeightReferenceIdeal.main_arg1) = m ((c.tc : Thread Cert.HgOutWeightIdeal.nD Cert.HgOutWeightIdeal.τ).loc Cert.HgOutWeightIdeal.main_arg1)) →
    ∃ (v0 : (c : Dev Cert.HgOutWeightIdeal.nD) → Buf (Elt Ideal) ((c.tc : Thread Cert.HgOutWeightIdeal.nD Cert.HgOutWeightIdeal.τ).loc Cert.HgOutWeightIdeal.main_v0)),
      θ_run (Cert.HgOutWeightIdeal.defs (F := Ideal)) (onTc (τ := Cert.HgOutWeightIdeal.τ) (Cert.HgOutWeightIdeal.main (F := Ideal))) ⟨m, fun _ => 0, g⟩ (fun r => ∀ c : Dev Cert.HgOutWeightIdeal.nD,
          r.2.mem ((c.tc : Thread Cert.HgOutWeightIdeal.nD Cert.HgOutWeightIdeal.τ).loc Cert.HgOutWeightIdeal.main_v0) = v0 c
          ∧ r.2.mem ((c.tc : Thread Cert.HgOutWeightIdeal.nD Cert.HgOutWeightIdeal.τ).loc Cert.HgOutWeightIdeal.main_arg0) = m ((c.tc : Thread Cert.HgOutWeightIdeal.nD Cert.HgOutWeightIdeal.τ).loc Cert.HgOutWeightIdeal.main_arg0)
          ∧ r.2.mem ((c.tc : Thread Cert.HgOutWeightIdeal.nD Cert.HgOutWeightIdeal.τ).loc Cert.HgOutWeightIdeal.main_arg1) = m ((c.tc : Thread Cert.HgOutWeightIdeal.nD Cert.HgOutWeightIdeal.τ).loc Cert.HgOutWeightIdeal.main_arg1))
      ∧ θ_run (Cert.HgOutWeightReferenceIdeal.defs (F := Ideal)) (onTc (τ := Cert.HgOutWeightReferenceIdeal.τ) (Cert.HgOutWeightReferenceIdeal.main (F := Ideal))) ⟨m', fun _ => 0, g'⟩ (fun r => ∀ c : Dev Cert.HgOutWeightReferenceIdeal.nD,
          r.2.mem ((c.tc : Thread Cert.HgOutWeightReferenceIdeal.nD Cert.HgOutWeightReferenceIdeal.τ).loc Cert.HgOutWeightReferenceIdeal.main_v6) = v0 c
          ∧ r.2.mem ((c.tc : Thread Cert.HgOutWeightReferenceIdeal.nD Cert.HgOutWeightReferenceIdeal.τ).loc Cert.HgOutWeightReferenceIdeal.main_arg0) = m' ((c.tc : Thread Cert.HgOutWeightReferenceIdeal.nD Cert.HgOutWeightReferenceIdeal.τ).loc Cert.HgOutWeightReferenceIdeal.main_arg0)
          ∧ r.2.mem ((c.tc : Thread Cert.HgOutWeightReferenceIdeal.nD Cert.HgOutWeightReferenceIdeal.τ).loc Cert.HgOutWeightReferenceIdeal.main_arg1) = m' ((c.tc : Thread Cert.HgOutWeightReferenceIdeal.nD Cert.HgOutWeightReferenceIdeal.τ).loc Cert.HgOutWeightReferenceIdeal.main_arg1))

def preserves_HgOutForward_HgOutForwardIdeal : Prop :=
  True

def algebraic_HgOutForwardIdeal_HgOutForwardReferenceIdeal [hHgOutForwardIdeal : Cert.HgOutForwardIdeal.Facts] [hHgOutForwardReferenceIdeal : Cert.HgOutForwardReferenceIdeal.Facts] : Prop :=
  ∀ (m : (ℓ : Loc Cert.HgOutForwardIdeal.nD Cert.HgOutForwardIdeal.τ Cert.HgOutForwardIdeal.sig) → Buf (Elt Ideal) ℓ) (g : Dev Cert.HgOutForwardIdeal.nD → PrngReg)
    (m' : (ℓ : Loc Cert.HgOutForwardReferenceIdeal.nD Cert.HgOutForwardReferenceIdeal.τ Cert.HgOutForwardReferenceIdeal.sig) → Buf (Elt Ideal) ℓ) (g' : Dev Cert.HgOutForwardReferenceIdeal.nD → PrngReg), Pre_HgOutForwardIdeal m →
    (∀ c : Dev Cert.HgOutForwardIdeal.nD,
      m' ((c.tc : Thread Cert.HgOutForwardReferenceIdeal.nD Cert.HgOutForwardReferenceIdeal.τ).loc Cert.HgOutForwardReferenceIdeal.main_arg0) = m ((c.tc : Thread Cert.HgOutForwardIdeal.nD Cert.HgOutForwardIdeal.τ).loc Cert.HgOutForwardIdeal.main_arg0)
      ∧ m' ((c.tc : Thread Cert.HgOutForwardReferenceIdeal.nD Cert.HgOutForwardReferenceIdeal.τ).loc Cert.HgOutForwardReferenceIdeal.main_arg1) = m ((c.tc : Thread Cert.HgOutForwardIdeal.nD Cert.HgOutForwardIdeal.τ).loc Cert.HgOutForwardIdeal.main_arg1)) →
    ∃ (v0 : (c : Dev Cert.HgOutForwardIdeal.nD) → Buf (Elt Ideal) ((c.tc : Thread Cert.HgOutForwardIdeal.nD Cert.HgOutForwardIdeal.τ).loc Cert.HgOutForwardIdeal.main_v0)),
      θ_run (Cert.HgOutForwardIdeal.defs (F := Ideal)) (onTc (τ := Cert.HgOutForwardIdeal.τ) (Cert.HgOutForwardIdeal.main (F := Ideal))) ⟨m, fun _ => 0, g⟩ (fun r => ∀ c : Dev Cert.HgOutForwardIdeal.nD,
          r.2.mem ((c.tc : Thread Cert.HgOutForwardIdeal.nD Cert.HgOutForwardIdeal.τ).loc Cert.HgOutForwardIdeal.main_v0) = v0 c
          ∧ r.2.mem ((c.tc : Thread Cert.HgOutForwardIdeal.nD Cert.HgOutForwardIdeal.τ).loc Cert.HgOutForwardIdeal.main_arg0) = m ((c.tc : Thread Cert.HgOutForwardIdeal.nD Cert.HgOutForwardIdeal.τ).loc Cert.HgOutForwardIdeal.main_arg0)
          ∧ r.2.mem ((c.tc : Thread Cert.HgOutForwardIdeal.nD Cert.HgOutForwardIdeal.τ).loc Cert.HgOutForwardIdeal.main_arg1) = m ((c.tc : Thread Cert.HgOutForwardIdeal.nD Cert.HgOutForwardIdeal.τ).loc Cert.HgOutForwardIdeal.main_arg1))
      ∧ θ_run (Cert.HgOutForwardReferenceIdeal.defs (F := Ideal)) (onTc (τ := Cert.HgOutForwardReferenceIdeal.τ) (Cert.HgOutForwardReferenceIdeal.main (F := Ideal))) ⟨m', fun _ => 0, g'⟩ (fun r => ∀ c : Dev Cert.HgOutForwardReferenceIdeal.nD,
          r.2.mem ((c.tc : Thread Cert.HgOutForwardReferenceIdeal.nD Cert.HgOutForwardReferenceIdeal.τ).loc Cert.HgOutForwardReferenceIdeal.main_v2) = v0 c
          ∧ r.2.mem ((c.tc : Thread Cert.HgOutForwardReferenceIdeal.nD Cert.HgOutForwardReferenceIdeal.τ).loc Cert.HgOutForwardReferenceIdeal.main_arg0) = m' ((c.tc : Thread Cert.HgOutForwardReferenceIdeal.nD Cert.HgOutForwardReferenceIdeal.τ).loc Cert.HgOutForwardReferenceIdeal.main_arg0)
          ∧ r.2.mem ((c.tc : Thread Cert.HgOutForwardReferenceIdeal.nD Cert.HgOutForwardReferenceIdeal.τ).loc Cert.HgOutForwardReferenceIdeal.main_arg1) = m' ((c.tc : Thread Cert.HgOutForwardReferenceIdeal.nD Cert.HgOutForwardReferenceIdeal.τ).loc Cert.HgOutForwardReferenceIdeal.main_arg1))

def preserves_NormBackward_NormBackwardIdeal : Prop :=
  True

def algebraic_NormBackwardIdeal_NormBackwardReferenceIdeal [hNormBackwardIdeal : Cert.NormBackwardIdeal.Facts] [hNormBackwardReferenceIdeal : Cert.NormBackwardReferenceIdeal.Facts] : Prop :=
  ∀ (m : (ℓ : Loc Cert.NormBackwardIdeal.nD Cert.NormBackwardIdeal.τ Cert.NormBackwardIdeal.sig) → Buf (Elt Ideal) ℓ) (g : Dev Cert.NormBackwardIdeal.nD → PrngReg)
    (m' : (ℓ : Loc Cert.NormBackwardReferenceIdeal.nD Cert.NormBackwardReferenceIdeal.τ Cert.NormBackwardReferenceIdeal.sig) → Buf (Elt Ideal) ℓ) (g' : Dev Cert.NormBackwardReferenceIdeal.nD → PrngReg), Pre_NormBackwardIdeal m →
    (∀ c : Dev Cert.NormBackwardIdeal.nD,
      m' ((c.tc : Thread Cert.NormBackwardReferenceIdeal.nD Cert.NormBackwardReferenceIdeal.τ).loc Cert.NormBackwardReferenceIdeal.main_arg0) = m ((c.tc : Thread Cert.NormBackwardIdeal.nD Cert.NormBackwardIdeal.τ).loc Cert.NormBackwardIdeal.main_arg0)
      ∧ m' ((c.tc : Thread Cert.NormBackwardReferenceIdeal.nD Cert.NormBackwardReferenceIdeal.τ).loc Cert.NormBackwardReferenceIdeal.main_arg1) = m ((c.tc : Thread Cert.NormBackwardIdeal.nD Cert.NormBackwardIdeal.τ).loc Cert.NormBackwardIdeal.main_arg1)
      ∧ m' ((c.tc : Thread Cert.NormBackwardReferenceIdeal.nD Cert.NormBackwardReferenceIdeal.τ).loc Cert.NormBackwardReferenceIdeal.main_arg2) = m ((c.tc : Thread Cert.NormBackwardIdeal.nD Cert.NormBackwardIdeal.τ).loc Cert.NormBackwardIdeal.main_arg2)
      ∧ m' ((c.tc : Thread Cert.NormBackwardReferenceIdeal.nD Cert.NormBackwardReferenceIdeal.τ).loc Cert.NormBackwardReferenceIdeal.main_arg3) = m ((c.tc : Thread Cert.NormBackwardIdeal.nD Cert.NormBackwardIdeal.τ).loc Cert.NormBackwardIdeal.main_arg3)
      ∧ m' ((c.tc : Thread Cert.NormBackwardReferenceIdeal.nD Cert.NormBackwardReferenceIdeal.τ).loc Cert.NormBackwardReferenceIdeal.main_arg4) = m ((c.tc : Thread Cert.NormBackwardIdeal.nD Cert.NormBackwardIdeal.τ).loc Cert.NormBackwardIdeal.main_arg4)
      ∧ m' ((c.tc : Thread Cert.NormBackwardReferenceIdeal.nD Cert.NormBackwardReferenceIdeal.τ).loc Cert.NormBackwardReferenceIdeal.main_arg5) = m ((c.tc : Thread Cert.NormBackwardIdeal.nD Cert.NormBackwardIdeal.τ).loc Cert.NormBackwardIdeal.main_arg5)
      ∧ m' ((c.tc : Thread Cert.NormBackwardReferenceIdeal.nD Cert.NormBackwardReferenceIdeal.τ).loc Cert.NormBackwardReferenceIdeal.main_arg6) = m ((c.tc : Thread Cert.NormBackwardIdeal.nD Cert.NormBackwardIdeal.τ).loc Cert.NormBackwardIdeal.main_arg6)) →
    ∃ (v0 : (c : Dev Cert.NormBackwardIdeal.nD) → Buf (Elt Ideal) ((c.tc : Thread Cert.NormBackwardIdeal.nD Cert.NormBackwardIdeal.τ).loc Cert.NormBackwardIdeal.main_v0_0)) (v1 : (c : Dev Cert.NormBackwardIdeal.nD) → Buf (Elt Ideal) ((c.tc : Thread Cert.NormBackwardIdeal.nD Cert.NormBackwardIdeal.τ).loc Cert.NormBackwardIdeal.main_v0_1)) (v2 : (c : Dev Cert.NormBackwardIdeal.nD) → Buf (Elt Ideal) ((c.tc : Thread Cert.NormBackwardIdeal.nD Cert.NormBackwardIdeal.τ).loc Cert.NormBackwardIdeal.main_v0_2)) (v3 : (c : Dev Cert.NormBackwardIdeal.nD) → Buf (Elt Ideal) ((c.tc : Thread Cert.NormBackwardIdeal.nD Cert.NormBackwardIdeal.τ).loc Cert.NormBackwardIdeal.main_v0_3)) (v4 : (c : Dev Cert.NormBackwardIdeal.nD) → Buf (Elt Ideal) ((c.tc : Thread Cert.NormBackwardIdeal.nD Cert.NormBackwardIdeal.τ).loc Cert.NormBackwardIdeal.main_v0_4)),
      θ_run (Cert.NormBackwardIdeal.defs (F := Ideal)) (onTc (τ := Cert.NormBackwardIdeal.τ) (Cert.NormBackwardIdeal.main (F := Ideal))) ⟨m, fun _ => 0, g⟩ (fun r => ∀ c : Dev Cert.NormBackwardIdeal.nD,
          r.2.mem ((c.tc : Thread Cert.NormBackwardIdeal.nD Cert.NormBackwardIdeal.τ).loc Cert.NormBackwardIdeal.main_v0_0) = v0 c
          ∧ r.2.mem ((c.tc : Thread Cert.NormBackwardIdeal.nD Cert.NormBackwardIdeal.τ).loc Cert.NormBackwardIdeal.main_v0_1) = v1 c
          ∧ r.2.mem ((c.tc : Thread Cert.NormBackwardIdeal.nD Cert.NormBackwardIdeal.τ).loc Cert.NormBackwardIdeal.main_v0_2) = v2 c
          ∧ r.2.mem ((c.tc : Thread Cert.NormBackwardIdeal.nD Cert.NormBackwardIdeal.τ).loc Cert.NormBackwardIdeal.main_v0_3) = v3 c
          ∧ r.2.mem ((c.tc : Thread Cert.NormBackwardIdeal.nD Cert.NormBackwardIdeal.τ).loc Cert.NormBackwardIdeal.main_v0_4) = v4 c
          ∧ r.2.mem ((c.tc : Thread Cert.NormBackwardIdeal.nD Cert.NormBackwardIdeal.τ).loc Cert.NormBackwardIdeal.main_arg0) = m ((c.tc : Thread Cert.NormBackwardIdeal.nD Cert.NormBackwardIdeal.τ).loc Cert.NormBackwardIdeal.main_arg0)
          ∧ r.2.mem ((c.tc : Thread Cert.NormBackwardIdeal.nD Cert.NormBackwardIdeal.τ).loc Cert.NormBackwardIdeal.main_arg1) = m ((c.tc : Thread Cert.NormBackwardIdeal.nD Cert.NormBackwardIdeal.τ).loc Cert.NormBackwardIdeal.main_arg1)
          ∧ r.2.mem ((c.tc : Thread Cert.NormBackwardIdeal.nD Cert.NormBackwardIdeal.τ).loc Cert.NormBackwardIdeal.main_arg2) = m ((c.tc : Thread Cert.NormBackwardIdeal.nD Cert.NormBackwardIdeal.τ).loc Cert.NormBackwardIdeal.main_arg2)
          ∧ r.2.mem ((c.tc : Thread Cert.NormBackwardIdeal.nD Cert.NormBackwardIdeal.τ).loc Cert.NormBackwardIdeal.main_arg3) = m ((c.tc : Thread Cert.NormBackwardIdeal.nD Cert.NormBackwardIdeal.τ).loc Cert.NormBackwardIdeal.main_arg3)
          ∧ r.2.mem ((c.tc : Thread Cert.NormBackwardIdeal.nD Cert.NormBackwardIdeal.τ).loc Cert.NormBackwardIdeal.main_arg4) = m ((c.tc : Thread Cert.NormBackwardIdeal.nD Cert.NormBackwardIdeal.τ).loc Cert.NormBackwardIdeal.main_arg4)
          ∧ r.2.mem ((c.tc : Thread Cert.NormBackwardIdeal.nD Cert.NormBackwardIdeal.τ).loc Cert.NormBackwardIdeal.main_arg5) = m ((c.tc : Thread Cert.NormBackwardIdeal.nD Cert.NormBackwardIdeal.τ).loc Cert.NormBackwardIdeal.main_arg5)
          ∧ r.2.mem ((c.tc : Thread Cert.NormBackwardIdeal.nD Cert.NormBackwardIdeal.τ).loc Cert.NormBackwardIdeal.main_arg6) = m ((c.tc : Thread Cert.NormBackwardIdeal.nD Cert.NormBackwardIdeal.τ).loc Cert.NormBackwardIdeal.main_arg6))
      ∧ θ_run (Cert.NormBackwardReferenceIdeal.defs (F := Ideal)) (onTc (τ := Cert.NormBackwardReferenceIdeal.τ) (Cert.NormBackwardReferenceIdeal.main (F := Ideal))) ⟨m', fun _ => 0, g'⟩ (fun r => ∀ c : Dev Cert.NormBackwardReferenceIdeal.nD,
          r.2.mem ((c.tc : Thread Cert.NormBackwardReferenceIdeal.nD Cert.NormBackwardReferenceIdeal.τ).loc Cert.NormBackwardReferenceIdeal.main_v47) = v0 c
          ∧ r.2.mem ((c.tc : Thread Cert.NormBackwardReferenceIdeal.nD Cert.NormBackwardReferenceIdeal.τ).loc Cert.NormBackwardReferenceIdeal.main_v53) = v1 c
          ∧ r.2.mem ((c.tc : Thread Cert.NormBackwardReferenceIdeal.nD Cert.NormBackwardReferenceIdeal.τ).loc Cert.NormBackwardReferenceIdeal.main_v23) = v2 c
          ∧ r.2.mem ((c.tc : Thread Cert.NormBackwardReferenceIdeal.nD Cert.NormBackwardReferenceIdeal.τ).loc Cert.NormBackwardReferenceIdeal.main_v26) = v3 c
          ∧ r.2.mem ((c.tc : Thread Cert.NormBackwardReferenceIdeal.nD Cert.NormBackwardReferenceIdeal.τ).loc Cert.NormBackwardReferenceIdeal.main_v52) = v4 c
          ∧ r.2.mem ((c.tc : Thread Cert.NormBackwardReferenceIdeal.nD Cert.NormBackwardReferenceIdeal.τ).loc Cert.NormBackwardReferenceIdeal.main_arg0) = m' ((c.tc : Thread Cert.NormBackwardReferenceIdeal.nD Cert.NormBackwardReferenceIdeal.τ).loc Cert.NormBackwardReferenceIdeal.main_arg0)
          ∧ r.2.mem ((c.tc : Thread Cert.NormBackwardReferenceIdeal.nD Cert.NormBackwardReferenceIdeal.τ).loc Cert.NormBackwardReferenceIdeal.main_arg1) = m' ((c.tc : Thread Cert.NormBackwardReferenceIdeal.nD Cert.NormBackwardReferenceIdeal.τ).loc Cert.NormBackwardReferenceIdeal.main_arg1)
          ∧ r.2.mem ((c.tc : Thread Cert.NormBackwardReferenceIdeal.nD Cert.NormBackwardReferenceIdeal.τ).loc Cert.NormBackwardReferenceIdeal.main_arg2) = m' ((c.tc : Thread Cert.NormBackwardReferenceIdeal.nD Cert.NormBackwardReferenceIdeal.τ).loc Cert.NormBackwardReferenceIdeal.main_arg2)
          ∧ r.2.mem ((c.tc : Thread Cert.NormBackwardReferenceIdeal.nD Cert.NormBackwardReferenceIdeal.τ).loc Cert.NormBackwardReferenceIdeal.main_arg3) = m' ((c.tc : Thread Cert.NormBackwardReferenceIdeal.nD Cert.NormBackwardReferenceIdeal.τ).loc Cert.NormBackwardReferenceIdeal.main_arg3)
          ∧ r.2.mem ((c.tc : Thread Cert.NormBackwardReferenceIdeal.nD Cert.NormBackwardReferenceIdeal.τ).loc Cert.NormBackwardReferenceIdeal.main_arg4) = m' ((c.tc : Thread Cert.NormBackwardReferenceIdeal.nD Cert.NormBackwardReferenceIdeal.τ).loc Cert.NormBackwardReferenceIdeal.main_arg4)
          ∧ r.2.mem ((c.tc : Thread Cert.NormBackwardReferenceIdeal.nD Cert.NormBackwardReferenceIdeal.τ).loc Cert.NormBackwardReferenceIdeal.main_arg5) = m' ((c.tc : Thread Cert.NormBackwardReferenceIdeal.nD Cert.NormBackwardReferenceIdeal.τ).loc Cert.NormBackwardReferenceIdeal.main_arg5)
          ∧ r.2.mem ((c.tc : Thread Cert.NormBackwardReferenceIdeal.nD Cert.NormBackwardReferenceIdeal.τ).loc Cert.NormBackwardReferenceIdeal.main_arg6) = m' ((c.tc : Thread Cert.NormBackwardReferenceIdeal.nD Cert.NormBackwardReferenceIdeal.τ).loc Cert.NormBackwardReferenceIdeal.main_arg6))

def preserves_AdaForward_AdaForwardIdeal : Prop :=
  True

def algebraic_AdaForwardIdeal_AdaForwardReferenceIdeal [hAdaForwardIdeal : Cert.AdaForwardIdeal.Facts] [hAdaForwardReferenceIdeal : Cert.AdaForwardReferenceIdeal.Facts] : Prop :=
  ∀ (m : (ℓ : Loc Cert.AdaForwardIdeal.nD Cert.AdaForwardIdeal.τ Cert.AdaForwardIdeal.sig) → Buf (Elt Ideal) ℓ) (g : Dev Cert.AdaForwardIdeal.nD → PrngReg)
    (m' : (ℓ : Loc Cert.AdaForwardReferenceIdeal.nD Cert.AdaForwardReferenceIdeal.τ Cert.AdaForwardReferenceIdeal.sig) → Buf (Elt Ideal) ℓ) (g' : Dev Cert.AdaForwardReferenceIdeal.nD → PrngReg), Pre_AdaForwardIdeal m →
    (∀ c : Dev Cert.AdaForwardIdeal.nD,
      m' ((c.tc : Thread Cert.AdaForwardReferenceIdeal.nD Cert.AdaForwardReferenceIdeal.τ).loc Cert.AdaForwardReferenceIdeal.main_arg0) = m ((c.tc : Thread Cert.AdaForwardIdeal.nD Cert.AdaForwardIdeal.τ).loc Cert.AdaForwardIdeal.main_arg0)
      ∧ m' ((c.tc : Thread Cert.AdaForwardReferenceIdeal.nD Cert.AdaForwardReferenceIdeal.τ).loc Cert.AdaForwardReferenceIdeal.main_arg1) = m ((c.tc : Thread Cert.AdaForwardIdeal.nD Cert.AdaForwardIdeal.τ).loc Cert.AdaForwardIdeal.main_arg1)
      ∧ m' ((c.tc : Thread Cert.AdaForwardReferenceIdeal.nD Cert.AdaForwardReferenceIdeal.τ).loc Cert.AdaForwardReferenceIdeal.main_arg2) = m ((c.tc : Thread Cert.AdaForwardIdeal.nD Cert.AdaForwardIdeal.τ).loc Cert.AdaForwardIdeal.main_arg2)) →
    ∃ (v0 : (c : Dev Cert.AdaForwardIdeal.nD) → Buf (Elt Ideal) ((c.tc : Thread Cert.AdaForwardIdeal.nD Cert.AdaForwardIdeal.τ).loc Cert.AdaForwardIdeal.main_v1)),
      θ_run (Cert.AdaForwardIdeal.defs (F := Ideal)) (onTc (τ := Cert.AdaForwardIdeal.τ) (Cert.AdaForwardIdeal.main (F := Ideal))) ⟨m, fun _ => 0, g⟩ (fun r => ∀ c : Dev Cert.AdaForwardIdeal.nD,
          r.2.mem ((c.tc : Thread Cert.AdaForwardIdeal.nD Cert.AdaForwardIdeal.τ).loc Cert.AdaForwardIdeal.main_v1) = v0 c
          ∧ r.2.mem ((c.tc : Thread Cert.AdaForwardIdeal.nD Cert.AdaForwardIdeal.τ).loc Cert.AdaForwardIdeal.main_arg0) = m ((c.tc : Thread Cert.AdaForwardIdeal.nD Cert.AdaForwardIdeal.τ).loc Cert.AdaForwardIdeal.main_arg0)
          ∧ r.2.mem ((c.tc : Thread Cert.AdaForwardIdeal.nD Cert.AdaForwardIdeal.τ).loc Cert.AdaForwardIdeal.main_arg1) = m ((c.tc : Thread Cert.AdaForwardIdeal.nD Cert.AdaForwardIdeal.τ).loc Cert.AdaForwardIdeal.main_arg1)
          ∧ r.2.mem ((c.tc : Thread Cert.AdaForwardIdeal.nD Cert.AdaForwardIdeal.τ).loc Cert.AdaForwardIdeal.main_arg2) = m ((c.tc : Thread Cert.AdaForwardIdeal.nD Cert.AdaForwardIdeal.τ).loc Cert.AdaForwardIdeal.main_arg2))
      ∧ θ_run (Cert.AdaForwardReferenceIdeal.defs (F := Ideal)) (onTc (τ := Cert.AdaForwardReferenceIdeal.τ) (Cert.AdaForwardReferenceIdeal.main (F := Ideal))) ⟨m', fun _ => 0, g'⟩ (fun r => ∀ c : Dev Cert.AdaForwardReferenceIdeal.nD,
          r.2.mem ((c.tc : Thread Cert.AdaForwardReferenceIdeal.nD Cert.AdaForwardReferenceIdeal.τ).loc Cert.AdaForwardReferenceIdeal.main_v5) = v0 c
          ∧ r.2.mem ((c.tc : Thread Cert.AdaForwardReferenceIdeal.nD Cert.AdaForwardReferenceIdeal.τ).loc Cert.AdaForwardReferenceIdeal.main_arg0) = m' ((c.tc : Thread Cert.AdaForwardReferenceIdeal.nD Cert.AdaForwardReferenceIdeal.τ).loc Cert.AdaForwardReferenceIdeal.main_arg0)
          ∧ r.2.mem ((c.tc : Thread Cert.AdaForwardReferenceIdeal.nD Cert.AdaForwardReferenceIdeal.τ).loc Cert.AdaForwardReferenceIdeal.main_arg1) = m' ((c.tc : Thread Cert.AdaForwardReferenceIdeal.nD Cert.AdaForwardReferenceIdeal.τ).loc Cert.AdaForwardReferenceIdeal.main_arg1)
          ∧ r.2.mem ((c.tc : Thread Cert.AdaForwardReferenceIdeal.nD Cert.AdaForwardReferenceIdeal.τ).loc Cert.AdaForwardReferenceIdeal.main_arg2) = m' ((c.tc : Thread Cert.AdaForwardReferenceIdeal.nD Cert.AdaForwardReferenceIdeal.τ).loc Cert.AdaForwardReferenceIdeal.main_arg2))

def preserves_AdaWeight_AdaWeightIdeal : Prop :=
  True

def algebraic_AdaWeightIdeal_AdaWeightReferenceIdeal [hAdaWeightIdeal : Cert.AdaWeightIdeal.Facts] [hAdaWeightReferenceIdeal : Cert.AdaWeightReferenceIdeal.Facts] : Prop :=
  ∀ (m : (ℓ : Loc Cert.AdaWeightIdeal.nD Cert.AdaWeightIdeal.τ Cert.AdaWeightIdeal.sig) → Buf (Elt Ideal) ℓ) (g : Dev Cert.AdaWeightIdeal.nD → PrngReg)
    (m' : (ℓ : Loc Cert.AdaWeightReferenceIdeal.nD Cert.AdaWeightReferenceIdeal.τ Cert.AdaWeightReferenceIdeal.sig) → Buf (Elt Ideal) ℓ) (g' : Dev Cert.AdaWeightReferenceIdeal.nD → PrngReg), Pre_AdaWeightIdeal m →
    (∀ c : Dev Cert.AdaWeightIdeal.nD,
      m' ((c.tc : Thread Cert.AdaWeightReferenceIdeal.nD Cert.AdaWeightReferenceIdeal.τ).loc Cert.AdaWeightReferenceIdeal.main_arg0) = m ((c.tc : Thread Cert.AdaWeightIdeal.nD Cert.AdaWeightIdeal.τ).loc Cert.AdaWeightIdeal.main_arg0)
      ∧ m' ((c.tc : Thread Cert.AdaWeightReferenceIdeal.nD Cert.AdaWeightReferenceIdeal.τ).loc Cert.AdaWeightReferenceIdeal.main_arg1) = m ((c.tc : Thread Cert.AdaWeightIdeal.nD Cert.AdaWeightIdeal.τ).loc Cert.AdaWeightIdeal.main_arg1)) →
    ∃ (v0 : (c : Dev Cert.AdaWeightIdeal.nD) → Buf (Elt Ideal) ((c.tc : Thread Cert.AdaWeightIdeal.nD Cert.AdaWeightIdeal.τ).loc Cert.AdaWeightIdeal.main_v0)),
      θ_run (Cert.AdaWeightIdeal.defs (F := Ideal)) (onTc (τ := Cert.AdaWeightIdeal.τ) (Cert.AdaWeightIdeal.main (F := Ideal))) ⟨m, fun _ => 0, g⟩ (fun r => ∀ c : Dev Cert.AdaWeightIdeal.nD,
          r.2.mem ((c.tc : Thread Cert.AdaWeightIdeal.nD Cert.AdaWeightIdeal.τ).loc Cert.AdaWeightIdeal.main_v0) = v0 c
          ∧ r.2.mem ((c.tc : Thread Cert.AdaWeightIdeal.nD Cert.AdaWeightIdeal.τ).loc Cert.AdaWeightIdeal.main_arg0) = m ((c.tc : Thread Cert.AdaWeightIdeal.nD Cert.AdaWeightIdeal.τ).loc Cert.AdaWeightIdeal.main_arg0)
          ∧ r.2.mem ((c.tc : Thread Cert.AdaWeightIdeal.nD Cert.AdaWeightIdeal.τ).loc Cert.AdaWeightIdeal.main_arg1) = m ((c.tc : Thread Cert.AdaWeightIdeal.nD Cert.AdaWeightIdeal.τ).loc Cert.AdaWeightIdeal.main_arg1))
      ∧ θ_run (Cert.AdaWeightReferenceIdeal.defs (F := Ideal)) (onTc (τ := Cert.AdaWeightReferenceIdeal.τ) (Cert.AdaWeightReferenceIdeal.main (F := Ideal))) ⟨m', fun _ => 0, g'⟩ (fun r => ∀ c : Dev Cert.AdaWeightReferenceIdeal.nD,
          r.2.mem ((c.tc : Thread Cert.AdaWeightReferenceIdeal.nD Cert.AdaWeightReferenceIdeal.τ).loc Cert.AdaWeightReferenceIdeal.main_v10) = v0 c
          ∧ r.2.mem ((c.tc : Thread Cert.AdaWeightReferenceIdeal.nD Cert.AdaWeightReferenceIdeal.τ).loc Cert.AdaWeightReferenceIdeal.main_arg0) = m' ((c.tc : Thread Cert.AdaWeightReferenceIdeal.nD Cert.AdaWeightReferenceIdeal.τ).loc Cert.AdaWeightReferenceIdeal.main_arg0)
          ∧ r.2.mem ((c.tc : Thread Cert.AdaWeightReferenceIdeal.nD Cert.AdaWeightReferenceIdeal.τ).loc Cert.AdaWeightReferenceIdeal.main_arg1) = m' ((c.tc : Thread Cert.AdaWeightReferenceIdeal.nD Cert.AdaWeightReferenceIdeal.τ).loc Cert.AdaWeightReferenceIdeal.main_arg1))

def preserves_FirstNormBackward_FirstNormBackwardIdeal : Prop :=
  True

def algebraic_FirstNormBackwardIdeal_FirstNormBackwardReferenceIdeal [hFirstNormBackwardIdeal : Cert.FirstNormBackwardIdeal.Facts] [hFirstNormBackwardReferenceIdeal : Cert.FirstNormBackwardReferenceIdeal.Facts] : Prop :=
  ∀ (m : (ℓ : Loc Cert.FirstNormBackwardIdeal.nD Cert.FirstNormBackwardIdeal.τ Cert.FirstNormBackwardIdeal.sig) → Buf (Elt Ideal) ℓ) (g : Dev Cert.FirstNormBackwardIdeal.nD → PrngReg)
    (m' : (ℓ : Loc Cert.FirstNormBackwardReferenceIdeal.nD Cert.FirstNormBackwardReferenceIdeal.τ Cert.FirstNormBackwardReferenceIdeal.sig) → Buf (Elt Ideal) ℓ) (g' : Dev Cert.FirstNormBackwardReferenceIdeal.nD → PrngReg), Pre_FirstNormBackwardIdeal m →
    (∀ c : Dev Cert.FirstNormBackwardIdeal.nD,
      m' ((c.tc : Thread Cert.FirstNormBackwardReferenceIdeal.nD Cert.FirstNormBackwardReferenceIdeal.τ).loc Cert.FirstNormBackwardReferenceIdeal.main_arg0) = m ((c.tc : Thread Cert.FirstNormBackwardIdeal.nD Cert.FirstNormBackwardIdeal.τ).loc Cert.FirstNormBackwardIdeal.main_arg0)
      ∧ m' ((c.tc : Thread Cert.FirstNormBackwardReferenceIdeal.nD Cert.FirstNormBackwardReferenceIdeal.τ).loc Cert.FirstNormBackwardReferenceIdeal.main_arg1) = m ((c.tc : Thread Cert.FirstNormBackwardIdeal.nD Cert.FirstNormBackwardIdeal.τ).loc Cert.FirstNormBackwardIdeal.main_arg1)
      ∧ m' ((c.tc : Thread Cert.FirstNormBackwardReferenceIdeal.nD Cert.FirstNormBackwardReferenceIdeal.τ).loc Cert.FirstNormBackwardReferenceIdeal.main_arg2) = m ((c.tc : Thread Cert.FirstNormBackwardIdeal.nD Cert.FirstNormBackwardIdeal.τ).loc Cert.FirstNormBackwardIdeal.main_arg2)
      ∧ m' ((c.tc : Thread Cert.FirstNormBackwardReferenceIdeal.nD Cert.FirstNormBackwardReferenceIdeal.τ).loc Cert.FirstNormBackwardReferenceIdeal.main_arg3) = m ((c.tc : Thread Cert.FirstNormBackwardIdeal.nD Cert.FirstNormBackwardIdeal.τ).loc Cert.FirstNormBackwardIdeal.main_arg3)
      ∧ m' ((c.tc : Thread Cert.FirstNormBackwardReferenceIdeal.nD Cert.FirstNormBackwardReferenceIdeal.τ).loc Cert.FirstNormBackwardReferenceIdeal.main_arg4) = m ((c.tc : Thread Cert.FirstNormBackwardIdeal.nD Cert.FirstNormBackwardIdeal.τ).loc Cert.FirstNormBackwardIdeal.main_arg4)) →
    ∃ (v0 : (c : Dev Cert.FirstNormBackwardIdeal.nD) → Buf (Elt Ideal) ((c.tc : Thread Cert.FirstNormBackwardIdeal.nD Cert.FirstNormBackwardIdeal.τ).loc Cert.FirstNormBackwardIdeal.main_v0_0)) (v1 : (c : Dev Cert.FirstNormBackwardIdeal.nD) → Buf (Elt Ideal) ((c.tc : Thread Cert.FirstNormBackwardIdeal.nD Cert.FirstNormBackwardIdeal.τ).loc Cert.FirstNormBackwardIdeal.main_v0_1)) (v2 : (c : Dev Cert.FirstNormBackwardIdeal.nD) → Buf (Elt Ideal) ((c.tc : Thread Cert.FirstNormBackwardIdeal.nD Cert.FirstNormBackwardIdeal.τ).loc Cert.FirstNormBackwardIdeal.main_v0_2)),
      θ_run (Cert.FirstNormBackwardIdeal.defs (F := Ideal)) (onTc (τ := Cert.FirstNormBackwardIdeal.τ) (Cert.FirstNormBackwardIdeal.main (F := Ideal))) ⟨m, fun _ => 0, g⟩ (fun r => ∀ c : Dev Cert.FirstNormBackwardIdeal.nD,
          r.2.mem ((c.tc : Thread Cert.FirstNormBackwardIdeal.nD Cert.FirstNormBackwardIdeal.τ).loc Cert.FirstNormBackwardIdeal.main_v0_0) = v0 c
          ∧ r.2.mem ((c.tc : Thread Cert.FirstNormBackwardIdeal.nD Cert.FirstNormBackwardIdeal.τ).loc Cert.FirstNormBackwardIdeal.main_v0_1) = v1 c
          ∧ r.2.mem ((c.tc : Thread Cert.FirstNormBackwardIdeal.nD Cert.FirstNormBackwardIdeal.τ).loc Cert.FirstNormBackwardIdeal.main_v0_2) = v2 c
          ∧ r.2.mem ((c.tc : Thread Cert.FirstNormBackwardIdeal.nD Cert.FirstNormBackwardIdeal.τ).loc Cert.FirstNormBackwardIdeal.main_arg0) = m ((c.tc : Thread Cert.FirstNormBackwardIdeal.nD Cert.FirstNormBackwardIdeal.τ).loc Cert.FirstNormBackwardIdeal.main_arg0)
          ∧ r.2.mem ((c.tc : Thread Cert.FirstNormBackwardIdeal.nD Cert.FirstNormBackwardIdeal.τ).loc Cert.FirstNormBackwardIdeal.main_arg1) = m ((c.tc : Thread Cert.FirstNormBackwardIdeal.nD Cert.FirstNormBackwardIdeal.τ).loc Cert.FirstNormBackwardIdeal.main_arg1)
          ∧ r.2.mem ((c.tc : Thread Cert.FirstNormBackwardIdeal.nD Cert.FirstNormBackwardIdeal.τ).loc Cert.FirstNormBackwardIdeal.main_arg2) = m ((c.tc : Thread Cert.FirstNormBackwardIdeal.nD Cert.FirstNormBackwardIdeal.τ).loc Cert.FirstNormBackwardIdeal.main_arg2)
          ∧ r.2.mem ((c.tc : Thread Cert.FirstNormBackwardIdeal.nD Cert.FirstNormBackwardIdeal.τ).loc Cert.FirstNormBackwardIdeal.main_arg3) = m ((c.tc : Thread Cert.FirstNormBackwardIdeal.nD Cert.FirstNormBackwardIdeal.τ).loc Cert.FirstNormBackwardIdeal.main_arg3)
          ∧ r.2.mem ((c.tc : Thread Cert.FirstNormBackwardIdeal.nD Cert.FirstNormBackwardIdeal.τ).loc Cert.FirstNormBackwardIdeal.main_arg4) = m ((c.tc : Thread Cert.FirstNormBackwardIdeal.nD Cert.FirstNormBackwardIdeal.τ).loc Cert.FirstNormBackwardIdeal.main_arg4))
      ∧ θ_run (Cert.FirstNormBackwardReferenceIdeal.defs (F := Ideal)) (onTc (τ := Cert.FirstNormBackwardReferenceIdeal.τ) (Cert.FirstNormBackwardReferenceIdeal.main (F := Ideal))) ⟨m', fun _ => 0, g'⟩ (fun r => ∀ c : Dev Cert.FirstNormBackwardReferenceIdeal.nD,
          r.2.mem ((c.tc : Thread Cert.FirstNormBackwardReferenceIdeal.nD Cert.FirstNormBackwardReferenceIdeal.τ).loc Cert.FirstNormBackwardReferenceIdeal.main_v43) = v0 c
          ∧ r.2.mem ((c.tc : Thread Cert.FirstNormBackwardReferenceIdeal.nD Cert.FirstNormBackwardReferenceIdeal.τ).loc Cert.FirstNormBackwardReferenceIdeal.main_v23) = v1 c
          ∧ r.2.mem ((c.tc : Thread Cert.FirstNormBackwardReferenceIdeal.nD Cert.FirstNormBackwardReferenceIdeal.τ).loc Cert.FirstNormBackwardReferenceIdeal.main_v26) = v2 c
          ∧ r.2.mem ((c.tc : Thread Cert.FirstNormBackwardReferenceIdeal.nD Cert.FirstNormBackwardReferenceIdeal.τ).loc Cert.FirstNormBackwardReferenceIdeal.main_arg0) = m' ((c.tc : Thread Cert.FirstNormBackwardReferenceIdeal.nD Cert.FirstNormBackwardReferenceIdeal.τ).loc Cert.FirstNormBackwardReferenceIdeal.main_arg0)
          ∧ r.2.mem ((c.tc : Thread Cert.FirstNormBackwardReferenceIdeal.nD Cert.FirstNormBackwardReferenceIdeal.τ).loc Cert.FirstNormBackwardReferenceIdeal.main_arg1) = m' ((c.tc : Thread Cert.FirstNormBackwardReferenceIdeal.nD Cert.FirstNormBackwardReferenceIdeal.τ).loc Cert.FirstNormBackwardReferenceIdeal.main_arg1)
          ∧ r.2.mem ((c.tc : Thread Cert.FirstNormBackwardReferenceIdeal.nD Cert.FirstNormBackwardReferenceIdeal.τ).loc Cert.FirstNormBackwardReferenceIdeal.main_arg2) = m' ((c.tc : Thread Cert.FirstNormBackwardReferenceIdeal.nD Cert.FirstNormBackwardReferenceIdeal.τ).loc Cert.FirstNormBackwardReferenceIdeal.main_arg2)
          ∧ r.2.mem ((c.tc : Thread Cert.FirstNormBackwardReferenceIdeal.nD Cert.FirstNormBackwardReferenceIdeal.τ).loc Cert.FirstNormBackwardReferenceIdeal.main_arg3) = m' ((c.tc : Thread Cert.FirstNormBackwardReferenceIdeal.nD Cert.FirstNormBackwardReferenceIdeal.τ).loc Cert.FirstNormBackwardReferenceIdeal.main_arg3)
          ∧ r.2.mem ((c.tc : Thread Cert.FirstNormBackwardReferenceIdeal.nD Cert.FirstNormBackwardReferenceIdeal.τ).loc Cert.FirstNormBackwardReferenceIdeal.main_arg4) = m' ((c.tc : Thread Cert.FirstNormBackwardReferenceIdeal.nD Cert.FirstNormBackwardReferenceIdeal.τ).loc Cert.FirstNormBackwardReferenceIdeal.main_arg4))

def preserves_LossHead_LossHeadIdeal : Prop :=
  True

def algebraic_LossHeadIdeal_LossHeadReferenceIdeal [hLossHeadIdeal : Cert.LossHeadIdeal.Facts] [hLossHeadReferenceIdeal : Cert.LossHeadReferenceIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossHeadReferenceIdeal.nD Cert.LossHeadReferenceIdeal.τ Cert.LossHeadReferenceIdeal.sig) → Buf (Elt Ideal) ℓ) (g' : Dev Cert.LossHeadReferenceIdeal.nD → PrngReg), Pre_LossHeadIdeal m →
    (∀ c : Dev Cert.LossHeadIdeal.nD,
      m' ((c.tc : Thread Cert.LossHeadReferenceIdeal.nD Cert.LossHeadReferenceIdeal.τ).loc Cert.LossHeadReferenceIdeal.main_arg0) = m ((c.tc : Thread Cert.LossHeadIdeal.nD Cert.LossHeadIdeal.τ).loc Cert.LossHeadIdeal.main_arg0)
      ∧ m' ((c.tc : Thread Cert.LossHeadReferenceIdeal.nD Cert.LossHeadReferenceIdeal.τ).loc Cert.LossHeadReferenceIdeal.main_arg1) = m ((c.tc : Thread Cert.LossHeadIdeal.nD Cert.LossHeadIdeal.τ).loc Cert.LossHeadIdeal.main_arg1)
      ∧ m' ((c.tc : Thread Cert.LossHeadReferenceIdeal.nD Cert.LossHeadReferenceIdeal.τ).loc Cert.LossHeadReferenceIdeal.main_arg2) = m ((c.tc : Thread Cert.LossHeadIdeal.nD Cert.LossHeadIdeal.τ).loc Cert.LossHeadIdeal.main_arg2)
      ∧ m' ((c.tc : Thread Cert.LossHeadReferenceIdeal.nD Cert.LossHeadReferenceIdeal.τ).loc Cert.LossHeadReferenceIdeal.main_arg3) = m ((c.tc : Thread Cert.LossHeadIdeal.nD Cert.LossHeadIdeal.τ).loc Cert.LossHeadIdeal.main_arg3)
      ∧ m' ((c.tc : Thread Cert.LossHeadReferenceIdeal.nD Cert.LossHeadReferenceIdeal.τ).loc Cert.LossHeadReferenceIdeal.main_arg4) = m ((c.tc : Thread Cert.LossHeadIdeal.nD Cert.LossHeadIdeal.τ).loc Cert.LossHeadIdeal.main_arg4)) →
    ∃ (v0 : (c : Dev Cert.LossHeadIdeal.nD) → Buf (Elt Ideal) ((c.tc : Thread Cert.LossHeadIdeal.nD Cert.LossHeadIdeal.τ).loc Cert.LossHeadIdeal.main_v0_0)) (v1 : (c : Dev Cert.LossHeadIdeal.nD) → Buf (Elt Ideal) ((c.tc : Thread Cert.LossHeadIdeal.nD Cert.LossHeadIdeal.τ).loc Cert.LossHeadIdeal.main_v0_1)) (v2 : (c : Dev Cert.LossHeadIdeal.nD) → Buf (Elt Ideal) ((c.tc : Thread Cert.LossHeadIdeal.nD Cert.LossHeadIdeal.τ).loc Cert.LossHeadIdeal.main_v0_2)) (v3 : (c : Dev Cert.LossHeadIdeal.nD) → Buf (Elt Ideal) ((c.tc : Thread Cert.LossHeadIdeal.nD Cert.LossHeadIdeal.τ).loc Cert.LossHeadIdeal.main_v0_3)) (v4 : (c : Dev Cert.LossHeadIdeal.nD) → Buf (Elt Ideal) ((c.tc : Thread Cert.LossHeadIdeal.nD Cert.LossHeadIdeal.τ).loc Cert.LossHeadIdeal.main_v0_4)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v0_0) = v0 c
          ∧ r.2.mem ((c.tc : Thread Cert.LossHeadIdeal.nD Cert.LossHeadIdeal.τ).loc Cert.LossHeadIdeal.main_v0_1) = v1 c
          ∧ r.2.mem ((c.tc : Thread Cert.LossHeadIdeal.nD Cert.LossHeadIdeal.τ).loc Cert.LossHeadIdeal.main_v0_2) = v2 c
          ∧ r.2.mem ((c.tc : Thread Cert.LossHeadIdeal.nD Cert.LossHeadIdeal.τ).loc Cert.LossHeadIdeal.main_v0_3) = v3 c
          ∧ r.2.mem ((c.tc : Thread Cert.LossHeadIdeal.nD Cert.LossHeadIdeal.τ).loc Cert.LossHeadIdeal.main_v0_4) = v4 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
          ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2)
          ∧ r.2.mem ((c.tc : Thread Cert.LossHeadIdeal.nD Cert.LossHeadIdeal.τ).loc Cert.LossHeadIdeal.main_arg3) = m ((c.tc : Thread Cert.LossHeadIdeal.nD Cert.LossHeadIdeal.τ).loc Cert.LossHeadIdeal.main_arg3)
          ∧ r.2.mem ((c.tc : Thread Cert.LossHeadIdeal.nD Cert.LossHeadIdeal.τ).loc Cert.LossHeadIdeal.main_arg4) = m ((c.tc : Thread Cert.LossHeadIdeal.nD Cert.LossHeadIdeal.τ).loc Cert.LossHeadIdeal.main_arg4))
      ∧ θ_run (Cert.LossHeadReferenceIdeal.defs (F := Ideal)) (onTc (τ := Cert.LossHeadReferenceIdeal.τ) (Cert.LossHeadReferenceIdeal.main (F := Ideal))) ⟨m', fun _ => 0, g'⟩ (fun r => ∀ c : Dev Cert.LossHeadReferenceIdeal.nD,
          r.2.mem ((c.tc : Thread Cert.LossHeadReferenceIdeal.nD Cert.LossHeadReferenceIdeal.τ).loc Cert.LossHeadReferenceIdeal.main_v51) = v0 c
          ∧ r.2.mem ((c.tc : Thread Cert.LossHeadReferenceIdeal.nD Cert.LossHeadReferenceIdeal.τ).loc Cert.LossHeadReferenceIdeal.main_v57) = v1 c
          ∧ r.2.mem ((c.tc : Thread Cert.LossHeadReferenceIdeal.nD Cert.LossHeadReferenceIdeal.τ).loc Cert.LossHeadReferenceIdeal.main_v58) = v2 c
          ∧ r.2.mem ((c.tc : Thread Cert.LossHeadReferenceIdeal.nD Cert.LossHeadReferenceIdeal.τ).loc Cert.LossHeadReferenceIdeal.main_v35) = v3 c
          ∧ r.2.mem ((c.tc : Thread Cert.LossHeadReferenceIdeal.nD Cert.LossHeadReferenceIdeal.τ).loc Cert.LossHeadReferenceIdeal.main_v56) = v4 c
          ∧ r.2.mem ((c.tc : Thread Cert.LossHeadReferenceIdeal.nD Cert.LossHeadReferenceIdeal.τ).loc Cert.LossHeadReferenceIdeal.main_arg0) = m' ((c.tc : Thread Cert.LossHeadReferenceIdeal.nD Cert.LossHeadReferenceIdeal.τ).loc Cert.LossHeadReferenceIdeal.main_arg0)
          ∧ r.2.mem ((c.tc : Thread Cert.LossHeadReferenceIdeal.nD Cert.LossHeadReferenceIdeal.τ).loc Cert.LossHeadReferenceIdeal.main_arg1) = m' ((c.tc : Thread Cert.LossHeadReferenceIdeal.nD Cert.LossHeadReferenceIdeal.τ).loc Cert.LossHeadReferenceIdeal.main_arg1)
          ∧ r.2.mem ((c.tc : Thread Cert.LossHeadReferenceIdeal.nD Cert.LossHeadReferenceIdeal.τ).loc Cert.LossHeadReferenceIdeal.main_arg2) = m' ((c.tc : Thread Cert.LossHeadReferenceIdeal.nD Cert.LossHeadReferenceIdeal.τ).loc Cert.LossHeadReferenceIdeal.main_arg2)
          ∧ r.2.mem ((c.tc : Thread Cert.LossHeadReferenceIdeal.nD Cert.LossHeadReferenceIdeal.τ).loc Cert.LossHeadReferenceIdeal.main_arg3) = m' ((c.tc : Thread Cert.LossHeadReferenceIdeal.nD Cert.LossHeadReferenceIdeal.τ).loc Cert.LossHeadReferenceIdeal.main_arg3)
          ∧ r.2.mem ((c.tc : Thread Cert.LossHeadReferenceIdeal.nD Cert.LossHeadReferenceIdeal.τ).loc Cert.LossHeadReferenceIdeal.main_arg4) = m' ((c.tc : Thread Cert.LossHeadReferenceIdeal.nD Cert.LossHeadReferenceIdeal.τ).loc Cert.LossHeadReferenceIdeal.main_arg4))

def preserves_NormForward_NormForwardIdeal : Prop :=
  True

def algebraic_NormForwardIdeal_NormForwardReferenceIdeal [hNormForwardIdeal : Cert.NormForwardIdeal.Facts] [hNormForwardReferenceIdeal : Cert.NormForwardReferenceIdeal.Facts] : Prop :=
  ∀ (m : (ℓ : Loc Cert.NormForwardIdeal.nD Cert.NormForwardIdeal.τ Cert.NormForwardIdeal.sig) → Buf (Elt Ideal) ℓ) (g : Dev Cert.NormForwardIdeal.nD → PrngReg)
    (m' : (ℓ : Loc Cert.NormForwardReferenceIdeal.nD Cert.NormForwardReferenceIdeal.τ Cert.NormForwardReferenceIdeal.sig) → Buf (Elt Ideal) ℓ) (g' : Dev Cert.NormForwardReferenceIdeal.nD → PrngReg), Pre_NormForwardIdeal m →
    (∀ c : Dev Cert.NormForwardIdeal.nD,
      m' ((c.tc : Thread Cert.NormForwardReferenceIdeal.nD Cert.NormForwardReferenceIdeal.τ).loc Cert.NormForwardReferenceIdeal.main_arg0) = m ((c.tc : Thread Cert.NormForwardIdeal.nD Cert.NormForwardIdeal.τ).loc Cert.NormForwardIdeal.main_arg0)
      ∧ m' ((c.tc : Thread Cert.NormForwardReferenceIdeal.nD Cert.NormForwardReferenceIdeal.τ).loc Cert.NormForwardReferenceIdeal.main_arg1) = m ((c.tc : Thread Cert.NormForwardIdeal.nD Cert.NormForwardIdeal.τ).loc Cert.NormForwardIdeal.main_arg1)
      ∧ m' ((c.tc : Thread Cert.NormForwardReferenceIdeal.nD Cert.NormForwardReferenceIdeal.τ).loc Cert.NormForwardReferenceIdeal.main_arg2) = m ((c.tc : Thread Cert.NormForwardIdeal.nD Cert.NormForwardIdeal.τ).loc Cert.NormForwardIdeal.main_arg2)
      ∧ m' ((c.tc : Thread Cert.NormForwardReferenceIdeal.nD Cert.NormForwardReferenceIdeal.τ).loc Cert.NormForwardReferenceIdeal.main_arg3) = m ((c.tc : Thread Cert.NormForwardIdeal.nD Cert.NormForwardIdeal.τ).loc Cert.NormForwardIdeal.main_arg3)
      ∧ m' ((c.tc : Thread Cert.NormForwardReferenceIdeal.nD Cert.NormForwardReferenceIdeal.τ).loc Cert.NormForwardReferenceIdeal.main_arg4) = m ((c.tc : Thread Cert.NormForwardIdeal.nD Cert.NormForwardIdeal.τ).loc Cert.NormForwardIdeal.main_arg4)
      ∧ m' ((c.tc : Thread Cert.NormForwardReferenceIdeal.nD Cert.NormForwardReferenceIdeal.τ).loc Cert.NormForwardReferenceIdeal.main_arg5) = m ((c.tc : Thread Cert.NormForwardIdeal.nD Cert.NormForwardIdeal.τ).loc Cert.NormForwardIdeal.main_arg5)) →
    ∃ (v0 : (c : Dev Cert.NormForwardIdeal.nD) → Buf (Elt Ideal) ((c.tc : Thread Cert.NormForwardIdeal.nD Cert.NormForwardIdeal.τ).loc Cert.NormForwardIdeal.main_v0_0)) (v1 : (c : Dev Cert.NormForwardIdeal.nD) → Buf (Elt Ideal) ((c.tc : Thread Cert.NormForwardIdeal.nD Cert.NormForwardIdeal.τ).loc Cert.NormForwardIdeal.main_v0_1)),
      θ_run (Cert.NormForwardIdeal.defs (F := Ideal)) (onTc (τ := Cert.NormForwardIdeal.τ) (Cert.NormForwardIdeal.main (F := Ideal))) ⟨m, fun _ => 0, g⟩ (fun r => ∀ c : Dev Cert.NormForwardIdeal.nD,
          r.2.mem ((c.tc : Thread Cert.NormForwardIdeal.nD Cert.NormForwardIdeal.τ).loc Cert.NormForwardIdeal.main_v0_0) = v0 c
          ∧ r.2.mem ((c.tc : Thread Cert.NormForwardIdeal.nD Cert.NormForwardIdeal.τ).loc Cert.NormForwardIdeal.main_v0_1) = v1 c
          ∧ r.2.mem ((c.tc : Thread Cert.NormForwardIdeal.nD Cert.NormForwardIdeal.τ).loc Cert.NormForwardIdeal.main_arg0) = m ((c.tc : Thread Cert.NormForwardIdeal.nD Cert.NormForwardIdeal.τ).loc Cert.NormForwardIdeal.main_arg0)
          ∧ r.2.mem ((c.tc : Thread Cert.NormForwardIdeal.nD Cert.NormForwardIdeal.τ).loc Cert.NormForwardIdeal.main_arg1) = m ((c.tc : Thread Cert.NormForwardIdeal.nD Cert.NormForwardIdeal.τ).loc Cert.NormForwardIdeal.main_arg1)
          ∧ r.2.mem ((c.tc : Thread Cert.NormForwardIdeal.nD Cert.NormForwardIdeal.τ).loc Cert.NormForwardIdeal.main_arg2) = m ((c.tc : Thread Cert.NormForwardIdeal.nD Cert.NormForwardIdeal.τ).loc Cert.NormForwardIdeal.main_arg2)
          ∧ r.2.mem ((c.tc : Thread Cert.NormForwardIdeal.nD Cert.NormForwardIdeal.τ).loc Cert.NormForwardIdeal.main_arg3) = m ((c.tc : Thread Cert.NormForwardIdeal.nD Cert.NormForwardIdeal.τ).loc Cert.NormForwardIdeal.main_arg3)
          ∧ r.2.mem ((c.tc : Thread Cert.NormForwardIdeal.nD Cert.NormForwardIdeal.τ).loc Cert.NormForwardIdeal.main_arg4) = m ((c.tc : Thread Cert.NormForwardIdeal.nD Cert.NormForwardIdeal.τ).loc Cert.NormForwardIdeal.main_arg4)
          ∧ r.2.mem ((c.tc : Thread Cert.NormForwardIdeal.nD Cert.NormForwardIdeal.τ).loc Cert.NormForwardIdeal.main_arg5) = m ((c.tc : Thread Cert.NormForwardIdeal.nD Cert.NormForwardIdeal.τ).loc Cert.NormForwardIdeal.main_arg5))
      ∧ θ_run (Cert.NormForwardReferenceIdeal.defs (F := Ideal)) (onTc (τ := Cert.NormForwardReferenceIdeal.τ) (Cert.NormForwardReferenceIdeal.main (F := Ideal))) ⟨m', fun _ => 0, g'⟩ (fun r => ∀ c : Dev Cert.NormForwardReferenceIdeal.nD,
          r.2.mem ((c.tc : Thread Cert.NormForwardReferenceIdeal.nD Cert.NormForwardReferenceIdeal.τ).loc Cert.NormForwardReferenceIdeal.main_v2) = v0 c
          ∧ r.2.mem ((c.tc : Thread Cert.NormForwardReferenceIdeal.nD Cert.NormForwardReferenceIdeal.τ).loc Cert.NormForwardReferenceIdeal.main_v21) = v1 c
          ∧ r.2.mem ((c.tc : Thread Cert.NormForwardReferenceIdeal.nD Cert.NormForwardReferenceIdeal.τ).loc Cert.NormForwardReferenceIdeal.main_arg0) = m' ((c.tc : Thread Cert.NormForwardReferenceIdeal.nD Cert.NormForwardReferenceIdeal.τ).loc Cert.NormForwardReferenceIdeal.main_arg0)
          ∧ r.2.mem ((c.tc : Thread Cert.NormForwardReferenceIdeal.nD Cert.NormForwardReferenceIdeal.τ).loc Cert.NormForwardReferenceIdeal.main_arg1) = m' ((c.tc : Thread Cert.NormForwardReferenceIdeal.nD Cert.NormForwardReferenceIdeal.τ).loc Cert.NormForwardReferenceIdeal.main_arg1)
          ∧ r.2.mem ((c.tc : Thread Cert.NormForwardReferenceIdeal.nD Cert.NormForwardReferenceIdeal.τ).loc Cert.NormForwardReferenceIdeal.main_arg2) = m' ((c.tc : Thread Cert.NormForwardReferenceIdeal.nD Cert.NormForwardReferenceIdeal.τ).loc Cert.NormForwardReferenceIdeal.main_arg2)
          ∧ r.2.mem ((c.tc : Thread Cert.NormForwardReferenceIdeal.nD Cert.NormForwardReferenceIdeal.τ).loc Cert.NormForwardReferenceIdeal.main_arg3) = m' ((c.tc : Thread Cert.NormForwardReferenceIdeal.nD Cert.NormForwardReferenceIdeal.τ).loc Cert.NormForwardReferenceIdeal.main_arg3)
          ∧ r.2.mem ((c.tc : Thread Cert.NormForwardReferenceIdeal.nD Cert.NormForwardReferenceIdeal.τ).loc Cert.NormForwardReferenceIdeal.main_arg4) = m' ((c.tc : Thread Cert.NormForwardReferenceIdeal.nD Cert.NormForwardReferenceIdeal.τ).loc Cert.NormForwardReferenceIdeal.main_arg4)
          ∧ r.2.mem ((c.tc : Thread Cert.NormForwardReferenceIdeal.nD Cert.NormForwardReferenceIdeal.τ).loc Cert.NormForwardReferenceIdeal.main_arg5) = m' ((c.tc : Thread Cert.NormForwardReferenceIdeal.nD Cert.NormForwardReferenceIdeal.τ).loc Cert.NormForwardReferenceIdeal.main_arg5))

def preserves_FirstNormForward_FirstNormForwardIdeal : Prop :=
  True

def algebraic_FirstNormForwardIdeal_FirstNormForwardReferenceIdeal [hFirstNormForwardIdeal : Cert.FirstNormForwardIdeal.Facts] [hFirstNormForwardReferenceIdeal : Cert.FirstNormForwardReferenceIdeal.Facts] : Prop :=
  ∀ (m : (ℓ : Loc Cert.FirstNormForwardIdeal.nD Cert.FirstNormForwardIdeal.τ Cert.FirstNormForwardIdeal.sig) → Buf (Elt Ideal) ℓ) (g : Dev Cert.FirstNormForwardIdeal.nD → PrngReg)
    (m' : (ℓ : Loc Cert.FirstNormForwardReferenceIdeal.nD Cert.FirstNormForwardReferenceIdeal.τ Cert.FirstNormForwardReferenceIdeal.sig) → Buf (Elt Ideal) ℓ) (g' : Dev Cert.FirstNormForwardReferenceIdeal.nD → PrngReg), Pre_FirstNormForwardIdeal m →
    (∀ c : Dev Cert.FirstNormForwardIdeal.nD,
      m' ((c.tc : Thread Cert.FirstNormForwardReferenceIdeal.nD Cert.FirstNormForwardReferenceIdeal.τ).loc Cert.FirstNormForwardReferenceIdeal.main_arg0) = m ((c.tc : Thread Cert.FirstNormForwardIdeal.nD Cert.FirstNormForwardIdeal.τ).loc Cert.FirstNormForwardIdeal.main_arg0)
      ∧ m' ((c.tc : Thread Cert.FirstNormForwardReferenceIdeal.nD Cert.FirstNormForwardReferenceIdeal.τ).loc Cert.FirstNormForwardReferenceIdeal.main_arg1) = m ((c.tc : Thread Cert.FirstNormForwardIdeal.nD Cert.FirstNormForwardIdeal.τ).loc Cert.FirstNormForwardIdeal.main_arg1)
      ∧ m' ((c.tc : Thread Cert.FirstNormForwardReferenceIdeal.nD Cert.FirstNormForwardReferenceIdeal.τ).loc Cert.FirstNormForwardReferenceIdeal.main_arg2) = m ((c.tc : Thread Cert.FirstNormForwardIdeal.nD Cert.FirstNormForwardIdeal.τ).loc Cert.FirstNormForwardIdeal.main_arg2)
      ∧ m' ((c.tc : Thread Cert.FirstNormForwardReferenceIdeal.nD Cert.FirstNormForwardReferenceIdeal.τ).loc Cert.FirstNormForwardReferenceIdeal.main_arg3) = m ((c.tc : Thread Cert.FirstNormForwardIdeal.nD Cert.FirstNormForwardIdeal.τ).loc Cert.FirstNormForwardIdeal.main_arg3)) →
    ∃ (v0 : (c : Dev Cert.FirstNormForwardIdeal.nD) → Buf (Elt Ideal) ((c.tc : Thread Cert.FirstNormForwardIdeal.nD Cert.FirstNormForwardIdeal.τ).loc Cert.FirstNormForwardIdeal.main_v0)),
      θ_run (Cert.FirstNormForwardIdeal.defs (F := Ideal)) (onTc (τ := Cert.FirstNormForwardIdeal.τ) (Cert.FirstNormForwardIdeal.main (F := Ideal))) ⟨m, fun _ => 0, g⟩ (fun r => ∀ c : Dev Cert.FirstNormForwardIdeal.nD,
          r.2.mem ((c.tc : Thread Cert.FirstNormForwardIdeal.nD Cert.FirstNormForwardIdeal.τ).loc Cert.FirstNormForwardIdeal.main_v0) = v0 c
          ∧ r.2.mem ((c.tc : Thread Cert.FirstNormForwardIdeal.nD Cert.FirstNormForwardIdeal.τ).loc Cert.FirstNormForwardIdeal.main_arg0) = m ((c.tc : Thread Cert.FirstNormForwardIdeal.nD Cert.FirstNormForwardIdeal.τ).loc Cert.FirstNormForwardIdeal.main_arg0)
          ∧ r.2.mem ((c.tc : Thread Cert.FirstNormForwardIdeal.nD Cert.FirstNormForwardIdeal.τ).loc Cert.FirstNormForwardIdeal.main_arg1) = m ((c.tc : Thread Cert.FirstNormForwardIdeal.nD Cert.FirstNormForwardIdeal.τ).loc Cert.FirstNormForwardIdeal.main_arg1)
          ∧ r.2.mem ((c.tc : Thread Cert.FirstNormForwardIdeal.nD Cert.FirstNormForwardIdeal.τ).loc Cert.FirstNormForwardIdeal.main_arg2) = m ((c.tc : Thread Cert.FirstNormForwardIdeal.nD Cert.FirstNormForwardIdeal.τ).loc Cert.FirstNormForwardIdeal.main_arg2)
          ∧ r.2.mem ((c.tc : Thread Cert.FirstNormForwardIdeal.nD Cert.FirstNormForwardIdeal.τ).loc Cert.FirstNormForwardIdeal.main_arg3) = m ((c.tc : Thread Cert.FirstNormForwardIdeal.nD Cert.FirstNormForwardIdeal.τ).loc Cert.FirstNormForwardIdeal.main_arg3))
      ∧ θ_run (Cert.FirstNormForwardReferenceIdeal.defs (F := Ideal)) (onTc (τ := Cert.FirstNormForwardReferenceIdeal.τ) (Cert.FirstNormForwardReferenceIdeal.main (F := Ideal))) ⟨m', fun _ => 0, g'⟩ (fun r => ∀ c : Dev Cert.FirstNormForwardReferenceIdeal.nD,
          r.2.mem ((c.tc : Thread Cert.FirstNormForwardReferenceIdeal.nD Cert.FirstNormForwardReferenceIdeal.τ).loc Cert.FirstNormForwardReferenceIdeal.main_v18) = v0 c
          ∧ r.2.mem ((c.tc : Thread Cert.FirstNormForwardReferenceIdeal.nD Cert.FirstNormForwardReferenceIdeal.τ).loc Cert.FirstNormForwardReferenceIdeal.main_arg0) = m' ((c.tc : Thread Cert.FirstNormForwardReferenceIdeal.nD Cert.FirstNormForwardReferenceIdeal.τ).loc Cert.FirstNormForwardReferenceIdeal.main_arg0)
          ∧ r.2.mem ((c.tc : Thread Cert.FirstNormForwardReferenceIdeal.nD Cert.FirstNormForwardReferenceIdeal.τ).loc Cert.FirstNormForwardReferenceIdeal.main_arg1) = m' ((c.tc : Thread Cert.FirstNormForwardReferenceIdeal.nD Cert.FirstNormForwardReferenceIdeal.τ).loc Cert.FirstNormForwardReferenceIdeal.main_arg1)
          ∧ r.2.mem ((c.tc : Thread Cert.FirstNormForwardReferenceIdeal.nD Cert.FirstNormForwardReferenceIdeal.τ).loc Cert.FirstNormForwardReferenceIdeal.main_arg2) = m' ((c.tc : Thread Cert.FirstNormForwardReferenceIdeal.nD Cert.FirstNormForwardReferenceIdeal.τ).loc Cert.FirstNormForwardReferenceIdeal.main_arg2)
          ∧ r.2.mem ((c.tc : Thread Cert.FirstNormForwardReferenceIdeal.nD Cert.FirstNormForwardReferenceIdeal.τ).loc Cert.FirstNormForwardReferenceIdeal.main_arg3) = m' ((c.tc : Thread Cert.FirstNormForwardReferenceIdeal.nD Cert.FirstNormForwardReferenceIdeal.τ).loc Cert.FirstNormForwardReferenceIdeal.main_arg3))

def preserves_AdaWeightStep_AdaWeightStepIdeal : Prop :=
  IdealRules.named_const.Statement Cert.AdaWeightStepIdeal.κ "first_decay" .f32 0x3FC48605#32 (((5463681 / 8388608)⁻¹ : ℝ) : EReal)
  ∧ IdealRules.named_const.Statement Cert.AdaWeightStepIdeal.κ "second_decay" .f32 0x42C8E6D3#32 (((2672307 / 268435456)⁻¹ : ℝ) : EReal)

def algebraic_AdaWeightStepIdeal_AdaWeightStepReferenceIdeal [hAdaWeightStepIdeal : Cert.AdaWeightStepIdeal.Facts] [hAdaWeightStepReferenceIdeal : Cert.AdaWeightStepReferenceIdeal.Facts] : Prop :=
  ∀ (m : (ℓ : Loc Cert.AdaWeightStepIdeal.nD Cert.AdaWeightStepIdeal.τ Cert.AdaWeightStepIdeal.sig) → Buf (Elt Ideal) ℓ) (g : Dev Cert.AdaWeightStepIdeal.nD → PrngReg)
    (m' : (ℓ : Loc Cert.AdaWeightStepReferenceIdeal.nD Cert.AdaWeightStepReferenceIdeal.τ Cert.AdaWeightStepReferenceIdeal.sig) → Buf (Elt Ideal) ℓ) (g' : Dev Cert.AdaWeightStepReferenceIdeal.nD → PrngReg), Pre_AdaWeightStepIdeal m →
    (∀ c : Dev Cert.AdaWeightStepIdeal.nD,
      m' ((c.tc : Thread Cert.AdaWeightStepReferenceIdeal.nD Cert.AdaWeightStepReferenceIdeal.τ).loc Cert.AdaWeightStepReferenceIdeal.main_arg0) = m ((c.tc : Thread Cert.AdaWeightStepIdeal.nD Cert.AdaWeightStepIdeal.τ).loc Cert.AdaWeightStepIdeal.main_arg0)
      ∧ m' ((c.tc : Thread Cert.AdaWeightStepReferenceIdeal.nD Cert.AdaWeightStepReferenceIdeal.τ).loc Cert.AdaWeightStepReferenceIdeal.main_arg1) = m ((c.tc : Thread Cert.AdaWeightStepIdeal.nD Cert.AdaWeightStepIdeal.τ).loc Cert.AdaWeightStepIdeal.main_arg1)
      ∧ m' ((c.tc : Thread Cert.AdaWeightStepReferenceIdeal.nD Cert.AdaWeightStepReferenceIdeal.τ).loc Cert.AdaWeightStepReferenceIdeal.main_arg2) = m ((c.tc : Thread Cert.AdaWeightStepIdeal.nD Cert.AdaWeightStepIdeal.τ).loc Cert.AdaWeightStepIdeal.main_arg2)
      ∧ m' ((c.tc : Thread Cert.AdaWeightStepReferenceIdeal.nD Cert.AdaWeightStepReferenceIdeal.τ).loc Cert.AdaWeightStepReferenceIdeal.main_arg3) = m ((c.tc : Thread Cert.AdaWeightStepIdeal.nD Cert.AdaWeightStepIdeal.τ).loc Cert.AdaWeightStepIdeal.main_arg3)) →
    ∃ (v0 : (c : Dev Cert.AdaWeightStepIdeal.nD) → Buf (Elt Ideal) ((c.tc : Thread Cert.AdaWeightStepIdeal.nD Cert.AdaWeightStepIdeal.τ).loc Cert.AdaWeightStepIdeal.main_v0_0)) (v1 : (c : Dev Cert.AdaWeightStepIdeal.nD) → Buf (Elt Ideal) ((c.tc : Thread Cert.AdaWeightStepIdeal.nD Cert.AdaWeightStepIdeal.τ).loc Cert.AdaWeightStepIdeal.main_v0_1)) (v2 : (c : Dev Cert.AdaWeightStepIdeal.nD) → Buf (Elt Ideal) ((c.tc : Thread Cert.AdaWeightStepIdeal.nD Cert.AdaWeightStepIdeal.τ).loc Cert.AdaWeightStepIdeal.main_v0_2)),
      θ_run (Cert.AdaWeightStepIdeal.defs (F := Ideal)) (onTc (τ := Cert.AdaWeightStepIdeal.τ) (Cert.AdaWeightStepIdeal.main (F := Ideal))) ⟨m, fun _ => 0, g⟩ (fun r => ∀ c : Dev Cert.AdaWeightStepIdeal.nD,
          r.2.mem ((c.tc : Thread Cert.AdaWeightStepIdeal.nD Cert.AdaWeightStepIdeal.τ).loc Cert.AdaWeightStepIdeal.main_v0_0) = v0 c
          ∧ r.2.mem ((c.tc : Thread Cert.AdaWeightStepIdeal.nD Cert.AdaWeightStepIdeal.τ).loc Cert.AdaWeightStepIdeal.main_v0_1) = v1 c
          ∧ r.2.mem ((c.tc : Thread Cert.AdaWeightStepIdeal.nD Cert.AdaWeightStepIdeal.τ).loc Cert.AdaWeightStepIdeal.main_v0_2) = v2 c
          ∧ r.2.mem ((c.tc : Thread Cert.AdaWeightStepIdeal.nD Cert.AdaWeightStepIdeal.τ).loc Cert.AdaWeightStepIdeal.main_arg0) = m ((c.tc : Thread Cert.AdaWeightStepIdeal.nD Cert.AdaWeightStepIdeal.τ).loc Cert.AdaWeightStepIdeal.main_arg0)
          ∧ r.2.mem ((c.tc : Thread Cert.AdaWeightStepIdeal.nD Cert.AdaWeightStepIdeal.τ).loc Cert.AdaWeightStepIdeal.main_arg1) = m ((c.tc : Thread Cert.AdaWeightStepIdeal.nD Cert.AdaWeightStepIdeal.τ).loc Cert.AdaWeightStepIdeal.main_arg1)
          ∧ r.2.mem ((c.tc : Thread Cert.AdaWeightStepIdeal.nD Cert.AdaWeightStepIdeal.τ).loc Cert.AdaWeightStepIdeal.main_arg2) = m ((c.tc : Thread Cert.AdaWeightStepIdeal.nD Cert.AdaWeightStepIdeal.τ).loc Cert.AdaWeightStepIdeal.main_arg2)
          ∧ r.2.mem ((c.tc : Thread Cert.AdaWeightStepIdeal.nD Cert.AdaWeightStepIdeal.τ).loc Cert.AdaWeightStepIdeal.main_arg3) = m ((c.tc : Thread Cert.AdaWeightStepIdeal.nD Cert.AdaWeightStepIdeal.τ).loc Cert.AdaWeightStepIdeal.main_arg3))
      ∧ θ_run (Cert.AdaWeightStepReferenceIdeal.defs (F := Ideal)) (onTc (τ := Cert.AdaWeightStepReferenceIdeal.τ) (Cert.AdaWeightStepReferenceIdeal.main (F := Ideal))) ⟨m', fun _ => 0, g'⟩ (fun r => ∀ c : Dev Cert.AdaWeightStepReferenceIdeal.nD,
          r.2.mem ((c.tc : Thread Cert.AdaWeightStepReferenceIdeal.nD Cert.AdaWeightStepReferenceIdeal.τ).loc Cert.AdaWeightStepReferenceIdeal.main_v23) = v0 c
          ∧ r.2.mem ((c.tc : Thread Cert.AdaWeightStepReferenceIdeal.nD Cert.AdaWeightStepReferenceIdeal.τ).loc Cert.AdaWeightStepReferenceIdeal.main_v4) = v1 c
          ∧ r.2.mem ((c.tc : Thread Cert.AdaWeightStepReferenceIdeal.nD Cert.AdaWeightStepReferenceIdeal.τ).loc Cert.AdaWeightStepReferenceIdeal.main_v10) = v2 c
          ∧ r.2.mem ((c.tc : Thread Cert.AdaWeightStepReferenceIdeal.nD Cert.AdaWeightStepReferenceIdeal.τ).loc Cert.AdaWeightStepReferenceIdeal.main_arg0) = m' ((c.tc : Thread Cert.AdaWeightStepReferenceIdeal.nD Cert.AdaWeightStepReferenceIdeal.τ).loc Cert.AdaWeightStepReferenceIdeal.main_arg0)
          ∧ r.2.mem ((c.tc : Thread Cert.AdaWeightStepReferenceIdeal.nD Cert.AdaWeightStepReferenceIdeal.τ).loc Cert.AdaWeightStepReferenceIdeal.main_arg1) = m' ((c.tc : Thread Cert.AdaWeightStepReferenceIdeal.nD Cert.AdaWeightStepReferenceIdeal.τ).loc Cert.AdaWeightStepReferenceIdeal.main_arg1)
          ∧ r.2.mem ((c.tc : Thread Cert.AdaWeightStepReferenceIdeal.nD Cert.AdaWeightStepReferenceIdeal.τ).loc Cert.AdaWeightStepReferenceIdeal.main_arg2) = m' ((c.tc : Thread Cert.AdaWeightStepReferenceIdeal.nD Cert.AdaWeightStepReferenceIdeal.τ).loc Cert.AdaWeightStepReferenceIdeal.main_arg2)
          ∧ r.2.mem ((c.tc : Thread Cert.AdaWeightStepReferenceIdeal.nD Cert.AdaWeightStepReferenceIdeal.τ).loc Cert.AdaWeightStepReferenceIdeal.main_arg3) = m' ((c.tc : Thread Cert.AdaWeightStepReferenceIdeal.nD Cert.AdaWeightStepReferenceIdeal.τ).loc Cert.AdaWeightStepReferenceIdeal.main_arg3))

def preserves_GatingForward_GatingForwardIdeal : Prop :=
  IdealRules.named_const.Statement Cert.GatingForwardIdeal.κ "root_half" .f32 0x3F3504F3#32 (((Real.sqrt 2)⁻¹ : ℝ) : EReal)

def algebraic_GatingForwardIdeal_GatingForwardReferenceIdeal [hGatingForwardIdeal : Cert.GatingForwardIdeal.Facts] [hGatingForwardReferenceIdeal : Cert.GatingForwardReferenceIdeal.Facts] : Prop :=
  ∀ (m : (ℓ : Loc Cert.GatingForwardIdeal.nD Cert.GatingForwardIdeal.τ Cert.GatingForwardIdeal.sig) → Buf (Elt Ideal) ℓ) (g : Dev Cert.GatingForwardIdeal.nD → PrngReg)
    (m' : (ℓ : Loc Cert.GatingForwardReferenceIdeal.nD Cert.GatingForwardReferenceIdeal.τ Cert.GatingForwardReferenceIdeal.sig) → Buf (Elt Ideal) ℓ) (g' : Dev Cert.GatingForwardReferenceIdeal.nD → PrngReg), Pre_GatingForwardIdeal m →
    (∀ c : Dev Cert.GatingForwardIdeal.nD,
      m' ((c.tc : Thread Cert.GatingForwardReferenceIdeal.nD Cert.GatingForwardReferenceIdeal.τ).loc Cert.GatingForwardReferenceIdeal.main_arg0) = m ((c.tc : Thread Cert.GatingForwardIdeal.nD Cert.GatingForwardIdeal.τ).loc Cert.GatingForwardIdeal.main_arg0)
      ∧ m' ((c.tc : Thread Cert.GatingForwardReferenceIdeal.nD Cert.GatingForwardReferenceIdeal.τ).loc Cert.GatingForwardReferenceIdeal.main_arg1) = m ((c.tc : Thread Cert.GatingForwardIdeal.nD Cert.GatingForwardIdeal.τ).loc Cert.GatingForwardIdeal.main_arg1)
      ∧ m' ((c.tc : Thread Cert.GatingForwardReferenceIdeal.nD Cert.GatingForwardReferenceIdeal.τ).loc Cert.GatingForwardReferenceIdeal.main_arg2) = m ((c.tc : Thread Cert.GatingForwardIdeal.nD Cert.GatingForwardIdeal.τ).loc Cert.GatingForwardIdeal.main_arg2)
      ∧ m' ((c.tc : Thread Cert.GatingForwardReferenceIdeal.nD Cert.GatingForwardReferenceIdeal.τ).loc Cert.GatingForwardReferenceIdeal.main_arg3) = m ((c.tc : Thread Cert.GatingForwardIdeal.nD Cert.GatingForwardIdeal.τ).loc Cert.GatingForwardIdeal.main_arg3)
      ∧ m' ((c.tc : Thread Cert.GatingForwardReferenceIdeal.nD Cert.GatingForwardReferenceIdeal.τ).loc Cert.GatingForwardReferenceIdeal.main_arg4) = m ((c.tc : Thread Cert.GatingForwardIdeal.nD Cert.GatingForwardIdeal.τ).loc Cert.GatingForwardIdeal.main_arg4)) →
    ∃ (v0 : (c : Dev Cert.GatingForwardIdeal.nD) → Buf (Elt Ideal) ((c.tc : Thread Cert.GatingForwardIdeal.nD Cert.GatingForwardIdeal.τ).loc Cert.GatingForwardIdeal.main_v0)),
      θ_run (Cert.GatingForwardIdeal.defs (F := Ideal)) (onTc (τ := Cert.GatingForwardIdeal.τ) (Cert.GatingForwardIdeal.main (F := Ideal))) ⟨m, fun _ => 0, g⟩ (fun r => ∀ c : Dev Cert.GatingForwardIdeal.nD,
          r.2.mem ((c.tc : Thread Cert.GatingForwardIdeal.nD Cert.GatingForwardIdeal.τ).loc Cert.GatingForwardIdeal.main_v0) = v0 c
          ∧ r.2.mem ((c.tc : Thread Cert.GatingForwardIdeal.nD Cert.GatingForwardIdeal.τ).loc Cert.GatingForwardIdeal.main_arg0) = m ((c.tc : Thread Cert.GatingForwardIdeal.nD Cert.GatingForwardIdeal.τ).loc Cert.GatingForwardIdeal.main_arg0)
          ∧ r.2.mem ((c.tc : Thread Cert.GatingForwardIdeal.nD Cert.GatingForwardIdeal.τ).loc Cert.GatingForwardIdeal.main_arg1) = m ((c.tc : Thread Cert.GatingForwardIdeal.nD Cert.GatingForwardIdeal.τ).loc Cert.GatingForwardIdeal.main_arg1)
          ∧ r.2.mem ((c.tc : Thread Cert.GatingForwardIdeal.nD Cert.GatingForwardIdeal.τ).loc Cert.GatingForwardIdeal.main_arg2) = m ((c.tc : Thread Cert.GatingForwardIdeal.nD Cert.GatingForwardIdeal.τ).loc Cert.GatingForwardIdeal.main_arg2)
          ∧ r.2.mem ((c.tc : Thread Cert.GatingForwardIdeal.nD Cert.GatingForwardIdeal.τ).loc Cert.GatingForwardIdeal.main_arg3) = m ((c.tc : Thread Cert.GatingForwardIdeal.nD Cert.GatingForwardIdeal.τ).loc Cert.GatingForwardIdeal.main_arg3)
          ∧ r.2.mem ((c.tc : Thread Cert.GatingForwardIdeal.nD Cert.GatingForwardIdeal.τ).loc Cert.GatingForwardIdeal.main_arg4) = m ((c.tc : Thread Cert.GatingForwardIdeal.nD Cert.GatingForwardIdeal.τ).loc Cert.GatingForwardIdeal.main_arg4))
      ∧ θ_run (Cert.GatingForwardReferenceIdeal.defs (F := Ideal)) (onTc (τ := Cert.GatingForwardReferenceIdeal.τ) (Cert.GatingForwardReferenceIdeal.main (F := Ideal))) ⟨m', fun _ => 0, g'⟩ (fun r => ∀ c : Dev Cert.GatingForwardReferenceIdeal.nD,
          r.2.mem ((c.tc : Thread Cert.GatingForwardReferenceIdeal.nD Cert.GatingForwardReferenceIdeal.τ).loc Cert.GatingForwardReferenceIdeal.main_v52) = v0 c
          ∧ r.2.mem ((c.tc : Thread Cert.GatingForwardReferenceIdeal.nD Cert.GatingForwardReferenceIdeal.τ).loc Cert.GatingForwardReferenceIdeal.main_arg0) = m' ((c.tc : Thread Cert.GatingForwardReferenceIdeal.nD Cert.GatingForwardReferenceIdeal.τ).loc Cert.GatingForwardReferenceIdeal.main_arg0)
          ∧ r.2.mem ((c.tc : Thread Cert.GatingForwardReferenceIdeal.nD Cert.GatingForwardReferenceIdeal.τ).loc Cert.GatingForwardReferenceIdeal.main_arg1) = m' ((c.tc : Thread Cert.GatingForwardReferenceIdeal.nD Cert.GatingForwardReferenceIdeal.τ).loc Cert.GatingForwardReferenceIdeal.main_arg1)
          ∧ r.2.mem ((c.tc : Thread Cert.GatingForwardReferenceIdeal.nD Cert.GatingForwardReferenceIdeal.τ).loc Cert.GatingForwardReferenceIdeal.main_arg2) = m' ((c.tc : Thread Cert.GatingForwardReferenceIdeal.nD Cert.GatingForwardReferenceIdeal.τ).loc Cert.GatingForwardReferenceIdeal.main_arg2)
          ∧ r.2.mem ((c.tc : Thread Cert.GatingForwardReferenceIdeal.nD Cert.GatingForwardReferenceIdeal.τ).loc Cert.GatingForwardReferenceIdeal.main_arg3) = m' ((c.tc : Thread Cert.GatingForwardReferenceIdeal.nD Cert.GatingForwardReferenceIdeal.τ).loc Cert.GatingForwardReferenceIdeal.main_arg3)
          ∧ r.2.mem ((c.tc : Thread Cert.GatingForwardReferenceIdeal.nD Cert.GatingForwardReferenceIdeal.τ).loc Cert.GatingForwardReferenceIdeal.main_arg4) = m' ((c.tc : Thread Cert.GatingForwardReferenceIdeal.nD Cert.GatingForwardReferenceIdeal.τ).loc Cert.GatingForwardReferenceIdeal.main_arg4))

def preserves_NormGainStep_NormGainStepIdeal : Prop :=
  IdealRules.named_const.Statement Cert.NormGainStepIdeal.κ "first_decay" .f32 0x3FC48605#32 (((5463681 / 8388608)⁻¹ : ℝ) : EReal)
  ∧ IdealRules.named_const.Statement Cert.NormGainStepIdeal.κ "second_decay" .f32 0x42C8E6D3#32 (((2672307 / 268435456)⁻¹ : ℝ) : EReal)

def algebraic_NormGainStepIdeal_NormGainStepReferenceIdeal [hNormGainStepIdeal : Cert.NormGainStepIdeal.Facts] [hNormGainStepReferenceIdeal : Cert.NormGainStepReferenceIdeal.Facts] : Prop :=
  ∀ (m : (ℓ : Loc Cert.NormGainStepIdeal.nD Cert.NormGainStepIdeal.τ Cert.NormGainStepIdeal.sig) → Buf (Elt Ideal) ℓ) (g : Dev Cert.NormGainStepIdeal.nD → PrngReg)
    (m' : (ℓ : Loc Cert.NormGainStepReferenceIdeal.nD Cert.NormGainStepReferenceIdeal.τ Cert.NormGainStepReferenceIdeal.sig) → Buf (Elt Ideal) ℓ) (g' : Dev Cert.NormGainStepReferenceIdeal.nD → PrngReg), Pre_NormGainStepIdeal m →
    (∀ c : Dev Cert.NormGainStepIdeal.nD,
      m' ((c.tc : Thread Cert.NormGainStepReferenceIdeal.nD Cert.NormGainStepReferenceIdeal.τ).loc Cert.NormGainStepReferenceIdeal.main_arg0) = m ((c.tc : Thread Cert.NormGainStepIdeal.nD Cert.NormGainStepIdeal.τ).loc Cert.NormGainStepIdeal.main_arg0)
      ∧ m' ((c.tc : Thread Cert.NormGainStepReferenceIdeal.nD Cert.NormGainStepReferenceIdeal.τ).loc Cert.NormGainStepReferenceIdeal.main_arg1) = m ((c.tc : Thread Cert.NormGainStepIdeal.nD Cert.NormGainStepIdeal.τ).loc Cert.NormGainStepIdeal.main_arg1)
      ∧ m' ((c.tc : Thread Cert.NormGainStepReferenceIdeal.nD Cert.NormGainStepReferenceIdeal.τ).loc Cert.NormGainStepReferenceIdeal.main_arg2) = m ((c.tc : Thread Cert.NormGainStepIdeal.nD Cert.NormGainStepIdeal.τ).loc Cert.NormGainStepIdeal.main_arg2)
      ∧ m' ((c.tc : Thread Cert.NormGainStepReferenceIdeal.nD Cert.NormGainStepReferenceIdeal.τ).loc Cert.NormGainStepReferenceIdeal.main_arg3) = m ((c.tc : Thread Cert.NormGainStepIdeal.nD Cert.NormGainStepIdeal.τ).loc Cert.NormGainStepIdeal.main_arg3)) →
    ∃ (v0 : (c : Dev Cert.NormGainStepIdeal.nD) → Buf (Elt Ideal) ((c.tc : Thread Cert.NormGainStepIdeal.nD Cert.NormGainStepIdeal.τ).loc Cert.NormGainStepIdeal.main_v0_0)) (v1 : (c : Dev Cert.NormGainStepIdeal.nD) → Buf (Elt Ideal) ((c.tc : Thread Cert.NormGainStepIdeal.nD Cert.NormGainStepIdeal.τ).loc Cert.NormGainStepIdeal.main_v0_1)) (v2 : (c : Dev Cert.NormGainStepIdeal.nD) → Buf (Elt Ideal) ((c.tc : Thread Cert.NormGainStepIdeal.nD Cert.NormGainStepIdeal.τ).loc Cert.NormGainStepIdeal.main_v0_2)),
      θ_run (Cert.NormGainStepIdeal.defs (F := Ideal)) (onTc (τ := Cert.NormGainStepIdeal.τ) (Cert.NormGainStepIdeal.main (F := Ideal))) ⟨m, fun _ => 0, g⟩ (fun r => ∀ c : Dev Cert.NormGainStepIdeal.nD,
          r.2.mem ((c.tc : Thread Cert.NormGainStepIdeal.nD Cert.NormGainStepIdeal.τ).loc Cert.NormGainStepIdeal.main_v0_0) = v0 c
          ∧ r.2.mem ((c.tc : Thread Cert.NormGainStepIdeal.nD Cert.NormGainStepIdeal.τ).loc Cert.NormGainStepIdeal.main_v0_1) = v1 c
          ∧ r.2.mem ((c.tc : Thread Cert.NormGainStepIdeal.nD Cert.NormGainStepIdeal.τ).loc Cert.NormGainStepIdeal.main_v0_2) = v2 c
          ∧ r.2.mem ((c.tc : Thread Cert.NormGainStepIdeal.nD Cert.NormGainStepIdeal.τ).loc Cert.NormGainStepIdeal.main_arg0) = m ((c.tc : Thread Cert.NormGainStepIdeal.nD Cert.NormGainStepIdeal.τ).loc Cert.NormGainStepIdeal.main_arg0)
          ∧ r.2.mem ((c.tc : Thread Cert.NormGainStepIdeal.nD Cert.NormGainStepIdeal.τ).loc Cert.NormGainStepIdeal.main_arg1) = m ((c.tc : Thread Cert.NormGainStepIdeal.nD Cert.NormGainStepIdeal.τ).loc Cert.NormGainStepIdeal.main_arg1)
          ∧ r.2.mem ((c.tc : Thread Cert.NormGainStepIdeal.nD Cert.NormGainStepIdeal.τ).loc Cert.NormGainStepIdeal.main_arg2) = m ((c.tc : Thread Cert.NormGainStepIdeal.nD Cert.NormGainStepIdeal.τ).loc Cert.NormGainStepIdeal.main_arg2)
          ∧ r.2.mem ((c.tc : Thread Cert.NormGainStepIdeal.nD Cert.NormGainStepIdeal.τ).loc Cert.NormGainStepIdeal.main_arg3) = m ((c.tc : Thread Cert.NormGainStepIdeal.nD Cert.NormGainStepIdeal.τ).loc Cert.NormGainStepIdeal.main_arg3))
      ∧ θ_run (Cert.NormGainStepReferenceIdeal.defs (F := Ideal)) (onTc (τ := Cert.NormGainStepReferenceIdeal.τ) (Cert.NormGainStepReferenceIdeal.main (F := Ideal))) ⟨m', fun _ => 0, g'⟩ (fun r => ∀ c : Dev Cert.NormGainStepReferenceIdeal.nD,
          r.2.mem ((c.tc : Thread Cert.NormGainStepReferenceIdeal.nD Cert.NormGainStepReferenceIdeal.τ).loc Cert.NormGainStepReferenceIdeal.main_v23) = v0 c
          ∧ r.2.mem ((c.tc : Thread Cert.NormGainStepReferenceIdeal.nD Cert.NormGainStepReferenceIdeal.τ).loc Cert.NormGainStepReferenceIdeal.main_v4) = v1 c
          ∧ r.2.mem ((c.tc : Thread Cert.NormGainStepReferenceIdeal.nD Cert.NormGainStepReferenceIdeal.τ).loc Cert.NormGainStepReferenceIdeal.main_v10) = v2 c
          ∧ r.2.mem ((c.tc : Thread Cert.NormGainStepReferenceIdeal.nD Cert.NormGainStepReferenceIdeal.τ).loc Cert.NormGainStepReferenceIdeal.main_arg0) = m' ((c.tc : Thread Cert.NormGainStepReferenceIdeal.nD Cert.NormGainStepReferenceIdeal.τ).loc Cert.NormGainStepReferenceIdeal.main_arg0)
          ∧ r.2.mem ((c.tc : Thread Cert.NormGainStepReferenceIdeal.nD Cert.NormGainStepReferenceIdeal.τ).loc Cert.NormGainStepReferenceIdeal.main_arg1) = m' ((c.tc : Thread Cert.NormGainStepReferenceIdeal.nD Cert.NormGainStepReferenceIdeal.τ).loc Cert.NormGainStepReferenceIdeal.main_arg1)
          ∧ r.2.mem ((c.tc : Thread Cert.NormGainStepReferenceIdeal.nD Cert.NormGainStepReferenceIdeal.τ).loc Cert.NormGainStepReferenceIdeal.main_arg2) = m' ((c.tc : Thread Cert.NormGainStepReferenceIdeal.nD Cert.NormGainStepReferenceIdeal.τ).loc Cert.NormGainStepReferenceIdeal.main_arg2)
          ∧ r.2.mem ((c.tc : Thread Cert.NormGainStepReferenceIdeal.nD Cert.NormGainStepReferenceIdeal.τ).loc Cert.NormGainStepReferenceIdeal.main_arg3) = m' ((c.tc : Thread Cert.NormGainStepReferenceIdeal.nD Cert.NormGainStepReferenceIdeal.τ).loc Cert.NormGainStepReferenceIdeal.main_arg3))

def preserves_FinalGainStep_FinalGainStepIdeal : Prop :=
  IdealRules.named_const.Statement Cert.FinalGainStepIdeal.κ "first_decay" .f32 0x3FC48605#32 (((5463681 / 8388608)⁻¹ : ℝ) : EReal)
  ∧ IdealRules.named_const.Statement Cert.FinalGainStepIdeal.κ "second_decay" .f32 0x42C8E6D3#32 (((2672307 / 268435456)⁻¹ : ℝ) : EReal)

def algebraic_FinalGainStepIdeal_FinalGainStepReferenceIdeal [hFinalGainStepIdeal : Cert.FinalGainStepIdeal.Facts] [hFinalGainStepReferenceIdeal : Cert.FinalGainStepReferenceIdeal.Facts] : Prop :=
  ∀ (m : (ℓ : Loc Cert.FinalGainStepIdeal.nD Cert.FinalGainStepIdeal.τ Cert.FinalGainStepIdeal.sig) → Buf (Elt Ideal) ℓ) (g : Dev Cert.FinalGainStepIdeal.nD → PrngReg)
    (m' : (ℓ : Loc Cert.FinalGainStepReferenceIdeal.nD Cert.FinalGainStepReferenceIdeal.τ Cert.FinalGainStepReferenceIdeal.sig) → Buf (Elt Ideal) ℓ) (g' : Dev Cert.FinalGainStepReferenceIdeal.nD → PrngReg), Pre_FinalGainStepIdeal m →
    (∀ c : Dev Cert.FinalGainStepIdeal.nD,
      m' ((c.tc : Thread Cert.FinalGainStepReferenceIdeal.nD Cert.FinalGainStepReferenceIdeal.τ).loc Cert.FinalGainStepReferenceIdeal.main_arg0) = m ((c.tc : Thread Cert.FinalGainStepIdeal.nD Cert.FinalGainStepIdeal.τ).loc Cert.FinalGainStepIdeal.main_arg0)
      ∧ m' ((c.tc : Thread Cert.FinalGainStepReferenceIdeal.nD Cert.FinalGainStepReferenceIdeal.τ).loc Cert.FinalGainStepReferenceIdeal.main_arg1) = m ((c.tc : Thread Cert.FinalGainStepIdeal.nD Cert.FinalGainStepIdeal.τ).loc Cert.FinalGainStepIdeal.main_arg1)
      ∧ m' ((c.tc : Thread Cert.FinalGainStepReferenceIdeal.nD Cert.FinalGainStepReferenceIdeal.τ).loc Cert.FinalGainStepReferenceIdeal.main_arg2) = m ((c.tc : Thread Cert.FinalGainStepIdeal.nD Cert.FinalGainStepIdeal.τ).loc Cert.FinalGainStepIdeal.main_arg2)
      ∧ m' ((c.tc : Thread Cert.FinalGainStepReferenceIdeal.nD Cert.FinalGainStepReferenceIdeal.τ).loc Cert.FinalGainStepReferenceIdeal.main_arg3) = m ((c.tc : Thread Cert.FinalGainStepIdeal.nD Cert.FinalGainStepIdeal.τ).loc Cert.FinalGainStepIdeal.main_arg3)) →
    ∃ (v0 : (c : Dev Cert.FinalGainStepIdeal.nD) → Buf (Elt Ideal) ((c.tc : Thread Cert.FinalGainStepIdeal.nD Cert.FinalGainStepIdeal.τ).loc Cert.FinalGainStepIdeal.main_v0_0)) (v1 : (c : Dev Cert.FinalGainStepIdeal.nD) → Buf (Elt Ideal) ((c.tc : Thread Cert.FinalGainStepIdeal.nD Cert.FinalGainStepIdeal.τ).loc Cert.FinalGainStepIdeal.main_v0_1)) (v2 : (c : Dev Cert.FinalGainStepIdeal.nD) → Buf (Elt Ideal) ((c.tc : Thread Cert.FinalGainStepIdeal.nD Cert.FinalGainStepIdeal.τ).loc Cert.FinalGainStepIdeal.main_v0_2)),
      θ_run (Cert.FinalGainStepIdeal.defs (F := Ideal)) (onTc (τ := Cert.FinalGainStepIdeal.τ) (Cert.FinalGainStepIdeal.main (F := Ideal))) ⟨m, fun _ => 0, g⟩ (fun r => ∀ c : Dev Cert.FinalGainStepIdeal.nD,
          r.2.mem ((c.tc : Thread Cert.FinalGainStepIdeal.nD Cert.FinalGainStepIdeal.τ).loc Cert.FinalGainStepIdeal.main_v0_0) = v0 c
          ∧ r.2.mem ((c.tc : Thread Cert.FinalGainStepIdeal.nD Cert.FinalGainStepIdeal.τ).loc Cert.FinalGainStepIdeal.main_v0_1) = v1 c
          ∧ r.2.mem ((c.tc : Thread Cert.FinalGainStepIdeal.nD Cert.FinalGainStepIdeal.τ).loc Cert.FinalGainStepIdeal.main_v0_2) = v2 c
          ∧ r.2.mem ((c.tc : Thread Cert.FinalGainStepIdeal.nD Cert.FinalGainStepIdeal.τ).loc Cert.FinalGainStepIdeal.main_arg0) = m ((c.tc : Thread Cert.FinalGainStepIdeal.nD Cert.FinalGainStepIdeal.τ).loc Cert.FinalGainStepIdeal.main_arg0)
          ∧ r.2.mem ((c.tc : Thread Cert.FinalGainStepIdeal.nD Cert.FinalGainStepIdeal.τ).loc Cert.FinalGainStepIdeal.main_arg1) = m ((c.tc : Thread Cert.FinalGainStepIdeal.nD Cert.FinalGainStepIdeal.τ).loc Cert.FinalGainStepIdeal.main_arg1)
          ∧ r.2.mem ((c.tc : Thread Cert.FinalGainStepIdeal.nD Cert.FinalGainStepIdeal.τ).loc Cert.FinalGainStepIdeal.main_arg2) = m ((c.tc : Thread Cert.FinalGainStepIdeal.nD Cert.FinalGainStepIdeal.τ).loc Cert.FinalGainStepIdeal.main_arg2)
          ∧ r.2.mem ((c.tc : Thread Cert.FinalGainStepIdeal.nD Cert.FinalGainStepIdeal.τ).loc Cert.FinalGainStepIdeal.main_arg3) = m ((c.tc : Thread Cert.FinalGainStepIdeal.nD Cert.FinalGainStepIdeal.τ).loc Cert.FinalGainStepIdeal.main_arg3))
      ∧ θ_run (Cert.FinalGainStepReferenceIdeal.defs (F := Ideal)) (onTc (τ := Cert.FinalGainStepReferenceIdeal.τ) (Cert.FinalGainStepReferenceIdeal.main (F := Ideal))) ⟨m', fun _ => 0, g'⟩ (fun r => ∀ c : Dev Cert.FinalGainStepReferenceIdeal.nD,
          r.2.mem ((c.tc : Thread Cert.FinalGainStepReferenceIdeal.nD Cert.FinalGainStepReferenceIdeal.τ).loc Cert.FinalGainStepReferenceIdeal.main_v23) = v0 c
          ∧ r.2.mem ((c.tc : Thread Cert.FinalGainStepReferenceIdeal.nD Cert.FinalGainStepReferenceIdeal.τ).loc Cert.FinalGainStepReferenceIdeal.main_v4) = v1 c
          ∧ r.2.mem ((c.tc : Thread Cert.FinalGainStepReferenceIdeal.nD Cert.FinalGainStepReferenceIdeal.τ).loc Cert.FinalGainStepReferenceIdeal.main_v10) = v2 c
          ∧ r.2.mem ((c.tc : Thread Cert.FinalGainStepReferenceIdeal.nD Cert.FinalGainStepReferenceIdeal.τ).loc Cert.FinalGainStepReferenceIdeal.main_arg0) = m' ((c.tc : Thread Cert.FinalGainStepReferenceIdeal.nD Cert.FinalGainStepReferenceIdeal.τ).loc Cert.FinalGainStepReferenceIdeal.main_arg0)
          ∧ r.2.mem ((c.tc : Thread Cert.FinalGainStepReferenceIdeal.nD Cert.FinalGainStepReferenceIdeal.τ).loc Cert.FinalGainStepReferenceIdeal.main_arg1) = m' ((c.tc : Thread Cert.FinalGainStepReferenceIdeal.nD Cert.FinalGainStepReferenceIdeal.τ).loc Cert.FinalGainStepReferenceIdeal.main_arg1)
          ∧ r.2.mem ((c.tc : Thread Cert.FinalGainStepReferenceIdeal.nD Cert.FinalGainStepReferenceIdeal.τ).loc Cert.FinalGainStepReferenceIdeal.main_arg2) = m' ((c.tc : Thread Cert.FinalGainStepReferenceIdeal.nD Cert.FinalGainStepReferenceIdeal.τ).loc Cert.FinalGainStepReferenceIdeal.main_arg2)
          ∧ r.2.mem ((c.tc : Thread Cert.FinalGainStepReferenceIdeal.nD Cert.FinalGainStepReferenceIdeal.τ).loc Cert.FinalGainStepReferenceIdeal.main_arg3) = m' ((c.tc : Thread Cert.FinalGainStepReferenceIdeal.nD Cert.FinalGainStepReferenceIdeal.τ).loc Cert.FinalGainStepReferenceIdeal.main_arg3))

def preserves_GatingNormStep_GatingNormStepIdeal : Prop :=
  IdealRules.named_const.Statement Cert.GatingNormStepIdeal.κ "first_decay" .f32 0x3FC48605#32 (((5463681 / 8388608)⁻¹ : ℝ) : EReal)
  ∧ IdealRules.named_const.Statement Cert.GatingNormStepIdeal.κ "second_decay" .f32 0x42C8E6D3#32 (((2672307 / 268435456)⁻¹ : ℝ) : EReal)

def algebraic_GatingNormStepIdeal_GatingNormStepReferenceIdeal [hGatingNormStepIdeal : Cert.GatingNormStepIdeal.Facts] [hGatingNormStepReferenceIdeal : Cert.GatingNormStepReferenceIdeal.Facts] : Prop :=
  ∀ (m : (ℓ : Loc Cert.GatingNormStepIdeal.nD Cert.GatingNormStepIdeal.τ Cert.GatingNormStepIdeal.sig) → Buf (Elt Ideal) ℓ) (g : Dev Cert.GatingNormStepIdeal.nD → PrngReg)
    (m' : (ℓ : Loc Cert.GatingNormStepReferenceIdeal.nD Cert.GatingNormStepReferenceIdeal.τ Cert.GatingNormStepReferenceIdeal.sig) → Buf (Elt Ideal) ℓ) (g' : Dev Cert.GatingNormStepReferenceIdeal.nD → PrngReg), Pre_GatingNormStepIdeal m →
    (∀ c : Dev Cert.GatingNormStepIdeal.nD,
      m' ((c.tc : Thread Cert.GatingNormStepReferenceIdeal.nD Cert.GatingNormStepReferenceIdeal.τ).loc Cert.GatingNormStepReferenceIdeal.main_arg0) = m ((c.tc : Thread Cert.GatingNormStepIdeal.nD Cert.GatingNormStepIdeal.τ).loc Cert.GatingNormStepIdeal.main_arg0)
      ∧ m' ((c.tc : Thread Cert.GatingNormStepReferenceIdeal.nD Cert.GatingNormStepReferenceIdeal.τ).loc Cert.GatingNormStepReferenceIdeal.main_arg1) = m ((c.tc : Thread Cert.GatingNormStepIdeal.nD Cert.GatingNormStepIdeal.τ).loc Cert.GatingNormStepIdeal.main_arg1)
      ∧ m' ((c.tc : Thread Cert.GatingNormStepReferenceIdeal.nD Cert.GatingNormStepReferenceIdeal.τ).loc Cert.GatingNormStepReferenceIdeal.main_arg2) = m ((c.tc : Thread Cert.GatingNormStepIdeal.nD Cert.GatingNormStepIdeal.τ).loc Cert.GatingNormStepIdeal.main_arg2)
      ∧ m' ((c.tc : Thread Cert.GatingNormStepReferenceIdeal.nD Cert.GatingNormStepReferenceIdeal.τ).loc Cert.GatingNormStepReferenceIdeal.main_arg3) = m ((c.tc : Thread Cert.GatingNormStepIdeal.nD Cert.GatingNormStepIdeal.τ).loc Cert.GatingNormStepIdeal.main_arg3)) →
    ∃ (v0 : (c : Dev Cert.GatingNormStepIdeal.nD) → Buf (Elt Ideal) ((c.tc : Thread Cert.GatingNormStepIdeal.nD Cert.GatingNormStepIdeal.τ).loc Cert.GatingNormStepIdeal.main_v0_0)) (v1 : (c : Dev Cert.GatingNormStepIdeal.nD) → Buf (Elt Ideal) ((c.tc : Thread Cert.GatingNormStepIdeal.nD Cert.GatingNormStepIdeal.τ).loc Cert.GatingNormStepIdeal.main_v0_1)) (v2 : (c : Dev Cert.GatingNormStepIdeal.nD) → Buf (Elt Ideal) ((c.tc : Thread Cert.GatingNormStepIdeal.nD Cert.GatingNormStepIdeal.τ).loc Cert.GatingNormStepIdeal.main_v0_2)),
      θ_run (Cert.GatingNormStepIdeal.defs (F := Ideal)) (onTc (τ := Cert.GatingNormStepIdeal.τ) (Cert.GatingNormStepIdeal.main (F := Ideal))) ⟨m, fun _ => 0, g⟩ (fun r => ∀ c : Dev Cert.GatingNormStepIdeal.nD,
          r.2.mem ((c.tc : Thread Cert.GatingNormStepIdeal.nD Cert.GatingNormStepIdeal.τ).loc Cert.GatingNormStepIdeal.main_v0_0) = v0 c
          ∧ r.2.mem ((c.tc : Thread Cert.GatingNormStepIdeal.nD Cert.GatingNormStepIdeal.τ).loc Cert.GatingNormStepIdeal.main_v0_1) = v1 c
          ∧ r.2.mem ((c.tc : Thread Cert.GatingNormStepIdeal.nD Cert.GatingNormStepIdeal.τ).loc Cert.GatingNormStepIdeal.main_v0_2) = v2 c
          ∧ r.2.mem ((c.tc : Thread Cert.GatingNormStepIdeal.nD Cert.GatingNormStepIdeal.τ).loc Cert.GatingNormStepIdeal.main_arg0) = m ((c.tc : Thread Cert.GatingNormStepIdeal.nD Cert.GatingNormStepIdeal.τ).loc Cert.GatingNormStepIdeal.main_arg0)
          ∧ r.2.mem ((c.tc : Thread Cert.GatingNormStepIdeal.nD Cert.GatingNormStepIdeal.τ).loc Cert.GatingNormStepIdeal.main_arg1) = m ((c.tc : Thread Cert.GatingNormStepIdeal.nD Cert.GatingNormStepIdeal.τ).loc Cert.GatingNormStepIdeal.main_arg1)
          ∧ r.2.mem ((c.tc : Thread Cert.GatingNormStepIdeal.nD Cert.GatingNormStepIdeal.τ).loc Cert.GatingNormStepIdeal.main_arg2) = m ((c.tc : Thread Cert.GatingNormStepIdeal.nD Cert.GatingNormStepIdeal.τ).loc Cert.GatingNormStepIdeal.main_arg2)
          ∧ r.2.mem ((c.tc : Thread Cert.GatingNormStepIdeal.nD Cert.GatingNormStepIdeal.τ).loc Cert.GatingNormStepIdeal.main_arg3) = m ((c.tc : Thread Cert.GatingNormStepIdeal.nD Cert.GatingNormStepIdeal.τ).loc Cert.GatingNormStepIdeal.main_arg3))
      ∧ θ_run (Cert.GatingNormStepReferenceIdeal.defs (F := Ideal)) (onTc (τ := Cert.GatingNormStepReferenceIdeal.τ) (Cert.GatingNormStepReferenceIdeal.main (F := Ideal))) ⟨m', fun _ => 0, g'⟩ (fun r => ∀ c : Dev Cert.GatingNormStepReferenceIdeal.nD,
          r.2.mem ((c.tc : Thread Cert.GatingNormStepReferenceIdeal.nD Cert.GatingNormStepReferenceIdeal.τ).loc Cert.GatingNormStepReferenceIdeal.main_v23) = v0 c
          ∧ r.2.mem ((c.tc : Thread Cert.GatingNormStepReferenceIdeal.nD Cert.GatingNormStepReferenceIdeal.τ).loc Cert.GatingNormStepReferenceIdeal.main_v4) = v1 c
          ∧ r.2.mem ((c.tc : Thread Cert.GatingNormStepReferenceIdeal.nD Cert.GatingNormStepReferenceIdeal.τ).loc Cert.GatingNormStepReferenceIdeal.main_v10) = v2 c
          ∧ r.2.mem ((c.tc : Thread Cert.GatingNormStepReferenceIdeal.nD Cert.GatingNormStepReferenceIdeal.τ).loc Cert.GatingNormStepReferenceIdeal.main_arg0) = m' ((c.tc : Thread Cert.GatingNormStepReferenceIdeal.nD Cert.GatingNormStepReferenceIdeal.τ).loc Cert.GatingNormStepReferenceIdeal.main_arg0)
          ∧ r.2.mem ((c.tc : Thread Cert.GatingNormStepReferenceIdeal.nD Cert.GatingNormStepReferenceIdeal.τ).loc Cert.GatingNormStepReferenceIdeal.main_arg1) = m' ((c.tc : Thread Cert.GatingNormStepReferenceIdeal.nD Cert.GatingNormStepReferenceIdeal.τ).loc Cert.GatingNormStepReferenceIdeal.main_arg1)
          ∧ r.2.mem ((c.tc : Thread Cert.GatingNormStepReferenceIdeal.nD Cert.GatingNormStepReferenceIdeal.τ).loc Cert.GatingNormStepReferenceIdeal.main_arg2) = m' ((c.tc : Thread Cert.GatingNormStepReferenceIdeal.nD Cert.GatingNormStepReferenceIdeal.τ).loc Cert.GatingNormStepReferenceIdeal.main_arg2)
          ∧ r.2.mem ((c.tc : Thread Cert.GatingNormStepReferenceIdeal.nD Cert.GatingNormStepReferenceIdeal.τ).loc Cert.GatingNormStepReferenceIdeal.main_arg3) = m' ((c.tc : Thread Cert.GatingNormStepReferenceIdeal.nD Cert.GatingNormStepReferenceIdeal.τ).loc Cert.GatingNormStepReferenceIdeal.main_arg3))

def preserves_SpatialWeightStep_SpatialWeightStepIdeal : Prop :=
  IdealRules.named_const.Statement Cert.SpatialWeightStepIdeal.κ "first_decay" .f32 0x3FC48605#32 (((5463681 / 8388608)⁻¹ : ℝ) : EReal)
  ∧ IdealRules.named_const.Statement Cert.SpatialWeightStepIdeal.κ "second_decay" .f32 0x42C8E6D3#32 (((2672307 / 268435456)⁻¹ : ℝ) : EReal)

def algebraic_SpatialWeightStepIdeal_SpatialWeightStepReferenceIdeal [hSpatialWeightStepIdeal : Cert.SpatialWeightStepIdeal.Facts] [hSpatialWeightStepReferenceIdeal : Cert.SpatialWeightStepReferenceIdeal.Facts] : Prop :=
  ∀ (m : (ℓ : Loc Cert.SpatialWeightStepIdeal.nD Cert.SpatialWeightStepIdeal.τ Cert.SpatialWeightStepIdeal.sig) → Buf (Elt Ideal) ℓ) (g : Dev Cert.SpatialWeightStepIdeal.nD → PrngReg)
    (m' : (ℓ : Loc Cert.SpatialWeightStepReferenceIdeal.nD Cert.SpatialWeightStepReferenceIdeal.τ Cert.SpatialWeightStepReferenceIdeal.sig) → Buf (Elt Ideal) ℓ) (g' : Dev Cert.SpatialWeightStepReferenceIdeal.nD → PrngReg), Pre_SpatialWeightStepIdeal m →
    (∀ c : Dev Cert.SpatialWeightStepIdeal.nD,
      m' ((c.tc : Thread Cert.SpatialWeightStepReferenceIdeal.nD Cert.SpatialWeightStepReferenceIdeal.τ).loc Cert.SpatialWeightStepReferenceIdeal.main_arg0) = m ((c.tc : Thread Cert.SpatialWeightStepIdeal.nD Cert.SpatialWeightStepIdeal.τ).loc Cert.SpatialWeightStepIdeal.main_arg0)
      ∧ m' ((c.tc : Thread Cert.SpatialWeightStepReferenceIdeal.nD Cert.SpatialWeightStepReferenceIdeal.τ).loc Cert.SpatialWeightStepReferenceIdeal.main_arg1) = m ((c.tc : Thread Cert.SpatialWeightStepIdeal.nD Cert.SpatialWeightStepIdeal.τ).loc Cert.SpatialWeightStepIdeal.main_arg1)
      ∧ m' ((c.tc : Thread Cert.SpatialWeightStepReferenceIdeal.nD Cert.SpatialWeightStepReferenceIdeal.τ).loc Cert.SpatialWeightStepReferenceIdeal.main_arg2) = m ((c.tc : Thread Cert.SpatialWeightStepIdeal.nD Cert.SpatialWeightStepIdeal.τ).loc Cert.SpatialWeightStepIdeal.main_arg2)
      ∧ m' ((c.tc : Thread Cert.SpatialWeightStepReferenceIdeal.nD Cert.SpatialWeightStepReferenceIdeal.τ).loc Cert.SpatialWeightStepReferenceIdeal.main_arg3) = m ((c.tc : Thread Cert.SpatialWeightStepIdeal.nD Cert.SpatialWeightStepIdeal.τ).loc Cert.SpatialWeightStepIdeal.main_arg3)) →
    ∃ (v0 : (c : Dev Cert.SpatialWeightStepIdeal.nD) → Buf (Elt Ideal) ((c.tc : Thread Cert.SpatialWeightStepIdeal.nD Cert.SpatialWeightStepIdeal.τ).loc Cert.SpatialWeightStepIdeal.main_v0_0)) (v1 : (c : Dev Cert.SpatialWeightStepIdeal.nD) → Buf (Elt Ideal) ((c.tc : Thread Cert.SpatialWeightStepIdeal.nD Cert.SpatialWeightStepIdeal.τ).loc Cert.SpatialWeightStepIdeal.main_v0_1)) (v2 : (c : Dev Cert.SpatialWeightStepIdeal.nD) → Buf (Elt Ideal) ((c.tc : Thread Cert.SpatialWeightStepIdeal.nD Cert.SpatialWeightStepIdeal.τ).loc Cert.SpatialWeightStepIdeal.main_v0_2)),
      θ_run (Cert.SpatialWeightStepIdeal.defs (F := Ideal)) (onTc (τ := Cert.SpatialWeightStepIdeal.τ) (Cert.SpatialWeightStepIdeal.main (F := Ideal))) ⟨m, fun _ => 0, g⟩ (fun r => ∀ c : Dev Cert.SpatialWeightStepIdeal.nD,
          r.2.mem ((c.tc : Thread Cert.SpatialWeightStepIdeal.nD Cert.SpatialWeightStepIdeal.τ).loc Cert.SpatialWeightStepIdeal.main_v0_0) = v0 c
          ∧ r.2.mem ((c.tc : Thread Cert.SpatialWeightStepIdeal.nD Cert.SpatialWeightStepIdeal.τ).loc Cert.SpatialWeightStepIdeal.main_v0_1) = v1 c
          ∧ r.2.mem ((c.tc : Thread Cert.SpatialWeightStepIdeal.nD Cert.SpatialWeightStepIdeal.τ).loc Cert.SpatialWeightStepIdeal.main_v0_2) = v2 c
          ∧ r.2.mem ((c.tc : Thread Cert.SpatialWeightStepIdeal.nD Cert.SpatialWeightStepIdeal.τ).loc Cert.SpatialWeightStepIdeal.main_arg0) = m ((c.tc : Thread Cert.SpatialWeightStepIdeal.nD Cert.SpatialWeightStepIdeal.τ).loc Cert.SpatialWeightStepIdeal.main_arg0)
          ∧ r.2.mem ((c.tc : Thread Cert.SpatialWeightStepIdeal.nD Cert.SpatialWeightStepIdeal.τ).loc Cert.SpatialWeightStepIdeal.main_arg1) = m ((c.tc : Thread Cert.SpatialWeightStepIdeal.nD Cert.SpatialWeightStepIdeal.τ).loc Cert.SpatialWeightStepIdeal.main_arg1)
          ∧ r.2.mem ((c.tc : Thread Cert.SpatialWeightStepIdeal.nD Cert.SpatialWeightStepIdeal.τ).loc Cert.SpatialWeightStepIdeal.main_arg2) = m ((c.tc : Thread Cert.SpatialWeightStepIdeal.nD Cert.SpatialWeightStepIdeal.τ).loc Cert.SpatialWeightStepIdeal.main_arg2)
          ∧ r.2.mem ((c.tc : Thread Cert.SpatialWeightStepIdeal.nD Cert.SpatialWeightStepIdeal.τ).loc Cert.SpatialWeightStepIdeal.main_arg3) = m ((c.tc : Thread Cert.SpatialWeightStepIdeal.nD Cert.SpatialWeightStepIdeal.τ).loc Cert.SpatialWeightStepIdeal.main_arg3))
      ∧ θ_run (Cert.SpatialWeightStepReferenceIdeal.defs (F := Ideal)) (onTc (τ := Cert.SpatialWeightStepReferenceIdeal.τ) (Cert.SpatialWeightStepReferenceIdeal.main (F := Ideal))) ⟨m', fun _ => 0, g'⟩ (fun r => ∀ c : Dev Cert.SpatialWeightStepReferenceIdeal.nD,
          r.2.mem ((c.tc : Thread Cert.SpatialWeightStepReferenceIdeal.nD Cert.SpatialWeightStepReferenceIdeal.τ).loc Cert.SpatialWeightStepReferenceIdeal.main_v23) = v0 c
          ∧ r.2.mem ((c.tc : Thread Cert.SpatialWeightStepReferenceIdeal.nD Cert.SpatialWeightStepReferenceIdeal.τ).loc Cert.SpatialWeightStepReferenceIdeal.main_v4) = v1 c
          ∧ r.2.mem ((c.tc : Thread Cert.SpatialWeightStepReferenceIdeal.nD Cert.SpatialWeightStepReferenceIdeal.τ).loc Cert.SpatialWeightStepReferenceIdeal.main_v10) = v2 c
          ∧ r.2.mem ((c.tc : Thread Cert.SpatialWeightStepReferenceIdeal.nD Cert.SpatialWeightStepReferenceIdeal.τ).loc Cert.SpatialWeightStepReferenceIdeal.main_arg0) = m' ((c.tc : Thread Cert.SpatialWeightStepReferenceIdeal.nD Cert.SpatialWeightStepReferenceIdeal.τ).loc Cert.SpatialWeightStepReferenceIdeal.main_arg0)
          ∧ r.2.mem ((c.tc : Thread Cert.SpatialWeightStepReferenceIdeal.nD Cert.SpatialWeightStepReferenceIdeal.τ).loc Cert.SpatialWeightStepReferenceIdeal.main_arg1) = m' ((c.tc : Thread Cert.SpatialWeightStepReferenceIdeal.nD Cert.SpatialWeightStepReferenceIdeal.τ).loc Cert.SpatialWeightStepReferenceIdeal.main_arg1)
          ∧ r.2.mem ((c.tc : Thread Cert.SpatialWeightStepReferenceIdeal.nD Cert.SpatialWeightStepReferenceIdeal.τ).loc Cert.SpatialWeightStepReferenceIdeal.main_arg2) = m' ((c.tc : Thread Cert.SpatialWeightStepReferenceIdeal.nD Cert.SpatialWeightStepReferenceIdeal.τ).loc Cert.SpatialWeightStepReferenceIdeal.main_arg2)
          ∧ r.2.mem ((c.tc : Thread Cert.SpatialWeightStepReferenceIdeal.nD Cert.SpatialWeightStepReferenceIdeal.τ).loc Cert.SpatialWeightStepReferenceIdeal.main_arg3) = m' ((c.tc : Thread Cert.SpatialWeightStepReferenceIdeal.nD Cert.SpatialWeightStepReferenceIdeal.τ).loc Cert.SpatialWeightStepReferenceIdeal.main_arg3))

def preserves_SpatialBiasStep_SpatialBiasStepIdeal : Prop :=
  IdealRules.named_const.Statement Cert.SpatialBiasStepIdeal.κ "first_decay" .f32 0x3FC48605#32 (((5463681 / 8388608)⁻¹ : ℝ) : EReal)
  ∧ IdealRules.named_const.Statement Cert.SpatialBiasStepIdeal.κ "second_decay" .f32 0x42C8E6D3#32 (((2672307 / 268435456)⁻¹ : ℝ) : EReal)

def algebraic_SpatialBiasStepIdeal_SpatialBiasStepReferenceIdeal [hSpatialBiasStepIdeal : Cert.SpatialBiasStepIdeal.Facts] [hSpatialBiasStepReferenceIdeal : Cert.SpatialBiasStepReferenceIdeal.Facts] : Prop :=
  ∀ (m : (ℓ : Loc Cert.SpatialBiasStepIdeal.nD Cert.SpatialBiasStepIdeal.τ Cert.SpatialBiasStepIdeal.sig) → Buf (Elt Ideal) ℓ) (g : Dev Cert.SpatialBiasStepIdeal.nD → PrngReg)
    (m' : (ℓ : Loc Cert.SpatialBiasStepReferenceIdeal.nD Cert.SpatialBiasStepReferenceIdeal.τ Cert.SpatialBiasStepReferenceIdeal.sig) → Buf (Elt Ideal) ℓ) (g' : Dev Cert.SpatialBiasStepReferenceIdeal.nD → PrngReg), Pre_SpatialBiasStepIdeal m →
    (∀ c : Dev Cert.SpatialBiasStepIdeal.nD,
      m' ((c.tc : Thread Cert.SpatialBiasStepReferenceIdeal.nD Cert.SpatialBiasStepReferenceIdeal.τ).loc Cert.SpatialBiasStepReferenceIdeal.main_arg0) = m ((c.tc : Thread Cert.SpatialBiasStepIdeal.nD Cert.SpatialBiasStepIdeal.τ).loc Cert.SpatialBiasStepIdeal.main_arg0)
      ∧ m' ((c.tc : Thread Cert.SpatialBiasStepReferenceIdeal.nD Cert.SpatialBiasStepReferenceIdeal.τ).loc Cert.SpatialBiasStepReferenceIdeal.main_arg1) = m ((c.tc : Thread Cert.SpatialBiasStepIdeal.nD Cert.SpatialBiasStepIdeal.τ).loc Cert.SpatialBiasStepIdeal.main_arg1)
      ∧ m' ((c.tc : Thread Cert.SpatialBiasStepReferenceIdeal.nD Cert.SpatialBiasStepReferenceIdeal.τ).loc Cert.SpatialBiasStepReferenceIdeal.main_arg2) = m ((c.tc : Thread Cert.SpatialBiasStepIdeal.nD Cert.SpatialBiasStepIdeal.τ).loc Cert.SpatialBiasStepIdeal.main_arg2)
      ∧ m' ((c.tc : Thread Cert.SpatialBiasStepReferenceIdeal.nD Cert.SpatialBiasStepReferenceIdeal.τ).loc Cert.SpatialBiasStepReferenceIdeal.main_arg3) = m ((c.tc : Thread Cert.SpatialBiasStepIdeal.nD Cert.SpatialBiasStepIdeal.τ).loc Cert.SpatialBiasStepIdeal.main_arg3)) →
    ∃ (v0 : (c : Dev Cert.SpatialBiasStepIdeal.nD) → Buf (Elt Ideal) ((c.tc : Thread Cert.SpatialBiasStepIdeal.nD Cert.SpatialBiasStepIdeal.τ).loc Cert.SpatialBiasStepIdeal.main_v0_0)) (v1 : (c : Dev Cert.SpatialBiasStepIdeal.nD) → Buf (Elt Ideal) ((c.tc : Thread Cert.SpatialBiasStepIdeal.nD Cert.SpatialBiasStepIdeal.τ).loc Cert.SpatialBiasStepIdeal.main_v0_1)) (v2 : (c : Dev Cert.SpatialBiasStepIdeal.nD) → Buf (Elt Ideal) ((c.tc : Thread Cert.SpatialBiasStepIdeal.nD Cert.SpatialBiasStepIdeal.τ).loc Cert.SpatialBiasStepIdeal.main_v0_2)),
      θ_run (Cert.SpatialBiasStepIdeal.defs (F := Ideal)) (onTc (τ := Cert.SpatialBiasStepIdeal.τ) (Cert.SpatialBiasStepIdeal.main (F := Ideal))) ⟨m, fun _ => 0, g⟩ (fun r => ∀ c : Dev Cert.SpatialBiasStepIdeal.nD,
          r.2.mem ((c.tc : Thread Cert.SpatialBiasStepIdeal.nD Cert.SpatialBiasStepIdeal.τ).loc Cert.SpatialBiasStepIdeal.main_v0_0) = v0 c
          ∧ r.2.mem ((c.tc : Thread Cert.SpatialBiasStepIdeal.nD Cert.SpatialBiasStepIdeal.τ).loc Cert.SpatialBiasStepIdeal.main_v0_1) = v1 c
          ∧ r.2.mem ((c.tc : Thread Cert.SpatialBiasStepIdeal.nD Cert.SpatialBiasStepIdeal.τ).loc Cert.SpatialBiasStepIdeal.main_v0_2) = v2 c
          ∧ r.2.mem ((c.tc : Thread Cert.SpatialBiasStepIdeal.nD Cert.SpatialBiasStepIdeal.τ).loc Cert.SpatialBiasStepIdeal.main_arg0) = m ((c.tc : Thread Cert.SpatialBiasStepIdeal.nD Cert.SpatialBiasStepIdeal.τ).loc Cert.SpatialBiasStepIdeal.main_arg0)
          ∧ r.2.mem ((c.tc : Thread Cert.SpatialBiasStepIdeal.nD Cert.SpatialBiasStepIdeal.τ).loc Cert.SpatialBiasStepIdeal.main_arg1) = m ((c.tc : Thread Cert.SpatialBiasStepIdeal.nD Cert.SpatialBiasStepIdeal.τ).loc Cert.SpatialBiasStepIdeal.main_arg1)
          ∧ r.2.mem ((c.tc : Thread Cert.SpatialBiasStepIdeal.nD Cert.SpatialBiasStepIdeal.τ).loc Cert.SpatialBiasStepIdeal.main_arg2) = m ((c.tc : Thread Cert.SpatialBiasStepIdeal.nD Cert.SpatialBiasStepIdeal.τ).loc Cert.SpatialBiasStepIdeal.main_arg2)
          ∧ r.2.mem ((c.tc : Thread Cert.SpatialBiasStepIdeal.nD Cert.SpatialBiasStepIdeal.τ).loc Cert.SpatialBiasStepIdeal.main_arg3) = m ((c.tc : Thread Cert.SpatialBiasStepIdeal.nD Cert.SpatialBiasStepIdeal.τ).loc Cert.SpatialBiasStepIdeal.main_arg3))
      ∧ θ_run (Cert.SpatialBiasStepReferenceIdeal.defs (F := Ideal)) (onTc (τ := Cert.SpatialBiasStepReferenceIdeal.τ) (Cert.SpatialBiasStepReferenceIdeal.main (F := Ideal))) ⟨m', fun _ => 0, g'⟩ (fun r => ∀ c : Dev Cert.SpatialBiasStepReferenceIdeal.nD,
          r.2.mem ((c.tc : Thread Cert.SpatialBiasStepReferenceIdeal.nD Cert.SpatialBiasStepReferenceIdeal.τ).loc Cert.SpatialBiasStepReferenceIdeal.main_v23) = v0 c
          ∧ r.2.mem ((c.tc : Thread Cert.SpatialBiasStepReferenceIdeal.nD Cert.SpatialBiasStepReferenceIdeal.τ).loc Cert.SpatialBiasStepReferenceIdeal.main_v4) = v1 c
          ∧ r.2.mem ((c.tc : Thread Cert.SpatialBiasStepReferenceIdeal.nD Cert.SpatialBiasStepReferenceIdeal.τ).loc Cert.SpatialBiasStepReferenceIdeal.main_v10) = v2 c
          ∧ r.2.mem ((c.tc : Thread Cert.SpatialBiasStepReferenceIdeal.nD Cert.SpatialBiasStepReferenceIdeal.τ).loc Cert.SpatialBiasStepReferenceIdeal.main_arg0) = m' ((c.tc : Thread Cert.SpatialBiasStepReferenceIdeal.nD Cert.SpatialBiasStepReferenceIdeal.τ).loc Cert.SpatialBiasStepReferenceIdeal.main_arg0)
          ∧ r.2.mem ((c.tc : Thread Cert.SpatialBiasStepReferenceIdeal.nD Cert.SpatialBiasStepReferenceIdeal.τ).loc Cert.SpatialBiasStepReferenceIdeal.main_arg1) = m' ((c.tc : Thread Cert.SpatialBiasStepReferenceIdeal.nD Cert.SpatialBiasStepReferenceIdeal.τ).loc Cert.SpatialBiasStepReferenceIdeal.main_arg1)
          ∧ r.2.mem ((c.tc : Thread Cert.SpatialBiasStepReferenceIdeal.nD Cert.SpatialBiasStepReferenceIdeal.τ).loc Cert.SpatialBiasStepReferenceIdeal.main_arg2) = m' ((c.tc : Thread Cert.SpatialBiasStepReferenceIdeal.nD Cert.SpatialBiasStepReferenceIdeal.τ).loc Cert.SpatialBiasStepReferenceIdeal.main_arg2)
          ∧ r.2.mem ((c.tc : Thread Cert.SpatialBiasStepReferenceIdeal.nD Cert.SpatialBiasStepReferenceIdeal.τ).loc Cert.SpatialBiasStepReferenceIdeal.main_arg3) = m' ((c.tc : Thread Cert.SpatialBiasStepReferenceIdeal.nD Cert.SpatialBiasStepReferenceIdeal.τ).loc Cert.SpatialBiasStepReferenceIdeal.main_arg3))

def preserves_HeadRowsStep_HeadRowsStepIdeal : Prop :=
  IdealRules.named_const.Statement Cert.HeadRowsStepIdeal.κ "first_decay" .f32 0x3FC48605#32 (((5463681 / 8388608)⁻¹ : ℝ) : EReal)
  ∧ IdealRules.named_const.Statement Cert.HeadRowsStepIdeal.κ "second_decay" .f32 0x42C8E6D3#32 (((2672307 / 268435456)⁻¹ : ℝ) : EReal)

def algebraic_HeadRowsStepIdeal_HeadRowsStepReferenceIdeal [hHeadRowsStepIdeal : Cert.HeadRowsStepIdeal.Facts] [hHeadRowsStepReferenceIdeal : Cert.HeadRowsStepReferenceIdeal.Facts] : Prop :=
  ∀ (m : (ℓ : Loc Cert.HeadRowsStepIdeal.nD Cert.HeadRowsStepIdeal.τ Cert.HeadRowsStepIdeal.sig) → Buf (Elt Ideal) ℓ) (g : Dev Cert.HeadRowsStepIdeal.nD → PrngReg)
    (m' : (ℓ : Loc Cert.HeadRowsStepReferenceIdeal.nD Cert.HeadRowsStepReferenceIdeal.τ Cert.HeadRowsStepReferenceIdeal.sig) → Buf (Elt Ideal) ℓ) (g' : Dev Cert.HeadRowsStepReferenceIdeal.nD → PrngReg), Pre_HeadRowsStepIdeal m →
    (∀ c : Dev Cert.HeadRowsStepIdeal.nD,
      m' ((c.tc : Thread Cert.HeadRowsStepReferenceIdeal.nD Cert.HeadRowsStepReferenceIdeal.τ).loc Cert.HeadRowsStepReferenceIdeal.main_arg0) = m ((c.tc : Thread Cert.HeadRowsStepIdeal.nD Cert.HeadRowsStepIdeal.τ).loc Cert.HeadRowsStepIdeal.main_arg0)
      ∧ m' ((c.tc : Thread Cert.HeadRowsStepReferenceIdeal.nD Cert.HeadRowsStepReferenceIdeal.τ).loc Cert.HeadRowsStepReferenceIdeal.main_arg1) = m ((c.tc : Thread Cert.HeadRowsStepIdeal.nD Cert.HeadRowsStepIdeal.τ).loc Cert.HeadRowsStepIdeal.main_arg1)
      ∧ m' ((c.tc : Thread Cert.HeadRowsStepReferenceIdeal.nD Cert.HeadRowsStepReferenceIdeal.τ).loc Cert.HeadRowsStepReferenceIdeal.main_arg2) = m ((c.tc : Thread Cert.HeadRowsStepIdeal.nD Cert.HeadRowsStepIdeal.τ).loc Cert.HeadRowsStepIdeal.main_arg2)
      ∧ m' ((c.tc : Thread Cert.HeadRowsStepReferenceIdeal.nD Cert.HeadRowsStepReferenceIdeal.τ).loc Cert.HeadRowsStepReferenceIdeal.main_arg3) = m ((c.tc : Thread Cert.HeadRowsStepIdeal.nD Cert.HeadRowsStepIdeal.τ).loc Cert.HeadRowsStepIdeal.main_arg3)) →
    ∃ (v0 : (c : Dev Cert.HeadRowsStepIdeal.nD) → Buf (Elt Ideal) ((c.tc : Thread Cert.HeadRowsStepIdeal.nD Cert.HeadRowsStepIdeal.τ).loc Cert.HeadRowsStepIdeal.main_v0_0)) (v1 : (c : Dev Cert.HeadRowsStepIdeal.nD) → Buf (Elt Ideal) ((c.tc : Thread Cert.HeadRowsStepIdeal.nD Cert.HeadRowsStepIdeal.τ).loc Cert.HeadRowsStepIdeal.main_v0_1)) (v2 : (c : Dev Cert.HeadRowsStepIdeal.nD) → Buf (Elt Ideal) ((c.tc : Thread Cert.HeadRowsStepIdeal.nD Cert.HeadRowsStepIdeal.τ).loc Cert.HeadRowsStepIdeal.main_v0_2)),
      θ_run (Cert.HeadRowsStepIdeal.defs (F := Ideal)) (onTc (τ := Cert.HeadRowsStepIdeal.τ) (Cert.HeadRowsStepIdeal.main (F := Ideal))) ⟨m, fun _ => 0, g⟩ (fun r => ∀ c : Dev Cert.HeadRowsStepIdeal.nD,
          r.2.mem ((c.tc : Thread Cert.HeadRowsStepIdeal.nD Cert.HeadRowsStepIdeal.τ).loc Cert.HeadRowsStepIdeal.main_v0_0) = v0 c
          ∧ r.2.mem ((c.tc : Thread Cert.HeadRowsStepIdeal.nD Cert.HeadRowsStepIdeal.τ).loc Cert.HeadRowsStepIdeal.main_v0_1) = v1 c
          ∧ r.2.mem ((c.tc : Thread Cert.HeadRowsStepIdeal.nD Cert.HeadRowsStepIdeal.τ).loc Cert.HeadRowsStepIdeal.main_v0_2) = v2 c
          ∧ r.2.mem ((c.tc : Thread Cert.HeadRowsStepIdeal.nD Cert.HeadRowsStepIdeal.τ).loc Cert.HeadRowsStepIdeal.main_arg0) = m ((c.tc : Thread Cert.HeadRowsStepIdeal.nD Cert.HeadRowsStepIdeal.τ).loc Cert.HeadRowsStepIdeal.main_arg0)
          ∧ r.2.mem ((c.tc : Thread Cert.HeadRowsStepIdeal.nD Cert.HeadRowsStepIdeal.τ).loc Cert.HeadRowsStepIdeal.main_arg1) = m ((c.tc : Thread Cert.HeadRowsStepIdeal.nD Cert.HeadRowsStepIdeal.τ).loc Cert.HeadRowsStepIdeal.main_arg1)
          ∧ r.2.mem ((c.tc : Thread Cert.HeadRowsStepIdeal.nD Cert.HeadRowsStepIdeal.τ).loc Cert.HeadRowsStepIdeal.main_arg2) = m ((c.tc : Thread Cert.HeadRowsStepIdeal.nD Cert.HeadRowsStepIdeal.τ).loc Cert.HeadRowsStepIdeal.main_arg2)
          ∧ r.2.mem ((c.tc : Thread Cert.HeadRowsStepIdeal.nD Cert.HeadRowsStepIdeal.τ).loc Cert.HeadRowsStepIdeal.main_arg3) = m ((c.tc : Thread Cert.HeadRowsStepIdeal.nD Cert.HeadRowsStepIdeal.τ).loc Cert.HeadRowsStepIdeal.main_arg3))
      ∧ θ_run (Cert.HeadRowsStepReferenceIdeal.defs (F := Ideal)) (onTc (τ := Cert.HeadRowsStepReferenceIdeal.τ) (Cert.HeadRowsStepReferenceIdeal.main (F := Ideal))) ⟨m', fun _ => 0, g'⟩ (fun r => ∀ c : Dev Cert.HeadRowsStepReferenceIdeal.nD,
          r.2.mem ((c.tc : Thread Cert.HeadRowsStepReferenceIdeal.nD Cert.HeadRowsStepReferenceIdeal.τ).loc Cert.HeadRowsStepReferenceIdeal.main_v23) = v0 c
          ∧ r.2.mem ((c.tc : Thread Cert.HeadRowsStepReferenceIdeal.nD Cert.HeadRowsStepReferenceIdeal.τ).loc Cert.HeadRowsStepReferenceIdeal.main_v4) = v1 c
          ∧ r.2.mem ((c.tc : Thread Cert.HeadRowsStepReferenceIdeal.nD Cert.HeadRowsStepReferenceIdeal.τ).loc Cert.HeadRowsStepReferenceIdeal.main_v10) = v2 c
          ∧ r.2.mem ((c.tc : Thread Cert.HeadRowsStepReferenceIdeal.nD Cert.HeadRowsStepReferenceIdeal.τ).loc Cert.HeadRowsStepReferenceIdeal.main_arg0) = m' ((c.tc : Thread Cert.HeadRowsStepReferenceIdeal.nD Cert.HeadRowsStepReferenceIdeal.τ).loc Cert.HeadRowsStepReferenceIdeal.main_arg0)
          ∧ r.2.mem ((c.tc : Thread Cert.HeadRowsStepReferenceIdeal.nD Cert.HeadRowsStepReferenceIdeal.τ).loc Cert.HeadRowsStepReferenceIdeal.main_arg1) = m' ((c.tc : Thread Cert.HeadRowsStepReferenceIdeal.nD Cert.HeadRowsStepReferenceIdeal.τ).loc Cert.HeadRowsStepReferenceIdeal.main_arg1)
          ∧ r.2.mem ((c.tc : Thread Cert.HeadRowsStepReferenceIdeal.nD Cert.HeadRowsStepReferenceIdeal.τ).loc Cert.HeadRowsStepReferenceIdeal.main_arg2) = m' ((c.tc : Thread Cert.HeadRowsStepReferenceIdeal.nD Cert.HeadRowsStepReferenceIdeal.τ).loc Cert.HeadRowsStepReferenceIdeal.main_arg2)
          ∧ r.2.mem ((c.tc : Thread Cert.HeadRowsStepReferenceIdeal.nD Cert.HeadRowsStepReferenceIdeal.τ).loc Cert.HeadRowsStepReferenceIdeal.main_arg3) = m' ((c.tc : Thread Cert.HeadRowsStepReferenceIdeal.nD Cert.HeadRowsStepReferenceIdeal.τ).loc Cert.HeadRowsStepReferenceIdeal.main_arg3))

def preserves_ConvWeightStep_ConvWeightStepIdeal : Prop :=
  IdealRules.named_const.Statement Cert.ConvWeightStepIdeal.κ "first_decay" .f32 0x3FC48605#32 (((5463681 / 8388608)⁻¹ : ℝ) : EReal)
  ∧ IdealRules.named_const.Statement Cert.ConvWeightStepIdeal.κ "second_decay" .f32 0x42C8E6D3#32 (((2672307 / 268435456)⁻¹ : ℝ) : EReal)

def algebraic_ConvWeightStepIdeal_ConvWeightStepReferenceIdeal [hConvWeightStepIdeal : Cert.ConvWeightStepIdeal.Facts] [hConvWeightStepReferenceIdeal : Cert.ConvWeightStepReferenceIdeal.Facts] : Prop :=
  ∀ (m : (ℓ : Loc Cert.ConvWeightStepIdeal.nD Cert.ConvWeightStepIdeal.τ Cert.ConvWeightStepIdeal.sig) → Buf (Elt Ideal) ℓ) (g : Dev Cert.ConvWeightStepIdeal.nD → PrngReg)
    (m' : (ℓ : Loc Cert.ConvWeightStepReferenceIdeal.nD Cert.ConvWeightStepReferenceIdeal.τ Cert.ConvWeightStepReferenceIdeal.sig) → Buf (Elt Ideal) ℓ) (g' : Dev Cert.ConvWeightStepReferenceIdeal.nD → PrngReg), Pre_ConvWeightStepIdeal m →
    (∀ c : Dev Cert.ConvWeightStepIdeal.nD,
      m' ((c.tc : Thread Cert.ConvWeightStepReferenceIdeal.nD Cert.ConvWeightStepReferenceIdeal.τ).loc Cert.ConvWeightStepReferenceIdeal.main_arg0) = m ((c.tc : Thread Cert.ConvWeightStepIdeal.nD Cert.ConvWeightStepIdeal.τ).loc Cert.ConvWeightStepIdeal.main_arg0)
      ∧ m' ((c.tc : Thread Cert.ConvWeightStepReferenceIdeal.nD Cert.ConvWeightStepReferenceIdeal.τ).loc Cert.ConvWeightStepReferenceIdeal.main_arg1) = m ((c.tc : Thread Cert.ConvWeightStepIdeal.nD Cert.ConvWeightStepIdeal.τ).loc Cert.ConvWeightStepIdeal.main_arg1)
      ∧ m' ((c.tc : Thread Cert.ConvWeightStepReferenceIdeal.nD Cert.ConvWeightStepReferenceIdeal.τ).loc Cert.ConvWeightStepReferenceIdeal.main_arg2) = m ((c.tc : Thread Cert.ConvWeightStepIdeal.nD Cert.ConvWeightStepIdeal.τ).loc Cert.ConvWeightStepIdeal.main_arg2)
      ∧ m' ((c.tc : Thread Cert.ConvWeightStepReferenceIdeal.nD Cert.ConvWeightStepReferenceIdeal.τ).loc Cert.ConvWeightStepReferenceIdeal.main_arg3) = m ((c.tc : Thread Cert.ConvWeightStepIdeal.nD Cert.ConvWeightStepIdeal.τ).loc Cert.ConvWeightStepIdeal.main_arg3)) →
    ∃ (v0 : (c : Dev Cert.ConvWeightStepIdeal.nD) → Buf (Elt Ideal) ((c.tc : Thread Cert.ConvWeightStepIdeal.nD Cert.ConvWeightStepIdeal.τ).loc Cert.ConvWeightStepIdeal.main_v0_0)) (v1 : (c : Dev Cert.ConvWeightStepIdeal.nD) → Buf (Elt Ideal) ((c.tc : Thread Cert.ConvWeightStepIdeal.nD Cert.ConvWeightStepIdeal.τ).loc Cert.ConvWeightStepIdeal.main_v0_1)) (v2 : (c : Dev Cert.ConvWeightStepIdeal.nD) → Buf (Elt Ideal) ((c.tc : Thread Cert.ConvWeightStepIdeal.nD Cert.ConvWeightStepIdeal.τ).loc Cert.ConvWeightStepIdeal.main_v0_2)),
      θ_run (Cert.ConvWeightStepIdeal.defs (F := Ideal)) (onTc (τ := Cert.ConvWeightStepIdeal.τ) (Cert.ConvWeightStepIdeal.main (F := Ideal))) ⟨m, fun _ => 0, g⟩ (fun r => ∀ c : Dev Cert.ConvWeightStepIdeal.nD,
          r.2.mem ((c.tc : Thread Cert.ConvWeightStepIdeal.nD Cert.ConvWeightStepIdeal.τ).loc Cert.ConvWeightStepIdeal.main_v0_0) = v0 c
          ∧ r.2.mem ((c.tc : Thread Cert.ConvWeightStepIdeal.nD Cert.ConvWeightStepIdeal.τ).loc Cert.ConvWeightStepIdeal.main_v0_1) = v1 c
          ∧ r.2.mem ((c.tc : Thread Cert.ConvWeightStepIdeal.nD Cert.ConvWeightStepIdeal.τ).loc Cert.ConvWeightStepIdeal.main_v0_2) = v2 c
          ∧ r.2.mem ((c.tc : Thread Cert.ConvWeightStepIdeal.nD Cert.ConvWeightStepIdeal.τ).loc Cert.ConvWeightStepIdeal.main_arg0) = m ((c.tc : Thread Cert.ConvWeightStepIdeal.nD Cert.ConvWeightStepIdeal.τ).loc Cert.ConvWeightStepIdeal.main_arg0)
          ∧ r.2.mem ((c.tc : Thread Cert.ConvWeightStepIdeal.nD Cert.ConvWeightStepIdeal.τ).loc Cert.ConvWeightStepIdeal.main_arg1) = m ((c.tc : Thread Cert.ConvWeightStepIdeal.nD Cert.ConvWeightStepIdeal.τ).loc Cert.ConvWeightStepIdeal.main_arg1)
          ∧ r.2.mem ((c.tc : Thread Cert.ConvWeightStepIdeal.nD Cert.ConvWeightStepIdeal.τ).loc Cert.ConvWeightStepIdeal.main_arg2) = m ((c.tc : Thread Cert.ConvWeightStepIdeal.nD Cert.ConvWeightStepIdeal.τ).loc Cert.ConvWeightStepIdeal.main_arg2)
          ∧ r.2.mem ((c.tc : Thread Cert.ConvWeightStepIdeal.nD Cert.ConvWeightStepIdeal.τ).loc Cert.ConvWeightStepIdeal.main_arg3) = m ((c.tc : Thread Cert.ConvWeightStepIdeal.nD Cert.ConvWeightStepIdeal.τ).loc Cert.ConvWeightStepIdeal.main_arg3))
      ∧ θ_run (Cert.ConvWeightStepReferenceIdeal.defs (F := Ideal)) (onTc (τ := Cert.ConvWeightStepReferenceIdeal.τ) (Cert.ConvWeightStepReferenceIdeal.main (F := Ideal))) ⟨m', fun _ => 0, g'⟩ (fun r => ∀ c : Dev Cert.ConvWeightStepReferenceIdeal.nD,
          r.2.mem ((c.tc : Thread Cert.ConvWeightStepReferenceIdeal.nD Cert.ConvWeightStepReferenceIdeal.τ).loc Cert.ConvWeightStepReferenceIdeal.main_v23) = v0 c
          ∧ r.2.mem ((c.tc : Thread Cert.ConvWeightStepReferenceIdeal.nD Cert.ConvWeightStepReferenceIdeal.τ).loc Cert.ConvWeightStepReferenceIdeal.main_v4) = v1 c
          ∧ r.2.mem ((c.tc : Thread Cert.ConvWeightStepReferenceIdeal.nD Cert.ConvWeightStepReferenceIdeal.τ).loc Cert.ConvWeightStepReferenceIdeal.main_v10) = v2 c
          ∧ r.2.mem ((c.tc : Thread Cert.ConvWeightStepReferenceIdeal.nD Cert.ConvWeightStepReferenceIdeal.τ).loc Cert.ConvWeightStepReferenceIdeal.main_arg0) = m' ((c.tc : Thread Cert.ConvWeightStepReferenceIdeal.nD Cert.ConvWeightStepReferenceIdeal.τ).loc Cert.ConvWeightStepReferenceIdeal.main_arg0)
          ∧ r.2.mem ((c.tc : Thread Cert.ConvWeightStepReferenceIdeal.nD Cert.ConvWeightStepReferenceIdeal.τ).loc Cert.ConvWeightStepReferenceIdeal.main_arg1) = m' ((c.tc : Thread Cert.ConvWeightStepReferenceIdeal.nD Cert.ConvWeightStepReferenceIdeal.τ).loc Cert.ConvWeightStepReferenceIdeal.main_arg1)
          ∧ r.2.mem ((c.tc : Thread Cert.ConvWeightStepReferenceIdeal.nD Cert.ConvWeightStepReferenceIdeal.τ).loc Cert.ConvWeightStepReferenceIdeal.main_arg2) = m' ((c.tc : Thread Cert.ConvWeightStepReferenceIdeal.nD Cert.ConvWeightStepReferenceIdeal.τ).loc Cert.ConvWeightStepReferenceIdeal.main_arg2)
          ∧ r.2.mem ((c.tc : Thread Cert.ConvWeightStepReferenceIdeal.nD Cert.ConvWeightStepReferenceIdeal.τ).loc Cert.ConvWeightStepReferenceIdeal.main_arg3) = m' ((c.tc : Thread Cert.ConvWeightStepReferenceIdeal.nD Cert.ConvWeightStepReferenceIdeal.τ).loc Cert.ConvWeightStepReferenceIdeal.main_arg3))

def preserves_ConvBiasStep_ConvBiasStepIdeal : Prop :=
  IdealRules.named_const.Statement Cert.ConvBiasStepIdeal.κ "first_decay" .f32 0x3FC48605#32 (((5463681 / 8388608)⁻¹ : ℝ) : EReal)
  ∧ IdealRules.named_const.Statement Cert.ConvBiasStepIdeal.κ "second_decay" .f32 0x42C8E6D3#32 (((2672307 / 268435456)⁻¹ : ℝ) : EReal)

def algebraic_ConvBiasStepIdeal_ConvBiasStepReferenceIdeal [hConvBiasStepIdeal : Cert.ConvBiasStepIdeal.Facts] [hConvBiasStepReferenceIdeal : Cert.ConvBiasStepReferenceIdeal.Facts] : Prop :=
  ∀ (m : (ℓ : Loc Cert.ConvBiasStepIdeal.nD Cert.ConvBiasStepIdeal.τ Cert.ConvBiasStepIdeal.sig) → Buf (Elt Ideal) ℓ) (g : Dev Cert.ConvBiasStepIdeal.nD → PrngReg)
    (m' : (ℓ : Loc Cert.ConvBiasStepReferenceIdeal.nD Cert.ConvBiasStepReferenceIdeal.τ Cert.ConvBiasStepReferenceIdeal.sig) → Buf (Elt Ideal) ℓ) (g' : Dev Cert.ConvBiasStepReferenceIdeal.nD → PrngReg), Pre_ConvBiasStepIdeal m →
    (∀ c : Dev Cert.ConvBiasStepIdeal.nD,
      m' ((c.tc : Thread Cert.ConvBiasStepReferenceIdeal.nD Cert.ConvBiasStepReferenceIdeal.τ).loc Cert.ConvBiasStepReferenceIdeal.main_arg0) = m ((c.tc : Thread Cert.ConvBiasStepIdeal.nD Cert.ConvBiasStepIdeal.τ).loc Cert.ConvBiasStepIdeal.main_arg0)
      ∧ m' ((c.tc : Thread Cert.ConvBiasStepReferenceIdeal.nD Cert.ConvBiasStepReferenceIdeal.τ).loc Cert.ConvBiasStepReferenceIdeal.main_arg1) = m ((c.tc : Thread Cert.ConvBiasStepIdeal.nD Cert.ConvBiasStepIdeal.τ).loc Cert.ConvBiasStepIdeal.main_arg1)
      ∧ m' ((c.tc : Thread Cert.ConvBiasStepReferenceIdeal.nD Cert.ConvBiasStepReferenceIdeal.τ).loc Cert.ConvBiasStepReferenceIdeal.main_arg2) = m ((c.tc : Thread Cert.ConvBiasStepIdeal.nD Cert.ConvBiasStepIdeal.τ).loc Cert.ConvBiasStepIdeal.main_arg2)
      ∧ m' ((c.tc : Thread Cert.ConvBiasStepReferenceIdeal.nD Cert.ConvBiasStepReferenceIdeal.τ).loc Cert.ConvBiasStepReferenceIdeal.main_arg3) = m ((c.tc : Thread Cert.ConvBiasStepIdeal.nD Cert.ConvBiasStepIdeal.τ).loc Cert.ConvBiasStepIdeal.main_arg3)) →
    ∃ (v0 : (c : Dev Cert.ConvBiasStepIdeal.nD) → Buf (Elt Ideal) ((c.tc : Thread Cert.ConvBiasStepIdeal.nD Cert.ConvBiasStepIdeal.τ).loc Cert.ConvBiasStepIdeal.main_v0_0)) (v1 : (c : Dev Cert.ConvBiasStepIdeal.nD) → Buf (Elt Ideal) ((c.tc : Thread Cert.ConvBiasStepIdeal.nD Cert.ConvBiasStepIdeal.τ).loc Cert.ConvBiasStepIdeal.main_v0_1)) (v2 : (c : Dev Cert.ConvBiasStepIdeal.nD) → Buf (Elt Ideal) ((c.tc : Thread Cert.ConvBiasStepIdeal.nD Cert.ConvBiasStepIdeal.τ).loc Cert.ConvBiasStepIdeal.main_v0_2)),
      θ_run (Cert.ConvBiasStepIdeal.defs (F := Ideal)) (onTc (τ := Cert.ConvBiasStepIdeal.τ) (Cert.ConvBiasStepIdeal.main (F := Ideal))) ⟨m, fun _ => 0, g⟩ (fun r => ∀ c : Dev Cert.ConvBiasStepIdeal.nD,
          r.2.mem ((c.tc : Thread Cert.ConvBiasStepIdeal.nD Cert.ConvBiasStepIdeal.τ).loc Cert.ConvBiasStepIdeal.main_v0_0) = v0 c
          ∧ r.2.mem ((c.tc : Thread Cert.ConvBiasStepIdeal.nD Cert.ConvBiasStepIdeal.τ).loc Cert.ConvBiasStepIdeal.main_v0_1) = v1 c
          ∧ r.2.mem ((c.tc : Thread Cert.ConvBiasStepIdeal.nD Cert.ConvBiasStepIdeal.τ).loc Cert.ConvBiasStepIdeal.main_v0_2) = v2 c
          ∧ r.2.mem ((c.tc : Thread Cert.ConvBiasStepIdeal.nD Cert.ConvBiasStepIdeal.τ).loc Cert.ConvBiasStepIdeal.main_arg0) = m ((c.tc : Thread Cert.ConvBiasStepIdeal.nD Cert.ConvBiasStepIdeal.τ).loc Cert.ConvBiasStepIdeal.main_arg0)
          ∧ r.2.mem ((c.tc : Thread Cert.ConvBiasStepIdeal.nD Cert.ConvBiasStepIdeal.τ).loc Cert.ConvBiasStepIdeal.main_arg1) = m ((c.tc : Thread Cert.ConvBiasStepIdeal.nD Cert.ConvBiasStepIdeal.τ).loc Cert.ConvBiasStepIdeal.main_arg1)
          ∧ r.2.mem ((c.tc : Thread Cert.ConvBiasStepIdeal.nD Cert.ConvBiasStepIdeal.τ).loc Cert.ConvBiasStepIdeal.main_arg2) = m ((c.tc : Thread Cert.ConvBiasStepIdeal.nD Cert.ConvBiasStepIdeal.τ).loc Cert.ConvBiasStepIdeal.main_arg2)
          ∧ r.2.mem ((c.tc : Thread Cert.ConvBiasStepIdeal.nD Cert.ConvBiasStepIdeal.τ).loc Cert.ConvBiasStepIdeal.main_arg3) = m ((c.tc : Thread Cert.ConvBiasStepIdeal.nD Cert.ConvBiasStepIdeal.τ).loc Cert.ConvBiasStepIdeal.main_arg3))
      ∧ θ_run (Cert.ConvBiasStepReferenceIdeal.defs (F := Ideal)) (onTc (τ := Cert.ConvBiasStepReferenceIdeal.τ) (Cert.ConvBiasStepReferenceIdeal.main (F := Ideal))) ⟨m', fun _ => 0, g'⟩ (fun r => ∀ c : Dev Cert.ConvBiasStepReferenceIdeal.nD,
          r.2.mem ((c.tc : Thread Cert.ConvBiasStepReferenceIdeal.nD Cert.ConvBiasStepReferenceIdeal.τ).loc Cert.ConvBiasStepReferenceIdeal.main_v23) = v0 c
          ∧ r.2.mem ((c.tc : Thread Cert.ConvBiasStepReferenceIdeal.nD Cert.ConvBiasStepReferenceIdeal.τ).loc Cert.ConvBiasStepReferenceIdeal.main_v4) = v1 c
          ∧ r.2.mem ((c.tc : Thread Cert.ConvBiasStepReferenceIdeal.nD Cert.ConvBiasStepReferenceIdeal.τ).loc Cert.ConvBiasStepReferenceIdeal.main_v10) = v2 c
          ∧ r.2.mem ((c.tc : Thread Cert.ConvBiasStepReferenceIdeal.nD Cert.ConvBiasStepReferenceIdeal.τ).loc Cert.ConvBiasStepReferenceIdeal.main_arg0) = m' ((c.tc : Thread Cert.ConvBiasStepReferenceIdeal.nD Cert.ConvBiasStepReferenceIdeal.τ).loc Cert.ConvBiasStepReferenceIdeal.main_arg0)
          ∧ r.2.mem ((c.tc : Thread Cert.ConvBiasStepReferenceIdeal.nD Cert.ConvBiasStepReferenceIdeal.τ).loc Cert.ConvBiasStepReferenceIdeal.main_arg1) = m' ((c.tc : Thread Cert.ConvBiasStepReferenceIdeal.nD Cert.ConvBiasStepReferenceIdeal.τ).loc Cert.ConvBiasStepReferenceIdeal.main_arg1)
          ∧ r.2.mem ((c.tc : Thread Cert.ConvBiasStepReferenceIdeal.nD Cert.ConvBiasStepReferenceIdeal.τ).loc Cert.ConvBiasStepReferenceIdeal.main_arg2) = m' ((c.tc : Thread Cert.ConvBiasStepReferenceIdeal.nD Cert.ConvBiasStepReferenceIdeal.τ).loc Cert.ConvBiasStepReferenceIdeal.main_arg2)
          ∧ r.2.mem ((c.tc : Thread Cert.ConvBiasStepReferenceIdeal.nD Cert.ConvBiasStepReferenceIdeal.τ).loc Cert.ConvBiasStepReferenceIdeal.main_arg3) = m' ((c.tc : Thread Cert.ConvBiasStepReferenceIdeal.nD Cert.ConvBiasStepReferenceIdeal.τ).loc Cert.ConvBiasStepReferenceIdeal.main_arg3))

def preserves_AdaBiasStep_AdaBiasStepIdeal : Prop :=
  IdealRules.named_const.Statement Cert.AdaBiasStepIdeal.κ "first_decay" .f32 0x3FC48605#32 (((5463681 / 8388608)⁻¹ : ℝ) : EReal)
  ∧ IdealRules.named_const.Statement Cert.AdaBiasStepIdeal.κ "second_decay" .f32 0x42C8E6D3#32 (((2672307 / 268435456)⁻¹ : ℝ) : EReal)

def algebraic_AdaBiasStepIdeal_AdaBiasStepReferenceIdeal [hAdaBiasStepIdeal : Cert.AdaBiasStepIdeal.Facts] [hAdaBiasStepReferenceIdeal : Cert.AdaBiasStepReferenceIdeal.Facts] : Prop :=
  ∀ (m : (ℓ : Loc Cert.AdaBiasStepIdeal.nD Cert.AdaBiasStepIdeal.τ Cert.AdaBiasStepIdeal.sig) → Buf (Elt Ideal) ℓ) (g : Dev Cert.AdaBiasStepIdeal.nD → PrngReg)
    (m' : (ℓ : Loc Cert.AdaBiasStepReferenceIdeal.nD Cert.AdaBiasStepReferenceIdeal.τ Cert.AdaBiasStepReferenceIdeal.sig) → Buf (Elt Ideal) ℓ) (g' : Dev Cert.AdaBiasStepReferenceIdeal.nD → PrngReg), Pre_AdaBiasStepIdeal m →
    (∀ c : Dev Cert.AdaBiasStepIdeal.nD,
      m' ((c.tc : Thread Cert.AdaBiasStepReferenceIdeal.nD Cert.AdaBiasStepReferenceIdeal.τ).loc Cert.AdaBiasStepReferenceIdeal.main_arg0) = m ((c.tc : Thread Cert.AdaBiasStepIdeal.nD Cert.AdaBiasStepIdeal.τ).loc Cert.AdaBiasStepIdeal.main_arg0)
      ∧ m' ((c.tc : Thread Cert.AdaBiasStepReferenceIdeal.nD Cert.AdaBiasStepReferenceIdeal.τ).loc Cert.AdaBiasStepReferenceIdeal.main_arg1) = m ((c.tc : Thread Cert.AdaBiasStepIdeal.nD Cert.AdaBiasStepIdeal.τ).loc Cert.AdaBiasStepIdeal.main_arg1)
      ∧ m' ((c.tc : Thread Cert.AdaBiasStepReferenceIdeal.nD Cert.AdaBiasStepReferenceIdeal.τ).loc Cert.AdaBiasStepReferenceIdeal.main_arg2) = m ((c.tc : Thread Cert.AdaBiasStepIdeal.nD Cert.AdaBiasStepIdeal.τ).loc Cert.AdaBiasStepIdeal.main_arg2)
      ∧ m' ((c.tc : Thread Cert.AdaBiasStepReferenceIdeal.nD Cert.AdaBiasStepReferenceIdeal.τ).loc Cert.AdaBiasStepReferenceIdeal.main_arg3) = m ((c.tc : Thread Cert.AdaBiasStepIdeal.nD Cert.AdaBiasStepIdeal.τ).loc Cert.AdaBiasStepIdeal.main_arg3)) →
    ∃ (v0 : (c : Dev Cert.AdaBiasStepIdeal.nD) → Buf (Elt Ideal) ((c.tc : Thread Cert.AdaBiasStepIdeal.nD Cert.AdaBiasStepIdeal.τ).loc Cert.AdaBiasStepIdeal.main_v0_0)) (v1 : (c : Dev Cert.AdaBiasStepIdeal.nD) → Buf (Elt Ideal) ((c.tc : Thread Cert.AdaBiasStepIdeal.nD Cert.AdaBiasStepIdeal.τ).loc Cert.AdaBiasStepIdeal.main_v0_1)) (v2 : (c : Dev Cert.AdaBiasStepIdeal.nD) → Buf (Elt Ideal) ((c.tc : Thread Cert.AdaBiasStepIdeal.nD Cert.AdaBiasStepIdeal.τ).loc Cert.AdaBiasStepIdeal.main_v0_2)),
      θ_run (Cert.AdaBiasStepIdeal.defs (F := Ideal)) (onTc (τ := Cert.AdaBiasStepIdeal.τ) (Cert.AdaBiasStepIdeal.main (F := Ideal))) ⟨m, fun _ => 0, g⟩ (fun r => ∀ c : Dev Cert.AdaBiasStepIdeal.nD,
          r.2.mem ((c.tc : Thread Cert.AdaBiasStepIdeal.nD Cert.AdaBiasStepIdeal.τ).loc Cert.AdaBiasStepIdeal.main_v0_0) = v0 c
          ∧ r.2.mem ((c.tc : Thread Cert.AdaBiasStepIdeal.nD Cert.AdaBiasStepIdeal.τ).loc Cert.AdaBiasStepIdeal.main_v0_1) = v1 c
          ∧ r.2.mem ((c.tc : Thread Cert.AdaBiasStepIdeal.nD Cert.AdaBiasStepIdeal.τ).loc Cert.AdaBiasStepIdeal.main_v0_2) = v2 c
          ∧ r.2.mem ((c.tc : Thread Cert.AdaBiasStepIdeal.nD Cert.AdaBiasStepIdeal.τ).loc Cert.AdaBiasStepIdeal.main_arg0) = m ((c.tc : Thread Cert.AdaBiasStepIdeal.nD Cert.AdaBiasStepIdeal.τ).loc Cert.AdaBiasStepIdeal.main_arg0)
          ∧ r.2.mem ((c.tc : Thread Cert.AdaBiasStepIdeal.nD Cert.AdaBiasStepIdeal.τ).loc Cert.AdaBiasStepIdeal.main_arg1) = m ((c.tc : Thread Cert.AdaBiasStepIdeal.nD Cert.AdaBiasStepIdeal.τ).loc Cert.AdaBiasStepIdeal.main_arg1)
          ∧ r.2.mem ((c.tc : Thread Cert.AdaBiasStepIdeal.nD Cert.AdaBiasStepIdeal.τ).loc Cert.AdaBiasStepIdeal.main_arg2) = m ((c.tc : Thread Cert.AdaBiasStepIdeal.nD Cert.AdaBiasStepIdeal.τ).loc Cert.AdaBiasStepIdeal.main_arg2)
          ∧ r.2.mem ((c.tc : Thread Cert.AdaBiasStepIdeal.nD Cert.AdaBiasStepIdeal.τ).loc Cert.AdaBiasStepIdeal.main_arg3) = m ((c.tc : Thread Cert.AdaBiasStepIdeal.nD Cert.AdaBiasStepIdeal.τ).loc Cert.AdaBiasStepIdeal.main_arg3))
      ∧ θ_run (Cert.AdaBiasStepReferenceIdeal.defs (F := Ideal)) (onTc (τ := Cert.AdaBiasStepReferenceIdeal.τ) (Cert.AdaBiasStepReferenceIdeal.main (F := Ideal))) ⟨m', fun _ => 0, g'⟩ (fun r => ∀ c : Dev Cert.AdaBiasStepReferenceIdeal.nD,
          r.2.mem ((c.tc : Thread Cert.AdaBiasStepReferenceIdeal.nD Cert.AdaBiasStepReferenceIdeal.τ).loc Cert.AdaBiasStepReferenceIdeal.main_v23) = v0 c
          ∧ r.2.mem ((c.tc : Thread Cert.AdaBiasStepReferenceIdeal.nD Cert.AdaBiasStepReferenceIdeal.τ).loc Cert.AdaBiasStepReferenceIdeal.main_v4) = v1 c
          ∧ r.2.mem ((c.tc : Thread Cert.AdaBiasStepReferenceIdeal.nD Cert.AdaBiasStepReferenceIdeal.τ).loc Cert.AdaBiasStepReferenceIdeal.main_v10) = v2 c
          ∧ r.2.mem ((c.tc : Thread Cert.AdaBiasStepReferenceIdeal.nD Cert.AdaBiasStepReferenceIdeal.τ).loc Cert.AdaBiasStepReferenceIdeal.main_arg0) = m' ((c.tc : Thread Cert.AdaBiasStepReferenceIdeal.nD Cert.AdaBiasStepReferenceIdeal.τ).loc Cert.AdaBiasStepReferenceIdeal.main_arg0)
          ∧ r.2.mem ((c.tc : Thread Cert.AdaBiasStepReferenceIdeal.nD Cert.AdaBiasStepReferenceIdeal.τ).loc Cert.AdaBiasStepReferenceIdeal.main_arg1) = m' ((c.tc : Thread Cert.AdaBiasStepReferenceIdeal.nD Cert.AdaBiasStepReferenceIdeal.τ).loc Cert.AdaBiasStepReferenceIdeal.main_arg1)
          ∧ r.2.mem ((c.tc : Thread Cert.AdaBiasStepReferenceIdeal.nD Cert.AdaBiasStepReferenceIdeal.τ).loc Cert.AdaBiasStepReferenceIdeal.main_arg2) = m' ((c.tc : Thread Cert.AdaBiasStepReferenceIdeal.nD Cert.AdaBiasStepReferenceIdeal.τ).loc Cert.AdaBiasStepReferenceIdeal.main_arg2)
          ∧ r.2.mem ((c.tc : Thread Cert.AdaBiasStepReferenceIdeal.nD Cert.AdaBiasStepReferenceIdeal.τ).loc Cert.AdaBiasStepReferenceIdeal.main_arg3) = m' ((c.tc : Thread Cert.AdaBiasStepReferenceIdeal.nD Cert.AdaBiasStepReferenceIdeal.τ).loc Cert.AdaBiasStepReferenceIdeal.main_arg3))

def preserves_AdaBiasSum_AdaBiasSumIdeal : Prop :=
  True

def algebraic_AdaBiasSumIdeal_AdaBiasSumReferenceIdeal [hAdaBiasSumIdeal : Cert.AdaBiasSumIdeal.Facts] [hAdaBiasSumReferenceIdeal : Cert.AdaBiasSumReferenceIdeal.Facts] : Prop :=
  ∀ (m : (ℓ : Loc Cert.AdaBiasSumIdeal.nD Cert.AdaBiasSumIdeal.τ Cert.AdaBiasSumIdeal.sig) → Buf (Elt Ideal) ℓ) (g : Dev Cert.AdaBiasSumIdeal.nD → PrngReg)
    (m' : (ℓ : Loc Cert.AdaBiasSumReferenceIdeal.nD Cert.AdaBiasSumReferenceIdeal.τ Cert.AdaBiasSumReferenceIdeal.sig) → Buf (Elt Ideal) ℓ) (g' : Dev Cert.AdaBiasSumReferenceIdeal.nD → PrngReg), Pre_AdaBiasSumIdeal m →
    (∀ c : Dev Cert.AdaBiasSumIdeal.nD,
      m' ((c.tc : Thread Cert.AdaBiasSumReferenceIdeal.nD Cert.AdaBiasSumReferenceIdeal.τ).loc Cert.AdaBiasSumReferenceIdeal.main_arg0) = m ((c.tc : Thread Cert.AdaBiasSumIdeal.nD Cert.AdaBiasSumIdeal.τ).loc Cert.AdaBiasSumIdeal.main_arg0)) →
    ∃ (v0 : (c : Dev Cert.AdaBiasSumIdeal.nD) → Buf (Elt Ideal) ((c.tc : Thread Cert.AdaBiasSumIdeal.nD Cert.AdaBiasSumIdeal.τ).loc Cert.AdaBiasSumIdeal.main_v0)),
      θ_run (Cert.AdaBiasSumIdeal.defs (F := Ideal)) (onTc (τ := Cert.AdaBiasSumIdeal.τ) (Cert.AdaBiasSumIdeal.main (F := Ideal))) ⟨m, fun _ => 0, g⟩ (fun r => ∀ c : Dev Cert.AdaBiasSumIdeal.nD,
          r.2.mem ((c.tc : Thread Cert.AdaBiasSumIdeal.nD Cert.AdaBiasSumIdeal.τ).loc Cert.AdaBiasSumIdeal.main_v0) = v0 c
          ∧ r.2.mem ((c.tc : Thread Cert.AdaBiasSumIdeal.nD Cert.AdaBiasSumIdeal.τ).loc Cert.AdaBiasSumIdeal.main_arg0) = m ((c.tc : Thread Cert.AdaBiasSumIdeal.nD Cert.AdaBiasSumIdeal.τ).loc Cert.AdaBiasSumIdeal.main_arg0))
      ∧ θ_run (Cert.AdaBiasSumReferenceIdeal.defs (F := Ideal)) (onTc (τ := Cert.AdaBiasSumReferenceIdeal.τ) (Cert.AdaBiasSumReferenceIdeal.main (F := Ideal))) ⟨m', fun _ => 0, g'⟩ (fun r => ∀ c : Dev Cert.AdaBiasSumReferenceIdeal.nD,
          r.2.mem ((c.tc : Thread Cert.AdaBiasSumReferenceIdeal.nD Cert.AdaBiasSumReferenceIdeal.τ).loc Cert.AdaBiasSumReferenceIdeal.main_v0) = v0 c
          ∧ r.2.mem ((c.tc : Thread Cert.AdaBiasSumReferenceIdeal.nD Cert.AdaBiasSumReferenceIdeal.τ).loc Cert.AdaBiasSumReferenceIdeal.main_arg0) = m' ((c.tc : Thread Cert.AdaBiasSumReferenceIdeal.nD Cert.AdaBiasSumReferenceIdeal.τ).loc Cert.AdaBiasSumReferenceIdeal.main_arg0))

def preserves_DeviceSum_DeviceSumIdeal : Prop :=
  True

def algebraic_DeviceSumIdeal_DeviceSumReferenceIdeal [hDeviceSumIdeal : Cert.DeviceSumIdeal.Facts] [hDeviceSumReferenceIdeal : Cert.DeviceSumReferenceIdeal.Facts] : Prop :=
  ∀ (m : (ℓ : Loc Cert.DeviceSumIdeal.nD Cert.DeviceSumIdeal.τ Cert.DeviceSumIdeal.sig) → Buf (Elt Ideal) ℓ) (g : Dev Cert.DeviceSumIdeal.nD → PrngReg)
    (m' : (ℓ : Loc Cert.DeviceSumReferenceIdeal.nD Cert.DeviceSumReferenceIdeal.τ Cert.DeviceSumReferenceIdeal.sig) → Buf (Elt Ideal) ℓ) (g' : Dev Cert.DeviceSumReferenceIdeal.nD → PrngReg), Pre_DeviceSumIdeal m →
    (∀ c : Dev Cert.DeviceSumIdeal.nD,
      m' ((c.tc : Thread Cert.DeviceSumReferenceIdeal.nD Cert.DeviceSumReferenceIdeal.τ).loc Cert.DeviceSumReferenceIdeal.main_arg0) = m ((c.tc : Thread Cert.DeviceSumIdeal.nD Cert.DeviceSumIdeal.τ).loc Cert.DeviceSumIdeal.main_arg0)) →
    ∃ (v0 : (c : Dev Cert.DeviceSumIdeal.nD) → Buf (Elt Ideal) ((c.tc : Thread Cert.DeviceSumIdeal.nD Cert.DeviceSumIdeal.τ).loc Cert.DeviceSumIdeal.main_v0)),
      θ_run (Cert.DeviceSumIdeal.defs (F := Ideal)) (onTc (τ := Cert.DeviceSumIdeal.τ) (Cert.DeviceSumIdeal.main (F := Ideal))) ⟨m, fun _ => 0, g⟩ (fun r => ∀ c : Dev Cert.DeviceSumIdeal.nD,
          r.2.mem ((c.tc : Thread Cert.DeviceSumIdeal.nD Cert.DeviceSumIdeal.τ).loc Cert.DeviceSumIdeal.main_v0) = v0 c
          ∧ r.2.mem ((c.tc : Thread Cert.DeviceSumIdeal.nD Cert.DeviceSumIdeal.τ).loc Cert.DeviceSumIdeal.main_arg0) = m ((c.tc : Thread Cert.DeviceSumIdeal.nD Cert.DeviceSumIdeal.τ).loc Cert.DeviceSumIdeal.main_arg0))
      ∧ θ_run (Cert.DeviceSumReferenceIdeal.defs (F := Ideal)) (onTc (τ := Cert.DeviceSumReferenceIdeal.τ) (Cert.DeviceSumReferenceIdeal.main (F := Ideal))) ⟨m', fun _ => 0, g'⟩ (fun r => ∀ c : Dev Cert.DeviceSumReferenceIdeal.nD,
          r.2.mem ((c.tc : Thread Cert.DeviceSumReferenceIdeal.nD Cert.DeviceSumReferenceIdeal.τ).loc Cert.DeviceSumReferenceIdeal.main_v0) = v0 c
          ∧ r.2.mem ((c.tc : Thread Cert.DeviceSumReferenceIdeal.nD Cert.DeviceSumReferenceIdeal.τ).loc Cert.DeviceSumReferenceIdeal.main_arg0) = m' ((c.tc : Thread Cert.DeviceSumReferenceIdeal.nD Cert.DeviceSumReferenceIdeal.τ).loc Cert.DeviceSumReferenceIdeal.main_arg0))

def preserves_ConvForward_ConvForwardIdeal : Prop :=
  IdealRules.named_const.Statement Cert.ConvForwardIdeal.κ "root_half" .f32 0x3F3504F3#32 (((Real.sqrt 2)⁻¹ : ℝ) : EReal)

def algebraic_ConvForwardIdeal_ConvForwardReferenceIdeal [hConvForwardIdeal : Cert.ConvForwardIdeal.Facts] [hConvForwardReferenceIdeal : Cert.ConvForwardReferenceIdeal.Facts] : Prop :=
  ∀ (m : (ℓ : Loc Cert.ConvForwardIdeal.nD Cert.ConvForwardIdeal.τ Cert.ConvForwardIdeal.sig) → Buf (Elt Ideal) ℓ) (g : Dev Cert.ConvForwardIdeal.nD → PrngReg)
    (m' : (ℓ : Loc Cert.ConvForwardReferenceIdeal.nD Cert.ConvForwardReferenceIdeal.τ Cert.ConvForwardReferenceIdeal.sig) → Buf (Elt Ideal) ℓ) (g' : Dev Cert.ConvForwardReferenceIdeal.nD → PrngReg), Pre_ConvForwardIdeal m →
    (∀ c : Dev Cert.ConvForwardIdeal.nD,
      m' ((c.tc : Thread Cert.ConvForwardReferenceIdeal.nD Cert.ConvForwardReferenceIdeal.τ).loc Cert.ConvForwardReferenceIdeal.main_arg0) = m ((c.tc : Thread Cert.ConvForwardIdeal.nD Cert.ConvForwardIdeal.τ).loc Cert.ConvForwardIdeal.main_arg0)
      ∧ m' ((c.tc : Thread Cert.ConvForwardReferenceIdeal.nD Cert.ConvForwardReferenceIdeal.τ).loc Cert.ConvForwardReferenceIdeal.main_arg1) = m ((c.tc : Thread Cert.ConvForwardIdeal.nD Cert.ConvForwardIdeal.τ).loc Cert.ConvForwardIdeal.main_arg1)
      ∧ m' ((c.tc : Thread Cert.ConvForwardReferenceIdeal.nD Cert.ConvForwardReferenceIdeal.τ).loc Cert.ConvForwardReferenceIdeal.main_arg2) = m ((c.tc : Thread Cert.ConvForwardIdeal.nD Cert.ConvForwardIdeal.τ).loc Cert.ConvForwardIdeal.main_arg2)) →
    ∃ (v0 : (c : Dev Cert.ConvForwardIdeal.nD) → Buf (Elt Ideal) ((c.tc : Thread Cert.ConvForwardIdeal.nD Cert.ConvForwardIdeal.τ).loc Cert.ConvForwardIdeal.main_v0)),
      θ_run (Cert.ConvForwardIdeal.defs (F := Ideal)) (onTc (τ := Cert.ConvForwardIdeal.τ) (Cert.ConvForwardIdeal.main (F := Ideal))) ⟨m, fun _ => 0, g⟩ (fun r => ∀ c : Dev Cert.ConvForwardIdeal.nD,
          r.2.mem ((c.tc : Thread Cert.ConvForwardIdeal.nD Cert.ConvForwardIdeal.τ).loc Cert.ConvForwardIdeal.main_v0) = v0 c
          ∧ r.2.mem ((c.tc : Thread Cert.ConvForwardIdeal.nD Cert.ConvForwardIdeal.τ).loc Cert.ConvForwardIdeal.main_arg0) = m ((c.tc : Thread Cert.ConvForwardIdeal.nD Cert.ConvForwardIdeal.τ).loc Cert.ConvForwardIdeal.main_arg0)
          ∧ r.2.mem ((c.tc : Thread Cert.ConvForwardIdeal.nD Cert.ConvForwardIdeal.τ).loc Cert.ConvForwardIdeal.main_arg1) = m ((c.tc : Thread Cert.ConvForwardIdeal.nD Cert.ConvForwardIdeal.τ).loc Cert.ConvForwardIdeal.main_arg1)
          ∧ r.2.mem ((c.tc : Thread Cert.ConvForwardIdeal.nD Cert.ConvForwardIdeal.τ).loc Cert.ConvForwardIdeal.main_arg2) = m ((c.tc : Thread Cert.ConvForwardIdeal.nD Cert.ConvForwardIdeal.τ).loc Cert.ConvForwardIdeal.main_arg2))
      ∧ θ_run (Cert.ConvForwardReferenceIdeal.defs (F := Ideal)) (onTc (τ := Cert.ConvForwardReferenceIdeal.τ) (Cert.ConvForwardReferenceIdeal.main (F := Ideal))) ⟨m', fun _ => 0, g'⟩ (fun r => ∀ c : Dev Cert.ConvForwardReferenceIdeal.nD,
          r.2.mem ((c.tc : Thread Cert.ConvForwardReferenceIdeal.nD Cert.ConvForwardReferenceIdeal.τ).loc Cert.ConvForwardReferenceIdeal.main_v38) = v0 c
          ∧ r.2.mem ((c.tc : Thread Cert.ConvForwardReferenceIdeal.nD Cert.ConvForwardReferenceIdeal.τ).loc Cert.ConvForwardReferenceIdeal.main_arg0) = m' ((c.tc : Thread Cert.ConvForwardReferenceIdeal.nD Cert.ConvForwardReferenceIdeal.τ).loc Cert.ConvForwardReferenceIdeal.main_arg0)
          ∧ r.2.mem ((c.tc : Thread Cert.ConvForwardReferenceIdeal.nD Cert.ConvForwardReferenceIdeal.τ).loc Cert.ConvForwardReferenceIdeal.main_arg1) = m' ((c.tc : Thread Cert.ConvForwardReferenceIdeal.nD Cert.ConvForwardReferenceIdeal.τ).loc Cert.ConvForwardReferenceIdeal.main_arg1)
          ∧ r.2.mem ((c.tc : Thread Cert.ConvForwardReferenceIdeal.nD Cert.ConvForwardReferenceIdeal.τ).loc Cert.ConvForwardReferenceIdeal.main_arg2) = m' ((c.tc : Thread Cert.ConvForwardReferenceIdeal.nD Cert.ConvForwardReferenceIdeal.τ).loc Cert.ConvForwardReferenceIdeal.main_arg2))

def Claim : Prop :=
  ∃ (hKernel : Cert.Kernel.Facts) (hKernelIdeal : Cert.KernelIdeal.Facts) (hReferenceIdeal : Cert.ReferenceIdeal.Facts) (hInInput : Cert.InInput.Facts) (hInInputIdeal : Cert.InInputIdeal.Facts) (hInInputReferenceIdeal : Cert.InInputReferenceIdeal.Facts) (hInWeight : Cert.InWeight.Facts) (hInWeightIdeal : Cert.InWeightIdeal.Facts) (hInWeightReferenceIdeal : Cert.InWeightReferenceIdeal.Facts) (hUpWeight : Cert.UpWeight.Facts) (hUpWeightIdeal : Cert.UpWeightIdeal.Facts) (hUpWeightReferenceIdeal : Cert.UpWeightReferenceIdeal.Facts) (hDownInput : Cert.DownInput.Facts) (hDownInputIdeal : Cert.DownInputIdeal.Facts) (hDownInputReferenceIdeal : Cert.DownInputReferenceIdeal.Facts) (hDownWeight : Cert.DownWeight.Facts) (hDownWeightIdeal : Cert.DownWeightIdeal.Facts) (hDownWeightReferenceIdeal : Cert.DownWeightReferenceIdeal.Facts) (hInForward : Cert.InForward.Facts) (hInForwardIdeal : Cert.InForwardIdeal.Facts) (hInForwardReferenceIdeal : Cert.InForwardReferenceIdeal.Facts) (hUpForward : Cert.UpForward.Facts) (hUpForwardIdeal : Cert.UpForwardIdeal.Facts) (hUpForwardReferenceIdeal : Cert.UpForwardReferenceIdeal.Facts) (hDownForward : Cert.DownForward.Facts) (hDownForwardIdeal : Cert.DownForwardIdeal.Facts) (hDownForwardReferenceIdeal : Cert.DownForwardReferenceIdeal.Facts) (hGmOutInput : Cert.GmOutInput.Facts) (hGmOutInputIdeal : Cert.GmOutInputIdeal.Facts) (hGmOutInputReferenceIdeal : Cert.GmOutInputReferenceIdeal.Facts) (hGmOutWeight : Cert.GmOutWeight.Facts) (hGmOutWeightIdeal : Cert.GmOutWeightIdeal.Facts) (hGmOutWeightReferenceIdeal : Cert.GmOutWeightReferenceIdeal.Facts) (hGmOutForward : Cert.GmOutForward.Facts) (hGmOutForwardIdeal : Cert.GmOutForwardIdeal.Facts) (hGmOutForwardReferenceIdeal : Cert.GmOutForwardReferenceIdeal.Facts) (hHgOutInput : Cert.HgOutInput.Facts) (hHgOutInputIdeal : Cert.HgOutInputIdeal.Facts) (hHgOutInputReferenceIdeal : Cert.HgOutInputReferenceIdeal.Facts) (hHgOutWeight : Cert.HgOutWeight.Facts) (hHgOutWeightIdeal : Cert.HgOutWeightIdeal.Facts) (hHgOutWeightReferenceIdeal : Cert.HgOutWeightReferenceIdeal.Facts) (hHgOutForward : Cert.HgOutForward.Facts) (hHgOutForwardIdeal : Cert.HgOutForwardIdeal.Facts) (hHgOutForwardReferenceIdeal : Cert.HgOutForwardReferenceIdeal.Facts) (hNormBackward : Cert.NormBackward.Facts) (hNormBackwardIdeal : Cert.NormBackwardIdeal.Facts) (hNormBackwardReferenceIdeal : Cert.NormBackwardReferenceIdeal.Facts) (hAdaForward : Cert.AdaForward.Facts) (hAdaForwardIdeal : Cert.AdaForwardIdeal.Facts) (hAdaForwardReferenceIdeal : Cert.AdaForwardReferenceIdeal.Facts) (hAdaWeight : Cert.AdaWeight.Facts) (hAdaWeightIdeal : Cert.AdaWeightIdeal.Facts) (hAdaWeightReferenceIdeal : Cert.AdaWeightReferenceIdeal.Facts) (hFirstNormBackward : Cert.FirstNormBackward.Facts) (hFirstNormBackwardIdeal : Cert.FirstNormBackwardIdeal.Facts) (hFirstNormBackwardReferenceIdeal : Cert.FirstNormBackwardReferenceIdeal.Facts) (hLossHead : Cert.LossHead.Facts) (hLossHeadIdeal : Cert.LossHeadIdeal.Facts) (hLossHeadReferenceIdeal : Cert.LossHeadReferenceIdeal.Facts) (hNormForward : Cert.NormForward.Facts) (hNormForwardIdeal : Cert.NormForwardIdeal.Facts) (hNormForwardReferenceIdeal : Cert.NormForwardReferenceIdeal.Facts) (hFirstNormForward : Cert.FirstNormForward.Facts) (hFirstNormForwardIdeal : Cert.FirstNormForwardIdeal.Facts) (hFirstNormForwardReferenceIdeal : Cert.FirstNormForwardReferenceIdeal.Facts) (hAdaWeightStep : Cert.AdaWeightStep.Facts) (hAdaWeightStepIdeal : Cert.AdaWeightStepIdeal.Facts) (hAdaWeightStepReferenceIdeal : Cert.AdaWeightStepReferenceIdeal.Facts) (hGatingForward : Cert.GatingForward.Facts) (hGatingForwardIdeal : Cert.GatingForwardIdeal.Facts) (hGatingForwardReferenceIdeal : Cert.GatingForwardReferenceIdeal.Facts) (hNormGainStep : Cert.NormGainStep.Facts) (hNormGainStepIdeal : Cert.NormGainStepIdeal.Facts) (hNormGainStepReferenceIdeal : Cert.NormGainStepReferenceIdeal.Facts) (hFinalGainStep : Cert.FinalGainStep.Facts) (hFinalGainStepIdeal : Cert.FinalGainStepIdeal.Facts) (hFinalGainStepReferenceIdeal : Cert.FinalGainStepReferenceIdeal.Facts) (hGatingNormStep : Cert.GatingNormStep.Facts) (hGatingNormStepIdeal : Cert.GatingNormStepIdeal.Facts) (hGatingNormStepReferenceIdeal : Cert.GatingNormStepReferenceIdeal.Facts) (hSpatialWeightStep : Cert.SpatialWeightStep.Facts) (hSpatialWeightStepIdeal : Cert.SpatialWeightStepIdeal.Facts) (hSpatialWeightStepReferenceIdeal : Cert.SpatialWeightStepReferenceIdeal.Facts) (hSpatialBiasStep : Cert.SpatialBiasStep.Facts) (hSpatialBiasStepIdeal : Cert.SpatialBiasStepIdeal.Facts) (hSpatialBiasStepReferenceIdeal : Cert.SpatialBiasStepReferenceIdeal.Facts) (hHeadRowsStep : Cert.HeadRowsStep.Facts) (hHeadRowsStepIdeal : Cert.HeadRowsStepIdeal.Facts) (hHeadRowsStepReferenceIdeal : Cert.HeadRowsStepReferenceIdeal.Facts) (hConvWeightStep : Cert.ConvWeightStep.Facts) (hConvWeightStepIdeal : Cert.ConvWeightStepIdeal.Facts) (hConvWeightStepReferenceIdeal : Cert.ConvWeightStepReferenceIdeal.Facts) (hConvBiasStep : Cert.ConvBiasStep.Facts) (hConvBiasStepIdeal : Cert.ConvBiasStepIdeal.Facts) (hConvBiasStepReferenceIdeal : Cert.ConvBiasStepReferenceIdeal.Facts) (hAdaBiasStep : Cert.AdaBiasStep.Facts) (hAdaBiasStepIdeal : Cert.AdaBiasStepIdeal.Facts) (hAdaBiasStepReferenceIdeal : Cert.AdaBiasStepReferenceIdeal.Facts) (hAdaBiasSum : Cert.AdaBiasSum.Facts) (hAdaBiasSumIdeal : Cert.AdaBiasSumIdeal.Facts) (hAdaBiasSumReferenceIdeal : Cert.AdaBiasSumReferenceIdeal.Facts) (hDeviceSum : Cert.DeviceSum.Facts) (hDeviceSumIdeal : Cert.DeviceSumIdeal.Facts) (hDeviceSumReferenceIdeal : Cert.DeviceSumReferenceIdeal.Facts) (hConvForward : Cert.ConvForward.Facts) (hConvForwardIdeal : Cert.ConvForwardIdeal.Facts) (hConvForwardReferenceIdeal : Cert.ConvForwardReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_InInput (hInInput := hInInput)
    ∧ quiescent_InInputIdeal (hInInputIdeal := hInInputIdeal)
    ∧ quiescent_InInputReferenceIdeal (hInInputReferenceIdeal := hInInputReferenceIdeal)
    ∧ quiescent_InWeight (hInWeight := hInWeight)
    ∧ quiescent_InWeightIdeal (hInWeightIdeal := hInWeightIdeal)
    ∧ quiescent_InWeightReferenceIdeal (hInWeightReferenceIdeal := hInWeightReferenceIdeal)
    ∧ quiescent_UpWeight (hUpWeight := hUpWeight)
    ∧ quiescent_UpWeightIdeal (hUpWeightIdeal := hUpWeightIdeal)
    ∧ quiescent_UpWeightReferenceIdeal (hUpWeightReferenceIdeal := hUpWeightReferenceIdeal)
    ∧ quiescent_DownInput (hDownInput := hDownInput)
    ∧ quiescent_DownInputIdeal (hDownInputIdeal := hDownInputIdeal)
    ∧ quiescent_DownInputReferenceIdeal (hDownInputReferenceIdeal := hDownInputReferenceIdeal)
    ∧ quiescent_DownWeight (hDownWeight := hDownWeight)
    ∧ quiescent_DownWeightIdeal (hDownWeightIdeal := hDownWeightIdeal)
    ∧ quiescent_DownWeightReferenceIdeal (hDownWeightReferenceIdeal := hDownWeightReferenceIdeal)
    ∧ quiescent_InForward (hInForward := hInForward)
    ∧ quiescent_InForwardIdeal (hInForwardIdeal := hInForwardIdeal)
    ∧ quiescent_InForwardReferenceIdeal (hInForwardReferenceIdeal := hInForwardReferenceIdeal)
    ∧ quiescent_UpForward (hUpForward := hUpForward)
    ∧ quiescent_UpForwardIdeal (hUpForwardIdeal := hUpForwardIdeal)
    ∧ quiescent_UpForwardReferenceIdeal (hUpForwardReferenceIdeal := hUpForwardReferenceIdeal)
    ∧ quiescent_DownForward (hDownForward := hDownForward)
    ∧ quiescent_DownForwardIdeal (hDownForwardIdeal := hDownForwardIdeal)
    ∧ quiescent_DownForwardReferenceIdeal (hDownForwardReferenceIdeal := hDownForwardReferenceIdeal)
    ∧ quiescent_GmOutInput (hGmOutInput := hGmOutInput)
    ∧ quiescent_GmOutInputIdeal (hGmOutInputIdeal := hGmOutInputIdeal)
    ∧ quiescent_GmOutInputReferenceIdeal (hGmOutInputReferenceIdeal := hGmOutInputReferenceIdeal)
    ∧ quiescent_GmOutWeight (hGmOutWeight := hGmOutWeight)
    ∧ quiescent_GmOutWeightIdeal (hGmOutWeightIdeal := hGmOutWeightIdeal)
    ∧ quiescent_GmOutWeightReferenceIdeal (hGmOutWeightReferenceIdeal := hGmOutWeightReferenceIdeal)
    ∧ quiescent_GmOutForward (hGmOutForward := hGmOutForward)
    ∧ quiescent_GmOutForwardIdeal (hGmOutForwardIdeal := hGmOutForwardIdeal)
    ∧ quiescent_GmOutForwardReferenceIdeal (hGmOutForwardReferenceIdeal := hGmOutForwardReferenceIdeal)
    ∧ quiescent_HgOutInput (hHgOutInput := hHgOutInput)
    ∧ quiescent_HgOutInputIdeal (hHgOutInputIdeal := hHgOutInputIdeal)
    ∧ quiescent_HgOutInputReferenceIdeal (hHgOutInputReferenceIdeal := hHgOutInputReferenceIdeal)
    ∧ quiescent_HgOutWeight (hHgOutWeight := hHgOutWeight)
    ∧ quiescent_HgOutWeightIdeal (hHgOutWeightIdeal := hHgOutWeightIdeal)
    ∧ quiescent_HgOutWeightReferenceIdeal (hHgOutWeightReferenceIdeal := hHgOutWeightReferenceIdeal)
    ∧ quiescent_HgOutForward (hHgOutForward := hHgOutForward)
    ∧ quiescent_HgOutForwardIdeal (hHgOutForwardIdeal := hHgOutForwardIdeal)
    ∧ quiescent_HgOutForwardReferenceIdeal (hHgOutForwardReferenceIdeal := hHgOutForwardReferenceIdeal)
    ∧ quiescent_NormBackward (hNormBackward := hNormBackward)
    ∧ quiescent_NormBackwardIdeal (hNormBackwardIdeal := hNormBackwardIdeal)
    ∧ quiescent_NormBackwardReferenceIdeal (hNormBackwardReferenceIdeal := hNormBackwardReferenceIdeal)
    ∧ quiescent_AdaForward (hAdaForward := hAdaForward)
    ∧ quiescent_AdaForwardIdeal (hAdaForwardIdeal := hAdaForwardIdeal)
    ∧ quiescent_AdaForwardReferenceIdeal (hAdaForwardReferenceIdeal := hAdaForwardReferenceIdeal)
    ∧ quiescent_AdaWeight (hAdaWeight := hAdaWeight)
    ∧ quiescent_AdaWeightIdeal (hAdaWeightIdeal := hAdaWeightIdeal)
    ∧ quiescent_AdaWeightReferenceIdeal (hAdaWeightReferenceIdeal := hAdaWeightReferenceIdeal)
    ∧ quiescent_FirstNormBackward (hFirstNormBackward := hFirstNormBackward)
    ∧ quiescent_FirstNormBackwardIdeal (hFirstNormBackwardIdeal := hFirstNormBackwardIdeal)
    ∧ quiescent_FirstNormBackwardReferenceIdeal (hFirstNormBackwardReferenceIdeal := hFirstNormBackwardReferenceIdeal)
    ∧ quiescent_LossHead (hLossHead := hLossHead)
    ∧ quiescent_LossHeadIdeal (hLossHeadIdeal := hLossHeadIdeal)
    ∧ quiescent_LossHeadReferenceIdeal (hLossHeadReferenceIdeal := hLossHeadReferenceIdeal)
    ∧ quiescent_NormForward (hNormForward := hNormForward)
    ∧ quiescent_NormForwardIdeal (hNormForwardIdeal := hNormForwardIdeal)
    ∧ quiescent_NormForwardReferenceIdeal (hNormForwardReferenceIdeal := hNormForwardReferenceIdeal)
    ∧ quiescent_FirstNormForward (hFirstNormForward := hFirstNormForward)
    ∧ quiescent_FirstNormForwardIdeal (hFirstNormForwardIdeal := hFirstNormForwardIdeal)
    ∧ quiescent_FirstNormForwardReferenceIdeal (hFirstNormForwardReferenceIdeal := hFirstNormForwardReferenceIdeal)
    ∧ quiescent_AdaWeightStep (hAdaWeightStep := hAdaWeightStep)
    ∧ quiescent_AdaWeightStepIdeal (hAdaWeightStepIdeal := hAdaWeightStepIdeal)
    ∧ quiescent_AdaWeightStepReferenceIdeal (hAdaWeightStepReferenceIdeal := hAdaWeightStepReferenceIdeal)
    ∧ quiescent_GatingForward (hGatingForward := hGatingForward)
    ∧ quiescent_GatingForwardIdeal (hGatingForwardIdeal := hGatingForwardIdeal)
    ∧ quiescent_GatingForwardReferenceIdeal (hGatingForwardReferenceIdeal := hGatingForwardReferenceIdeal)
    ∧ quiescent_NormGainStep (hNormGainStep := hNormGainStep)
    ∧ quiescent_NormGainStepIdeal (hNormGainStepIdeal := hNormGainStepIdeal)
    ∧ quiescent_NormGainStepReferenceIdeal (hNormGainStepReferenceIdeal := hNormGainStepReferenceIdeal)
    ∧ quiescent_FinalGainStep (hFinalGainStep := hFinalGainStep)
    ∧ quiescent_FinalGainStepIdeal (hFinalGainStepIdeal := hFinalGainStepIdeal)
    ∧ quiescent_FinalGainStepReferenceIdeal (hFinalGainStepReferenceIdeal := hFinalGainStepReferenceIdeal)
    ∧ quiescent_GatingNormStep (hGatingNormStep := hGatingNormStep)
    ∧ quiescent_GatingNormStepIdeal (hGatingNormStepIdeal := hGatingNormStepIdeal)
    ∧ quiescent_GatingNormStepReferenceIdeal (hGatingNormStepReferenceIdeal := hGatingNormStepReferenceIdeal)
    ∧ quiescent_SpatialWeightStep (hSpatialWeightStep := hSpatialWeightStep)
    ∧ quiescent_SpatialWeightStepIdeal (hSpatialWeightStepIdeal := hSpatialWeightStepIdeal)
    ∧ quiescent_SpatialWeightStepReferenceIdeal (hSpatialWeightStepReferenceIdeal := hSpatialWeightStepReferenceIdeal)
    ∧ quiescent_SpatialBiasStep (hSpatialBiasStep := hSpatialBiasStep)
    ∧ quiescent_SpatialBiasStepIdeal (hSpatialBiasStepIdeal := hSpatialBiasStepIdeal)
    ∧ quiescent_SpatialBiasStepReferenceIdeal (hSpatialBiasStepReferenceIdeal := hSpatialBiasStepReferenceIdeal)
    ∧ quiescent_HeadRowsStep (hHeadRowsStep := hHeadRowsStep)
    ∧ quiescent_HeadRowsStepIdeal (hHeadRowsStepIdeal := hHeadRowsStepIdeal)
    ∧ quiescent_HeadRowsStepReferenceIdeal (hHeadRowsStepReferenceIdeal := hHeadRowsStepReferenceIdeal)
    ∧ quiescent_ConvWeightStep (hConvWeightStep := hConvWeightStep)
    ∧ quiescent_ConvWeightStepIdeal (hConvWeightStepIdeal := hConvWeightStepIdeal)
    ∧ quiescent_ConvWeightStepReferenceIdeal (hConvWeightStepReferenceIdeal := hConvWeightStepReferenceIdeal)
    ∧ quiescent_ConvBiasStep (hConvBiasStep := hConvBiasStep)
    ∧ quiescent_ConvBiasStepIdeal (hConvBiasStepIdeal := hConvBiasStepIdeal)
    ∧ quiescent_ConvBiasStepReferenceIdeal (hConvBiasStepReferenceIdeal := hConvBiasStepReferenceIdeal)
    ∧ quiescent_AdaBiasStep (hAdaBiasStep := hAdaBiasStep)
    ∧ quiescent_AdaBiasStepIdeal (hAdaBiasStepIdeal := hAdaBiasStepIdeal)
    ∧ quiescent_AdaBiasStepReferenceIdeal (hAdaBiasStepReferenceIdeal := hAdaBiasStepReferenceIdeal)
    ∧ quiescent_AdaBiasSum (hAdaBiasSum := hAdaBiasSum)
    ∧ quiescent_AdaBiasSumIdeal (hAdaBiasSumIdeal := hAdaBiasSumIdeal)
    ∧ quiescent_AdaBiasSumReferenceIdeal (hAdaBiasSumReferenceIdeal := hAdaBiasSumReferenceIdeal)
    ∧ quiescent_DeviceSum (hDeviceSum := hDeviceSum)
    ∧ quiescent_DeviceSumIdeal (hDeviceSumIdeal := hDeviceSumIdeal)
    ∧ quiescent_DeviceSumReferenceIdeal (hDeviceSumReferenceIdeal := hDeviceSumReferenceIdeal)
    ∧ quiescent_ConvForward (hConvForward := hConvForward)
    ∧ quiescent_ConvForwardIdeal (hConvForwardIdeal := hConvForwardIdeal)
    ∧ quiescent_ConvForwardReferenceIdeal (hConvForwardReferenceIdeal := hConvForwardReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_InInput_InInputIdeal
    ∧ algebraic_InInputIdeal_InInputReferenceIdeal (hInInputIdeal := hInInputIdeal) (hInInputReferenceIdeal := hInInputReferenceIdeal)
    ∧ preserves_InWeight_InWeightIdeal
    ∧ algebraic_InWeightIdeal_InWeightReferenceIdeal (hInWeightIdeal := hInWeightIdeal) (hInWeightReferenceIdeal := hInWeightReferenceIdeal)
    ∧ preserves_UpWeight_UpWeightIdeal
    ∧ algebraic_UpWeightIdeal_UpWeightReferenceIdeal (hUpWeightIdeal := hUpWeightIdeal) (hUpWeightReferenceIdeal := hUpWeightReferenceIdeal)
    ∧ preserves_DownInput_DownInputIdeal
    ∧ algebraic_DownInputIdeal_DownInputReferenceIdeal (hDownInputIdeal := hDownInputIdeal) (hDownInputReferenceIdeal := hDownInputReferenceIdeal)
    ∧ preserves_DownWeight_DownWeightIdeal
    ∧ algebraic_DownWeightIdeal_DownWeightReferenceIdeal (hDownWeightIdeal := hDownWeightIdeal) (hDownWeightReferenceIdeal := hDownWeightReferenceIdeal)
    ∧ preserves_InForward_InForwardIdeal
    ∧ algebraic_InForwardIdeal_InForwardReferenceIdeal (hInForwardIdeal := hInForwardIdeal) (hInForwardReferenceIdeal := hInForwardReferenceIdeal)
    ∧ preserves_UpForward_UpForwardIdeal
    ∧ algebraic_UpForwardIdeal_UpForwardReferenceIdeal (hUpForwardIdeal := hUpForwardIdeal) (hUpForwardReferenceIdeal := hUpForwardReferenceIdeal)
    ∧ preserves_DownForward_DownForwardIdeal
    ∧ algebraic_DownForwardIdeal_DownForwardReferenceIdeal (hDownForwardIdeal := hDownForwardIdeal) (hDownForwardReferenceIdeal := hDownForwardReferenceIdeal)
    ∧ preserves_GmOutInput_GmOutInputIdeal
    ∧ algebraic_GmOutInputIdeal_GmOutInputReferenceIdeal (hGmOutInputIdeal := hGmOutInputIdeal) (hGmOutInputReferenceIdeal := hGmOutInputReferenceIdeal)
    ∧ preserves_GmOutWeight_GmOutWeightIdeal
    ∧ algebraic_GmOutWeightIdeal_GmOutWeightReferenceIdeal (hGmOutWeightIdeal := hGmOutWeightIdeal) (hGmOutWeightReferenceIdeal := hGmOutWeightReferenceIdeal)
    ∧ preserves_GmOutForward_GmOutForwardIdeal
    ∧ algebraic_GmOutForwardIdeal_GmOutForwardReferenceIdeal (hGmOutForwardIdeal := hGmOutForwardIdeal) (hGmOutForwardReferenceIdeal := hGmOutForwardReferenceIdeal)
    ∧ preserves_HgOutInput_HgOutInputIdeal
    ∧ algebraic_HgOutInputIdeal_HgOutInputReferenceIdeal (hHgOutInputIdeal := hHgOutInputIdeal) (hHgOutInputReferenceIdeal := hHgOutInputReferenceIdeal)
    ∧ preserves_HgOutWeight_HgOutWeightIdeal
    ∧ algebraic_HgOutWeightIdeal_HgOutWeightReferenceIdeal (hHgOutWeightIdeal := hHgOutWeightIdeal) (hHgOutWeightReferenceIdeal := hHgOutWeightReferenceIdeal)
    ∧ preserves_HgOutForward_HgOutForwardIdeal
    ∧ algebraic_HgOutForwardIdeal_HgOutForwardReferenceIdeal (hHgOutForwardIdeal := hHgOutForwardIdeal) (hHgOutForwardReferenceIdeal := hHgOutForwardReferenceIdeal)
    ∧ preserves_NormBackward_NormBackwardIdeal
    ∧ algebraic_NormBackwardIdeal_NormBackwardReferenceIdeal (hNormBackwardIdeal := hNormBackwardIdeal) (hNormBackwardReferenceIdeal := hNormBackwardReferenceIdeal)
    ∧ preserves_AdaForward_AdaForwardIdeal
    ∧ algebraic_AdaForwardIdeal_AdaForwardReferenceIdeal (hAdaForwardIdeal := hAdaForwardIdeal) (hAdaForwardReferenceIdeal := hAdaForwardReferenceIdeal)
    ∧ preserves_AdaWeight_AdaWeightIdeal
    ∧ algebraic_AdaWeightIdeal_AdaWeightReferenceIdeal (hAdaWeightIdeal := hAdaWeightIdeal) (hAdaWeightReferenceIdeal := hAdaWeightReferenceIdeal)
    ∧ preserves_FirstNormBackward_FirstNormBackwardIdeal
    ∧ algebraic_FirstNormBackwardIdeal_FirstNormBackwardReferenceIdeal (hFirstNormBackwardIdeal := hFirstNormBackwardIdeal) (hFirstNormBackwardReferenceIdeal := hFirstNormBackwardReferenceIdeal)
    ∧ preserves_LossHead_LossHeadIdeal
    ∧ algebraic_LossHeadIdeal_LossHeadReferenceIdeal (hLossHeadIdeal := hLossHeadIdeal) (hLossHeadReferenceIdeal := hLossHeadReferenceIdeal)
    ∧ preserves_NormForward_NormForwardIdeal
    ∧ algebraic_NormForwardIdeal_NormForwardReferenceIdeal (hNormForwardIdeal := hNormForwardIdeal) (hNormForwardReferenceIdeal := hNormForwardReferenceIdeal)
    ∧ preserves_FirstNormForward_FirstNormForwardIdeal
    ∧ algebraic_FirstNormForwardIdeal_FirstNormForwardReferenceIdeal (hFirstNormForwardIdeal := hFirstNormForwardIdeal) (hFirstNormForwardReferenceIdeal := hFirstNormForwardReferenceIdeal)
    ∧ preserves_AdaWeightStep_AdaWeightStepIdeal
    ∧ algebraic_AdaWeightStepIdeal_AdaWeightStepReferenceIdeal (hAdaWeightStepIdeal := hAdaWeightStepIdeal) (hAdaWeightStepReferenceIdeal := hAdaWeightStepReferenceIdeal)
    ∧ preserves_GatingForward_GatingForwardIdeal
    ∧ algebraic_GatingForwardIdeal_GatingForwardReferenceIdeal (hGatingForwardIdeal := hGatingForwardIdeal) (hGatingForwardReferenceIdeal := hGatingForwardReferenceIdeal)
    ∧ preserves_NormGainStep_NormGainStepIdeal
    ∧ algebraic_NormGainStepIdeal_NormGainStepReferenceIdeal (hNormGainStepIdeal := hNormGainStepIdeal) (hNormGainStepReferenceIdeal := hNormGainStepReferenceIdeal)
    ∧ preserves_FinalGainStep_FinalGainStepIdeal
    ∧ algebraic_FinalGainStepIdeal_FinalGainStepReferenceIdeal (hFinalGainStepIdeal := hFinalGainStepIdeal) (hFinalGainStepReferenceIdeal := hFinalGainStepReferenceIdeal)
    ∧ preserves_GatingNormStep_GatingNormStepIdeal
    ∧ algebraic_GatingNormStepIdeal_GatingNormStepReferenceIdeal (hGatingNormStepIdeal := hGatingNormStepIdeal) (hGatingNormStepReferenceIdeal := hGatingNormStepReferenceIdeal)
    ∧ preserves_SpatialWeightStep_SpatialWeightStepIdeal
    ∧ algebraic_SpatialWeightStepIdeal_SpatialWeightStepReferenceIdeal (hSpatialWeightStepIdeal := hSpatialWeightStepIdeal) (hSpatialWeightStepReferenceIdeal := hSpatialWeightStepReferenceIdeal)
    ∧ preserves_SpatialBiasStep_SpatialBiasStepIdeal
    ∧ algebraic_SpatialBiasStepIdeal_SpatialBiasStepReferenceIdeal (hSpatialBiasStepIdeal := hSpatialBiasStepIdeal) (hSpatialBiasStepReferenceIdeal := hSpatialBiasStepReferenceIdeal)
    ∧ preserves_HeadRowsStep_HeadRowsStepIdeal
    ∧ algebraic_HeadRowsStepIdeal_HeadRowsStepReferenceIdeal (hHeadRowsStepIdeal := hHeadRowsStepIdeal) (hHeadRowsStepReferenceIdeal := hHeadRowsStepReferenceIdeal)
    ∧ preserves_ConvWeightStep_ConvWeightStepIdeal
    ∧ algebraic_ConvWeightStepIdeal_ConvWeightStepReferenceIdeal (hConvWeightStepIdeal := hConvWeightStepIdeal) (hConvWeightStepReferenceIdeal := hConvWeightStepReferenceIdeal)
    ∧ preserves_ConvBiasStep_ConvBiasStepIdeal
    ∧ algebraic_ConvBiasStepIdeal_ConvBiasStepReferenceIdeal (hConvBiasStepIdeal := hConvBiasStepIdeal) (hConvBiasStepReferenceIdeal := hConvBiasStepReferenceIdeal)
    ∧ preserves_AdaBiasStep_AdaBiasStepIdeal
    ∧ algebraic_AdaBiasStepIdeal_AdaBiasStepReferenceIdeal (hAdaBiasStepIdeal := hAdaBiasStepIdeal) (hAdaBiasStepReferenceIdeal := hAdaBiasStepReferenceIdeal)
    ∧ preserves_AdaBiasSum_AdaBiasSumIdeal
    ∧ algebraic_AdaBiasSumIdeal_AdaBiasSumReferenceIdeal (hAdaBiasSumIdeal := hAdaBiasSumIdeal) (hAdaBiasSumReferenceIdeal := hAdaBiasSumReferenceIdeal)
    ∧ preserves_DeviceSum_DeviceSumIdeal
    ∧ algebraic_DeviceSumIdeal_DeviceSumReferenceIdeal (hDeviceSumIdeal := hDeviceSumIdeal) (hDeviceSumReferenceIdeal := hDeviceSumReferenceIdeal)
    ∧ preserves_ConvForward_ConvForwardIdeal
    ∧ algebraic_ConvForwardIdeal_ConvForwardReferenceIdeal (hConvForwardIdeal := hConvForwardIdeal) (hConvForwardReferenceIdeal := hConvForwardReferenceIdeal)
-- ==== Pre_finite.lean ====
abbrev S4096x4096 : Shape := ⟨2, ![4096, 4096]⟩
abbrev S4096x2048 : Shape := ⟨2, ![4096, 2048]⟩
abbrev S1x2048 : Shape := ⟨2, ![1, 2048]⟩
abbrev S8x128x128 : Shape := ⟨3, ![8, 128, 128]⟩
abbrev S8x128x1 : Shape := ⟨3, ![8, 128, 1]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096x2048 : S_.BroadcastsInDim S4096x2048 (![] : Fin 0 → Fin S4096x2048.rank)
  reducesTo_S4096x2048_S_d0_1 : S4096x2048.ReducesTo [0, 1] S_
  bcast_S_S1x2048 : S_.BroadcastsInDim S1x2048 (![] : Fin 0 → Fin S1x2048.rank)
  reducesTo_S1x2048_S_d0_1 : S1x2048.ReducesTo [0, 1] S_
  bcast_S_S8x128x128 : S_.BroadcastsInDim S8x128x128 (![] : Fin 0 → Fin S8x128x128.rank)
  reducesTo_S8x128x128_S_d0_1_2 : S8x128x128.ReducesTo [0, 1, 2] S_
  bcast_S_S8x128x1 : S_.BroadcastsInDim S8x128x1 (![] : Fin 0 → Fin S8x128x1.rank)
  reducesTo_S8x128x1_S_d0_1_2 : S8x128x1.ReducesTo [0, 1, 2] S_

variable [Facts]

def fn_part1 {F : FTy → Type} [FloatOps F] (main_arg4 : FVec F S8x128x128 .f32) (main_arg5 : FVec F S8x128x1 .f32) (main_v13 : IVec S_ 1) (main_v16 : IVec S1x2048 1) : IVec S_ 1 :=
  let main_c_5 : IVec S_ 1 := constantI S_ 1 1#1
  let main_v17 : IVec S_ 1 := (fun x v => Host.reduce IntOp.andi x v reducesTo_S1x2048_S_d0_1 h_S_) main_v16 main_c_5
  let main_v18 : IVec S_ 1 := andi main_v13 main_v17
  let main_v19 : FVec F S8x128x128 .f32 := Host.absf main_arg4
  let main_cst_6 : FVec F S_ .f32 := constant S_ .f32 0x7F800000#32
  let main_v20 : FVec F S8x128x128 .f32 := broadcastInDim S8x128x128 ![] bcast_S_S8x128x128 main_cst_6
  let main_v21 : IVec S8x128x128 1 := cmpf .olt main_v19 main_v20
  let main_c_7 : IVec S_ 1 := constantI S_ 1 1#1
  let main_v22 : IVec S_ 1 := (fun x v => Host.reduce IntOp.andi x v reducesTo_S8x128x128_S_d0_1_2 h_S_) main_v21 main_c_7
  let main_v23 : IVec S_ 1 := andi main_v18 main_v22
  let main_v24 : FVec F S8x128x1 .f32 := Host.absf main_arg5
  let main_cst_8 : FVec F S_ .f32 := constant S_ .f32 0x7F800000#32
  let main_v25 : FVec F S8x128x1 .f32 := broadcastInDim S8x128x1 ![] bcast_S_S8x128x1 main_cst_8
  let main_v26 : IVec S8x128x1 1 := cmpf .olt main_v24 main_v25
  let main_c_9 : IVec S_ 1 := constantI S_ 1 1#1
  let main_v27 : IVec S_ 1 := (fun x v => Host.reduce IntOp.andi x v reducesTo_S8x128x1_S_d0_1_2 h_S_) main_v26 main_c_9
  let main_v28 : IVec S_ 1 := andi main_v23 main_v27
  main_v28

def fn {F : FTy → Type} [FloatOps F] (main_arg0 : FVec F S4096x4096 .f32) (main_arg1 : FVec F S4096x2048 .f32) (main_arg2 : FVec F S1x2048 .f32) (main_arg3 : FVec F S1x2048 .f32) (main_arg4 : FVec F S8x128x128 .f32) (main_arg5 : FVec F S8x128x1 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S1x2048 .f32 := Host.absf main_arg2
  let main_cst_2 : FVec F S_ .f32 := constant S_ .f32 0x7F800000#32
  let main_v10 : FVec F S1x2048 .f32 := broadcastInDim S1x2048 ![] bcast_S_S1x2048 main_cst_2
  let main_v11 : IVec S1x2048 1 := cmpf .olt main_v9 main_v10
  let main_c_3 : IVec S_ 1 := constantI S_ 1 1#1
  let main_v12 : IVec S_ 1 := (fun x v => Host.reduce IntOp.andi x v reducesTo_S1x2048_S_d0_1 h_S_) main_v11 main_c_3
  let main_v13 : IVec S_ 1 := andi main_v8 main_v12
  let main_v14 : FVec F S1x2048 .f32 := Host.absf main_arg3
  let main_cst_4 : FVec F S_ .f32 := constant S_ .f32 0x7F800000#32
  let main_v15 : FVec F S1x2048 .f32 := broadcastInDim S1x2048 ![] bcast_S_S1x2048 main_cst_4
  let main_v16 : IVec S1x2048 1 := cmpf .olt main_v14 main_v15
  fn_part1 (F := F) main_arg4 main_arg5 main_v13 main_v16
-- ==== Kernel.lean ====
abbrev S4096x4096 : Shape := ⟨2, ![4096, 4096]⟩
abbrev S4096x2048 : Shape := ⟨2, ![4096, 2048]⟩
abbrev S1x2048 : Shape := ⟨2, ![1, 2048]⟩
abbrev S8x128x128 : Shape := ⟨3, ![8, 128, 128]⟩
abbrev S8x128x1 : Shape := ⟨3, ![8, 128, 1]⟩
abbrev S128x128 : Shape := ⟨2, ![128, 128]⟩
abbrev S256x4096 : Shape := ⟨2, ![256, 4096]⟩
abbrev S256x2048 : Shape := ⟨2, ![256, 2048]⟩
abbrev S128x2048 : Shape := ⟨2, ![128, 2048]⟩
abbrev S256 : Shape := ⟨1, ![256]⟩
abbrev S256x1 : Shape := ⟨2, ![256, 1]⟩
abbrev S1x128x128 : Shape := ⟨3, ![1, 128, 128]⟩
abbrev S128x256 : Shape := ⟨2, ![128, 256]⟩
abbrev S1x128x1 : Shape := ⟨3, ![1, 128, 1]⟩
abbrev S128x1 : Shape := ⟨2, ![128, 1]⟩
abbrev S2048 : Shape := ⟨1, ![2048]⟩
abbrev S2048x128 : Shape := ⟨2, ![2048, 128]⟩

abbrev nBuf : Space → Nat
  | .hbm => 11
  | .vmem => 18
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S1x2048, .f32⟩
  | .hbm, ⟨3, _⟩ => ⟨S1x2048, .f32⟩
  | .hbm, ⟨4, _⟩ => ⟨S8x128x128, .f32⟩
  | .hbm, ⟨5, _⟩ => ⟨S8x128x1, .f32⟩
  | .hbm, ⟨6, _⟩ => ⟨S4096x4096, .bf16⟩
  | .hbm, ⟨7, _⟩ => ⟨S8x128x128, .f32⟩
  | .hbm, ⟨8, _⟩ => ⟨S128x128, .f32⟩
  | .hbm, ⟨9, _⟩ => ⟨S1x2048, .f32⟩
  | .hbm, ⟨10, _⟩ => ⟨S1x2048, .f32⟩
  | .local _ .vmem, ⟨0, _⟩ => ⟨S256x4096, .f32⟩
  | .local _ .vmem, ⟨1, _⟩ => ⟨S256x4096, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S1x2048, .f32⟩
  | .local _ .vmem, ⟨6, _⟩ => ⟨S8x128x128, .f32⟩
  | .local _ .vmem, ⟨7, _⟩ => ⟨S8x128x1, .f32⟩
  | .local _ .vmem, ⟨8, _⟩ => ⟨S256x4096, .bf16⟩
  | .local _ .vmem, ⟨9, _⟩ => ⟨S256x4096, .bf16⟩
  | .local _ .vmem, ⟨10, _⟩ => ⟨S8x128x128, .f32⟩
  | .local _ .vmem, ⟨11, _⟩ => ⟨S128x128, .f32⟩
  | .local _ .vmem, ⟨12, _⟩ => ⟨S1x2048, .f32⟩
  | .local _ .vmem, ⟨13, _⟩ => ⟨S1x2048, .f32⟩
  | .local _ .vmem, ⟨14, _⟩ => ⟨S256x2048, .bf16⟩
  | .local _ .vmem, ⟨15, _⟩ => ⟨S256x2048, .f32⟩
  | .local _ .vmem, ⟨16, _⟩ => ⟨S256x2048, .f32⟩
  | .local _ .vmem, ⟨17, _⟩ => ⟨S128x2048, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem9_0 : DmaSem sig := 12
abbrev cc0_sem10_0 : DmaSem sig := 13

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c15_i32 : BitVec 32 := 15#32
  let v914 : BitVec 1 := Scalar.cmpi .eq arg0 c15_i32
  let v915 : BitVec 32 := Scalar.extui v914
  let c0_i32_567 : BitVec 32 := 0#32
  let v916 : BitVec 1 := Scalar.cmpi .ne v915 c0_i32_567
  v916

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== KernelIdeal.lean ====
variable {F : FTy → Type} [FloatOps F] [Named F]
def κ : String → Option EReal := fun
  | "inv_root_two_pi" => some (((Real.sqrt (2 * Real.pi))⁻¹ : ℝ) : EReal)
  | "root_half" => some (((Real.sqrt 2)⁻¹ : ℝ) : EReal)
  | _ => none
-- ==== ReferenceIdeal.lean ====
abbrev S4096x4096 : Shape := ⟨2, ![4096, 4096]⟩
abbrev S4096x2048 : Shape := ⟨2, ![4096, 2048]⟩
abbrev S1x2048 : Shape := ⟨2, ![1, 2048]⟩
abbrev S8x128x128 : Shape := ⟨3, ![8, 128, 128]⟩
abbrev S8x128x1 : Shape := ⟨3, ![8, 128, 1]⟩
abbrev S_ : Shape := ⟨0, ![]⟩
abbrev S4096 : Shape := ⟨1, ![4096]⟩
abbrev S4096x1 : Shape := ⟨2, ![4096, 1]⟩
abbrev S32x128x8x256 : Shape := ⟨4, ![32, 128, 8, 256]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S8x32x256x128 : Shape := ⟨4, ![8, 32, 256, 128]⟩
abbrev S8x128 : Shape := ⟨2, ![8, 128]⟩
abbrev S128x8 : Shape := ⟨2, ![128, 8]⟩
abbrev S1x128x8x1 : Shape := ⟨4, ![1, 128, 8, 1]⟩
abbrev S2048 : Shape := ⟨1, ![2048]⟩

abbrev nBuf : Space → Nat
  | .hbm => 183
  | .vmem => 0
  | .smem => 0
  | _ => 0

abbrev hbmTy0_0 (i : Nat) : BufTy := match i % 128 with
  | 0 => ⟨S4096x4096, .f32⟩
  | 1 => ⟨S4096x2048, .f32⟩
  | 2 => ⟨S1x2048, .f32⟩
  | 3 => ⟨S1x2048, .f32⟩
  | 4 => ⟨S8x128x128, .f32⟩
  | 5 => ⟨S8x128x1, .f32⟩
  | 6 => ⟨S_, .f32⟩
  | 7 => ⟨S4096x4096, .f32⟩
  | 8 => ⟨S4096x4096, .f32⟩
  | 9 => ⟨S4096x4096, .f32⟩
  | 10 => ⟨S_, .f32⟩
  | 11 => ⟨S_, .f32⟩
  | 12 => ⟨S_, .f32⟩
  | 13 => ⟨S4096x4096, .f32⟩
  | 14 => ⟨S4096x4096, .f32⟩
  | 15 => ⟨S4096x4096, .f32⟩
  | 16 => ⟨S_, .f32⟩
  | 17 => ⟨S_, .f32⟩
  | 18 => ⟨S_, .f32⟩
  | 19 => ⟨S_, .f32⟩
  | 20 => ⟨S_, .f32⟩
  | 21 => ⟨S_, .f32⟩
  | 22 => ⟨S_, .f32⟩
  | 23 => ⟨S4096x4096, .f32⟩
  | 24 => ⟨S4096x4096, .f32⟩
  | 25 => ⟨S4096x4096, .f32⟩
  | 26 => ⟨S_, .f32⟩
  | 27 => ⟨S4096x4096, .f32⟩
  | 28 => ⟨S4096x4096, .f32⟩
  | 29 => ⟨S4096x4096, .f32⟩
  | 30 => ⟨S4096x2048, .f32⟩
  | 31 => ⟨S4096x2048, .f32⟩
  | 32 => ⟨S_, .f32⟩
  | 33 => ⟨S4096, .f32⟩
  | 34 => ⟨S4096x1, .f32⟩
  | 35 => ⟨S_, .f32⟩
  | 36 => ⟨S4096x1, .f32⟩
  | 37 => ⟨S4096x1, .f32⟩
  | 38 => ⟨S4096x2048, .f32⟩
  | 39 => ⟨S4096x2048, .f32⟩
  | 40 => ⟨S4096x2048, .f32⟩
  | 41 => ⟨S_, .f32⟩
  | 42 => ⟨S4096x2048, .f32⟩
  | 43 => ⟨S4096x2048, .f32⟩
  | 44 => ⟨S_, .f32⟩
  | 45 => ⟨S4096, .f32⟩
  | 46 => ⟨S4096x1, .f32⟩
  | 47 => ⟨S_, .f32⟩
  | 48 => ⟨S4096x1, .f32⟩
  | 49 => ⟨S4096x1, .f32⟩
  | 50 => ⟨S4096x2048, .f32⟩
  | 51 => ⟨S4096x2048, .f32⟩
  | 52 => ⟨S_, .f32⟩
  | 53 => ⟨S4096x1, .f32⟩
  | 54 => ⟨S4096x1, .f32⟩
  | 55 => ⟨S4096x1, .f32⟩
  | 56 => ⟨S4096x1, .f32⟩
  | 57 => ⟨S_, .f32⟩
  | 58 => ⟨S4096x1, .f32⟩
  | 59 => ⟨S4096x1, .f32⟩
  | 60 => ⟨S4096x2048, .f32⟩
  | 61 => ⟨S4096x2048, .f32⟩
  | 62 => ⟨S4096x2048, .f32⟩
  | 63 => ⟨S4096x2048, .f32⟩
  | 64 => ⟨S4096x2048, .f32⟩
  | 65 => ⟨S4096x2048, .f32⟩
  | 66 => ⟨S32x128x8x256, .f32⟩
  | 67 => ⟨S128, .i32⟩
  | 68 => ⟨S_, .i32⟩
  | 69 => ⟨S_, .i32⟩
  | 70 => ⟨S128, .i32⟩
  | 71 => ⟨S128, .i32⟩
  | 72 => ⟨S128, .i32⟩
  | 73 => ⟨S_, .i32⟩
  | 74 => ⟨S128, .i32⟩
  | 75 => ⟨S128, .i1⟩
  | 76 => ⟨S128, .i32⟩
  | 77 => ⟨S128, .i32⟩
  | 78 => ⟨S_, .i32⟩
  | 79 => ⟨S128, .i32⟩
  | 80 => ⟨S128, .i1⟩
  | 81 => ⟨S128, .i1⟩
  | 82 => ⟨S_, .i32⟩
  | 83 => ⟨S128, .i32⟩
  | 84 => ⟨S128, .i32⟩
  | 85 => ⟨S128, .i32⟩
  | 86 => ⟨S128x1, .i32⟩
  | 87 => ⟨S1x128, .i32⟩
  | 88 => ⟨S128x128, .i32⟩
  | 89 => ⟨S128x128, .i32⟩
  | 90 => ⟨S128x128, .i1⟩
  | 91 => ⟨S1x128x128, .i1⟩
  | 92 => ⟨S_, .i32⟩
  | 93 => ⟨S_, .f32⟩
  | 94 => ⟨S8x128x128, .i1⟩
  | 95 => ⟨S8x128x128, .f32⟩
  | 96 => ⟨S8x128x128, .f32⟩
  | 97 => ⟨S_, .f32⟩
  | 98 => ⟨S8x128x128, .f32⟩
  | 99 => ⟨S8x32x256x128, .f32⟩
  | 100 => ⟨S32x128x8x256, .f32⟩
  | 101 => ⟨S8x128, .f32⟩
  | 102 => ⟨S128x8, .f32⟩
  | 103 => ⟨S1x128x8x1, .f32⟩
  | 104 => ⟨S32x128x8x256, .f32⟩
  | 105 => ⟨S32x128x8x256, .f32⟩
  | 106 => ⟨S4096x2048, .f32⟩
  | 107 => ⟨S4096x2048, .f32⟩
  | 108 => ⟨S4096x2048, .f32⟩
  | 109 => ⟨S4096x2048, .f32⟩
  | 110 => ⟨S32x128x8x256, .f32⟩
  | 111 => ⟨S_, .f32⟩
  | 112 => ⟨S128x8, .f32⟩
  | 113 => ⟨S1x128x8x1, .f32⟩
  | 114 => ⟨S_, .f32⟩
  | 115 => ⟨S128x8, .f32⟩
  | 116 => ⟨S8x128, .f32⟩
  | 117 => ⟨S8x128x1, .f32⟩
  | 118 => ⟨S8x32x256x128, .f32⟩
  | 119 => ⟨S8x128x128, .f32⟩
  | 120 => ⟨S8x32x256x128, .f32⟩
  | 121 => ⟨S32x128x8x256, .f32⟩
  | 122 => ⟨S_, .f32⟩
  | 123 => ⟨S8x128x128, .f32⟩
  | 124 => ⟨S8x128x128, .f32⟩
  | 125 => ⟨S4096x2048, .f32⟩
  | 126 => ⟨S_, .f32⟩
  | 127 => ⟨S2048, .f32⟩
  | _ => ⟨S4096x4096, .f32⟩

abbrev hbmTy0_1 (i : Nat) : BufTy := match i % 128 with
  | 0 => ⟨S1x2048, .f32⟩
  | 1 => ⟨S4096x2048, .f32⟩
  | 2 => ⟨S_, .f32⟩
  | 3 => ⟨S2048, .f32⟩
  | 4 => ⟨S1x2048, .f32⟩
  | 5 => ⟨S4096x2048, .f32⟩
  | 6 => ⟨S4096x2048, .f32⟩
  | 7 => ⟨S4096x2048, .f32⟩
  | 8 => ⟨S_, .f32⟩
  | 9 => ⟨S4096, .f32⟩
  | 10 => ⟨S4096x1, .f32⟩
  | 11 => ⟨S4096x2048, .f32⟩
  | 12 => ⟨S4096x2048, .f32⟩
  | 13 => ⟨S4096x1, .f32⟩
  | 14 => ⟨S4096x2048, .f32⟩
  | 15 => ⟨S_, .f32⟩
  | 16 => ⟨S4096, .f32⟩
  | 17 => ⟨S4096x1, .f32⟩
  | 18 => ⟨S_, .f32⟩
  | 19 => ⟨S4096x1, .f32⟩
  | 20 => ⟨S4096x1, .f32⟩
  | 21 => ⟨S_, .f32⟩
  | 22 => ⟨S4096, .f32⟩
  | 23 => ⟨S4096x2048, .f32⟩
  | 24 => ⟨S4096x2048, .f32⟩
  | 25 => ⟨S4096x2048, .f32⟩
  | 26 => ⟨S_, .f32⟩
  | 27 => ⟨S4096, .f32⟩
  | 28 => ⟨S4096x1, .f32⟩
  | 29 => ⟨S4096x2048, .f32⟩
  | 30 => ⟨S4096x1, .f32⟩
  | 31 => ⟨S_, .f32⟩
  | 32 => ⟨S4096x1, .f32⟩
  | 33 => ⟨S4096x1, .f32⟩
  | 34 => ⟨S_, .f32⟩
  | 35 => ⟨S4096, .f32⟩
  | 36 => ⟨S4096x2048, .f32⟩
  | 37 => ⟨S4096x2048, .f32⟩
  | 38 => ⟨S4096x4096, .f32⟩
  | 39 => ⟨S4096x4096, .f32⟩
  | 40 => ⟨S4096x4096, .f32⟩
  | 41 => ⟨S4096x4096, .f32⟩
  | 42 => ⟨S4096x4096, .f32⟩
  | 43 => ⟨S4096x4096, .f32⟩
  | 44 => ⟨S4096x4096, .f32⟩
  | 45 => ⟨S_, .f32⟩
  | 46 => ⟨S4096x4096, .f32⟩
  | 47 => ⟨S4096x4096, .f32⟩
  | 48 => ⟨S4096x4096, .f32⟩
  | 49 => ⟨S4096x4096, .bf16⟩
  | 50 => ⟨S8x128, .f32⟩
  | 51 => ⟨S128x8, .f32⟩
  | 52 => ⟨S_, .i32⟩
  | 53 => ⟨S_, .f32⟩
  | 54 => ⟨S128x128, .f32⟩
  | _ => ⟨S4096x4096, .f32⟩

abbrev hbmTy (i : Nat) : BufTy := match i / 128 with
  | 0 => hbmTy0_0 i
  | 1 => hbmTy0_1 i
  | _ => ⟨S4096x4096, .f32⟩

abbrev bufTy : (tb : Table) → Fin (tcTables nBuf tb) → BufTy
  | .hbm, ⟨i, _⟩ => hbmTy i
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_cst_5 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_6 : Ref sig .tc := ⟨.hbm, 41, rfl⟩
abbrev main_v28 : Ref sig .tc := ⟨.hbm, 42, rfl⟩
abbrev main_v29 : Ref sig .tc := ⟨.hbm, 43, rfl⟩
abbrev main_cst_7 : Ref sig .tc := ⟨.hbm, 44, rfl⟩
abbrev main_v30 : Ref sig .tc := ⟨.hbm, 45, rfl⟩
abbrev main_v31 : Ref sig .tc := ⟨.hbm, 46, rfl⟩
abbrev main_cst_8 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_9 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_10 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_c : Ref sig .tc := ⟨.hbm, 68, rfl⟩
abbrev main_call0_v0 : Ref sig .tc := ⟨.hbm, 69, rfl⟩
abbrev main_call0_v1 : Ref sig .tc := ⟨.hbm, 70, rfl⟩
abbrev main_call0_v2 : Ref sig .tc := ⟨.hbm, 71, rfl⟩
abbrev main_call0_v3 : Ref sig .tc := ⟨.hbm, 72, rfl⟩
abbrev main_call0_v4 : Ref sig .tc := ⟨.hbm, 73, rfl⟩
abbrev main_call0_v5 : Ref sig .tc := ⟨.hbm, 74, rfl⟩
abbrev main_call0_v6 : Ref sig .tc := ⟨.hbm, 75, rfl⟩
abbrev main_call0_v7 : Ref sig .tc := ⟨.hbm, 76, rfl⟩
abbrev main_call0_v8 : Ref sig .tc := ⟨.hbm, 77, rfl⟩
abbrev main_call0_c : Ref sig .tc := ⟨.hbm, 78, rfl⟩
abbrev main_call0_v9 : Ref sig .tc := ⟨.hbm, 79, rfl⟩
abbrev main_call0_v10 : Ref sig .tc := ⟨.hbm, 80, rfl⟩
abbrev main_call0_v11 : Ref sig .tc := ⟨.hbm, 81, rfl⟩
abbrev main_call0_c_0 : Ref sig .tc := ⟨.hbm, 82, rfl⟩
abbrev main_call0_v12 : Ref sig .tc := ⟨.hbm, 83, rfl⟩
abbrev main_call0_v13 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_c_11 : Ref sig .tc := ⟨.hbm, 92, rfl⟩
abbrev main_call1_v0 : Ref sig .tc := ⟨.hbm, 93, rfl⟩
abbrev main_v57_1 : Ref sig .tc := ⟨.hbm, 94, rfl⟩
abbrev main_call1_v2 : Ref sig .tc := ⟨.hbm, 95, rfl⟩
abbrev main_v57_0 : Ref sig .tc := ⟨.hbm, 96, rfl⟩
abbrev main_call1_cst : Ref sig .tc := ⟨.hbm, 97, rfl⟩
abbrev main_v57_2 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_cst_12 : Ref sig .tc := ⟨.hbm, 111, rfl⟩
abbrev main_v70 : Ref sig .tc := ⟨.hbm, 112, rfl⟩
abbrev main_v71 : Ref sig .tc := ⟨.hbm, 113, rfl⟩
abbrev main_cst_13 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_call2_cst : Ref sig .tc := ⟨.hbm, 122, rfl⟩
abbrev main_call2_v0 : Ref sig .tc := ⟨.hbm, 123, rfl⟩
abbrev main_v79 : Ref sig .tc := ⟨.hbm, 124, rfl⟩
abbrev main_v80 : Ref sig .tc := ⟨.hbm, 125, rfl⟩
abbrev main_cst_14 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_cst_15 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_cst_16 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_cst_17 : Ref sig .tc := ⟨.hbm, 143, rfl⟩
abbrev main_v95 : Ref sig .tc := ⟨.hbm, 144, rfl⟩
abbrev main_v96 : Ref sig .tc := ⟨.hbm, 145, rfl⟩
abbrev main_cst_18 : Ref sig .tc := ⟨.hbm, 146, rfl⟩
abbrev main_v97 : Ref sig .tc := ⟨.hbm, 147, rfl⟩
abbrev main_v98 : Ref sig .tc := ⟨.hbm, 148, rfl⟩
abbrev main_cst_19 : Ref sig .tc := ⟨.hbm, 149, rfl⟩
abbrev main_v99 : Ref sig .tc := ⟨.hbm, 150, rfl⟩
abbrev main_v100 : Ref sig .tc := ⟨.hbm, 151, rfl⟩
abbrev main_v101 : Ref sig .tc := ⟨.hbm, 152, rfl⟩
abbrev main_v102 : Ref sig .tc := ⟨.hbm, 153, rfl⟩
abbrev main_cst_20 : Ref sig .tc := ⟨.hbm, 154, rfl⟩
abbrev main_v103 : Ref sig .tc := ⟨.hbm, 155, rfl⟩
abbrev main_v104 : Ref sig .tc := ⟨.hbm, 156, rfl⟩
abbrev main_v105 : Ref sig .tc := ⟨.hbm, 157, rfl⟩
abbrev main_v106 : Ref sig .tc := ⟨.hbm, 158, rfl⟩
abbrev main_cst_21 : Ref sig .tc := ⟨.hbm, 159, rfl⟩
abbrev main_v107 : Ref sig .tc := ⟨.hbm, 160, rfl⟩
abbrev main_v108 : Ref sig .tc := ⟨.hbm, 161, rfl⟩
abbrev main_cst_22 : Ref sig .tc := ⟨.hbm, 162, rfl⟩
abbrev main_v109 : Ref sig .tc := ⟨.hbm, 163, rfl⟩
abbrev main_v110 : Ref sig .tc := ⟨.hbm, 164, rfl⟩
abbrev main_v111 : Ref sig .tc := ⟨.hbm, 165, rfl⟩
abbrev main_v112 : Ref sig .tc := ⟨.hbm, 166, rfl⟩
abbrev main_v113 : Ref sig .tc := ⟨.hbm, 167, rfl⟩
abbrev main_v114 : Ref sig .tc := ⟨.hbm, 168, rfl⟩
abbrev main_v115 : Ref sig .tc := ⟨.hbm, 169, rfl⟩
abbrev main_v116 : Ref sig .tc := ⟨.hbm, 170, rfl⟩
abbrev main_v117 : Ref sig .tc := ⟨.hbm, 171, rfl⟩
abbrev main_v118 : Ref sig .tc := ⟨.hbm, 172, rfl⟩
abbrev main_cst_23 : Ref sig .tc := ⟨.hbm, 173, rfl⟩
abbrev main_v119 : Ref sig .tc := ⟨.hbm, 174, rfl⟩
abbrev main_v120 : Ref sig .tc := ⟨.hbm, 175, rfl⟩
abbrev main_v121 : Ref sig .tc := ⟨.hbm, 176, rfl⟩
abbrev main_v122 : Ref sig .tc := ⟨.hbm, 177, rfl⟩
abbrev main_v123 : Ref sig .tc := ⟨.hbm, 178, rfl⟩
abbrev main_v124 : Ref sig .tc := ⟨.hbm, 179, rfl⟩
abbrev main_c_24 : Ref sig .tc := ⟨.hbm, 180, rfl⟩
abbrev main_call3_v0 : Ref sig .tc := ⟨.hbm, 181, rfl⟩
abbrev main_v125 : Ref sig .tc := ⟨.hbm, 182, rfl⟩

abbrev nD : Nat := 1
abbrev τ : Topo := Topo.v7x

variable {F : FTy → Type} [FloatOps F]
-- ==== InInput.lean ====
abbrev S4096x4096 : Shape := ⟨2, ![4096, 4096]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x4096, .bf16⟩
  | .hbm, ⟨1, _⟩ => ⟨S1024x4096, .bf16⟩
  | .hbm, ⟨2, _⟩ => ⟨S4096x1024, .f32⟩
  | .local _ .vmem, ⟨0, _⟩ => ⟨S1024x4096, .bf16⟩
  | .local _ .vmem, ⟨1, _⟩ => ⟨S1024x4096, .bf16⟩
  | .local _ .vmem, ⟨2, _⟩ => ⟨S1024x4096, .bf16⟩
  | .local _ .vmem, ⟨3, _⟩ => ⟨S1024x1024, .f32⟩
  | .local _ .vmem, ⟨4, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InInputReferenceIdeal.lean ====
abbrev S4096x4096 : Shape := ⟨2, ![4096, 4096]⟩
abbrev S1024x4096 : Shape := ⟨2, ![1024, 4096]⟩
abbrev S_ : Shape := ⟨0, ![]⟩
abbrev S4096x1024 : Shape := ⟨2, ![4096, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S1024x4096, .bf16⟩
  | .hbm, ⟨2, _⟩ => ⟨S_, .f32⟩
  | .hbm, ⟨3, _⟩ => ⟨S4096x1024, .f32⟩
  | .hbm, ⟨4, _⟩ => ⟨S1024x4096, .f32⟩
  | .hbm, ⟨5, _⟩ => ⟨S4096x4096, .f32⟩
  | .hbm, ⟨6, _⟩ => ⟨S4096x4096, .f32⟩
  | .hbm, ⟨7, _⟩ => ⟨S4096x1024, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== InWeight.lean ====
abbrev S4096x1024 : Shape := ⟨2, ![4096, 1024]⟩
abbrev S4096x4096 : Shape := ⟨2, ![4096, 4096]⟩
abbrev S4x2x512x1024 : Shape := ⟨4, ![4, 2, 512, 1024]⟩
abbrev S4096x512 : Shape := ⟨2, ![4096, 512]⟩
abbrev S1x1x512x1024 : Shape := ⟨4, ![1, 1, 512, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S4x2x512x1024, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S1x1x512x1024, .bf16⟩
  | .local _ .vmem, ⟨5, _⟩ => ⟨S1x1x512x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.divsi arg0 c1_i32_5
  let c0_i32_6 : BitVec 32 := 0#32
  let v18 : BitVec 1 := Scalar.cmpi .sgt arg0 c0_i32_6
  let v19 : BitVec 32 := Scalar.extui v18
  let c0_i32_7 : BitVec 32 := 0#32
  let v20 : BitVec 1 := Scalar.cmpi .slt arg0 c0_i32_7
  let v21 : BitVec 32 := Scalar.extui v20
  let v22 : BitVec 32 := Scalar.subi v19 v21
  let c0_i32_8 : BitVec 32 := 0#32
  let v23 : BitVec 1 := Scalar.cmpi .sgt c1_i32_5 c0_i32_8
  let v24 : BitVec 32 := Scalar.extui v23
  let c0_i32_9 : BitVec 32 := 0#32
  let v25 : BitVec 1 := Scalar.cmpi .slt c1_i32_5 c0_i32_9
  let v26 : BitVec 32 := Scalar.extui v25
  let v27 : BitVec 32 := Scalar.subi v24 v26
  let v28 : BitVec 1 := Scalar.cmpi .ne v22 v27
  let v29 : BitVec 32 := Scalar.remsi arg0 c1_i32_5
  let c0_i32_10 : BitVec 32 := 0#32
  let v30 : BitVec 1 := Scalar.cmpi .ne v29 c0_i32_10
  let v31 : BitVec 1 := Scalar.andi v28 v30
  let c1_i32_11 : BitVec 32 := 1#32
  let v32 : BitVec 32 := Scalar.subi v17 c1_i32_11
  let v33 : BitVec 32 := Scalar.select v31 v32 v17
  let c1_i32_12 : BitVec 32 := 1#32
  let c0_i32_13 : BitVec 32 := 0#32
  let v34 : BitVec 1 := Scalar.cmpi .eq c1_i32_12 c0_i32_13
  let c1_i32_14 : BitVec 32 := 1#32
  let v35 : BitVec 32 := Scalar.select v34 c1_i32_14 c1_i32_12
  let v36 : BitVec 32 := Scalar.remsi arg0 v35
  let c0_i32_15 : BitVec 32 := 0#32
  let v37 : BitVec 1 := Scalar.cmpi .ne v36 c0_i32_15
  let c0_i32_16 : BitVec 32 := 0#32
  let v38 : BitVec 1 := Scalar.cmpi .slt v36 c0_i32_16
  let c0_i32_17 : BitVec 32 := 0#32
  let v39 : BitVec 1 := Scalar.cmpi .slt v35 c0_i32_17
  let v40 : BitVec 1 := Scalar.xori v38 v39
  let v41 : BitVec 1 := Scalar.andi v40 v37
  let v42 : BitVec 32 := Scalar.addi v36 v35
  let v43 : BitVec 32 := Scalar.select v41 v42 v36
  let c1_i32_18 : BitVec 32 := 1#32
  let c0_i32_19 : BitVec 32 := 0#32
  let v44 : BitVec 1 := Scalar.cmpi .eq c1_i32_18 c0_i32_19
  let c1_i32_20 : BitVec 32 := 1#32
  let v45 : BitVec 32 := Scalar.select v44 c1_i32_20 c1_i32_18
  let v46 : BitVec 32 := Scalar.remsi arg1 v45
  let c0_i32_21 : BitVec 32 := 0#32
  let v47 : BitVec 1 := Scalar.cmpi .ne v46 c0_i32_21
  let c0_i32_22 : BitVec 32 := 0#32
  let v48 : BitVec 1 := Scalar.cmpi .slt v46 c0_i32_22
  let c0_i32_23 : BitVec 32 := 0#32
  let v49 : BitVec 1 := Scalar.cmpi .slt v45 c0_i32_23
  let v50 : BitVec 1 := Scalar.xori v48 v49
  let v51 : BitVec 1 := Scalar.andi v50 v47
  let v52 : BitVec 32 := Scalar.addi v46 v45
  let v53 : BitVec 32 := Scalar.select v51 v52 v46
  let c0_i32_24 : BitVec 32 := 0#32
  ![v16.toNat, v33.toNat, v43.toNat, v53.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InWeightReferenceIdeal.lean ====
abbrev S4096x1024 : Shape := ⟨2, ![4096, 1024]⟩
abbrev S4096x4096 : Shape := ⟨2, ![4096, 4096]⟩
abbrev S_ : Shape := ⟨0, ![]⟩
abbrev S1024x4096 : Shape := ⟨2, ![1024, 4096]⟩
abbrev S2x512x4x1024 : Shape := ⟨4, ![2, 512, 4, 1024]⟩
abbrev S4x2x512x1024 : Shape := ⟨4, ![4, 2, 512, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S_, .f32⟩
  | .hbm, ⟨3, _⟩ => ⟨S1024x4096, .f32⟩
  | .hbm, ⟨4, _⟩ => ⟨S4096x1024, .f32⟩
  | .hbm, ⟨5, _⟩ => ⟨S4096x4096, .f32⟩
  | .hbm, ⟨6, _⟩ => ⟨S4096x4096, .f32⟩
  | .hbm, ⟨7, _⟩ => ⟨S4096x1024, .f32⟩
  | .hbm, ⟨8, _⟩ => ⟨S1024x4096, .f32⟩
  | .hbm, ⟨9, _⟩ => ⟨S2x512x4x1024, .f32⟩
  | .hbm, ⟨10, _⟩ => ⟨S4x2x512x1024, .f32⟩
  | .hbm, ⟨11, _⟩ => ⟨S4x2x512x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== UpWeight.lean ====
abbrev S4096x1024 : Shape := ⟨2, ![4096, 1024]⟩
abbrev S4096x5632 : Shape := ⟨2, ![4096, 5632]⟩
abbrev S4x2x512x1408 : Shape := ⟨4, ![4, 2, 512, 1408]⟩
abbrev S4096x512 : Shape := ⟨2, ![4096, 512]⟩
abbrev S4096x1408 : Shape := ⟨2, ![4096, 1408]⟩
abbrev S1x1x512x1408 : Shape := ⟨4, ![1, 1, 512, 1408]⟩
abbrev S512x1408 : Shape := ⟨2, ![512, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x5632, .bf16⟩
  | .hbm, ⟨2, _⟩ => ⟨S4x2x512x1408, .bf16⟩
  | .local _ .vmem, ⟨0, _⟩ => ⟨S4096x512, .bf16⟩
  | .local _ .vmem, ⟨1, _⟩ => ⟨S4096x512, .bf16⟩
  | .local _ .vmem, ⟨2, _⟩ => ⟨S4096x1408, .bf16⟩
  | .local _ .vmem, ⟨3, _⟩ => ⟨S4096x1408, .bf16⟩
  | .local _ .vmem, ⟨4, _⟩ => ⟨S1x1x512x1408, .bf16⟩
  | .local _ .vmem, ⟨5, _⟩ => ⟨S1x1x512x1408, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.divsi arg0 c1_i32_5
  let c0_i32_6 : BitVec 32 := 0#32
  let v18 : BitVec 1 := Scalar.cmpi .sgt arg0 c0_i32_6
  let v19 : BitVec 32 := Scalar.extui v18
  let c0_i32_7 : BitVec 32 := 0#32
  let v20 : BitVec 1 := Scalar.cmpi .slt arg0 c0_i32_7
  let v21 : BitVec 32 := Scalar.extui v20
  let v22 : BitVec 32 := Scalar.subi v19 v21
  let c0_i32_8 : BitVec 32 := 0#32
  let v23 : BitVec 1 := Scalar.cmpi .sgt c1_i32_5 c0_i32_8
  let v24 : BitVec 32 := Scalar.extui v23
  let c0_i32_9 : BitVec 32 := 0#32
  let v25 : BitVec 1 := Scalar.cmpi .slt c1_i32_5 c0_i32_9
  let v26 : BitVec 32 := Scalar.extui v25
  let v27 : BitVec 32 := Scalar.subi v24 v26
  let v28 : BitVec 1 := Scalar.cmpi .ne v22 v27
  let v29 : BitVec 32 := Scalar.remsi arg0 c1_i32_5
  let c0_i32_10 : BitVec 32 := 0#32
  let v30 : BitVec 1 := Scalar.cmpi .ne v29 c0_i32_10
  let v31 : BitVec 1 := Scalar.andi v28 v30
  let c1_i32_11 : BitVec 32 := 1#32
  let v32 : BitVec 32 := Scalar.subi v17 c1_i32_11
  let v33 : BitVec 32 := Scalar.select v31 v32 v17
  let c1_i32_12 : BitVec 32 := 1#32
  let c0_i32_13 : BitVec 32 := 0#32
  let v34 : BitVec 1 := Scalar.cmpi .eq c1_i32_12 c0_i32_13
  let c1_i32_14 : BitVec 32 := 1#32
  let v35 : BitVec 32 := Scalar.select v34 c1_i32_14 c1_i32_12
  let v36 : BitVec 32 := Scalar.remsi arg0 v35
  let c0_i32_15 : BitVec 32 := 0#32
  let v37 : BitVec 1 := Scalar.cmpi .ne v36 c0_i32_15
  let c0_i32_16 : BitVec 32 := 0#32
  let v38 : BitVec 1 := Scalar.cmpi .slt v36 c0_i32_16
  let c0_i32_17 : BitVec 32 := 0#32
  let v39 : BitVec 1 := Scalar.cmpi .slt v35 c0_i32_17
  let v40 : BitVec 1 := Scalar.xori v38 v39
  let v41 : BitVec 1 := Scalar.andi v40 v37
  let v42 : BitVec 32 := Scalar.addi v36 v35
  let v43 : BitVec 32 := Scalar.select v41 v42 v36
  let c1_i32_18 : BitVec 32 := 1#32
  let c0_i32_19 : BitVec 32 := 0#32
  let v44 : BitVec 1 := Scalar.cmpi .eq c1_i32_18 c0_i32_19
  let c1_i32_20 : BitVec 32 := 1#32
  let v45 : BitVec 32 := Scalar.select v44 c1_i32_20 c1_i32_18
  let v46 : BitVec 32 := Scalar.remsi arg1 v45
  let c0_i32_21 : BitVec 32 := 0#32
  let v47 : BitVec 1 := Scalar.cmpi .ne v46 c0_i32_21
  let c0_i32_22 : BitVec 32 := 0#32
  let v48 : BitVec 1 := Scalar.cmpi .slt v46 c0_i32_22
  let c0_i32_23 : BitVec 32 := 0#32
  let v49 : BitVec 1 := Scalar.cmpi .slt v45 c0_i32_23
  let v50 : BitVec 1 := Scalar.xori v48 v49
  let v51 : BitVec 1 := Scalar.andi v50 v47
  let v52 : BitVec 32 := Scalar.addi v46 v45
  let v53 : BitVec 32 := Scalar.select v51 v52 v46
  let c0_i32_24 : BitVec 32 := 0#32
  ![v16.toNat, v33.toNat, v43.toNat, v53.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpWeightReferenceIdeal.lean ====
abbrev S4096x1024 : Shape := ⟨2, ![4096, 1024]⟩
abbrev S4096x5632 : Shape := ⟨2, ![4096, 5632]⟩
abbrev S_ : Shape := ⟨0, ![]⟩
abbrev S1024x5632 : Shape := ⟨2, ![1024, 5632]⟩
abbrev S5632x1024 : Shape := ⟨2, ![5632, 1024]⟩
abbrev S2x512x4x1408 : Shape := ⟨4, ![2, 512, 4, 1408]⟩
abbrev S4x2x512x1408 : Shape := ⟨4, ![4, 2, 512, 1408]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x5632, .bf16⟩
  | .hbm, ⟨2, _⟩ => ⟨S_, .f32⟩
  | .hbm, ⟨3, _⟩ => ⟨S1024x5632, .f32⟩
  | .hbm, ⟨4, _⟩ => ⟨S4096x1024, .f32⟩
  | .hbm, ⟨5, _⟩ => ⟨S4096x5632, .f32⟩
  | .hbm, ⟨6, _⟩ => ⟨S4096x5632, .f32⟩
  | .hbm, ⟨7, _⟩ => ⟨S5632x1024, .f32⟩
  | .hbm, ⟨8, _⟩ => ⟨S1024x5632, .f32⟩
  | .hbm, ⟨9, _⟩ => ⟨S2x512x4x1408, .f32⟩
  | .hbm, ⟨10, _⟩ => ⟨S4x2x512x1408, .f32⟩
  | .hbm, ⟨11, _⟩ => ⟨S4x2x512x1408, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== DownInput.lean ====
abbrev S4096x1024 : Shape := ⟨2, ![4096, 1024]⟩
abbrev S2816x1024 : Shape := ⟨2, ![2816, 1024]⟩
abbrev S4096x2816 : Shape := ⟨2, ![4096, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S4096x2816, .f32⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1408, .f32⟩
  | .local _ .vmem, ⟨5, _⟩ => ⟨S1024x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownInputReferenceIdeal.lean ====
abbrev S4096x1024 : Shape := ⟨2, ![4096, 1024]⟩
abbrev S2816x1024 : Shape := ⟨2, ![2816, 1024]⟩
abbrev S_ : Shape := ⟨0, ![]⟩
abbrev S4096x2816 : Shape := ⟨2, ![4096, 2816]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S_, .f32⟩
  | .hbm, ⟨3, _⟩ => ⟨S4096x2816, .f32⟩
  | .hbm, ⟨4, _⟩ => ⟨S2816x1024, .f32⟩
  | .hbm, ⟨5, _⟩ => ⟨S4096x1024, .f32⟩
  | .hbm, ⟨6, _⟩ => ⟨S4096x1024, .f32⟩
  | .hbm, ⟨7, _⟩ => ⟨S4096x2816, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DownWeight.lean ====
abbrev S4096x2816 : Shape := ⟨2, ![4096, 2816]⟩
abbrev S4096x1024 : Shape := ⟨2, ![4096, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownWeightReferenceIdeal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S_, .f32⟩
  | .hbm, ⟨3, _⟩ => ⟨S2816x1024, .f32⟩
  | .hbm, ⟨4, _⟩ => ⟨S4096x2816, .f32⟩
  | .hbm, ⟨5, _⟩ => ⟨S4096x1024, .f32⟩
  | .hbm, ⟨6, _⟩ => ⟨S4096x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== InForward.lean ====
abbrev S4096x1024 : Shape := ⟨2, ![4096, 1024]⟩
abbrev S1024x4096 : Shape := ⟨2, ![1024, 4096]⟩
abbrev S4096x4096 : Shape := ⟨2, ![4096, 4096]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x4096, .bf16⟩
  | .hbm, ⟨2, _⟩ => ⟨S4096x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InForwardReferenceIdeal.lean ====
abbrev S4096x1024 : Shape := ⟨2, ![4096, 1024]⟩
abbrev S1024x4096 : Shape := ⟨2, ![1024, 4096]⟩
abbrev S4096x4096 : Shape := ⟨2, ![4096, 4096]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x4096, .bf16⟩
  | .hbm, ⟨2, _⟩ => ⟨S4096x1024, .f32⟩
  | .hbm, ⟨3, _⟩ => ⟨S1024x4096, .f32⟩
  | .hbm, ⟨4, _⟩ => ⟨S4096x4096, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== UpForward.lean ====
abbrev S4096x1024 : Shape := ⟨2, ![4096, 1024]⟩
abbrev S1024x5632 : Shape := ⟨2, ![1024, 5632]⟩
abbrev S4096x5632 : Shape := ⟨2, ![4096, 5632]⟩
abbrev S1024x1024 : Shape := ⟨2, ![1024, 1024]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .bf16⟩
  | .hbm, ⟨2, _⟩ => ⟨S4096x5632, .f32⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .f32⟩
  | .local _ .vmem, ⟨5, _⟩ => ⟨S1024x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpForwardReferenceIdeal.lean ====
abbrev S4096x1024 : Shape := ⟨2, ![4096, 1024]⟩
abbrev S1024x5632 : Shape := ⟨2, ![1024, 5632]⟩
abbrev S4096x5632 : Shape := ⟨2, ![4096, 5632]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .bf16⟩
  | .hbm, ⟨2, _⟩ => ⟨S4096x1024, .f32⟩
  | .hbm, ⟨3, _⟩ => ⟨S1024x5632, .f32⟩
  | .hbm, ⟨4, _⟩ => ⟨S4096x5632, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== DownForward.lean ====
abbrev S4096x2816 : Shape := ⟨2, ![4096, 2816]⟩
abbrev S2816x1024 : Shape := ⟨2, ![2816, 1024]⟩
abbrev S4096x1024 : Shape := ⟨2, ![4096, 1024]⟩
abbrev S1024x2816 : Shape := ⟨2, ![1024, 2816]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .f32⟩
  | .local _ .vmem, ⟨4, _⟩ => ⟨S1024x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownForwardReferenceIdeal.lean ====
abbrev S4096x2816 : Shape := ⟨2, ![4096, 2816]⟩
abbrev S2816x1024 : Shape := ⟨2, ![2816, 1024]⟩
abbrev S4096x1024 : Shape := ⟨2, ![4096, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x2816, .f32⟩
  | .hbm, ⟨3, _⟩ => ⟨S2816x1024, .f32⟩
  | .hbm, ⟨4, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== GmOutInput.lean ====
abbrev S4096x1024 : Shape := ⟨2, ![4096, 1024]⟩
abbrev S2048x1024 : Shape := ⟨2, ![2048, 1024]⟩
abbrev S4096x2048 : Shape := ⟨2, ![4096, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S2048x1024, .bf16⟩
  | .hbm, ⟨2, _⟩ => ⟨S4096x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GmOutInputReferenceIdeal.lean ====
abbrev S4096x1024 : Shape := ⟨2, ![4096, 1024]⟩
abbrev S2048x1024 : Shape := ⟨2, ![2048, 1024]⟩
abbrev S_ : Shape := ⟨0, ![]⟩
abbrev S4096x2048 : Shape := ⟨2, ![4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2048x1024, .bf16⟩
  | .hbm, ⟨2, _⟩ => ⟨S_, .f32⟩
  | .hbm, ⟨3, _⟩ => ⟨S4096x2048, .f32⟩
  | .hbm, ⟨4, _⟩ => ⟨S2048x1024, .f32⟩
  | .hbm, ⟨5, _⟩ => ⟨S4096x1024, .f32⟩
  | .hbm, ⟨6, _⟩ => ⟨S4096x1024, .f32⟩
  | .hbm, ⟨7, _⟩ => ⟨S4096x2048, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== GmOutWeight.lean ====
abbrev S4096x2048 : Shape := ⟨2, ![4096, 2048]⟩
abbrev S4096x1024 : Shape := ⟨2, ![4096, 1024]⟩
abbrev S2048x1024 : Shape := ⟨2, ![2048, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .bf16⟩
  | .hbm, ⟨2, _⟩ => ⟨S2048x1024, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S1024x1024, .bf16⟩
  | .local _ .vmem, ⟨4, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GmOutWeightReferenceIdeal.lean ====
abbrev S4096x2048 : Shape := ⟨2, ![4096, 2048]⟩
abbrev S4096x1024 : Shape := ⟨2, ![4096, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .bf16⟩
  | .hbm, ⟨2, _⟩ => ⟨S_, .f32⟩
  | .hbm, ⟨3, _⟩ => ⟨S2048x1024, .f32⟩
  | .hbm, ⟨4, _⟩ => ⟨S4096x2048, .f32⟩
  | .hbm, ⟨5, _⟩ => ⟨S4096x1024, .f32⟩
  | .hbm, ⟨6, _⟩ => ⟨S4096x1024, .f32⟩
  | .hbm, ⟨7, _⟩ => ⟨S1024x2048, .f32⟩
  | .hbm, ⟨8, _⟩ => ⟨S2048x1024, .f32⟩
  | .hbm, ⟨9, _⟩ => ⟨S2048x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== GmOutForward.lean ====
abbrev S4096x2048 : Shape := ⟨2, ![4096, 2048]⟩
abbrev S2048x1024 : Shape := ⟨2, ![2048, 1024]⟩
abbrev S4096x1024 : Shape := ⟨2, ![4096, 1024]⟩
abbrev S1024x2048 : Shape := ⟨2, ![1024, 2048]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S2048x1024, .bf16⟩
  | .hbm, ⟨2, _⟩ => ⟨S4096x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x1024, .f32⟩
  | .local _ .vmem, ⟨4, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GmOutForwardReferenceIdeal.lean ====
abbrev S4096x2048 : Shape := ⟨2, ![4096, 2048]⟩
abbrev S2048x1024 : Shape := ⟨2, ![2048, 1024]⟩
abbrev S4096x1024 : Shape := ⟨2, ![4096, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x1024, .bf16⟩
  | .hbm, ⟨2, _⟩ => ⟨S4096x2048, .f32⟩
  | .hbm, ⟨3, _⟩ => ⟨S2048x1024, .f32⟩
  | .hbm, ⟨4, _⟩ => ⟨S4096x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== HgOutInput.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== HgOutInputReferenceIdeal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S_, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== HgOutWeight.lean ====
abbrev S4096x1024 : Shape := ⟨2, ![4096, 1024]⟩
abbrev S1024x1024 : Shape := ⟨2, ![1024, 1024]⟩

abbrev nBuf : Space → Nat
  | .hbm => 3
  | .vmem => 3
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S4096x1024, .bf16⟩
  | .local _ .vmem, ⟨1, _⟩ => ⟨S4096x1024, .bf16⟩
  | .local _ .vmem, ⟨2, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== HgOutWeightReferenceIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== HgOutForward.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== HgOutForwardReferenceIdeal.lean ====
abbrev S4096x1024 : Shape := ⟨2, ![4096, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024x1024, .f32⟩
  | .hbm, ⟨4, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== NormBackward.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 12
  | .vmem => 18
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S4096x1024, .f32⟩
  | .hbm, ⟨6, _⟩ => ⟨S1x1024, .f32⟩
  | .hbm, ⟨7, _⟩ => ⟨S4096x1024, .f32⟩
  | .hbm, ⟨8, _⟩ => ⟨S4096x1024, .bf16⟩
  | .hbm, ⟨9, _⟩ => ⟨S1x1024, .f32⟩
  | .hbm, ⟨10, _⟩ => ⟨S1x1024, .f32⟩
  | .hbm, ⟨11, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S1x1024, .f32⟩
  | .local _ .vmem, ⟨16, _⟩ => ⟨S1x1024, .f32⟩
  | .local _ .vmem, ⟨17, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem11_0 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== NormBackwardReferenceIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 74
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S4096x1024, .f32⟩
  | .hbm, ⟨6, _⟩ => ⟨S1x1024, .f32⟩
  | .hbm, ⟨7, _⟩ => ⟨S_, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S_, .f32⟩
  | .hbm, ⟨12, _⟩ => ⟨S1x1024, .f32⟩
  | .hbm, ⟨13, _⟩ => ⟨S4096x1024, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S4096x1, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S1024, .f32⟩
  | .hbm, ⟨37, _⟩ => ⟨S1x1024, .f32⟩
  | .hbm, ⟨38, _⟩ => ⟨S4096x1024, .f32⟩
  | .hbm, ⟨39, _⟩ => ⟨S_, .f32⟩
  | .hbm, ⟨40, _⟩ => ⟨S1024, .f32⟩
  | .hbm, ⟨41, _⟩ => ⟨S1x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S_, .f32⟩
  | .hbm, ⟨46, _⟩ => ⟨S4096, .f32⟩
  | .hbm, ⟨47, _⟩ => ⟨S4096x1, .f32⟩
  | .hbm, ⟨48, _⟩ => ⟨S4096x1024, .f32⟩
  | .hbm, ⟨49, _⟩ => ⟨S4096x1024, .f32⟩
  | .hbm, ⟨50, _⟩ => ⟨S4096x1, .f32⟩
  | .hbm, ⟨51, _⟩ => ⟨S_, .f32⟩
  | .hbm, ⟨52, _⟩ => ⟨S4096x1, .f32⟩
  | .hbm, ⟨53, _⟩ => ⟨S4096x1, .f32⟩
  | .hbm, ⟨54, _⟩ => ⟨S_, .f32⟩
  | .hbm, ⟨55, _⟩ => ⟨S4096, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S_, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S_, .f32⟩
  | .hbm, ⟨71, _⟩ => ⟨S1024, .f32⟩
  | .hbm, ⟨72, _⟩ => ⟨S1x1024, .f32⟩
  | .hbm, ⟨73, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_4 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_6 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_7 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_8 : Ref sig .tc := ⟨.hbm, 51, rfl⟩
abbrev main_v35 : Ref sig .tc := ⟨.hbm, 52, rfl⟩
abbrev main_v36 : Ref sig .tc := ⟨.hbm, 53, rfl⟩
abbrev main_cst_9 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_10 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_11 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩

abbrev nD : Nat := 1
abbrev τ : Topo := Topo.v7x

variable {F : FTy → Type} [FloatOps F]
-- ==== AdaForward.lean ====
abbrev S8x1024 : Shape := ⟨2, ![8, 1024]⟩
abbrev S4x1024x1536 : Shape := ⟨3, ![4, 1024, 1536]⟩
abbrev S4x1536 : Shape := ⟨2, ![4, 1536]⟩
abbrev S4x1x1536 : Shape := ⟨3, ![4, 1, 1536]⟩
abbrev S4x8x1536 : Shape := ⟨3, ![4, 8, 1536]⟩
abbrev S1x1024x512 : Shape := ⟨3, ![1, 1024, 512]⟩
abbrev S1x1x512 : Shape := ⟨3, ![1, 1, 512]⟩
abbrev S1x8x512 : Shape := ⟨3, ![1, 8, 512]⟩
abbrev S1024x512 : Shape := ⟨2, ![1024, 512]⟩
abbrev S8x512 : Shape := ⟨2, ![8, 512]⟩
abbrev S1x512 : Shape := ⟨2, ![1, 512]⟩

abbrev nBuf : Space → Nat
  | .hbm => 5
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S4x1024x1536, .f32⟩
  | .hbm, ⟨2, _⟩ => ⟨S4x1536, .f32⟩
  | .hbm, ⟨3, _⟩ => ⟨S4x1x1536, .f32⟩
  | .hbm, ⟨4, _⟩ => ⟨S4x8x1536, .f32⟩
  | .local _ .vmem, ⟨0, _⟩ => ⟨S8x1024, .f32⟩
  | .local _ .vmem, ⟨1, _⟩ => ⟨S1x1024x512, .f32⟩
  | .local _ .vmem, ⟨2, _⟩ => ⟨S1x1024x512, .f32⟩
  | .local _ .vmem, ⟨3, _⟩ => ⟨S1x1x512, .f32⟩
  | .local _ .vmem, ⟨4, _⟩ => ⟨S1x1x512, .f32⟩
  | .local _ .vmem, ⟨5, _⟩ => ⟨S1x8x512, .f32⟩
  | .local _ .vmem, ⟨6, _⟩ => ⟨S1x8x512, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AdaForwardReferenceIdeal.lean ====
abbrev S8x1024 : Shape := ⟨2, ![8, 1024]⟩
abbrev S4x1024x1536 : Shape := ⟨3, ![4, 1024, 1536]⟩
abbrev S4x1536 : Shape := ⟨2, ![4, 1536]⟩
abbrev S_ : Shape := ⟨0, ![]⟩
abbrev S4x1536x8 : Shape := ⟨3, ![4, 1536, 8]⟩
abbrev S4x8x1536 : Shape := ⟨3, ![4, 8, 1536]⟩
abbrev S4x1x1536 : Shape := ⟨3, ![4, 1, 1536]⟩

abbrev nBuf : Space → Nat
  | .hbm => 17
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S4x1024x1536, .f32⟩
  | .hbm, ⟨2, _⟩ => ⟨S4x1536, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S4x1536x8, .f32⟩
  | .hbm, ⟨13, _⟩ => ⟨S4x8x1536, .f32⟩
  | .hbm, ⟨14, _⟩ => ⟨S4x1x1536, .f32⟩
  | .hbm, ⟨15, _⟩ => ⟨S4x8x1536, .f32⟩
  | .hbm, ⟨16, _⟩ => ⟨S4x8x1536, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== AdaWeight.lean ====
abbrev S8x1024 : Shape := ⟨2, ![8, 1024]⟩
abbrev S4x8x1536 : Shape := ⟨3, ![4, 8, 1536]⟩
abbrev S4x1024x1536 : Shape := ⟨3, ![4, 1024, 1536]⟩
abbrev S1x8x512 : Shape := ⟨3, ![1, 8, 512]⟩
abbrev S1x1024x512 : Shape := ⟨3, ![1, 1024, 512]⟩
abbrev S8x512 : Shape := ⟨2, ![8, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S8x1024, .f32⟩
  | .hbm, ⟨1, _⟩ => ⟨S4x8x1536, .f32⟩
  | .hbm, ⟨2, _⟩ => ⟨S4x1024x1536, .f32⟩
  | .local _ .vmem, ⟨0, _⟩ => ⟨S8x1024, .f32⟩
  | .local _ .vmem, ⟨1, _⟩ => ⟨S1x8x512, .f32⟩
  | .local _ .vmem, ⟨2, _⟩ => ⟨S1x8x512, .f32⟩
  | .local _ .vmem, ⟨3, _⟩ => ⟨S1x1024x512, .f32⟩
  | .local _ .vmem, ⟨4, _⟩ => ⟨S1x1024x512, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== AdaWeightReferenceIdeal.lean ====
abbrev S8x1024 : Shape := ⟨2, ![8, 1024]⟩
abbrev S4x8x1536 : Shape := ⟨3, ![4, 8, 1536]⟩
abbrev S_ : Shape := ⟨0, ![]⟩
abbrev S4x1024x1536 : Shape := ⟨3, ![4, 1024, 1536]⟩
abbrev S4x1536 : Shape := ⟨2, ![4, 1536]⟩
abbrev S4x1536x8 : Shape := ⟨3, ![4, 1536, 8]⟩
abbrev S4x1x1536 : Shape := ⟨3, ![4, 1, 1536]⟩
abbrev S4x1536x1024 : Shape := ⟨3, ![4, 1536, 1024]⟩

abbrev nBuf : Space → Nat
  | .hbm => 23
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S4x8x1536, .f32⟩
  | .hbm, ⟨2, _⟩ => ⟨S_, .f32⟩
  | .hbm, ⟨3, _⟩ => ⟨S4x1024x1536, .f32⟩
  | .hbm, ⟨4, _⟩ => ⟨S_, .f32⟩
  | .hbm, ⟨5, _⟩ => ⟨S4x1536, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S_, .f32⟩
  | .hbm, ⟨12, _⟩ => ⟨S8x1024, .f32⟩
  | .hbm, ⟨13, _⟩ => ⟨S8x1024, .f32⟩
  | .hbm, ⟨14, _⟩ => ⟨S8x1024, .f32⟩
  | .hbm, ⟨15, _⟩ => ⟨S4x1536x8, .f32⟩
  | .hbm, ⟨16, _⟩ => ⟨S4x8x1536, .f32⟩
  | .hbm, ⟨17, _⟩ => ⟨S4x1x1536, .f32⟩
  | .hbm, ⟨18, _⟩ => ⟨S4x8x1536, .f32⟩
  | .hbm, ⟨19, _⟩ => ⟨S4x8x1536, .f32⟩
  | .hbm, ⟨20, _⟩ => ⟨S4x1536x8, .f32⟩
  | .hbm, ⟨21, _⟩ => ⟨S4x1536x1024, .f32⟩
  | .hbm, ⟨22, _⟩ => ⟨S4x1024x1536, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩

abbrev nD : Nat := 1
abbrev τ : Topo := Topo.v7x

variable {F : FTy → Type} [FloatOps F]
-- ==== FirstNormBackward.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 8
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S4096x1024, .f32⟩
  | .hbm, ⟨6, _⟩ => ⟨S1x1024, .f32⟩
  | .hbm, ⟨7, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== FirstNormBackwardReferenceIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 60
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S_, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S_, .f32⟩
  | .hbm, ⟨10, _⟩ => ⟨S1x1024, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S4096x1024, .f32⟩
  | .hbm, ⟨37, _⟩ => ⟨S_, .f32⟩
  | .hbm, ⟨38, _⟩ => ⟨S1024, .f32⟩
  | .hbm, ⟨39, _⟩ => ⟨S1x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S_, .f32⟩
  | .hbm, ⟨44, _⟩ => ⟨S4096, .f32⟩
  | .hbm, ⟨45, _⟩ => ⟨S4096x1, .f32⟩
  | .hbm, ⟨46, _⟩ => ⟨S4096x1024, .f32⟩
  | .hbm, ⟨47, _⟩ => ⟨S4096x1024, .f32⟩
  | .hbm, ⟨48, _⟩ => ⟨S4096x1, .f32⟩
  | .hbm, ⟨49, _⟩ => ⟨S_, .f32⟩
  | .hbm, ⟨50, _⟩ => ⟨S4096x1, .f32⟩
  | .hbm, ⟨51, _⟩ => ⟨S4096x1, .f32⟩
  | .hbm, ⟨52, _⟩ => ⟨S_, .f32⟩
  | .hbm, ⟨53, _⟩ => ⟨S4096, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_cst_3 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_5 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_7 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_8 : Ref sig .tc := ⟨.hbm, 49, rfl⟩
abbrev main_v35 : Ref sig .tc := ⟨.hbm, 50, rfl⟩
abbrev main_v36 : Ref sig .tc := ⟨.hbm, 51, rfl⟩
abbrev main_cst_9 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩

abbrev nD : Nat := 1
abbrev τ : Topo := Topo.v7x

variable {F : FTy → Type} [FloatOps F]
-- ==== LossHead.lean ====
abbrev S4096x1024 : Shape := ⟨2, ![4096, 1024]⟩
abbrev S1x1024 : Shape := ⟨2, ![1, 1024]⟩
abbrev S1x128 : Shape := ⟨2, ![1, 128]⟩
abbrev S512x1024 : Shape := ⟨2, ![512, 1024]⟩
abbrev S512 : Shape := ⟨1, ![512]⟩
abbrev S512x1 : Shape := ⟨2, ![512, 1]⟩
abbrev S1024 : Shape := ⟨1, ![1024]⟩
abbrev S1 : Shape := ⟨1, ![1]⟩
abbrev S1x1 : Shape := ⟨2, ![1, 1]⟩

abbrev nBuf : Space → Nat
  | .hbm => 10
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S4096x1024, .bf16⟩
  | .hbm, ⟨7, _⟩ => ⟨S1x128, .f32⟩
  | .hbm, ⟨8, _⟩ => ⟨S1x1024, .f32⟩
  | .hbm, ⟨9, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x128, .f32⟩
  | .local _ .vmem, ⟨13, _⟩ => ⟨S1x1024, .f32⟩
  | .local _ .vmem, ⟨14, _⟩ => ⟨S1x1024, .f32⟩
  | .local _ .vmem, ⟨15, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v67 : BitVec 1 := Scalar.cmpi .eq arg0 c7_i32
  let v68 : BitVec 32 := Scalar.extui v67
  let c0_i32_38 : BitVec 32 := 0#32
  let v69 : BitVec 1 := Scalar.cmpi .ne v68 c0_i32_38
  v69

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== LossHeadReferenceIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩
abbrev S1x128 : Shape := ⟨2, ![1, 128]⟩

abbrev nBuf : Space → Nat
  | .hbm => 81
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S4096, .f32⟩
  | .hbm, ⟨34, _⟩ => ⟨S_, .f32⟩
  | .hbm, ⟨35, _⟩ => ⟨S4096, .f32⟩
  | .hbm, ⟨36, _⟩ => ⟨S4096, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S4096, .f32⟩
  | .hbm, ⟨45, _⟩ => ⟨S_, .f32⟩
  | .hbm, ⟨46, _⟩ => ⟨S4096, .f32⟩
  | .hbm, ⟨47, _⟩ => ⟨S4096, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S_, .f32⟩
  | .hbm, ⟨52, _⟩ => ⟨S1024, .f32⟩
  | .hbm, ⟨53, _⟩ => ⟨S1x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S_, .f32⟩
  | .hbm, ⟨58, _⟩ => ⟨S4096, .f32⟩
  | .hbm, ⟨59, _⟩ => ⟨S4096x1, .f32⟩
  | .hbm, ⟨60, _⟩ => ⟨S4096x1024, .f32⟩
  | .hbm, ⟨61, _⟩ => ⟨S4096x1024, .f32⟩
  | .hbm, ⟨62, _⟩ => ⟨S4096x1, .f32⟩
  | .hbm, ⟨63, _⟩ => ⟨S_, .f32⟩
  | .hbm, ⟨64, _⟩ => ⟨S4096x1, .f32⟩
  | .hbm, ⟨65, _⟩ => ⟨S4096x1, .f32⟩
  | .hbm, ⟨66, _⟩ => ⟨S_, .f32⟩
  | .hbm, ⟨67, _⟩ => ⟨S4096, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S_, .f32⟩
  | .hbm, ⟨77, _⟩ => ⟨S1024, .f32⟩
  | .hbm, ⟨78, _⟩ => ⟨S1x1024, .f32⟩
  | .hbm, ⟨79, _⟩ => ⟨S4096x1024, .bf16⟩
  | .hbm, ⟨80, _⟩ => ⟨S1x128, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_cst_7 : Ref sig .tc := ⟨.hbm, 39, rfl⟩
abbrev main_v26 : Ref sig .tc := ⟨.hbm, 40, rfl⟩
abbrev main_cst_8 : Ref sig .tc := ⟨.hbm, 41, rfl⟩
abbrev main_cst_9 : Ref sig .tc := ⟨.hbm, 42, rfl⟩
abbrev main_v27 : Ref sig .tc := ⟨.hbm, 43, rfl⟩
abbrev main_v28 : Ref sig .tc := ⟨.hbm, 44, rfl⟩
abbrev main_cst_10 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_11 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_12 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_13 : Ref sig .tc := ⟨.hbm, 63, rfl⟩
abbrev main_v44 : Ref sig .tc := ⟨.hbm, 64, rfl⟩
abbrev main_v45 : Ref sig .tc := ⟨.hbm, 65, rfl⟩
abbrev main_cst_14 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_15 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩

abbrev nD : Nat := 1
abbrev τ : Topo := Topo.v7x

variable {F : FTy → Type} [FloatOps F]
-- ==== NormForward.lean ====
abbrev S4096x1024 : Shape := ⟨2, ![4096, 1024]⟩
abbrev S1x1024 : Shape := ⟨2, ![1, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 8
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S4096x1024, .f32⟩
  | .hbm, ⟨7, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== NormForwardReferenceIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 32
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S1x1024, .f32⟩
  | .hbm, ⟨26, _⟩ => ⟨S1x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩

abbrev nD : Nat := 1
abbrev τ : Topo := Topo.v7x

variable {F : FTy → Type} [FloatOps F]
-- ==== FirstNormForward.lean ====
abbrev S4096x1024 : Shape := ⟨2, ![4096, 1024]⟩
abbrev S1x1024 : Shape := ⟨2, ![1, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1024x1024, .bf16⟩
  | .local _ .vmem, ⟨6, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== FirstNormForwardReferenceIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 27
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S1x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== AdaWeightStep.lean ====
abbrev S4096x1536 : Shape := ⟨2, ![4096, 1536]⟩
abbrev S256x1536 : Shape := ⟨2, ![256, 1536]⟩

abbrev nBuf : Space → Nat
  | .hbm => 7
  | .vmem => 14
  | .smem => 0
  | _ => 0

abbrev bufTy : (tb : Table) → Fin (tcTables nBuf tb) → BufTy
  | .hbm, ⟨0, _⟩ => ⟨S4096x1536, .f32⟩
  | .hbm, ⟨1, _⟩ => ⟨S4096x1536, .f32⟩
  | .hbm, ⟨2, _⟩ => ⟨S4096x1536, .f32⟩
  | .hbm, ⟨3, _⟩ => ⟨S4096x1536, .f32⟩
  | .hbm, ⟨4, _⟩ => ⟨S4096x1536, .f32⟩
  | .hbm, ⟨5, _⟩ => ⟨S4096x1536, .f32⟩
  | .hbm, ⟨6, _⟩ => ⟨S4096x1536, .f32⟩
  | .local _ .vmem, ⟨0, _⟩ => ⟨S256x1536, .f32⟩
  | .local _ .vmem, ⟨1, _⟩ => ⟨S256x1536, .f32⟩
  | .local _ .vmem, ⟨2, _⟩ => ⟨S256x1536, .f32⟩
  | .local _ .vmem, ⟨3, _⟩ => ⟨S256x1536, .f32⟩
  | .local _ .vmem, ⟨4, _⟩ => ⟨S256x1536, .f32⟩
  | .local _ .vmem, ⟨5, _⟩ => ⟨S256x1536, .f32⟩
  | .local _ .vmem, ⟨6, _⟩ => ⟨S256x1536, .f32⟩
  | .local _ .vmem, ⟨7, _⟩ => ⟨S256x1536, .f32⟩
  | .local _ .vmem, ⟨8, _⟩ => ⟨S256x1536, .f32⟩
  | .local _ .vmem, ⟨9, _⟩ => ⟨S256x1536, .f32⟩
  | .local _ .vmem, ⟨10, _⟩ => ⟨S256x1536, .f32⟩
  | .local _ .vmem, ⟨11, _⟩ => ⟨S256x1536, .f32⟩
  | .local _ .vmem, ⟨12, _⟩ => ⟨S256x1536, .f32⟩
  | .local _ .vmem, ⟨13, _⟩ => ⟨S256x1536, .f32⟩
  | _, _ => ⟨S4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdaWeightStepIdeal.lean ====
abbrev S4096x1536 : Shape := ⟨2, ![4096, 1536]⟩
abbrev S256x1536 : Shape := ⟨2, ![256, 1536]⟩

abbrev nBuf : Space → Nat
  | .hbm => 7
  | .vmem => 14
  | .smem => 0
  | _ => 0

abbrev bufTy : (tb : Table) → Fin (tcTables nBuf tb) → BufTy
  | .hbm, ⟨0, _⟩ => ⟨S4096x1536, .f32⟩
  | .hbm, ⟨1, _⟩ => ⟨S4096x1536, .f32⟩
  | .hbm, ⟨2, _⟩ => ⟨S4096x1536, .f32⟩
  | .hbm, ⟨3, _⟩ => ⟨S4096x1536, .f32⟩
  | .hbm, ⟨4, _⟩ => ⟨S4096x1536, .f32⟩
  | .hbm, ⟨5, _⟩ => ⟨S4096x1536, .f32⟩
  | .hbm, ⟨6, _⟩ => ⟨S4096x1536, .f32⟩
  | .local _ .vmem, ⟨0, _⟩ => ⟨S256x1536, .f32⟩
  | .local _ .vmem, ⟨1, _⟩ => ⟨S256x1536, .f32⟩
  | .local _ .vmem, ⟨2, _⟩ => ⟨S256x1536, .f32⟩
  | .local _ .vmem, ⟨3, _⟩ => ⟨S256x1536, .f32⟩
  | .local _ .vmem, ⟨4, _⟩ => ⟨S256x1536, .f32⟩
  | .local _ .vmem, ⟨5, _⟩ => ⟨S256x1536, .f32⟩
  | .local _ .vmem, ⟨6, _⟩ => ⟨S256x1536, .f32⟩
  | .local _ .vmem, ⟨7, _⟩ => ⟨S256x1536, .f32⟩
  | .local _ .vmem, ⟨8, _⟩ => ⟨S256x1536, .f32⟩
  | .local _ .vmem, ⟨9, _⟩ => ⟨S256x1536, .f32⟩
  | .local _ .vmem, ⟨10, _⟩ => ⟨S256x1536, .f32⟩
  | .local _ .vmem, ⟨11, _⟩ => ⟨S256x1536, .f32⟩
  | .local _ .vmem, ⟨12, _⟩ => ⟨S256x1536, .f32⟩
  | .local _ .vmem, ⟨13, _⟩ => ⟨S256x1536, .f32⟩
  | _, _ => ⟨S4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F] [Named F]

def κ : String → Option EReal := fun
  | "first_decay" => some (((5463681 / 8388608)⁻¹ : ℝ) : EReal)
  | "second_decay" => some (((2672307 / 268435456)⁻¹ : ℝ) : EReal)
  | _ => none

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdaWeightStepReferenceIdeal.lean ====
abbrev S4096x1536 : Shape := ⟨2, ![4096, 1536]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x1536, .f32⟩
  | .hbm, ⟨1, _⟩ => ⟨S4096x1536, .f32⟩
  | .hbm, ⟨2, _⟩ => ⟨S4096x1536, .f32⟩
  | .hbm, ⟨3, _⟩ => ⟨S4096x1536, .f32⟩
  | .hbm, ⟨4, _⟩ => ⟨S_, .f32⟩
  | .hbm, ⟨5, _⟩ => ⟨S4096x1536, .f32⟩
  | .hbm, ⟨6, _⟩ => ⟨S4096x1536, .f32⟩
  | .hbm, ⟨7, _⟩ => ⟨S_, .f32⟩
  | .hbm, ⟨8, _⟩ => ⟨S4096x1536, .f32⟩
  | .hbm, ⟨9, _⟩ => ⟨S4096x1536, .f32⟩
  | .hbm, ⟨10, _⟩ => ⟨S4096x1536, .f32⟩
  | .hbm, ⟨11, _⟩ => ⟨S_, .f32⟩
  | .hbm, ⟨12, _⟩ => ⟨S4096x1536, .f32⟩
  | .hbm, ⟨13, _⟩ => ⟨S4096x1536, .f32⟩
  | .hbm, ⟨14, _⟩ => ⟨S4096x1536, .f32⟩
  | .hbm, ⟨15, _⟩ => ⟨S_, .f32⟩
  | .hbm, ⟨16, _⟩ => ⟨S4096x1536, .f32⟩
  | .hbm, ⟨17, _⟩ => ⟨S4096x1536, .f32⟩
  | .hbm, ⟨18, _⟩ => ⟨S4096x1536, .f32⟩
  | .hbm, ⟨19, _⟩ => ⟨S_, .f32⟩
  | .hbm, ⟨20, _⟩ => ⟨S4096x1536, .f32⟩
  | .hbm, ⟨21, _⟩ => ⟨S4096x1536, .f32⟩
  | .hbm, ⟨22, _⟩ => ⟨S_, .f32⟩
  | .hbm, ⟨23, _⟩ => ⟨S4096x1536, .f32⟩
  | .hbm, ⟨24, _⟩ => ⟨S4096x1536, .f32⟩
  | .hbm, ⟨25, _⟩ => ⟨S4096x1536, .f32⟩
  | .hbm, ⟨26, _⟩ => ⟨S_, .f32⟩
  | .hbm, ⟨27, _⟩ => ⟨S4096x1536, .f32⟩
  | .hbm, ⟨28, _⟩ => ⟨S4096x1536, .f32⟩
  | .hbm, ⟨29, _⟩ => ⟨S4096x1536, .f32⟩
  | .hbm, ⟨30, _⟩ => ⟨S_, .f32⟩
  | .hbm, ⟨31, _⟩ => ⟨S4096x1536, .f32⟩
  | .hbm, ⟨32, _⟩ => ⟨S4096x1536, .f32⟩
  | .hbm, ⟨33, _⟩ => ⟨S4096x1536, .f32⟩
  | .hbm, ⟨34, _⟩ => ⟨S_, .f32⟩
  | .hbm, ⟨35, _⟩ => ⟨S4096x1536, .f32⟩
  | .hbm, ⟨36, _⟩ => ⟨S4096x1536, .f32⟩
  | _, _ => ⟨S4096x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== GatingForward.lean ====
abbrev S4096x4096 : Shape := ⟨2, ![4096, 4096]⟩
abbrev S1x2048 : Shape := ⟨2, ![1, 2048]⟩
abbrev S8x128x128 : Shape := ⟨3, ![8, 128, 128]⟩
abbrev S8x128x1 : Shape := ⟨3, ![8, 128, 1]⟩
abbrev S4096x2048 : Shape := ⟨2, ![4096, 2048]⟩
abbrev S256x4096 : Shape := ⟨2, ![256, 4096]⟩
abbrev S256x2048 : Shape := ⟨2, ![256, 2048]⟩
abbrev S256 : Shape := ⟨1, ![256]⟩
abbrev S256x1 : Shape := ⟨2, ![256, 1]⟩
abbrev S128x128 : Shape := ⟨2, ![128, 128]⟩
abbrev S1x128x128 : Shape := ⟨3, ![1, 128, 128]⟩
abbrev S128x256 : Shape := ⟨2, ![128, 256]⟩
abbrev S1x128x1 : Shape := ⟨3, ![1, 128, 1]⟩
abbrev S128x1 : Shape := ⟨2, ![128, 1]⟩

abbrev nBuf : Space → Nat
  | .hbm => 6
  | .vmem => 9
  | .smem => 0
  | _ => 0

abbrev bufTy : (tb : Table) → Fin (tcTables nBuf tb) → BufTy
  | .hbm, ⟨0, _⟩ => ⟨S4096x4096, .f32⟩
  | .hbm, ⟨1, _⟩ => ⟨S1x2048, .f32⟩
  | .hbm, ⟨2, _⟩ => ⟨S1x2048, .f32⟩
  | .hbm, ⟨3, _⟩ => ⟨S8x128x128, .f32⟩
  | .hbm, ⟨4, _⟩ => ⟨S8x128x1, .f32⟩
  | .hbm, ⟨5, _⟩ => ⟨S4096x2048, .bf16⟩
  | .local _ .vmem, ⟨0, _⟩ => ⟨S256x4096, .f32⟩
  | .local _ .vmem, ⟨1, _⟩ => ⟨S256x4096, .f32⟩
  | .local _ .vmem, ⟨2, _⟩ => ⟨S1x2048, .f32⟩
  | .local _ .vmem, ⟨3, _⟩ => ⟨S1x2048, .f32⟩
  | .local _ .vmem, ⟨4, _⟩ => ⟨S8x128x128, .f32⟩
  | .local _ .vmem, ⟨5, _⟩ => ⟨S8x128x1, .f32⟩
  | .local _ .vmem, ⟨6, _⟩ => ⟨S256x2048, .bf16⟩
  | .local _ .vmem, ⟨7, _⟩ => ⟨S256x2048, .bf16⟩
  | .local _ .vmem, ⟨8, _⟩ => ⟨S256x2048, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== GatingForwardIdeal.lean ====
variable {F : FTy → Type} [FloatOps F] [Named F]
def κ : String → Option EReal := fun
  | "root_half" => some (((Real.sqrt 2)⁻¹ : ℝ) : EReal)
  | _ => none
-- ==== GatingForwardReferenceIdeal.lean ====
abbrev S4096x4096 : Shape := ⟨2, ![4096, 4096]⟩
abbrev S1x2048 : Shape := ⟨2, ![1, 2048]⟩
abbrev S8x128x128 : Shape := ⟨3, ![8, 128, 128]⟩
abbrev S8x128x1 : Shape := ⟨3, ![8, 128, 1]⟩
abbrev S_ : Shape := ⟨0, ![]⟩
abbrev S4096x2048 : Shape := ⟨2, ![4096, 2048]⟩
abbrev S4096 : Shape := ⟨1, ![4096]⟩
abbrev S4096x1 : Shape := ⟨2, ![4096, 1]⟩
abbrev S32x128x8x256 : Shape := ⟨4, ![32, 128, 8, 256]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S8x32x256x128 : Shape := ⟨4, ![8, 32, 256, 128]⟩
abbrev S8x128 : Shape := ⟨2, ![8, 128]⟩
abbrev S128x8 : Shape := ⟨2, ![128, 8]⟩
abbrev S1x128x8x1 : Shape := ⟨4, ![1, 128, 8, 1]⟩

abbrev nBuf : Space → Nat
  | .hbm => 86
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S1x2048, .f32⟩
  | .hbm, ⟨2, _⟩ => ⟨S1x2048, .f32⟩
  | .hbm, ⟨3, _⟩ => ⟨S8x128x128, .f32⟩
  | .hbm, ⟨4, _⟩ => ⟨S8x128x1, .f32⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S4096x4096, .f32⟩
  | .hbm, ⟨13, _⟩ => ⟨S4096x4096, .f32⟩
  | .hbm, ⟨14, _⟩ => ⟨S4096x4096, .f32⟩
  | .hbm, ⟨15, _⟩ => ⟨S4096x4096, .f32⟩
  | .hbm, ⟨16, _⟩ => ⟨S4096x2048, .f32⟩
  | .hbm, ⟨17, _⟩ => ⟨S4096x2048, .f32⟩
  | .hbm, ⟨18, _⟩ => ⟨S_, .f32⟩
  | .hbm, ⟨19, _⟩ => ⟨S4096, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S_, .f32⟩
  | .hbm, ⟨28, _⟩ => ⟨S4096, .f32⟩
  | .hbm, ⟨29, _⟩ => ⟨S4096x1, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S4096x2048, .f32⟩
  | .hbm, ⟨34, _⟩ => ⟨S4096x2048, .f32⟩
  | .hbm, ⟨35, _⟩ => ⟨S_, .f32⟩
  | .hbm, ⟨36, _⟩ => ⟨S4096x1, .f32⟩
  | .hbm, ⟨37, _⟩ => ⟨S4096x1, .f32⟩
  | .hbm, ⟨38, _⟩ => ⟨S4096x1, .f32⟩
  | .hbm, ⟨39, _⟩ => ⟨S4096x2048, .f32⟩
  | .hbm, ⟨40, _⟩ => ⟨S4096x2048, .f32⟩
  | .hbm, ⟨41, _⟩ => ⟨S4096x2048, .f32⟩
  | .hbm, ⟨42, _⟩ => ⟨S4096x2048, .f32⟩
  | .hbm, ⟨43, _⟩ => ⟨S4096x2048, .f32⟩
  | .hbm, ⟨44, _⟩ => ⟨S4096x2048, .f32⟩
  | .hbm, ⟨45, _⟩ => ⟨S32x128x8x256, .f32⟩
  | .hbm, ⟨46, _⟩ => ⟨S128, .i32⟩
  | .hbm, ⟨47, _⟩ => ⟨S_, .i32⟩
  | .hbm, ⟨48, _⟩ => ⟨S_, .i32⟩
  | .hbm, ⟨49, _⟩ => ⟨S128, .i32⟩
  | .hbm, ⟨50, _⟩ => ⟨S128, .i32⟩
  | .hbm, ⟨51, _⟩ => ⟨S128, .i32⟩
  | .hbm, ⟨52, _⟩ => ⟨S_, .i32⟩
  | .hbm, ⟨53, _⟩ => ⟨S128, .i32⟩
  | .hbm, ⟨54, _⟩ => ⟨S128, .i1⟩
  | .hbm, ⟨55, _⟩ => ⟨S128, .i32⟩
  | .hbm, ⟨56, _⟩ => ⟨S128, .i32⟩
  | .hbm, ⟨57, _⟩ => ⟨S_, .i32⟩
  | .hbm, ⟨58, _⟩ => ⟨S128, .i32⟩
  | .hbm, ⟨59, _⟩ => ⟨S128, .i1⟩
  | .hbm, ⟨60, _⟩ => ⟨S128, .i1⟩
  | .hbm, ⟨61, _⟩ => ⟨S_, .i32⟩
  | .hbm, ⟨62, _⟩ => ⟨S128, .i32⟩
  | .hbm, ⟨63, _⟩ => ⟨S128, .i32⟩
  | .hbm, ⟨64, _⟩ => ⟨S128, .i32⟩
  | .hbm, ⟨65, _⟩ => ⟨S128x1, .i32⟩
  | .hbm, ⟨66, _⟩ => ⟨S1x128, .i32⟩
  | .hbm, ⟨67, _⟩ => ⟨S128x128, .i32⟩
  | .hbm, ⟨68, _⟩ => ⟨S128x128, .i32⟩
  | .hbm, ⟨69, _⟩ => ⟨S128x128, .i1⟩
  | .hbm, ⟨70, _⟩ => ⟨S1x128x128, .i1⟩
  | .hbm, ⟨71, _⟩ => ⟨S_, .i32⟩
  | .hbm, ⟨72, _⟩ => ⟨S_, .f32⟩
  | .hbm, ⟨73, _⟩ => ⟨S8x128x128, .i1⟩
  | .hbm, ⟨74, _⟩ => ⟨S8x128x128, .f32⟩
  | .hbm, ⟨75, _⟩ => ⟨S8x128x128, .f32⟩
  | .hbm, ⟨76, _⟩ => ⟨S8x32x256x128, .f32⟩
  | .hbm, ⟨77, _⟩ => ⟨S32x128x8x256, .f32⟩
  | .hbm, ⟨78, _⟩ => ⟨S8x128, .f32⟩
  | .hbm, ⟨79, _⟩ => ⟨S128x8, .f32⟩
  | .hbm, ⟨80, _⟩ => ⟨S1x128x8x1, .f32⟩
  | .hbm, ⟨81, _⟩ => ⟨S32x128x8x256, .f32⟩
  | .hbm, ⟨82, _⟩ => ⟨S32x128x8x256, .f32⟩
  | .hbm, ⟨83, _⟩ => ⟨S4096x2048, .f32⟩
  | .hbm, ⟨84, _⟩ => ⟨S4096x2048, .f32⟩
  | .hbm, ⟨85, _⟩ => ⟨S4096x2048, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_c : Ref sig .tc := ⟨.hbm, 47, rfl⟩
abbrev main_call0_v0 : Ref sig .tc := ⟨.hbm, 48, rfl⟩
abbrev main_call0_v1 : Ref sig .tc := ⟨.hbm, 49, rfl⟩
abbrev main_call0_v2 : Ref sig .tc := ⟨.hbm, 50, rfl⟩
abbrev main_call0_v3 : Ref sig .tc := ⟨.hbm, 51, rfl⟩
abbrev main_call0_v4 : Ref sig .tc := ⟨.hbm, 52, rfl⟩
abbrev main_call0_v5 : Ref sig .tc := ⟨.hbm, 53, rfl⟩
abbrev main_call0_v6 : Ref sig .tc := ⟨.hbm, 54, rfl⟩
abbrev main_call0_v7 : Ref sig .tc := ⟨.hbm, 55, rfl⟩
abbrev main_call0_v8 : Ref sig .tc := ⟨.hbm, 56, rfl⟩
abbrev main_call0_c : Ref sig .tc := ⟨.hbm, 57, rfl⟩
abbrev main_call0_v9 : Ref sig .tc := ⟨.hbm, 58, rfl⟩
abbrev main_call0_v10 : Ref sig .tc := ⟨.hbm, 59, rfl⟩
abbrev main_call0_v11 : Ref sig .tc := ⟨.hbm, 60, rfl⟩
abbrev main_call0_c_0 : Ref sig .tc := ⟨.hbm, 61, rfl⟩
abbrev main_call0_v12 : Ref sig .tc := ⟨.hbm, 62, rfl⟩
abbrev main_call0_v13 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_c_6 : Ref sig .tc := ⟨.hbm, 71, rfl⟩
abbrev main_call1_v0 : Ref sig .tc := ⟨.hbm, 72, rfl⟩
abbrev main_call1_v1 : Ref sig .tc := ⟨.hbm, 73, rfl⟩
abbrev main_call1_v2 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩

abbrev nD : Nat := 1
abbrev τ : Topo := Topo.v7x

variable {F : FTy → Type} [FloatOps F]
-- ==== NormGainStep.lean ====
abbrev S8x256 : Shape := ⟨2, ![8, 256]⟩

abbrev nBuf : Space → Nat
  | .hbm => 7
  | .vmem => 7
  | .smem => 0
  | _ => 0

abbrev bufTy : (tb : Table) → Fin (tcTables nBuf tb) → BufTy
  | .hbm, ⟨0, _⟩ => ⟨S8x256, .f32⟩
  | .hbm, ⟨1, _⟩ => ⟨S8x256, .f32⟩
  | .hbm, ⟨2, _⟩ => ⟨S8x256, .f32⟩
  | .hbm, ⟨3, _⟩ => ⟨S8x256, .f32⟩
  | .hbm, ⟨4, _⟩ => ⟨S8x256, .f32⟩
  | .hbm, ⟨5, _⟩ => ⟨S8x256, .f32⟩
  | .hbm, ⟨6, _⟩ => ⟨S8x256, .f32⟩
  | .local _ .vmem, ⟨0, _⟩ => ⟨S8x256, .f32⟩
  | .local _ .vmem, ⟨1, _⟩ => ⟨S8x256, .f32⟩
  | .local _ .vmem, ⟨2, _⟩ => ⟨S8x256, .f32⟩
  | .local _ .vmem, ⟨3, _⟩ => ⟨S8x256, .f32⟩
  | .local _ .vmem, ⟨4, _⟩ => ⟨S8x256, .f32⟩
  | .local _ .vmem, ⟨5, _⟩ => ⟨S8x256, .f32⟩
  | .local _ .vmem, ⟨6, _⟩ => ⟨S8x256, .f32⟩
  | _, _ => ⟨S8x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== NormGainStepIdeal.lean ====
abbrev S8x256 : Shape := ⟨2, ![8, 256]⟩

abbrev nBuf : Space → Nat
  | .hbm => 7
  | .vmem => 7
  | .smem => 0
  | _ => 0

abbrev bufTy : (tb : Table) → Fin (tcTables nBuf tb) → BufTy
  | .hbm, ⟨0, _⟩ => ⟨S8x256, .f32⟩
  | .hbm, ⟨1, _⟩ => ⟨S8x256, .f32⟩
  | .hbm, ⟨2, _⟩ => ⟨S8x256, .f32⟩
  | .hbm, ⟨3, _⟩ => ⟨S8x256, .f32⟩
  | .hbm, ⟨4, _⟩ => ⟨S8x256, .f32⟩
  | .hbm, ⟨5, _⟩ => ⟨S8x256, .f32⟩
  | .hbm, ⟨6, _⟩ => ⟨S8x256, .f32⟩
  | .local _ .vmem, ⟨0, _⟩ => ⟨S8x256, .f32⟩
  | .local _ .vmem, ⟨1, _⟩ => ⟨S8x256, .f32⟩
  | .local _ .vmem, ⟨2, _⟩ => ⟨S8x256, .f32⟩
  | .local _ .vmem, ⟨3, _⟩ => ⟨S8x256, .f32⟩
  | .local _ .vmem, ⟨4, _⟩ => ⟨S8x256, .f32⟩
  | .local _ .vmem, ⟨5, _⟩ => ⟨S8x256, .f32⟩
  | .local _ .vmem, ⟨6, _⟩ => ⟨S8x256, .f32⟩
  | _, _ => ⟨S8x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F] [Named F]

def κ : String → Option EReal := fun
  | "first_decay" => some (((5463681 / 8388608)⁻¹ : ℝ) : EReal)
  | "second_decay" => some (((2672307 / 268435456)⁻¹ : ℝ) : EReal)
  | _ => none

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== NormGainStepReferenceIdeal.lean ====
abbrev S8x256 : Shape := ⟨2, ![8, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S8x256, .f32⟩
  | .hbm, ⟨1, _⟩ => ⟨S8x256, .f32⟩
  | .hbm, ⟨2, _⟩ => ⟨S8x256, .f32⟩
  | .hbm, ⟨3, _⟩ => ⟨S8x256, .f32⟩
  | .hbm, ⟨4, _⟩ => ⟨S_, .f32⟩
  | .hbm, ⟨5, _⟩ => ⟨S8x256, .f32⟩
  | .hbm, ⟨6, _⟩ => ⟨S8x256, .f32⟩
  | .hbm, ⟨7, _⟩ => ⟨S_, .f32⟩
  | .hbm, ⟨8, _⟩ => ⟨S8x256, .f32⟩
  | .hbm, ⟨9, _⟩ => ⟨S8x256, .f32⟩
  | .hbm, ⟨10, _⟩ => ⟨S8x256, .f32⟩
  | .hbm, ⟨11, _⟩ => ⟨S_, .f32⟩
  | .hbm, ⟨12, _⟩ => ⟨S8x256, .f32⟩
  | .hbm, ⟨13, _⟩ => ⟨S8x256, .f32⟩
  | .hbm, ⟨14, _⟩ => ⟨S8x256, .f32⟩
  | .hbm, ⟨15, _⟩ => ⟨S_, .f32⟩
  | .hbm, ⟨16, _⟩ => ⟨S8x256, .f32⟩
  | .hbm, ⟨17, _⟩ => ⟨S8x256, .f32⟩
  | .hbm, ⟨18, _⟩ => ⟨S8x256, .f32⟩
  | .hbm, ⟨19, _⟩ => ⟨S_, .f32⟩
  | .hbm, ⟨20, _⟩ => ⟨S8x256, .f32⟩
  | .hbm, ⟨21, _⟩ => ⟨S8x256, .f32⟩
  | .hbm, ⟨22, _⟩ => ⟨S_, .f32⟩
  | .hbm, ⟨23, _⟩ => ⟨S8x256, .f32⟩
  | .hbm, ⟨24, _⟩ => ⟨S8x256, .f32⟩
  | .hbm, ⟨25, _⟩ => ⟨S8x256, .f32⟩
  | .hbm, ⟨26, _⟩ => ⟨S_, .f32⟩
  | .hbm, ⟨27, _⟩ => ⟨S8x256, .f32⟩
  | .hbm, ⟨28, _⟩ => ⟨S8x256, .f32⟩
  | .hbm, ⟨29, _⟩ => ⟨S8x256, .f32⟩
  | .hbm, ⟨30, _⟩ => ⟨S_, .f32⟩
  | .hbm, ⟨31, _⟩ => ⟨S8x256, .f32⟩
  | .hbm, ⟨32, _⟩ => ⟨S8x256, .f32⟩
  | .hbm, ⟨33, _⟩ => ⟨S8x256, .f32⟩
  | .hbm, ⟨34, _⟩ => ⟨S_, .f32⟩
  | .hbm, ⟨35, _⟩ => ⟨S8x256, .f32⟩
  | .hbm, ⟨36, _⟩ => ⟨S8x256, .f32⟩
  | _, _ => ⟨S8x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== FinalGainStep.lean ====
abbrev S8x128 : Shape := ⟨2, ![8, 128]⟩

abbrev nBuf : Space → Nat
  | .hbm => 7
  | .vmem => 7
  | .smem => 0
  | _ => 0

abbrev bufTy : (tb : Table) → Fin (tcTables nBuf tb) → BufTy
  | .hbm, ⟨0, _⟩ => ⟨S8x128, .f32⟩
  | .hbm, ⟨1, _⟩ => ⟨S8x128, .f32⟩
  | .hbm, ⟨2, _⟩ => ⟨S8x128, .f32⟩
  | .hbm, ⟨3, _⟩ => ⟨S8x128, .f32⟩
  | .hbm, ⟨4, _⟩ => ⟨S8x128, .f32⟩
  | .hbm, ⟨5, _⟩ => ⟨S8x128, .f32⟩
  | .hbm, ⟨6, _⟩ => ⟨S8x128, .f32⟩
  | .local _ .vmem, ⟨0, _⟩ => ⟨S8x128, .f32⟩
  | .local _ .vmem, ⟨1, _⟩ => ⟨S8x128, .f32⟩
  | .local _ .vmem, ⟨2, _⟩ => ⟨S8x128, .f32⟩
  | .local _ .vmem, ⟨3, _⟩ => ⟨S8x128, .f32⟩
  | .local _ .vmem, ⟨4, _⟩ => ⟨S8x128, .f32⟩
  | .local _ .vmem, ⟨5, _⟩ => ⟨S8x128, .f32⟩
  | .local _ .vmem, ⟨6, _⟩ => ⟨S8x128, .f32⟩
  | _, _ => ⟨S8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== FinalGainStepIdeal.lean ====
abbrev S8x128 : Shape := ⟨2, ![8, 128]⟩

abbrev nBuf : Space → Nat
  | .hbm => 7
  | .vmem => 7
  | .smem => 0
  | _ => 0

abbrev bufTy : (tb : Table) → Fin (tcTables nBuf tb) → BufTy
  | .hbm, ⟨0, _⟩ => ⟨S8x128, .f32⟩
  | .hbm, ⟨1, _⟩ => ⟨S8x128, .f32⟩
  | .hbm, ⟨2, _⟩ => ⟨S8x128, .f32⟩
  | .hbm, ⟨3, _⟩ => ⟨S8x128, .f32⟩
  | .hbm, ⟨4, _⟩ => ⟨S8x128, .f32⟩
  | .hbm, ⟨5, _⟩ => ⟨S8x128, .f32⟩
  | .hbm, ⟨6, _⟩ => ⟨S8x128, .f32⟩
  | .local _ .vmem, ⟨0, _⟩ => ⟨S8x128, .f32⟩
  | .local _ .vmem, ⟨1, _⟩ => ⟨S8x128, .f32⟩
  | .local _ .vmem, ⟨2, _⟩ => ⟨S8x128, .f32⟩
  | .local _ .vmem, ⟨3, _⟩ => ⟨S8x128, .f32⟩
  | .local _ .vmem, ⟨4, _⟩ => ⟨S8x128, .f32⟩
  | .local _ .vmem, ⟨5, _⟩ => ⟨S8x128, .f32⟩
  | .local _ .vmem, ⟨6, _⟩ => ⟨S8x128, .f32⟩
  | _, _ => ⟨S8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F] [Named F]

def κ : String → Option EReal := fun
  | "first_decay" => some (((5463681 / 8388608)⁻¹ : ℝ) : EReal)
  | "second_decay" => some (((2672307 / 268435456)⁻¹ : ℝ) : EReal)
  | _ => none

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== FinalGainStepReferenceIdeal.lean ====
abbrev S8x128 : Shape := ⟨2, ![8, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S8x128, .f32⟩
  | .hbm, ⟨1, _⟩ => ⟨S8x128, .f32⟩
  | .hbm, ⟨2, _⟩ => ⟨S8x128, .f32⟩
  | .hbm, ⟨3, _⟩ => ⟨S8x128, .f32⟩
  | .hbm, ⟨4, _⟩ => ⟨S_, .f32⟩
  | .hbm, ⟨5, _⟩ => ⟨S8x128, .f32⟩
  | .hbm, ⟨6, _⟩ => ⟨S8x128, .f32⟩
  | .hbm, ⟨7, _⟩ => ⟨S_, .f32⟩
  | .hbm, ⟨8, _⟩ => ⟨S8x128, .f32⟩
  | .hbm, ⟨9, _⟩ => ⟨S8x128, .f32⟩
  | .hbm, ⟨10, _⟩ => ⟨S8x128, .f32⟩
  | .hbm, ⟨11, _⟩ => ⟨S_, .f32⟩
  | .hbm, ⟨12, _⟩ => ⟨S8x128, .f32⟩
  | .hbm, ⟨13, _⟩ => ⟨S8x128, .f32⟩
  | .hbm, ⟨14, _⟩ => ⟨S8x128, .f32⟩
  | .hbm, ⟨15, _⟩ => ⟨S_, .f32⟩
  | .hbm, ⟨16, _⟩ => ⟨S8x128, .f32⟩
  | .hbm, ⟨17, _⟩ => ⟨S8x128, .f32⟩
  | .hbm, ⟨18, _⟩ => ⟨S8x128, .f32⟩
  | .hbm, ⟨19, _⟩ => ⟨S_, .f32⟩
  | .hbm, ⟨20, _⟩ => ⟨S8x128, .f32⟩
  | .hbm, ⟨21, _⟩ => ⟨S8x128, .f32⟩
  | .hbm, ⟨22, _⟩ => ⟨S_, .f32⟩
  | .hbm, ⟨23, _⟩ => ⟨S8x128, .f32⟩
  | .hbm, ⟨24, _⟩ => ⟨S8x128, .f32⟩
  | .hbm, ⟨25, _⟩ => ⟨S8x128, .f32⟩
  | .hbm, ⟨26, _⟩ => ⟨S_, .f32⟩
  | .hbm, ⟨27, _⟩ => ⟨S8x128, .f32⟩
  | .hbm, ⟨28, _⟩ => ⟨S8x128, .f32⟩
  | .hbm, ⟨29, _⟩ => ⟨S8x128, .f32⟩
  | .hbm, ⟨30, _⟩ => ⟨S_, .f32⟩
  | .hbm, ⟨31, _⟩ => ⟨S8x128, .f32⟩
  | .hbm, ⟨32, _⟩ => ⟨S8x128, .f32⟩
  | .hbm, ⟨33, _⟩ => ⟨S8x128, .f32⟩
  | .hbm, ⟨34, _⟩ => ⟨S_, .f32⟩
  | .hbm, ⟨35, _⟩ => ⟨S8x128, .f32⟩
  | .hbm, ⟨36, _⟩ => ⟨S8x128, .f32⟩
  | _, _ => ⟨S8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== GatingNormStep.lean ====
abbrev S2x2048 : Shape := ⟨2, ![2, 2048]⟩

abbrev nBuf : Space → Nat
  | .hbm => 7
  | .vmem => 7
  | .smem => 0
  | _ => 0

abbrev bufTy : (tb : Table) → Fin (tcTables nBuf tb) → BufTy
  | .hbm, ⟨0, _⟩ => ⟨S2x2048, .f32⟩
  | .hbm, ⟨1, _⟩ => ⟨S2x2048, .f32⟩
  | .hbm, ⟨2, _⟩ => ⟨S2x2048, .f32⟩
  | .hbm, ⟨3, _⟩ => ⟨S2x2048, .f32⟩
  | .hbm, ⟨4, _⟩ => ⟨S2x2048, .f32⟩
  | .hbm, ⟨5, _⟩ => ⟨S2x2048, .f32⟩
  | .hbm, ⟨6, _⟩ => ⟨S2x2048, .f32⟩
  | .local _ .vmem, ⟨0, _⟩ => ⟨S2x2048, .f32⟩
  | .local _ .vmem, ⟨1, _⟩ => ⟨S2x2048, .f32⟩
  | .local _ .vmem, ⟨2, _⟩ => ⟨S2x2048, .f32⟩
  | .local _ .vmem, ⟨3, _⟩ => ⟨S2x2048, .f32⟩
  | .local _ .vmem, ⟨4, _⟩ => ⟨S2x2048, .f32⟩
  | .local _ .vmem, ⟨5, _⟩ => ⟨S2x2048, .f32⟩
  | .local _ .vmem, ⟨6, _⟩ => ⟨S2x2048, .f32⟩
  | _, _ => ⟨S2x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== GatingNormStepIdeal.lean ====
abbrev S2x2048 : Shape := ⟨2, ![2, 2048]⟩

abbrev nBuf : Space → Nat
  | .hbm => 7
  | .vmem => 7
  | .smem => 0
  | _ => 0

abbrev bufTy : (tb : Table) → Fin (tcTables nBuf tb) → BufTy
  | .hbm, ⟨0, _⟩ => ⟨S2x2048, .f32⟩
  | .hbm, ⟨1, _⟩ => ⟨S2x2048, .f32⟩
  | .hbm, ⟨2, _⟩ => ⟨S2x2048, .f32⟩
  | .hbm, ⟨3, _⟩ => ⟨S2x2048, .f32⟩
  | .hbm, ⟨4, _⟩ => ⟨S2x2048, .f32⟩
  | .hbm, ⟨5, _⟩ => ⟨S2x2048, .f32⟩
  | .hbm, ⟨6, _⟩ => ⟨S2x2048, .f32⟩
  | .local _ .vmem, ⟨0, _⟩ => ⟨S2x2048, .f32⟩
  | .local _ .vmem, ⟨1, _⟩ => ⟨S2x2048, .f32⟩
  | .local _ .vmem, ⟨2, _⟩ => ⟨S2x2048, .f32⟩
  | .local _ .vmem, ⟨3, _⟩ => ⟨S2x2048, .f32⟩
  | .local _ .vmem, ⟨4, _⟩ => ⟨S2x2048, .f32⟩
  | .local _ .vmem, ⟨5, _⟩ => ⟨S2x2048, .f32⟩
  | .local _ .vmem, ⟨6, _⟩ => ⟨S2x2048, .f32⟩
  | _, _ => ⟨S2x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F] [Named F]

def κ : String → Option EReal := fun
  | "first_decay" => some (((5463681 / 8388608)⁻¹ : ℝ) : EReal)
  | "second_decay" => some (((2672307 / 268435456)⁻¹ : ℝ) : EReal)
  | _ => none

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== GatingNormStepReferenceIdeal.lean ====
abbrev S2x2048 : Shape := ⟨2, ![2, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x2048, .f32⟩
  | .hbm, ⟨1, _⟩ => ⟨S2x2048, .f32⟩
  | .hbm, ⟨2, _⟩ => ⟨S2x2048, .f32⟩
  | .hbm, ⟨3, _⟩ => ⟨S2x2048, .f32⟩
  | .hbm, ⟨4, _⟩ => ⟨S_, .f32⟩
  | .hbm, ⟨5, _⟩ => ⟨S2x2048, .f32⟩
  | .hbm, ⟨6, _⟩ => ⟨S2x2048, .f32⟩
  | .hbm, ⟨7, _⟩ => ⟨S_, .f32⟩
  | .hbm, ⟨8, _⟩ => ⟨S2x2048, .f32⟩
  | .hbm, ⟨9, _⟩ => ⟨S2x2048, .f32⟩
  | .hbm, ⟨10, _⟩ => ⟨S2x2048, .f32⟩
  | .hbm, ⟨11, _⟩ => ⟨S_, .f32⟩
  | .hbm, ⟨12, _⟩ => ⟨S2x2048, .f32⟩
  | .hbm, ⟨13, _⟩ => ⟨S2x2048, .f32⟩
  | .hbm, ⟨14, _⟩ => ⟨S2x2048, .f32⟩
  | .hbm, ⟨15, _⟩ => ⟨S_, .f32⟩
  | .hbm, ⟨16, _⟩ => ⟨S2x2048, .f32⟩
  | .hbm, ⟨17, _⟩ => ⟨S2x2048, .f32⟩
  | .hbm, ⟨18, _⟩ => ⟨S2x2048, .f32⟩
  | .hbm, ⟨19, _⟩ => ⟨S_, .f32⟩
  | .hbm, ⟨20, _⟩ => ⟨S2x2048, .f32⟩
  | .hbm, ⟨21, _⟩ => ⟨S2x2048, .f32⟩
  | .hbm, ⟨22, _⟩ => ⟨S_, .f32⟩
  | .hbm, ⟨23, _⟩ => ⟨S2x2048, .f32⟩
  | .hbm, ⟨24, _⟩ => ⟨S2x2048, .f32⟩
  | .hbm, ⟨25, _⟩ => ⟨S2x2048, .f32⟩
  | .hbm, ⟨26, _⟩ => ⟨S_, .f32⟩
  | .hbm, ⟨27, _⟩ => ⟨S2x2048, .f32⟩
  | .hbm, ⟨28, _⟩ => ⟨S2x2048, .f32⟩
  | .hbm, ⟨29, _⟩ => ⟨S2x2048, .f32⟩
  | .hbm, ⟨30, _⟩ => ⟨S_, .f32⟩
  | .hbm, ⟨31, _⟩ => ⟨S2x2048, .f32⟩
  | .hbm, ⟨32, _⟩ => ⟨S2x2048, .f32⟩
  | .hbm, ⟨33, _⟩ => ⟨S2x2048, .f32⟩
  | .hbm, ⟨34, _⟩ => ⟨S_, .f32⟩
  | .hbm, ⟨35, _⟩ => ⟨S2x2048, .f32⟩
  | .hbm, ⟨36, _⟩ => ⟨S2x2048, .f32⟩
  | _, _ => ⟨S2x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== SpatialWeightStep.lean ====
abbrev S2048x128 : Shape := ⟨2, ![2048, 128]⟩
abbrev S256x128 : Shape := ⟨2, ![256, 128]⟩

abbrev nBuf : Space → Nat
  | .hbm => 7
  | .vmem => 14
  | .smem => 0
  | _ => 0

abbrev bufTy : (tb : Table) → Fin (tcTables nBuf tb) → BufTy
  | .hbm, ⟨0, _⟩ => ⟨S2048x128, .f32⟩
  | .hbm, ⟨1, _⟩ => ⟨S2048x128, .f32⟩
  | .hbm, ⟨2, _⟩ => ⟨S2048x128, .f32⟩
  | .hbm, ⟨3, _⟩ => ⟨S2048x128, .f32⟩
  | .hbm, ⟨4, _⟩ => ⟨S2048x128, .f32⟩
  | .hbm, ⟨5, _⟩ => ⟨S2048x128, .f32⟩
  | .hbm, ⟨6, _⟩ => ⟨S2048x128, .f32⟩
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | _, _ => ⟨S2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== SpatialWeightStepIdeal.lean ====
abbrev S2048x128 : Shape := ⟨2, ![2048, 128]⟩
abbrev S256x128 : Shape := ⟨2, ![256, 128]⟩

abbrev nBuf : Space → Nat
  | .hbm => 7
  | .vmem => 14
  | .smem => 0
  | _ => 0

abbrev bufTy : (tb : Table) → Fin (tcTables nBuf tb) → BufTy
  | .hbm, ⟨0, _⟩ => ⟨S2048x128, .f32⟩
  | .hbm, ⟨1, _⟩ => ⟨S2048x128, .f32⟩
  | .hbm, ⟨2, _⟩ => ⟨S2048x128, .f32⟩
  | .hbm, ⟨3, _⟩ => ⟨S2048x128, .f32⟩
  | .hbm, ⟨4, _⟩ => ⟨S2048x128, .f32⟩
  | .hbm, ⟨5, _⟩ => ⟨S2048x128, .f32⟩
  | .hbm, ⟨6, _⟩ => ⟨S2048x128, .f32⟩
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | _, _ => ⟨S2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F] [Named F]

def κ : String → Option EReal := fun
  | "first_decay" => some (((5463681 / 8388608)⁻¹ : ℝ) : EReal)
  | "second_decay" => some (((2672307 / 268435456)⁻¹ : ℝ) : EReal)
  | _ => none

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== SpatialWeightStepReferenceIdeal.lean ====
abbrev S2048x128 : Shape := ⟨2, ![2048, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x128, .f32⟩
  | .hbm, ⟨1, _⟩ => ⟨S2048x128, .f32⟩
  | .hbm, ⟨2, _⟩ => ⟨S2048x128, .f32⟩
  | .hbm, ⟨3, _⟩ => ⟨S2048x128, .f32⟩
  | .hbm, ⟨4, _⟩ => ⟨S_, .f32⟩
  | .hbm, ⟨5, _⟩ => ⟨S2048x128, .f32⟩
  | .hbm, ⟨6, _⟩ => ⟨S2048x128, .f32⟩
  | .hbm, ⟨7, _⟩ => ⟨S_, .f32⟩
  | .hbm, ⟨8, _⟩ => ⟨S2048x128, .f32⟩
  | .hbm, ⟨9, _⟩ => ⟨S2048x128, .f32⟩
  | .hbm, ⟨10, _⟩ => ⟨S2048x128, .f32⟩
  | .hbm, ⟨11, _⟩ => ⟨S_, .f32⟩
  | .hbm, ⟨12, _⟩ => ⟨S2048x128, .f32⟩
  | .hbm, ⟨13, _⟩ => ⟨S2048x128, .f32⟩
  | .hbm, ⟨14, _⟩ => ⟨S2048x128, .f32⟩
  | .hbm, ⟨15, _⟩ => ⟨S_, .f32⟩
  | .hbm, ⟨16, _⟩ => ⟨S2048x128, .f32⟩
  | .hbm, ⟨17, _⟩ => ⟨S2048x128, .f32⟩
  | .hbm, ⟨18, _⟩ => ⟨S2048x128, .f32⟩
  | .hbm, ⟨19, _⟩ => ⟨S_, .f32⟩
  | .hbm, ⟨20, _⟩ => ⟨S2048x128, .f32⟩
  | .hbm, ⟨21, _⟩ => ⟨S2048x128, .f32⟩
  | .hbm, ⟨22, _⟩ => ⟨S_, .f32⟩
  | .hbm, ⟨23, _⟩ => ⟨S2048x128, .f32⟩
  | .hbm, ⟨24, _⟩ => ⟨S2048x128, .f32⟩
  | .hbm, ⟨25, _⟩ => ⟨S2048x128, .f32⟩
  | .hbm, ⟨26, _⟩ => ⟨S_, .f32⟩
  | .hbm, ⟨27, _⟩ => ⟨S2048x128, .f32⟩
  | .hbm, ⟨28, _⟩ => ⟨S2048x128, .f32⟩
  | .hbm, ⟨29, _⟩ => ⟨S2048x128, .f32⟩
  | .hbm, ⟨30, _⟩ => ⟨S_, .f32⟩
  | .hbm, ⟨31, _⟩ => ⟨S2048x128, .f32⟩
  | .hbm, ⟨32, _⟩ => ⟨S2048x128, .f32⟩
  | .hbm, ⟨33, _⟩ => ⟨S2048x128, .f32⟩
  | .hbm, ⟨34, _⟩ => ⟨S_, .f32⟩
  | .hbm, ⟨35, _⟩ => ⟨S2048x128, .f32⟩
  | .hbm, ⟨36, _⟩ => ⟨S2048x128, .f32⟩
  | _, _ => ⟨S2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== SpatialBiasStep.lean ====
abbrev S16x128 : Shape := ⟨2, ![16, 128]⟩

abbrev nBuf : Space → Nat
  | .hbm => 7
  | .vmem => 7
  | .smem => 0
  | _ => 0

abbrev bufTy : (tb : Table) → Fin (tcTables nBuf tb) → BufTy
  | .hbm, ⟨0, _⟩ => ⟨S16x128, .f32⟩
  | .hbm, ⟨1, _⟩ => ⟨S16x128, .f32⟩
  | .hbm, ⟨2, _⟩ => ⟨S16x128, .f32⟩
  | .hbm, ⟨3, _⟩ => ⟨S16x128, .f32⟩
  | .hbm, ⟨4, _⟩ => ⟨S16x128, .f32⟩
  | .hbm, ⟨5, _⟩ => ⟨S16x128, .f32⟩
  | .hbm, ⟨6, _⟩ => ⟨S16x128, .f32⟩
  | .local _ .vmem, ⟨0, _⟩ => ⟨S16x128, .f32⟩
  | .local _ .vmem, ⟨1, _⟩ => ⟨S16x128, .f32⟩
  | .local _ .vmem, ⟨2, _⟩ => ⟨S16x128, .f32⟩
  | .local _ .vmem, ⟨3, _⟩ => ⟨S16x128, .f32⟩
  | .local _ .vmem, ⟨4, _⟩ => ⟨S16x128, .f32⟩
  | .local _ .vmem, ⟨5, _⟩ => ⟨S16x128, .f32⟩
  | .local _ .vmem, ⟨6, _⟩ => ⟨S16x128, .f32⟩
  | _, _ => ⟨S16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== SpatialBiasStepIdeal.lean ====
abbrev S16x128 : Shape := ⟨2, ![16, 128]⟩

abbrev nBuf : Space → Nat
  | .hbm => 7
  | .vmem => 7
  | .smem => 0
  | _ => 0

abbrev bufTy : (tb : Table) → Fin (tcTables nBuf tb) → BufTy
  | .hbm, ⟨0, _⟩ => ⟨S16x128, .f32⟩
  | .hbm, ⟨1, _⟩ => ⟨S16x128, .f32⟩
  | .hbm, ⟨2, _⟩ => ⟨S16x128, .f32⟩
  | .hbm, ⟨3, _⟩ => ⟨S16x128, .f32⟩
  | .hbm, ⟨4, _⟩ => ⟨S16x128, .f32⟩
  | .hbm, ⟨5, _⟩ => ⟨S16x128, .f32⟩
  | .hbm, ⟨6, _⟩ => ⟨S16x128, .f32⟩
  | .local _ .vmem, ⟨0, _⟩ => ⟨S16x128, .f32⟩
  | .local _ .vmem, ⟨1, _⟩ => ⟨S16x128, .f32⟩
  | .local _ .vmem, ⟨2, _⟩ => ⟨S16x128, .f32⟩
  | .local _ .vmem, ⟨3, _⟩ => ⟨S16x128, .f32⟩
  | .local _ .vmem, ⟨4, _⟩ => ⟨S16x128, .f32⟩
  | .local _ .vmem, ⟨5, _⟩ => ⟨S16x128, .f32⟩
  | .local _ .vmem, ⟨6, _⟩ => ⟨S16x128, .f32⟩
  | _, _ => ⟨S16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F] [Named F]

def κ : String → Option EReal := fun
  | "first_decay" => some (((5463681 / 8388608)⁻¹ : ℝ) : EReal)
  | "second_decay" => some (((2672307 / 268435456)⁻¹ : ℝ) : EReal)
  | _ => none

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== SpatialBiasStepReferenceIdeal.lean ====
abbrev S16x128 : Shape := ⟨2, ![16, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S16x128, .f32⟩
  | .hbm, ⟨1, _⟩ => ⟨S16x128, .f32⟩
  | .hbm, ⟨2, _⟩ => ⟨S16x128, .f32⟩
  | .hbm, ⟨3, _⟩ => ⟨S16x128, .f32⟩
  | .hbm, ⟨4, _⟩ => ⟨S_, .f32⟩
  | .hbm, ⟨5, _⟩ => ⟨S16x128, .f32⟩
  | .hbm, ⟨6, _⟩ => ⟨S16x128, .f32⟩
  | .hbm, ⟨7, _⟩ => ⟨S_, .f32⟩
  | .hbm, ⟨8, _⟩ => ⟨S16x128, .f32⟩
  | .hbm, ⟨9, _⟩ => ⟨S16x128, .f32⟩
  | .hbm, ⟨10, _⟩ => ⟨S16x128, .f32⟩
  | .hbm, ⟨11, _⟩ => ⟨S_, .f32⟩
  | .hbm, ⟨12, _⟩ => ⟨S16x128, .f32⟩
  | .hbm, ⟨13, _⟩ => ⟨S16x128, .f32⟩
  | .hbm, ⟨14, _⟩ => ⟨S16x128, .f32⟩
  | .hbm, ⟨15, _⟩ => ⟨S_, .f32⟩
  | .hbm, ⟨16, _⟩ => ⟨S16x128, .f32⟩
  | .hbm, ⟨17, _⟩ => ⟨S16x128, .f32⟩
  | .hbm, ⟨18, _⟩ => ⟨S16x128, .f32⟩
  | .hbm, ⟨19, _⟩ => ⟨S_, .f32⟩
  | .hbm, ⟨20, _⟩ => ⟨S16x128, .f32⟩
  | .hbm, ⟨21, _⟩ => ⟨S16x128, .f32⟩
  | .hbm, ⟨22, _⟩ => ⟨S_, .f32⟩
  | .hbm, ⟨23, _⟩ => ⟨S16x128, .f32⟩
  | .hbm, ⟨24, _⟩ => ⟨S16x128, .f32⟩
  | .hbm, ⟨25, _⟩ => ⟨S16x128, .f32⟩
  | .hbm, ⟨26, _⟩ => ⟨S_, .f32⟩
  | .hbm, ⟨27, _⟩ => ⟨S16x128, .f32⟩
  | .hbm, ⟨28, _⟩ => ⟨S16x128, .f32⟩
  | .hbm, ⟨29, _⟩ => ⟨S16x128, .f32⟩
  | .hbm, ⟨30, _⟩ => ⟨S_, .f32⟩
  | .hbm, ⟨31, _⟩ => ⟨S16x128, .f32⟩
  | .hbm, ⟨32, _⟩ => ⟨S16x128, .f32⟩
  | .hbm, ⟨33, _⟩ => ⟨S16x128, .f32⟩
  | .hbm, ⟨34, _⟩ => ⟨S_, .f32⟩
  | .hbm, ⟨35, _⟩ => ⟨S16x128, .f32⟩
  | .hbm, ⟨36, _⟩ => ⟨S16x128, .f32⟩
  | _, _ => ⟨S16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== HeadRowsStep.lean ====
abbrev S2x256 : Shape := ⟨2, ![2, 256]⟩

abbrev nBuf : Space → Nat
  | .hbm => 7
  | .vmem => 7
  | .smem => 0
  | _ => 0

abbrev bufTy : (tb : Table) → Fin (tcTables nBuf tb) → BufTy
  | .hbm, ⟨0, _⟩ => ⟨S2x256, .f32⟩
  | .hbm, ⟨1, _⟩ => ⟨S2x256, .f32⟩
  | .hbm, ⟨2, _⟩ => ⟨S2x256, .f32⟩
  | .hbm, ⟨3, _⟩ => ⟨S2x256, .f32⟩
  | .hbm, ⟨4, _⟩ => ⟨S2x256, .f32⟩
  | .hbm, ⟨5, _⟩ => ⟨S2x256, .f32⟩
  | .hbm, ⟨6, _⟩ => ⟨S2x256, .f32⟩
  | .local _ .vmem, ⟨0, _⟩ => ⟨S2x256, .f32⟩
  | .local _ .vmem, ⟨1, _⟩ => ⟨S2x256, .f32⟩
  | .local _ .vmem, ⟨2, _⟩ => ⟨S2x256, .f32⟩
  | .local _ .vmem, ⟨3, _⟩ => ⟨S2x256, .f32⟩
  | .local _ .vmem, ⟨4, _⟩ => ⟨S2x256, .f32⟩
  | .local _ .vmem, ⟨5, _⟩ => ⟨S2x256, .f32⟩
  | .local _ .vmem, ⟨6, _⟩ => ⟨S2x256, .f32⟩
  | _, _ => ⟨S2x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== HeadRowsStepIdeal.lean ====
abbrev S2x256 : Shape := ⟨2, ![2, 256]⟩

abbrev nBuf : Space → Nat
  | .hbm => 7
  | .vmem => 7
  | .smem => 0
  | _ => 0

abbrev bufTy : (tb : Table) → Fin (tcTables nBuf tb) → BufTy
  | .hbm, ⟨0, _⟩ => ⟨S2x256, .f32⟩
  | .hbm, ⟨1, _⟩ => ⟨S2x256, .f32⟩
  | .hbm, ⟨2, _⟩ => ⟨S2x256, .f32⟩
  | .hbm, ⟨3, _⟩ => ⟨S2x256, .f32⟩
  | .hbm, ⟨4, _⟩ => ⟨S2x256, .f32⟩
  | .hbm, ⟨5, _⟩ => ⟨S2x256, .f32⟩
  | .hbm, ⟨6, _⟩ => ⟨S2x256, .f32⟩
  | .local _ .vmem, ⟨0, _⟩ => ⟨S2x256, .f32⟩
  | .local _ .vmem, ⟨1, _⟩ => ⟨S2x256, .f32⟩
  | .local _ .vmem, ⟨2, _⟩ => ⟨S2x256, .f32⟩
  | .local _ .vmem, ⟨3, _⟩ => ⟨S2x256, .f32⟩
  | .local _ .vmem, ⟨4, _⟩ => ⟨S2x256, .f32⟩
  | .local _ .vmem, ⟨5, _⟩ => ⟨S2x256, .f32⟩
  | .local _ .vmem, ⟨6, _⟩ => ⟨S2x256, .f32⟩
  | _, _ => ⟨S2x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F] [Named F]

def κ : String → Option EReal := fun
  | "first_decay" => some (((5463681 / 8388608)⁻¹ : ℝ) : EReal)
  | "second_decay" => some (((2672307 / 268435456)⁻¹ : ℝ) : EReal)
  | _ => none

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== HeadRowsStepReferenceIdeal.lean ====
abbrev S2x256 : Shape := ⟨2, ![2, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x256, .f32⟩
  | .hbm, ⟨1, _⟩ => ⟨S2x256, .f32⟩
  | .hbm, ⟨2, _⟩ => ⟨S2x256, .f32⟩
  | .hbm, ⟨3, _⟩ => ⟨S2x256, .f32⟩
  | .hbm, ⟨4, _⟩ => ⟨S_, .f32⟩
  | .hbm, ⟨5, _⟩ => ⟨S2x256, .f32⟩
  | .hbm, ⟨6, _⟩ => ⟨S2x256, .f32⟩
  | .hbm, ⟨7, _⟩ => ⟨S_, .f32⟩
  | .hbm, ⟨8, _⟩ => ⟨S2x256, .f32⟩
  | .hbm, ⟨9, _⟩ => ⟨S2x256, .f32⟩
  | .hbm, ⟨10, _⟩ => ⟨S2x256, .f32⟩
  | .hbm, ⟨11, _⟩ => ⟨S_, .f32⟩
  | .hbm, ⟨12, _⟩ => ⟨S2x256, .f32⟩
  | .hbm, ⟨13, _⟩ => ⟨S2x256, .f32⟩
  | .hbm, ⟨14, _⟩ => ⟨S2x256, .f32⟩
  | .hbm, ⟨15, _⟩ => ⟨S_, .f32⟩
  | .hbm, ⟨16, _⟩ => ⟨S2x256, .f32⟩
  | .hbm, ⟨17, _⟩ => ⟨S2x256, .f32⟩
  | .hbm, ⟨18, _⟩ => ⟨S2x256, .f32⟩
  | .hbm, ⟨19, _⟩ => ⟨S_, .f32⟩
  | .hbm, ⟨20, _⟩ => ⟨S2x256, .f32⟩
  | .hbm, ⟨21, _⟩ => ⟨S2x256, .f32⟩
  | .hbm, ⟨22, _⟩ => ⟨S_, .f32⟩
  | .hbm, ⟨23, _⟩ => ⟨S2x256, .f32⟩
  | .hbm, ⟨24, _⟩ => ⟨S2x256, .f32⟩
  | .hbm, ⟨25, _⟩ => ⟨S2x256, .f32⟩
  | .hbm, ⟨26, _⟩ => ⟨S_, .f32⟩
  | .hbm, ⟨27, _⟩ => ⟨S2x256, .f32⟩
  | .hbm, ⟨28, _⟩ => ⟨S2x256, .f32⟩
  | .hbm, ⟨29, _⟩ => ⟨S2x256, .f32⟩
  | .hbm, ⟨30, _⟩ => ⟨S_, .f32⟩
  | .hbm, ⟨31, _⟩ => ⟨S2x256, .f32⟩
  | .hbm, ⟨32, _⟩ => ⟨S2x256, .f32⟩
  | .hbm, ⟨33, _⟩ => ⟨S2x256, .f32⟩
  | .hbm, ⟨34, _⟩ => ⟨S_, .f32⟩
  | .hbm, ⟨35, _⟩ => ⟨S2x256, .f32⟩
  | .hbm, ⟨36, _⟩ => ⟨S2x256, .f32⟩
  | _, _ => ⟨S2x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== ConvWeightStep.lean ====
abbrev S12x1408 : Shape := ⟨2, ![12, 1408]⟩

abbrev nBuf : Space → Nat
  | .hbm => 7
  | .vmem => 7
  | .smem => 0
  | _ => 0

abbrev bufTy : (tb : Table) → Fin (tcTables nBuf tb) → BufTy
  | .hbm, ⟨0, _⟩ => ⟨S12x1408, .f32⟩
  | .hbm, ⟨1, _⟩ => ⟨S12x1408, .f32⟩
  | .hbm, ⟨2, _⟩ => ⟨S12x1408, .f32⟩
  | .hbm, ⟨3, _⟩ => ⟨S12x1408, .f32⟩
  | .hbm, ⟨4, _⟩ => ⟨S12x1408, .f32⟩
  | .hbm, ⟨5, _⟩ => ⟨S12x1408, .f32⟩
  | .hbm, ⟨6, _⟩ => ⟨S12x1408, .f32⟩
  | .local _ .vmem, ⟨0, _⟩ => ⟨S12x1408, .f32⟩
  | .local _ .vmem, ⟨1, _⟩ => ⟨S12x1408, .f32⟩
  | .local _ .vmem, ⟨2, _⟩ => ⟨S12x1408, .f32⟩
  | .local _ .vmem, ⟨3, _⟩ => ⟨S12x1408, .f32⟩
  | .local _ .vmem, ⟨4, _⟩ => ⟨S12x1408, .f32⟩
  | .local _ .vmem, ⟨5, _⟩ => ⟨S12x1408, .f32⟩
  | .local _ .vmem, ⟨6, _⟩ => ⟨S12x1408, .f32⟩
  | _, _ => ⟨S12x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S12x1408 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S12x1408 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S12x1408 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S12x1408 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S12x1408 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S12x1408 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S12x1408 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== ConvWeightStepIdeal.lean ====
abbrev S12x1408 : Shape := ⟨2, ![12, 1408]⟩

abbrev nBuf : Space → Nat
  | .hbm => 7
  | .vmem => 7
  | .smem => 0
  | _ => 0

abbrev bufTy : (tb : Table) → Fin (tcTables nBuf tb) → BufTy
  | .hbm, ⟨0, _⟩ => ⟨S12x1408, .f32⟩
  | .hbm, ⟨1, _⟩ => ⟨S12x1408, .f32⟩
  | .hbm, ⟨2, _⟩ => ⟨S12x1408, .f32⟩
  | .hbm, ⟨3, _⟩ => ⟨S12x1408, .f32⟩
  | .hbm, ⟨4, _⟩ => ⟨S12x1408, .f32⟩
  | .hbm, ⟨5, _⟩ => ⟨S12x1408, .f32⟩
  | .hbm, ⟨6, _⟩ => ⟨S12x1408, .f32⟩
  | .local _ .vmem, ⟨0, _⟩ => ⟨S12x1408, .f32⟩
  | .local _ .vmem, ⟨1, _⟩ => ⟨S12x1408, .f32⟩
  | .local _ .vmem, ⟨2, _⟩ => ⟨S12x1408, .f32⟩
  | .local _ .vmem, ⟨3, _⟩ => ⟨S12x1408, .f32⟩
  | .local _ .vmem, ⟨4, _⟩ => ⟨S12x1408, .f32⟩
  | .local _ .vmem, ⟨5, _⟩ => ⟨S12x1408, .f32⟩
  | .local _ .vmem, ⟨6, _⟩ => ⟨S12x1408, .f32⟩
  | _, _ => ⟨S12x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F] [Named F]

def κ : String → Option EReal := fun
  | "first_decay" => some (((5463681 / 8388608)⁻¹ : ℝ) : EReal)
  | "second_decay" => some (((2672307 / 268435456)⁻¹ : ℝ) : EReal)
  | _ => none

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S12x1408 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S12x1408 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S12x1408 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S12x1408 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S12x1408 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S12x1408 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S12x1408 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== ConvWeightStepReferenceIdeal.lean ====
abbrev S12x1408 : Shape := ⟨2, ![12, 1408]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S12x1408, .f32⟩
  | .hbm, ⟨1, _⟩ => ⟨S12x1408, .f32⟩
  | .hbm, ⟨2, _⟩ => ⟨S12x1408, .f32⟩
  | .hbm, ⟨3, _⟩ => ⟨S12x1408, .f32⟩
  | .hbm, ⟨4, _⟩ => ⟨S_, .f32⟩
  | .hbm, ⟨5, _⟩ => ⟨S12x1408, .f32⟩
  | .hbm, ⟨6, _⟩ => ⟨S12x1408, .f32⟩
  | .hbm, ⟨7, _⟩ => ⟨S_, .f32⟩
  | .hbm, ⟨8, _⟩ => ⟨S12x1408, .f32⟩
  | .hbm, ⟨9, _⟩ => ⟨S12x1408, .f32⟩
  | .hbm, ⟨10, _⟩ => ⟨S12x1408, .f32⟩
  | .hbm, ⟨11, _⟩ => ⟨S_, .f32⟩
  | .hbm, ⟨12, _⟩ => ⟨S12x1408, .f32⟩
  | .hbm, ⟨13, _⟩ => ⟨S12x1408, .f32⟩
  | .hbm, ⟨14, _⟩ => ⟨S12x1408, .f32⟩
  | .hbm, ⟨15, _⟩ => ⟨S_, .f32⟩
  | .hbm, ⟨16, _⟩ => ⟨S12x1408, .f32⟩
  | .hbm, ⟨17, _⟩ => ⟨S12x1408, .f32⟩
  | .hbm, ⟨18, _⟩ => ⟨S12x1408, .f32⟩
  | .hbm, ⟨19, _⟩ => ⟨S_, .f32⟩
  | .hbm, ⟨20, _⟩ => ⟨S12x1408, .f32⟩
  | .hbm, ⟨21, _⟩ => ⟨S12x1408, .f32⟩
  | .hbm, ⟨22, _⟩ => ⟨S_, .f32⟩
  | .hbm, ⟨23, _⟩ => ⟨S12x1408, .f32⟩
  | .hbm, ⟨24, _⟩ => ⟨S12x1408, .f32⟩
  | .hbm, ⟨25, _⟩ => ⟨S12x1408, .f32⟩
  | .hbm, ⟨26, _⟩ => ⟨S_, .f32⟩
  | .hbm, ⟨27, _⟩ => ⟨S12x1408, .f32⟩
  | .hbm, ⟨28, _⟩ => ⟨S12x1408, .f32⟩
  | .hbm, ⟨29, _⟩ => ⟨S12x1408, .f32⟩
  | .hbm, ⟨30, _⟩ => ⟨S_, .f32⟩
  | .hbm, ⟨31, _⟩ => ⟨S12x1408, .f32⟩
  | .hbm, ⟨32, _⟩ => ⟨S12x1408, .f32⟩
  | .hbm, ⟨33, _⟩ => ⟨S12x1408, .f32⟩
  | .hbm, ⟨34, _⟩ => ⟨S_, .f32⟩
  | .hbm, ⟨35, _⟩ => ⟨S12x1408, .f32⟩
  | .hbm, ⟨36, _⟩ => ⟨S12x1408, .f32⟩
  | _, _ => ⟨S12x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== ConvBiasStep.lean ====
abbrev S4x5632 : Shape := ⟨2, ![4, 5632]⟩

abbrev nBuf : Space → Nat
  | .hbm => 7
  | .vmem => 7
  | .smem => 0
  | _ => 0

abbrev bufTy : (tb : Table) → Fin (tcTables nBuf tb) → BufTy
  | .hbm, ⟨0, _⟩ => ⟨S4x5632, .f32⟩
  | .hbm, ⟨1, _⟩ => ⟨S4x5632, .f32⟩
  | .hbm, ⟨2, _⟩ => ⟨S4x5632, .f32⟩
  | .hbm, ⟨3, _⟩ => ⟨S4x5632, .f32⟩
  | .hbm, ⟨4, _⟩ => ⟨S4x5632, .f32⟩
  | .hbm, ⟨5, _⟩ => ⟨S4x5632, .f32⟩
  | .hbm, ⟨6, _⟩ => ⟨S4x5632, .f32⟩
  | .local _ .vmem, ⟨0, _⟩ => ⟨S4x5632, .f32⟩
  | .local _ .vmem, ⟨1, _⟩ => ⟨S4x5632, .f32⟩
  | .local _ .vmem, ⟨2, _⟩ => ⟨S4x5632, .f32⟩
  | .local _ .vmem, ⟨3, _⟩ => ⟨S4x5632, .f32⟩
  | .local _ .vmem, ⟨4, _⟩ => ⟨S4x5632, .f32⟩
  | .local _ .vmem, ⟨5, _⟩ => ⟨S4x5632, .f32⟩
  | .local _ .vmem, ⟨6, _⟩ => ⟨S4x5632, .f32⟩
  | _, _ => ⟨S4x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x5632 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x5632 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x5632 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x5632 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x5632 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x5632 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x5632 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== ConvBiasStepIdeal.lean ====
abbrev S4x5632 : Shape := ⟨2, ![4, 5632]⟩

abbrev nBuf : Space → Nat
  | .hbm => 7
  | .vmem => 7
  | .smem => 0
  | _ => 0

abbrev bufTy : (tb : Table) → Fin (tcTables nBuf tb) → BufTy
  | .hbm, ⟨0, _⟩ => ⟨S4x5632, .f32⟩
  | .hbm, ⟨1, _⟩ => ⟨S4x5632, .f32⟩
  | .hbm, ⟨2, _⟩ => ⟨S4x5632, .f32⟩
  | .hbm, ⟨3, _⟩ => ⟨S4x5632, .f32⟩
  | .hbm, ⟨4, _⟩ => ⟨S4x5632, .f32⟩
  | .hbm, ⟨5, _⟩ => ⟨S4x5632, .f32⟩
  | .hbm, ⟨6, _⟩ => ⟨S4x5632, .f32⟩
  | .local _ .vmem, ⟨0, _⟩ => ⟨S4x5632, .f32⟩
  | .local _ .vmem, ⟨1, _⟩ => ⟨S4x5632, .f32⟩
  | .local _ .vmem, ⟨2, _⟩ => ⟨S4x5632, .f32⟩
  | .local _ .vmem, ⟨3, _⟩ => ⟨S4x5632, .f32⟩
  | .local _ .vmem, ⟨4, _⟩ => ⟨S4x5632, .f32⟩
  | .local _ .vmem, ⟨5, _⟩ => ⟨S4x5632, .f32⟩
  | .local _ .vmem, ⟨6, _⟩ => ⟨S4x5632, .f32⟩
  | _, _ => ⟨S4x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F] [Named F]

def κ : String → Option EReal := fun
  | "first_decay" => some (((5463681 / 8388608)⁻¹ : ℝ) : EReal)
  | "second_decay" => some (((2672307 / 268435456)⁻¹ : ℝ) : EReal)
  | _ => none

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x5632 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x5632 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x5632 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x5632 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x5632 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x5632 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x5632 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== ConvBiasStepReferenceIdeal.lean ====
abbrev S4x5632 : Shape := ⟨2, ![4, 5632]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x5632, .f32⟩
  | .hbm, ⟨1, _⟩ => ⟨S4x5632, .f32⟩
  | .hbm, ⟨2, _⟩ => ⟨S4x5632, .f32⟩
  | .hbm, ⟨3, _⟩ => ⟨S4x5632, .f32⟩
  | .hbm, ⟨4, _⟩ => ⟨S_, .f32⟩
  | .hbm, ⟨5, _⟩ => ⟨S4x5632, .f32⟩
  | .hbm, ⟨6, _⟩ => ⟨S4x5632, .f32⟩
  | .hbm, ⟨7, _⟩ => ⟨S_, .f32⟩
  | .hbm, ⟨8, _⟩ => ⟨S4x5632, .f32⟩
  | .hbm, ⟨9, _⟩ => ⟨S4x5632, .f32⟩
  | .hbm, ⟨10, _⟩ => ⟨S4x5632, .f32⟩
  | .hbm, ⟨11, _⟩ => ⟨S_, .f32⟩
  | .hbm, ⟨12, _⟩ => ⟨S4x5632, .f32⟩
  | .hbm, ⟨13, _⟩ => ⟨S4x5632, .f32⟩
  | .hbm, ⟨14, _⟩ => ⟨S4x5632, .f32⟩
  | .hbm, ⟨15, _⟩ => ⟨S_, .f32⟩
  | .hbm, ⟨16, _⟩ => ⟨S4x5632, .f32⟩
  | .hbm, ⟨17, _⟩ => ⟨S4x5632, .f32⟩
  | .hbm, ⟨18, _⟩ => ⟨S4x5632, .f32⟩
  | .hbm, ⟨19, _⟩ => ⟨S_, .f32⟩
  | .hbm, ⟨20, _⟩ => ⟨S4x5632, .f32⟩
  | .hbm, ⟨21, _⟩ => ⟨S4x5632, .f32⟩
  | .hbm, ⟨22, _⟩ => ⟨S_, .f32⟩
  | .hbm, ⟨23, _⟩ => ⟨S4x5632, .f32⟩
  | .hbm, ⟨24, _⟩ => ⟨S4x5632, .f32⟩
  | .hbm, ⟨25, _⟩ => ⟨S4x5632, .f32⟩
  | .hbm, ⟨26, _⟩ => ⟨S_, .f32⟩
  | .hbm, ⟨27, _⟩ => ⟨S4x5632, .f32⟩
  | .hbm, ⟨28, _⟩ => ⟨S4x5632, .f32⟩
  | .hbm, ⟨29, _⟩ => ⟨S4x5632, .f32⟩
  | .hbm, ⟨30, _⟩ => ⟨S_, .f32⟩
  | .hbm, ⟨31, _⟩ => ⟨S4x5632, .f32⟩
  | .hbm, ⟨32, _⟩ => ⟨S4x5632, .f32⟩
  | .hbm, ⟨33, _⟩ => ⟨S4x5632, .f32⟩
  | .hbm, ⟨34, _⟩ => ⟨S_, .f32⟩
  | .hbm, ⟨35, _⟩ => ⟨S4x5632, .f32⟩
  | .hbm, ⟨36, _⟩ => ⟨S4x5632, .f32⟩
  | _, _ => ⟨S4x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdaBiasStep.lean ====
abbrev S4x6144 : Shape := ⟨2, ![4, 6144]⟩

abbrev nBuf : Space → Nat
  | .hbm => 7
  | .vmem => 7
  | .smem => 0
  | _ => 0

abbrev bufTy : (tb : Table) → Fin (tcTables nBuf tb) → BufTy
  | .hbm, ⟨0, _⟩ => ⟨S4x6144, .f32⟩
  | .hbm, ⟨1, _⟩ => ⟨S4x6144, .f32⟩
  | .hbm, ⟨2, _⟩ => ⟨S4x6144, .f32⟩
  | .hbm, ⟨3, _⟩ => ⟨S4x6144, .f32⟩
  | .hbm, ⟨4, _⟩ => ⟨S4x6144, .f32⟩
  | .hbm, ⟨5, _⟩ => ⟨S4x6144, .f32⟩
  | .hbm, ⟨6, _⟩ => ⟨S4x6144, .f32⟩
  | .local _ .vmem, ⟨0, _⟩ => ⟨S4x6144, .f32⟩
  | .local _ .vmem, ⟨1, _⟩ => ⟨S4x6144, .f32⟩
  | .local _ .vmem, ⟨2, _⟩ => ⟨S4x6144, .f32⟩
  | .local _ .vmem, ⟨3, _⟩ => ⟨S4x6144, .f32⟩
  | .local _ .vmem, ⟨4, _⟩ => ⟨S4x6144, .f32⟩
  | .local _ .vmem, ⟨5, _⟩ => ⟨S4x6144, .f32⟩
  | .local _ .vmem, ⟨6, _⟩ => ⟨S4x6144, .f32⟩
  | _, _ => ⟨S4x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x6144 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x6144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x6144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x6144 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x6144 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdaBiasStepIdeal.lean ====
variable {F : FTy → Type} [FloatOps F] [Named F]
def κ : String → Option EReal := fun
  | "first_decay" => some (((5463681 / 8388608)⁻¹ : ℝ) : EReal)
  | "second_decay" => some (((2672307 / 268435456)⁻¹ : ℝ) : EReal)
  | _ => none
-- ==== AdaBiasStepReferenceIdeal.lean ====
abbrev S4x6144 : Shape := ⟨2, ![4, 6144]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x6144, .f32⟩
  | .hbm, ⟨1, _⟩ => ⟨S4x6144, .f32⟩
  | .hbm, ⟨2, _⟩ => ⟨S4x6144, .f32⟩
  | .hbm, ⟨3, _⟩ => ⟨S4x6144, .f32⟩
  | .hbm, ⟨4, _⟩ => ⟨S_, .f32⟩
  | .hbm, ⟨5, _⟩ => ⟨S4x6144, .f32⟩
  | .hbm, ⟨6, _⟩ => ⟨S4x6144, .f32⟩
  | .hbm, ⟨7, _⟩ => ⟨S_, .f32⟩
  | .hbm, ⟨8, _⟩ => ⟨S4x6144, .f32⟩
  | .hbm, ⟨9, _⟩ => ⟨S4x6144, .f32⟩
  | .hbm, ⟨10, _⟩ => ⟨S4x6144, .f32⟩
  | .hbm, ⟨11, _⟩ => ⟨S_, .f32⟩
  | .hbm, ⟨12, _⟩ => ⟨S4x6144, .f32⟩
  | .hbm, ⟨13, _⟩ => ⟨S4x6144, .f32⟩
  | .hbm, ⟨14, _⟩ => ⟨S4x6144, .f32⟩
  | .hbm, ⟨15, _⟩ => ⟨S_, .f32⟩
  | .hbm, ⟨16, _⟩ => ⟨S4x6144, .f32⟩
  | .hbm, ⟨17, _⟩ => ⟨S4x6144, .f32⟩
  | .hbm, ⟨18, _⟩ => ⟨S4x6144, .f32⟩
  | .hbm, ⟨19, _⟩ => ⟨S_, .f32⟩
  | .hbm, ⟨20, _⟩ => ⟨S4x6144, .f32⟩
  | .hbm, ⟨21, _⟩ => ⟨S4x6144, .f32⟩
  | .hbm, ⟨22, _⟩ => ⟨S_, .f32⟩
  | .hbm, ⟨23, _⟩ => ⟨S4x6144, .f32⟩
  | .hbm, ⟨24, _⟩ => ⟨S4x6144, .f32⟩
  | .hbm, ⟨25, _⟩ => ⟨S4x6144, .f32⟩
  | .hbm, ⟨26, _⟩ => ⟨S_, .f32⟩
  | .hbm, ⟨27, _⟩ => ⟨S4x6144, .f32⟩
  | .hbm, ⟨28, _⟩ => ⟨S4x6144, .f32⟩
  | .hbm, ⟨29, _⟩ => ⟨S4x6144, .f32⟩
  | .hbm, ⟨30, _⟩ => ⟨S_, .f32⟩
  | .hbm, ⟨31, _⟩ => ⟨S4x6144, .f32⟩
  | .hbm, ⟨32, _⟩ => ⟨S4x6144, .f32⟩
  | .hbm, ⟨33, _⟩ => ⟨S4x6144, .f32⟩
  | .hbm, ⟨34, _⟩ => ⟨S_, .f32⟩
  | .hbm, ⟨35, _⟩ => ⟨S4x6144, .f32⟩
  | .hbm, ⟨36, _⟩ => ⟨S4x6144, .f32⟩
  | _, _ => ⟨S4x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdaBiasSum.lean ====
abbrev S8x192x128 : Shape := ⟨3, ![8, 192, 128]⟩
abbrev S192x128 : Shape := ⟨2, ![192, 128]⟩
abbrev S1x192x128 : Shape := ⟨3, ![1, 192, 128]⟩

abbrev nBuf : Space → Nat
  | .hbm => 2
  | .vmem => 2
  | .smem => 0
  | _ => 0

abbrev bufTy : (tb : Table) → Fin (tcTables nBuf tb) → BufTy
  | .hbm, ⟨0, _⟩ => ⟨S8x192x128, .f32⟩
  | .hbm, ⟨1, _⟩ => ⟨S192x128, .f32⟩
  | .local _ .vmem, ⟨0, _⟩ => ⟨S8x192x128, .f32⟩
  | .local _ .vmem, ⟨1, _⟩ => ⟨S192x128, .f32⟩
  | _, _ => ⟨S8x192x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x192x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S192x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== AdaBiasSumIdeal.lean ====
abbrev S8x192x128 : Shape := ⟨3, ![8, 192, 128]⟩
abbrev S192x128 : Shape := ⟨2, ![192, 128]⟩
abbrev S1x192x128 : Shape := ⟨3, ![1, 192, 128]⟩

abbrev nBuf : Space → Nat
  | .hbm => 2
  | .vmem => 2
  | .smem => 0
  | _ => 0

abbrev bufTy : (tb : Table) → Fin (tcTables nBuf tb) → BufTy
  | .hbm, ⟨0, _⟩ => ⟨S8x192x128, .f32⟩
  | .hbm, ⟨1, _⟩ => ⟨S192x128, .f32⟩
  | .local _ .vmem, ⟨0, _⟩ => ⟨S8x192x128, .f32⟩
  | .local _ .vmem, ⟨1, _⟩ => ⟨S192x128, .f32⟩
  | _, _ => ⟨S8x192x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x192x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S192x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== AdaBiasSumReferenceIdeal.lean ====
abbrev S8x192x128 : Shape := ⟨3, ![8, 192, 128]⟩
abbrev S_ : Shape := ⟨0, ![]⟩
abbrev S192x128 : Shape := ⟨2, ![192, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x192x128, .f32⟩
  | .hbm, ⟨1, _⟩ => ⟨S_, .f32⟩
  | .hbm, ⟨2, _⟩ => ⟨S192x128, .f32⟩
  | _, _ => ⟨S8x192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== DeviceSum.lean ====
abbrev S8x3136x128 : Shape := ⟨3, ![8, 3136, 128]⟩
abbrev S3136x128 : Shape := ⟨2, ![3136, 128]⟩
abbrev S8x448x128 : Shape := ⟨3, ![8, 448, 128]⟩
abbrev S448x128 : Shape := ⟨2, ![448, 128]⟩
abbrev S1x448x128 : Shape := ⟨3, ![1, 448, 128]⟩

abbrev nBuf : Space → Nat
  | .hbm => 2
  | .vmem => 4
  | .smem => 0
  | _ => 0

abbrev bufTy : (tb : Table) → Fin (tcTables nBuf tb) → BufTy
  | .hbm, ⟨0, _⟩ => ⟨S8x3136x128, .f32⟩
  | .hbm, ⟨1, _⟩ => ⟨S3136x128, .f32⟩
  | .local _ .vmem, ⟨0, _⟩ => ⟨S8x448x128, .f32⟩
  | .local _ .vmem, ⟨1, _⟩ => ⟨S8x448x128, .f32⟩
  | .local _ .vmem, ⟨2, _⟩ => ⟨S448x128, .f32⟩
  | .local _ .vmem, ⟨3, _⟩ => ⟨S448x128, .f32⟩
  | _, _ => ⟨S8x3136x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![7], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x448x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S448x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== DeviceSumReferenceIdeal.lean ====
abbrev S8x3136x128 : Shape := ⟨3, ![8, 3136, 128]⟩
abbrev S_ : Shape := ⟨0, ![]⟩
abbrev S3136x128 : Shape := ⟨2, ![3136, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x3136x128, .f32⟩
  | .hbm, ⟨1, _⟩ => ⟨S_, .f32⟩
  | .hbm, ⟨2, _⟩ => ⟨S3136x128, .f32⟩
  | _, _ => ⟨S8x3136x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== ConvForward.lean ====
abbrev S4096x5632 : Shape := ⟨2, ![4096, 5632]⟩
abbrev S3x5632 : Shape := ⟨2, ![3, 5632]⟩
abbrev S1x5632 : Shape := ⟨2, ![1, 5632]⟩
abbrev S4096x2816 : Shape := ⟨2, ![4096, 2816]⟩
abbrev S512x5632 : Shape := ⟨2, ![512, 5632]⟩
abbrev S8x5632 : Shape := ⟨2, ![8, 5632]⟩
abbrev S512x2816 : Shape := ⟨2, ![512, 2816]⟩
abbrev S8x256 : Shape := ⟨2, ![8, 256]⟩
abbrev S512x256 : Shape := ⟨2, ![512, 256]⟩
abbrev S520x256 : Shape := ⟨2, ![520, 256]⟩
abbrev S3x256 : Shape := ⟨2, ![3, 256]⟩
abbrev S1x256 : Shape := ⟨2, ![1, 256]⟩

abbrev nBuf : Space → Nat
  | .hbm => 4
  | .vmem => 8
  | .smem => 0
  | _ => 0

abbrev bufTy : (tb : Table) → Fin (tcTables nBuf tb) → BufTy
  | .hbm, ⟨0, _⟩ => ⟨S4096x5632, .f32⟩
  | .hbm, ⟨1, _⟩ => ⟨S3x5632, .f32⟩
  | .hbm, ⟨2, _⟩ => ⟨S1x5632, .f32⟩
  | .hbm, ⟨3, _⟩ => ⟨S4096x2816, .bf16⟩
  | .local _ .vmem, ⟨0, _⟩ => ⟨S512x5632, .f32⟩
  | .local _ .vmem, ⟨1, _⟩ => ⟨S512x5632, .f32⟩
  | .local _ .vmem, ⟨2, _⟩ => ⟨S8x5632, .f32⟩
  | .local _ .vmem, ⟨3, _⟩ => ⟨S8x5632, .f32⟩
  | .local _ .vmem, ⟨4, _⟩ => ⟨S3x5632, .f32⟩
  | .local _ .vmem, ⟨5, _⟩ => ⟨S1x5632, .f32⟩
  | .local _ .vmem, ⟨6, _⟩ => ⟨S512x2816, .bf16⟩
  | .local _ .vmem, ⟨7, _⟩ => ⟨S512x2816, .bf16⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32_0 : BitVec 32 := 0#32
  let c11_i32 : BitVec 32 := 11#32
  let v3 : BitVec 32 := Scalar.addi c0_i32_0 c11_i32
  let c1_i32 : BitVec 32 := 1#32
  ⟨c0_i32_0, v3, c1_i32⟩
def k0_mult1 (k0_t1 : Fin k0_t1_loop.trips) : BitVec 32 :=
  let c0_i32_0 : BitVec 32 := 0#32
  let c1_i32 : BitVec 32 := 1#32
  let arg6 : BitVec 32 := Scf.iv c0_i32_0 c1_i32 k0_t1
  let c256_i32 : BitVec 32 := 256#32
  let v4 : BitVec 32 := Scalar.muli arg6 c256_i32
  v4
def k0_mult2 (k0_t1 : Fin k0_t1_loop.trips) : BitVec 32 :=
  let c2816_i32 : BitVec 32 := 2816#32
  let c0_i32_0 : BitVec 32 := 0#32
  let c1_i32 : BitVec 32 := 1#32
  let arg6 : BitVec 32 := Scf.iv c0_i32_0 c1_i32 k0_t1
  let c256_i32_2 : BitVec 32 := 256#32
  let v6 : BitVec 32 := Scalar.muli arg6 c256_i32_2
  let v7 : BitVec 32 := Scalar.addi c2816_i32 v6
  v7
def k0_off1 (k0_t1 : Fin k0_t1_loop.trips) : Fin 2 → Nat :=
  let c0 : Index := 0#32
  let c0_i32_0 : BitVec 32 := 0#32
  let c1_i32 : BitVec 32 := 1#32
  let arg6 : BitVec 32 := Scf.iv c0_i32_0 c1_i32 k0_t1
  let c256_i32 : BitVec 32 := 256#32
  let v4 : BitVec 32 := Scalar.muli arg6 c256_i32
  let v5 : BitVec 32 := v4
  let v9 : Index := Scalar.indexCast v5
  ![0, v9.toNat]
def k0_off2 (k0_t1 : Fin k0_t1_loop.trips) : Fin 2 → Nat :=
  let c0_3 : Index := 0#32
  let c0_i32_0 : BitVec 32 := 0#32
  let c1_i32 : BitVec 32 := 1#32
  let arg6 : BitVec 32 := Scf.iv c0_i32_0 c1_i32 k0_t1
  let c256_i32 : BitVec 32 := 256#32
  let v4 : BitVec 32 := Scalar.muli arg6 c256_i32
  let v5 : BitVec 32 := v4
  let v13 : Index := Scalar.indexCast v5
  ![0, v13.toNat]
def k0_off3 (k0_t1 : Fin k0_t1_loop.trips) : Fin 2 → Nat :=
  let c0_4 : Index := 0#32
  let c0_i32_0 : BitVec 32 := 0#32
  let c1_i32 : BitVec 32 := 1#32
  let arg6 : BitVec 32 := Scf.iv c0_i32_0 c1_i32 k0_t1
  let c256_i32 : BitVec 32 := 256#32
  let v4 : BitVec 32 := Scalar.muli arg6 c256_i32
  let v5 : BitVec 32 := v4
  let v16 : Index := Scalar.indexCast v5
  ![0, v16.toNat]
def k0_off4 (k0_t1 : Fin k0_t1_loop.trips) : Fin 2 → Nat :=
  let c0_5 : Index := 0#32
  let c0_i32_0 : BitVec 32 := 0#32
  let c1_i32 : BitVec 32 := 1#32
  let arg6 : BitVec 32 := Scf.iv c0_i32_0 c1_i32 k0_t1
  let c256_i32 : BitVec 32 := 256#32
  let v4 : BitVec 32 := Scalar.muli arg6 c256_i32
  let v5 : BitVec 32 := v4
  let v18 : Index := Scalar.indexCast v5
  ![0, v18.toNat]
def k0_off5 (k0_t1 : Fin k0_t1_loop.trips) : Fin 2 → Nat :=
  let c0_7 : Index := 0#32
  let c2816_i32 : BitVec 32 := 2816#32
  let c0_i32_0 : BitVec 32 := 0#32
  let c1_i32 : BitVec 32 := 1#32
  let arg6 : BitVec 32 := Scf.iv c0_i32_0 c1_i32 k0_t1
  let c256_i32_2 : BitVec 32 := 256#32
  let v6 : BitVec 32 := Scalar.muli arg6 c256_i32_2
  let v7 : BitVec 32 := Scalar.addi c2816_i32 v6
  let v8 : BitVec 32 := v7
  let v36 : Index := Scalar.indexCast v8
  ![0, v36.toNat]
def k0_off6 (k0_t1 : Fin k0_t1_loop.trips) : Fin 2 → Nat :=
  let c0_8 : Index := 0#32
  let c2816_i32 : BitVec 32 := 2816#32
  let c0_i32_0 : BitVec 32 := 0#32
  let c1_i32 : BitVec 32 := 1#32
  let arg6 : BitVec 32 := Scf.iv c0_i32_0 c1_i32 k0_t1
  let c256_i32_2 : BitVec 32 := 256#32
  let v6 : BitVec 32 := Scalar.muli arg6 c256_i32_2
  let v7 : BitVec 32 := Scalar.addi c2816_i32 v6
  let v8 : BitVec 32 := v7
  let v40 : Index := Scalar.indexCast v8
  ![0, v40.toNat]
def k0_off7 (k0_t1 : Fin k0_t1_loop.trips) : Fin 2 → Nat :=
  let c0_9 : Index := 0#32
  let c2816_i32 : BitVec 32 := 2816#32
  let c0_i32_0 : BitVec 32 := 0#32
  let c1_i32 : BitVec 32 := 1#32
  let arg6 : BitVec 32 := Scf.iv c0_i32_0 c1_i32 k0_t1
  let c256_i32_2 : BitVec 32 := 256#32
  let v6 : BitVec 32 := Scalar.muli arg6 c256_i32_2
  let v7 : BitVec 32 := Scalar.addi c2816_i32 v6
  let v8 : BitVec 32 := v7
  let v43 : Index := Scalar.indexCast v8
  ![0, v43.toNat]
def k0_off8 (k0_t1 : Fin k0_t1_loop.trips) : Fin 2 → Nat :=
  let c0_10 : Index := 0#32
  let c2816_i32 : BitVec 32 := 2816#32
  let c0_i32_0 : BitVec 32 := 0#32
  let c1_i32 : BitVec 32 := 1#32
  let arg6 : BitVec 32 := Scf.iv c0_i32_0 c1_i32 k0_t1
  let c256_i32_2 : BitVec 32 := 256#32
  let v6 : BitVec 32 := Scalar.muli arg6 c256_i32_2
  let v7 : BitVec 32 := Scalar.addi c2816_i32 v6
  let v8 : BitVec 32 := v7
  let v45 : Index := Scalar.indexCast v8
  ![0, v45.toNat]
def k0_off9 (k0_t1 : Fin k0_t1_loop.trips) : Fin 2 → Nat :=
  let c0_15 : Index := 0#32
  let c0_i32_0 : BitVec 32 := 0#32
  let c1_i32 : BitVec 32 := 1#32
  let arg6 : BitVec 32 := Scf.iv c0_i32_0 c1_i32 k0_t1
  let c256_i32 : BitVec 32 := 256#32
  let v4 : BitVec 32 := Scalar.muli arg6 c256_i32
  let v5 : BitVec 32 := v4
  let v73 : Index := Scalar.indexCast v5
  ![0, v73.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x5632 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x5632 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x5632 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x5632 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ConvForwardIdeal.lean ====
variable {F : FTy → Type} [FloatOps F] [Named F]
def κ : String → Option EReal := fun
  | "root_half" => some (((Real.sqrt 2)⁻¹ : ℝ) : EReal)
  | _ => none
-- ==== ConvForwardReferenceIdeal.lean ====
abbrev S4096x5632 : Shape := ⟨2, ![4096, 5632]⟩
abbrev S3x5632 : Shape := ⟨2, ![3, 5632]⟩
abbrev S1x5632 : Shape := ⟨2, ![1, 5632]⟩
abbrev S_ : Shape := ⟨0, ![]⟩
abbrev S2x5632 : Shape := ⟨2, ![2, 5632]⟩
abbrev S4098x5632 : Shape := ⟨2, ![4098, 5632]⟩
abbrev S5632 : Shape := ⟨1, ![5632]⟩
abbrev S4096x2816 : Shape := ⟨2, ![4096, 2816]⟩

abbrev nBuf : Space → Nat
  | .hbm => 45
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S3x5632, .f32⟩
  | .hbm, ⟨2, _⟩ => ⟨S1x5632, .f32⟩
  | .hbm, ⟨3, _⟩ => ⟨S_, .f32⟩
  | .hbm, ⟨4, _⟩ => ⟨S2x5632, .f32⟩
  | .hbm, ⟨5, _⟩ => ⟨S4098x5632, .f32⟩
  | .hbm, ⟨6, _⟩ => ⟨S5632, .f32⟩
  | .hbm, ⟨7, _⟩ => ⟨S1x5632, .f32⟩
  | .hbm, ⟨8, _⟩ => ⟨S5632, .f32⟩
  | .hbm, ⟨9, _⟩ => ⟨S4096x5632, .f32⟩
  | .hbm, ⟨10, _⟩ => ⟨S1x5632, .f32⟩
  | .hbm, ⟨11, _⟩ => ⟨S4096x5632, .f32⟩
  | .hbm, ⟨12, _⟩ => ⟨S4096x5632, .f32⟩
  | .hbm, ⟨13, _⟩ => ⟨S1x5632, .f32⟩
  | .hbm, ⟨14, _⟩ => ⟨S4096x5632, .f32⟩
  | .hbm, ⟨15, _⟩ => ⟨S4096x5632, .f32⟩
  | .hbm, ⟨16, _⟩ => ⟨S1x5632, .f32⟩
  | .hbm, ⟨17, _⟩ => ⟨S5632, .f32⟩
  | .hbm, ⟨18, _⟩ => ⟨S4096x5632, .f32⟩
  | .hbm, ⟨19, _⟩ => ⟨S1x5632, .f32⟩
  | .hbm, ⟨20, _⟩ => ⟨S4096x5632, .f32⟩
  | .hbm, ⟨21, _⟩ => ⟨S4096x5632, .f32⟩
  | .hbm, ⟨22, _⟩ => ⟨S4096x5632, .f32⟩
  | .hbm, ⟨23, _⟩ => ⟨S1x5632, .f32⟩
  | .hbm, ⟨24, _⟩ => ⟨S5632, .f32⟩
  | .hbm, ⟨25, _⟩ => ⟨S4096x5632, .f32⟩
  | .hbm, ⟨26, _⟩ => ⟨S1x5632, .f32⟩
  | .hbm, ⟨27, _⟩ => ⟨S4096x5632, .f32⟩
  | .hbm, ⟨28, _⟩ => ⟨S4096x5632, .f32⟩
  | .hbm, ⟨29, _⟩ => ⟨S4096x5632, .f32⟩
  | .hbm, ⟨30, _⟩ => ⟨S4096x2816, .f32⟩
  | .hbm, ⟨31, _⟩ => ⟨S4096x2816, .f32⟩
  | .hbm, ⟨32, _⟩ => ⟨S_, .f32⟩
  | .hbm, ⟨33, _⟩ => ⟨S4096x2816, .f32⟩
  | .hbm, ⟨34, _⟩ => ⟨S4096x2816, .f32⟩
  | .hbm, ⟨35, _⟩ => ⟨S4096x2816, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S4096x2816, .f32⟩
  | .hbm, ⟨40, _⟩ => ⟨S4096x2816, .f32⟩
  | .hbm, ⟨41, _⟩ => ⟨S4096x2816, .f32⟩
  | .hbm, ⟨42, _⟩ => ⟨S4096x2816, .f32⟩
  | .hbm, ⟨43, _⟩ => ⟨S4096x2816, .f32⟩
  | .hbm, ⟨44, _⟩ => ⟨S4096x2816, .bf16⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_cst_0 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_cst_1 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩

abbrev nD : Nat := 1
abbrev τ : Topo := Topo.v7x

variable {F : FTy → Type} [FloatOps F]
-- ==== Proof.GatingReals.lean ====
/-
  The gradient of the gMLP gating unit on the reals: the functions of one layer's saved activation `A`, incoming
  gradient `G`, norm gain `lg` and bias `lb`, spatial weights `W` and spatial bias `B`, written once, to which
  both the kernel's blocks and the reference's term are read (Proof/Tile*.lean, Proof/Reference*.lean).

  `A` has 4096 tokens and 2 · 2048 channels: the first half is the branch `u`, the second the branch `v` that is
  normalized and mixed over the 128 positions of a block, separately in each of the 8 heads of 256 channels.
-/
module

public import Idealize.ShloMosaic.PureOps.Ideal
public import Idealize.ShloMosaic.PureOps.Ideal.Laws
public import Mathlib.MeasureTheory.Integral.IntervalIntegral.Basic

@[expose] public section

noncomputable section

namespace Cert.Gating

open Idealize.ShloMosaic

/-! ## The activation -/

/-- The error function. -/
def erfR (x : ℝ) : ℝ := 2 / Real.sqrt Real.pi * ∫ t in (0 : ℝ)..x, Real.exp (-(t ^ 2))

/-- The normal distribution function, as both programs write it: `½ (1 + erf (x · (√2)⁻¹))`. -/
def cdf (x : ℝ) : ℝ := (1 / 2) * (1 + erfR (x * (Real.sqrt 2)⁻¹))

/-- The normal density `exp (-½ x²) · (√(2π))⁻¹`. -/
def pdf (x : ℝ) : ℝ := Real.exp (-(1 / 2) * x * x) * (Real.sqrt (2 * Real.pi))⁻¹

/-- The derivative of the activation `x · cdf x`. -/
def slope (x : ℝ) : ℝ := cdf x + x * pdf x

/-- The reference differentiates `½ x · erfc (-x · (√2)⁻¹)` by the chain rule, with `-2/√π` the derivative's constant
    at the origin: the same slope. -/
theorem slope_eq (g x : ℝ) :
    -(-(2 * (Real.sqrt Real.pi)⁻¹) * (1 / 2 * x * g) * Real.exp (-(-x * (Real.sqrt 2)⁻¹ * (-x * (Real.sqrt 2)⁻¹)))
        * (Real.sqrt 2)⁻¹) + 1 / 2 * (g * (1 + erfR (x * (Real.sqrt 2)⁻¹))) = g * slope x := by
  have h2 : (Real.sqrt 2)⁻¹ * (Real.sqrt 2)⁻¹ = 1 / 2 := by
    rw [← mul_inv, Real.mul_self_sqrt (by norm_num)]; norm_num
  have e : -(-x * (Real.sqrt 2)⁻¹ * (-x * (Real.sqrt 2)⁻¹)) = -(1 / 2) * x * x := by
    calc _ = -(x * x * ((Real.sqrt 2)⁻¹ * (Real.sqrt 2)⁻¹)) := by ring
      _ = _ := by rw [h2]; ring
  rw [e, slope, cdf, pdf, Real.sqrt_mul (by norm_num), mul_inv]
  ring

/-! ## A sum over a row of 2048 channels -/

/-- THE NORM'S GRADIENT. With `v` centred (its sum is zero) and `r` the inverse root of `s = var + ε`, the reference's
    chain rule through mean, variance and root gives the kernel's closed form
    `r (q - mean q - v̂ · mean (q v̂))`, where `v̂ = v r`. -/
theorem norm_grad {n : ℕ} (v q : Fin n → ℝ) (s : ℝ) (hs : 0 < s) (hv : ∑ k, v k = 0) (i : Fin n) :
    (q i * (Real.sqrt s)⁻¹ + (∑ k, v k * q k) * (-(1 / 2) * ((Real.sqrt s)⁻¹ / s)) / 2048 * (2 * v i))
        + ((∑ k, -(q k * (Real.sqrt s)⁻¹)) + ∑ k, -((∑ l, v l * q l) * (-(1 / 2) * ((Real.sqrt s)⁻¹ / s)) / 2048 * (2 * v k))) / 2048
      = (Real.sqrt s)⁻¹ * (q i - (∑ k, q k) / 2048
          - v i * (Real.sqrt s)⁻¹ * ((∑ k, q k * (v k * (Real.sqrt s)⁻¹)) / 2048)) := by
  have h0 : ∑ k, -((∑ l, v l * q l) * (-(1 / 2) * ((Real.sqrt s)⁻¹ / s)) / 2048 * (2 * v k)) = 0 := by
    rw [Finset.sum_neg_distrib, ← Finset.mul_sum, ← Finset.mul_sum, hv]; ring
  have h1 : ∑ k, -(q k * (Real.sqrt s)⁻¹) = -((∑ k, q k) * (Real.sqrt s)⁻¹) := by
    rw [Finset.sum_neg_distrib, Finset.sum_mul]
  have h2 : ∑ k, q k * (v k * (Real.sqrt s)⁻¹) = (∑ k, v k * q k) * (Real.sqrt s)⁻¹ := by
    rw [Finset.sum_mul]; exact Finset.sum_congr rfl fun k _ => by ring
  have hr : s⁻¹ = (Real.sqrt s)⁻¹ * (Real.sqrt s)⁻¹ := by
    rw [← mul_inv, Real.mul_self_sqrt hs.le]
  rw [h0, h1, h2, div_eq_mul_inv (Real.sqrt s)⁻¹ s, hr]
  ring

/-! ## The functions

Rows are tokens and columns channels, both counted by naturals: a block of the kernel reads the same functions at
rows shifted by its first token (`shift` below). -/

section Functions

variable (A G : ℕ → ℕ → ℝ) (lg lb : ℕ → ℝ) (W : ℕ → ℕ → ℕ → ℝ) (B : ℕ → ℕ → ℝ) (ε : ℝ)

/-- The branch `v`: the activation of the second half of the channels. -/
def act (i j : ℕ) : ℝ := A i (2048 + j) * cdf (A i (2048 + j))

def mean (i : ℕ) : ℝ := (∑ k : Fin 2048, act A i k) / 2048

def centred (i j : ℕ) : ℝ := act A i j - mean A i

def spread (i : ℕ) : ℝ := (∑ k : Fin 2048, centred A i k * centred A i k) / 2048 + ε

/-- The inverse standard deviation of a row. -/
def rstd (i : ℕ) : ℝ := (Real.sqrt (spread A ε i))⁻¹

/-- The normalized branch. -/
def normed (i j : ℕ) : ℝ := centred A i j * rstd A ε i

/-- The normalized branch under gain and bias, which the spatial weights mix. -/
def scaled (i j : ℕ) : ℝ := normed A ε i j * lg j + lb j

/-- The spatial weights of head `h`, causal over chunks of 64 positions. -/
def weight (h n k : ℕ) : ℝ := if k / 64 ≤ n / 64 then W h n k else 0

/-- The gate: position `i % 128` of block `i / 128` mixes the block's 128 positions, with the weights of the
    channel's head. -/
def gate (i j : ℕ) : ℝ :=
  (∑ k : Fin 128, weight W (j / 256) (i % 128) k * scaled A lg lb ε (i / 128 * 128 + k) j) + B (j / 256) (i % 128)

/-- The gradient of the gate. -/
def dgate (i j : ℕ) : ℝ := G i j * (A i j * cdf (A i j))

/-- The gradient of the saved activation's first half. -/
def duLeft (i j : ℕ) : ℝ := G i j * gate A lg lb W B ε i j * slope (A i j)

/-- The gradient of the mixed branch: the transposed weights. -/
def dscaled (i j : ℕ) : ℝ :=
  ∑ k : Fin 128, weight W (j / 256) k (i % 128) * dgate A G (i / 128 * 128 + k) j

def dnormed (i j : ℕ) : ℝ := dscaled A G W i j * lg j

/-- The gradient of the branch `v`, through the norm. -/
def dact (i j : ℕ) : ℝ :=
  rstd A ε i * (dnormed A G lg W i j - (∑ k : Fin 2048, dnormed A G lg W i k) / 2048
    - normed A ε i j * ((∑ k : Fin 2048, dnormed A G lg W i k * normed A ε i k) / 2048))

/-- The gradient of the saved activation's second half. -/
def duRight (i j : ℕ) : ℝ := dact A G lg W ε i j * slope (A i (2048 + j))

/-- The gradient of the saved activation: both halves of the channels. -/
def dsaved (i j : ℕ) : ℝ := if j < 2048 then duLeft A G lg lb W B ε i j else duRight A G lg W ε i (j - 2048)

/-- One block's share of the gradient of the spatial weights, before the mask. -/
def dweightBlock (c h n k : ℕ) : ℝ :=
  ∑ d : Fin 256, dgate A G (c * 128 + n) (h * 256 + d) * scaled A lg lb ε (c * 128 + k) (h * 256 + d)

variable {A G lg lb W B ε}

theorem act_congr {A A' : ℕ → ℕ → ℝ} {i i' : ℕ} (h : ∀ j, A i j = A' i' j) (j : ℕ) : act A i j = act A' i' j := by
  simp only [act, h]

theorem normed_congr {A A' : ℕ → ℕ → ℝ} {i i' : ℕ} (h : ∀ j, A i j = A' i' j) (j : ℕ) :
    normed A ε i j = normed A' ε i' j := by
  simp only [normed, rstd, spread, centred, mean, act_congr h]

theorem rstd_congr {A A' : ℕ → ℕ → ℝ} {i i' : ℕ} (h : ∀ j, A i j = A' i' j) : rstd A ε i = rstd A' ε i' := by
  simp only [rstd, spread, centred, mean, act_congr h]

theorem scaled_congr {A A' : ℕ → ℕ → ℝ} {i i' : ℕ} (h : ∀ j, A i j = A' i' j) (j : ℕ) :
    scaled A lg lb ε i j = scaled A' lg lb ε i' j := by
  simp only [scaled, normed_congr h]

/-- A block of 256 tokens starting at a multiple of 128 sees the whole functions. -/
def Shifted (b : ℕ) (A A' : ℕ → ℕ → ℝ) : Prop := ∀ i < 256, ∀ j, A' i j = A (b * 128 + i) j

section Shift

variable {b : ℕ} {A' G' : ℕ → ℕ → ℝ} (hA : Shifted b A A') (hG : Shifted b G G')
include hA

theorem scaled_shift (i : ℕ) (hi : i < 256) (j : ℕ) : scaled A' lg lb ε i j = scaled A lg lb ε (b * 128 + i) j :=
  scaled_congr (hA i hi) j

theorem normed_shift (i : ℕ) (hi : i < 256) (j : ℕ) : normed A' ε i j = normed A ε (b * 128 + i) j :=
  normed_congr (hA i hi) j

theorem gate_shift (i : ℕ) (hi : i < 256) (j : ℕ) : gate A' lg lb W B ε i j = gate A lg lb W B ε (b * 128 + i) j := by
  have e : (b * 128 + i) % 128 = i % 128 := by omega
  simp only [gate, e]
  congr 1
  refine Finset.sum_congr rfl fun k _ => ?_
  rw [scaled_shift hA _ (by omega)]
  congr 2; omega

include hG

theorem dgate_shift (i : ℕ) (hi : i < 256) (j : ℕ) : dgate A' G' i j = dgate A G (b * 128 + i) j := by
  simp only [dgate, hA i hi, hG i hi]

theorem duLeft_shift (i : ℕ) (hi : i < 256) (j : ℕ) :
    duLeft A' G' lg lb W B ε i j = duLeft A G lg lb W B ε (b * 128 + i) j := by
  simp only [duLeft, hA i hi, hG i hi, gate_shift hA i hi]

theorem dscaled_shift (i : ℕ) (hi : i < 256) (j : ℕ) : dscaled A' G' W i j = dscaled A G W (b * 128 + i) j := by
  have e : (b * 128 + i) % 128 = i % 128 := by omega
  simp only [dscaled, e]
  refine Finset.sum_congr rfl fun k _ => ?_
  rw [dgate_shift hA hG _ (by omega)]
  congr 2; omega

theorem duRight_shift (i : ℕ) (hi : i < 256) (j : ℕ) :
    duRight A' G' lg W ε i j = duRight A G lg W ε (b * 128 + i) j := by
  simp only [duRight, dact, dnormed, dscaled_shift hA hG i hi, normed_shift hA i hi, rstd_congr (hA i hi), hA i hi]

theorem dsaved_shift (i : ℕ) (hi : i < 256) (j : ℕ) :
    dsaved A' G' lg lb W B ε i j = dsaved A G lg lb W B ε (b * 128 + i) j := by
  simp only [dsaved, duLeft_shift hA hG i hi, duRight_shift hA hG i hi]

theorem dweightBlock_shift (c : ℕ) (hc : c < 2) (h n k : ℕ) (hn : n < 128) (hk : k < 128) :
    dweightBlock A' G' lg lb ε c h n k = dweightBlock A G lg lb ε (b + c) h n k := by
  simp only [dweightBlock]
  refine Finset.sum_congr rfl fun d _ => ?_
  rw [dgate_shift hA hG _ (by omega), scaled_shift hA _ (by omega)]
  congr 2 <;> omega

end Shift

end Functions

/-! ## Positivity -/

theorem spread_pos {A : ℕ → ℕ → ℝ} {ε : ℝ} (hε : 0 < ε) (i : ℕ) : 0 < spread A ε i :=
  add_pos_of_nonneg_of_pos (div_nonneg (Finset.sum_nonneg fun _ _ => mul_self_nonneg _) (by norm_num)) hε

theorem sum_centred (A : ℕ → ℕ → ℝ) (i : ℕ) : ∑ k : Fin 2048, centred A i k = 0 := by
  simp only [centred, Finset.sum_sub_distrib, Finset.sum_const, Finset.card_univ, Fintype.card_fin, mean, nsmul_eq_mul]
  push_cast; ring

end Cert.Gating

end
-- ==== Proof.Lift.lean ====
/-
  Extended reals that are reals: the programs' constants as reals, and finite sums of reals inside the extended reals.
  Every entry of a program's argument is a real number (the precondition), so every value it computes is one too; the
  lemmas here carry the operations through the coercion.
-/
module

public import Idealize.ShloMosaic.PureOps.Ideal
public import Idealize.ShloMosaic.PureOps.Ideal.Laws
public import Idealize.ShloMosaic.PureOps.IdealRules
public import proofs.«01_k».proof.Proof.GatingReals

@[expose] public section

noncomputable section

namespace Cert.Lift

open Idealize.ShloMosaic

/-! ## Constants -/

theorem ofBits_half : Ideal.ofBits .f32 0x3F000000#32 = ((1 / 2 : ℝ) : EReal) := by
  simp [Ideal.ofBits, Ideal.ieee, -EReal.coe_mul]; norm_num

theorem ofBits_neg_half : Ideal.ofBits .f32 0xBF000000#32 = ((-(1 / 2) : ℝ) : EReal) := by
  simp [Ideal.ofBits, Ideal.ieee, -EReal.coe_mul, -EReal.coe_neg]; norm_num

theorem ofBits_one : Ideal.ofBits .f32 0x3F800000#32 = ((1 : ℝ) : EReal) := by
  simp [Ideal.ofBits, Ideal.ieee, -EReal.coe_mul, -EReal.coe_one]; norm_num

theorem ofBits_two : Ideal.ofBits .f32 0x40000000#32 = ((2 : ℝ) : EReal) := by
  simp [Ideal.ofBits, Ideal.ieee, -EReal.coe_mul]; norm_num

theorem ofBits_2048 : Ideal.ofBits .f32 0x45000000#32 = ((2048 : ℝ) : EReal) := by
  simp [Ideal.ofBits, Ideal.ieee, -EReal.coe_mul]; norm_num

theorem ofBits_zero : Ideal.ofBits .f32 0x00000000#32 = ((0 : ℝ) : EReal) := by
  simp [Ideal.ofBits, Ideal.ieee, -EReal.coe_mul]

/-- The value the norm's `1e-6` has as a float, a positive real. -/
def eps : ℝ := 8796093 / 8796093022208

theorem eps_pos : 0 < eps := by norm_num [eps]

theorem ofBits_eps : Ideal.ofBits .f32 0x358637BD#32 = ((eps : ℝ) : EReal) := by
  simp [Ideal.ofBits, Ideal.ieee, -EReal.coe_mul, eps]; norm_num

/-! ## Reals inside the extended reals -/

theorem coe_sum {n : ℕ} (f : Fin n → ℝ) : ∑ k : Fin n, ((f k : ℝ) : EReal) = ((∑ k : Fin n, f k : ℝ) : EReal) := by
  have h : ∀ s : Finset (Fin n), ∑ k ∈ s, ((f k : ℝ) : EReal) = ((∑ k ∈ s, f k : ℝ) : EReal) := by
    intro s
    induction s using Finset.cons_induction with
    | empty => simp
    | cons a s ha ih => rw [Finset.sum_cons, Finset.sum_cons, ih, EReal.coe_add]
  exact h _

theorem sum_lift {n : ℕ} {f : Fin n → EReal} {g : Fin n → ℝ} (h : ∀ k, f k = ((g k : ℝ) : EReal)) :
    ∑ k : Fin n, f k = ((∑ k : Fin n, g k : ℝ) : EReal) :=
  (Finset.sum_congr rfl fun k _ => h k).trans (coe_sum g)

theorem erf_lift (x : ℝ) : Ideal.erf ((x : ℝ) : EReal) = ((Gating.erfR x : ℝ) : EReal) := Ideal.erf_coe x

theorem div_lift (x y : ℝ) (h : y ≠ 0) : Ideal.div ((x : ℝ) : EReal) ((y : ℝ) : EReal) = ((x / y : ℝ) : EReal) := by
  rw [Ideal.div_coe h, ← EReal.coe_mul]; congr 1; ring

theorem div_2048_lift (x : ℝ) : Ideal.div ((x : ℝ) : EReal) ((2048 : ℝ) : EReal) = ((x / 2048 : ℝ) : EReal) :=
  div_lift x 2048 (by norm_num)

theorem rsqrt_lift (x : ℝ) (h : 0 < x) : Ideal.rsqrt ((x : ℝ) : EReal) = (((Real.sqrt x)⁻¹ : ℝ) : EReal) := by
  rw [Ideal.rsqrt_coe, if_neg (not_lt.mpr h.le), if_neg h.ne']

end Cert.Lift

end
-- ==== Proof.TileValues.lean ====
/-
  What one grid point computes, read at an index: each piece the kernel body stores or accumulates, as the real
  functions of Proof/GatingReals.lean at the rows and channels of the tile. The tiles of the other heads and blocks are
  the same functions of other loads, so one statement each serves all sixteen.
-/
module

public import proofs.«01_k».proof.Proof.Gen.KernelIdeal.Skeleton
public import proofs.«01_k».proof.Proof.Lift
public import Idealize.ShloMosaic.Lib.Pointwise
public import Idealize.ShloMosaic.Lib.Pipeline.ValueKit

@[expose] public section

set_option maxRecDepth 16384

noncomputable section

namespace Cert.Tile

open Idealize.ShloMosaic Cert.KernelIdeal Cert.KernelIdeal.Gen Cert.Gating Cert.Lift

/-! ## Scalars -/

theorem root_half : (Named.named κ "root_half" 0x3F3504F3#32 : Ideal .f32) = (((Real.sqrt 2)⁻¹ : ℝ) : EReal) :=
  IdealRules.named_const.ideal_named_scalar κ "root_half" (φ := .f32) _ _ rfl

theorem inv_root_two_pi :
    (Named.named κ "inv_root_two_pi" 0x3ECC422A#32 : Ideal .f32) = (((Real.sqrt (2 * Real.pi))⁻¹ : ℝ) : EReal) :=
  IdealRules.named_const.ideal_named_scalar κ "inv_root_two_pi" (φ := .f32) _ _ rfl

/-- The kernel's normal distribution function of a real. -/
theorem cdf_lift (x : ℝ) :
    Ideal.ofBits .f32 0x3F000000#32 * (1 + FloatOps.erf (F := Ideal) (φ := .f32)
      (((x : ℝ) : EReal) * Named.named κ "root_half" 0x3F3504F3#32)) = ((cdf x : ℝ) : EReal) := by
  rw [root_half, ofBits_half, ← EReal.coe_mul]
  show _ * (1 + Ideal.erf _) = _
  rw [erf_lift, ← EReal.coe_one, ← EReal.coe_add, ← EReal.coe_mul, cdf]

/-- The kernel's derivative of the activation. -/
theorem slope_lift (x : ℝ) :
    ((cdf x : ℝ) : EReal) + (x : EReal) * (Ideal.exp (Ideal.ofBits .f32 0xBF000000#32 * (x : EReal) * (x : EReal))
      * (Named.named κ "inv_root_two_pi" 0x3ECC422A#32 : Ideal .f32)) = ((slope x : ℝ) : EReal) := by
  rw [inv_root_two_pi, ofBits_neg_half, ← EReal.coe_mul, ← EReal.coe_mul, Ideal.exp_coe, ← EReal.coe_mul,
    ← EReal.coe_mul, ← EReal.coe_add, Cert.Gating.slope, pdf]

/-! ## The mask -/

/-- The chunk of a position: its quotient by 64, as the kernel computes a floored division. -/
theorem chunk_word : ∀ n : Fin 128,
    Scalar.select
      (IntOp.andi
        (IntOp.cmpi .ne
          (IntOp.subi (BitVec.setWidth 32 (IntOp.cmpi .sgt (BitVec.ofNat 32 n) 0#32))
            (BitVec.setWidth 32 (IntOp.cmpi .slt (BitVec.ofNat 32 n) 0#32))) 1#32)
        (IntOp.cmpi .ne (IntOp.remsi .vector (BitVec.ofNat 32 n) 64#32) 0#32))
      (IntOp.subi (IntOp.divsi .vector (BitVec.ofNat 32 n) 64#32) 1#32)
      (IntOp.divsi .vector (BitVec.ofNat 32 n) 64#32) = BitVec.ofNat 32 (n / 64) := by
  decide +kernel

theorem chunk_le : ∀ p q : Fin 2, IntOp.cmpi .sge (BitVec.ofNat 32 p) (BitVec.ofNat 32 q) = if q.val ≤ p.val then 1#1 else 0#1 := by
  decide +kernel

/-- The mask of the spatial weights: a position reads the positions of no later chunk. -/
abbrev maskBits : IVec S128x128 1 :=
  k0_pay26 k0_pay23 (iota .tc S128x128 32 [1] iota_S128x128_d1_w32) 64#32 k0_pay24 k0_pay25 1#32

theorem maskBits_apply (n k : Fin 128) :
    maskBits (ix2 n k) = if (k : ℕ) / 64 ≤ n / 64 then 1#1 else 0#1 := by
  pointwise [maskBits, k0_pay26, k0_pay23, k0_pay24, k0_pay25]
  refine (congrArg₂ (IntOp.cmpi .sge) (chunk_word n) (chunk_word k)).trans ?_
  exact chunk_le ⟨n / 64, by omega⟩ ⟨k / 64, by omega⟩

theorem select_mask (n k : Fin 128) (x y : ℝ) :
    Scalar.select (maskBits (ix2 n k)) ((x : EReal)) (y : EReal) = ((if (k : ℕ) / 64 ≤ n / 64 then x else y : ℝ) : EReal) := by
  rw [maskBits_apply]; split <;> rfl

/-! ## The rows of a block: the norm -/

section Rows

variable {A : ℕ → ℕ → ℝ} {v : Vec Ideal S256x2048 .f32} (hv : ∀ n d, v (ix2 n d) = ((A n (2048 + d) : ℝ) : EReal))
include hv

theorem centred_apply (n : Fin 256) (d : Fin 2048) : k0_pay17 v (ix2 n d) = ((centred A n d : ℝ) : EReal) := by
  pointwise [k0_pay17, k0_pay16]
  simp only [hv, cdf_lift, ← EReal.coe_mul]
  rw [coe_sum fun k : Fin 2048 => A n (2048 + k) * cdf (A n (2048 + k)), ofBits_2048, div_2048_lift, ← EReal.coe_sub]
  rfl

theorem rstd_apply (n : Fin 256) (d : Fin 1) : k0_pay18 v (ix2 n d) = ((rstd A eps n : ℝ) : EReal) := by
  have e : k0_pay18 v (ix2 n d) = Ideal.rsqrt (Ideal.div (∑ x : Fin 2048, k0_pay17 v (ix2 n x) * k0_pay17 v (ix2 n x))
      (Ideal.ofBits .f32 0x45000000#32) + Ideal.ofBits .f32 0x358637BD#32) := by
    pointwise [k0_pay18]
  rw [e]
  simp only [centred_apply hv, ← EReal.coe_mul]
  rw [coe_sum fun k : Fin 2048 => centred A n k * centred A n k, ofBits_2048, div_2048_lift, ofBits_eps, ← EReal.coe_add]
  exact rsqrt_lift _ (spread_pos eps_pos n)

theorem normed_apply (n : Fin 256) (d : Fin 2048) : k0_pay19 v (ix2 n d) = ((normed A eps n d : ℝ) : EReal) := by
  have e : k0_pay19 v (ix2 n d) = k0_pay17 v (ix2 n d) * k0_pay18 v (ix2 n 0) := by
    pointwise [k0_pay19]
  rw [e, centred_apply hv, rstd_apply hv, ← EReal.coe_mul]
  rfl

variable {lg lb : ℕ → ℝ} {g b : Vec Ideal S1x2048 .f32} (hg : ∀ d, g (ix2 0 d) = ((lg d : ℝ) : EReal))
  (hb : ∀ d, b (ix2 0 d) = ((lb d : ℝ) : EReal))
include hg hb

theorem scaled_apply (n : Fin 256) (d : Fin 2048) :
    k0_pay22 (k0_pay20 (k0_pay19 v) g) (k0_pay21 b) (ix2 n d) = ((scaled A lg lb eps n d : ℝ) : EReal) := by
  have e : k0_pay22 (k0_pay20 (k0_pay19 v) g) (k0_pay21 b) (ix2 n d) = k0_pay19 v (ix2 n d) * g (ix2 0 d) + b (ix2 0 d) := by
    pointwise [k0_pay22, k0_pay20, k0_pay21]
  rw [e, normed_apply hv, hg, hb, ← EReal.coe_mul, ← EReal.coe_add]
  rfl

omit hb

/-- The gradient of the second half of the channels, from the gradient `q` of the mixed branch. -/
theorem duRight_apply {G : ℕ → ℕ → ℝ} {W : ℕ → ℕ → ℕ → ℝ} {q : Vec Ideal S256x2048 .f32}
    (hq : ∀ n d, q (ix2 n d) = ((dscaled A G W n d : ℝ) : EReal)) (n : Fin 256) (d : Fin 2048) :
    k0_pay1 v (k0_pay16 v) (k0_pay173 (k0_pay18 v) q (k0_pay19 v) g) (k0_pay174 v) (ix2 n d)
      = ((duRight A G lg W eps n d : ℝ) : EReal) := by
  have e : k0_pay1 v (k0_pay16 v) (k0_pay173 (k0_pay18 v) q (k0_pay19 v) g) (k0_pay174 v) (ix2 n d)
      = k0_pay18 v (ix2 n 0) * (q (ix2 n d) * g (ix2 0 d)
            - Ideal.div (∑ x, q (ix2 n x) * g (ix2 0 x)) (Ideal.ofBits .f32 0x45000000#32)
            - k0_pay19 v (ix2 n d) * Ideal.div (∑ x, q (ix2 n x) * g (ix2 0 x) * k0_pay19 v (ix2 n x)) (Ideal.ofBits .f32 0x45000000#32))
          * (Ideal.ofBits .f32 0x3F000000#32 * (1 + FloatOps.erf (F := Ideal) (φ := .f32) (v (ix2 n d) * Named.named κ "root_half" 0x3F3504F3#32))
            + v (ix2 n d) * (Ideal.exp (Ideal.ofBits .f32 0xBF000000#32 * v (ix2 n d) * v (ix2 n d))
              * (Named.named κ "inv_root_two_pi" 0x3ECC422A#32 : Ideal .f32))) := by
    pointwise [k0_pay1, k0_pay173, k0_pay174, k0_pay16]
  rw [e, hv, cdf_lift, slope_lift]
  simp only [rstd_apply hv, normed_apply hv, hq, hg, ← EReal.coe_mul]
  rw [coe_sum fun k : Fin 2048 => dscaled A G W n k * lg k,
    coe_sum fun k : Fin 2048 => dscaled A G W n k * lg k * normed A eps n k, ofBits_2048, div_2048_lift, div_2048_lift]
  simp only [← EReal.coe_mul, ← EReal.coe_sub]
  rfl

end Rows

/-! ## The sums over a block's rows -/

theorem gainStep_apply {q u : Vec Ideal S256x2048 .f32} {o : Vec Ideal S1x2048 .f32} {Q U : ℕ → ℕ → ℝ} {O : ℕ → ℝ}
    (hq : ∀ n d, q (ix2 n d) = ((Q n d : ℝ) : EReal)) (hu : ∀ n d, u (ix2 n d) = ((U n d : ℝ) : EReal))
    (ho : ∀ d, o (ix2 0 d) = ((O d : ℝ) : EReal)) (d : Fin 2048) :
    k0_pay171 q u o (ix2 0 d) = ((O d + ∑ n : Fin 256, Q n d * U n d : ℝ) : EReal) := by
  pointwise [k0_pay171]
  simp only [hq, hu, ho, ← EReal.coe_mul]
  rw [coe_sum fun n : Fin 256 => Q n d * U n d, ← EReal.coe_add]

theorem biasStep_apply {q : Vec Ideal S256x2048 .f32} {o : Vec Ideal S1x2048 .f32} {Q : ℕ → ℕ → ℝ} {O : ℕ → ℝ}
    (hq : ∀ n d, q (ix2 n d) = ((Q n d : ℝ) : EReal))
    (ho : ∀ d, o (ix2 0 d) = ((O d : ℝ) : EReal)) (d : Fin 2048) :
    k0_pay172 q o (ix2 0 d) = ((O d + ∑ n : Fin 256, Q n d : ℝ) : EReal) := by
  pointwise [k0_pay172]
  simp only [hq, ho]
  rw [coe_sum fun n : Fin 256 => Q n d, ← EReal.coe_add]

/-! ## The tile of one block and one head -/

section Tiles

variable {w : Vec Ideal S1x128x128 .f32} {vn : Vec Ideal S128x256 .bf16} {b : Vec Ideal S1x128x1 .f32} {a g : Vec Ideal S128x256 .f32}
  {ω : ℕ → ℕ → ℝ} {ν α γ : ℕ → ℕ → ℝ} {β : ℕ → ℝ}

/-- The gradient of the first half of the channels. -/
def duTile (w : Vec Ideal S1x128x128 .f32) (vn : Vec Ideal S128x256 .bf16) (b : Vec Ideal S1x128x1 .f32)
    (a g : Vec Ideal S128x256 .f32) : Vec Ideal S128x256 .bf16 :=
  k0_pay33 a (k0_pay28 a) (k0_pay30 k0_pay23 (iota .tc S128x128 32 [1] iota_S128x128_d1_w32) 64#32 k0_pay24 k0_pay25 1#32 w vn b g)
    (k0_pay31 a) k0_pay32

theorem duTile_apply (hw : ∀ n k, w (ix3 0 n k) = ((ω n k : ℝ) : EReal)) (hvn : ∀ n d, vn (ix2 n d) = ((ν n d : ℝ) : EReal))
    (hb : ∀ n, b (ix3 0 n 0) = ((β n : ℝ) : EReal)) (ha : ∀ n d, a (ix2 n d) = ((α n d : ℝ) : EReal))
    (hg : ∀ n d, g (ix2 n d) = ((γ n d : ℝ) : EReal)) (n : Fin 128) (d : Fin 256) :
    duTile w vn b a g (ix2 n d)
      = ((γ n d * ((∑ k : Fin 128, (if (k : ℕ) / 64 ≤ n / 64 then ω n k else 0) * ν k d) + β n) * slope (α n d) : ℝ) : EReal) := by
  pointwise [duTile, k0_pay33, k0_pay28, k0_pay30, k0_pay31, k0_pay32, k0_pay27]
  rw [ha, cdf_lift, slope_lift, hg, hb]
  rw [sum_lift (g := fun k : Fin 128 => (if (k : ℕ) / 64 ≤ n / 64 then ω n k else 0) * ν k d)]
  · simp only [← EReal.coe_mul, ← EReal.coe_add]
  · intro k
    rw [hw, hvn, ← EReal.coe_mul, ← EReal.coe_zero]
    refine (select_mask n k _ _).trans ?_
    congr 1; split <;> simp

/-- The gradient of the gate. -/
def dgateTile (a g : Vec Ideal S128x256 .f32) : Vec Ideal S128x256 .f32 := k0_pay29 a g

theorem dgateTile_apply (ha : ∀ n d, a (ix2 n d) = ((α n d : ℝ) : EReal))
    (hg : ∀ n d, g (ix2 n d) = ((γ n d : ℝ) : EReal)) (n : Fin 128) (d : Fin 256) :
    k0_pay29 a g (ix2 n d) = ((γ n d * (α n d * cdf (α n d)) : ℝ) : EReal) := by
  pointwise [k0_pay29, k0_pay28]
  rw [ha, cdf_lift, hg, ← EReal.coe_mul, ← EReal.coe_mul]

/-- The gradient of the mixed branch: the masked weights transposed. -/
def mixTile (w : Vec Ideal S1x128x128 .f32) (a g : Vec Ideal S128x256 .f32) : Vec Ideal S128x256 .f32 :=
  k0_pay35 (k0_pay27 k0_pay23 (iota .tc S128x128 32 [1] iota_S128x128_d1_w32) 64#32 k0_pay24 k0_pay25 1#32 w) (k0_pay29 a g)

theorem mixTile_apply (hw : ∀ n k, w (ix3 0 n k) = ((ω n k : ℝ) : EReal)) (ha : ∀ n d, a (ix2 n d) = ((α n d : ℝ) : EReal))
    (hg : ∀ n d, g (ix2 n d) = ((γ n d : ℝ) : EReal)) (n : Fin 128) (d : Fin 256) :
    mixTile w a g (ix2 n d)
      = ((∑ k : Fin 128, (if (n : ℕ) / 64 ≤ k / 64 then ω k n else 0) * (γ k d * (α k d * cdf (α k d))) : ℝ) : EReal) := by
  pointwise [mixTile, k0_pay35, k0_pay34, k0_pay27]
  refine sum_lift fun k => ?_
  rw [dgateTile_apply ha hg, hw, ← EReal.coe_mul, ← EReal.coe_zero]
  refine (select_mask k n _ _).trans ?_
  congr 1; split <;> simp

/-- One block's addition to the gradient of the spatial weights. -/
def weightTile (vn : Vec Ideal S128x256 .bf16) (a g : Vec Ideal S128x256 .f32) (o : Vec Ideal S1x128x128 .f32) : Vec Ideal S1x128x128 .f32 :=
  k0_pay36 vn (k0_pay29 a g) o

theorem weightTile_apply {o : Vec Ideal S1x128x128 .f32} (hvn : ∀ n d, vn (ix2 n d) = ((ν n d : ℝ) : EReal))
    (ha : ∀ n d, a (ix2 n d) = ((α n d : ℝ) : EReal)) (hg : ∀ n d, g (ix2 n d) = ((γ n d : ℝ) : EReal)) (n k : Fin 128) :
    weightTile vn a g o (ix3 0 n k)
      = o (ix3 0 n k) + ((∑ d : Fin 256, (γ n d * (α n d * cdf (α n d))) * ν k d : ℝ) : EReal) := by
  pointwise [weightTile, k0_pay36, k0_pay34]
  refine congrArg _ (sum_lift fun d => ?_)
  rw [dgateTile_apply ha hg, hvn, ← EReal.coe_mul]

/-- One block's addition to the sum of the gate's gradient. -/
def sumTile (a g o : Vec Ideal S128x256 .f32) : Vec Ideal S128x256 .f32 := k0_pay37 (k0_pay29 a g) o

theorem sumTile_apply {o : Vec Ideal S128x256 .f32} (ha : ∀ n d, a (ix2 n d) = ((α n d : ℝ) : EReal))
    (hg : ∀ n d, g (ix2 n d) = ((γ n d : ℝ) : EReal)) (n : Fin 128) (d : Fin 256) :
    sumTile a g o (ix2 n d) = o (ix2 n d) + ((γ n d * (α n d * cdf (α n d)) : ℝ) : EReal) := by
  pointwise [sumTile, k0_pay37]
  rw [dgateTile_apply ha hg]

end Tiles

/-! ## The last point: the mask over the accumulated weights, and the head sums -/

theorem maskTile_apply {o : Vec Ideal S1x128x128 .f32} {ω : ℕ → ℕ → ℝ} (ho : ∀ n k, o (ix3 0 n k) = ((ω n k : ℝ) : EReal))
    (n k : Fin 128) :
    k0_pay3 maskBits o (ix3 0 n k) = ((if (k : ℕ) / 64 ≤ n / 64 then ω n k else 0 : ℝ) : EReal) := by
  pointwise [k0_pay3]
  rw [ho, ← EReal.coe_zero]
  exact select_mask n k _ _

/-- The head of a channel, as the kernel computes a floored division by 256. -/
theorem head_word : ∀ x : Fin 2048,
    Scalar.select
      (IntOp.andi
        (IntOp.cmpi .ne
          (IntOp.subi (BitVec.setWidth 32 (IntOp.cmpi .sgt (BitVec.ofNat 32 x) 0#32))
            (BitVec.setWidth 32 (IntOp.cmpi .slt (BitVec.ofNat 32 x) 0#32))) 1#32)
        (IntOp.cmpi .ne (IntOp.remsi .vector (BitVec.ofNat 32 x) 256#32) 0#32))
      (IntOp.subi (IntOp.divsi .vector (BitVec.ofNat 32 x) 256#32) 1#32)
      (IntOp.divsi .vector (BitVec.ofNat 32 x) 256#32) = BitVec.ofNat 32 (x / 256) := by
  decide +kernel

theorem head_eq (p : ℕ) (hp : p < 8) (q : Fin 128) :
    (FloatOps.sitofp .f32 (BitVec.setWidth 32 (IntOp.cmpi .eq (BitVec.ofNat 32 p) (BitVec.ofNat 32 q))) : Ideal .f32)
      = ((if p = q.val then 1 else 0 : ℝ) : EReal) := by
  have e : ∀ p : Fin 8, ∀ q : Fin 128, BitVec.setWidth 32 (IntOp.cmpi .eq (BitVec.ofNat 32 p) (BitVec.ofNat 32 q))
      = if p.val = q.val then 1#32 else 0#32 := by decide +kernel
  rw [e ⟨p, hp⟩ q]
  refine (Ideal.scalar_sitofp_def _).trans ?_
  dsimp only
  split <;> simp

/-- The sums over each head's channels, in the columns of the first 8 lanes. -/
theorem headSums_apply {o : Vec Ideal S128x2048 .f32} {Q : ℕ → ℕ → ℝ} (ho : ∀ n d, o (ix2 n d) = ((Q n d : ℝ) : EReal))
    (n h : Fin 128) :
    k0_pay2 o (ix2 n h) = ((∑ x : Fin 2048, Q n x * (if (x : ℕ) / 256 = h then 1 else 0) : ℝ) : EReal) := by
  pointwise [k0_pay2]
  refine sum_lift fun x => ?_
  rw [ho, EReal.coe_mul]
  congr 1
  refine Eq.trans ?_ (head_eq (x / 256) (by omega) h)
  rw [← head_word x]
  rfl

end Cert.Tile

end
-- ==== Proof.PlacedTiles.lean ====
/-
  The tiles of Proof/TileValues.lean where the kernel loads them: at rows `r` (0 or 128) and channels `c = 256 h` of a
  grid point's blocks, whose entries are the real functions `A`, `G`, `W`, `B`.
-/
module

public import proofs.«01_k».proof.Proof.TileValues
public import Idealize.ShloMosaic.Lib.VecWindow
public import Idealize.ShloMosaic.Lib.Pipeline.ValueKit

@[expose] public section

set_option maxRecDepth 16384

noncomputable section

namespace Cert.Tile

open Idealize.ShloMosaic Cert.KernelIdeal Cert.KernelIdeal.Gen Cert.Gating Cert.Lift

/-! ## Loads of part of a block -/

theorem ld_f32 {R C a b r c : ℕ} {X : Vec Ideal (⟨2, ![R, C]⟩ : Shape) .f32} {Z : ℕ → ℕ → ℝ}
    (hX : ∀ n d, X (ix2 n d) = ((Z n d : ℝ) : EReal)) (p : ∀ x, (![r, c] : Fin 2 → ℕ) x + ![a, b] x ≤ (⟨2, ![R, C]⟩ : Shape).size x)
    (n : Fin a) (d : Fin b) :
    View.ld (S := (⟨2, ![R, C]⟩ : Shape)) X (Rect.unit ![r, c] ![a, b] p) (ix2 n d) = ((Z (r + n) (c + d) : ℝ) : EReal) := by
  have h0 : r + a ≤ R := p 0
  have h1 : c + b ≤ C := p 1
  refine (View.ld_unit_apply_of (S := (⟨2, ![R, C]⟩ : Shape)) X _ _ p (ix2 n d) (ix2 ⟨r + n, by omega⟩ ⟨c + d, by omega⟩) ?_).trans (hX _ _)
  intro x
  match x with
  | ⟨0, _⟩ => rfl
  | ⟨1, _⟩ => rfl

theorem ld_bf16 {R C a b r c : ℕ} {X : Vec Ideal (⟨2, ![R, C]⟩ : Shape) .bf16} {Z : ℕ → ℕ → ℝ}
    (hX : ∀ n d, X (ix2 n d) = ((Z n d : ℝ) : EReal)) (p : ∀ x, (![r, c] : Fin 2 → ℕ) x + ![a, b] x ≤ (⟨2, ![R, C]⟩ : Shape).size x)
    (n : Fin a) (d : Fin b) :
    View.ld (S := (⟨2, ![R, C]⟩ : Shape)) X (Rect.unit ![r, c] ![a, b] p) (ix2 n d) = ((Z (r + n) (c + d) : ℝ) : EReal) := by
  have h0 : r + a ≤ R := p 0
  have h1 : c + b ≤ C := p 1
  refine (View.ld_unit_apply_of (S := (⟨2, ![R, C]⟩ : Shape)) X _ _ p (ix2 n d) (ix2 ⟨r + n, by omega⟩ ⟨c + d, by omega⟩) ?_).trans (hX _ _)
  intro x
  match x with
  | ⟨0, _⟩ => rfl
  | ⟨1, _⟩ => rfl

/-- A load of one head's plane. -/
theorem ld_head {H N M : ℕ} {hh : ℕ} {X : Vec Ideal (⟨3, ![H, N, M]⟩ : Shape) .f32} {Z : ℕ → ℕ → ℕ → ℝ}
    (hX : ∀ h n k, X (ix3 h n k) = ((Z h n k : ℝ) : EReal))
    (p : ∀ x, (![hh, 0, 0] : Fin 3 → ℕ) x + ![1, N, M] x ≤ (⟨3, ![H, N, M]⟩ : Shape).size x) (n : Fin N) (k : Fin M) :
    View.ld (S := (⟨3, ![H, N, M]⟩ : Shape)) X (Rect.unit ![hh, 0, 0] ![1, N, M] p) (ix3 (0 : Fin 1) n k) = ((Z hh n k : ℝ) : EReal) := by
  have h0 : hh + 1 ≤ H := p 0
  refine (View.ld_unit_apply_of (S := (⟨3, ![H, N, M]⟩ : Shape)) X _ _ p (ix3 (0 : Fin 1) n k) (ix3 ⟨hh, by omega⟩ n k) ?_).trans (hX _ _ _)
  intro x
  match x with
  | ⟨0, _⟩ => rfl
  | ⟨1, _⟩ => exact (Nat.zero_add _).symm
  | ⟨2, _⟩ => exact (Nat.zero_add _).symm

/-- The weight gradient's buffer after a grid point that found `O` there. -/
def weightsAfter (A G : ℕ → ℕ → ℝ) (lg lb : ℕ → ℝ) (O : ℕ → ℕ → ℕ → ℝ) (y : S8x128x128.Idx) : EReal :=
  ((O (y 0) (y 1) (y 2) + (dweightBlock A G lg lb eps 0 (y 0) (y 1) (y 2) + dweightBlock A G lg lb eps 1 (y 0) (y 1) (y 2)) : ℝ) : EReal)

/-- The same behind the mask, as the last grid point leaves it. -/
def maskedAfter (A G : ℕ → ℕ → ℝ) (lg lb : ℕ → ℝ) (O : ℕ → ℕ → ℕ → ℝ) (y : S8x128x128.Idx) : EReal :=
  ((if (y 2 : ℕ) / 64 ≤ (y 1 : ℕ) / 64 then
      O (y 0) (y 1) (y 2) + (dweightBlock A G lg lb eps 0 (y 0) (y 1) (y 2) + dweightBlock A G lg lb eps 1 (y 0) (y 1) (y 2))
    else 0 : ℝ) : EReal)

/-- The sum of the gate's gradient after a grid point that found `Q` there. -/
def sumsAfter (A G : ℕ → ℕ → ℝ) (Q : ℕ → ℕ → ℝ) (y : S128x2048.Idx) : EReal :=
  ((Q (y 0) (y 1) + (dgate A G (y 0) (y 1) + dgate A G (128 + y 0) (y 1)) : ℝ) : EReal)

section Placed

variable {x0 : Vec Ideal S256x4096 .f32} {x1 : Vec Ideal S256x2048 .f32} {x2 x3 : Vec Ideal S1x2048 .f32}
  {x4 : Vec Ideal S8x128x128 .f32} {x5 : Vec Ideal S8x128x1 .f32} {vn : Vec Ideal S256x2048 .bf16}
  {A G : ℕ → ℕ → ℝ} {lg lb : ℕ → ℝ} {W : ℕ → ℕ → ℕ → ℝ} {B : ℕ → ℕ → ℝ}
  (h0 : ∀ n d, x0 (ix2 n d) = ((A n d : ℝ) : EReal)) (h1 : ∀ n d, x1 (ix2 n d) = ((G n d : ℝ) : EReal))
  (h2 : ∀ d, x2 (ix2 0 d) = ((lg d : ℝ) : EReal)) (h3 : ∀ d, x3 (ix2 0 d) = ((lb d : ℝ) : EReal))
  (h4 : ∀ h n k, x4 (ix3 h n k) = ((W h n k : ℝ) : EReal)) (h5 : ∀ h n k, x5 (ix3 h n k) = ((B h n : ℝ) : EReal))
  (hvn : ∀ n d, vn (ix2 n d) = ((scaled A lg lb eps n d : ℝ) : EReal))

include h0 in
/-- The second half of the channels. -/
theorem right_half (p : ∀ a, (![0, 2048] : Fin 2 → ℕ) a + ![256, 2048] a ≤ S256x4096.size a) (n : Fin 256) (d : Fin 2048) :
    View.ld x0 (Rect.unit ![0, 2048] ![256, 2048] p) (ix2 n d) = ((A n (2048 + d) : ℝ) : EReal) := by
  refine (ld_f32 h0 p n d).trans ?_
  rw [Nat.zero_add]

include h0 h2 h3 in
/-- The mixed branch the body keeps. -/
theorem scaled_placed (p : ∀ a, (![0, 2048] : Fin 2 → ℕ) a + ![256, 2048] a ≤ S256x4096.size a) (n : Fin 256) (d : Fin 2048) :
    k0_pay22 (k0_pay20 (k0_pay19 (View.ld x0 (Rect.unit ![0, 2048] ![256, 2048] p))) x2) (k0_pay21 x3) (ix2 n d)
      = ((scaled A lg lb eps n d : ℝ) : EReal) :=
  scaled_apply (right_half h0 p) h2 h3 n d

include h0 h1 h4 h5 hvn in
theorem du_placed {r c hh : ℕ} (p4 : ∀ a, (![hh, 0, 0] : Fin 3 → ℕ) a + ![1, 128, 128] a ≤ S8x128x128.size a)
    (p5 : ∀ a, (![hh, 0, 0] : Fin 3 → ℕ) a + ![1, 128, 1] a ≤ S8x128x1.size a)
    (p0 : ∀ a, (![r, c] : Fin 2 → ℕ) a + ![128, 256] a ≤ S256x4096.size a)
    (p1 : ∀ a, (![r, c] : Fin 2 → ℕ) a + ![128, 256] a ≤ S256x2048.size a)
    (x : S128x256.Idx) {i j : ℕ} (hr : r % 128 = 0) (hc : c = 256 * hh) (hi : i = r + x 0) (hj : j = c + x 1) :
    duTile (View.ld x4 (Rect.unit ![hh, 0, 0] ![1, 128, 128] p4)) (View.ld vn (Rect.unit ![r, c] ![128, 256] p1))
      (View.ld x5 (Rect.unit ![hh, 0, 0] ![1, 128, 1] p5)) (View.ld x0 (Rect.unit ![r, c] ![128, 256] p0))
      (View.ld x1 (Rect.unit ![r, c] ![128, 256] p1)) x = ((dsaved A G lg lb W B eps i j : ℝ) : EReal) := by
  obtain ⟨n, d, rfl⟩ : ∃ n d, x = ix2 n d := ⟨x 0, x 1, eq_ix2 x⟩
  refine (duTile_apply (ν := fun n d => scaled A lg lb eps (r + n) (c + d)) (α := fun n d => A (r + n) (c + d)) (γ := fun n d => G (r + n) (c + d)) (ω := W hh) (β := B hh) (ld_head h4 p4) (ld_bf16 hvn p1) (fun n => ld_head (Z := fun h n _ => B h n) h5 p5 n 0) (ld_f32 h0 p0) (ld_f32 h1 p1) n d).trans ?_
  have hp : c + 256 ≤ 2048 := p1 1
  rw [ix2_0] at hi
  rw [ix2_1] at hj
  have hn : (n : ℕ) < 128 := n.isLt
  have hd : (d : ℕ) < 256 := d.isLt
  have e1 : j / 256 = hh := by omega
  have e2 : i % 128 = n := by omega
  have e3 : i / 128 * 128 = r := by omega
  have e4 : j < 2048 := by omega
  rw [dsaved, if_pos e4, duLeft, gate]
  simp only [weight, e1, e2, e3]
  simp only [hi, hj]

include h0 h1 h4 in
theorem mix_placed {r c hh : ℕ} (p4 : ∀ a, (![hh, 0, 0] : Fin 3 → ℕ) a + ![1, 128, 128] a ≤ S8x128x128.size a)
    (p0 : ∀ a, (![r, c] : Fin 2 → ℕ) a + ![128, 256] a ≤ S256x4096.size a)
    (p1 : ∀ a, (![r, c] : Fin 2 → ℕ) a + ![128, 256] a ≤ S256x2048.size a)
    (x : S128x256.Idx) {i j : ℕ} (hr : r % 128 = 0) (hc : c = 256 * hh) (hi : i = r + x 0) (hj : j = c + x 1) :
    mixTile (View.ld x4 (Rect.unit ![hh, 0, 0] ![1, 128, 128] p4)) (View.ld x0 (Rect.unit ![r, c] ![128, 256] p0))
      (View.ld x1 (Rect.unit ![r, c] ![128, 256] p1)) x = ((dscaled A G W i j : ℝ) : EReal) := by
  obtain ⟨n, d, rfl⟩ : ∃ n d, x = ix2 n d := ⟨x 0, x 1, eq_ix2 x⟩
  refine (mixTile_apply (α := fun n d => A (r + n) (c + d)) (γ := fun n d => G (r + n) (c + d)) (ω := W hh) (ld_head h4 p4) (ld_f32 h0 p0) (ld_f32 h1 p1) n d).trans ?_
  rw [ix2_0] at hi
  rw [ix2_1] at hj
  have hn : (n : ℕ) < 128 := n.isLt
  have hd : (d : ℕ) < 256 := d.isLt
  have e1 : j / 256 = hh := by omega
  have e2 : i % 128 = n := by omega
  have e3 : i / 128 * 128 = r := by omega
  rw [dscaled]
  simp only [weight, dgate, e1, e2, e3]
  simp only [hj]

include h0 h1 hvn in
/-- Both blocks' additions to one head's weight gradient. -/
theorem weight_placed {c hh : ℕ} {o : Vec Ideal S1x128x128 .f32} {O : ℕ → ℕ → ℕ → ℝ}
    (ho : ∀ n k, o (ix3 0 n k) = ((O hh n k : ℝ) : EReal))
    (p0 : ∀ a, (![0, c] : Fin 2 → ℕ) a + ![128, 256] a ≤ S256x4096.size a)
    (p1 : ∀ a, (![0, c] : Fin 2 → ℕ) a + ![128, 256] a ≤ S256x2048.size a)
    (p0' : ∀ a, (![128, c] : Fin 2 → ℕ) a + ![128, 256] a ≤ S256x4096.size a)
    (p1' : ∀ a, (![128, c] : Fin 2 → ℕ) a + ![128, 256] a ≤ S256x2048.size a)
    (x : S1x128x128.Idx) {h n k : ℕ} (hc : c = 256 * hh) (hh0 : h = hh + x 0) (hn : n = x 1) (hk : k = x 2) :
    weightTile (View.ld vn (Rect.unit ![128, c] ![128, 256] p1')) (View.ld x0 (Rect.unit ![128, c] ![128, 256] p0'))
      (View.ld x1 (Rect.unit ![128, c] ![128, 256] p1'))
      (weightTile (View.ld vn (Rect.unit ![0, c] ![128, 256] p1)) (View.ld x0 (Rect.unit ![0, c] ![128, 256] p0))
        (View.ld x1 (Rect.unit ![0, c] ![128, 256] p1)) o) x
      = ((O h n k + (dweightBlock A G lg lb eps 0 h n k + dweightBlock A G lg lb eps 1 h n k) : ℝ) : EReal) := by
  obtain ⟨z, a, b, rfl⟩ : ∃ z a b, x = ix3 z a b := ⟨x 0, x 1, x 2, eq_ix3 x⟩
  obtain rfl : z = 0 := Subsingleton.elim _ _
  refine (weightTile_apply (ν := fun n d => scaled A lg lb eps (128 + n) (c + d)) (α := fun n d => A (128 + n) (c + d)) (γ := fun n d => G (128 + n) (c + d)) (ld_bf16 hvn p1') (ld_f32 h0 p0') (ld_f32 h1 p1') a b).trans ?_
  rw [weightTile_apply (ν := fun n d => scaled A lg lb eps (0 + n) (c + d)) (α := fun n d => A (0 + n) (c + d)) (γ := fun n d => G (0 + n) (c + d)) (ld_bf16 hvn p1) (ld_f32 h0 p0) (ld_f32 h1 p1) a b, ho, ← EReal.coe_add, ← EReal.coe_add]
  change h = hh + 0 at hh0
  change n = a at hn
  change k = b at hk
  rw [hh0, hn, hk, Nat.add_zero, add_assoc, dweightBlock, dweightBlock, hc, Nat.mul_comm 256 hh, Nat.zero_mul, Nat.one_mul]
  rfl

include h0 h1 hvn in
/-- … at the buffer's index. -/
theorem weight_at {c hh : ℕ} {o : Vec Ideal S1x128x128 .f32} {O : ℕ → ℕ → ℕ → ℝ}
    (ho : ∀ n k, o (ix3 0 n k) = ((O hh n k : ℝ) : EReal))
    (p0 : ∀ a, (![0, c] : Fin 2 → ℕ) a + ![128, 256] a ≤ S256x4096.size a)
    (p1 : ∀ a, (![0, c] : Fin 2 → ℕ) a + ![128, 256] a ≤ S256x2048.size a)
    (p0' : ∀ a, (![128, c] : Fin 2 → ℕ) a + ![128, 256] a ≤ S256x4096.size a)
    (p1' : ∀ a, (![128, c] : Fin 2 → ℕ) a + ![128, 256] a ≤ S256x2048.size a)
    (p : ∀ a, (![hh, 0, 0] : Fin 3 → ℕ) a + ![1, 128, 128] a ≤ S8x128x128.size a) (hc : c = 256 * hh) (x : S1x128x128.Idx) :
    weightTile (View.ld vn (Rect.unit ![128, c] ![128, 256] p1')) (View.ld x0 (Rect.unit ![128, c] ![128, 256] p0'))
      (View.ld x1 (Rect.unit ![128, c] ![128, 256] p1'))
      (weightTile (View.ld vn (Rect.unit ![0, c] ![128, 256] p1)) (View.ld x0 (Rect.unit ![0, c] ![128, 256] p0))
        (View.ld x1 (Rect.unit ![0, c] ![128, 256] p1)) o) x
      = weightsAfter A G lg lb O ((Rect.unit (s := S8x128x128) ![hh, 0, 0] ![1, 128, 128] p).emb x) := by
  refine weight_placed h0 h1 hvn ho p0 p1 p0' p1' x hc ?_ ?_ ?_ <;> rw [ValueKit.rect_emb_unit_val]
  · rfl
  · exact Nat.zero_add _
  · exact Nat.zero_add _

include h0 h1 hvn in
/-- … and masked, as the last grid point leaves it. -/
theorem masked_at {c hh : ℕ} {o : Vec Ideal S1x128x128 .f32} {O : ℕ → ℕ → ℕ → ℝ}
    (ho : ∀ n k, o (ix3 0 n k) = ((O hh n k : ℝ) : EReal))
    (p0 : ∀ a, (![0, c] : Fin 2 → ℕ) a + ![128, 256] a ≤ S256x4096.size a)
    (p1 : ∀ a, (![0, c] : Fin 2 → ℕ) a + ![128, 256] a ≤ S256x2048.size a)
    (p0' : ∀ a, (![128, c] : Fin 2 → ℕ) a + ![128, 256] a ≤ S256x4096.size a)
    (p1' : ∀ a, (![128, c] : Fin 2 → ℕ) a + ![128, 256] a ≤ S256x2048.size a)
    (p : ∀ a, (![hh, 0, 0] : Fin 3 → ℕ) a + ![1, 128, 128] a ≤ S8x128x128.size a) (hc : c = 256 * hh) (x : S1x128x128.Idx) :
    k0_pay3 maskBits (weightTile (View.ld vn (Rect.unit ![128, c] ![128, 256] p1')) (View.ld x0 (Rect.unit ![128, c] ![128, 256] p0'))
      (View.ld x1 (Rect.unit ![128, c] ![128, 256] p1'))
      (weightTile (View.ld vn (Rect.unit ![0, c] ![128, 256] p1)) (View.ld x0 (Rect.unit ![0, c] ![128, 256] p0))
        (View.ld x1 (Rect.unit ![0, c] ![128, 256] p1)) o)) x
      = maskedAfter A G lg lb O ((Rect.unit (s := S8x128x128) ![hh, 0, 0] ![1, 128, 128] p).emb x) := by
  obtain ⟨z, a, b, rfl⟩ : ∃ z a b, x = ix3 z a b := ⟨x 0, x 1, x 2, eq_ix3 x⟩
  obtain rfl : z = 0 := Subsingleton.elim _ _
  refine (maskTile_apply (ω := fun n k => O hh n k + (dweightBlock A G lg lb eps 0 hh n k + dweightBlock A G lg lb eps 1 hh n k)) (fun n k => weight_placed h0 h1 hvn ho p0 p1 p0' p1' (ix3 0 n k) hc (h := hh) (n := n) (k := k) rfl rfl rfl) a b).trans ?_
  rw [maskedAfter, ValueKit.rect_emb_unit_val, ValueKit.rect_emb_unit_val, ValueKit.rect_emb_unit_val,
    show (![hh, 0, 0] : Fin 3 → ℕ) 1 + (ix3 (0 : Fin 1) a b 1 : ℕ) = a from Nat.zero_add _,
    show (![hh, 0, 0] : Fin 3 → ℕ) 2 + (ix3 (0 : Fin 1) a b 2 : ℕ) = b from Nat.zero_add _]
  rfl

include h0 h1 in
/-- Both blocks' additions to the sum of the gate's gradient. -/
theorem sum_placed {c : ℕ} {o : Vec Ideal S128x256 .f32} {Q : ℕ → ℕ → ℝ}
    (ho : ∀ n d, o (ix2 n d) = ((Q n (c + d) : ℝ) : EReal))
    (p0 : ∀ a, (![0, c] : Fin 2 → ℕ) a + ![128, 256] a ≤ S256x4096.size a)
    (p1 : ∀ a, (![0, c] : Fin 2 → ℕ) a + ![128, 256] a ≤ S256x2048.size a)
    (p0' : ∀ a, (![128, c] : Fin 2 → ℕ) a + ![128, 256] a ≤ S256x4096.size a)
    (p1' : ∀ a, (![128, c] : Fin 2 → ℕ) a + ![128, 256] a ≤ S256x2048.size a)
    (x : S128x256.Idx) {n j : ℕ} (hn : n = x 0) (hj : j = c + x 1) :
    sumTile (View.ld x0 (Rect.unit ![128, c] ![128, 256] p0')) (View.ld x1 (Rect.unit ![128, c] ![128, 256] p1'))
      (sumTile (View.ld x0 (Rect.unit ![0, c] ![128, 256] p0)) (View.ld x1 (Rect.unit ![0, c] ![128, 256] p1)) o) x
      = ((Q n j + (dgate A G n j + dgate A G (128 + n) j) : ℝ) : EReal) := by
  obtain ⟨a, b, rfl⟩ : ∃ a b, x = ix2 a b := ⟨x 0, x 1, eq_ix2 x⟩
  refine (sumTile_apply (α := fun n d => A (128 + n) (c + d)) (γ := fun n d => G (128 + n) (c + d)) (ld_f32 h0 p0') (ld_f32 h1 p1') a b).trans ?_
  rw [sumTile_apply (α := fun n d => A (0 + n) (c + d)) (γ := fun n d => G (0 + n) (c + d)) (ld_f32 h0 p0) (ld_f32 h1 p1) a b, ho, ← EReal.coe_add, ← EReal.coe_add]
  change n = a at hn
  change j = c + b at hj
  rw [hn, hj, add_assoc, dgate, dgate, Nat.zero_add]

include h0 h1 in
/-- … at the buffer's index. -/
theorem sum_at {c : ℕ} {o : Vec Ideal S128x256 .f32} {Q : ℕ → ℕ → ℝ}
    (ho : ∀ n d, o (ix2 n d) = ((Q (0 + n) (c + d) : ℝ) : EReal))
    (p0 : ∀ a, (![0, c] : Fin 2 → ℕ) a + ![128, 256] a ≤ S256x4096.size a)
    (p1 : ∀ a, (![0, c] : Fin 2 → ℕ) a + ![128, 256] a ≤ S256x2048.size a)
    (p0' : ∀ a, (![128, c] : Fin 2 → ℕ) a + ![128, 256] a ≤ S256x4096.size a)
    (p1' : ∀ a, (![128, c] : Fin 2 → ℕ) a + ![128, 256] a ≤ S256x2048.size a)
    (p : ∀ a, (![0, c] : Fin 2 → ℕ) a + ![128, 256] a ≤ S128x2048.size a) (x : S128x256.Idx) :
    sumTile (View.ld x0 (Rect.unit ![128, c] ![128, 256] p0')) (View.ld x1 (Rect.unit ![128, c] ![128, 256] p1'))
      (sumTile (View.ld x0 (Rect.unit ![0, c] ![128, 256] p0)) (View.ld x1 (Rect.unit ![0, c] ![128, 256] p1)) o) x
      = sumsAfter A G Q ((Rect.unit (s := S128x2048) ![0, c] ![128, 256] p).emb x) := by
  refine sum_placed h0 h1 (fun n d => by rw [ho, Nat.zero_add]) p0 p1 p0' p1' x ?_ ?_ <;> rw [ValueKit.rect_emb_unit_val]
  · exact Nat.zero_add _
  · rfl

include h0 h2 in
/-- The second half of the channels, from the mixed branch's gradient. -/
theorem duRight_placed {q : Vec Ideal S256x2048 .f32} (hq : ∀ n d, q (ix2 n d) = ((dscaled A G W n d : ℝ) : EReal))
    (p : ∀ a, (![0, 2048] : Fin 2 → ℕ) a + ![256, 2048] a ≤ S256x4096.size a) (x : S256x2048.Idx) {i j : ℕ}
    (hi : i = x 0) (hj : j = 2048 + x 1) :
    k0_pay1 (View.ld x0 (Rect.unit ![0, 2048] ![256, 2048] p)) (k0_pay16 (View.ld x0 (Rect.unit ![0, 2048] ![256, 2048] p)))
        (k0_pay173 (k0_pay18 (View.ld x0 (Rect.unit ![0, 2048] ![256, 2048] p))) q (k0_pay19 (View.ld x0 (Rect.unit ![0, 2048] ![256, 2048] p))) x2)
        (k0_pay174 (View.ld x0 (Rect.unit ![0, 2048] ![256, 2048] p))) x
      = ((dsaved A G lg lb W B eps i j : ℝ) : EReal) := by
  obtain ⟨a, b, rfl⟩ : ∃ a b, x = ix2 a b := ⟨x 0, x 1, eq_ix2 x⟩
  refine (duRight_apply (right_half h0 p) h2 hq a b).trans ?_
  change i = a at hi
  change j = 2048 + b at hj
  rw [dsaved, if_neg (by omega), hi, hj, Nat.add_sub_cancel_left]

end Placed

/-! ## Reading back a list of stores, the last first -/

/-- A store that agrees with `g` on its rectangle leaves the question only off it. -/
theorem canon_step {S : Shape} {e : EltTy} {g : S.Idx → Elt Ideal e} {r : Rect S} {w : r.shape.Idx → Elt Ideal e}
    {L : List (View.Piece (Elt Ideal) S e)} {y : S.Idx} (hw : ∀ x, w x = g (r.emb x)) (hL : y ∉ r.set → View.canon L y = g y) :
    View.canon ((⟨r, w⟩ : View.Piece (Elt Ideal) S e) :: L) y = g y := by
  by_cases h : y ∈ r.set
  · obtain ⟨x, rfl⟩ := r.exists_idx_of_mem h
    exact (View.canon_cons_emb r w _ x).trans (hw x)
  · exact (View.canon_cons_of_not_mem _ _ h).trans (hL h)

/-- The same where an earlier store to the same rectangle lies right below: it is hidden. -/
theorem canon_step_two {S : Shape} {e : EltTy} {g : S.Idx → Elt Ideal e} {r : Rect S} {w w' : r.shape.Idx → Elt Ideal e}
    {L : List (View.Piece (Elt Ideal) S e)} {y : S.Idx} (hw : ∀ x, w x = g (r.emb x)) (hL : y ∉ r.set → View.canon L y = g y) :
    View.canon ((⟨r, w⟩ : View.Piece (Elt Ideal) S e) :: ⟨r, w'⟩ :: L) y = g y :=
  canon_step hw fun h => (View.canon_cons_of_not_mem _ _ h).trans (hL h)

/-- A load of the whole buffer is what the stores leave. -/
theorem readCov_whole {κ : Kind} {sp : Space} {S : Shape} {e : EltTy} (v : View sig κ sp S e) (L : List (View.Piece (Elt Ideal) S e))
    {off : Fin S.rank → ℕ} (inb : ∀ a, off a + S.size a ≤ S.size a) (y : S.Idx) :
    v.readCov L (Rect.unit off S.size inb).toLoadRect y = View.canon L y := by
  rw [View.readCov_eq_canon']
  exact congrArg (View.canon L) (Rect.emb_unit_full inb y)

/-- The mixed branch's gradient, from the stores that left it. -/
theorem mixed_of {κ : Kind} {sp : Space} {A G : ℕ → ℕ → ℝ} {W : ℕ → ℕ → ℕ → ℝ} (v : View sig κ sp S256x2048 .f32)
    {L : List (View.Piece (Elt Ideal) S256x2048 .f32)} {off : Fin 2 → ℕ} (inb : ∀ a, off a + S256x2048.size a ≤ S256x2048.size a)
    (h : ∀ y, View.canon L y = ((dscaled A G W (y 0) (y 1) : ℝ) : EReal)) (n : Fin 256) (d : Fin 2048) :
    v.readCov L (Rect.unit off S256x2048.size inb).toLoadRect (ix2 n d) = ((dscaled A G W n d : ℝ) : EReal) :=
  (readCov_whole v L inb (ix2 n d)).trans (h (ix2 n d))

/-- The sum of the gate's gradient, from the stores that left it. -/
theorem sums_of {κ : Kind} {sp : Space} {A G Q : ℕ → ℕ → ℝ} (v : View sig κ sp S128x2048 .f32)
    {L : List (View.Piece (Elt Ideal) S128x2048 .f32)} {off : Fin 2 → ℕ} (inb : ∀ a, off a + S128x2048.size a ≤ S128x2048.size a)
    (h : ∀ y, View.canon L y = sumsAfter A G Q y) (n : Fin 128) (d : Fin 2048) :
    v.readCov L (Rect.unit off S128x2048.size inb).toLoadRect (ix2 n d)
      = ((Q n d + (dgate A G n d + dgate A G (128 + n) d) : ℝ) : EReal) :=
  (readCov_whole v L inb (ix2 n d)).trans (h (ix2 n d))

/-- An index of the weights lies in its own head's plane. -/
theorem mem_plane (y : S8x128x128.Idx) {hh : ℕ} (p : ∀ a, (![hh, 0, 0] : Fin 3 → ℕ) a + ![1, 128, 128] a ≤ S8x128x128.size a)
    (h : y ∉ (Rect.unit (s := S8x128x128) ![hh, 0, 0] ![1, 128, 128] p).set) : (y 0 : ℕ) ≠ hh := by
  intro e
  refine h (Rect.mem_set_unit.mpr fun a => ?_)
  match a with
  | ⟨0, _⟩ => exact ⟨e.ge, e ▸ Nat.lt_succ_self _⟩
  | ⟨1, _⟩ => exact ⟨Nat.zero_le _, lt_of_lt_of_eq (y 1).isLt (Nat.zero_add 128).symm⟩
  | ⟨2, _⟩ => exact ⟨Nat.zero_le _, lt_of_lt_of_eq (y 2).isLt (Nat.zero_add 128).symm⟩

/-- An index of the gate's sum lies in its own head's columns. -/
theorem mem_columns (y : S128x2048.Idx) {c : ℕ} (p : ∀ a, (![0, c] : Fin 2 → ℕ) a + ![128, 256] a ≤ S128x2048.size a)
    (h : y ∉ (Rect.unit (s := S128x2048) ![0, c] ![128, 256] p).set) : ¬(c ≤ (y 1 : ℕ) ∧ (y 1 : ℕ) < c + 256) := by
  intro e
  refine h (Rect.mem_set_unit.mpr fun a => ?_)
  match a with
  | ⟨0, _⟩ => exact ⟨Nat.zero_le _, lt_of_lt_of_eq (y 0).isLt (Nat.zero_add 128).symm⟩
  | ⟨1, _⟩ => exact e

end Cert.Tile

end
-- ==== Proof.BodyFirst.lean ====
/-
  What the first grid point, which finds nothing in the accumulators and starts them from zero, leaves in each output: the generated term of
  each output, read at an index as a real number, whatever real numbers its blocks hold.
-/
module

public import proofs.«01_k».proof.Proof.PlacedTiles
public import proofs.«01_k».proof.Proof.Gen.KernelIdeal.Frame
public import Idealize.ShloMosaic.Lib.Pipeline.ValueKit
public import Idealize.ShloMosaic.Lib.Pipeline.ReadBack

@[expose] public section

set_option maxRecDepth 16384
set_option maxHeartbeats 4000000

noncomputable section

namespace Cert.First

open Idealize.ShloMosaic Idealize.SL.Sem Cert.KernelIdeal Cert.KernelIdeal.Gen Cert.Tile Cert.Gating Cert.Lift

theorem zero_weights (h : Fin 8) (n k : Fin 128) : (k0_pay11 (F := Ideal) : Vec Ideal S8x128x128 .f32) (ix3 h n k)
      = ((0 : ℝ) : EReal) := by
  pointwise [k0_pay11]
  rfl

theorem zero_gain (d : Fin 2048) : (k0_pay13 (F := Ideal) : Vec Ideal S1x2048 .f32) (ix2 0 d)
      = ((0 : ℝ) : EReal) := by
  pointwise [k0_pay13]
  rfl

theorem zero_bias (d : Fin 2048) : (k0_pay14 (F := Ideal) : Vec Ideal S1x2048 .f32) (ix2 0 d)
      = ((0 : ℝ) : EReal) := by
  pointwise [k0_pay14]
  rfl

theorem zero_sums (n : Fin 128) (d : Fin 2048) : (k0_pay15 (F := Ideal) : Vec Ideal S128x2048 .f32) (ix2 n d)
      = ((0 : ℝ) : EReal) := by
  pointwise [k0_pay15]
  rfl

variable (c : Dev nD) (i : grid0.Coords)
  (arg1 : Memref sig .tc .vmem S256x4096 .f32) (harg1 : arg1.IsWhole) (arg2 : Memref sig .tc .vmem S256x2048 .f32) (harg2 : arg2.IsWhole)
  (arg3 : Memref sig .tc .vmem S1x2048 .f32) (harg3 : arg3.IsWhole) (arg4 : Memref sig .tc .vmem S1x2048 .f32) (harg4 : arg4.IsWhole)
  (arg5 : Memref sig .tc .vmem S8x128x128 .f32) (harg5 : arg5.IsWhole) (arg6 : Memref sig .tc .vmem S8x128x1 .f32) (harg6 : arg6.IsWhole)
  (arg7 : Memref sig .tc .vmem S256x4096 .bf16) (harg7 : arg7.IsWhole) (arg8 : Memref sig .tc .vmem S8x128x128 .f32) (harg8 : arg8.IsWhole)
  (arg9 : Memref sig .tc .vmem S128x128 .f32) (harg9 : arg9.IsWhole) (arg10 : Memref sig .tc .vmem S1x2048 .f32) (harg10 : arg10.IsWhole)
  (arg11 : Memref sig .tc .vmem S1x2048 .f32) (harg11 : arg11.IsWhole)
  (arg12 : Memref sig .tc .vmem S256x2048 .bf16) (harg12 : arg12.IsWhole)
  (arg13 : Memref sig .tc .vmem S256x2048 .f32) (harg13 : arg13.IsWhole)
  (arg14 : Memref sig .tc .vmem S256x2048 .f32) (harg14 : arg14.IsWhole)
  (arg15 : Memref sig .tc .vmem S128x2048 .f32) (harg15 : arg15.IsWhole)
  (hc0 : cond0_0 i) (hc1 : ¬cond0_1 i)
  (x0 : Vec Ideal S256x4096 .f32) (x1 : Vec Ideal S256x2048 .f32) (x2 x3 : Vec Ideal S1x2048 .f32) (x4 : Vec Ideal S8x128x128 .f32)
  (x5 : Vec Ideal S8x128x1 .f32)
  {A G : ℕ → ℕ → ℝ} {lg lb : ℕ → ℝ} {W : ℕ → ℕ → ℕ → ℝ} {B : ℕ → ℕ → ℝ}
  (h0 : ∀ n d, x0 (ix2 n d) = ((A n d : ℝ) : EReal)) (h1 : ∀ n d, x1 (ix2 n d) = ((G n d : ℝ) : EReal))
  (h2 : ∀ d, x2 (ix2 0 d) = ((lg d : ℝ) : EReal)) (h3 : ∀ d, x3 (ix2 0 d) = ((lb d : ℝ) : EReal))
  (h4 : ∀ h n k, x4 (ix3 h n k) = ((W h n k : ℝ) : EReal)) (h5 : ∀ h n k, x5 (ix3 h n k) = ((B h n : ℝ) : EReal))

include h0 h1 h2 h3 h4 h5 in
/-- The block of the saved activation's gradient. -/
theorem saved (y : S256x4096.Idx) :
    out0_A_6 c i arg1 harg1 arg2 harg2 arg3 harg3 arg4 harg4 arg5 harg5 arg6 harg6 arg7 harg7 arg8 harg8 arg9 harg9 arg10 harg10 arg11
    harg11 arg12 harg12 arg13 harg13 arg14 harg14 arg15 harg15 hc0 hc1 x0 x1 x2 x3 x4 x5 y
      = ((dsaved A G lg lb W B eps (y 0) (y 1) : ℝ) : EReal) := by
  unfold out0_A_6
  frame_open
  simp (disch := decide) only [↓ View.readCov_cons_toLoadRect, ↓ View.readCov_fill, ↓ View.readCov_skip]
  frame_out
  canon_tiles x e using View.cover_of_tiledBy _ ![128, 256] (by sl_kernel_rfl) y
  case piece0 =>
    refine duRight_placed h0 h2 (fun n d => mixed_of _ _ (fun y => ?_) n d) _ x (by omega) (by omega)
    canon_tiles x e using View.cover_of_tiledBy _ ![128, 256] (by sl_kernel_rfl) y <;>
      exact mix_placed h0 h1 h4 _ _ _ x rfl rfl (by omega) (by omega)
  all_goals exact du_placed h0 h1 h4 h5 (scaled_placed h0 h2 h3 _) _ _ _ _ x rfl rfl (by omega) (by omega)

include h0 h1 h2 h3 in
/-- The weight gradient's buffer. -/
theorem weights (y : S8x128x128.Idx) :
    out0_A_7 c i arg1 harg1 arg2 harg2 arg3 harg3 arg4 harg4 arg5 harg5 arg6 harg6 arg7 harg7 arg8 harg8 arg9 harg9 arg10 harg10 arg11
    harg11 arg12 harg12 arg13 harg13 arg14 harg14 arg15 harg15 hc0 hc1 x0 x1 x2 x3 x4 x5 y
      = weightsAfter A G lg lb (fun _ _ _ => 0) y := by
  unfold out0_A_7
  frame_open
  simp (disch := decide) only [↓ View.readCov_cons_toLoadRect, ↓ View.readCov_fill, ↓ View.readCov_skip]
  frame_out
  refine canon_step_two (S := S8x128x128) (e := .f32) (g := weightsAfter A G lg lb (fun _ _ _ => 0)) (fun x => by exact weight_at h0 h1 (scaled_placed h0 h2 h3 _) (ld_head (Z := fun _ _ _ => 0) zero_weights _) _ _ _ _ _ (by rfl) x) fun n7 => ?_
  refine canon_step_two (S := S8x128x128) (e := .f32) (g := weightsAfter A G lg lb (fun _ _ _ => 0)) (fun x => by exact weight_at h0 h1 (scaled_placed h0 h2 h3 _) (ld_head (Z := fun _ _ _ => 0) zero_weights _) _ _ _ _ _ (by rfl) x) fun n6 => ?_
  refine canon_step_two (S := S8x128x128) (e := .f32) (g := weightsAfter A G lg lb (fun _ _ _ => 0)) (fun x => by exact weight_at h0 h1 (scaled_placed h0 h2 h3 _) (ld_head (Z := fun _ _ _ => 0) zero_weights _) _ _ _ _ _ (by rfl) x) fun n5 => ?_
  refine canon_step_two (S := S8x128x128) (e := .f32) (g := weightsAfter A G lg lb (fun _ _ _ => 0)) (fun x => by exact weight_at h0 h1 (scaled_placed h0 h2 h3 _) (ld_head (Z := fun _ _ _ => 0) zero_weights _) _ _ _ _ _ (by rfl) x) fun n4 => ?_
  refine canon_step_two (S := S8x128x128) (e := .f32) (g := weightsAfter A G lg lb (fun _ _ _ => 0)) (fun x => by exact weight_at h0 h1 (scaled_placed h0 h2 h3 _) (ld_head (Z := fun _ _ _ => 0) zero_weights _) _ _ _ _ _ (by rfl) x) fun n3 => ?_
  refine canon_step_two (S := S8x128x128) (e := .f32) (g := weightsAfter A G lg lb (fun _ _ _ => 0)) (fun x => by exact weight_at h0 h1 (scaled_placed h0 h2 h3 _) (ld_head (Z := fun _ _ _ => 0) zero_weights _) _ _ _ _ _ (by rfl) x) fun n2 => ?_
  refine canon_step_two (S := S8x128x128) (e := .f32) (g := weightsAfter A G lg lb (fun _ _ _ => 0)) (fun x => by exact weight_at h0 h1 (scaled_placed h0 h2 h3 _) (ld_head (Z := fun _ _ _ => 0) zero_weights _) _ _ _ _ _ (by rfl) x) fun n1 => ?_
  refine canon_step_two (S := S8x128x128) (e := .f32) (g := weightsAfter A G lg lb (fun _ _ _ => 0)) (fun x => by exact weight_at h0 h1 (scaled_placed h0 h2 h3 _) (ld_head (Z := fun _ _ _ => 0) zero_weights _) _ _ _ _ _ (by rfl) x) fun n0 => ?_
  have := mem_plane y _ n0
  have := mem_plane y _ n1
  have := mem_plane y _ n2
  have := mem_plane y _ n3
  have := mem_plane y _ n4
  have := mem_plane y _ n5
  have := mem_plane y _ n6
  have := mem_plane y _ n7
  have : (y 0 : ℕ) < 8 := (y 0).isLt
  omega

include h0 h1 h4 in
/-- The normalisation gain's gradient. -/
theorem gain (y : S1x2048.Idx) :
    out0_A_9 c i arg1 harg1 arg2 harg2 arg3 harg3 arg4 harg4 arg5 harg5 arg6 harg6 arg7 harg7 arg8 harg8 arg9 harg9 arg10 harg10 arg11
    harg11 arg12 harg12 arg13 harg13 arg14 harg14 arg15 harg15 hc0 hc1 x0 x1 x2 x3 x4 x5 y
      = ((0 + ∑ n : Fin 256, dscaled A G W n (y 1) * normed A eps n (y 1) : ℝ) : EReal) := by
  unfold out0_A_9
  frame_open
  simp (disch := decide) only [↓ View.readCov_cons_toLoadRect, ↓ View.readCov_fill, ↓ View.readCov_skip]
  frame_out
  obtain ⟨z, d, rfl⟩ : ∃ z d, y = ix2 z d := ⟨y 0, y 1, eq_ix2 y⟩
  obtain rfl : z = 0 := Subsingleton.elim _ _
  refine gainStep_apply (Q := dscaled A G W) (U := normed A eps) (O := (fun _ => 0)) (fun n d => mixed_of _ _ (fun y => ?_) n d) (normed_apply (right_half h0 _)) zero_gain d
  canon_tiles x e using View.cover_of_tiledBy _ ![128, 256] (by sl_kernel_rfl) y <;>
    exact mix_placed h0 h1 h4 _ _ _ x rfl rfl (by omega) (by omega)

include h0 h1 h4 in
/-- The normalisation bias's gradient. -/
theorem bias (y : S1x2048.Idx) :
    out0_A_10 c i arg1 harg1 arg2 harg2 arg3 harg3 arg4 harg4 arg5 harg5 arg6 harg6 arg7 harg7 arg8 harg8 arg9 harg9 arg10 harg10 arg11
    harg11 arg12 harg12 arg13 harg13 arg14 harg14 arg15 harg15 hc0 hc1 x0 x1 x2 x3 x4 x5 y
      = ((0 + ∑ n : Fin 256, dscaled A G W n (y 1) : ℝ) : EReal) := by
  unfold out0_A_10
  frame_open
  simp (disch := decide) only [↓ View.readCov_cons_toLoadRect, ↓ View.readCov_fill, ↓ View.readCov_skip]
  frame_out
  obtain ⟨z, d, rfl⟩ : ∃ z d, y = ix2 z d := ⟨y 0, y 1, eq_ix2 y⟩
  obtain rfl : z = 0 := Subsingleton.elim _ _
  refine biasStep_apply (Q := dscaled A G W) (O := (fun _ => 0)) (fun n d => mixed_of _ _ (fun y => ?_) n d) zero_bias d
  canon_tiles x e using View.cover_of_tiledBy _ ![128, 256] (by sl_kernel_rfl) y <;>
    exact mix_placed h0 h1 h4 _ _ _ x rfl rfl (by omega) (by omega)

include h0 h1 in
/-- The sum of the gate's gradient over the blocks. -/
theorem sums (y : S128x2048.Idx) :
    sout0_A_3 c i arg1 harg1 arg2 harg2 arg3 harg3 arg4 harg4 arg5 harg5 arg6 harg6 arg7 harg7 arg8 harg8 arg9 harg9 arg10 harg10 arg11
    harg11 arg12 harg12 arg13 harg13 arg14 harg14 arg15 harg15 hc0 hc1 x0 x1 x2 x3 x4 x5 y
      = sumsAfter A G (fun _ _ => 0) y := by
  unfold sout0_A_3
  frame_open
  simp (disch := decide) only [↓ View.readCov_cons_toLoadRect, ↓ View.readCov_fill, ↓ View.readCov_skip]
  frame_out
  refine canon_step_two (S := S128x2048) (e := .f32) (g := sumsAfter A G (fun _ _ => 0)) (fun x => by exact sum_at h0 h1 (ld_f32 (Z := fun _ _ => 0) zero_sums _) _ _ _ _ _ x) fun n7 => ?_
  refine canon_step_two (S := S128x2048) (e := .f32) (g := sumsAfter A G (fun _ _ => 0)) (fun x => by exact sum_at h0 h1 (ld_f32 (Z := fun _ _ => 0) zero_sums _) _ _ _ _ _ x) fun n6 => ?_
  refine canon_step_two (S := S128x2048) (e := .f32) (g := sumsAfter A G (fun _ _ => 0)) (fun x => by exact sum_at h0 h1 (ld_f32 (Z := fun _ _ => 0) zero_sums _) _ _ _ _ _ x) fun n5 => ?_
  refine canon_step_two (S := S128x2048) (e := .f32) (g := sumsAfter A G (fun _ _ => 0)) (fun x => by exact sum_at h0 h1 (ld_f32 (Z := fun _ _ => 0) zero_sums _) _ _ _ _ _ x) fun n4 => ?_
  refine canon_step_two (S := S128x2048) (e := .f32) (g := sumsAfter A G (fun _ _ => 0)) (fun x => by exact sum_at h0 h1 (ld_f32 (Z := fun _ _ => 0) zero_sums _) _ _ _ _ _ x) fun n3 => ?_
  refine canon_step_two (S := S128x2048) (e := .f32) (g := sumsAfter A G (fun _ _ => 0)) (fun x => by exact sum_at h0 h1 (ld_f32 (Z := fun _ _ => 0) zero_sums _) _ _ _ _ _ x) fun n2 => ?_
  refine canon_step_two (S := S128x2048) (e := .f32) (g := sumsAfter A G (fun _ _ => 0)) (fun x => by exact sum_at h0 h1 (ld_f32 (Z := fun _ _ => 0) zero_sums _) _ _ _ _ _ x) fun n1 => ?_
  refine canon_step_two (S := S128x2048) (e := .f32) (g := sumsAfter A G (fun _ _ => 0)) (fun x => by exact sum_at h0 h1 (ld_f32 (Z := fun _ _ => 0) zero_sums _) _ _ _ _ _ x) fun n0 => ?_
  have := mem_columns y _ n0
  have := mem_columns y _ n1
  have := mem_columns y _ n2
  have := mem_columns y _ n3
  have := mem_columns y _ n4
  have := mem_columns y _ n5
  have := mem_columns y _ n6
  have := mem_columns y _ n7
  have : (y 1 : ℕ) < 2048 := (y 1).isLt
  omega

end Cert.First

end
-- ==== Proof.BodyMiddle.lean ====
/-
  What a grid point between the first and the last, which adds to what the point before left, leaves in each output: the generated term of
  each output, read at an index as a real number, whatever real numbers its blocks hold.
-/
module

public import proofs.«01_k».proof.Proof.PlacedTiles
public import proofs.«01_k».proof.Proof.Gen.KernelIdeal.Frame
public import Idealize.ShloMosaic.Lib.Pipeline.ValueKit
public import Idealize.ShloMosaic.Lib.Pipeline.ReadBack

@[expose] public section

set_option maxRecDepth 16384
set_option maxHeartbeats 4000000

noncomputable section

namespace Cert.Middle

open Idealize.ShloMosaic Idealize.SL.Sem Cert.KernelIdeal Cert.KernelIdeal.Gen Cert.Tile Cert.Gating Cert.Lift

variable (c : Dev nD) (i : grid0.Coords)
  (arg1 : Memref sig .tc .vmem S256x4096 .f32) (harg1 : arg1.IsWhole) (arg2 : Memref sig .tc .vmem S256x2048 .f32) (harg2 : arg2.IsWhole)
  (arg3 : Memref sig .tc .vmem S1x2048 .f32) (harg3 : arg3.IsWhole) (arg4 : Memref sig .tc .vmem S1x2048 .f32) (harg4 : arg4.IsWhole)
  (arg5 : Memref sig .tc .vmem S8x128x128 .f32) (harg5 : arg5.IsWhole) (arg6 : Memref sig .tc .vmem S8x128x1 .f32) (harg6 : arg6.IsWhole)
  (arg7 : Memref sig .tc .vmem S256x4096 .bf16) (harg7 : arg7.IsWhole) (arg8 : Memref sig .tc .vmem S8x128x128 .f32) (harg8 : arg8.IsWhole)
  (arg9 : Memref sig .tc .vmem S128x128 .f32) (harg9 : arg9.IsWhole) (arg10 : Memref sig .tc .vmem S1x2048 .f32) (harg10 : arg10.IsWhole)
  (arg11 : Memref sig .tc .vmem S1x2048 .f32) (harg11 : arg11.IsWhole)
  (arg12 : Memref sig .tc .vmem S256x2048 .bf16) (harg12 : arg12.IsWhole)
  (arg13 : Memref sig .tc .vmem S256x2048 .f32) (harg13 : arg13.IsWhole)
  (arg14 : Memref sig .tc .vmem S256x2048 .f32) (harg14 : arg14.IsWhole)
  (arg15 : Memref sig .tc .vmem S128x2048 .f32) (harg15 : arg15.IsWhole)
  (hc0 : ¬cond0_0 i) (hc1 : ¬cond0_1 i)
  (x0 : Vec Ideal S256x4096 .f32) (x1 : Vec Ideal S256x2048 .f32) (x2 x3 : Vec Ideal S1x2048 .f32) (x4 : Vec Ideal S8x128x128 .f32)
  (x5 : Vec Ideal S8x128x1 .f32) (xo7 : Vec Ideal S8x128x128 .f32) (xo9 xo10 : Vec Ideal S1x2048 .f32) (xs3 : Vec Ideal S128x2048 .f32)
  {A G : ℕ → ℕ → ℝ} {lg lb : ℕ → ℝ} {W : ℕ → ℕ → ℕ → ℝ} {B : ℕ → ℕ → ℝ} {O : ℕ → ℕ → ℕ → ℝ} {Q : ℕ → ℕ → ℝ} {P R : ℕ → ℝ}
  (h0 : ∀ n d, x0 (ix2 n d) = ((A n d : ℝ) : EReal)) (h1 : ∀ n d, x1 (ix2 n d) = ((G n d : ℝ) : EReal))
  (h2 : ∀ d, x2 (ix2 0 d) = ((lg d : ℝ) : EReal)) (h3 : ∀ d, x3 (ix2 0 d) = ((lb d : ℝ) : EReal))
  (h4 : ∀ h n k, x4 (ix3 h n k) = ((W h n k : ℝ) : EReal)) (h5 : ∀ h n k, x5 (ix3 h n k) = ((B h n : ℝ) : EReal))
  (hO : ∀ h n k, xo7 (ix3 h n k) = ((O h n k : ℝ) : EReal)) (hP : ∀ d, xo9 (ix2 0 d) = ((P d : ℝ) : EReal))
  (hR : ∀ d, xo10 (ix2 0 d) = ((R d : ℝ) : EReal)) (hQ : ∀ n d, xs3 (ix2 n d) = ((Q n d : ℝ) : EReal))

include h0 h1 h2 h3 h4 h5 in
/-- The block of the saved activation's gradient. -/
theorem saved (y : S256x4096.Idx) :
    out0_B_6 c i arg1 harg1 arg2 harg2 arg3 harg3 arg4 harg4 arg5 harg5 arg6 harg6 arg7 harg7 arg8 harg8 arg9 harg9 arg10 harg10 arg11
    harg11 arg12 harg12 arg13 harg13 arg14 harg14 arg15 harg15 hc0 hc1 x0 x1 x2 x3 x4 x5 xo7 xo9 xo10 xs3 y
      = ((dsaved A G lg lb W B eps (y 0) (y 1) : ℝ) : EReal) := by
  unfold out0_B_6
  frame_open
  simp (disch := decide) only [↓ View.readCov_cons_toLoadRect, ↓ View.readCov_fill, ↓ View.readCov_skip]
  frame_out
  canon_tiles x e using View.cover_of_tiledBy _ ![128, 256] (by sl_kernel_rfl) y
  case piece0 =>
    refine duRight_placed h0 h2 (fun n d => mixed_of _ _ (fun y => ?_) n d) _ x (by omega) (by omega)
    canon_tiles x e using View.cover_of_tiledBy _ ![128, 256] (by sl_kernel_rfl) y <;>
      exact mix_placed h0 h1 h4 _ _ _ x rfl rfl (by omega) (by omega)
  all_goals exact du_placed h0 h1 h4 h5 (scaled_placed h0 h2 h3 _) _ _ _ _ x rfl rfl (by omega) (by omega)

include h0 h1 h2 h3 hO in
/-- The weight gradient's buffer. -/
theorem weights (y : S8x128x128.Idx) :
    out0_B_7 c i arg1 harg1 arg2 harg2 arg3 harg3 arg4 harg4 arg5 harg5 arg6 harg6 arg7 harg7 arg8 harg8 arg9 harg9 arg10 harg10 arg11
    harg11 arg12 harg12 arg13 harg13 arg14 harg14 arg15 harg15 hc0 hc1 x0 x1 x2 x3 x4 x5 xo7 xo9 xo10 xs3 y
      = weightsAfter A G lg lb O y := by
  unfold out0_B_7
  frame_open
  simp (disch := decide) only [↓ View.readCov_cons_toLoadRect, ↓ View.readCov_fill, ↓ View.readCov_skip]
  frame_out
  refine canon_step_two (S := S8x128x128) (e := .f32) (g := weightsAfter A G lg lb O) (fun x => by exact weight_at h0 h1 (scaled_placed h0 h2 h3 _) (ld_head hO _) _ _ _ _ _ (by rfl) x) fun n7 => ?_
  refine canon_step_two (S := S8x128x128) (e := .f32) (g := weightsAfter A G lg lb O) (fun x => by exact weight_at h0 h1 (scaled_placed h0 h2 h3 _) (ld_head hO _) _ _ _ _ _ (by rfl) x) fun n6 => ?_
  refine canon_step_two (S := S8x128x128) (e := .f32) (g := weightsAfter A G lg lb O) (fun x => by exact weight_at h0 h1 (scaled_placed h0 h2 h3 _) (ld_head hO _) _ _ _ _ _ (by rfl) x) fun n5 => ?_
  refine canon_step_two (S := S8x128x128) (e := .f32) (g := weightsAfter A G lg lb O) (fun x => by exact weight_at h0 h1 (scaled_placed h0 h2 h3 _) (ld_head hO _) _ _ _ _ _ (by rfl) x) fun n4 => ?_
  refine canon_step_two (S := S8x128x128) (e := .f32) (g := weightsAfter A G lg lb O) (fun x => by exact weight_at h0 h1 (scaled_placed h0 h2 h3 _) (ld_head hO _) _ _ _ _ _ (by rfl) x) fun n3 => ?_
  refine canon_step_two (S := S8x128x128) (e := .f32) (g := weightsAfter A G lg lb O) (fun x => by exact weight_at h0 h1 (scaled_placed h0 h2 h3 _) (ld_head hO _) _ _ _ _ _ (by rfl) x) fun n2 => ?_
  refine canon_step_two (S := S8x128x128) (e := .f32) (g := weightsAfter A G lg lb O) (fun x => by exact weight_at h0 h1 (scaled_placed h0 h2 h3 _) (ld_head hO _) _ _ _ _ _ (by rfl) x) fun n1 => ?_
  refine canon_step_two (S := S8x128x128) (e := .f32) (g := weightsAfter A G lg lb O) (fun x => by exact weight_at h0 h1 (scaled_placed h0 h2 h3 _) (ld_head hO _) _ _ _ _ _ (by rfl) x) fun n0 => ?_
  have := mem_plane y _ n0
  have := mem_plane y _ n1
  have := mem_plane y _ n2
  have := mem_plane y _ n3
  have := mem_plane y _ n4
  have := mem_plane y _ n5
  have := mem_plane y _ n6
  have := mem_plane y _ n7
  have : (y 0 : ℕ) < 8 := (y 0).isLt
  omega

include h0 h1 h4 hP in
/-- The normalisation gain's gradient. -/
theorem gain (y : S1x2048.Idx) :
    out0_B_9 c i arg1 harg1 arg2 harg2 arg3 harg3 arg4 harg4 arg5 harg5 arg6 harg6 arg7 harg7 arg8 harg8 arg9 harg9 arg10 harg10 arg11
    harg11 arg12 harg12 arg13 harg13 arg14 harg14 arg15 harg15 hc0 hc1 x0 x1 x2 x3 x4 x5 xo7 xo9 xo10 xs3 y
      = ((P (y 1) + ∑ n : Fin 256, dscaled A G W n (y 1) * normed A eps n (y 1) : ℝ) : EReal) := by
  unfold out0_B_9
  frame_open
  simp (disch := decide) only [↓ View.readCov_cons_toLoadRect, ↓ View.readCov_fill, ↓ View.readCov_skip]
  frame_out
  obtain ⟨z, d, rfl⟩ : ∃ z d, y = ix2 z d := ⟨y 0, y 1, eq_ix2 y⟩
  obtain rfl : z = 0 := Subsingleton.elim _ _
  refine gainStep_apply (Q := dscaled A G W) (U := normed A eps) (O := P) (fun n d => mixed_of _ _ (fun y => ?_) n d) (normed_apply (right_half h0 _)) hP d
  canon_tiles x e using View.cover_of_tiledBy _ ![128, 256] (by sl_kernel_rfl) y <;>
    exact mix_placed h0 h1 h4 _ _ _ x rfl rfl (by omega) (by omega)

include h0 h1 h4 hR in
/-- The normalisation bias's gradient. -/
theorem bias (y : S1x2048.Idx) :
    out0_B_10 c i arg1 harg1 arg2 harg2 arg3 harg3 arg4 harg4 arg5 harg5 arg6 harg6 arg7 harg7 arg8 harg8 arg9 harg9 arg10 harg10 arg11
    harg11 arg12 harg12 arg13 harg13 arg14 harg14 arg15 harg15 hc0 hc1 x0 x1 x2 x3 x4 x5 xo7 xo9 xo10 xs3 y
      = ((R (y 1) + ∑ n : Fin 256, dscaled A G W n (y 1) : ℝ) : EReal) := by
  unfold out0_B_10
  frame_open
  simp (disch := decide) only [↓ View.readCov_cons_toLoadRect, ↓ View.readCov_fill, ↓ View.readCov_skip]
  frame_out
  obtain ⟨z, d, rfl⟩ : ∃ z d, y = ix2 z d := ⟨y 0, y 1, eq_ix2 y⟩
  obtain rfl : z = 0 := Subsingleton.elim _ _
  refine biasStep_apply (Q := dscaled A G W) (O := R) (fun n d => mixed_of _ _ (fun y => ?_) n d) hR d
  canon_tiles x e using View.cover_of_tiledBy _ ![128, 256] (by sl_kernel_rfl) y <;>
    exact mix_placed h0 h1 h4 _ _ _ x rfl rfl (by omega) (by omega)

include h0 h1 hQ in
/-- The sum of the gate's gradient over the blocks. -/
theorem sums (y : S128x2048.Idx) :
    sout0_B_3 c i arg1 harg1 arg2 harg2 arg3 harg3 arg4 harg4 arg5 harg5 arg6 harg6 arg7 harg7 arg8 harg8 arg9 harg9 arg10 harg10 arg11
    harg11 arg12 harg12 arg13 harg13 arg14 harg14 arg15 harg15 hc0 hc1 x0 x1 x2 x3 x4 x5 xo7 xo9 xo10 xs3 y
      = sumsAfter A G Q y := by
  unfold sout0_B_3
  frame_open
  simp (disch := decide) only [↓ View.readCov_cons_toLoadRect, ↓ View.readCov_fill, ↓ View.readCov_skip]
  frame_out
  refine canon_step_two (S := S128x2048) (e := .f32) (g := sumsAfter A G Q) (fun x => by exact sum_at h0 h1 (ld_f32 hQ _) _ _ _ _ _ x) fun n7 => ?_
  refine canon_step_two (S := S128x2048) (e := .f32) (g := sumsAfter A G Q) (fun x => by exact sum_at h0 h1 (ld_f32 hQ _) _ _ _ _ _ x) fun n6 => ?_
  refine canon_step_two (S := S128x2048) (e := .f32) (g := sumsAfter A G Q) (fun x => by exact sum_at h0 h1 (ld_f32 hQ _) _ _ _ _ _ x) fun n5 => ?_
  refine canon_step_two (S := S128x2048) (e := .f32) (g := sumsAfter A G Q) (fun x => by exact sum_at h0 h1 (ld_f32 hQ _) _ _ _ _ _ x) fun n4 => ?_
  refine canon_step_two (S := S128x2048) (e := .f32) (g := sumsAfter A G Q) (fun x => by exact sum_at h0 h1 (ld_f32 hQ _) _ _ _ _ _ x) fun n3 => ?_
  refine canon_step_two (S := S128x2048) (e := .f32) (g := sumsAfter A G Q) (fun x => by exact sum_at h0 h1 (ld_f32 hQ _) _ _ _ _ _ x) fun n2 => ?_
  refine canon_step_two (S := S128x2048) (e := .f32) (g := sumsAfter A G Q) (fun x => by exact sum_at h0 h1 (ld_f32 hQ _) _ _ _ _ _ x) fun n1 => ?_
  refine canon_step_two (S := S128x2048) (e := .f32) (g := sumsAfter A G Q) (fun x => by exact sum_at h0 h1 (ld_f32 hQ _) _ _ _ _ _ x) fun n0 => ?_
  have := mem_columns y _ n0
  have := mem_columns y _ n1
  have := mem_columns y _ n2
  have := mem_columns y _ n3
  have := mem_columns y _ n4
  have := mem_columns y _ n5
  have := mem_columns y _ n6
  have := mem_columns y _ n7
  have : (y 1 : ℕ) < 2048 := (y 1).isLt
  omega

end Cert.Middle

end
-- ==== Proof.BodyLast.lean ====
/-
  What the last grid point, which also masks the weight gradient and sums the gate's gradient over each head, leaves in each output: the generated term of
  each output, read at an index as a real number, whatever real numbers its blocks hold.
-/
module

public import proofs.«01_k».proof.Proof.PlacedTiles
public import proofs.«01_k».proof.Proof.Gen.KernelIdeal.Frame
public import Idealize.ShloMosaic.Lib.Pipeline.ValueKit
public import Idealize.ShloMosaic.Lib.Pipeline.ReadBack

@[expose] public section

set_option maxRecDepth 16384
set_option maxHeartbeats 4000000

noncomputable section

namespace Cert.Last

open Idealize.ShloMosaic Idealize.SL.Sem Cert.KernelIdeal Cert.KernelIdeal.Gen Cert.Tile Cert.Gating Cert.Lift

variable (c : Dev nD) (i : grid0.Coords)
  (arg1 : Memref sig .tc .vmem S256x4096 .f32) (harg1 : arg1.IsWhole) (arg2 : Memref sig .tc .vmem S256x2048 .f32) (harg2 : arg2.IsWhole)
  (arg3 : Memref sig .tc .vmem S1x2048 .f32) (harg3 : arg3.IsWhole) (arg4 : Memref sig .tc .vmem S1x2048 .f32) (harg4 : arg4.IsWhole)
  (arg5 : Memref sig .tc .vmem S8x128x128 .f32) (harg5 : arg5.IsWhole) (arg6 : Memref sig .tc .vmem S8x128x1 .f32) (harg6 : arg6.IsWhole)
  (arg7 : Memref sig .tc .vmem S256x4096 .bf16) (harg7 : arg7.IsWhole) (arg8 : Memref sig .tc .vmem S8x128x128 .f32) (harg8 : arg8.IsWhole)
  (arg9 : Memref sig .tc .vmem S128x128 .f32) (harg9 : arg9.IsWhole) (arg10 : Memref sig .tc .vmem S1x2048 .f32) (harg10 : arg10.IsWhole)
  (arg11 : Memref sig .tc .vmem S1x2048 .f32) (harg11 : arg11.IsWhole)
  (arg12 : Memref sig .tc .vmem S256x2048 .bf16) (harg12 : arg12.IsWhole)
  (arg13 : Memref sig .tc .vmem S256x2048 .f32) (harg13 : arg13.IsWhole)
  (arg14 : Memref sig .tc .vmem S256x2048 .f32) (harg14 : arg14.IsWhole)
  (arg15 : Memref sig .tc .vmem S128x2048 .f32) (harg15 : arg15.IsWhole)
  (hc0 : ¬cond0_0 i) (hc1 : cond0_1 i)
  (x0 : Vec Ideal S256x4096 .f32) (x1 : Vec Ideal S256x2048 .f32) (x2 x3 : Vec Ideal S1x2048 .f32) (x4 : Vec Ideal S8x128x128 .f32)
  (x5 : Vec Ideal S8x128x1 .f32) (xo7 : Vec Ideal S8x128x128 .f32) (xo9 xo10 : Vec Ideal S1x2048 .f32) (xs3 : Vec Ideal S128x2048 .f32)
  {A G : ℕ → ℕ → ℝ} {lg lb : ℕ → ℝ} {W : ℕ → ℕ → ℕ → ℝ} {B : ℕ → ℕ → ℝ} {O : ℕ → ℕ → ℕ → ℝ} {Q : ℕ → ℕ → ℝ} {P R : ℕ → ℝ}
  (h0 : ∀ n d, x0 (ix2 n d) = ((A n d : ℝ) : EReal)) (h1 : ∀ n d, x1 (ix2 n d) = ((G n d : ℝ) : EReal))
  (h2 : ∀ d, x2 (ix2 0 d) = ((lg d : ℝ) : EReal)) (h3 : ∀ d, x3 (ix2 0 d) = ((lb d : ℝ) : EReal))
  (h4 : ∀ h n k, x4 (ix3 h n k) = ((W h n k : ℝ) : EReal)) (h5 : ∀ h n k, x5 (ix3 h n k) = ((B h n : ℝ) : EReal))
  (hO : ∀ h n k, xo7 (ix3 h n k) = ((O h n k : ℝ) : EReal)) (hP : ∀ d, xo9 (ix2 0 d) = ((P d : ℝ) : EReal))
  (hR : ∀ d, xo10 (ix2 0 d) = ((R d : ℝ) : EReal)) (hQ : ∀ n d, xs3 (ix2 n d) = ((Q n d : ℝ) : EReal))

include h0 h1 h2 h3 h4 h5 in
/-- The block of the saved activation's gradient. -/
theorem saved (y : S256x4096.Idx) :
    out0_C_6 c i arg1 harg1 arg2 harg2 arg3 harg3 arg4 harg4 arg5 harg5 arg6 harg6 arg7 harg7 arg8 harg8 arg9 harg9 arg10 harg10 arg11
    harg11 arg12 harg12 arg13 harg13 arg14 harg14 arg15 harg15 hc0 hc1 x0 x1 x2 x3 x4 x5 xo7 xo9 xo10 xs3 y
      = ((dsaved A G lg lb W B eps (y 0) (y 1) : ℝ) : EReal) := by
  unfold out0_C_6
  frame_open
  simp (disch := decide) only [↓ View.readCov_cons_toLoadRect, ↓ View.readCov_fill, ↓ View.readCov_skip]
  frame_out
  canon_tiles x e using View.cover_of_tiledBy _ ![128, 256] (by sl_kernel_rfl) y
  case piece0 =>
    refine duRight_placed h0 h2 (fun n d => mixed_of _ _ (fun y => ?_) n d) _ x (by omega) (by omega)
    canon_tiles x e using View.cover_of_tiledBy _ ![128, 256] (by sl_kernel_rfl) y <;>
      exact mix_placed h0 h1 h4 _ _ _ x rfl rfl (by omega) (by omega)
  all_goals exact du_placed h0 h1 h4 h5 (scaled_placed h0 h2 h3 _) _ _ _ _ x rfl rfl (by omega) (by omega)

include h0 h1 h2 h3 hO in
/-- The weight gradient's buffer. -/
theorem weights (y : S8x128x128.Idx) :
    out0_C_7 c i arg1 harg1 arg2 harg2 arg3 harg3 arg4 harg4 arg5 harg5 arg6 harg6 arg7 harg7 arg8 harg8 arg9 harg9 arg10 harg10 arg11
    harg11 arg12 harg12 arg13 harg13 arg14 harg14 arg15 harg15 hc0 hc1 x0 x1 x2 x3 x4 x5 xo7 xo9 xo10 xs3 y
      = maskedAfter A G lg lb O y := by
  unfold out0_C_7
  frame_open
  simp (disch := decide) only [↓ View.readCov_cons_toLoadRect, ↓ View.readCov_fill, ↓ View.readCov_skip]
  frame_out
  refine canon_step (S := S8x128x128) (e := .f32) (g := maskedAfter A G lg lb O) (fun x => by exact masked_at h0 h1 (scaled_placed h0 h2 h3 _) (ld_head hO _) _ _ _ _ _ (by rfl) x) fun n7 => ?_
  refine canon_step (S := S8x128x128) (e := .f32) (g := maskedAfter A G lg lb O) (fun x => by exact masked_at h0 h1 (scaled_placed h0 h2 h3 _) (ld_head hO _) _ _ _ _ _ (by rfl) x) fun n6 => ?_
  refine canon_step (S := S8x128x128) (e := .f32) (g := maskedAfter A G lg lb O) (fun x => by exact masked_at h0 h1 (scaled_placed h0 h2 h3 _) (ld_head hO _) _ _ _ _ _ (by rfl) x) fun n5 => ?_
  refine canon_step (S := S8x128x128) (e := .f32) (g := maskedAfter A G lg lb O) (fun x => by exact masked_at h0 h1 (scaled_placed h0 h2 h3 _) (ld_head hO _) _ _ _ _ _ (by rfl) x) fun n4 => ?_
  refine canon_step (S := S8x128x128) (e := .f32) (g := maskedAfter A G lg lb O) (fun x => by exact masked_at h0 h1 (scaled_placed h0 h2 h3 _) (ld_head hO _) _ _ _ _ _ (by rfl) x) fun n3 => ?_
  refine canon_step (S := S8x128x128) (e := .f32) (g := maskedAfter A G lg lb O) (fun x => by exact masked_at h0 h1 (scaled_placed h0 h2 h3 _) (ld_head hO _) _ _ _ _ _ (by rfl) x) fun n2 => ?_
  refine canon_step (S := S8x128x128) (e := .f32) (g := maskedAfter A G lg lb O) (fun x => by exact masked_at h0 h1 (scaled_placed h0 h2 h3 _) (ld_head hO _) _ _ _ _ _ (by rfl) x) fun n1 => ?_
  refine canon_step (S := S8x128x128) (e := .f32) (g := maskedAfter A G lg lb O) (fun x => by exact masked_at h0 h1 (scaled_placed h0 h2 h3 _) (ld_head hO _) _ _ _ _ _ (by rfl) x) fun n0 => ?_
  have := mem_plane y _ n0
  have := mem_plane y _ n1
  have := mem_plane y _ n2
  have := mem_plane y _ n3
  have := mem_plane y _ n4
  have := mem_plane y _ n5
  have := mem_plane y _ n6
  have := mem_plane y _ n7
  have : (y 0 : ℕ) < 8 := (y 0).isLt
  omega

include h0 h1 h4 hP in
/-- The normalisation gain's gradient. -/
theorem gain (y : S1x2048.Idx) :
    out0_C_9 c i arg1 harg1 arg2 harg2 arg3 harg3 arg4 harg4 arg5 harg5 arg6 harg6 arg7 harg7 arg8 harg8 arg9 harg9 arg10 harg10 arg11
    harg11 arg12 harg12 arg13 harg13 arg14 harg14 arg15 harg15 hc0 hc1 x0 x1 x2 x3 x4 x5 xo7 xo9 xo10 xs3 y
      = ((P (y 1) + ∑ n : Fin 256, dscaled A G W n (y 1) * normed A eps n (y 1) : ℝ) : EReal) := by
  unfold out0_C_9
  frame_open
  simp (disch := decide) only [↓ View.readCov_cons_toLoadRect, ↓ View.readCov_fill, ↓ View.readCov_skip]
  frame_out
  obtain ⟨z, d, rfl⟩ : ∃ z d, y = ix2 z d := ⟨y 0, y 1, eq_ix2 y⟩
  obtain rfl : z = 0 := Subsingleton.elim _ _
  refine gainStep_apply (Q := dscaled A G W) (U := normed A eps) (O := P) (fun n d => mixed_of _ _ (fun y => ?_) n d) (normed_apply (right_half h0 _)) hP d
  canon_tiles x e using View.cover_of_tiledBy _ ![128, 256] (by sl_kernel_rfl) y <;>
    exact mix_placed h0 h1 h4 _ _ _ x rfl rfl (by omega) (by omega)

include h0 h1 h4 hR in
/-- The normalisation bias's gradient. -/
theorem bias (y : S1x2048.Idx) :
    out0_C_10 c i arg1 harg1 arg2 harg2 arg3 harg3 arg4 harg4 arg5 harg5 arg6 harg6 arg7 harg7 arg8 harg8 arg9 harg9 arg10 harg10 arg11
    harg11 arg12 harg12 arg13 harg13 arg14 harg14 arg15 harg15 hc0 hc1 x0 x1 x2 x3 x4 x5 xo7 xo9 xo10 xs3 y
      = ((R (y 1) + ∑ n : Fin 256, dscaled A G W n (y 1) : ℝ) : EReal) := by
  unfold out0_C_10
  frame_open
  simp (disch := decide) only [↓ View.readCov_cons_toLoadRect, ↓ View.readCov_fill, ↓ View.readCov_skip]
  frame_out
  obtain ⟨z, d, rfl⟩ : ∃ z d, y = ix2 z d := ⟨y 0, y 1, eq_ix2 y⟩
  obtain rfl : z = 0 := Subsingleton.elim _ _
  refine biasStep_apply (Q := dscaled A G W) (O := R) (fun n d => mixed_of _ _ (fun y => ?_) n d) hR d
  canon_tiles x e using View.cover_of_tiledBy _ ![128, 256] (by sl_kernel_rfl) y <;>
    exact mix_placed h0 h1 h4 _ _ _ x rfl rfl (by omega) (by omega)

include h0 h1 hQ in
/-- The sum of the gate's gradient over the blocks. -/
theorem sums (y : S128x2048.Idx) :
    sout0_C_3 c i arg1 harg1 arg2 harg2 arg3 harg3 arg4 harg4 arg5 harg5 arg6 harg6 arg7 harg7 arg8 harg8 arg9 harg9 arg10 harg10 arg11
    harg11 arg12 harg12 arg13 harg13 arg14 harg14 arg15 harg15 hc0 hc1 x0 x1 x2 x3 x4 x5 xo7 xo9 xo10 xs3 y
      = sumsAfter A G Q y := by
  unfold sout0_C_3
  frame_open
  simp (disch := decide) only [↓ View.readCov_cons_toLoadRect, ↓ View.readCov_fill, ↓ View.readCov_skip]
  frame_out
  refine canon_step_two (S := S128x2048) (e := .f32) (g := sumsAfter A G Q) (fun x => by exact sum_at h0 h1 (ld_f32 hQ _) _ _ _ _ _ x) fun n7 => ?_
  refine canon_step_two (S := S128x2048) (e := .f32) (g := sumsAfter A G Q) (fun x => by exact sum_at h0 h1 (ld_f32 hQ _) _ _ _ _ _ x) fun n6 => ?_
  refine canon_step_two (S := S128x2048) (e := .f32) (g := sumsAfter A G Q) (fun x => by exact sum_at h0 h1 (ld_f32 hQ _) _ _ _ _ _ x) fun n5 => ?_
  refine canon_step_two (S := S128x2048) (e := .f32) (g := sumsAfter A G Q) (fun x => by exact sum_at h0 h1 (ld_f32 hQ _) _ _ _ _ _ x) fun n4 => ?_
  refine canon_step_two (S := S128x2048) (e := .f32) (g := sumsAfter A G Q) (fun x => by exact sum_at h0 h1 (ld_f32 hQ _) _ _ _ _ _ x) fun n3 => ?_
  refine canon_step_two (S := S128x2048) (e := .f32) (g := sumsAfter A G Q) (fun x => by exact sum_at h0 h1 (ld_f32 hQ _) _ _ _ _ _ x) fun n2 => ?_
  refine canon_step_two (S := S128x2048) (e := .f32) (g := sumsAfter A G Q) (fun x => by exact sum_at h0 h1 (ld_f32 hQ _) _ _ _ _ _ x) fun n1 => ?_
  refine canon_step_two (S := S128x2048) (e := .f32) (g := sumsAfter A G Q) (fun x => by exact sum_at h0 h1 (ld_f32 hQ _) _ _ _ _ _ x) fun n0 => ?_
  have := mem_columns y _ n0
  have := mem_columns y _ n1
  have := mem_columns y _ n2
  have := mem_columns y _ n3
  have := mem_columns y _ n4
  have := mem_columns y _ n5
  have := mem_columns y _ n6
  have := mem_columns y _ n7
  have : (y 1 : ℕ) < 2048 := (y 1).isLt
  omega

include h0 h1 hQ in
/-- That sum over each head's channels, in the head's column. -/
theorem heads (y : S128x128.Idx) :
    out0_C_8 c i arg1 harg1 arg2 harg2 arg3 harg3 arg4 harg4 arg5 harg5 arg6 harg6 arg7 harg7 arg8 harg8 arg9 harg9 arg10 harg10 arg11
    harg11 arg12 harg12 arg13 harg13 arg14 harg14 arg15 harg15 hc0 hc1 x0 x1 x2 x3 x4 x5 xo7 xo9 xo10 xs3 y
      = ((∑ x : Fin 2048, (Q (y 0) x + (dgate A G (y 0) x + dgate A G (128 + y 0) x)) * (if (x : ℕ) / 256 = y 1 then 1 else 0) : ℝ) : EReal) := by
  unfold out0_C_8
  frame_open
  simp (disch := decide) only [↓ View.readCov_cons_toLoadRect, ↓ View.readCov_fill, ↓ View.readCov_skip]
  frame_out
  obtain ⟨n, h, rfl⟩ : ∃ n h, y = ix2 n h := ⟨y 0, y 1, eq_ix2 y⟩
  refine headSums_apply (Q := fun n x => Q n x + (dgate A G n x + dgate A G (128 + n) x)) (fun n d => sums_of _ _ (fun y => ?_) n d) n h
  refine canon_step_two (S := S128x2048) (e := .f32) (g := sumsAfter A G Q) (fun x => by exact sum_at h0 h1 (ld_f32 hQ _) _ _ _ _ _ x) fun n7 => ?_
  refine canon_step_two (S := S128x2048) (e := .f32) (g := sumsAfter A G Q) (fun x => by exact sum_at h0 h1 (ld_f32 hQ _) _ _ _ _ _ x) fun n6 => ?_
  refine canon_step_two (S := S128x2048) (e := .f32) (g := sumsAfter A G Q) (fun x => by exact sum_at h0 h1 (ld_f32 hQ _) _ _ _ _ _ x) fun n5 => ?_
  refine canon_step_two (S := S128x2048) (e := .f32) (g := sumsAfter A G Q) (fun x => by exact sum_at h0 h1 (ld_f32 hQ _) _ _ _ _ _ x) fun n4 => ?_
  refine canon_step_two (S := S128x2048) (e := .f32) (g := sumsAfter A G Q) (fun x => by exact sum_at h0 h1 (ld_f32 hQ _) _ _ _ _ _ x) fun n3 => ?_
  refine canon_step_two (S := S128x2048) (e := .f32) (g := sumsAfter A G Q) (fun x => by exact sum_at h0 h1 (ld_f32 hQ _) _ _ _ _ _ x) fun n2 => ?_
  refine canon_step_two (S := S128x2048) (e := .f32) (g := sumsAfter A G Q) (fun x => by exact sum_at h0 h1 (ld_f32 hQ _) _ _ _ _ _ x) fun n1 => ?_
  refine canon_step_two (S := S128x2048) (e := .f32) (g := sumsAfter A G Q) (fun x => by exact sum_at h0 h1 (ld_f32 hQ _) _ _ _ _ _ x) fun n0 => ?_
  have := mem_columns y _ n0
  have := mem_columns y _ n1
  have := mem_columns y _ n2
  have := mem_columns y _ n3
  have := mem_columns y _ n4
  have := mem_columns y _ n5
  have := mem_columns y _ n6
  have := mem_columns y _ n7
  have : (y 1 : ℕ) < 2048 := (y 1).isLt
  omega

end Cert.Last

end
-- ==== Proof.Fold.lean ====
/-
  The kernel's five results as real functions of the whole arguments: each grid point's blocks are rows of the
  arguments, the accumulated outputs are sums over the points (by induction over the 16 points), and the last
  point masks the weight gradient and adds up each head's columns.
-/
module

public import proofs.«01_k».proof.Proof.BodyFirst
public import proofs.«01_k».proof.Proof.BodyMiddle
public import proofs.«01_k».proof.Proof.BodyLast
public import proofs.«01_k».proof.Proof.Gen.KernelIdeal.Value

@[expose] public section

set_option maxRecDepth 16384
set_option maxHeartbeats 1000000

noncomputable section

namespace Cert.Fold

open Idealize.ShloMosaic Idealize.ShloMosaic.TcCoe Idealize.SL.Sem Cert.KernelIdeal Cert.KernelIdeal.Gen Cert.Tile Cert.Lift
open Cert.Gating hiding slope

/-- The launched arguments are these real functions. -/
structure Holds (m : (ℓ : Loc nD τ sig) → Buf (Elt Ideal) ℓ) (c : Dev nD) (A G : ℕ → ℕ → ℝ) (lg lb : ℕ → ℝ)
    (W : ℕ → ℕ → ℕ → ℝ) (B : ℕ → ℕ → ℝ) : Prop where
  a : ∀ i j, (m ((c : Thread nD τ).loc main_arg0) : Vec Ideal S4096x4096 .f32) (ix2 i j) = ((A i j : ℝ) : EReal)
  g : ∀ i j, (m ((c : Thread nD τ).loc main_arg1) : Vec Ideal S4096x2048 .f32) (ix2 i j) = ((G i j : ℝ) : EReal)
  gain : ∀ j, (m ((c : Thread nD τ).loc main_arg2) : Vec Ideal S1x2048 .f32) (ix2 0 j) = ((lg j : ℝ) : EReal)
  bias : ∀ j, (m ((c : Thread nD τ).loc main_arg3) : Vec Ideal S1x2048 .f32) (ix2 0 j) = ((lb j : ℝ) : EReal)
  w : ∀ h n k, (m ((c : Thread nD τ).loc main_arg4) : Vec Ideal S8x128x128 .f32) (ix3 h n k) = ((W h n k : ℝ) : EReal)
  b : ∀ h n k, (m ((c : Thread nD τ).loc main_arg5) : Vec Ideal S8x128x1 .f32) (ix3 h n k) = ((B h n : ℝ) : EReal)

variable {m : (ℓ : Loc nD τ sig) → Buf (Elt Ideal) ℓ} {c : Dev nD} {A G : ℕ → ℕ → ℝ} {lg lb : ℕ → ℝ}
  {W : ℕ → ℕ → ℕ → ℝ} {B : ℕ → ℕ → ℝ} (H : Holds m c A G lg lb W B)

/-! ## The blocks -/

theorem idx : ∀ t : Fin cfg0.N, win0_0.index t = ![t.val, 0] ∧ win0_1.index t = ![t.val, 0] ∧ win0_2.index t = ![0, 0]
    ∧ win0_3.index t = ![0, 0] ∧ win0_4.index t = ![0, 0, 0] ∧ win0_5.index t = ![0, 0, 0] := by
  decide +kernel

/-- The rows that point `t` sees. -/
abbrev rows (t : ℕ) (X : ℕ → ℕ → ℝ) : ℕ → ℕ → ℝ := fun i j => X (2 * t * 128 + i) j

theorem rows_shifted (t : ℕ) (X : ℕ → ℕ → ℝ) : Shifted (2 * t) X (rows t X) := fun _ _ _ => rfl

theorem lt_points (t : Fin cfg0.N) : t.val < 16 := lt_of_lt_of_eq t.isLt (show cfg0.N = 16 from N_0)

include H

theorem block_a (t : Fin cfg0.N) (n : Fin 256) (d : Fin 4096) :
    (iblk m c 0 t : Vec Ideal S256x4096 .f32) (ix2 n d) = ((rows t.val A n d : ℝ) : EReal) := by
  have ht := lt_points t
  have e : (iblk m c 0 t : Vec Ideal S256x4096 .f32) (ix2 n d)
      = (m ((c : Thread nD τ).loc main_arg0) : Vec Ideal S4096x4096 .f32) (ix2 ⟨2 * t.val * 128 + n.val, by omega⟩ d) := by
    blk_ext [iblk, V, idx t]
  rw [e, H.a]

theorem block_g (t : Fin cfg0.N) (n : Fin 256) (d : Fin 2048) :
    (iblk m c 1 t : Vec Ideal S256x2048 .f32) (ix2 n d) = ((rows t.val G n d : ℝ) : EReal) := by
  have ht := lt_points t
  have e : (iblk m c 1 t : Vec Ideal S256x2048 .f32) (ix2 n d)
      = (m ((c : Thread nD τ).loc main_arg1) : Vec Ideal S4096x2048 .f32) (ix2 ⟨2 * t.val * 128 + n.val, by omega⟩ d) := by
    blk_ext [iblk, V, idx t]
  rw [e, H.g]

theorem block_gain (t : Fin cfg0.N) (d : Fin 2048) :
    (iblk m c 2 t : Vec Ideal S1x2048 .f32) (ix2 0 d) = ((lg d : ℝ) : EReal) := by
  rw [← H.gain]; blk_ext [iblk, V, idx t]

theorem block_bias (t : Fin cfg0.N) (d : Fin 2048) :
    (iblk m c 3 t : Vec Ideal S1x2048 .f32) (ix2 0 d) = ((lb d : ℝ) : EReal) := by
  rw [← H.bias]; blk_ext [iblk, V, idx t]

theorem block_w (t : Fin cfg0.N) (h : Fin 8) (n k : Fin 128) :
    (iblk m c 4 t : Vec Ideal S8x128x128 .f32) (ix3 h n k) = ((W h n k : ℝ) : EReal) := by
  rw [← H.w]; blk_ext [iblk, V, idx t]

theorem block_b (t : Fin cfg0.N) (h : Fin 8) (n : Fin 128) (k : Fin 1) :
    (iblk m c 5 t : Vec Ideal S8x128x1 .f32) (ix3 h n k) = ((B h n : ℝ) : EReal) := by
  rw [← H.b h n k]; blk_ext [iblk, V, idx t]

omit H

/-! ## The sums over the points -/

variable (A G lg lb W) in
/-- The weight gradient's sum over the first `k` blocks of 128 tokens. -/
def weightSum (k h n p : ℕ) : ℝ := ∑ b ∈ Finset.range k, dweightBlock A G lg lb eps b h n p

variable (A G W) in
/-- The gain gradient's sum over the first `k` tokens. -/
def gainSum (k j : ℕ) : ℝ := ∑ i ∈ Finset.range k, dscaled A G W i j * normed A eps i j

variable (A G W) in
def biasSum (k j : ℕ) : ℝ := ∑ i ∈ Finset.range k, dscaled A G W i j

variable (A G) in
def gateSum (k n j : ℕ) : ℝ := ∑ b ∈ Finset.range k, dgate A G (b * 128 + n) j

theorem weightSum_step (t h n p : ℕ) (hn : n < 128) (hp : p < 128) :
    weightSum A G lg lb (2 * t) h n p + (dweightBlock (rows t A) (rows t G) lg lb eps 0 h n p
      + dweightBlock (rows t A) (rows t G) lg lb eps 1 h n p) = weightSum A G lg lb (2 * t + 2) h n p := by
  rw [dweightBlock_shift (rows_shifted t A) (rows_shifted t G) 0 (by omega) h n p hn hp,
    dweightBlock_shift (rows_shifted t A) (rows_shifted t G) 1 (by omega) h n p hn hp]
  simp only [weightSum, Finset.sum_range_succ, Nat.add_zero]
  ring

theorem gainSum_step (t j : ℕ) :
    gainSum A G W (256 * t) j + ∑ n : Fin 256, dscaled (rows t A) (rows t G) W n j * normed (rows t A) eps n j
      = gainSum A G W (256 * t + 256) j := by
  rw [gainSum, gainSum, Finset.sum_range_add, ← Fin.sum_univ_eq_sum_range _ 256]
  congr 1
  refine Finset.sum_congr rfl fun n _ => ?_
  rw [dscaled_shift (rows_shifted t A) (rows_shifted t G) n n.isLt, normed_shift (rows_shifted t A) n n.isLt]
  congr 2 <;> omega

theorem biasSum_step (t j : ℕ) :
    biasSum A G W (256 * t) j + ∑ n : Fin 256, dscaled (rows t A) (rows t G) W n j = biasSum A G W (256 * t + 256) j := by
  rw [biasSum, biasSum, Finset.sum_range_add, ← Fin.sum_univ_eq_sum_range _ 256]
  congr 1
  refine Finset.sum_congr rfl fun n _ => ?_
  rw [dscaled_shift (rows_shifted t A) (rows_shifted t G) n n.isLt]
  congr 1; omega

theorem gateSum_step (t n j : ℕ) (hn : n < 128) :
    gateSum A G (2 * t) n j + (dgate (rows t A) (rows t G) n j + dgate (rows t A) (rows t G) (128 + n) j)
      = gateSum A G (2 * t + 2) n j := by
  rw [dgate_shift (rows_shifted t A) (rows_shifted t G) n (by omega),
    dgate_shift (rows_shifted t A) (rows_shifted t G) (128 + n) (by omega)]
  have e : 2 * t * 128 + (128 + n) = (2 * t + 1) * 128 + n := by omega
  simp only [gateSum, Finset.sum_range_succ, e]
  ring

/-- What is carried from point `k` to the next. -/
structure Carried (A G : ℕ → ℕ → ℝ) (lg lb : ℕ → ℝ) (W : ℕ → ℕ → ℕ → ℝ) (k : ℕ)
    (s : Vec Ideal S256x4096 .bf16 × Vec Ideal S8x128x128 .f32 × Vec Ideal S128x128 .f32 × Vec Ideal S1x2048 .f32
      × Vec Ideal S1x2048 .f32 × Vec Ideal S128x2048 .f32) : Prop where
  weights : ∀ h n p, s.2.1 (ix3 h n p) = ((weightSum A G lg lb (2 * k + 2) h n p : ℝ) : EReal)
  gain : ∀ j, s.2.2.2.1 (ix2 0 j) = ((gainSum A G W (256 * k + 256) j : ℝ) : EReal)
  bias : ∀ j, s.2.2.2.2.1 (ix2 0 j) = ((biasSum A G W (256 * k + 256) j : ℝ) : EReal)
  sums : ∀ n j, s.2.2.2.2.2 (ix2 n j) = ((gateSum A G (2 * k + 2) n j : ℝ) : EReal)

include H

theorem carried_first (t : Fin cfg0.N) (h0 : t.val % 16 = 0) (h1 : ¬t.val % 16 = 15) :
    Carried A G lg lb W t.val (outsAt0 m c t.val t.isLt) := by
  have ht := lt_points t
  have hz : t.val = 0 := by omega
  rw [outsAt0_A m c t h0 h1]
  refine ⟨?_, ?_, ?_, ?_⟩ <;> dsimp only
  · intro h n p
    rw [First.weights (A := rows t.val A) (G := rows t.val G) (lg := lg) (lb := lb)
      (h0 := block_a H t) (h1 := block_g H t) (h2 := block_gain H t) (h3 := block_bias H t)]
    rw [weightsAfter, ← weightSum_step t.val h n p n.isLt p.isLt]
    simp [hz, weightSum]
  · intro j
    rw [First.gain (A := rows t.val A) (G := rows t.val G) (W := W)
      (h0 := block_a H t) (h1 := block_g H t) (h4 := block_w H t)]
    rw [← gainSum_step t.val j]
    simp [hz, gainSum]
  · intro j
    rw [First.bias (A := rows t.val A) (G := rows t.val G) (W := W)
      (h0 := block_a H t) (h1 := block_g H t) (h4 := block_w H t)]
    rw [← biasSum_step t.val j]
    simp [hz, biasSum]
  · intro n j
    rw [First.sums (A := rows t.val A) (G := rows t.val G)
      (h0 := block_a H t) (h1 := block_g H t)]
    rw [sumsAfter, ← gateSum_step t.val n j n.isLt]
    simp [hz, gateSum]

/-- A point between the first and the last adds its blocks. -/
theorem carried_step (t : Fin cfg0.N) (h0 : ¬t.val % 16 = 0) (h1 : ¬t.val % 16 = 15) (k : ℕ) (hk : t.val = k + 1)
    (hp : Carried A G lg lb W k (outsAt0 m c (t.val - 1) (Nat.lt_of_le_of_lt (Nat.sub_le _ _) t.isLt))) :
    Carried A G lg lb W t.val (outsAt0 m c t.val t.isLt) := by
  rw [outsAt0_B m c t h0 h1]
  refine ⟨?_, ?_, ?_, ?_⟩ <;> dsimp only
  · intro h n p
    rw [Middle.weights (A := rows t.val A) (G := rows t.val G) (lg := lg) (lb := lb)
      (h0 := block_a H t) (h1 := block_g H t) (h2 := block_gain H t) (h3 := block_bias H t) (hO := hp.weights)]
    rw [weightsAfter, ← weightSum_step t.val h n p n.isLt p.isLt]
    simp only [hk, Nat.mul_add, Nat.mul_one]; rfl
  · intro j
    rw [Middle.gain (A := rows t.val A) (G := rows t.val G) (W := W)
      (h0 := block_a H t) (h1 := block_g H t) (h4 := block_w H t) (hP := hp.gain)]
    rw [← gainSum_step t.val j]
    simp only [hk, Nat.mul_add, Nat.mul_one]; rfl
  · intro j
    rw [Middle.bias (A := rows t.val A) (G := rows t.val G) (W := W)
      (h0 := block_a H t) (h1 := block_g H t) (h4 := block_w H t) (hR := hp.bias)]
    rw [← biasSum_step t.val j]
    simp only [hk, Nat.mul_add, Nat.mul_one]; rfl
  · intro n j
    rw [Middle.sums (A := rows t.val A) (G := rows t.val G) (h0 := block_a H t) (h1 := block_g H t) (hQ := hp.sums)]
    rw [sumsAfter, ← gateSum_step t.val n j n.isLt]
    simp only [hk, Nat.mul_add, Nat.mul_one]; rfl

/-- What every point but the last carries to the next. -/
theorem carried (k : ℕ) (hk : k < cfg0.N) (hl : k < 15) : Carried A G lg lb W k (outsAt0 m c k hk) := by
  induction k with
  | zero => exact carried_first H ⟨0, hk⟩ (by rfl) (by dsimp only; omega)
  | succ k ih =>
    exact carried_step H ⟨k + 1, hk⟩ (by dsimp only; omega) (by dsimp only; omega) k rfl (ih (Nat.lt_of_succ_lt hk) (by omega))

/-! ## The block of the saved activation's gradient at every point -/

theorem saved_at (t : Fin cfg0.N) (y : S256x4096.Idx) :
    (outsAt0 m c t.val t.isLt).1 y = ((dsaved A G lg lb W B eps (256 * t.val + y 0) (y 1) : ℝ) : EReal) := by
  have ht := lt_points t
  have e : dsaved (rows t.val A) (rows t.val G) lg lb W B eps (y 0) (y 1)
      = dsaved A G lg lb W B eps (256 * t.val + y 0) (y 1) := by
    rw [dsaved_shift (rows_shifted t.val A) (rows_shifted t.val G) (y 0) (y 0).isLt]
    congr 1; omega
  rw [← e]
  by_cases h0 : t.val % 16 = 0
  · have h1 : ¬t.val % 16 = 15 := by omega
    rw [outsAt0_A m c t h0 h1]; dsimp only
    rw [First.saved (A := rows t.val A) (G := rows t.val G) (lg := lg) (lb := lb) (W := W) (B := B)
      (h0 := block_a H t) (h1 := block_g H t) (h2 := block_gain H t) (h3 := block_bias H t) (h4 := block_w H t) (h5 := block_b H t)]
  · have hp : Carried A G lg lb W (t.val - 1) (outsAt0 m c (t.val - 1) (Nat.lt_of_le_of_lt (Nat.sub_le _ _) t.isLt)) :=
      carried H _ _ (by omega)
    by_cases h1 : t.val % 16 = 15
    · rw [outsAt0_C m c t h0 h1]; dsimp only
      rw [Last.saved (A := rows t.val A) (G := rows t.val G) (lg := lg) (lb := lb) (W := W) (B := B)
        (h0 := block_a H t) (h1 := block_g H t) (h2 := block_gain H t) (h3 := block_bias H t) (h4 := block_w H t) (h5 := block_b H t)]
    · rw [outsAt0_B m c t h0 h1]; dsimp only
      rw [Middle.saved (A := rows t.val A) (G := rows t.val G) (lg := lg) (lb := lb) (W := W) (B := B)
        (h0 := block_a H t) (h1 := block_g H t) (h2 := block_gain H t) (h3 := block_bias H t) (h4 := block_w H t) (h5 := block_b H t)]

/-! ## The arrays after the run -/

theorem final_saved (i : Fin 4096) (j : Fin 4096) :
    (Value.G6 m c : Vec Ideal S4096x4096 .bf16) (ix2 i j) = ((dsaved A G lg lb W B eps i j : ℝ) : EReal) := by
  have hN : cfg0.N = 16 := N_0
  have hp : Value.pt6Of (ix2 i j) = i.val / 256 := by
    show 1 * (i.val / 256 - 0) + 1 * (j.val / 4096 - 0) = _
    omega
  have hi : i.val / 256 < cfg0.N := by omega
  show (Value.G6 m c) (ix2 i j) = _
  unfold Value.G6
  rw [dif_pos (by rw [hp]; exact hi), Value.fold0_congr m c _ _ (i.val / 256) (by omega) hp, ← Value.outsAt0_sweep m c _ hi]
  refine (saved_at H ⟨i.val / 256, hi⟩ _).trans ?_
  have e0 : 256 * (i.val / 256) + i.val % 256 = i.val := by omega
  have e1 : j.val % 4096 = j.val := by omega
  show ((dsaved A G lg lb W B eps (256 * (i.val / 256) + i.val % 256) (j.val % 4096) : ℝ) : EReal) = _
  rw [e0, e1]

omit H in
theorem last_lt : 15 < cfg0.N := lt_of_lt_of_eq (by decide) (show cfg0.N = 16 from N_0).symm

theorem carried_last :
    Carried A G lg lb W 14 (outsAt0 m c ((⟨15, last_lt⟩ : Fin cfg0.N).val - 1) (Nat.lt_of_le_of_lt (Nat.sub_le _ _) last_lt)) :=
  carried H 14 _ (by decide)

theorem final_weights (h : Fin 8) (n p : Fin 128) :
    (Value.G7 m c : Vec Ideal S8x128x128 .f32) (ix3 h n p)
      = (((if p.val / 64 ≤ n.val / 64 then weightSum A G lg lb 32 h n p else 0) : ℝ) : EReal) := by
  show (Value.G7 m c) (ix3 h n p) = _
  rw [Value.G7_last m c, ← Value.outsAt0_sweep m c 15 last_lt, outsAt0_C m c ⟨15, last_lt⟩ (by decide) (by rfl)]
  dsimp only
  rw [Last.weights (A := rows 15 A) (G := rows 15 G) (lg := lg) (lb := lb) (h0 := block_a H _) (h1 := block_g H _)
    (h2 := block_gain H _) (h3 := block_bias H _) (hO := (carried_last H).weights)]
  rw [maskedAfter, ← weightSum_step 15 h n p n.isLt p.isLt]
  rfl

theorem final_gain (j : Fin 2048) :
    (Value.G9 m c : Vec Ideal S1x2048 .f32) (ix2 0 j) = ((gainSum A G W 4096 j : ℝ) : EReal) := by
  show (Value.G9 m c) (ix2 0 j) = _
  rw [Value.G9_last m c, ← Value.outsAt0_sweep m c 15 last_lt, outsAt0_C m c ⟨15, last_lt⟩ (by decide) (by rfl)]
  dsimp only
  rw [Last.gain (A := rows 15 A) (G := rows 15 G) (W := W) (h0 := block_a H _) (h1 := block_g H _) (h4 := block_w H _)
    (hP := (carried_last H).gain)]
  rw [← gainSum_step 15 j]
  rfl

theorem final_bias (j : Fin 2048) :
    (Value.G10 m c : Vec Ideal S1x2048 .f32) (ix2 0 j) = ((biasSum A G W 4096 j : ℝ) : EReal) := by
  show (Value.G10 m c) (ix2 0 j) = _
  rw [Value.G10_last m c, ← Value.outsAt0_sweep m c 15 last_lt, outsAt0_C m c ⟨15, last_lt⟩ (by decide) (by rfl)]
  dsimp only
  rw [Last.bias (A := rows 15 A) (G := rows 15 G) (W := W) (h0 := block_a H _) (h1 := block_g H _) (h4 := block_w H _)
    (hR := (carried_last H).bias)]
  rw [← biasSum_step 15 j]
  rfl

/-- The spatial bias's gradient: a head's 256 columns of the summed gate gradient, zero in the columns that pad it. -/
theorem final_heads (n h : Fin 128) :
    (Value.G8 m c : Vec Ideal S128x128 .f32) (ix2 n h)
      = ((∑ x : Fin 2048, gateSum A G 32 n x * (if x.val / 256 = h.val then 1 else 0) : ℝ) : EReal) := by
  show (Value.G8 m c) (ix2 n h) = _
  rw [Value.G8_last m c, ← Value.outsAt0_sweep m c 15 last_lt, outsAt0_C m c ⟨15, last_lt⟩ (by decide) (by rfl)]
  dsimp only
  rw [Last.heads (A := rows 15 A) (G := rows 15 G) (h0 := block_a H _) (h1 := block_g H _) (hQ := (carried_last H).sums)]
  simp only [← gateSum_step 15 n _ n.isLt]
  rfl

end Cert.Fold

end
-- ==== Proof.ReferenceForward.lean ====
/-
  The reference's forward pass and the first step of its backward pass, read at an index: each array the reference
  names is the real function of Proof/GatingReals.lean at the index's coordinates, the arguments being real.
-/
module

public import proofs.«01_k».proof.Proof.Gen.ReferenceIdeal.Read
public import proofs.«01_k».proof.Proof.GatingReals
public import proofs.«01_k».proof.Proof.Lift

@[expose] public section

noncomputable section

namespace Cert.Reference

open Cert.ReferenceIdeal Cert.ReferenceIdeal.Gen Cert.ReferenceIdeal.Read Idealize.ShloMosaic
open Cert.Gating Cert.Lift

/-! ## One operation on real operands -/

section Operations

variable {a b : Ideal .f32} {x y : ℝ}

theorem mul_real (ha : a = ((x : ℝ) : EReal)) (hb : b = ((y : ℝ) : EReal)) :
    (FloatOps.mulf a b : Ideal .f32) = ((x * y : ℝ) : EReal) := by
  rw [ha, hb]; exact (EReal.coe_mul x y).symm

theorem add_real (ha : a = ((x : ℝ) : EReal)) (hb : b = ((y : ℝ) : EReal)) :
    (FloatOps.addf a b : Ideal .f32) = ((x + y : ℝ) : EReal) := by
  rw [ha, hb]; exact (EReal.coe_add x y).symm

theorem sub_real (ha : a = ((x : ℝ) : EReal)) (hb : b = ((y : ℝ) : EReal)) :
    (FloatOps.subf a b : Ideal .f32) = ((x - y : ℝ) : EReal) := by
  rw [ha, hb]; exact (EReal.coe_sub x y).symm

theorem neg_real (ha : a = ((x : ℝ) : EReal)) : (FloatOps.hostNegf a : Ideal .f32) = ((-x : ℝ) : EReal) := by
  rw [ha]; exact (EReal.coe_neg x).symm

theorem div_real (ha : a = ((x : ℝ) : EReal)) (hb : b = ((y : ℝ) : EReal)) (hy : y ≠ 0) :
    (FloatOps.hostDivf a b : Ideal .f32) = ((x / y : ℝ) : EReal) := by
  rw [ha, hb]; exact div_lift x y hy

theorem exp_real (ha : a = ((x : ℝ) : EReal)) :
    (FloatOps.hostUnary .exp a : Ideal .f32) = ((Real.exp x : ℝ) : EReal) := by
  rw [ha]; exact Ideal.exp_coe (r := x)

theorem sqrt_real (ha : a = ((x : ℝ) : EReal)) (hx : 0 ≤ x) :
    (FloatOps.hostUnary .sqrt a : Ideal .f32) = ((Real.sqrt x : ℝ) : EReal) := by
  rw [ha]; exact (Ideal.sqrt_coe (r := x)).trans (if_neg (not_lt.mpr hx))

theorem rsqrt_real (ha : a = ((x : ℝ) : EReal)) (hx : 0 < x) :
    (FloatOps.hostUnary .rsqrt a : Ideal .f32) = (((Real.sqrt x)⁻¹ : ℝ) : EReal) := by
  rw [ha]; exact rsqrt_lift x hx

theorem arctan_real (ha : a = ((x : ℝ) : EReal)) :
    (FloatOps.hostUnary .atan a : Ideal .f32) = ((Real.arctan x : ℝ) : EReal) := by
  rw [ha]; rfl

/-- The complementary error function at the negated argument. -/
theorem erfc_real (ha : a = ((-x : ℝ) : EReal)) :
    (FloatOps.hostUnary .erfc a : Ideal .f32) = ((1 + erfR x : ℝ) : EReal) := by
  rw [ha, EReal.coe_neg]
  refine (Ideal.erfc_neg (x : EReal)).trans ?_
  rw [erf_lift]
  exact (EReal.coe_add 1 (erfR x)).symm

end Operations

/-- Changing the real on the right. -/
theorem real_eq {a : EReal} {x y : ℝ} (ha : a = ((x : ℝ) : EReal)) (h : x = y) : a = ((y : ℝ) : EReal) := h ▸ ha

/-- A sum of reals from the initial value zero. -/
theorem sum_real {n : ℕ} {z : EReal} {f : Fin n → EReal} {g : Fin n → ℝ} (hz : z = ((0 : ℝ) : EReal))
    (h : ∀ k, f k = ((g k : ℝ) : EReal)) : z + ∑ k : Fin n, f k = ((∑ k : Fin n, g k : ℝ) : EReal) := by
  rw [hz, EReal.coe_zero, zero_add]; exact sum_lift h

/-! ## The constants -/

theorem half_cst (i : S_.Idx) : val_main_cst (F := Ideal) i = ((1 / 2 : ℝ) : EReal) := ofBits_half

theorem four_cst (i : S_.Idx) : val_main_cst_2 (F := Ideal) i = ((4 : ℝ) : EReal) := by
  show Ideal.ofBits .f32 0x40800000#32 = _
  simp [Ideal.ofBits, Ideal.ieee, -EReal.coe_mul]; norm_num

theorem neg_two_cst (i : S_.Idx) : val_main_cst_3 (F := Ideal) i = ((-2 : ℝ) : EReal) := by
  show Ideal.ofBits .f32 0xC0000000#32 = _
  simp [Ideal.ofBits, Ideal.ieee, -EReal.coe_mul, -EReal.coe_neg]; norm_num

/-- The reference's `√½`. -/
theorem root_half (i : S_.Idx) : val_main_v4 (F := Ideal) i = (((Real.sqrt 2)⁻¹ : ℝ) : EReal) := by
  refine real_eq ((val_main_v4_apply (F := Ideal) i).trans ((val_main_v3_apply (F := Ideal) i).trans
    (sqrt_real (x := 1 / 2) ofBits_half (by norm_num)))) ?_
  rw [Real.sqrt_div (by norm_num), Real.sqrt_one, one_div]

/-- The reference's derivative of the complementary error function at zero: `-2 / √(4 · arctan 1)`. -/
theorem slope_at_zero (i : S_.Idx) : val_main_v15 (F := Ideal) i = ((-2 / Real.sqrt Real.pi : ℝ) : EReal) := by
  have h8 := (val_main_v8_apply (F := Ideal) i).trans (arctan_real (x := 1) ofBits_one)
  have h9 := (val_main_v9_apply (F := Ideal) i).trans (mul_real (four_cst i) h8)
  have e : 4 * Real.arctan 1 = Real.pi := by rw [Real.arctan_one]; ring
  have h10 := (val_main_v10_apply (F := Ideal) i).trans (sqrt_real (real_eq h9 e) Real.pi_pos.le)
  exact (val_main_v15_apply (F := Ideal) i).trans ((val_main_v11_apply (F := Ideal) i).trans
    (div_real (neg_two_cst i) h10 (Real.sqrt_pos.mpr Real.pi_pos).ne'))

/-! ## The activation -/

section Forward

variable {x0 : (⟨S4096x4096, .f32⟩ : BufTy).Contents (Elt Ideal)}
  {x1 : (⟨S4096x2048, .f32⟩ : BufTy).Contents (Elt Ideal)}
  {x2 x3 : (⟨S1x2048, .f32⟩ : BufTy).Contents (Elt Ideal)}
  {x4 : (⟨S8x128x128, .f32⟩ : BufTy).Contents (Elt Ideal)}
  {x5 : (⟨S8x128x1, .f32⟩ : BufTy).Contents (Elt Ideal)}
  {A G : ℕ → ℕ → ℝ} {lg lb : ℕ → ℝ} {W : ℕ → ℕ → ℕ → ℝ} {B : ℕ → ℕ → ℝ}

theorem half_saved (h0 : ∀ i, x0 i = ((A (i 0).val (i 1).val : ℝ) : EReal)) (i : S4096x4096.Idx) :
    val_main_v1 (F := Ideal) x0 i = ((1 / 2 * A (i 0).val (i 1).val : ℝ) : EReal) :=
  (val_main_v1_apply x0 i).trans (mul_real ((val_main_v0_apply (F := Ideal) i).trans (half_cst _)) (h0 i))

theorem argument (h0 : ∀ i, x0 i = ((A (i 0).val (i 1).val : ℝ) : EReal)) (i : S4096x4096.Idx) :
    val_main_v6 (F := Ideal) x0 i = ((-A (i 0).val (i 1).val * (Real.sqrt 2)⁻¹ : ℝ) : EReal) :=
  (val_main_v6_apply x0 i).trans (mul_real ((val_main_v2_apply x0 i).trans (neg_real (h0 i)))
    ((val_main_v5_apply (F := Ideal) i).trans (root_half _)))

theorem erfc_saved (h0 : ∀ i, x0 i = ((A (i 0).val (i 1).val : ℝ) : EReal)) (i : S4096x4096.Idx) :
    val_main_v7 (F := Ideal) x0 i = ((1 + erfR (A (i 0).val (i 1).val * (Real.sqrt 2)⁻¹) : ℝ) : EReal) :=
  (val_main_v7_apply x0 i).trans (erfc_real (real_eq (argument h0 i) (by ring)))

theorem erfc_slope (h0 : ∀ i, x0 i = ((A (i 0).val (i 1).val : ℝ) : EReal)) (i : S4096x4096.Idx) :
    val_main_v17 (F := Ideal) x0 i = ((-2 / Real.sqrt Real.pi
      * Real.exp (-(-A (i 0).val (i 1).val * (Real.sqrt 2)⁻¹ * (-A (i 0).val (i 1).val * (Real.sqrt 2)⁻¹))) : ℝ) : EReal) :=
  (val_main_v17_apply x0 i).trans (mul_real ((val_main_v16_apply (F := Ideal) i).trans (slope_at_zero _))
    ((val_main_v14_apply x0 i).trans (exp_real ((val_main_v13_apply x0 i).trans (neg_real
      ((val_main_v12_apply x0 i).trans (mul_real (argument h0 i) (argument h0 i))))))))

theorem activation (h0 : ∀ i, x0 i = ((A (i 0).val (i 1).val : ℝ) : EReal)) (i : S4096x4096.Idx) :
    val_main_v18 (F := Ideal) x0 i = ((A (i 0).val (i 1).val * cdf (A (i 0).val (i 1).val) : ℝ) : EReal) :=
  real_eq ((val_main_v18_apply x0 i).trans (mul_real (half_saved h0 i) (erfc_saved h0 i))) (by unfold cdf; ring)

/-- The branch `u`. -/
theorem left_half (h0 : ∀ i, x0 i = ((A (i 0).val (i 1).val : ℝ) : EReal)) (i : S4096x2048.Idx) :
    val_main_v19 (F := Ideal) x0 i = ((A (i 0).val (i 1).val * cdf (A (i 0).val (i 1).val) : ℝ) : EReal) :=
  (val_main_v19_apply x0 i).trans (activation h0 _)

/-- The branch `v`. -/
theorem right_half (h0 : ∀ i, x0 i = ((A (i 0).val (i 1).val : ℝ) : EReal)) (i : S4096x2048.Idx) :
    val_main_v20 (F := Ideal) x0 i = ((act A (i 0).val (i 1).val : ℝ) : EReal) :=
  (val_main_v20_apply x0 i).trans (activation h0 _)

/-! ## The norm -/

theorem row_mean (h0 : ∀ i, x0 i = ((A (i 0).val (i 1).val : ℝ) : EReal)) (i : S4096x1.Idx) :
    val_main_v24 (F := Ideal) x0 i = ((mean A (i 0).val : ℝ) : EReal) :=
  (val_main_v24_apply x0 i).trans (div_real
    ((val_main_v22_apply x0 i).trans ((val_main_v21_apply x0 _).trans
      (sum_real ofBits_zero fun k => right_half h0 (idx_main_v21 (idx_main_v22 i) k))))
    ((val_main_v23_apply (F := Ideal) i).trans ofBits_2048) (by norm_num))

/-- The deviation the variance squares. -/
theorem deviation (h0 : ∀ i, x0 i = ((A (i 0).val (i 1).val : ℝ) : EReal)) (i : S4096x2048.Idx) :
    val_main_v26 (F := Ideal) x0 i = ((centred A (i 0).val (i 1).val : ℝ) : EReal) :=
  (val_main_v26_apply x0 i).trans (sub_real (right_half h0 i) ((val_main_v25_apply x0 i).trans (row_mean h0 _)))

/-- The deviation the norm scales. -/
theorem deviation' (h0 : ∀ i, x0 i = ((A (i 0).val (i 1).val : ℝ) : EReal)) (i : S4096x2048.Idx) :
    val_main_v35 (F := Ideal) x0 i = ((centred A (i 0).val (i 1).val : ℝ) : EReal) :=
  (val_main_v35_apply x0 i).trans (sub_real (right_half h0 i) ((val_main_v34_apply x0 i).trans (row_mean h0 _)))

theorem twice_deviation (h0 : ∀ i, x0 i = ((A (i 0).val (i 1).val : ℝ) : EReal)) (i : S4096x2048.Idx) :
    val_main_v29 (F := Ideal) x0 i = ((2 * centred A (i 0).val (i 1).val : ℝ) : EReal) :=
  (val_main_v29_apply x0 i).trans (mul_real ((val_main_v28_apply (F := Ideal) i).trans ofBits_two) (deviation h0 i))

theorem row_spread (h0 : ∀ i, x0 i = ((A (i 0).val (i 1).val : ℝ) : EReal)) (i : S4096x1.Idx) :
    val_main_v37 (F := Ideal) x0 i = ((spread A eps (i 0).val : ℝ) : EReal) :=
  (val_main_v37_apply x0 i).trans (add_real
    ((val_main_v33_apply x0 i).trans (div_real
      ((val_main_v31_apply x0 i).trans ((val_main_v30_apply x0 _).trans
        (sum_real ofBits_zero fun k => (val_main_v27_apply x0 _).trans
          (mul_real (deviation h0 (idx_main_v30 (idx_main_v31 i) k)) (deviation h0 _)))))
      ((val_main_v32_apply (F := Ideal) i).trans ofBits_2048) (by norm_num)))
    ((val_main_v36_apply (F := Ideal) i).trans ofBits_eps))

theorem spread_pos (i : ℕ) : 0 < spread A eps i :=
  add_pos_of_nonneg_of_pos (div_nonneg (Finset.sum_nonneg fun _ _ => mul_self_nonneg _) (by norm_num)) eps_pos

theorem row_rstd (h0 : ∀ i, x0 i = ((A (i 0).val (i 1).val : ℝ) : EReal)) (i : S4096x1.Idx) :
    val_main_v38 (F := Ideal) x0 i = ((rstd A eps (i 0).val : ℝ) : EReal) :=
  (val_main_v38_apply x0 i).trans (rsqrt_real (row_spread h0 i) (spread_pos _))

/-- The factor `-½ · r / s` of the root's derivative. -/
theorem root_slope (h0 : ∀ i, x0 i = ((A (i 0).val (i 1).val : ℝ) : EReal)) (i : S4096x1.Idx) :
    val_main_v41 (F := Ideal) x0 i
      = ((-(1 / 2) * (rstd A eps (i 0).val / spread A eps (i 0).val) : ℝ) : EReal) :=
  (val_main_v41_apply x0 i).trans (mul_real ((val_main_v40_apply (F := Ideal) i).trans ofBits_neg_half)
    ((val_main_v39_apply x0 i).trans (div_real (row_rstd h0 i) (row_spread h0 i) (spread_pos _).ne')))

theorem normed_read (h0 : ∀ i, x0 i = ((A (i 0).val (i 1).val : ℝ) : EReal)) (i : S4096x2048.Idx) :
    val_main_v43 (F := Ideal) x0 i = ((normed A eps (i 0).val (i 1).val : ℝ) : EReal) :=
  (val_main_v43_apply x0 i).trans (mul_real (deviation' h0 i) ((val_main_v42_apply x0 i).trans (row_rstd h0 _)))

theorem scaled_read (h0 : ∀ i, x0 i = ((A (i 0).val (i 1).val : ℝ) : EReal))
    (h2 : ∀ i, x2 i = ((lg (i 1).val : ℝ) : EReal)) (h3 : ∀ i, x3 i = ((lb (i 1).val : ℝ) : EReal))
    (i : S4096x2048.Idx) :
    val_main_v47 (F := Ideal) x0 x2 x3 i = ((scaled A lg lb eps (i 0).val (i 1).val : ℝ) : EReal) :=
  (val_main_v47_apply x0 x2 x3 i).trans (add_real
    ((val_main_v45_apply x0 x2 i).trans (mul_real (normed_read h0 i) ((val_main_v44_apply x2 i).trans (h2 _))))
    ((val_main_v46_apply x3 i).trans (h3 _)))

/-- The same in the blocks' own coordinates: block, position, head, channel. -/
theorem scaled_blocks (h0 : ∀ i, x0 i = ((A (i 0).val (i 1).val : ℝ) : EReal))
    (h2 : ∀ i, x2 i = ((lg (i 1).val : ℝ) : EReal)) (h3 : ∀ i, x3 i = ((lb (i 1).val : ℝ) : EReal))
    (i : S32x128x8x256.Idx) :
    val_main_v48 (F := Ideal) x0 x2 x3 i
      = ((scaled A lg lb eps ((i 0).val * 128 + (i 1).val) ((i 2).val * 256 + (i 3).val) : ℝ) : EReal) := by
  have b0 : (i 0).val < 32 := (i 0).isLt
  have b1 : (i 1).val < 128 := (i 1).isLt
  have b2 : (i 2).val < 8 := (i 2).isLt
  have b3 : (i 3).val < 256 := (i 3).isLt
  refine real_eq ((val_main_v48_apply x0 x2 x3 i).trans (scaled_read h0 h2 h3 _)) (congrArg₂ _ ?_ ?_)
  · show ((((i 0).val * 128 + (i 1).val) * 8 + (i 2).val) * 256 + (i 3).val) / 2048 = _
    omega
  · show ((((i 0).val * 128 + (i 1).val) * 8 + (i 2).val) * 256 + (i 3).val) % 2048 = _
    omega

/-! ## The causal mask and the spatial weights -/

/-- The sign of a word. -/
def sign (w : BitVec 32) : BitVec 32 := if w = 0 then 0 else if w.msb then -1 else 1

/-- A position's chunk of 64, as the reference's rounding division computes it. -/
theorem chunk_word (i : S128.Idx) : val_main_v50 (F := Ideal) i = BitVec.ofNat 32 ((i 0).val / 64) := by
  have h : ∀ n : Fin 128, Scalar.select
      (IntOp.andi (IntOp.cmpi .ne (sign (BitVec.ofNat 32 n.val)) (sign 64#32))
        (IntOp.cmpi .ne (IntOp.remsi .host (BitVec.ofNat 32 n.val) 64#32) 0#32))
      (IntOp.subi (IntOp.divsi .host (BitVec.ofNat 32 n.val) 64#32) 1#32)
      (IntOp.divsi .host (BitVec.ofNat 32 n.val) 64#32) = BitVec.ofNat 32 (n.val / 64) := by decide
  exact h (i 0)

/-- The mask: the row's chunk is at or after the column's. -/
theorem mask_read (i : S8x128x128.Idx) :
    val_main_v57_1 (F := Ideal) i = if (i 2).val / 64 ≤ (i 1).val / 64 then 1#1 else 0#1 := by
  have b1 : (i 1).val < 128 := (i 1).isLt
  have b2 : (i 2).val < 128 := (i 2).isLt
  have h : ∀ a b : Fin 2, IntOp.cmpi .sge (BitVec.ofNat 32 a.val) (BitVec.ofNat 32 b.val)
      = if b.val ≤ a.val then 1#1 else 0#1 := by decide
  rw [val_main_v57_1_apply, val_main_v56_apply, val_main_v55_apply, val_main_v53_apply, val_main_v51_apply,
    val_main_v54_apply, val_main_v52_apply, chunk_word, chunk_word]
  exact h ⟨(i 1).val / 64, by omega⟩ ⟨(i 2).val / 64, by omega⟩

theorem zero_word (i : S_.Idx) : val_main_call1_v0 (F := Ideal) i = ((0 : ℝ) : EReal) := by
  show (((0#32 : BitVec 32).toInt : ℝ) : EReal) = _
  norm_num

theorem weight_read (h4 : ∀ i, x4 i = ((W (i 0).val (i 1).val (i 2).val : ℝ) : EReal)) (i : S8x128x128.Idx) :
    val_main_v57_0 (F := Ideal) x4 i = ((weight W (i 0).val (i 1).val (i 2).val : ℝ) : EReal) := by
  rw [val_main_v57_0_apply, mask_read, weight]
  split
  · exact h4 i
  · exact (val_main_call1_v2_apply (F := Ideal) i).trans (zero_word _)

/-! ## The gate -/

theorem gate_read (h0 : ∀ i, x0 i = ((A (i 0).val (i 1).val : ℝ) : EReal))
    (h2 : ∀ i, x2 i = ((lg (i 1).val : ℝ) : EReal)) (h3 : ∀ i, x3 i = ((lb (i 1).val : ℝ) : EReal))
    (h4 : ∀ i, x4 i = ((W (i 0).val (i 1).val (i 2).val : ℝ) : EReal))
    (h5 : ∀ i, x5 i = ((B (i 0).val (i 1).val : ℝ) : EReal)) (i : S4096x2048.Idx) :
    val_main_v65 (F := Ideal) x0 x2 x3 x4 x5 i = ((gate A lg lb W B eps (i 0).val (i 1).val : ℝ) : EReal) := by
  have b0 : (i 0).val < 4096 := (i 0).isLt
  have b1 : (i 1).val < 2048 := (i 1).isLt
  have mixed := fun j => ((val_main_v59_apply x0 x2 x3 x4 j).trans ((val_main_v58_apply x0 x2 x3 x4 _).trans
    (sum_lift fun k => mul_real (scaled_blocks h0 h2 h3 (lidx_main_v58 (idx_main_v59 j) k))
      (weight_read h4 (ridx_main_v58 (idx_main_v59 j) k)))))
  have bias := fun j => ((val_main_v63_apply x5 j).trans ((val_main_v62_apply x5 _).trans
    ((val_main_v61_apply x5 _).trans ((val_main_v60_apply x5 _).trans (h5 _)))))
  refine real_eq ((val_main_v65_apply x0 x2 x3 x4 x5 i).trans ((val_main_v64_apply x0 x2 x3 x4 x5 _).trans
    (add_real (mixed _) (bias _)))) ?_
  have e0 : ((i 0).val * 2048 + (i 1).val) / 262144 = (i 0).val / 128 := by omega
  have e1 : ((i 0).val * 2048 + (i 1).val) / 2048 % 128 = (i 0).val % 128 := by omega
  have e2 : ((i 0).val * 2048 + (i 1).val) / 256 % 8 = (i 1).val / 256 := by omega
  have e3 : ((i 0).val * 2048 + (i 1).val) % 256 = (i 1).val % 256 := by omega
  have e4 : ((i 1).val / 256) * 256 + (i 1).val % 256 = (i 1).val := by omega
  have e5 : (((i 1).val / 256) * 128 + (i 0).val % 128) / 128 = (i 1).val / 256 := by omega
  have e6 : (((i 1).val / 256) * 128 + (i 0).val % 128) / 1 % 128 = (i 0).val % 128 := by omega
  dsimp only [idx_main_v65, idx_main_v59, lidx_main_v58, ridx_main_v58, idx_main_v63, idx_main_v62, idx_main_v61,
    idx_main_v60]
  simp only [e0, e1, e2, e3, e4, e5, e6, gate]
  exact congrArg (· + _) (Finset.sum_congr rfl fun k _ => mul_comm _ _)

/-! ## The gate's gradient -/

theorem dgate_read (h0 : ∀ i, x0 i = ((A (i 0).val (i 1).val : ℝ) : EReal))
    (h1 : ∀ i, x1 i = ((G (i 0).val (i 1).val : ℝ) : EReal)) (i : S4096x2048.Idx) :
    val_main_v67 (F := Ideal) x0 x1 i = ((dgate A G (i 0).val (i 1).val : ℝ) : EReal) :=
  real_eq ((val_main_v67_apply x0 x1 i).trans (mul_real (left_half h0 i) (h1 i))) (mul_comm _ _)

theorem dgate_blocks (h0 : ∀ i, x0 i = ((A (i 0).val (i 1).val : ℝ) : EReal))
    (h1 : ∀ i, x1 i = ((G (i 0).val (i 1).val : ℝ) : EReal)) (i : S32x128x8x256.Idx) :
    val_main_v69 (F := Ideal) x0 x1 i
      = ((dgate A G ((i 0).val * 128 + (i 1).val) ((i 2).val * 256 + (i 3).val) : ℝ) : EReal) := by
  have b0 : (i 0).val < 32 := (i 0).isLt
  have b1 : (i 1).val < 128 := (i 1).isLt
  have b2 : (i 2).val < 8 := (i 2).isLt
  have b3 : (i 3).val < 256 := (i 3).isLt
  refine real_eq ((val_main_v69_apply x0 x1 i).trans (dgate_read h0 h1 _)) (congrArg₂ _ ?_ ?_)
  · show ((((i 0).val * 128 + (i 1).val) * 8 + (i 2).val) * 256 + (i 3).val) / 2048 = _
    omega
  · show ((((i 0).val * 128 + (i 1).val) * 8 + (i 2).val) * 256 + (i 3).val) % 2048 = _
    omega

end Forward

end Cert.Reference
-- ==== Proof.ReferenceBackward.lean ====
/-
  The reference's backward pass read at an index: its five results are the real functions of Proof/GatingReals.lean.
-/
module

public import proofs.«01_k».proof.Proof.ReferenceForward
public import Idealize.ShloMosaic.Lib.TwoAxisContraction
public import Idealize.ShloMosaic.Lib.Pointwise.Index
public import Idealize.ShloMosaic.Lib.KernelVsHost

@[expose] public section

noncomputable section

namespace Cert.Reference

open Cert.ReferenceIdeal Cert.ReferenceIdeal.Gen Cert.ReferenceIdeal.Read Idealize.ShloMosaic
open Cert.Gating Cert.Lift Finset
open Idealize.ShloMosaic.ValueIdx (contrEquiv2 contrEquiv2_symm_val0 contrEquiv2_symm_val1)

/-! ## Sums over two axes -/

/-- A sum over the first and last of four axes. -/
theorem sum_outer {a n h d : ℕ} (hr : (⟨4, ![a, n, h, d]⟩ : Shape).ReducesTo [0, 3] ⟨2, ![n, h]⟩)
    (x : (⟨4, ![a, n, h, d]⟩ : Shape).Idx → EReal) (z : EReal) (j : (⟨2, ![n, h]⟩ : Shape).Idx) :
    Ideal.hostReduceAdd hr x z j
      = z + ∑ c : Fin a, ∑ e : Fin d, x (ix4 c ⟨(j 0).val, (j 0).isLt⟩ ⟨(j 1).val, (j 1).isLt⟩ e) := by
  unfold Ideal.hostReduceAdd
  rw [← Fintype.sum_prod_type']
  refine congrArg (z + ·) (Finset.sum_bij' (fun i _ => ((i 0, i 3) : Fin a × Fin d))
    (fun p _ => ix4 p.1 ⟨(j 0).val, (j 0).isLt⟩ ⟨(j 1).val, (j 1).isLt⟩ p.2) ?_ ?_ ?_ ?_ ?_)
  · intro i _; exact Finset.mem_univ _
  · intro p _
    refine Finset.mem_filter.mpr ⟨Finset.mem_univ _, funext fun b => Fin.ext ?_⟩
    match b with
    | ⟨0, _⟩ => exact Shape.ReducesTo.drop_apply_val hr _ 0
    | ⟨1, _⟩ => exact Shape.ReducesTo.drop_apply_val hr _ 1
  · intro i hi
    have e := (Finset.mem_filter.mp hi).2
    have e0 : (j 0).val = (i 1).val := by rw [← e]; exact Shape.ReducesTo.drop_apply_val hr i 0
    have e1 : (j 1).val = (i 2).val := by rw [← e]; exact Shape.ReducesTo.drop_apply_val hr i 1
    funext b
    refine Fin.ext ?_
    match b with
    | ⟨0, _⟩ => rfl
    | ⟨1, _⟩ => exact e0
    | ⟨2, _⟩ => exact e1
    | ⟨3, _⟩ => rfl
  · intro p _; rfl
  · intro i hi
    have e := (Finset.mem_filter.mp hi).2
    have e0 : (j 0).val = (i 1).val := by rw [← e]; exact Shape.ReducesTo.drop_apply_val hr i 0
    have e1 : (j 1).val = (i 2).val := by rw [← e]; exact Shape.ReducesTo.drop_apply_val hr i 1
    refine congrArg x (funext fun b => Fin.ext ?_)
    match b with
    | ⟨0, _⟩ => rfl
    | ⟨1, _⟩ => exact e0.symm
    | ⟨2, _⟩ => exact e1.symm
    | ⟨3, _⟩ => rfl

/-- The product of the weights' gradient, contracted over blocks and channels. -/
abbrev blockProduct := dot_S8x32x256x128_S32x128x8x256_S8x128x128_12_03_3_1_0_2

abbrev leftAt (i : S8x128x128.Idx) (c : Fin 32) (d : Fin 256) : S8x32x256x128.Idx := fun a => match a with
  | ⟨0, _⟩ => ⟨(i 0).val, (i 0).isLt⟩
  | ⟨1, _⟩ => ⟨c.val, c.isLt⟩
  | ⟨2, _⟩ => ⟨d.val, d.isLt⟩
  | ⟨3, _⟩ => ⟨(i 1).val, (i 1).isLt⟩

abbrev rightAt (i : S8x128x128.Idx) (c : Fin 32) (d : Fin 256) : S32x128x8x256.Idx := fun a => match a with
  | ⟨0, _⟩ => ⟨c.val, c.isLt⟩
  | ⟨1, _⟩ => ⟨(i 2).val, (i 2).isLt⟩
  | ⟨2, _⟩ => ⟨(i 0).val, (i 0).isLt⟩
  | ⟨3, _⟩ => ⟨d.val, d.isLt⟩

theorem left_axis0 (i : S8x128x128.Idx) (q : blockProduct.contr.Idx) :
    (blockProduct.lhsIdx i q 0).val = (i 0).val := by
  unfold DotDims.lhsIdx
  rw [dif_pos (show (0 : Fin S8x32x256x128.rank) ∈ blockProduct.lhsBatch by decide)]
  rfl

theorem left_axis1 (i : S8x128x128.Idx) (q : blockProduct.contr.Idx) :
    (blockProduct.lhsIdx i q 1).val = (q ⟨0, by decide⟩).val := by
  unfold DotDims.lhsIdx
  rw [dif_neg (show ¬(1 : Fin S8x32x256x128.rank) ∈ blockProduct.lhsBatch by decide),
    dif_neg (show ¬(1 : Fin S8x32x256x128.rank) ∈ blockProduct.lhsNonContracting by decide)]
  rfl

theorem left_axis2 (i : S8x128x128.Idx) (q : blockProduct.contr.Idx) :
    (blockProduct.lhsIdx i q 2).val = (q ⟨1, by decide⟩).val := by
  unfold DotDims.lhsIdx
  rw [dif_neg (show ¬(2 : Fin S8x32x256x128.rank) ∈ blockProduct.lhsBatch by decide),
    dif_neg (show ¬(2 : Fin S8x32x256x128.rank) ∈ blockProduct.lhsNonContracting by decide)]
  rfl

theorem left_axis3 (i : S8x128x128.Idx) (q : blockProduct.contr.Idx) :
    (blockProduct.lhsIdx i q 3).val = (i 1).val := by
  unfold DotDims.lhsIdx
  rw [dif_neg (show ¬(3 : Fin S8x32x256x128.rank) ∈ blockProduct.lhsBatch by decide),
    dif_pos (show (3 : Fin S8x32x256x128.rank) ∈ blockProduct.lhsNonContracting by decide)]
  rfl

theorem right_axis0 (i : S8x128x128.Idx) (q : blockProduct.contr.Idx) :
    (blockProduct.rhsIdx i q 0).val = (q ⟨0, by decide⟩).val := by
  unfold DotDims.rhsIdx
  rw [dif_neg (show ¬(0 : Fin S32x128x8x256.rank) ∈ blockProduct.rhsBatch by decide),
    dif_neg (show ¬(0 : Fin S32x128x8x256.rank) ∈ blockProduct.rhsNonContracting by decide)]
  rfl

theorem right_axis1 (i : S8x128x128.Idx) (q : blockProduct.contr.Idx) :
    (blockProduct.rhsIdx i q 1).val = (i 2).val := by
  unfold DotDims.rhsIdx
  rw [dif_neg (show ¬(1 : Fin S32x128x8x256.rank) ∈ blockProduct.rhsBatch by decide),
    dif_pos (show (1 : Fin S32x128x8x256.rank) ∈ blockProduct.rhsNonContracting by decide)]
  rfl

theorem right_axis2 (i : S8x128x128.Idx) (q : blockProduct.contr.Idx) :
    (blockProduct.rhsIdx i q 2).val = (i 0).val := by
  unfold DotDims.rhsIdx
  rw [dif_pos (show (2 : Fin S32x128x8x256.rank) ∈ blockProduct.rhsBatch by decide)]
  rfl

theorem right_axis3 (i : S8x128x128.Idx) (q : blockProduct.contr.Idx) :
    (blockProduct.rhsIdx i q 3).val = (q ⟨1, by decide⟩).val := by
  unfold DotDims.rhsIdx
  rw [dif_neg (show ¬(3 : Fin S32x128x8x256.rank) ∈ blockProduct.rhsBatch by decide),
    dif_neg (show ¬(3 : Fin S32x128x8x256.rank) ∈ blockProduct.rhsNonContracting by decide)]
  rfl

theorem left_index (i : S8x128x128.Idx) (q : blockProduct.contr.Idx) (c : Fin 32) (d : Fin 256)
    (hc : (q ⟨0, by decide⟩).val = c.val) (hd : (q ⟨1, by decide⟩).val = d.val) :
    blockProduct.lhsIdx i q = leftAt i c d := funext fun a => Fin.ext (by
  match a with
  | ⟨0, _⟩ => exact left_axis0 i q
  | ⟨1, _⟩ => exact (left_axis1 i q).trans hc
  | ⟨2, _⟩ => exact (left_axis2 i q).trans hd
  | ⟨3, _⟩ => exact left_axis3 i q)

theorem right_index (i : S8x128x128.Idx) (q : blockProduct.contr.Idx) (c : Fin 32) (d : Fin 256)
    (hc : (q ⟨0, by decide⟩).val = c.val) (hd : (q ⟨1, by decide⟩).val = d.val) :
    blockProduct.rhsIdx i q = rightAt i c d := funext fun a => Fin.ext (by
  match a with
  | ⟨0, _⟩ => exact (right_axis0 i q).trans hc
  | ⟨1, _⟩ => exact right_axis1 i q
  | ⟨2, _⟩ => exact right_axis2 i q
  | ⟨3, _⟩ => exact (right_axis3 i q).trans hd)

theorem product_read (x : (⟨S8x32x256x128, .f32⟩ : BufTy).Contents (Elt Ideal))
    (y : (⟨S32x128x8x256, .f32⟩ : BufTy).Contents (Elt Ideal)) (i : S8x128x128.Idx) :
    Host.dotGeneral (F := Ideal) (φ₁ := .f32) (φ₂ := .f32) blockProduct none x y i
      = ∑ c : Fin 32, ∑ d : Fin 256, (x (leftAt i c d) : EReal) * y (rightAt i c d) := by
  simp only [Host.dotGeneral]
  rw [Ideal.dotGeneral_apply]
  rw [← Equiv.sum_comp (contrEquiv2 blockProduct 32 256 rfl rfl rfl).symm, Fintype.sum_prod_type]
  refine Finset.sum_congr rfl fun c _ => Finset.sum_congr rfl fun d _ => ?_
  have hc := contrEquiv2_symm_val0 blockProduct 32 256 rfl rfl rfl (c, d)
  have hd := contrEquiv2_symm_val1 blockProduct 32 256 rfl rfl rfl (c, d)
  rw [left_index i _ c d hc hd, right_index i _ c d hc hd]

section Backward

variable {x0 : (⟨S4096x4096, .f32⟩ : BufTy).Contents (Elt Ideal)}
  {x1 : (⟨S4096x2048, .f32⟩ : BufTy).Contents (Elt Ideal)}
  {x2 x3 : (⟨S1x2048, .f32⟩ : BufTy).Contents (Elt Ideal)}
  {x4 : (⟨S8x128x128, .f32⟩ : BufTy).Contents (Elt Ideal)}
  {x5 : (⟨S8x128x1, .f32⟩ : BufTy).Contents (Elt Ideal)}
  {A G : ℕ → ℕ → ℝ} {lg lb : ℕ → ℝ} {W : ℕ → ℕ → ℕ → ℝ} {B : ℕ → ℕ → ℝ}

/-! ## The spatial bias -/

/-- The bias's gradient: the gate's gradient over blocks and the head's channels. -/
theorem bias_sum (h0 : ∀ i, x0 i = ((A (i 0).val (i 1).val : ℝ) : EReal))
    (h1 : ∀ i, x1 i = ((G (i 0).val (i 1).val : ℝ) : EReal)) (i : S128x8.Idx) :
    val_main_v70 (F := Ideal) x0 x1 i
      = ((∑ c : Fin 32, ∑ d : Fin 256, dgate A G (c.val * 128 + (i 0).val) ((i 1).val * 256 + d.val) : ℝ) : EReal) := by
  unfold val_main_v70
  simp only [Host.reduceAdd, Ideal.hostReduceAdd_def]
  refine (sum_outer _ _ _ i).trans ?_
  exact sum_real ofBits_zero fun c => sum_lift fun d => dgate_blocks h0 h1 _

theorem bias_total (h0 : ∀ i, x0 i = ((A (i 0).val (i 1).val : ℝ) : EReal))
    (h1 : ∀ i, x1 i = ((G (i 0).val (i 1).val : ℝ) : EReal)) (i : S128x8.Idx) :
    val_main_v72 (F := Ideal) x0 x1 i
      = ((∑ c : Fin 32, ∑ d : Fin 256, dgate A G (c.val * 128 + (i 0).val) ((i 1).val * 256 + d.val) : ℝ) : EReal) := by
  have b0 : (i 0).val < 128 := (i 0).isLt
  have b1 : (i 1).val < 8 := (i 1).isLt
  unfold val_main_v72
  simp only [Host.reduceAdd, Ideal.hostReduceAdd_def]
  refine (sum_outer _ _ _ i).trans ?_
  refine real_eq (sum_real ofBits_zero fun c => sum_lift fun d =>
    (val_main_v71_apply x0 x1 _).trans (bias_sum h0 h1 _)) ?_
  have e0 : ((((0 : ℕ) * 128 + (i 0).val) * 8 + (i 1).val) * 1 + 0) / 8 = (i 0).val := by omega
  have e1 : ((((0 : ℕ) * 128 + (i 0).val) * 8 + (i 1).val) * 1 + 0) % 8 = (i 1).val := by omega
  rw [Fin.sum_univ_one, Fin.sum_univ_one]
  refine Finset.sum_congr rfl fun c _ => Finset.sum_congr rfl fun d _ => ?_
  exact congrArg₂ _ (congrArg (c.val * 128 + ·) e0) (congrArg (· * 256 + d.val) e1)

theorem bias_columns (h0 : ∀ i, x0 i = ((A (i 0).val (i 1).val : ℝ) : EReal))
    (h1 : ∀ i, x1 i = ((G (i 0).val (i 1).val : ℝ) : EReal)) (i : S128x8.Idx) :
    val_main_v124 (F := Ideal) x0 x1 i
      = ((∑ c : Fin 32, ∑ d : Fin 256, dgate A G (c.val * 128 + (i 0).val) ((i 1).val * 256 + d.val) : ℝ) : EReal) := by
  have b0 : (i 0).val < 128 := (i 0).isLt
  have b1 : (i 1).val < 8 := (i 1).isLt
  refine real_eq ((val_main_v124_apply x0 x1 i).trans ((val_main_v123_apply x0 x1 _).trans
    ((val_main_v74_apply x0 x1 _).trans ((val_main_v73_apply x0 x1 _).trans (bias_total h0 h1 _))))) ?_
  have e0 : ((i 1).val * 128 + (i 0).val) / 128 = (i 1).val := by omega
  have e1 : ((i 1).val * 128 + (i 0).val) / 1 % 128 = (i 0).val := by omega
  refine Finset.sum_congr rfl fun c _ => Finset.sum_congr rfl fun d _ => ?_
  exact congrArg₂ _ (congrArg (c.val * 128 + ·) e1) (congrArg (· * 256 + d.val) e0)

/-- The result: the eight heads' columns, padded by zeros to 128 columns. -/
theorem bias_result (h0 : ∀ i, x0 i = ((A (i 0).val (i 1).val : ℝ) : EReal))
    (h1 : ∀ i, x1 i = ((G (i 0).val (i 1).val : ℝ) : EReal)) (i : S128x128.Idx) :
    val_main_v125 (F := Ideal) x0 x1 i
      = ((if (i 1).val < 8 then
          ∑ c : Fin 32, ∑ d : Fin 256, dgate A G (c.val * 128 + (i 0).val) ((i 1).val * 256 + d.val)
        else 0 : ℝ) : EReal) := by
  unfold val_main_v125
  by_cases hi : (i 1).val < 8
  · rw [if_pos hi]
    refine (pad_apply_of_inside _ _ _ _ _ _ _ i
      (fun a => match a with
        | ⟨0, _⟩ => ⟨(i 0).val, (i 0).isLt⟩
        | ⟨1, _⟩ => ⟨(i 1).val, hi⟩ : S128x8.Idx) (fun a => ?_)).trans (bias_columns h0 h1 _)
    match a with
    | ⟨0, _⟩ => show (i 0).val = 0 + (i 0).val * (0 + 1); omega
    | ⟨1, _⟩ => show (i 1).val = 0 + (i 1).val * (0 + 1); omega
  · rw [if_neg hi]
    refine (pad_apply_of_not_inside _ _ _ _ _ _ _ i (1 : Fin 2) (fun h => hi ?_)).trans ?_
    · have h2 : ((i 1).val - 0) / (0 + 1) < 8 := h.2.2
      omega
    · show (((0#32 : BitVec 32).toInt : ℝ) : EReal) = _
      norm_num

/-! ## The spatial weights -/

theorem dgate_transposed (h0 : ∀ i, x0 i = ((A (i 0).val (i 1).val : ℝ) : EReal))
    (h1 : ∀ i, x1 i = ((G (i 0).val (i 1).val : ℝ) : EReal)) (i : S8x32x256x128.Idx) :
    val_main_v75 (F := Ideal) x0 x1 i
      = ((dgate A G ((i 1).val * 128 + (i 3).val) ((i 0).val * 256 + (i 2).val) : ℝ) : EReal) :=
  (val_main_v75_apply x0 x1 i).trans (dgate_blocks h0 h1 _)

theorem weights_result (h0 : ∀ i, x0 i = ((A (i 0).val (i 1).val : ℝ) : EReal))
    (h1 : ∀ i, x1 i = ((G (i 0).val (i 1).val : ℝ) : EReal)) (h2 : ∀ i, x2 i = ((lg (i 1).val : ℝ) : EReal))
    (h3 : ∀ i, x3 i = ((lb (i 1).val : ℝ) : EReal)) (i : S8x128x128.Idx) :
    val_main_v79 (F := Ideal) x0 x1 x2 x3 i
      = ((if (i 2).val / 64 ≤ (i 1).val / 64 then
          ∑ c : Fin 32, dweightBlock A G lg lb eps c.val (i 0).val (i 1).val (i 2).val else 0 : ℝ) : EReal) := by
  rw [val_main_v79_apply, mask_read]
  split
  · refine Eq.trans (b := val_main_v76 (F := Ideal) x0 x1 x2 x3 i) rfl ?_
    unfold val_main_v76
    refine (product_read _ _ i).trans (sum_lift fun c => sum_lift fun d => ?_)
    exact mul_real (dgate_transposed h0 h1 _) (scaled_blocks h0 h2 h3 _)
  · exact (val_main_call2_v0_apply (F := Ideal) i).trans ofBits_zero

/-! ## The mixed branch, the norm's gain and bias -/

theorem dscaled_read (h0 : ∀ i, x0 i = ((A (i 0).val (i 1).val : ℝ) : EReal))
    (h1 : ∀ i, x1 i = ((G (i 0).val (i 1).val : ℝ) : EReal))
    (h4 : ∀ i, x4 i = ((W (i 0).val (i 1).val (i 2).val : ℝ) : EReal)) (i : S4096x2048.Idx) :
    val_main_v80 (F := Ideal) x0 x1 x4 i = ((dscaled A G W (i 0).val (i 1).val : ℝ) : EReal) := by
  have b0 : (i 0).val < 4096 := (i 0).isLt
  have b1 : (i 1).val < 2048 := (i 1).isLt
  have mixed := fun j => ((val_main_v78_apply x0 x1 x4 j).trans ((val_main_v77_apply x0 x1 x4 _).trans
    (sum_lift fun k => mul_real (dgate_transposed h0 h1 (lidx_main_v77 (idx_main_v78 j) k))
      (weight_read h4 (ridx_main_v77 (idx_main_v78 j) k)))))
  refine real_eq ((val_main_v80_apply x0 x1 x4 i).trans (mixed _)) ?_
  have e0 : ((i 0).val * 2048 + (i 1).val) / 262144 = (i 0).val / 128 := by omega
  have e1 : ((i 0).val * 2048 + (i 1).val) / 2048 % 128 = (i 0).val % 128 := by omega
  have e2 : ((i 0).val * 2048 + (i 1).val) / 256 % 8 = (i 1).val / 256 := by omega
  have e3 : ((i 0).val * 2048 + (i 1).val) % 256 = (i 1).val % 256 := by omega
  have e4 : ((i 1).val / 256) * 256 + (i 1).val % 256 = (i 1).val := by omega
  dsimp only [idx_main_v80, idx_main_v78, lidx_main_v77, ridx_main_v77]
  simp only [e0, e1, e2, e3, e4, dscaled]
  exact Finset.sum_congr rfl fun k _ => mul_comm _ _

theorem norm_bias_result (h0 : ∀ i, x0 i = ((A (i 0).val (i 1).val : ℝ) : EReal))
    (h1 : ∀ i, x1 i = ((G (i 0).val (i 1).val : ℝ) : EReal))
    (h4 : ∀ i, x4 i = ((W (i 0).val (i 1).val (i 2).val : ℝ) : EReal)) (i : S1x2048.Idx) :
    val_main_v82 (F := Ideal) x0 x1 x4 i = ((∑ k : Fin 4096, dscaled A G W k.val (i 1).val : ℝ) : EReal) := by
  have b0 : (i 0).val < 1 := (i 0).isLt
  refine real_eq ((val_main_v82_apply x0 x1 x4 i).trans ((val_main_v81_apply x0 x1 x4 _).trans
    (sum_real ofBits_zero fun k => dscaled_read h0 h1 h4 _))) (Finset.sum_congr rfl fun k _ => congrArg _ ?_)
  show (i 0).val * 2048 + (i 1).val = (i 1).val
  omega

theorem norm_gain_result (h0 : ∀ i, x0 i = ((A (i 0).val (i 1).val : ℝ) : EReal))
    (h1 : ∀ i, x1 i = ((G (i 0).val (i 1).val : ℝ) : EReal))
    (h4 : ∀ i, x4 i = ((W (i 0).val (i 1).val (i 2).val : ℝ) : EReal)) (i : S1x2048.Idx) :
    val_main_v85 (F := Ideal) x0 x1 x4 i
      = ((∑ k : Fin 4096, dscaled A G W k.val (i 1).val * normed A eps k.val (i 1).val : ℝ) : EReal) := by
  have b0 : (i 0).val < 1 := (i 0).isLt
  have e : (i 0).val * 2048 + (i 1).val = (i 1).val := by omega
  refine real_eq ((val_main_v85_apply x0 x1 x4 i).trans ((val_main_v84_apply x0 x1 x4 _).trans
    (sum_real ofBits_zero fun k => (val_main_v83_apply x0 x1 x4 _).trans
      (mul_real (normed_read h0 _) (dscaled_read h0 h1 h4 _))))) (Finset.sum_congr rfl fun k _ => ?_)
  refine (mul_comm _ _).trans (congrArg₂ _ (congrArg _ ?_) (congrArg _ ?_))
  · exact e
  · exact e

/-! ## Through the norm -/

theorem dnormed_read (h0 : ∀ i, x0 i = ((A (i 0).val (i 1).val : ℝ) : EReal))
    (h1 : ∀ i, x1 i = ((G (i 0).val (i 1).val : ℝ) : EReal)) (h2 : ∀ i, x2 i = ((lg (i 1).val : ℝ) : EReal))
    (h4 : ∀ i, x4 i = ((W (i 0).val (i 1).val (i 2).val : ℝ) : EReal)) (i : S4096x2048.Idx) :
    val_main_v87 (F := Ideal) x0 x1 x2 x4 i = ((dnormed A G lg W (i 0).val (i 1).val : ℝ) : EReal) :=
  (val_main_v87_apply x0 x1 x2 x4 i).trans (mul_real (dscaled_read h0 h1 h4 i) ((val_main_v86_apply x2 i).trans (h2 _)))

/-- The gradient of the root's argument, one per row. -/
theorem dspread_read (h0 : ∀ i, x0 i = ((A (i 0).val (i 1).val : ℝ) : EReal))
    (h1 : ∀ i, x1 i = ((G (i 0).val (i 1).val : ℝ) : EReal)) (h2 : ∀ i, x2 i = ((lg (i 1).val : ℝ) : EReal))
    (h4 : ∀ i, x4 i = ((W (i 0).val (i 1).val (i 2).val : ℝ) : EReal)) (i : S4096x1.Idx) :
    val_main_v98 (F := Ideal) x0 x1 x2 x4 i
      = (((∑ k : Fin 2048, centred A (i 0).val k.val * dnormed A G lg W (i 0).val k.val)
          * (-(1 / 2) * (rstd A eps (i 0).val / spread A eps (i 0).val)) / 2048 : ℝ) : EReal) := by
  have b1 : (i 1).val < 1 := (i 1).isLt
  have e : (i 0).val * 1 + (i 1).val = (i 0).val := by omega
  have h90 : val_main_v90 (F := Ideal) x0 x1 x2 x4 i
      = ((∑ k : Fin 2048, centred A (i 0).val k.val * dnormed A G lg W (i 0).val k.val : ℝ) : EReal) := by
    refine real_eq ((val_main_v90_apply x0 x1 x2 x4 i).trans ((val_main_v89_apply x0 x1 x2 x4 _).trans
      (sum_real ofBits_zero fun k => (val_main_v88_apply x0 x1 x2 x4 _).trans
        (mul_real (deviation' h0 _) (dnormed_read h0 h1 h2 h4 _))))) (Finset.sum_congr rfl fun k _ => ?_)
    refine congrArg₂ _ (congrArg (centred A · _) ?_) (congrArg (dnormed A G lg W · _) ?_)
    · exact e
    · exact e
  exact (val_main_v98_apply x0 x1 x2 x4 i).trans (div_real ((val_main_v93_apply x0 x1 x2 x4 i).trans
    (mul_real h90 (root_slope h0 i))) ((val_main_v97_apply (F := Ideal) i).trans ofBits_2048) (by norm_num))

theorem through_spread (h0 : ∀ i, x0 i = ((A (i 0).val (i 1).val : ℝ) : EReal))
    (h1 : ∀ i, x1 i = ((G (i 0).val (i 1).val : ℝ) : EReal)) (h2 : ∀ i, x2 i = ((lg (i 1).val : ℝ) : EReal))
    (h4 : ∀ i, x4 i = ((W (i 0).val (i 1).val (i 2).val : ℝ) : EReal)) (i : S4096x2048.Idx) :
    val_main_v101 (F := Ideal) x0 x1 x2 x4 i
      = (((∑ k : Fin 2048, centred A (i 0).val k.val * dnormed A G lg W (i 0).val k.val)
          * (-(1 / 2) * (rstd A eps (i 0).val / spread A eps (i 0).val)) / 2048
          * (2 * centred A (i 0).val (i 1).val) : ℝ) : EReal) := by
  refine (val_main_v101_apply x0 x1 x2 x4 i).trans (mul_real ?_ (twice_deviation h0 i))
  refine real_eq ((val_main_v100_apply x0 x1 x2 x4 i).trans ((val_main_v99_apply x0 x1 x2 x4 _).trans
    (sum_real ofBits_zero fun k => dspread_read h0 h1 h2 h4 _))) (Fin.sum_univ_one _)

theorem through_root (h0 : ∀ i, x0 i = ((A (i 0).val (i 1).val : ℝ) : EReal))
    (h1 : ∀ i, x1 i = ((G (i 0).val (i 1).val : ℝ) : EReal)) (h2 : ∀ i, x2 i = ((lg (i 1).val : ℝ) : EReal))
    (h4 : ∀ i, x4 i = ((W (i 0).val (i 1).val (i 2).val : ℝ) : EReal)) (i : S4096x2048.Idx) :
    val_main_v92 (F := Ideal) x0 x1 x2 x4 i
      = ((dnormed A G lg W (i 0).val (i 1).val * rstd A eps (i 0).val : ℝ) : EReal) :=
  (val_main_v92_apply x0 x1 x2 x4 i).trans (mul_real (dnormed_read h0 h1 h2 h4 i)
    ((val_main_v91_apply x0 i).trans (row_rstd h0 _)))

/-- The mean's gradient, one per row. -/
theorem through_mean (h0 : ∀ i, x0 i = ((A (i 0).val (i 1).val : ℝ) : EReal))
    (h1 : ∀ i, x1 i = ((G (i 0).val (i 1).val : ℝ) : EReal)) (h2 : ∀ i, x2 i = ((lg (i 1).val : ℝ) : EReal))
    (h4 : ∀ i, x4 i = ((W (i 0).val (i 1).val (i 2).val : ℝ) : EReal)) (i : S4096x1.Idx) :
    val_main_v108 (F := Ideal) x0 x1 x2 x4 i
      = ((((∑ k : Fin 2048, -(dnormed A G lg W (i 0).val k.val * rstd A eps (i 0).val))
          + ∑ k : Fin 2048, -((∑ l : Fin 2048, centred A (i 0).val l.val * dnormed A G lg W (i 0).val l.val)
            * (-(1 / 2) * (rstd A eps (i 0).val / spread A eps (i 0).val)) / 2048
            * (2 * centred A (i 0).val k.val))) / 2048 : ℝ) : EReal) := by
  have b1 : (i 1).val < 1 := (i 1).isLt
  have e : (i 0).val * 1 + (i 1).val = (i 0).val := by omega
  refine (val_main_v108_apply x0 x1 x2 x4 i).trans (div_real ((val_main_v106_apply x0 x1 x2 x4 i).trans
    (add_real ?_ ?_)) ((val_main_v107_apply (F := Ideal) i).trans ofBits_2048) (by norm_num))
  · refine real_eq ((val_main_v96_apply x0 x1 x2 x4 i).trans ((val_main_v95_apply x0 x1 x2 x4 _).trans
      (sum_real ofBits_zero fun k => (val_main_v94_apply x0 x1 x2 x4 _).trans
        (neg_real (through_root h0 h1 h2 h4 _))))) ?_
    dsimp only [idx_main_v95, idx_main_v96]
    simp only [e]
  · refine real_eq ((val_main_v104_apply x0 x1 x2 x4 i).trans ((val_main_v103_apply x0 x1 x2 x4 _).trans
      (sum_real ofBits_zero fun k => (val_main_v102_apply x0 x1 x2 x4 _).trans
        (neg_real (through_spread h0 h1 h2 h4 _))))) ?_
    dsimp only [idx_main_v103, idx_main_v104]
    simp only [e]

/-- A row's deviations add up to nothing. -/
theorem centred_sum (A : ℕ → ℕ → ℝ) (i : ℕ) : ∑ k : Fin 2048, centred A i k.val = 0 := by
  simp only [centred, mean, Finset.sum_sub_distrib, Finset.sum_const, Finset.card_univ, Fintype.card_fin, nsmul_eq_mul]
  push_cast
  ring

theorem dact_read (h0 : ∀ i, x0 i = ((A (i 0).val (i 1).val : ℝ) : EReal))
    (h1 : ∀ i, x1 i = ((G (i 0).val (i 1).val : ℝ) : EReal)) (h2 : ∀ i, x2 i = ((lg (i 1).val : ℝ) : EReal))
    (h4 : ∀ i, x4 i = ((W (i 0).val (i 1).val (i 2).val : ℝ) : EReal)) (i : S4096x2048.Idx) :
    val_main_v111 (F := Ideal) x0 x1 x2 x4 i = ((dact A G lg W eps (i 0).val (i 1).val : ℝ) : EReal) := by
  have h110 := (val_main_v110_apply x0 x1 x2 x4 i).trans ((val_main_v109_apply x0 x1 x2 x4 _).trans
    (sum_real ofBits_zero fun k => through_mean h0 h1 h2 h4 _))
  rw [Fin.sum_univ_one] at h110
  refine real_eq ((val_main_v111_apply x0 x1 x2 x4 i).trans (add_real ((val_main_v105_apply x0 x1 x2 x4 i).trans
    (add_real (through_root h0 h1 h2 h4 i) (through_spread h0 h1 h2 h4 i))) h110)) ?_
  exact norm_grad (fun k : Fin 2048 => centred A (i 0).val k.val) (fun k : Fin 2048 => dnormed A G lg W (i 0).val k.val)
    (spread A eps (i 0).val) (spread_pos _) (centred_sum A _) ⟨(i 1).val, (i 1).isLt⟩

/-! ## The saved activation -/

/-- The gradient of the activation, both halves of the channels. -/
def dactivation (A G : ℕ → ℕ → ℝ) (lg lb : ℕ → ℝ) (W : ℕ → ℕ → ℕ → ℝ) (B : ℕ → ℕ → ℝ) (i j : ℕ) : ℝ :=
  if j < 2048 then G i j * gate A lg lb W B eps i j else dact A G lg W eps i (j - 2048)

theorem dactivation_read (h0 : ∀ i, x0 i = ((A (i 0).val (i 1).val : ℝ) : EReal))
    (h1 : ∀ i, x1 i = ((G (i 0).val (i 1).val : ℝ) : EReal)) (h2 : ∀ i, x2 i = ((lg (i 1).val : ℝ) : EReal))
    (h3 : ∀ i, x3 i = ((lb (i 1).val : ℝ) : EReal))
    (h4 : ∀ i, x4 i = ((W (i 0).val (i 1).val (i 2).val : ℝ) : EReal))
    (h5 : ∀ i, x5 i = ((B (i 0).val (i 1).val : ℝ) : EReal)) (i : S4096x4096.Idx) :
    val_main_v112 (F := Ideal) x0 x1 x2 x3 x4 x5 i
      = ((dactivation A G lg lb W B (i 0).val (i 1).val : ℝ) : EReal) := by
  have b1 : (i 1).val < 4096 := (i 1).isLt
  unfold val_main_v112 dactivation
  by_cases hi : (i 1).val < 2048
  · rw [if_pos hi]
    refine (concatenate_pair_apply_left (s₁ := S4096x2048) (s₂ := S4096x2048) (1 : Fin 2) _ _ _ i rfl
      (fun a => match a with
        | ⟨0, _⟩ => ⟨(i 0).val, (i 0).isLt⟩
        | ⟨1, _⟩ => ⟨(i 1).val, hi⟩ : S4096x2048.Idx) (fun a => ?_)).trans
      ((val_main_v68_apply x0 x1 x2 x3 x4 x5 _).trans (mul_real (h1 _) (gate_read h0 h2 h3 h4 h5 _)))
    match a with
    | ⟨0, _⟩ => rfl
    | ⟨1, _⟩ => rfl
  · rw [if_neg hi]
    refine (concatenate_pair_apply_right (s₁ := S4096x2048) (s₂ := S4096x2048) (1 : Fin 2) _ _ _ i rfl rfl
      (fun a => match a with
        | ⟨0, _⟩ => ⟨(i 0).val, (i 0).isLt⟩
        | ⟨1, _⟩ => ⟨(i 1).val - 2048, by show (i 1).val - 2048 < 2048; omega⟩ : S4096x2048.Idx) (fun a ha => ?_) ?_).trans
      (dact_read h0 h1 h2 h4 _)
    · match a with
      | ⟨0, _⟩ => rfl
      | ⟨1, _⟩ => exact absurd rfl ha
    · show (i 1).val - 2048 + 2048 = (i 1).val
      omega

theorem dsaved_eq (i j : ℕ) :
    dactivation A G lg lb W B i j * slope (A i j) = dsaved A G lg lb W B eps i j := by
  unfold dactivation dsaved
  split
  · rfl
  · rename_i h
    rw [duRight, show 2048 + (j - 2048) = j by omega]

theorem saved_result (h0 : ∀ i, x0 i = ((A (i 0).val (i 1).val : ℝ) : EReal))
    (h1 : ∀ i, x1 i = ((G (i 0).val (i 1).val : ℝ) : EReal)) (h2 : ∀ i, x2 i = ((lg (i 1).val : ℝ) : EReal))
    (h3 : ∀ i, x3 i = ((lb (i 1).val : ℝ) : EReal))
    (h4 : ∀ i, x4 i = ((W (i 0).val (i 1).val (i 2).val : ℝ) : EReal))
    (h5 : ∀ i, x5 i = ((B (i 0).val (i 1).val : ℝ) : EReal)) (i : S4096x4096.Idx) :
    val_main_v122 (F := Ideal) x0 x1 x2 x3 x4 x5 i
      = ((dsaved A G lg lb W B eps (i 0).val (i 1).val : ℝ) : EReal) := by
  have hd := dactivation_read h0 h1 h2 h3 h4 h5 i
  have h117 := (val_main_v117_apply x0 x1 x2 x3 x4 x5 i).trans (mul_real
    ((val_main_v115_apply x0 x1 x2 x3 x4 x5 i).trans (mul_real (erfc_slope h0 i)
      ((val_main_v113_apply x0 x1 x2 x3 x4 x5 i).trans (mul_real (half_saved h0 i) hd))))
    ((val_main_v116_apply (F := Ideal) i).trans (root_half _)))
  have h120 := (val_main_v120_apply x0 x1 x2 x3 x4 x5 i).trans (mul_real
    ((val_main_v119_apply (F := Ideal) i).trans ofBits_half)
    ((val_main_v114_apply x0 x1 x2 x3 x4 x5 i).trans (mul_real hd (erfc_saved h0 i))))
  have h121 := (val_main_v121_apply x0 x1 x2 x3 x4 x5 i).trans
    (add_real ((val_main_v118_apply x0 x1 x2 x3 x4 x5 i).trans (neg_real h117)) h120)
  refine Eq.trans (b := (val_main_v121 (F := Ideal) x0 x1 x2 x3 x4 x5 i : EReal)) rfl (real_eq h121 ?_)
  rw [← dsaved_eq, ← slope_eq]
  ring

end Backward

end Cert.Reference
-- ==== Proof.Results.lean ====
/-
  The two programs' results are equal. The precondition makes every argument an array of real numbers; the kernel's
  results (Proof/Fold.lean) and the reference's (Proof/ReferenceBackward.lean) are then the same real functions of
  them, up to the order in which finite sums are written.
-/
module

public import proofs.«01_k».proof.Defs
public import proofs.«01_k».proof.Proof.Fold
public import proofs.«01_k».proof.Proof.ReferenceBackward
public import Idealize.ShloMosaic.Lib.ReduceAll

@[expose] public section

set_option maxRecDepth 16384

noncomputable section

namespace Cert.Results

open Idealize.ShloMosaic Idealize.ShloMosaic.TcCoe Idealize.SL.Sem Cert.Gating Cert.Fold Cert.Tile Cert.Lift
open Cert.ReferenceIdeal.Read

/-! ## Real arguments -/

instance facts : Cert.Pre_finite.Facts where
  bcast_S_S4096x4096 := by decide
  reducesTo_S4096x4096_S_d0_1 := by decide
  h_S_ := by decide
  bcast_S_S4096x2048 := by decide
  reducesTo_S4096x2048_S_d0_1 := by decide
  bcast_S_S1x2048 := by decide
  reducesTo_S1x2048_S_d0_1 := by decide
  bcast_S_S8x128x128 := by decide
  reducesTo_S8x128x128_S_d0_1_2 := by decide
  bcast_S_S8x128x1 := by decide
  reducesTo_S8x128x1_S_d0_1_2 := by decide

/-- Neither infinity. -/
def IsReal (x : EReal) : Prop := x ≠ ⊤ ∧ x ≠ ⊥

theorem ofBits_infinity : Ideal.ofBits .f32 0x7F800000#32 = ⊤ := by
  simp [Ideal.ofBits, Ideal.ieee]

/-- An absolute value below infinity is that of a real number. -/
theorem real_of_below (x : EReal) (h : Ideal.cmp .olt (max x (-x)) (Ideal.ofBits .f32 0x7F800000#32) = 1#1) : IsReal x := by
  rw [ofBits_infinity] at h
  have h' : max x (-x) < ⊤ := by
    by_contra hn
    simp [Ideal.cmp, hn] at h
  constructor
  · rintro rfl; simp at h'
  · rintro rfl; simp at h'

theorem and_both {x y : IVec Cert.Pre_finite.S_ 1} {j : Cert.Pre_finite.S_.Idx} (h : andi x y j = 1#1) :
    x j = 1#1 ∧ y j = 1#1 := by
  have h' : x j &&& y j = 1#1 := h
  revert h'
  generalize x j = p
  generalize y j = q
  revert p q
  decide

instance : Subsingleton Cert.Pre_finite.S_.Idx := ⟨fun a b => funext fun k => k.elim0⟩

/-- Of a checked array, every entry is real. -/
theorem real_of_all {s : Shape} {axes : List (Fin s.rank)} (x : FVec Ideal s .f32) (hb : Cert.Pre_finite.S_.BroadcastsInDim s (![] : Fin 0 → Fin s.rank))
    (hr : s.ReducesTo axes Cert.Pre_finite.S_) (hu : 0 < Cert.Pre_finite.S_.numel) (init : IVec Cert.Pre_finite.S_ 1)
    (j : Cert.Pre_finite.S_.Idx)
    (h : Host.reduce IntOp.andi (cmpf .olt (Host.absf x) (broadcastInDim s ![] hb (constant Cert.Pre_finite.S_ .f32 0x7F800000#32)))
      init hr hu j = 1#1) (i : s.Idx) : IsReal (x i) :=
  real_of_below (x i) (Host.reduce_andi_all _ _ hr hu j h i)

/-- The precondition, entry by entry. -/
theorem real_arguments (x0 : FVec Ideal Cert.Pre_finite.S4096x4096 .f32) (x1 : FVec Ideal Cert.Pre_finite.S4096x2048 .f32)
    (x2 x3 : FVec Ideal Cert.Pre_finite.S1x2048 .f32) (x4 : FVec Ideal Cert.Pre_finite.S8x128x128 .f32)
    (x5 : FVec Ideal Cert.Pre_finite.S8x128x1 .f32) (h : Cert.Pre_finite.fn (F := Ideal) x0 x1 x2 x3 x4 x5 = fun _ => 1#1) :
    (∀ i, IsReal (x0 i)) ∧ (∀ i, IsReal (x1 i)) ∧ (∀ i, IsReal (x2 i)) ∧ (∀ i, IsReal (x3 i)) ∧ (∀ i, IsReal (x4 i)) ∧ ∀ i, IsReal (x5 i) := by
  have h5 := congrFun h (Shape.Idx.first (by decide))
  unfold Cert.Pre_finite.fn Cert.Pre_finite.fn_part1 at h5
  obtain ⟨h4, r5⟩ := and_both h5
  obtain ⟨h3, r4⟩ := and_both h4
  obtain ⟨h2, r3⟩ := and_both h3
  obtain ⟨h1, r2⟩ := and_both h2
  obtain ⟨r0, r1⟩ := and_both h1
  exact ⟨real_of_all x0 _ _ _ _ _ r0, real_of_all x1 _ _ _ _ _ r1, real_of_all x2 _ _ _ _ _ r2,
    real_of_all x3 _ _ _ _ _ r3, real_of_all x4 _ _ _ _ _ r4, real_of_all x5 _ _ _ _ _ r5⟩

/-- A real matrix's entries are a function of the row and the column. -/
theorem matrix {a b : ℕ} (x : (⟨2, ![a, b]⟩ : Shape).Idx → EReal) (h : ∀ i, IsReal (x i)) :
    ∃ X : ℕ → ℕ → ℝ, ∀ i, x i = ((X (i 0).val (i 1).val : ℝ) : EReal) := by
  refine ⟨fun n d => if hn : n < a ∧ d < b then (x (ix2 ⟨n, hn.1⟩ ⟨d, hn.2⟩)).toReal else 0, fun i => ?_⟩
  have b0 : (i 0).val < a := (i 0).isLt
  have b1 : (i 1).val < b := (i 1).isLt
  beta_reduce
  rw [dif_pos ⟨b0, b1⟩]
  have e : (ix2 ⟨(i 0).val, b0⟩ ⟨(i 1).val, b1⟩ : (⟨2, ![a, b]⟩ : Shape).Idx) = i := (eq_ix2 i).symm
  rw [e, EReal.coe_toReal (h i).1 (h i).2]

/-- A real array of three axes, likewise. -/
theorem stack {a b d : ℕ} (x : (⟨3, ![a, b, d]⟩ : Shape).Idx → EReal) (h : ∀ i, IsReal (x i)) :
    ∃ X : ℕ → ℕ → ℕ → ℝ, ∀ i, x i = ((X (i 0).val (i 1).val (i 2).val : ℝ) : EReal) := by
  refine ⟨fun n d' k => if hn : n < a ∧ d' < b ∧ k < d then (x (ix3 ⟨n, hn.1⟩ ⟨d', hn.2.1⟩ ⟨k, hn.2.2⟩)).toReal else 0, fun i => ?_⟩
  have b0 : (i 0).val < a := (i 0).isLt
  have b1 : (i 1).val < b := (i 1).isLt
  have b2 : (i 2).val < d := (i 2).isLt
  beta_reduce
  rw [dif_pos ⟨b0, b1, b2⟩]
  have e : (ix3 ⟨(i 0).val, b0⟩ ⟨(i 1).val, b1⟩ ⟨(i 2).val, b2⟩ : (⟨3, ![a, b, d]⟩ : Shape).Idx) = i := by
    funext k
    match k with
    | ⟨0, _⟩ => rfl
    | ⟨1, _⟩ => rfl
    | ⟨2, _⟩ => rfl
  rw [e, EReal.coe_toReal (h i).1 (h i).2]

/-- A real row, as a function of the column. -/
theorem row {b : ℕ} (x : (⟨2, ![1, b]⟩ : Shape).Idx → EReal) (h : ∀ i, IsReal (x i)) :
    ∃ X : ℕ → ℝ, ∀ i, x i = ((X (i 1).val : ℝ) : EReal) := by
  obtain ⟨X, hX⟩ := matrix x h
  refine ⟨X 0, fun i => (hX i).trans ?_⟩
  have b0 : (i 0).val < 1 := (i 0).isLt
  rw [show (i 0).val = 0 by omega]

/-- Real columns, as a function of the column's number and the row. -/
theorem columns {a b : ℕ} (x : (⟨3, ![a, b, 1]⟩ : Shape).Idx → EReal) (h : ∀ i, IsReal (x i)) :
    ∃ X : ℕ → ℕ → ℝ, ∀ i, x i = ((X (i 0).val (i 1).val : ℝ) : EReal) := by
  obtain ⟨X, hX⟩ := stack x h
  refine ⟨fun n d => X n d 0, fun i => (hX i).trans ?_⟩
  have b0 : (i 2).val < 1 := (i 2).isLt
  rw [show (i 2).val = 0 by omega]

/-! ## Two ways to write the sums -/

variable (A G : ℕ → ℕ → ℝ) (lg lb : ℕ → ℝ) (W : ℕ → ℕ → ℕ → ℝ)

theorem weight_sum (h n p : ℕ) :
    weightSum A G lg lb 32 h n p = ∑ c : Fin 32, dweightBlock A G lg lb eps c.val h n p :=
  (Fin.sum_univ_eq_sum_range (fun c => dweightBlock A G lg lb eps c h n p) 32).symm

theorem gain_sum (j : ℕ) :
    gainSum A G W 4096 j = ∑ k : Fin 4096, dscaled A G W k.val j * normed A eps k.val j :=
  (Fin.sum_univ_eq_sum_range (fun k => dscaled A G W k j * normed A eps k j) 4096).symm

theorem bias_sum (j : ℕ) : biasSum A G W 4096 j = ∑ k : Fin 4096, dscaled A G W k.val j :=
  (Fin.sum_univ_eq_sum_range (fun k => dscaled A G W k j) 4096).symm

/-- A sum over channels weighted by whether the channel is in head `h` is the sum over that head's channels. -/
theorem head_sum (f : ℕ → ℝ) (h : ℕ) :
    ∑ x : Fin 2048, f x.val * (if x.val / 256 = h then 1 else 0)
      = if h < 8 then ∑ d : Fin 256, f (h * 256 + d.val) else 0 := by
  have e : ∑ x : Fin 2048, f x.val * (if x.val / 256 = h then 1 else 0)
      = ∑ q : Fin 8 × Fin 256, f (q.1.val * 256 + q.2.val) * (if q.1.val = h then 1 else 0) := by
    refine (Fintype.sum_equiv (finProdFinEquiv (m := 8) (n := 256)) _ _ fun q => ?_).symm
    have v : (finProdFinEquiv q).val = q.1.val * 256 + q.2.val := by
      show q.2.val + 256 * q.1.val = _
      omega
    rw [v, show (q.1.val * 256 + q.2.val) / 256 = q.1.val by omega]
  rw [e, Fintype.sum_prod_type]
  simp only [← Finset.sum_mul, mul_ite, mul_one, mul_zero]
  split
  · next hh =>
    rw [Finset.sum_eq_single (⟨h, hh⟩ : Fin 8)]
    · simp
    · intro b _ hb
      exact Finset.sum_eq_zero fun x _ => if_neg fun hv => hb (Fin.ext hv)
    · intro hn
      exact absurd (Finset.mem_univ _) hn
  · next hh =>
    refine Finset.sum_eq_zero fun b _ => Finset.sum_eq_zero fun x _ => if_neg fun hv => hh ?_
    have := b.isLt
    omega

theorem gate_sum (n h : ℕ) :
    ∑ x : Fin 2048, gateSum A G 32 n x.val * (if x.val / 256 = h then 1 else 0)
      = if h < 8 then ∑ c : Fin 32, ∑ d : Fin 256, dgate A G (c.val * 128 + n) (h * 256 + d.val) else 0 := by
  rw [head_sum (fun x => gateSum A G 32 n x) h]
  refine if_congr Iff.rfl ?_ rfl
  rw [Finset.sum_comm]
  exact Finset.sum_congr rfl fun d _ => (Fin.sum_univ_eq_sum_range (fun b => dgate A G (b * 128 + n) (h * 256 + d.val)) 32).symm

/-! ## The results -/

variable {m : (ℓ : Loc Cert.KernelIdeal.nD Cert.KernelIdeal.τ Cert.KernelIdeal.sig) → Buf (Elt Ideal) ℓ}

/-- The five results of the kernel on a device are the reference's functions of that device's arguments. -/
theorem results (hm : Cert.Pre_KernelIdeal_finite m) (c : Dev Cert.KernelIdeal.nD) :
    (Cert.KernelIdeal.Value.G6 m c : Vec Ideal Cert.KernelIdeal.S4096x4096 .bf16)
        = val_main_v122 (F := Ideal) (m ((c.tc : Thread Cert.KernelIdeal.nD Cert.KernelIdeal.τ).loc Cert.KernelIdeal.main_arg0))
            (m ((c.tc : Thread Cert.KernelIdeal.nD Cert.KernelIdeal.τ).loc Cert.KernelIdeal.main_arg1))
            (m ((c.tc : Thread Cert.KernelIdeal.nD Cert.KernelIdeal.τ).loc Cert.KernelIdeal.main_arg2))
            (m ((c.tc : Thread Cert.KernelIdeal.nD Cert.KernelIdeal.τ).loc Cert.KernelIdeal.main_arg3))
            (m ((c.tc : Thread Cert.KernelIdeal.nD Cert.KernelIdeal.τ).loc Cert.KernelIdeal.main_arg4))
            (m ((c.tc : Thread Cert.KernelIdeal.nD Cert.KernelIdeal.τ).loc Cert.KernelIdeal.main_arg5))
      ∧ (Cert.KernelIdeal.Value.G7 m c : Vec Ideal Cert.KernelIdeal.S8x128x128 .f32)
        = val_main_v79 (F := Ideal) (m ((c.tc : Thread Cert.KernelIdeal.nD Cert.KernelIdeal.τ).loc Cert.KernelIdeal.main_arg0))
            (m ((c.tc : Thread Cert.KernelIdeal.nD Cert.KernelIdeal.τ).loc Cert.KernelIdeal.main_arg1))
            (m ((c.tc : Thread Cert.KernelIdeal.nD Cert.KernelIdeal.τ).loc Cert.KernelIdeal.main_arg2))
            (m ((c.tc : Thread Cert.KernelIdeal.nD Cert.KernelIdeal.τ).loc Cert.KernelIdeal.main_arg3))
      ∧ (Cert.KernelIdeal.Value.G8 m c : Vec Ideal Cert.KernelIdeal.S128x128 .f32)
        = val_main_v125 (F := Ideal) (m ((c.tc : Thread Cert.KernelIdeal.nD Cert.KernelIdeal.τ).loc Cert.KernelIdeal.main_arg0))
            (m ((c.tc : Thread Cert.KernelIdeal.nD Cert.KernelIdeal.τ).loc Cert.KernelIdeal.main_arg1))
      ∧ (Cert.KernelIdeal.Value.G9 m c : Vec Ideal Cert.KernelIdeal.S1x2048 .f32)
        = val_main_v85 (F := Ideal) (m ((c.tc : Thread Cert.KernelIdeal.nD Cert.KernelIdeal.τ).loc Cert.KernelIdeal.main_arg0))
            (m ((c.tc : Thread Cert.KernelIdeal.nD Cert.KernelIdeal.τ).loc Cert.KernelIdeal.main_arg1))
            (m ((c.tc : Thread Cert.KernelIdeal.nD Cert.KernelIdeal.τ).loc Cert.KernelIdeal.main_arg4))
      ∧ (Cert.KernelIdeal.Value.G10 m c : Vec Ideal Cert.KernelIdeal.S1x2048 .f32)
        = val_main_v82 (F := Ideal) (m ((c.tc : Thread Cert.KernelIdeal.nD Cert.KernelIdeal.τ).loc Cert.KernelIdeal.main_arg0))
            (m ((c.tc : Thread Cert.KernelIdeal.nD Cert.KernelIdeal.τ).loc Cert.KernelIdeal.main_arg1))
            (m ((c.tc : Thread Cert.KernelIdeal.nD Cert.KernelIdeal.τ).loc Cert.KernelIdeal.main_arg4)) := by
  obtain ⟨r0, r1, r2, r3, r4, r5⟩ := real_arguments _ _ _ _ _ _ (hm c)
  obtain ⟨A, h0⟩ := matrix _ r0
  obtain ⟨G, h1⟩ := matrix _ r1
  obtain ⟨lg, h2⟩ := row _ r2
  obtain ⟨lb, h3⟩ := row _ r3
  obtain ⟨W, h4⟩ := stack _ r4
  obtain ⟨B, h5⟩ := columns _ r5
  have one (i : Cert.Pre_finite.S1x2048.Idx) : (i 0).val = 0 := by
    have b : (i 0).val < 1 := (i 0).isLt
    omega
  have H : Holds m c A G lg lb W B :=
    { a := fun i j => h0 _, g := fun i j => h1 _, gain := fun j => h2 _, bias := fun j => h3 _,
      w := fun h n k => h4 _, b := fun h n k => h5 _ }
  refine ⟨funext fun i => ?_, funext fun i => ?_, funext fun i => ?_, funext fun i => ?_, funext fun i => ?_⟩
  · refine Eq.trans ?_ (Cert.Reference.saved_result h0 h1 h2 h3 h4 h5 i).symm
    rw [eq_ix2 i]
    exact final_saved H _ _
  · refine Eq.trans ?_ (Cert.Reference.weights_result h0 h1 h2 h3 i).symm
    rw [← weight_sum]
    rw [show i = ix3 (i 0) (i 1) (i 2) from funext fun k => match k with
      | ⟨0, _⟩ => rfl
      | ⟨1, _⟩ => rfl
      | ⟨2, _⟩ => rfl]
    exact final_weights H _ _ _
  · refine Eq.trans ?_ (Cert.Reference.bias_result h0 h1 i).symm
    rw [← gate_sum, eq_ix2 i]
    exact final_heads H _ _
  · refine Eq.trans ?_ (Cert.Reference.norm_gain_result h0 h1 h4 i).symm
    rw [← gain_sum, show i = ix2 0 (i 1) from (eq_ix2 i).trans (congrArg (ix2 · (i 1)) (Fin.ext (one i)))]
    exact final_gain H _
  · refine Eq.trans ?_ (Cert.Reference.norm_bias_result h0 h1 h4 i).symm
    rw [← bias_sum, show i = ix2 0 (i 1) from (eq_ix2 i).trans (congrArg (ix2 · (i 1)) (Fin.ext (one i)))]
    exact final_bias H _

end Cert.Results

end
-- ==== Proof.Runs.lean ====
/-
  What every product's claims end with: a reference's frame from its run, and a run's result exchanged for an equal one.
-/
module

public import Idealize.ShloMosaic.Adequacy
public import Idealize.ShloMosaic.Lib.Quiescent

@[expose] public section

namespace Cert.Runs

open Idealize.ShloMosaic Idealize.SL.Sem

variable {nD : ℕ} {τ : Topo} {sig : RefSig} {Val : EltTy → Type} {Λ : Labels} {defs : Defs nD τ sig Val Λ}
  {p : (c : Thread nD τ) → Prog (TpuEff nD τ sig Val Λ c.2) PUnit} {s : MemSt nD τ sig Val}
  {K : PUnit × MemSt nD τ sig Val → Dev nD → Prop}

/-- A run of a program without semaphores that ends with `K` on each device, among other things, is a frame. -/
theorem frame_of_run {Q : PUnit × MemSt nD τ sig Val → Dev nD → Prop} (h0 : sig.nSem + sig.nDmaSem = 0)
    (h : θ_run defs p s fun r => ∀ c, Q r c ∧ K r c) :
    θ_run defs p s fun r => (∀ c, K r c) ∧ r.2.sem = fun _ => 0 :=
  (θ_run defs _ _).mono (fun r h => ⟨fun c => (h c).2, sem_eq_zero_of_no_sems h0 r.2⟩) h

/-- A run that ends with the result `u` ends with the result `v`, where they are equal. -/
theorem result_of_run {T : Dev nD → Type} {read : PUnit × MemSt nD τ sig Val → (c : Dev nD) → T c} {u v : (c : Dev nD) → T c}
    (h : θ_run defs p s fun r => ∀ c, read r c = u c ∧ K r c) (e : ∀ c, u c = v c) :
    θ_run defs p s fun r => ∀ c, read r c = v c ∧ K r c :=
  (θ_run defs _ _).mono (fun _ h c => ⟨(h c).1.trans (e c), (h c).2⟩) h

/-! The same for a run with three results. -/

theorem frame_of_run3 {Q0 Q1 Q2 : PUnit × MemSt nD τ sig Val → Dev nD → Prop} (h0 : sig.nSem + sig.nDmaSem = 0)
    (h : θ_run defs p s fun r => ∀ c, Q0 r c ∧ Q1 r c ∧ Q2 r c ∧ K r c) :
    θ_run defs p s fun r => (∀ c, K r c) ∧ r.2.sem = fun _ => 0 :=
  (θ_run defs _ _).mono (fun r h => ⟨fun c => (h c).2.2.2, sem_eq_zero_of_no_sems h0 r.2⟩) h

theorem results_of_run3 {T0 T1 T2 : Dev nD → Type} {read0 : PUnit × MemSt nD τ sig Val → (c : Dev nD) → T0 c}
    {read1 : PUnit × MemSt nD τ sig Val → (c : Dev nD) → T1 c} {read2 : PUnit × MemSt nD τ sig Val → (c : Dev nD) → T2 c}
    {u0 v0 : (c : Dev nD) → T0 c} {u1 v1 : (c : Dev nD) → T1 c} {u2 v2 : (c : Dev nD) → T2 c}
    (h : θ_run defs p s fun r => ∀ c, read0 r c = u0 c ∧ read1 r c = u1 c ∧ read2 r c = u2 c ∧ K r c)
    (e : ∀ c, u0 c = v0 c ∧ u1 c = v1 c ∧ u2 c = v2 c) :
    θ_run defs p s fun r => ∀ c, read0 r c = v0 c ∧ read1 r c = v1 c ∧ read2 r c = v2 c ∧ K r c :=
  (θ_run defs _ _).mono (fun _ h c => ⟨(h c).1.trans (e c).1, (h c).2.1.trans (e c).2.1, (h c).2.2.1.trans (e c).2.2, (h c).2.2.2⟩) h

end Cert.Runs
-- ==== Proof.Forward.lean ====
/-
  The products of the step, forward: each grid point computes one tile of h · w from whole rows of h and whole columns of w.
-/
module

public import proofs.«01_k».proof.Defs
public import proofs.«01_k».proof.Proof.Runs
public import proofs.«01_k».proof.Proof.Gen.InForwardIdeal.Value
public import proofs.«01_k».proof.Proof.Gen.InForwardReferenceIdeal.Read
public import proofs.«01_k».proof.Proof.Gen.UpForwardIdeal.Value
public import proofs.«01_k».proof.Proof.Gen.UpForwardReferenceIdeal.Read
public import proofs.«01_k».proof.Proof.Gen.DownForwardIdeal.Value
public import proofs.«01_k».proof.Proof.Gen.DownForwardReferenceIdeal.Read
public import proofs.«01_k».proof.Proof.Gen.GmOutForwardIdeal.Value
public import proofs.«01_k».proof.Proof.Gen.GmOutForwardReferenceIdeal.Read
public import proofs.«01_k».proof.Proof.Gen.HgOutForwardIdeal.Value
public import proofs.«01_k».proof.Proof.Gen.HgOutForwardReferenceIdeal.Read
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

/-! ## The input product -/

namespace Cert.InForwardResult

open Cert.InForwardIdeal Cert.InForwardIdeal.Gen Cert.InForwardReferenceIdeal.Read

/-- The blocks of point `t`. -/
theorem idx : ∀ t : Fin cfg0.N, win0_0.index t = ![t.val / 4, 0] ∧ win0_1.index t = ![0, t.val % 4] ∧ win0_2.index t = ![t.val / 4, t.val % 4] := by
  decide +kernel

/-- The kernel's result is the reference's. -/
theorem result (m : (ℓ : Loc nD τ sig) → Buf (Elt Ideal) ℓ) (c : Dev nD) : (dats m 0 c).arrAt 2 cfg0.N
    = val_main_v2 (m ((c : Thread nD τ).loc main_arg0)) (m ((c : Thread nD τ).loc main_arg1)) := by
  refine (dats m 0 c).arrAt_eq_of_covers 2 _ (by decide +kernel) fun t _ y => ?_
  blk_simp
  rw [after0_2]
  frame_out
  obtain ⟨e0, e1, e2⟩ := idx t
  obtain ⟨i, j, rfl⟩ : ∃ i j, y = ix2 i j := ⟨_, _, eq_ix2 y⟩
  rw [val_main_v2_apply]
  pointwise [k0_pay1]
  blk_point [iblk, V, e0, e1, e2]

/-- Both programs run, with equal results. -/
theorem algebraic : Cert.algebraic_InForwardIdeal_InForwardReferenceIdeal := fun m g m' g' _ hargs =>
  ⟨_, Cert.InForwardIdeal.Value.run_blocks m g, Runs.result_of_run (Cert.InForwardReferenceIdeal.Value.run m' g') fun c => by
    rw [val_main_v2_eq, (hargs c).1, (hargs c).2, result]⟩

end Cert.InForwardResult

/-! ## The up product -/

namespace Cert.UpForwardResult

open Cert.UpForwardIdeal Cert.UpForwardIdeal.Gen Cert.UpForwardReferenceIdeal.Read

/-- The blocks of point `t`. -/
theorem idx : ∀ t : Fin cfg0.N, win0_0.index t = ![t.val / 4, 0] ∧ win0_1.index t = ![0, t.val % 4] ∧ win0_2.index t = ![t.val / 4, t.val % 4] := by
  decide +kernel

/-- The kernel's result is the reference's. -/
theorem result (m : (ℓ : Loc nD τ sig) → Buf (Elt Ideal) ℓ) (c : Dev nD) : (dats m 0 c).arrAt 2 cfg0.N
    = val_main_v2 (m ((c : Thread nD τ).loc main_arg0)) (m ((c : Thread nD τ).loc main_arg1)) := by
  refine (dats m 0 c).arrAt_eq_of_covers 2 _ (by decide +kernel) fun t _ y => ?_
  blk_simp
  rw [after0_2]
  frame_out
  obtain ⟨e0, e1, e2⟩ := idx t
  obtain ⟨i, j, rfl⟩ : ∃ i j, y = ix2 i j := ⟨_, _, eq_ix2 y⟩
  rw [val_main_v2_apply]
  pointwise [k0_pay1]
  blk_point [iblk, V, e0, e1, e2]

/-- Both programs run, with equal results. -/
theorem algebraic : Cert.algebraic_UpForwardIdeal_UpForwardReferenceIdeal := fun m g m' g' _ hargs =>
  ⟨_, Cert.UpForwardIdeal.Value.run_blocks m g, Runs.result_of_run (Cert.UpForwardReferenceIdeal.Value.run m' g') fun c => by
    rw [val_main_v2_eq, (hargs c).1, (hargs c).2, result]⟩

end Cert.UpForwardResult

/-! ## The down product -/

namespace Cert.DownForwardResult

open Cert.DownForwardIdeal Cert.DownForwardIdeal.Gen Cert.DownForwardReferenceIdeal.Read

/-- The blocks of point `t`. -/
theorem idx : ∀ t : Fin cfg0.N, win0_0.index t = ![t.val, 0] ∧ win0_1.index t = ![0, 0] ∧ win0_2.index t = ![t.val, 0] := by
  decide +kernel

/-- The kernel's result is the reference's. -/
theorem result (m : (ℓ : Loc nD τ sig) → Buf (Elt Ideal) ℓ) (c : Dev nD) : (dats m 0 c).arrAt 2 cfg0.N
    = val_main_v2 (m ((c : Thread nD τ).loc main_arg0)) (m ((c : Thread nD τ).loc main_arg1)) := by
  refine (dats m 0 c).arrAt_eq_of_covers 2 _ (by decide +kernel) fun t _ y => ?_
  blk_simp
  rw [after0_2]
  frame_out
  obtain ⟨e0, e1, e2⟩ := idx t
  obtain ⟨i, j, rfl⟩ : ∃ i j, y = ix2 i j := ⟨_, _, eq_ix2 y⟩
  rw [val_main_v2_apply]
  pointwise [k0_pay1]
  blk_point [iblk, V, e0, e1, e2]

/-- Both programs run, with equal results. -/
theorem algebraic : Cert.algebraic_DownForwardIdeal_DownForwardReferenceIdeal := fun m g m' g' _ hargs =>
  ⟨_, Cert.DownForwardIdeal.Value.run_blocks m g, Runs.result_of_run (Cert.DownForwardReferenceIdeal.Value.run m' g') fun c => by
    rw [val_main_v2_eq, (hargs c).1, (hargs c).2, result]⟩

end Cert.DownForwardResult

/-! ## The gating block's output product -/

namespace Cert.GmOutForwardResult

open Cert.GmOutForwardIdeal Cert.GmOutForwardIdeal.Gen Cert.GmOutForwardReferenceIdeal.Read

/-- The blocks of point `t`. -/
theorem idx : ∀ t : Fin cfg0.N, win0_0.index t = ![t.val, 0] ∧ win0_1.index t = ![0, 0] ∧ win0_2.index t = ![t.val, 0] := by
  decide +kernel

/-- The kernel's result is the reference's. -/
theorem result (m : (ℓ : Loc nD τ sig) → Buf (Elt Ideal) ℓ) (c : Dev nD) : (dats m 0 c).arrAt 2 cfg0.N
    = val_main_v2 (m ((c : Thread nD τ).loc main_arg0)) (m ((c : Thread nD τ).loc main_arg1)) := by
  refine (dats m 0 c).arrAt_eq_of_covers 2 _ (by decide +kernel) fun t _ y => ?_
  blk_simp
  rw [after0_2]
  frame_out
  obtain ⟨e0, e1, e2⟩ := idx t
  obtain ⟨i, j, rfl⟩ : ∃ i j, y = ix2 i j := ⟨_, _, eq_ix2 y⟩
  rw [val_main_v2_apply]
  pointwise [k0_pay1]
  blk_point [iblk, V, e0, e1, e2]

/-- Both programs run, with equal results. -/
theorem algebraic : Cert.algebraic_GmOutForwardIdeal_GmOutForwardReferenceIdeal := fun m g m' g' _ hargs =>
  ⟨_, Cert.GmOutForwardIdeal.Value.run_blocks m g, Runs.result_of_run (Cert.GmOutForwardReferenceIdeal.Value.run m' g') fun c => by
    rw [val_main_v2_eq, (hargs c).1, (hargs c).2, result]⟩

end Cert.GmOutForwardResult

/-! ## The recurrence's output product -/

namespace Cert.HgOutForwardResult

open Cert.HgOutForwardIdeal Cert.HgOutForwardIdeal.Gen Cert.HgOutForwardReferenceIdeal.Read

/-- The blocks of point `t`. -/
theorem idx : ∀ t : Fin cfg0.N, win0_0.index t = ![t.val, 0] ∧ win0_1.index t = ![0, 0] ∧ win0_2.index t = ![t.val, 0] := by
  decide +kernel

/-- The kernel's result is the reference's. -/
theorem result (m : (ℓ : Loc nD τ sig) → Buf (Elt Ideal) ℓ) (c : Dev nD) : (dats m 0 c).arrAt 2 cfg0.N
    = val_main_v2 (m ((c : Thread nD τ).loc main_arg0)) (m ((c : Thread nD τ).loc main_arg1)) := by
  refine (dats m 0 c).arrAt_eq_of_covers 2 _ (by decide +kernel) fun t _ y => ?_
  blk_simp
  rw [after0_2]
  frame_out
  obtain ⟨e0, e1, e2⟩ := idx t
  obtain ⟨i, j, rfl⟩ : ∃ i j, y = ix2 i j := ⟨_, _, eq_ix2 y⟩
  rw [val_main_v2_apply]
  pointwise [k0_pay1]
  blk_point [iblk, V, e0, e1, e2]

/-- Both programs run, with equal results. -/
theorem algebraic : Cert.algebraic_HgOutForwardIdeal_HgOutForwardReferenceIdeal := fun m g m' g' _ hargs =>
  ⟨_, Cert.HgOutForwardIdeal.Value.run_blocks m g, Runs.result_of_run (Cert.HgOutForwardReferenceIdeal.Value.run m' g') fun c => by
    rw [val_main_v2_eq, (hargs c).1, (hargs c).2, result]⟩

end Cert.HgOutForwardResult

end
-- ==== Proof.InputGradient.lean ====
/-
  The gradients of the products' inputs: each grid point computes one tile of ct · wᵀ from whole rows of ct and of w.
-/
module

public import proofs.«01_k».proof.Defs
public import proofs.«01_k».proof.Proof.Runs
public import proofs.«01_k».proof.Proof.Gen.InInputIdeal.Value
public import proofs.«01_k».proof.Proof.Gen.InInputReferenceIdeal.Read
public import proofs.«01_k».proof.Proof.Gen.DownInputIdeal.Value
public import proofs.«01_k».proof.Proof.Gen.DownInputReferenceIdeal.Read
public import proofs.«01_k».proof.Proof.Gen.GmOutInputIdeal.Value
public import proofs.«01_k».proof.Proof.Gen.GmOutInputReferenceIdeal.Read
public import proofs.«01_k».proof.Proof.Gen.HgOutInputIdeal.Value
public import proofs.«01_k».proof.Proof.Gen.HgOutInputReferenceIdeal.Read
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

/-! ## The input product -/

namespace Cert.InInputResult

open Cert.InInputIdeal Cert.InInputIdeal.Gen Cert.InInputReferenceIdeal.Read

/-- The blocks of point `t`. -/
theorem idx : ∀ t : Fin cfg0.N, win0_0.index t = ![t.val, 0] ∧ win0_1.index t = ![0, 0] ∧ win0_2.index t = ![t.val, 0] := by
  decide +kernel

/-- The kernel's result is the reference's. -/
theorem result (m : (ℓ : Loc nD τ sig) → Buf (Elt Ideal) ℓ) (c : Dev nD) : (dats m 0 c).arrAt 2 cfg0.N
    = val_main_v4 (m ((c : Thread nD τ).loc main_arg0)) (m ((c : Thread nD τ).loc main_arg1)) := by
  refine (dats m 0 c).arrAt_eq_of_covers 2 _ (by decide +kernel) fun t _ y => ?_
  blk_simp
  rw [after0_2]
  frame_out
  obtain ⟨e0, e1, e2⟩ := idx t
  obtain ⟨i, j, rfl⟩ : ∃ i j, y = ix2 i j := ⟨_, _, eq_ix2 y⟩
  rw [val_main_v4_apply]
  pointwise [k0_pay1]
  blk_point [iblk, V, e0, e1, e2]

/-- Both programs run, with equal results. -/
theorem algebraic : Cert.algebraic_InInputIdeal_InInputReferenceIdeal := fun m g m' g' _ hargs =>
  ⟨_, Cert.InInputIdeal.Value.run_blocks m g, Runs.result_of_run (Cert.InInputReferenceIdeal.Value.run m' g') fun c => by
    rw [val_main_v4_eq, (hargs c).1, (hargs c).2, result]⟩

end Cert.InInputResult

/-! ## The down product -/

namespace Cert.DownInputResult

open Cert.DownInputIdeal Cert.DownInputIdeal.Gen Cert.DownInputReferenceIdeal.Read

/-- The blocks of point `t`. -/
theorem idx : ∀ t : Fin cfg0.N, win0_0.index t = ![t.val / 2, 0] ∧ win0_1.index t = ![t.val % 2, 0] ∧ win0_2.index t = ![t.val / 2, t.val % 2] := by
  decide +kernel

/-- The kernel's result is the reference's. -/
theorem result (m : (ℓ : Loc nD τ sig) → Buf (Elt Ideal) ℓ) (c : Dev nD) : (dats m 0 c).arrAt 2 cfg0.N
    = val_main_v4 (m ((c : Thread nD τ).loc main_arg0)) (m ((c : Thread nD τ).loc main_arg1)) := by
  refine (dats m 0 c).arrAt_eq_of_covers 2 _ (by decide +kernel) fun t _ y => ?_
  blk_simp
  rw [after0_2]
  frame_out
  obtain ⟨e0, e1, e2⟩ := idx t
  obtain ⟨i, j, rfl⟩ : ∃ i j, y = ix2 i j := ⟨_, _, eq_ix2 y⟩
  rw [val_main_v4_apply]
  pointwise [k0_pay1]
  blk_point [iblk, V, e0, e1, e2]

/-- Both programs run, with equal results. -/
theorem algebraic : Cert.algebraic_DownInputIdeal_DownInputReferenceIdeal := fun m g m' g' _ hargs =>
  ⟨_, Cert.DownInputIdeal.Value.run_blocks m g, Runs.result_of_run (Cert.DownInputReferenceIdeal.Value.run m' g') fun c => by
    rw [val_main_v4_eq, (hargs c).1, (hargs c).2, result]⟩

end Cert.DownInputResult

/-! ## The gating block's output product -/

namespace Cert.GmOutInputResult

open Cert.GmOutInputIdeal Cert.GmOutInputIdeal.Gen Cert.GmOutInputReferenceIdeal.Read

/-- The blocks of point `t`. -/
theorem idx : ∀ t : Fin cfg0.N, win0_0.index t = ![t.val / 2, 0] ∧ win0_1.index t = ![t.val % 2, 0] ∧ win0_2.index t = ![t.val / 2, t.val % 2] := by
  decide +kernel

/-- The kernel's result is the reference's. -/
theorem result (m : (ℓ : Loc nD τ sig) → Buf (Elt Ideal) ℓ) (c : Dev nD) : (dats m 0 c).arrAt 2 cfg0.N
    = val_main_v4 (m ((c : Thread nD τ).loc main_arg0)) (m ((c : Thread nD τ).loc main_arg1)) := by
  refine (dats m 0 c).arrAt_eq_of_covers 2 _ (by decide +kernel) fun t _ y => ?_
  blk_simp
  rw [after0_2]
  frame_out
  obtain ⟨e0, e1, e2⟩ := idx t
  obtain ⟨i, j, rfl⟩ : ∃ i j, y = ix2 i j := ⟨_, _, eq_ix2 y⟩
  rw [val_main_v4_apply]
  pointwise [k0_pay1]
  blk_point [iblk, V, e0, e1, e2]

/-- Both programs run, with equal results. -/
theorem algebraic : Cert.algebraic_GmOutInputIdeal_GmOutInputReferenceIdeal := fun m g m' g' _ hargs =>
  ⟨_, Cert.GmOutInputIdeal.Value.run_blocks m g, Runs.result_of_run (Cert.GmOutInputReferenceIdeal.Value.run m' g') fun c => by
    rw [val_main_v4_eq, (hargs c).1, (hargs c).2, result]⟩

end Cert.GmOutInputResult

/-! ## The recurrence's output product -/

namespace Cert.HgOutInputResult

open Cert.HgOutInputIdeal Cert.HgOutInputIdeal.Gen Cert.HgOutInputReferenceIdeal.Read

/-- The blocks of point `t`. -/
theorem idx : ∀ t : Fin cfg0.N, win0_0.index t = ![t.val, 0] ∧ win0_1.index t = ![0, 0] ∧ win0_2.index t = ![t.val, 0] := by
  decide +kernel

/-- The kernel's result is the reference's. -/
theorem result (m : (ℓ : Loc nD τ sig) → Buf (Elt Ideal) ℓ) (c : Dev nD) : (dats m 0 c).arrAt 2 cfg0.N
    = val_main_v4 (m ((c : Thread nD τ).loc main_arg0)) (m ((c : Thread nD τ).loc main_arg1)) := by
  refine (dats m 0 c).arrAt_eq_of_covers 2 _ (by decide +kernel) fun t _ y => ?_
  blk_simp
  rw [after0_2]
  frame_out
  obtain ⟨e0, e1, e2⟩ := idx t
  obtain ⟨i, j, rfl⟩ : ∃ i j, y = ix2 i j := ⟨_, _, eq_ix2 y⟩
  rw [val_main_v4_apply]
  pointwise [k0_pay1]
  blk_point [iblk, V, e0, e1, e2]

/-- Both programs run, with equal results. -/
theorem algebraic : Cert.algebraic_HgOutInputIdeal_HgOutInputReferenceIdeal := fun m g m' g' _ hargs =>
  ⟨_, Cert.HgOutInputIdeal.Value.run_blocks m g, Runs.result_of_run (Cert.HgOutInputReferenceIdeal.Value.run m' g') fun c => by
    rw [val_main_v4_eq, (hargs c).1, (hargs c).2, result]⟩

end Cert.HgOutInputResult

end
-- ==== Proof.WeightGradient.lean ====
/-
  The gradients of the products' weights: each grid point computes one tile of hᵀ · ct from whole columns of h and of ct. The
  gradient of a weight cut by columns lies by chip and by half of its rows: a point's tile is one chip's columns of one half.
-/
module

public import proofs.«01_k».proof.Defs
public import proofs.«01_k».proof.Proof.Runs
public import proofs.«01_k».proof.Proof.Gen.InWeightIdeal.Value
public import proofs.«01_k».proof.Proof.Gen.InWeightReferenceIdeal.Read
public import proofs.«01_k».proof.Proof.Gen.UpWeightIdeal.Value
public import proofs.«01_k».proof.Proof.Gen.UpWeightReferenceIdeal.Read
public import proofs.«01_k».proof.Proof.Gen.GmOutWeightIdeal.Value
public import proofs.«01_k».proof.Proof.Gen.GmOutWeightReferenceIdeal.Read
public import proofs.«01_k».proof.Proof.Gen.HgOutWeightIdeal.Value
public import proofs.«01_k».proof.Proof.Gen.HgOutWeightReferenceIdeal.Read
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

/-! ## The input product -/

namespace Cert.InWeightResult

open Cert.InWeightIdeal Cert.InWeightIdeal.Gen Cert.InWeightReferenceIdeal.Read

/-- The blocks of point `t`. -/
theorem idx : ∀ t : Fin cfg0.N, win0_0.index t = ![0, t.val / 4] ∧ win0_1.index t = ![0, t.val % 4] ∧ win0_2.index t = ![t.val % 4, t.val / 4, 0, 0] := by
  decide +kernel

/-- The kernel's result is the reference's. -/
theorem result (m : (ℓ : Loc nD τ sig) → Buf (Elt Ideal) ℓ) (c : Dev nD) : (dats m 0 c).arrAt 2 cfg0.N
    = val_main_v8 (m ((c : Thread nD τ).loc main_arg0)) (m ((c : Thread nD τ).loc main_arg1)) := by
  refine (dats m 0 c).arrAt_eq_of_covers 2 _ (by decide +kernel) fun t _ y => ?_
  blk_simp
  rw [after0_2]
  frame_out
  obtain ⟨e0, e1, e2⟩ := idx t
  obtain ⟨p, q, i, j, rfl⟩ : ∃ p q i j, y = ix4 p q i j := ⟨_, _, _, _, eq_ix4 y⟩
  have ht : t.val < 8 := lt_of_lt_of_eq t.isLt (show cfg0.N = 8 from N_0)
  show _ = val_main_v7 (F := Ideal) _ _ _
  rw [val_main_v7_apply, val_main_v6_apply, val_main_v5_apply, val_main_v4_apply]
  pointwise [k0_pay1]
  refine (Finset.sum_congr rfl fun k _ => mul_comm _ _).trans ?_
  blk_point [iblk, V, e0, e1, e2]

/-- Both programs run, with equal results. -/
theorem algebraic : Cert.algebraic_InWeightIdeal_InWeightReferenceIdeal := fun m g m' g' _ hargs =>
  ⟨_, Cert.InWeightIdeal.Value.run_blocks m g, Runs.result_of_run (Cert.InWeightReferenceIdeal.Value.run m' g') fun c => by
    rw [val_main_v8_eq, (hargs c).1, (hargs c).2, result]⟩

end Cert.InWeightResult

/-! ## The up product -/

namespace Cert.UpWeightResult

open Cert.UpWeightIdeal Cert.UpWeightIdeal.Gen Cert.UpWeightReferenceIdeal.Read

/-- The blocks of point `t`. -/
theorem idx : ∀ t : Fin cfg0.N, win0_0.index t = ![0, t.val / 4] ∧ win0_1.index t = ![0, t.val % 4] ∧ win0_2.index t = ![t.val % 4, t.val / 4, 0, 0] := by
  decide +kernel

/-- The kernel's result is the reference's. -/
theorem result (m : (ℓ : Loc nD τ sig) → Buf (Elt Ideal) ℓ) (c : Dev nD) : (dats m 0 c).arrAt 2 cfg0.N
    = val_main_v8 (m ((c : Thread nD τ).loc main_arg0)) (m ((c : Thread nD τ).loc main_arg1)) := by
  refine (dats m 0 c).arrAt_eq_of_covers 2 _ (by decide +kernel) fun t _ y => ?_
  blk_simp
  rw [after0_2]
  frame_out
  obtain ⟨e0, e1, e2⟩ := idx t
  obtain ⟨p, q, i, j, rfl⟩ : ∃ p q i j, y = ix4 p q i j := ⟨_, _, _, _, eq_ix4 y⟩
  have ht : t.val < 8 := lt_of_lt_of_eq t.isLt (show cfg0.N = 8 from N_0)
  show _ = val_main_v7 (F := Ideal) _ _ _
  rw [val_main_v7_apply, val_main_v6_apply, val_main_v5_apply, val_main_v4_apply]
  pointwise [k0_pay1]
  refine (Finset.sum_congr rfl fun k _ => mul_comm _ _).trans ?_
  blk_point [iblk, V, e0, e1, e2]

/-- Both programs run, with equal results. -/
theorem algebraic : Cert.algebraic_UpWeightIdeal_UpWeightReferenceIdeal := fun m g m' g' _ hargs =>
  ⟨_, Cert.UpWeightIdeal.Value.run_blocks m g, Runs.result_of_run (Cert.UpWeightReferenceIdeal.Value.run m' g') fun c => by
    rw [val_main_v8_eq, (hargs c).1, (hargs c).2, result]⟩

end Cert.UpWeightResult

/-! ## The gating block's output product -/

namespace Cert.GmOutWeightResult

open Cert.GmOutWeightIdeal Cert.GmOutWeightIdeal.Gen Cert.GmOutWeightReferenceIdeal.Read

/-- The blocks of point `t`. -/
theorem idx : ∀ t : Fin cfg0.N, win0_0.index t = ![0, t.val] ∧ win0_1.index t = ![0, 0] ∧ win0_2.index t = ![t.val, 0] := by
  decide +kernel

/-- The kernel's result is the reference's. -/
theorem result (m : (ℓ : Loc nD τ sig) → Buf (Elt Ideal) ℓ) (c : Dev nD) : (dats m 0 c).arrAt 2 cfg0.N
    = val_main_v6 (m ((c : Thread nD τ).loc main_arg0)) (m ((c : Thread nD τ).loc main_arg1)) := by
  refine (dats m 0 c).arrAt_eq_of_covers 2 _ (by decide +kernel) fun t _ y => ?_
  blk_simp
  rw [after0_2]
  frame_out
  obtain ⟨e0, e1, e2⟩ := idx t
  obtain ⟨i, j, rfl⟩ : ∃ i j, y = ix2 i j := ⟨_, _, eq_ix2 y⟩
  show _ = val_main_v5 (F := Ideal) _ _ _
  rw [val_main_v5_apply, val_main_v4_apply]
  pointwise [k0_pay1]
  refine (Finset.sum_congr rfl fun k _ => mul_comm _ _).trans ?_
  blk_point [iblk, V, e0, e1, e2]

/-- Both programs run, with equal results. -/
theorem algebraic : Cert.algebraic_GmOutWeightIdeal_GmOutWeightReferenceIdeal := fun m g m' g' _ hargs =>
  ⟨_, Cert.GmOutWeightIdeal.Value.run_blocks m g, Runs.result_of_run (Cert.GmOutWeightReferenceIdeal.Value.run m' g') fun c => by
    rw [val_main_v6_eq, (hargs c).1, (hargs c).2, result]⟩

end Cert.GmOutWeightResult

/-! ## The recurrence's output product -/

namespace Cert.HgOutWeightResult

open Cert.HgOutWeightIdeal Cert.HgOutWeightIdeal.Gen Cert.HgOutWeightReferenceIdeal.Read

/-- The blocks of point `t`. -/
theorem idx : ∀ t : Fin cfg0.N, win0_0.index t = ![0, t.val] ∧ win0_1.index t = ![0, 0] ∧ win0_2.index t = ![t.val, 0] := by
  decide +kernel

/-- The kernel's result is the reference's. -/
theorem result (m : (ℓ : Loc nD τ sig) → Buf (Elt Ideal) ℓ) (c : Dev nD) : (dats m 0 c).arrAt 2 cfg0.N
    = val_main_v6 (m ((c : Thread nD τ).loc main_arg0)) (m ((c : Thread nD τ).loc main_arg1)) := by
  refine (dats m 0 c).arrAt_eq_of_covers 2 _ (by decide +kernel) fun t _ y => ?_
  blk_simp
  rw [after0_2]
  frame_out
  obtain ⟨e0, e1, e2⟩ := idx t
  obtain ⟨i, j, rfl⟩ : ∃ i j, y = ix2 i j := ⟨_, _, eq_ix2 y⟩
  show _ = val_main_v5 (F := Ideal) _ _ _
  rw [val_main_v5_apply, val_main_v4_apply]
  pointwise [k0_pay1]
  refine (Finset.sum_congr rfl fun k _ => mul_comm _ _).trans ?_
  blk_point [iblk, V, e0, e1, e2]

/-- Both programs run, with equal results. -/
theorem algebraic : Cert.algebraic_HgOutWeightIdeal_HgOutWeightReferenceIdeal := fun m g m' g' _ hargs =>
  ⟨_, Cert.HgOutWeightIdeal.Value.run_blocks m g, Runs.result_of_run (Cert.HgOutWeightReferenceIdeal.Value.run m' g') fun c => by
    rw [val_main_v6_eq, (hargs c).1, (hargs c).2, result]⟩

end Cert.HgOutWeightResult

end
-- ==== Proof.DownWeight.lean ====
/-
  The gradient of the down product's weight: each tile of the product is accumulated over the two halves of the tokens.
-/
module

public import proofs.«01_k».proof.Defs
public import proofs.«01_k».proof.Proof.Runs
public import proofs.«01_k».proof.Proof.Gen.DownWeightIdeal.Value
public import proofs.«01_k».proof.Proof.Gen.DownWeightReferenceIdeal.Read
public import Idealize.ShloMosaic.Lib.Pointwise
public import Idealize.ShloMosaic.Lib.Pipeline.ValueKit
public import Idealize.ShloMosaic.Lib.Pipeline.ReadBack

@[expose] public section

set_option maxRecDepth 16384

noncomputable section

namespace Cert.DownWeightResult

open Idealize.ShloMosaic Idealize.ShloMosaic.TcCoe Idealize.SL.Sem Cert.DownWeightIdeal Cert.DownWeightIdeal.Gen
  Cert.DownWeightReferenceIdeal.Read

/-- One grid point's product. -/
theorem tile (x : Vec Ideal S2048x1408 .bf16) (w : Vec Ideal S2048x1024 .bf16) (y : S1408x1024.Idx) :
    k0_pay1 x w y = ∑ k : Fin 2048, x (ix2 k (y 0)) * w (ix2 k (y 1)) := by
  obtain ⟨i, j, rfl⟩ : ∃ i j, y = ix2 i j := ⟨_, _, eq_ix2 y⟩
  pointwise [k0_pay1]

/-- The blocks of point `t`. -/
theorem idx : ∀ t : Fin cfg0.N, win0_0.index t = ![t.val % 2, t.val / 2] ∧ win0_1.index t = ![t.val % 2, 0]
    ∧ win0_2.index t = ![t.val / 2, 0] := by
  decide +kernel

variable (m : (ℓ : Loc nD τ sig) → Buf (Elt Ideal) ℓ) (c : Dev nD)

/-- A sum over the tokens is the sum of the halves'. -/
theorem halves (f : Fin 4096 → EReal) :
    ∑ k, f k = (∑ k : Fin 2048, f ⟨k.val, by omega⟩) + ∑ k : Fin 2048, f ⟨2048 + k.val, by omega⟩ :=
  Fin.sum_univ_add (a := 2048) (b := 2048) f

/-- What the first of a tile's two points leaves in the accumulator. -/
theorem carried (t : Fin cfg0.N) (h0 : t.val % 2 = 0) :
    (outsAt0 m c t.val t.isLt).2 = k0_pay1 (iblk m c 0 t) (iblk m c 1 t) := by
  have h1 : ¬t.val % 2 = 1 := by omega
  rw [outsAt0_A m c t h0 h1 h1]
  frame_out
  funext y
  pointwise [k0_pay2]

/-- The kernel's result is the reference's. -/
theorem result : (dats m 0 c).arrAt 2 cfg0.N
    = val_main_v6 (m ((c : Thread nD τ).loc main_arg0)) (m ((c : Thread nD τ).loc main_arg1)) := by
  refine (dats m 0 c).arrAt_eq_of_covers 2 _ (by decide +kernel) fun t hf y => ?_
  have h1 : t.val % 2 = 1 := (flush0_2 t).mp hf
  have h0 : ¬t.val % 2 = 0 := by omega
  have ht : t.val < 4 := lt_of_lt_of_eq t.isLt (show cfg0.N = 4 from N_0)
  blk_simp
  rw [after0_2, outsAt0_B m c t h0 h1 h1]
  frame_out
  rw [read_unread_whole]
  let s : Fin cfg0.N := ⟨t.val - 1, Nat.lt_of_le_of_lt (Nat.sub_le _ _) t.isLt⟩
  have hs : (outsAt0 m c (t.val - 1) (Nat.lt_of_le_of_lt (Nat.sub_le _ _) t.isLt)).2 = k0_pay1 (iblk m c 0 s) (iblk m c 1 s) :=
    carried m c s (by show (t.val - 1) % 2 = 0; omega)
  rw [hs]
  obtain ⟨e0, e1, e2⟩ := idx t
  obtain ⟨d0, d1, -⟩ := idx s
  have v0 : s.val % 2 = 0 := by show (t.val - 1) % 2 = 0; omega
  have v1 : s.val / 2 = t.val / 2 := by show (t.val - 1) / 2 = _; omega
  rw [v0, v1] at d0
  rw [v0] at d1
  rw [h1] at e0 e1
  have hi : (y 0).val < 1408 := (y 0).isLt
  have hj : (y 1).val < 1024 := (y 1).isLt
  show _ = val_main_v5 (F := Ideal) _ _ _
  rw [val_main_v5_apply, val_main_v4_apply]
  refine Eq.trans (b := k0_pay1 (iblk m c 0 s) (iblk m c 1 s) y + k0_pay1 (iblk m c 0 t) (iblk m c 1 t) y) ?_ ?_
  · generalize k0_pay1 (iblk m c 0 s) (iblk m c 1 s) = u
    pointwise [k0_pay4, k0_pay3]
  rw [tile, tile]
  refine Eq.trans ?_ (halves _).symm
  refine congrArg₂ (· + ·) (Finset.sum_congr rfl fun k _ => (mul_comm _ _).trans ?_)
    (Finset.sum_congr rfl fun k _ => (mul_comm _ _).trans ?_) <;>
  blk_point [iblk, V, d0, d1, e0, e1, e2]

/-- Both programs run, with equal results. -/
theorem algebraic : Cert.algebraic_DownWeightIdeal_DownWeightReferenceIdeal := fun m g m' g' _ hargs =>
  ⟨_, Cert.DownWeightIdeal.Value.run m g, Runs.result_of_run (Cert.DownWeightReferenceIdeal.Value.run m' g') fun c => by
    rw [val_main_v6_eq, (hargs c).1, (hargs c).2, ← result, Cert.DownWeightIdeal.Value.final2]⟩

end Cert.DownWeightResult

end
-- ==== Proof.Modulation.lean ====
/-
  The modulation of the norms: the product of every chip's activated condition with each layer's weight, and the
  gradient of that weight.
-/
module

public import proofs.«01_k».proof.Defs
public import proofs.«01_k».proof.Proof.Runs
public import proofs.«01_k».proof.Proof.Lift
public import proofs.«01_k».proof.Proof.Gen.AdaForwardIdeal.Value
public import proofs.«01_k».proof.Proof.Gen.AdaForwardReferenceIdeal.Read
public import proofs.«01_k».proof.Proof.Gen.AdaWeightIdeal.Value
public import proofs.«01_k».proof.Proof.Gen.AdaWeightReferenceIdeal.Read
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

/-- The logistic function as the reference divides it. -/
theorem Cert.Modulation.logistic_eq (x : EReal) :
    Ideal.div (Ideal.ofBits .f32 0x3F800000#32) (Ideal.ofBits .f32 0x3F800000#32 + Ideal.exp (-x)) = Ideal.logistic x := by
  rw [Cert.Lift.ofBits_one]; rfl

/-! ## The modulation -/

namespace Cert.AdaForwardResult

open Cert.AdaForwardIdeal Cert.AdaForwardIdeal.Gen Cert.AdaForwardReferenceIdeal.Read

/-- The blocks of point `t`. -/
theorem idx : ∀ t : Fin cfg0.N, win0_0.index t = ![0, 0] ∧ win0_1.index t = ![t.val / 3, 0, t.val % 3]
    ∧ win0_2.index t = ![t.val / 3, 0, t.val % 3] ∧ win0_3.index t = ![t.val / 3, 0, t.val % 3] := by
  decide +kernel

/-- The reference's activated condition. -/
theorem activated (x : (⟨S8x1024, .f32⟩ : BufTy).Contents (Elt Ideal)) (i : S8x1024.Idx) :
    val_main_v0 (F := Ideal) x i = x i * Ideal.logistic (x i) := by
  rw [← Cert.Modulation.logistic_eq]
  rfl

/-- The kernel's result is the reference's. -/
theorem result (m : (ℓ : Loc nD τ sig) → Buf (Elt Ideal) ℓ) (c : Dev nD) : (dats m 0 c).arrAt 3 cfg0.N
    = val_main_v5 (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  frame_out
  obtain ⟨e0, e1, e2, e3⟩ := idx t
  obtain ⟨z, i, j, rfl⟩ : ∃ z i j, y = ix3 z i j := ⟨_, _, _, eq_ix3 y⟩
  rw [val_main_v5_apply, val_main_v4_apply, val_main_v3_apply, val_main_v2_apply, val_main_v1_apply]
  simp only [activated]
  pointwise [k0_pay1]
  blk_point [iblk, V, e0, e1, e2, e3]

/-- Both programs run, with equal results. -/
theorem algebraic : Cert.algebraic_AdaForwardIdeal_AdaForwardReferenceIdeal := fun m g m' g' _ hargs =>
  ⟨_, Cert.AdaForwardIdeal.Value.run_blocks m g, Runs.result_of_run (Cert.AdaForwardReferenceIdeal.Value.run m' g') fun c => by
    rw [val_main_v5_eq, (hargs c).1, (hargs c).2.1, (hargs c).2.2, result]⟩

end Cert.AdaForwardResult

/-! ## The gradient of its weight -/

namespace Cert.AdaWeightResult

open Cert.AdaWeightIdeal Cert.AdaWeightIdeal.Gen Cert.AdaWeightReferenceIdeal.Read

/-- The blocks of point `t`. -/
theorem idx : ∀ t : Fin cfg0.N, win0_0.index t = ![0, 0] ∧ win0_1.index t = ![t.val / 3, 0, t.val % 3]
    ∧ win0_2.index t = ![t.val / 3, 0, t.val % 3] := by
  decide +kernel

/-- The reference's activated condition. -/
theorem activated (x : (⟨S8x1024, .f32⟩ : BufTy).Contents (Elt Ideal)) (i : S8x1024.Idx) :
    val_main_v2 (F := Ideal) x i = x i * Ideal.logistic (x i) := by
  rw [← Cert.Modulation.logistic_eq]
  rfl

/-- The kernel's result is the reference's. -/
theorem result (m : (ℓ : Loc nD τ sig) → Buf (Elt Ideal) ℓ) (c : Dev nD) : (dats m 0 c).arrAt 2 cfg0.N
    = val_main_v10 (m ((c : Thread nD τ).loc main_arg0)) (m ((c : Thread nD τ).loc main_arg1)) := by
  refine (dats m 0 c).arrAt_eq_of_covers 2 _ (by decide +kernel) fun t _ y => ?_
  blk_simp
  rw [after0_2]
  frame_out
  obtain ⟨e0, e1, e2⟩ := idx t
  obtain ⟨z, i, j, rfl⟩ : ∃ z i j, y = ix3 z i j := ⟨_, _, _, eq_ix3 y⟩
  rw [val_main_v10_apply, val_main_v9_apply]
  simp only [activated, val_main_v8_apply]
  pointwise [k0_pay1]
  blk_point [iblk, V, e0, e1, e2]

/-- Both programs run, with equal results. -/
theorem algebraic : Cert.algebraic_AdaWeightIdeal_AdaWeightReferenceIdeal := fun m g m' g' _ hargs =>
  ⟨_, Cert.AdaWeightIdeal.Value.run_blocks m g, Runs.result_of_run (Cert.AdaWeightReferenceIdeal.Value.run m' g') fun c => by
    rw [val_main_v10_eq, (hargs c).1, (hargs c).2, result]⟩

end Cert.AdaWeightResult

end
-- ==== Proof.NormRow.lean ====
/-
  The norm's gradient along one row, over the extended reals: the form the kernel computes, from the normalised row, is
  the form the chain rule gives. No entry need be finite. A row with an infinite entry has an infinite mean square, whose
  reciprocal root is zero, and both forms vanish; in any other row the root is a positive real, which distributes over
  any sum, and only the incoming gradient can be infinite.
-/
module

public import proofs.«01_k».proof.Proof.Lift

@[expose] public section

noncomputable section

namespace Cert.NormRow

open Idealize.ShloMosaic Cert.Lift

theorem ofBits_1024 : Ideal.ofBits .f32 0x44800000#32 = ((1024 : ℝ) : EReal) := by
  simp [Ideal.ofBits, Ideal.ieee, -EReal.coe_mul]; norm_num

/-- A row's mean square, with the norm's `eps`. -/
def square (x : Fin 1024 → EReal) : EReal := Ideal.div (∑ k, x k * x k) ((1024 : ℝ) : EReal) + ((eps : ℝ) : EReal)

/-- The gradient by way of the normalised row. -/
def direct (x q : Fin 1024 → EReal) (j : Fin 1024) : EReal :=
  Ideal.rsqrt (square x) * (q j - x j * Ideal.rsqrt (square x)
    * Ideal.div (∑ k, q k * (x k * Ideal.rsqrt (square x))) ((1024 : ℝ) : EReal))

/-- What reaches each entry's square by way of the reciprocal root, halved. -/
def slope (x q : Fin 1024 → EReal) : EReal :=
  Ideal.div ((∑ k, x k * q k) * (((-(1 / 2) : ℝ) : EReal) * Ideal.div (Ideal.rsqrt (square x)) (square x))) ((1024 : ℝ) : EReal)

/-- The gradient by the chain rule. -/
def chained (x q : Fin 1024 → EReal) (j : Fin 1024) : EReal :=
  q j * Ideal.rsqrt (square x) + x j * slope x q + slope x q * x j

theorem div_1024 (x : EReal) : Ideal.div x ((1024 : ℝ) : EReal) = x * ((1 / 1024 : ℝ) : EReal) := Ideal.div_coe (by norm_num) x

/-- A square is not negative. -/
theorem mul_self_nonneg (x : EReal) : 0 ≤ x * x := by
  induction x with
  | bot => simp
  | coe r => rw [← EReal.coe_mul]; exact_mod_cast _root_.mul_self_nonneg r
  | top => simp

/-- A row with an infinite entry has an infinite mean square, any other a positive real one. -/
theorem square_cases (x : Fin 1024 → EReal) :
    square x = ⊤ ∨ ∃ (f : Fin 1024 → ℝ) (s : ℝ), (∀ k, x k = ((f k : ℝ) : EReal)) ∧ 0 < s ∧ square x = ((s : ℝ) : EReal) := by
  by_cases h : ∀ k, x k ≠ ⊥ ∧ x k ≠ ⊤
  · refine .inr ⟨fun k => (x k).toReal, (∑ k, (x k).toReal * (x k).toReal) * (1 / 1024) + eps, ?_, ?_, ?_⟩
    · exact fun k => (EReal.coe_toReal (h k).2 (h k).1).symm
    · have : 0 ≤ ∑ k, (x k).toReal * (x k).toReal := Finset.sum_nonneg fun k _ => _root_.mul_self_nonneg _
      have := eps_pos
      positivity
    · rw [square, div_1024, sum_lift (g := fun k => (x k).toReal * (x k).toReal), ← EReal.coe_mul, ← EReal.coe_add]
      intro k
      rw [EReal.coe_mul, EReal.coe_toReal (h k).2 (h k).1]
  · left
    push Not at h
    obtain ⟨k, hk⟩ := h
    have e : x k * x k = ⊤ := by
      by_cases hb : x k = ⊥
      · rw [hb]; rfl
      · rw [hk hb]; rfl
    have ht : ∑ k, x k * x k = ⊤ :=
      top_le_iff.mp (e ▸ Finset.single_le_sum (f := fun k => x k * x k) (fun k _ => mul_self_nonneg _) (Finset.mem_univ k))
    rw [square, ht, div_1024, EReal.top_mul_coe_of_pos (by norm_num), EReal.top_add_coe]

/-- A real that is not negative distributes over a sum. -/
theorem sum_mul {n : ℕ} (f : Fin n → EReal) {a : ℝ} (ha : 0 ≤ a) : ∑ k, f k * (a : EReal) = (∑ k, f k) * (a : EReal) := by
  have h : ∀ s : Finset (Fin n), ∑ k ∈ s, f k * (a : EReal) = (∑ k ∈ s, f k) * (a : EReal) := by
    intro s
    induction s using Finset.cons_induction with
    | empty => simp
    | cons b s hb ih =>
      rw [Finset.sum_cons, Finset.sum_cons, ih,
        EReal.right_distrib_of_nonneg_of_ne_top (by exact_mod_cast ha) (EReal.coe_ne_top a)]
  exact h _

theorem add_self (x : EReal) : x + x = x * ((2 : ℝ) : EReal) := by
  induction x with
  | bot => rw [EReal.bot_mul_coe_of_pos (by norm_num)]; rfl
  | coe r => rw [← EReal.coe_add, ← EReal.coe_mul]; congr 1; ring
  | top => rw [EReal.top_mul_coe_of_pos (by norm_num)]; rfl

/-- The two forms agree. -/
theorem direct_eq (x q : Fin 1024 → EReal) (j : Fin 1024) : direct x q j = chained x q j := by
  rcases square_cases x with h | ⟨f, s, hx, hs, h⟩
  · have r : Ideal.rsqrt (⊤ : EReal) = 0 := rfl
    have d : Ideal.div (0 : EReal) ⊤ = 0 := by rw [Ideal.div, if_neg EReal.top_ne_zero, zero_mul]
    simp only [direct, chained, slope, h, r, d, div_1024, mul_zero, zero_mul, add_zero]
  · have hr : 0 < (Real.sqrt s)⁻¹ := inv_pos.mpr (Real.sqrt_pos.mpr hs)
    have hc : (Real.sqrt s)⁻¹ / s = (Real.sqrt s)⁻¹ * (Real.sqrt s)⁻¹ * (Real.sqrt s)⁻¹ := by
      have := Real.mul_self_sqrt hs.le
      have := (Real.sqrt_pos.mpr hs).ne'
      field_simp
      nlinarith
    rw [direct, chained, slope, h, rsqrt_lift s hs, div_lift _ _ hs.ne', hc]
    generalize (Real.sqrt s)⁻¹ = r at hr
    have hu : ∑ k, q k * (x k * (r : EReal)) = (∑ k, x k * q k) * (r : EReal) := by
      rw [← sum_mul _ hr.le]
      exact Finset.sum_congr rfl fun k _ => by ac_rfl
    rw [hu, hx j, div_1024, div_1024]
    generalize (∑ k, x k * q k) = u
    have e1 : (f j : EReal) * (r : EReal) * (u * (r : EReal) * ((1 / 1024 : ℝ) : EReal)) = u * ((f j * r * r * (1 / 1024) : ℝ) : EReal) := by
      simp only [EReal.coe_mul]; ac_rfl
    have e2 : u * (((-(1 / 2) : ℝ) : EReal) * ((r * r * r : ℝ) : EReal)) * ((1 / 1024 : ℝ) : EReal) * (f j : EReal)
        = u * ((-(1 / 2) * (r * r * r) * (1 / 1024) * f j : ℝ) : EReal) := by
      simp only [EReal.coe_mul]; ac_rfl
    rw [e1, mul_comm (f j : EReal), e2, add_assoc, add_self, mul_comm (q j), sub_eq_add_neg,
      EReal.left_distrib_of_nonneg_of_ne_top (by exact_mod_cast hr.le) (EReal.coe_ne_top r), ← mul_neg, ← EReal.coe_neg,
      mul_left_comm, mul_assoc u, ← EReal.coe_mul, ← EReal.coe_mul]
    congr 3
    ring

/-- A sum over 4096 rows is what eight blocks of 512 rows add up to. -/
theorem accumulated (f : Fin 4096 → EReal) (acc : (t : ℕ) → t < 8 → EReal)
    (first : acc 0 (by omega) = ∑ k : Fin 512, f ⟨512 * 0 + k.val, by omega⟩)
    (next : ∀ t (h : t + 1 < 8), acc (t + 1) h = acc t (by omega) + ∑ k : Fin 512, f ⟨512 * (t + 1) + k.val, by omega⟩) :
    acc 7 (by omega) = ∑ i, f i := by
  let g : ℕ → EReal := fun i => if h : i < 4096 then f ⟨i, h⟩ else 0
  have block (t : ℕ) (h : t < 8) : ∑ k : Fin 512, f ⟨512 * t + k.val, by omega⟩ = ∑ k ∈ Finset.range 512, g (512 * t + k) := by
    rw [← Fin.sum_univ_eq_sum_range]
    exact Finset.sum_congr rfl fun k _ => by simp only [g]; rw [dif_pos]
  have sums (t : ℕ) (h : t < 8) : acc t h = ∑ i ∈ Finset.range (512 * t + 512), g i := by
    induction t with
    | zero => rw [first, block 0 (by omega)]; simp
    | succ t ih => rw [next t h, ih (by omega), block _ h, Finset.sum_range_add g (512 * (t + 1)) 512, Nat.mul_succ]
  rw [sums, ← Fin.sum_univ_eq_sum_range g 4096]
  exact Finset.sum_congr rfl fun i _ => dif_pos i.isLt

end Cert.NormRow

end
-- ==== Proof.NormBackward.lean ====
/-
  The norm's backward call: the gradient of the residual stream through a modulated norm, the gradient of the branch
  before it, and the gradients of the shift, the gain and the branch's gate, summed over eight blocks of tokens.
-/
module

public import proofs.«01_k».proof.Defs
public import proofs.«01_k».proof.Proof.Runs
public import proofs.«01_k».proof.Proof.NormRow
public import proofs.«01_k».proof.Proof.Gen.NormBackwardIdeal.Value
public import proofs.«01_k».proof.Proof.Gen.NormBackwardReferenceIdeal.Read
public import Idealize.ShloMosaic.Lib.Pointwise
public import Idealize.ShloMosaic.Lib.Pointwise.Index
public import Idealize.ShloMosaic.Lib.Pipeline.ValueKit
public import Idealize.ShloMosaic.Lib.Pipeline.ReadBack

@[expose] public section

set_option maxRecDepth 16384

noncomputable section

namespace Cert.NormBackwardResult

open Idealize.ShloMosaic Idealize.ShloMosaic.TcCoe Idealize.SL.Sem Cert.NormBackwardIdeal Cert.NormBackwardIdeal.Gen
  Cert.NormBackwardReferenceIdeal.Read Cert.NormRow Cert.Lift

/-! ## One block of tokens -/

/-- An index by its two coordinates. -/
theorem at_ix2 {n k : ℕ} (z : (⟨2, ![n, k]⟩ : Shape).Idx) (i : Fin n) (j : Fin k) (h0 : (z 0).val = i.val) (h1 : (z 1).val = j.val) :
    z = ix2 i j :=
  (eq_ix2 z).trans (congrArg₂ ix2 (Fin.ext h0) (Fin.ext h1))

/-- A row. -/
abbrev row {n : ℕ} (x : (⟨2, ![n, 1024]⟩ : Shape).Idx → EReal) (i : Fin n) (k : Fin 1024) : EReal := x (ix2 i k)

/-- The gradient of a row's normalised entries: that of the norm's result, times the modulated gain. -/
abbrev gained {n : ℕ} (d : (⟨2, ![n, 1024]⟩ : Shape).Idx → EReal) (g s : (⟨2, ![1, 1024]⟩ : Shape).Idx → EReal) (i : Fin n)
    (k : Fin 1024) : EReal :=
  d (ix2 i k) * (g (ix2 0 k) * (1 + s (ix2 0 k)))

theorem stream_tile (x d : Vec Ideal S512x1024 .f32) (g s : Vec Ideal S1x1024 .f32) (o : Vec Ideal S512x1024 .f32) (i : Fin 512)
    (j : Fin 1024) :
    k0_pay10 x d g s o (ix2 i j) = o (ix2 i j) + direct (row x i) (gained d g s i) j := by
  pointwise [k0_pay10, k0_pay9, k0_pay8]
  simp only [ofBits_1024, ofBits_eps]
  rfl

theorem normed_tile (x : Vec Ideal S512x1024 .f32) (i : Fin 512) (j : Fin 1024) :
    k0_pay9 x (ix2 i j) = x (ix2 i j) * Ideal.rsqrt (square (row x i)) := by
  pointwise [k0_pay9, k0_pay8]
  simp only [ofBits_1024, ofBits_eps]
  rfl

theorem branch_tile (x : FVec Ideal S512x1024 .f32) (g : Vec Ideal S1x1024 .f32) (i : Fin 512) (j : Fin 1024) :
    k0_pay3 x g (ix2 i j) = g (ix2 0 j) * x (ix2 i j) := by
  pointwise [k0_pay3]

theorem shift_tile (d : Vec Ideal S512x1024 .f32) (s : Vec Ideal S1x1024 .f32) (j : Fin 1024) :
    k0_pay1 d s (ix2 0 j) = s (ix2 0 j) + ∑ i : Fin 512, d (ix2 i j) := by
  pointwise [k0_pay1]

theorem gain_tile (x : FVec Ideal S512x1024 .f32) (d : Vec Ideal S512x1024 .f32) (s : Vec Ideal S1x1024 .f32) (j : Fin 1024) :
    k0_pay2 x d s (ix2 0 j) = s (ix2 0 j) + ∑ i : Fin 512, d (ix2 i j) * x (ix2 i j) := by
  pointwise [k0_pay2]

theorem gate_tile (x : FVec Ideal S512x1024 .f32) (s : Vec Ideal S1x1024 .f32) (y : Vec Ideal S512x1024 .f32) (j : Fin 1024) :
    k0_pay4 x s y (ix2 0 j) = s (ix2 0 j) + ∑ i : Fin 512, x (ix2 i j) * y (ix2 i j) := by
  pointwise [k0_pay4]

/-! ## The reference -/

section reference

variable (x0 x1 x2 : (⟨S4096x1024, .f32⟩ : BufTy).Contents (Elt Ideal)) (x3 x4 : (⟨S1x1024, .f32⟩ : BufTy).Contents (Elt Ideal))
  (x5 : (⟨S4096x1024, .f32⟩ : BufTy).Contents (Elt Ideal)) (x6 : (⟨S1x1024, .f32⟩ : BufTy).Contents (Elt Ideal))

theorem mean_square (i : Fin 4096) : val_main_v10 (F := Ideal) x0 (ix2 i 0) = square (row x0 i) := by
  rw [val_main_v10_apply, val_main_v9_apply, val_main_v8_apply, val_main_v7_apply, val_main_v6_apply,
    val_main_v5_apply, val_main_cst_1_apply, val_main_cst_2_apply, val_main_cst_3_apply]
  show Ideal.div (Ideal.ofBits .f32 0x00000000#32 + _) (Ideal.ofBits .f32 0x44800000#32) + Ideal.ofBits .f32 0x358637BD#32 = _
  rw [ofBits_1024, ofBits_eps, ofBits_zero, EReal.coe_zero, zero_add]
  exact congrArg (fun u => Ideal.div u _ + _) (Finset.sum_congr rfl fun k _ => congrArg₂ (x0 · * x0 ·) (eq_ix2 _) (eq_ix2 _))

theorem gained_eq (i : Fin 4096) (k : Fin 1024) : val_main_v28 (F := Ideal) x1 x3 x4 (ix2 i k) = gained x1 x3 x4 i k := by
  have h21 : idx_main_v21 (ix2 i k) = ix2 i k := at_ix2 _ i k
    (by show (i.val * 1024 + k.val) / 1024 = i.val; omega) (by show (i.val * 1024 + k.val) % 1024 = k.val; omega)
  have h27 : idx_main_v27 (ix2 i k) = ix2 0 k := at_ix2 _ 0 k rfl rfl
  rw [val_main_v28_apply, val_main_v27_apply, val_main_v21_apply, val_main_v2_apply, val_main_v1_apply, val_main_v0_apply,
    val_main_cst_apply, h21, h27]
  show x1 _ * (x3 _ * (Ideal.ofBits .f32 0x3F800000#32 + x4 _)) = _
  rw [ofBits_one, EReal.coe_one]

theorem slope_eq (i : Fin 4096) (j : Fin 1024) :
    val_main_v38 (F := Ideal) x0 x1 x3 x4 (ix2 i j) = slope (row x0 i) (gained x1 x3 x4 i) := by
  have h37 : idx_main_v37 (idx_main_v38 (ix2 i j)) 0 = ix2 i 0 := at_ix2 _ i 0 rfl rfl
  have h30 (k : Fin 1024) : idx_main_v30 (idx_main_v31 (ix2 i 0)) k = ix2 i k :=
    at_ix2 _ i k (by show i.val * 1 + 0 = i.val; omega) rfl
  have sums : ∑ k, val_main_v29 (F := Ideal) x0 x1 x3 x4 (idx_main_v30 (idx_main_v31 (ix2 i 0)) k)
      = ∑ k, row x0 i k * gained x1 x3 x4 i k :=
    Finset.sum_congr rfl fun k _ => by rw [h30, val_main_v29_apply, gained_eq]; rfl
  rw [val_main_v38_apply, val_main_v37_apply, Fin.sum_univ_one, h37, val_main_v36_apply, val_main_v35_apply, val_main_v34_apply,
    val_main_v31_apply, val_main_v30_apply, val_main_v14_apply, val_main_v13_apply, val_main_v12_apply, val_main_v11_apply,
    mean_square, sums]
  show Ideal.ofBits .f32 0x00000000#32 + Ideal.div ((Ideal.ofBits .f32 0x00000000#32 + _)
    * (Ideal.ofBits .f32 0xBF000000#32 * _)) (Ideal.ofBits .f32 0x44800000#32) = _
  rw [ofBits_1024, ofBits_neg_half, ofBits_zero, EReal.coe_zero, zero_add, zero_add]
  rfl

/-- The gradient of the residual stream. -/
theorem stream_eq (i : Fin 4096) (j : Fin 1024) :
    val_main_v47 (F := Ideal) x0 x1 x2 x3 x4 (ix2 i j) = x2 (ix2 i j) + direct (row x0 i) (gained x1 x3 x4 i) j := by
  have h32 : idx_main_v32 (ix2 i j) = ix2 i 0 := at_ix2 _ i 0 rfl rfl
  rw [val_main_v47_apply, val_main_v42_apply, val_main_v41_apply, val_main_v40_apply, val_main_v39_apply, val_main_v33_apply,
    val_main_v32_apply, val_main_v11_apply, slope_eq, gained_eq, direct_eq, h32, mean_square]
  rfl

/-- The gradient of the branch. -/
theorem branch_eq (i : Fin 4096) (j : Fin 1024) : val_main_v53 (F := Ideal) x0 x1 x2 x3 x4 x6 (ix2 i j)
    = x6 (ix2 0 j) * val_main_v47 (F := Ideal) x0 x1 x2 x3 x4 (ix2 i j) := by
  have h48 : idx_main_v48 (ix2 i j) = ix2 0 j := at_ix2 _ 0 j rfl rfl
  rw [val_main_v53_apply, val_main_v49_apply, val_main_v48_apply, h48]
  rfl

/-- The gradient of the shift. -/
theorem shift_eq (j : Fin 1024) : val_main_v23 (F := Ideal) x1 (ix2 0 j) = ∑ i : Fin 4096, x1 (ix2 i j) := by
  have h (i : Fin 4096) : idx_main_v22 (idx_main_v23 (ix2 0 j)) i = ix2 i j :=
    at_ix2 _ i j rfl (by show 0 * 1024 + j.val = j.val; omega)
  rw [val_main_v23_apply, val_main_v22_apply, val_main_cst_5_apply, Finset.sum_congr rfl fun i _ => congrArg x1 (h i)]
  exact (congrArg (· + _) ofBits_zero).trans (zero_add _)

/-- The gradient of the gain. -/
theorem gain_eq (j : Fin 1024) : val_main_v26 (F := Ideal) x0 x1 (ix2 0 j)
    = ∑ i : Fin 4096, x1 (ix2 i j) * (x0 (ix2 i j) * Ideal.rsqrt (square (row x0 i))) := by
  have h (i : Fin 4096) : idx_main_v25 (idx_main_v26 (ix2 0 j)) i = ix2 i j :=
    at_ix2 _ i j rfl (by show 0 * 1024 + j.val = j.val; omega)
  have h21 (i : Fin 4096) : idx_main_v21 (ix2 i j) = ix2 i j := at_ix2 _ i j
    (by show (i.val * 1024 + j.val) / 1024 = i.val; omega) (by show (i.val * 1024 + j.val) % 1024 = j.val; omega)
  have h15 (i : Fin 4096) : idx_main_v15 (ix2 i j) = ix2 i 0 := at_ix2 _ i 0 rfl rfl
  rw [val_main_v26_apply, val_main_v25_apply, val_main_cst_6_apply]
  refine (congrArg (· + _) ofBits_zero).trans ((zero_add _).trans (Finset.sum_congr rfl fun i _ => ?_))
  rw [h, val_main_v24_apply, val_main_v21_apply, val_main_v16_apply, val_main_v15_apply, val_main_v11_apply, h21, h15, mean_square]
  exact mul_comm _ _

/-- The gradient of the gate. -/
theorem gate_eq (j : Fin 1024) : val_main_v52 (F := Ideal) x0 x1 x2 x3 x4 x5 (ix2 0 j)
    = ∑ i : Fin 4096, val_main_v47 (F := Ideal) x0 x1 x2 x3 x4 (ix2 i j) * x5 (ix2 i j) := by
  have h (i : Fin 4096) : idx_main_v51 (idx_main_v52 (ix2 0 j)) i = ix2 i j :=
    at_ix2 _ i j rfl (by show 0 * 1024 + j.val = j.val; omega)
  rw [val_main_v52_apply, val_main_v51_apply, val_main_cst_11_apply]
  refine (congrArg (· + _) ofBits_zero).trans ((zero_add _).trans (Finset.sum_congr rfl fun i _ => ?_))
  rw [h, val_main_v50_apply]
  rfl

end reference

/-! ## The points -/

variable (m : (ℓ : Loc nD τ sig) → Buf (Elt Ideal) ℓ) (c : Dev nD)

/-- The five results' buffers. -/
abbrev Buffers : Type :=
  Vec Ideal S512x1024 .f32 × Vec Ideal S512x1024 .bf16 × Vec Ideal S1x1024 .f32 × Vec Ideal S1x1024 .f32 × Vec Ideal S1x1024 .f32

/-- The gradient of the residual stream at a point's tokens. -/
abbrev stream (t : Fin cfg0.N) : Vec Ideal S512x1024 .f32 :=
  k0_pay10 (iblk m c 0 t) (iblk m c 1 t) (iblk m c 3 t) (iblk m c 4 t) (iblk m c 2 t)

/-- What a point leaves in the buffers, from what they held. -/
def step (t : Fin cfg0.N) (s : Buffers) : Buffers :=
  (stream m c t, k0_pay3 (stream m c t) (iblk m c 6 t), k0_pay1 (iblk m c 1 t) s.2.2.1,
    k0_pay2 (k0_pay9 (iblk m c 0 t)) (iblk m c 1 t) s.2.2.2.1, k0_pay4 (stream m c t) s.2.2.2.2 (iblk m c 5 t))

/-- What the first point adds to. -/
def zeros : Buffers := (fun _ => (0 : EReal), fun _ => (0 : EReal), k0_pay5 (F := Ideal), k0_pay6 (F := Ideal), k0_pay7 (F := Ideal))

theorem first (t : Fin cfg0.N) (h0 : t.val % 8 = 0) : outsAt0 m c t.val t.isLt = step m c t zeros := by
  rw [outsAt0_A m c t h0]
  unfold step zeros
  frame_out

theorem next (t : Fin cfg0.N) (h0 : ¬t.val % 8 = 0) :
    outsAt0 m c t.val t.isLt = step m c t (outsAt0 m c (t.val - 1) (Nat.lt_of_le_of_lt (Nat.sub_le _ _) t.isLt)) := by
  rw [outsAt0_B m c t h0]
  unfold step
  frame_out

theorem point {t : ℕ} (h : t < 8) : t < cfg0.N := lt_of_lt_of_eq h (show cfg0.N = 8 from N_0).symm

theorem lt_points (t : Fin cfg0.N) : t.val < 8 := lt_of_lt_of_eq t.isLt (show cfg0.N = 8 from N_0)

/-- Every point's buffers are a step's, so the blocks it writes depend on its own tokens alone. -/
theorem stepped (t : Fin cfg0.N) : ∃ s, outsAt0 m c t.val t.isLt = step m c t s := by
  by_cases h0 : t.val % 8 = 0
  · exact ⟨_, first m c t h0⟩
  · exact ⟨_, next m c t h0⟩

/-- A row of a point's block, in the whole array. -/
abbrev token (t : Fin cfg0.N) (i : Fin 512) : Fin 4096 := ⟨512 * t.val + i.val, by have := lt_points t; omega⟩

/-- What every point adds its tokens' share of is, at the last point, the sum over all tokens. -/
theorem summed (f : Fin 4096 → EReal) (read : Buffers → EReal) (hz : read zeros = 0)
    (hs : ∀ t s, read (step m c t s) = read s + ∑ i : Fin 512, f (token t i)) (t : Fin cfg0.N) (h7 : t.val % 8 = 7) :
    read (outsAt0 m c t.val t.isLt) = ∑ i, f i := by
  obtain ⟨n, hn⟩ := t
  obtain rfl : n = 7 := by have := lt_points ⟨n, hn⟩; dsimp only at h7 this; omega
  exact accumulated f (fun t h => read (outsAt0 m c t (point h)))
    ((congrArg read (first m c ⟨0, point (by omega)⟩ rfl)).trans ((hs _ _).trans (by rw [hz, zero_add])))
    fun t h => (congrArg read (next m c ⟨t + 1, point h⟩ (by show ¬(t + 1) % 8 = 0; omega))).trans (hs _ _)

/-! ## The blocks -/

/-- The blocks of point `t`. -/
theorem idx : ∀ t : Fin cfg0.N, (win0_0.index t = ![t.val, 0] ∧ win0_1.index t = ![t.val, 0] ∧ win0_2.index t = ![t.val, 0]
    ∧ win0_3.index t = ![0, 0] ∧ win0_4.index t = ![0, 0] ∧ win0_5.index t = ![t.val, 0] ∧ win0_6.index t = ![0, 0])
    ∧ win0_7.index t = ![t.val, 0] ∧ win0_8.index t = ![t.val, 0] ∧ win0_9.index t = ![0, 0] ∧ win0_10.index t = ![0, 0]
    ∧ win0_11.index t = ![0, 0] := by
  decide +kernel

variable (t : Fin cfg0.N) (i : Fin 512) (k : Fin 1024)

theorem block0 : iblk m c 0 t (ix2 i k) = m ((c : Thread nD τ).loc main_arg0) (ix2 (token t i) k) := by
  blk_ext [iblk, V, (idx t).1]

theorem block1 : iblk m c 1 t (ix2 i k) = m ((c : Thread nD τ).loc main_arg1) (ix2 (token t i) k) := by
  blk_ext [iblk, V, (idx t).1]

theorem block2 : iblk m c 2 t (ix2 i k) = m ((c : Thread nD τ).loc main_arg2) (ix2 (token t i) k) := by
  blk_ext [iblk, V, (idx t).1]

theorem block3 : iblk m c 3 t (ix2 0 k) = m ((c : Thread nD τ).loc main_arg3) (ix2 0 k) := by
  blk_ext [iblk, V, (idx t).1]

theorem block4 : iblk m c 4 t (ix2 0 k) = m ((c : Thread nD τ).loc main_arg4) (ix2 0 k) := by
  blk_ext [iblk, V, (idx t).1]

theorem block5 : iblk m c 5 t (ix2 i k) = m ((c : Thread nD τ).loc main_arg5) (ix2 (token t i) k) := by
  blk_ext [iblk, V, (idx t).1]

theorem block6 : iblk m c 6 t (ix2 0 k) = m ((c : Thread nD τ).loc main_arg6) (ix2 0 k) := by
  blk_ext [iblk, V, (idx t).1]

theorem row_block : row (iblk m c 0 t) i = row (m ((c : Thread nD τ).loc main_arg0)) (token t i) :=
  funext fun k => block0 m c t i k

/-- A point's gradient of the residual stream is the reference's at its tokens. -/
theorem stream_block : stream m c t (ix2 i k)
    = val_main_v47 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (ix2 (token t i) k) := by
  refine (stream_tile _ _ _ _ _ i k).trans ?_
  rw [stream_eq, block2]
  have e1 : gained (iblk m c 1 t) (iblk m c 3 t) (iblk m c 4 t) i = gained (m ((c : Thread nD τ).loc main_arg1))
      (m ((c : Thread nD τ).loc main_arg3)) (m ((c : Thread nD τ).loc main_arg4)) (token t i) :=
    funext fun k => by simp only [gained, block1, block3, block4]
  rw [row_block, e1]

/-! ## The results -/

theorem result7 : (dats m 0 c).arrAt 7 cfg0.N
    = val_main_v47 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 7 _ (by decide +kernel) fun t _ y => ?_
  blk_simp
  obtain ⟨s, e⟩ := stepped m c t
  obtain ⟨i, j, rfl⟩ : ∃ i j, y = ix2 i j := ⟨_, _, eq_ix2 y⟩
  rw [after0_7, e]
  refine (stream_block m c t i j).trans ?_
  blk_point [idx t]

theorem result8 : (dats m 0 c).arrAt 8 cfg0.N
    = val_main_v53 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg6)) := by
  refine (dats m 0 c).arrAt_eq_of_covers 8 _ (by decide +kernel) fun t _ y => ?_
  blk_simp
  obtain ⟨s, e⟩ := stepped m c t
  obtain ⟨i, j, rfl⟩ : ∃ i j, y = ix2 i j := ⟨_, _, eq_ix2 y⟩
  rw [after0_8, e]
  refine (branch_tile _ _ i j).trans ?_
  rw [stream_block, block6, ← branch_eq]
  blk_point [idx t]

theorem result9 : (dats m 0 c).arrAt 9 cfg0.N = val_main_v23 (F := Ideal) (m ((c : Thread nD τ).loc main_arg1)) := by
  refine (dats m 0 c).arrAt_eq_of_covers 9 _ (by decide +kernel) fun t hf y => ?_
  blk_simp
  obtain ⟨i, j, rfl⟩ : ∃ i j, y = ix2 i j := ⟨_, _, eq_ix2 y⟩
  obtain rfl : i = 0 := Subsingleton.elim _ _
  rw [after0_9]
  refine (summed m c (fun i => m ((c : Thread nD τ).loc main_arg1) (ix2 i j)) (fun s => s.2.2.1 (ix2 0 j))
    (by pointwise [zeros, k0_pay5]) (fun t s => (shift_tile _ _ j).trans ?_) t ((flush0_9 t).mp hf)).trans ?_
  · simp only [block1]
  · rw [← shift_eq]
    blk_point [idx t]

theorem result10 : (dats m 0 c).arrAt 10 cfg0.N
    = val_main_v26 (F := Ideal) (m ((c : Thread nD τ).loc main_arg0)) (m ((c : Thread nD τ).loc main_arg1)) := by
  refine (dats m 0 c).arrAt_eq_of_covers 10 _ (by decide +kernel) fun t hf y => ?_
  blk_simp
  obtain ⟨i, j, rfl⟩ : ∃ i j, y = ix2 i j := ⟨_, _, eq_ix2 y⟩
  obtain rfl : i = 0 := Subsingleton.elim _ _
  rw [after0_10]
  refine (summed m c (fun i => row (m ((c : Thread nD τ).loc main_arg1)) i j
      * (row (m ((c : Thread nD τ).loc main_arg0)) i j * Ideal.rsqrt (square (row (m ((c : Thread nD τ).loc main_arg0)) i))))
    (fun s => s.2.2.2.1 (ix2 0 j)) (by pointwise [zeros, k0_pay6])
    (fun t s => (gain_tile _ _ _ j).trans ?_) t ((flush0_10 t).mp hf)).trans ?_
  · simp only [block1, normed_tile, row_block, block0]
  · rw [← gain_eq]
    blk_point [idx t]

theorem result11 : (dats m 0 c).arrAt 11 cfg0.N
    = val_main_v52 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) := by
  refine (dats m 0 c).arrAt_eq_of_covers 11 _ (by decide +kernel) fun t hf y => ?_
  blk_simp
  obtain ⟨i, j, rfl⟩ : ∃ i j, y = ix2 i j := ⟨_, _, eq_ix2 y⟩
  obtain rfl : i = 0 := Subsingleton.elim _ _
  rw [after0_11]
  refine (summed m c (fun i => val_main_v47 (F := Ideal) (m ((c : Thread nD τ).loc main_arg0)) (m ((c : Thread nD τ).loc main_arg1))
      (m ((c : Thread nD τ).loc main_arg2)) (m ((c : Thread nD τ).loc main_arg3)) (m ((c : Thread nD τ).loc main_arg4)) (ix2 i j)
      * m ((c : Thread nD τ).loc main_arg5) (ix2 i j)) (fun s => s.2.2.2.2 (ix2 0 j)) (by pointwise [zeros, k0_pay7])
    (fun t s => (gate_tile _ _ _ j).trans ?_) t ((flush0_11 t).mp hf)).trans ?_
  · simp only [stream_block, block5]
  · rw [← gate_eq]
    blk_point [idx t]

/-! ## The claims -/

/-- The reference keeps its arguments. -/
theorem reference_frame : Cert.quiescent_NormBackwardReferenceIdeal := fun m ρ _ =>
  Runs.frame_of_run (by decide) ((θ_run Cert.NormBackwardReferenceIdeal.defs _ _).mono
    (fun _ h c => ⟨(h c).1, (h c).2.2.2.2.2⟩) (Cert.NormBackwardReferenceIdeal.Value.run m ρ))

theorem algebraic : Cert.algebraic_NormBackwardIdeal_NormBackwardReferenceIdeal := fun m g m' g' _ hargs =>
  ⟨_, _, _, _, _, Cert.NormBackwardIdeal.Value.run_blocks m g, (θ_run Cert.NormBackwardReferenceIdeal.defs _ _).mono
    (fun _ h c => by
      obtain ⟨h47, h53, h23, h26, h52, hk⟩ := h c
      obtain ⟨a0, a1, a2, a3, a4, a5, a6⟩ := hargs c
      refine ⟨h47.trans ?_, h53.trans ?_, h23.trans ?_, h26.trans ?_, h52.trans ?_, hk⟩
      · rw [val_main_v47_eq, a0, a1, a2, a3, a4, result7]
      · rw [val_main_v53_eq, a0, a1, a2, a3, a4, a6, result8]
      · rw [val_main_v23_eq, a1, result9]
      · exact (val_main_v26_eq _ _).trans (by rw [a0, a1, result10])
      · rw [val_main_v52_eq, a0, a1, a2, a3, a4, a5, result11])
    (Cert.NormBackwardReferenceIdeal.Value.run m' g')⟩

end Cert.NormBackwardResult

end
-- ==== Proof.FirstNormBackward.lean ====
/-
  The backward call of the first norm of layer 0, which no residual sum comes before: the gradients of the residual stream, of
  the shift and of the gain. Its block's values and its reference's values are those of the other norms' call.
-/
module

public import proofs.«01_k».proof.Defs
public import proofs.«01_k».proof.Proof.NormBackward
public import proofs.«01_k».proof.Proof.Gen.FirstNormBackwardIdeal.Value
public import proofs.«01_k».proof.Proof.Gen.FirstNormBackwardReferenceIdeal.Read

@[expose] public section

set_option maxRecDepth 16384

noncomputable section

namespace Cert.FirstNormBackwardResult

open Idealize.ShloMosaic Idealize.ShloMosaic.TcCoe Idealize.SL.Sem Cert.FirstNormBackwardIdeal Cert.FirstNormBackwardIdeal.Gen
  Cert.FirstNormBackwardReferenceIdeal.Read Cert.NormRow Cert.Lift
open Cert.NormBackwardResult (row gained)

/-! ## The reference -/

section reference

variable (x0 x1 x2 : (⟨S4096x1024, .f32⟩ : BufTy).Contents (Elt Ideal)) (x3 x4 : (⟨S1x1024, .f32⟩ : BufTy).Contents (Elt Ideal))

theorem stream_eq (i : Fin 4096) (j : Fin 1024) :
    val_main_v43 (F := Ideal) x0 x1 x2 x3 x4 (ix2 i j) = x2 (ix2 i j) + direct (row x0 i) (gained x1 x3 x4 i) j :=
  NormBackwardResult.stream_eq x0 x1 x2 x3 x4 i j

theorem shift_eq (j : Fin 1024) : val_main_v23 (F := Ideal) x1 (ix2 0 j) = ∑ i : Fin 4096, x1 (ix2 i j) :=
  NormBackwardResult.shift_eq x1 j

theorem gain_eq (j : Fin 1024) : val_main_v26 (F := Ideal) x0 x1 (ix2 0 j)
    = ∑ i : Fin 4096, x1 (ix2 i j) * (x0 (ix2 i j) * Ideal.rsqrt (square (row x0 i))) :=
  NormBackwardResult.gain_eq x0 x1 j

end reference

/-! ## The points -/

variable (m : (ℓ : Loc nD τ sig) → Buf (Elt Ideal) ℓ) (c : Dev nD)

/-- The three results' buffers. -/
abbrev Buffers : Type := Vec Ideal S512x1024 .f32 × Vec Ideal S1x1024 .f32 × Vec Ideal S1x1024 .f32

/-- What a point leaves in the buffers, from what they held. -/
def step (t : Fin cfg0.N) (s : Buffers) : Buffers :=
  (k0_pay7 (iblk m c 0 t) (iblk m c 1 t) (iblk m c 3 t) (iblk m c 4 t) (iblk m c 2 t), k0_pay1 (iblk m c 1 t) s.2.1,
    k0_pay2 (k0_pay6 (iblk m c 0 t)) (iblk m c 1 t) s.2.2)

/-- What the first point adds to. -/
def zeros : Buffers := (fun _ => (0 : EReal), k0_pay3 (F := Ideal), k0_pay4 (F := Ideal))

theorem first (t : Fin cfg0.N) (h0 : t.val % 8 = 0) : outsAt0 m c t.val t.isLt = step m c t zeros := by
  rw [outsAt0_A m c t h0]
  unfold step zeros
  frame_out

theorem next (t : Fin cfg0.N) (h0 : ¬t.val % 8 = 0) :
    outsAt0 m c t.val t.isLt = step m c t (outsAt0 m c (t.val - 1) (Nat.lt_of_le_of_lt (Nat.sub_le _ _) t.isLt)) := by
  rw [outsAt0_B m c t h0]
  unfold step
  frame_out

theorem point {t : ℕ} (h : t < 8) : t < cfg0.N := lt_of_lt_of_eq h (show cfg0.N = 8 from N_0).symm

theorem lt_points (t : Fin cfg0.N) : t.val < 8 := lt_of_lt_of_eq t.isLt (show cfg0.N = 8 from N_0)

theorem stepped (t : Fin cfg0.N) : ∃ s, outsAt0 m c t.val t.isLt = step m c t s := by
  by_cases h0 : t.val % 8 = 0
  · exact ⟨_, first m c t h0⟩
  · exact ⟨_, next m c t h0⟩

/-- A row of a point's block, in the whole array. -/
abbrev token (t : Fin cfg0.N) (i : Fin 512) : Fin 4096 := ⟨512 * t.val + i.val, by have := lt_points t; omega⟩

/-- What every point adds its tokens' share of is, at the last point, the sum over all tokens. -/
theorem summed (f : Fin 4096 → EReal) (read : Buffers → EReal) (hz : read zeros = 0)
    (hs : ∀ t s, read (step m c t s) = read s + ∑ i : Fin 512, f (token t i)) (t : Fin cfg0.N) (h7 : t.val % 8 = 7) :
    read (outsAt0 m c t.val t.isLt) = ∑ i, f i := by
  obtain ⟨n, hn⟩ := t
  obtain rfl : n = 7 := by have := lt_points ⟨n, hn⟩; dsimp only at h7 this; omega
  exact accumulated f (fun t h => read (outsAt0 m c t (point h)))
    ((congrArg read (first m c ⟨0, point (by omega)⟩ rfl)).trans ((hs _ _).trans (by rw [hz, zero_add])))
    fun t h => (congrArg read (next m c ⟨t + 1, point h⟩ (by show ¬(t + 1) % 8 = 0; omega))).trans (hs _ _)

/-! ## The blocks -/

/-- The blocks of point `t`. -/
theorem idx : ∀ t : Fin cfg0.N, (win0_0.index t = ![t.val, 0] ∧ win0_1.index t = ![t.val, 0] ∧ win0_2.index t = ![t.val, 0]
    ∧ win0_3.index t = ![0, 0] ∧ win0_4.index t = ![0, 0])
    ∧ win0_5.index t = ![t.val, 0] ∧ win0_6.index t = ![0, 0] ∧ win0_7.index t = ![0, 0] := by
  decide +kernel

variable (t : Fin cfg0.N) (i : Fin 512) (k : Fin 1024)

theorem block0 : iblk m c 0 t (ix2 i k) = m ((c : Thread nD τ).loc main_arg0) (ix2 (token t i) k) := by
  blk_ext [iblk, V, (idx t).1]

theorem block1 : iblk m c 1 t (ix2 i k) = m ((c : Thread nD τ).loc main_arg1) (ix2 (token t i) k) := by
  blk_ext [iblk, V, (idx t).1]

theorem block2 : iblk m c 2 t (ix2 i k) = m ((c : Thread nD τ).loc main_arg2) (ix2 (token t i) k) := by
  blk_ext [iblk, V, (idx t).1]

theorem block3 : iblk m c 3 t (ix2 0 k) = m ((c : Thread nD τ).loc main_arg3) (ix2 0 k) := by
  blk_ext [iblk, V, (idx t).1]

theorem block4 : iblk m c 4 t (ix2 0 k) = m ((c : Thread nD τ).loc main_arg4) (ix2 0 k) := by
  blk_ext [iblk, V, (idx t).1]

theorem row_block : row (iblk m c 0 t) i = row (m ((c : Thread nD τ).loc main_arg0)) (token t i) :=
  funext fun k => block0 m c t i k

/-! ## The results -/

theorem result5 : (dats m 0 c).arrAt 5 cfg0.N
    = val_main_v43 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  obtain ⟨s, e⟩ := stepped m c t
  obtain ⟨i, j, rfl⟩ : ∃ i j, y = ix2 i j := ⟨_, _, eq_ix2 y⟩
  rw [after0_5, e]
  have e1 : gained (iblk m c 1 t) (iblk m c 3 t) (iblk m c 4 t) i = gained (m ((c : Thread nD τ).loc main_arg1))
      (m ((c : Thread nD τ).loc main_arg3)) (m ((c : Thread nD τ).loc main_arg4)) (token t i) :=
    funext fun k => by simp only [gained, block1, block3, block4]
  refine (NormBackwardResult.stream_tile (iblk m c 0 t) (iblk m c 1 t) (iblk m c 3 t) (iblk m c 4 t) (iblk m c 2 t) i j).trans ?_
  rw [block2, row_block, e1, ← stream_eq]
  blk_point [idx t]

theorem result6 : (dats m 0 c).arrAt 6 cfg0.N = val_main_v23 (F := Ideal) (m ((c : Thread nD τ).loc main_arg1)) := by
  refine (dats m 0 c).arrAt_eq_of_covers 6 _ (by decide +kernel) fun t hf y => ?_
  blk_simp
  obtain ⟨i, j, rfl⟩ : ∃ i j, y = ix2 i j := ⟨_, _, eq_ix2 y⟩
  obtain rfl : i = 0 := Subsingleton.elim _ _
  rw [after0_6]
  refine (summed m c (fun i => m ((c : Thread nD τ).loc main_arg1) (ix2 i j)) (fun s => s.2.1 (ix2 0 j))
    (by pointwise [zeros, k0_pay3])
    (fun t s => (NormBackwardResult.shift_tile (iblk m c 1 t) s.2.1 j).trans ?_) t ((flush0_6 t).mp hf)).trans ?_
  · simp only [block1]
  · rw [← shift_eq]
    blk_point [idx t]

theorem result7 : (dats m 0 c).arrAt 7 cfg0.N
    = val_main_v26 (F := Ideal) (m ((c : Thread nD τ).loc main_arg0)) (m ((c : Thread nD τ).loc main_arg1)) := by
  refine (dats m 0 c).arrAt_eq_of_covers 7 _ (by decide +kernel) fun t hf y => ?_
  blk_simp
  obtain ⟨i, j, rfl⟩ : ∃ i j, y = ix2 i j := ⟨_, _, eq_ix2 y⟩
  obtain rfl : i = 0 := Subsingleton.elim _ _
  rw [after0_7]
  refine (summed m c (fun i => row (m ((c : Thread nD τ).loc main_arg1)) i j
      * (row (m ((c : Thread nD τ).loc main_arg0)) i j * Ideal.rsqrt (square (row (m ((c : Thread nD τ).loc main_arg0)) i))))
    (fun s => s.2.2 (ix2 0 j)) (by pointwise [zeros, k0_pay4])
    (fun t s => (NormBackwardResult.gain_tile (NormBackwardIdeal.Gen.k0_pay9 (iblk m c 0 t)) (iblk m c 1 t) s.2.2 j).trans ?_) t
    ((flush0_7 t).mp hf)).trans ?_
  · simp only [block1, NormBackwardResult.normed_tile, row_block, block0]
  · rw [← gain_eq]
    blk_point [idx t]

/-! ## The claims -/

/-- The reference keeps its arguments. -/
theorem reference_frame : Cert.quiescent_FirstNormBackwardReferenceIdeal := fun m ρ _ =>
  Runs.frame_of_run (by decide) ((θ_run Cert.FirstNormBackwardReferenceIdeal.defs _ _).mono
    (fun _ h c => ⟨(h c).1, (h c).2.2.2⟩) (Cert.FirstNormBackwardReferenceIdeal.Value.run m ρ))

theorem algebraic : Cert.algebraic_FirstNormBackwardIdeal_FirstNormBackwardReferenceIdeal := fun m g m' g' _ hargs =>
  ⟨_, _, _, Cert.FirstNormBackwardIdeal.Value.run_blocks m g, (θ_run Cert.FirstNormBackwardReferenceIdeal.defs _ _).mono
    (fun _ h c => by
      obtain ⟨h43, h23, h26, hk⟩ := h c
      obtain ⟨a0, a1, a2, a3, a4⟩ := hargs c
      refine ⟨h43.trans ?_, h23.trans ?_, h26.trans ?_, hk⟩
      · rw [val_main_v43_eq, a0, a1, a2, a3, a4, result5]
      · rw [val_main_v23_eq, a1, result6]
      · exact (val_main_v26_eq _ _).trans (by rw [a0, a1, result7]))
    (Cert.FirstNormBackwardReferenceIdeal.Value.run m' g')⟩

end Cert.FirstNormBackwardResult

end
-- ==== Proof.NormForward.lean ====
/-
  The forward calls of the modulated norms: the first norm of layer 0, and the norm that a residual sum comes before.
-/
module

public import proofs.«01_k».proof.Defs
public import proofs.«01_k».proof.Proof.NormBackward
public import proofs.«01_k».proof.Proof.Gen.FirstNormForwardIdeal.Value
public import proofs.«01_k».proof.Proof.Gen.FirstNormForwardReferenceIdeal.Read
public import proofs.«01_k».proof.Proof.Gen.NormForwardIdeal.Value
public import proofs.«01_k».proof.Proof.Gen.NormForwardReferenceIdeal.Read

@[expose] public section

set_option maxRecDepth 16384

noncomputable section

open Idealize.ShloMosaic Idealize.ShloMosaic.TcCoe Idealize.SL.Sem Cert.NormRow Cert.Lift
open Cert.NormBackwardResult (row at_ix2)

/-! ## The first norm of layer 0 -/

namespace Cert.FirstNormForwardResult

open Cert.FirstNormForwardIdeal Cert.FirstNormForwardIdeal.Gen Cert.FirstNormForwardReferenceIdeal.Read

/-- An entry's normalised value, with the modulated gain and the shift. -/
abbrev modulated {n : ℕ} (x : (⟨2, ![n, 1024]⟩ : Shape).Idx → EReal) (g s b : (⟨2, ![1, 1024]⟩ : Shape).Idx → EReal) (i : Fin n)
    (j : Fin 1024) : EReal :=
  row x i j * Ideal.rsqrt (square (row x i)) * g (ix2 0 j) * (1 + s (ix2 0 j)) + b (ix2 0 j)

theorem tile (x : Vec Ideal S1024x1024 .f32) (g s b : Vec Ideal S1x1024 .f32) (i j : Fin 1024) :
    k0_pay1 x g s b (ix2 i j) = modulated x g s b i j := by
  pointwise [k0_pay1]
  simp only [ofBits_1024, ofBits_eps]
  rfl

theorem mean_square (x0 : (⟨S4096x1024, .f32⟩ : BufTy).Contents (Elt Ideal)) (i : Fin 4096) :
    val_main_v6 (F := Ideal) x0 (ix2 i 0) = square (row x0 i) := by
  have h (k : Fin 1024) : idx_main_v1 (idx_main_v2 (ix2 i 0)) k = ix2 i k := at_ix2 _ i k rfl rfl
  rw [val_main_v6_apply, val_main_v5_apply, val_main_v4_apply, val_main_v3_apply, val_main_v2_apply, val_main_v1_apply,
    val_main_cst_apply, val_main_cst_0_apply, val_main_cst_1_apply]
  show Ideal.div (Ideal.ofBits .f32 0x00000000#32 + _) (Ideal.ofBits .f32 0x44800000#32) + Ideal.ofBits .f32 0x358637BD#32 = _
  rw [ofBits_1024, ofBits_eps, ofBits_zero, EReal.coe_zero, zero_add]
  exact congrArg (fun u => Ideal.div u _ + _) (Finset.sum_congr rfl fun k _ => by rw [h]; rfl)

/-- The reference's norm. -/
theorem reference_eq (x0 : (⟨S4096x1024, .f32⟩ : BufTy).Contents (Elt Ideal)) (x1 x2 x3 : (⟨S1x1024, .f32⟩ : BufTy).Contents (Elt Ideal))
    (i : Fin 4096) (j : Fin 1024) : val_main_v18 (F := Ideal) x0 x1 x2 x3 (ix2 i j) = modulated x0 x1 x2 x3 i j := by
  have h8 : idx_main_v8 (ix2 i j) = ix2 i 0 := at_ix2 _ i 0 rfl rfl
  have h10 : idx_main_v10 (ix2 i j) = ix2 0 j := at_ix2 _ 0 j rfl rfl
  have h14 : idx_main_v14 (ix2 i j) = ix2 0 j := at_ix2 _ 0 j rfl rfl
  have h16 : idx_main_v16 (ix2 i j) = ix2 0 j := at_ix2 _ 0 j rfl rfl
  rw [val_main_v18_apply, val_main_v17_apply, val_main_v16_apply, val_main_v15_apply, val_main_v14_apply, val_main_v13_apply,
    val_main_v12_apply, val_main_v11_apply, val_main_v10_apply, val_main_v9_apply, val_main_v8_apply, val_main_v7_apply,
    val_main_cst_2_apply, h8, h10, h14, h16, mean_square]
  show _ * _ * _ * (Ideal.ofBits .f32 0x3F800000#32 + _) + _ = _
  rw [ofBits_one, EReal.coe_one]
  rfl

/-- The blocks of point `t`. -/
theorem idx : ∀ t : Fin cfg0.N, win0_0.index t = ![t.val, 0] ∧ win0_1.index t = ![0, 0] ∧ win0_2.index t = ![0, 0]
    ∧ win0_3.index t = ![0, 0] ∧ win0_4.index t = ![t.val, 0] := by
  decide +kernel

variable (m : (ℓ : Loc nD τ sig) → Buf (Elt Ideal) ℓ) (c : Dev nD) (t : Fin cfg0.N)

/-- A row of a point's block, in the whole array. -/
abbrev token (i : Fin 1024) : Fin 4096 := ⟨1024 * t.val + i.val, by have := lt_of_lt_of_eq t.isLt (show cfg0.N = 4 from N_0); omega⟩

theorem block0 (i k : Fin 1024) : iblk m c 0 t (ix2 i k) = m ((c : Thread nD τ).loc main_arg0) (ix2 (token t i) k) := by
  blk_ext [iblk, V, idx t]

theorem block1 (k : Fin 1024) : iblk m c 1 t (ix2 0 k) = m ((c : Thread nD τ).loc main_arg1) (ix2 0 k) := by
  blk_ext [iblk, V, idx t]

theorem block2 (k : Fin 1024) : iblk m c 2 t (ix2 0 k) = m ((c : Thread nD τ).loc main_arg2) (ix2 0 k) := by
  blk_ext [iblk, V, idx t]

theorem block3 (k : Fin 1024) : iblk m c 3 t (ix2 0 k) = m ((c : Thread nD τ).loc main_arg3) (ix2 0 k) := by
  blk_ext [iblk, V, idx t]

theorem row_block (i : Fin 1024) : row (iblk m c 0 t) i = row (m ((c : Thread nD τ).loc main_arg0)) (token t i) :=
  funext fun k => block0 m c t i k

theorem result : (dats m 0 c).arrAt 4 cfg0.N
    = val_main_v18 (F := Ideal) (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t _ y => ?_
  blk_simp
  obtain ⟨i, j, rfl⟩ : ∃ i j, y = ix2 i j := ⟨_, _, eq_ix2 y⟩
  rw [after0_4]
  frame_out
  refine (tile (iblk m c 0 t) (iblk m c 1 t) (iblk m c 2 t) (iblk m c 3 t) i j).trans ?_
  rw [modulated, row_block, block1, block2, block3]
  refine (reference_eq (m ((c : Thread nD τ).loc main_arg0)) (m ((c : Thread nD τ).loc main_arg1))
    (m ((c : Thread nD τ).loc main_arg2)) (m ((c : Thread nD τ).loc main_arg3)) (token t i) j).symm.trans ?_
  blk_point [idx t]

theorem algebraic : Cert.algebraic_FirstNormForwardIdeal_FirstNormForwardReferenceIdeal := fun m g m' g' _ hargs =>
  ⟨_, Cert.FirstNormForwardIdeal.Value.run_blocks m g, (θ_run Cert.FirstNormForwardReferenceIdeal.defs _ _).mono
    (fun _ h c => by
      obtain ⟨h18, hk⟩ := h c
      obtain ⟨a0, a1, a2, a3⟩ := hargs c
      exact ⟨h18.trans ((val_main_v18_eq _ _ _ _).trans (by rw [a0, a1, a2, a3, result])), hk⟩)
    (Cert.FirstNormForwardReferenceIdeal.Value.run m' g')⟩

end Cert.FirstNormForwardResult

/-! ## The norm behind a residual sum -/

namespace Cert.NormForwardResult

open Cert.NormForwardIdeal Cert.NormForwardIdeal.Gen Cert.NormForwardReferenceIdeal.Read
open Cert.FirstNormForwardResult (modulated)

/-- The residual sum: the stream, and the branch times its gate. -/
abbrev residual {n : ℕ} (x y : (⟨2, ![n, 1024]⟩ : Shape).Idx → EReal) (z : (⟨2, ![1, 1024]⟩ : Shape).Idx → EReal) (i : Fin n)
    (j : Fin 1024) : EReal :=
  x (ix2 i j) + z (ix2 0 j) * y (ix2 i j)

theorem sum_tile (x : Vec Ideal S1024x1024 .f32) (z : Vec Ideal S1x1024 .f32) (y : Vec Ideal S1024x1024 .f32) (i j : Fin 1024) :
    k0_pay1 x z y (ix2 i j) = residual x y z i j := by
  pointwise [k0_pay1]

theorem norm_tile (x : Vec Ideal S1024x1024 .f32) (z : Vec Ideal S1x1024 .f32) (y : Vec Ideal S1024x1024 .f32)
    (g s b : Vec Ideal S1x1024 .f32) (i j : Fin 1024) :
    k0_pay2 x z y g s b (ix2 i j) = modulated (k0_pay1 x z y) g s b i j :=
  FirstNormForwardResult.tile (k0_pay1 x z y) g s b i j

section reference

variable (x0 x1 : (⟨S4096x1024, .f32⟩ : BufTy).Contents (Elt Ideal)) (x2 x3 x4 x5 : (⟨S1x1024, .f32⟩ : BufTy).Contents (Elt Ideal))
  (i : Fin 4096) (j : Fin 1024)

theorem sum_eq : val_main_v2 (F := Ideal) x0 x1 x2 (ix2 i j) = residual x0 x1 x2 i j := by
  have h0 : idx_main_v0 (ix2 i j) = ix2 0 j := at_ix2 _ 0 j rfl rfl
  rw [val_main_v2_apply, val_main_v1_apply, val_main_v0_apply, h0]
  rfl

theorem norm_eq : val_main_v21 (F := Ideal) x0 x1 x2 x3 x4 x5 (ix2 i j)
    = modulated (val_main_v2 (F := Ideal) x0 x1 x2) x3 x4 x5 i j :=
  FirstNormForwardResult.reference_eq (val_main_v2 (F := Ideal) x0 x1 x2) x3 x4 x5 i j

end reference

/-- The blocks of point `t`. -/
theorem idx : ∀ t : Fin cfg0.N, (win0_0.index t = ![t.val, 0] ∧ win0_1.index t = ![t.val, 0] ∧ win0_2.index t = ![0, 0]
    ∧ win0_3.index t = ![0, 0] ∧ win0_4.index t = ![0, 0] ∧ win0_5.index t = ![0, 0])
    ∧ win0_6.index t = ![t.val, 0] ∧ win0_7.index t = ![t.val, 0] := by
  decide +kernel

variable (m : (ℓ : Loc nD τ sig) → Buf (Elt Ideal) ℓ) (c : Dev nD) (t : Fin cfg0.N)

/-- A row of a point's block, in the whole array. -/
abbrev token (i : Fin 1024) : Fin 4096 := ⟨1024 * t.val + i.val, by have := lt_of_lt_of_eq t.isLt (show cfg0.N = 4 from N_0); omega⟩

theorem block0 (i k : Fin 1024) : iblk m c 0 t (ix2 i k) = m ((c : Thread nD τ).loc main_arg0) (ix2 (token t i) k) := by
  blk_ext [iblk, V, (idx t).1]

theorem block1 (i k : Fin 1024) : iblk m c 1 t (ix2 i k) = m ((c : Thread nD τ).loc main_arg1) (ix2 (token t i) k) := by
  blk_ext [iblk, V, (idx t).1]

theorem block2 (k : Fin 1024) : iblk m c 2 t (ix2 0 k) = m ((c : Thread nD τ).loc main_arg2) (ix2 0 k) := by
  blk_ext [iblk, V, (idx t).1]

theorem block3 (k : Fin 1024) : iblk m c 3 t (ix2 0 k) = m ((c : Thread nD τ).loc main_arg3) (ix2 0 k) := by
  blk_ext [iblk, V, (idx t).1]

theorem block4 (k : Fin 1024) : iblk m c 4 t (ix2 0 k) = m ((c : Thread nD τ).loc main_arg4) (ix2 0 k) := by
  blk_ext [iblk, V, (idx t).1]

theorem block5 (k : Fin 1024) : iblk m c 5 t (ix2 0 k) = m ((c : Thread nD τ).loc main_arg5) (ix2 0 k) := by
  blk_ext [iblk, V, (idx t).1]

/-- A point's residual sum is its rows of the reference's. -/
theorem sum_block (i : Fin 1024) : row (k0_pay1 (iblk m c 0 t) (iblk m c 2 t) (iblk m c 1 t)) i
    = row (val_main_v2 (F := Ideal) (m ((c : Thread nD τ).loc main_arg0)) (m ((c : Thread nD τ).loc main_arg1))
        (m ((c : Thread nD τ).loc main_arg2))) (token t i) :=
  funext fun j => (sum_tile _ _ _ i j).trans (by rw [residual, block0, block1, block2, row, sum_eq])

theorem result6 : (dats m 0 c).arrAt 6 cfg0.N = val_main_v2 (F := Ideal) (m ((c : Thread nD τ).loc main_arg0))
    (m ((c : Thread nD τ).loc main_arg1)) (m ((c : Thread nD τ).loc main_arg2)) := by
  refine (dats m 0 c).arrAt_eq_of_covers 6 _ (by decide +kernel) fun t _ y => ?_
  blk_simp
  obtain ⟨i, j, rfl⟩ : ∃ i j, y = ix2 i j := ⟨_, _, eq_ix2 y⟩
  rw [after0_6]
  frame_out
  refine (congrFun (sum_block m c t i) j).trans ?_
  show val_main_v2 (F := Ideal) _ _ _ (ix2 (token t i) j) = _
  blk_point [idx t]

theorem result7 : (dats m 0 c).arrAt 7 cfg0.N
    = val_main_v21 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) := by
  refine (dats m 0 c).arrAt_eq_of_covers 7 _ (by decide +kernel) fun t _ y => ?_
  blk_simp
  obtain ⟨i, j, rfl⟩ : ∃ i j, y = ix2 i j := ⟨_, _, eq_ix2 y⟩
  rw [after0_7]
  frame_out
  refine (norm_tile (iblk m c 0 t) (iblk m c 2 t) (iblk m c 1 t) (iblk m c 3 t) (iblk m c 4 t) (iblk m c 5 t) i j).trans ?_
  rw [modulated, sum_block, block3, block4, block5]
  refine (norm_eq (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (token t i) j).symm.trans ?_
  blk_point [idx t]

/-- The reference keeps its arguments. -/
theorem reference_frame : Cert.quiescent_NormForwardReferenceIdeal := fun m ρ _ =>
  Runs.frame_of_run (by decide) ((θ_run Cert.NormForwardReferenceIdeal.defs _ _).mono
    (fun _ h c => ⟨(h c).1, (h c).2.2⟩) (Cert.NormForwardReferenceIdeal.Value.run m ρ))

theorem algebraic : Cert.algebraic_NormForwardIdeal_NormForwardReferenceIdeal := fun m g m' g' _ hargs =>
  ⟨_, _, Cert.NormForwardIdeal.Value.run_blocks m g, (θ_run Cert.NormForwardReferenceIdeal.defs _ _).mono
    (fun _ h c => by
      obtain ⟨h2, h21, hk⟩ := h c
      obtain ⟨a0, a1, a2, a3, a4, a5⟩ := hargs c
      refine ⟨h2.trans ((val_main_v2_eq _ _ _).trans ?_), h21.trans ((val_main_v21_eq _ _ _ _ _ _).trans ?_), hk⟩
      · rw [a0, a1, a2, result6]
      · rw [a0, a1, a2, a3, a4, a5, result7])
    (Cert.NormForwardReferenceIdeal.Value.run m' g')⟩

end Cert.NormForwardResult

end
-- ==== Proof.LossHead.lean ====
/-
  The loss head: the residual sum behind the last layer, its norm, the mean squared error, and the backward pass of the three.
-/
module

public import proofs.«01_k».proof.Defs
public import proofs.«01_k».proof.Proof.NormBackward
public import proofs.«01_k».proof.Proof.Gen.LossHeadIdeal.Value
public import proofs.«01_k».proof.Proof.Gen.LossHeadReferenceIdeal.Read

@[expose] public section

set_option maxRecDepth 16384

noncomputable section

namespace Cert.LossHeadResult

open Idealize.ShloMosaic Idealize.ShloMosaic.TcCoe Idealize.SL.Sem Cert.LossHeadIdeal Cert.LossHeadIdeal.Gen
  Cert.LossHeadReferenceIdeal.Read Cert.NormRow Cert.Lift
open Cert.NormBackwardResult (row at_ix2)

/-! ## The values -/

section values

variable {n : ℕ} (x y : (⟨2, ![n, 1024]⟩ : Shape).Idx → EReal) (z g : (⟨2, ![1, 1024]⟩ : Shape).Idx → EReal)
  (e : (⟨2, ![n, 1024]⟩ : Shape).Idx → EReal) (i : Fin n) (k : Fin 1024)

/-- The residual sum: the stream, and the branch times its gate. -/
def total : EReal := x (ix2 i k) + z (ix2 0 k) * y (ix2 i k)

/-- The sum, normalised. -/
def normed : EReal := total x y z i k * Ideal.rsqrt (square (total x y z i))

/-- The prediction's error. -/
def error : EReal := normed x y z i k * g (ix2 0 k) - e (ix2 i k)

/-- The gradient of the prediction. -/
def share : EReal := error x y z g e i k * ((1 / 1024 : ℝ) : EReal)

/-- The gradient of the normalised sum. -/
def gained : EReal := share x y z g e i k * g (ix2 0 k)

/-- The gradient of the residual sum. -/
def stream : EReal := direct (total x y z i) (gained x y z g e i) k

end values

theorem ofBits_inv_1024 : Ideal.ofBits .f32 0x3A800000#32 = ((1 / 1024 : ℝ) : EReal) := by
  simp [Ideal.ofBits, Ideal.ieee, -EReal.coe_mul]; norm_num

theorem ofBits_inv_2048 : Ideal.ofBits .f32 0x3A000000#32 = ((1 / 2048 : ℝ) : EReal) := by
  simp [Ideal.ofBits, Ideal.ieee, -EReal.coe_mul]; norm_num

/-! ## The block -/

section block

variable (x y : Vec Ideal S512x1024 .f32) (z g : Vec Ideal S1x1024 .f32) (e : Vec Ideal S512x1024 .f32) (s : Vec Ideal S1x1024 .f32)
  (i : Fin 512) (j : Fin 1024)

theorem total_tile : k0_pay5 y x z (ix2 i j) = total x y z i j := by
  pointwise [k0_pay5, total]

theorem root_tile : k0_pay6 y x z (ix2 i 0) = Ideal.rsqrt (square (total x y z i)) := by
  have h : total x y z i = row (k0_pay5 y x z) i := funext fun k => (total_tile x y z i k).symm
  rw [h]
  pointwise [k0_pay6]
  simp only [ofBits_1024, ofBits_eps]
  rfl

theorem normed_tile : k0_pay7 y x z (ix2 i j) = normed x y z i j := by
  rw [normed, ← root_tile, ← total_tile]
  pointwise [k0_pay7]

theorem error_tile : k0_pay8 y x z g e (ix2 i j) = error x y z g e i j := by
  rw [error, ← normed_tile]
  pointwise [k0_pay8]

theorem share_tile : k0_pay10 y x z g e (ix2 i j) = share x y z g e i j := by
  rw [share, ← error_tile, ← ofBits_inv_1024]
  pointwise [k0_pay10]

theorem square_tile : k0_pay9 y x z g e s (ix2 0 j) = s (ix2 0 j) + ∑ i : Fin 512, error x y z g e i j * error x y z g e i j := by
  simp only [← error_tile]
  pointwise [k0_pay9]

theorem gain_tile : k0_pay11 (k0_pay7 y x z) (k0_pay10 y x z g e) s (ix2 0 j)
    = s (ix2 0 j) + ∑ i : Fin 512, share x y z g e i j * normed x y z i j := by
  simp only [← share_tile, ← normed_tile]
  pointwise [k0_pay11]

theorem stream_tile : k0_pay12 (k0_pay6 y x z) (k0_pay7 y x z) (k0_pay10 y x z g e) g (ix2 i j) = stream x y z g e i j := by
  have h : stream x y z g e i j = k0_pay6 y x z (ix2 i 0) * (k0_pay10 y x z g e (ix2 i j) * g (ix2 0 j) - k0_pay7 y x z (ix2 i j)
      * Ideal.div (∑ k, k0_pay10 y x z g e (ix2 i k) * g (ix2 0 k) * k0_pay7 y x z (ix2 i k)) ((1024 : ℝ) : EReal)) := by
    simp only [root_tile, share_tile, normed_tile]
    rfl
  rw [h]
  generalize k0_pay6 y x z = a, k0_pay7 y x z = b, k0_pay10 y x z g e = c
  pointwise [k0_pay12]
  rw [ofBits_1024]

theorem branch_tile (a : FVec Ideal S512x1 .f32) (b c : FVec Ideal S512x1024 .f32) :
    k0_pay13 a b c g z (ix2 i j) = z (ix2 0 j) * k0_pay12 a b c g (ix2 i j) := by
  pointwise [k0_pay13]

theorem gate_tile (a : FVec Ideal S512x1 .f32) (b c : FVec Ideal S512x1024 .f32) :
    k0_pay14 y a b c g s (ix2 0 j) = s (ix2 0 j) + ∑ i : Fin 512, k0_pay12 a b c g (ix2 i j) * y (ix2 i j) := by
  pointwise [k0_pay14]

theorem loss_tile (l : Fin 128) : k0_pay1 s (ix2 0 l) = (∑ k : Fin 1024, s (ix2 0 k)) * ((1 / 2048 : ℝ) : EReal) := by
  rw [← ofBits_inv_2048]
  pointwise [k0_pay1]

end block

/-! ## The reference -/

section reference

variable (x0 x1 : (⟨S4096x1024, .f32⟩ : BufTy).Contents (Elt Ideal)) (x2 x3 : (⟨S1x1024, .f32⟩ : BufTy).Contents (Elt Ideal))
  (x4 : (⟨S4096x1024, .f32⟩ : BufTy).Contents (Elt Ideal)) (i : Fin 4096) (j : Fin 1024)

theorem total_eq : val_main_v2 (F := Ideal) x0 x1 x2 (ix2 i j) = total x0 x1 x2 i j := by
  have h0 : idx_main_v0 (ix2 i j) = ix2 0 j := at_ix2 _ 0 j rfl rfl
  rw [val_main_v2_apply, val_main_v1_apply, val_main_v0_apply, h0]
  rfl

theorem mean_square : val_main_v9 (F := Ideal) x0 x1 x2 (ix2 i 0) = square (total x0 x1 x2 i) := by
  have h (k : Fin 1024) : idx_main_v4 (idx_main_v5 (ix2 i 0)) k = ix2 i k := at_ix2 _ i k rfl rfl
  rw [val_main_v9_apply, val_main_v8_apply, val_main_v7_apply, val_main_v6_apply, val_main_v5_apply, val_main_v4_apply,
    val_main_cst_apply, val_main_cst_0_apply, val_main_cst_1_apply]
  show Ideal.div (Ideal.ofBits .f32 0x00000000#32 + _) (Ideal.ofBits .f32 0x44800000#32) + Ideal.ofBits .f32 0x358637BD#32 = _
  rw [ofBits_1024, ofBits_eps, ofBits_zero, EReal.coe_zero, zero_add]
  exact congrArg (fun u => Ideal.div u _ + _) (Finset.sum_congr rfl fun k _ => by rw [h, val_main_v3_apply, total_eq]; rfl)

theorem root_eq : val_main_v10 (F := Ideal) x0 x1 x2 (ix2 i 0) = Ideal.rsqrt (square (total x0 x1 x2 i)) := by
  rw [val_main_v10_apply, mean_square]
  rfl

theorem normed_eq : val_main_v15 (F := Ideal) x0 x1 x2 (ix2 i j) = normed x0 x1 x2 i j := by
  have h14 : idx_main_v14 (ix2 i j) = ix2 i 0 := at_ix2 _ i 0 rfl rfl
  rw [val_main_v15_apply, val_main_v14_apply, h14, root_eq, total_eq]
  rfl

theorem error_eq : val_main_v18 (F := Ideal) x0 x1 x2 x3 x4 (ix2 i j) = error x0 x1 x2 x3 x4 i j := by
  have h16 : idx_main_v16 (ix2 i j) = ix2 0 j := at_ix2 _ 0 j rfl rfl
  rw [val_main_v18_apply, val_main_v17_apply, val_main_v16_apply, h16, normed_eq]
  rfl

theorem share_eq : val_main_v32 (F := Ideal) x0 x1 x2 x3 x4 (ix2 i j) = share x0 x1 x2 x3 x4 i j := by
  rw [val_main_v32_apply, val_main_v31_apply, val_main_v30_apply, val_main_v29_apply, val_main_v28_apply, val_main_v27_apply,
    val_main_v21_apply, val_main_v20_apply, val_main_cst_3_apply, val_main_cst_8_apply, val_main_cst_9_apply, val_main_cst_10_apply,
    error_eq]
  show Ideal.div (Ideal.ofBits .f32 0x3F000000#32 * Ideal.ofBits .f32 0x3F800000#32) (Ideal.ofBits .f32 0x44800000#32)
    * (Ideal.ofBits .f32 0x40000000#32 * error x0 x1 x2 x3 x4 i j) = _
  rw [ofBits_half, ofBits_one, ofBits_two, ofBits_1024, ← EReal.coe_mul, div_lift _ _ (by norm_num), ← mul_assoc, ← EReal.coe_mul,
    mul_comm, share]
  norm_num

theorem gained_eq : val_main_v37 (F := Ideal) x0 x1 x2 x3 x4 (ix2 i j) = gained x0 x1 x2 x3 x4 i j := by
  have h36 : idx_main_v36 (ix2 i j) = ix2 0 j := at_ix2 _ 0 j rfl rfl
  rw [val_main_v37_apply, val_main_v36_apply, h36, share_eq]
  rfl

theorem slope_eq : val_main_v47 (F := Ideal) x0 x1 x2 x3 x4 (ix2 i j) = slope (total x0 x1 x2 i) (gained x0 x1 x2 x3 x4 i) := by
  have h46 : idx_main_v46 (idx_main_v47 (ix2 i j)) 0 = ix2 i 0 := at_ix2 _ i 0 rfl rfl
  have h39 (k : Fin 1024) : idx_main_v39 (idx_main_v40 (ix2 i 0)) k = ix2 i k :=
    at_ix2 _ i k (by show i.val * 1 + 0 = i.val; omega) rfl
  have sums : ∑ k, val_main_v38 (F := Ideal) x0 x1 x2 x3 x4 (idx_main_v39 (idx_main_v40 (ix2 i 0)) k)
      = ∑ k, total x0 x1 x2 i k * gained x0 x1 x2 x3 x4 i k :=
    Finset.sum_congr rfl fun k _ => by rw [h39, val_main_v38_apply, gained_eq, total_eq]; rfl
  rw [val_main_v47_apply, val_main_v46_apply, Fin.sum_univ_one, h46, val_main_v45_apply, val_main_v44_apply, val_main_v43_apply,
    val_main_v40_apply, val_main_v39_apply, val_main_v13_apply, val_main_v12_apply, val_main_v11_apply, root_eq,
    mean_square, sums]
  show Ideal.ofBits .f32 0x00000000#32 + Ideal.div ((Ideal.ofBits .f32 0x00000000#32 + _)
    * (Ideal.ofBits .f32 0xBF000000#32 * _)) (Ideal.ofBits .f32 0x44800000#32) = _
  rw [ofBits_1024, ofBits_neg_half, ofBits_zero, EReal.coe_zero, zero_add, zero_add]
  rfl

/-- The gradient of the residual stream. -/
theorem stream_eq : val_main_v51 (F := Ideal) x0 x1 x2 x3 x4 (ix2 i j) = stream x0 x1 x2 x3 x4 i j := by
  have h41 : idx_main_v41 (ix2 i j) = ix2 i 0 := at_ix2 _ i 0 rfl rfl
  rw [val_main_v51_apply, val_main_v50_apply, val_main_v49_apply, val_main_v48_apply, val_main_v42_apply, val_main_v41_apply,
    slope_eq, gained_eq, total_eq, stream, direct_eq, h41, root_eq]
  rfl

/-- The gradient of the branch. -/
theorem branch_eq : val_main_v57 (F := Ideal) x0 x1 x2 x3 x4 (ix2 i j) = x2 (ix2 0 j) * stream x0 x1 x2 x3 x4 i j := by
  have h52 : idx_main_v52 (ix2 i j) = ix2 0 j := at_ix2 _ 0 j rfl rfl
  rw [val_main_v57_apply, val_main_v53_apply, val_main_v52_apply, h52, stream_eq]
  rfl

/-- The gradient of the final gain. -/
theorem gain_eq : val_main_v35 (F := Ideal) x0 x1 x2 x3 x4 (ix2 0 j)
    = ∑ i : Fin 4096, share x0 x1 x2 x3 x4 i j * normed x0 x1 x2 i j := by
  have h (i : Fin 4096) : idx_main_v34 (idx_main_v35 (ix2 0 j)) i = ix2 i j :=
    at_ix2 _ i j rfl (by show 0 * 1024 + j.val = j.val; omega)
  rw [val_main_v35_apply, val_main_v34_apply, val_main_cst_11_apply]
  refine (congrArg (· + _) ofBits_zero).trans ((zero_add _).trans (Finset.sum_congr rfl fun i _ => ?_))
  rw [h, val_main_v33_apply, share_eq, normed_eq]
  exact mul_comm _ _

/-- The gradient of the gate. -/
theorem gate_eq : val_main_v56 (F := Ideal) x0 x1 x2 x3 x4 (ix2 0 j)
    = ∑ i : Fin 4096, stream x0 x1 x2 x3 x4 i j * x1 (ix2 i j) := by
  have h (i : Fin 4096) : idx_main_v55 (idx_main_v56 (ix2 0 j)) i = ix2 i j :=
    at_ix2 _ i j rfl (by show 0 * 1024 + j.val = j.val; omega)
  rw [val_main_v56_apply, val_main_v55_apply, val_main_cst_15_apply]
  refine (congrArg (· + _) ofBits_zero).trans ((zero_add _).trans (Finset.sum_congr rfl fun i _ => ?_))
  rw [h, val_main_v54_apply, stream_eq]
  rfl

/-- The loss, summed over the tokens before it is summed over a token's entries. -/
theorem loss_eq (l : Fin 128) : val_main_v58 (F := Ideal) x0 x1 x2 x3 x4 (ix2 0 l)
    = (∑ k : Fin 1024, ∑ i : Fin 4096, error x0 x1 x2 x3 x4 i k * error x0 x1 x2 x3 x4 i k) * ((1 / 2048 : ℝ) : EReal) := by
  have h (i : Fin 4096) (k : Fin 1024) : idx_main_v22 (ix1 i) k = ix2 i k := at_ix2 _ i k rfl rfl
  have mean (i : Fin 4096) : val_main_v24 (F := Ideal) x0 x1 x2 x3 x4 (ix1 i)
      = (∑ k : Fin 1024, error x0 x1 x2 x3 x4 i k * error x0 x1 x2 x3 x4 i k) * ((1 / 1024 : ℝ) : EReal) := by
    rw [val_main_v24_apply, val_main_v23_apply, val_main_v22_apply, val_main_cst_4_apply, val_main_cst_5_apply]
    show Ideal.div (Ideal.ofBits .f32 0x00000000#32 + _) (Ideal.ofBits .f32 0x44800000#32) = _
    rw [ofBits_1024, ofBits_zero, EReal.coe_zero, zero_add, div_1024]
    exact congrArg (· * _) (Finset.sum_congr rfl fun k _ => by rw [h, val_main_v19_apply, error_eq]; rfl)
  rw [val_main_v58_apply, val_main_v26_apply, val_main_v25_apply, val_main_cst_6_apply, val_main_cst_7_apply, sum_idx1,
    Finset.sum_congr rfl fun i _ => mean i, sum_mul _ (by norm_num), Finset.sum_comm]
  show Ideal.ofBits .f32 0x3F000000#32 * (Ideal.ofBits .f32 0x00000000#32 + _) = _
  rw [ofBits_half, ofBits_zero, EReal.coe_zero, zero_add, mul_left_comm, ← EReal.coe_mul]
  norm_num

end reference

/-! ## The points -/

variable (m : (ℓ : Loc nD τ sig) → Buf (Elt Ideal) ℓ) (c : Dev nD)

/-- The five results' buffers, and the one the squared errors are summed in. -/
abbrev Buffers : Type :=
  Vec Ideal S512x1024 .f32 × Vec Ideal S512x1024 .bf16 × Vec Ideal S1x128 .f32 × Vec Ideal S1x1024 .f32 × Vec Ideal S1x1024 .f32
    × Vec Ideal S1x1024 .f32

/-- The sums a point adds to: the gradients of the gain and of the gate, and the squared errors. -/
abbrev Sums : Type := Vec Ideal S1x1024 .f32 × Vec Ideal S1x1024 .f32 × Vec Ideal S1x1024 .f32

/-- What a point makes of the sums. -/
def sums (t : Fin cfg0.N) (s : Sums) : Sums :=
  (k0_pay11 (k0_pay7 (iblk m c 1 t) (iblk m c 0 t) (iblk m c 2 t))
      (k0_pay10 (iblk m c 1 t) (iblk m c 0 t) (iblk m c 2 t) (iblk m c 3 t) (iblk m c 4 t)) s.1,
    k0_pay14 (iblk m c 1 t) (k0_pay6 (iblk m c 1 t) (iblk m c 0 t) (iblk m c 2 t))
      (k0_pay7 (iblk m c 1 t) (iblk m c 0 t) (iblk m c 2 t))
      (k0_pay10 (iblk m c 1 t) (iblk m c 0 t) (iblk m c 2 t) (iblk m c 3 t) (iblk m c 4 t)) (iblk m c 3 t) s.2.1,
    k0_pay9 (iblk m c 1 t) (iblk m c 0 t) (iblk m c 2 t) (iblk m c 3 t) (iblk m c 4 t) s.2.2)

/-- The gradients a point writes of its own tokens. -/
def rows (t : Fin cfg0.N) : Vec Ideal S512x1024 .f32 × Vec Ideal S512x1024 .bf16 :=
  (k0_pay12 (k0_pay6 (iblk m c 1 t) (iblk m c 0 t) (iblk m c 2 t)) (k0_pay7 (iblk m c 1 t) (iblk m c 0 t) (iblk m c 2 t))
      (k0_pay10 (iblk m c 1 t) (iblk m c 0 t) (iblk m c 2 t) (iblk m c 3 t) (iblk m c 4 t)) (iblk m c 3 t),
    k0_pay13 (k0_pay6 (iblk m c 1 t) (iblk m c 0 t) (iblk m c 2 t)) (k0_pay7 (iblk m c 1 t) (iblk m c 0 t) (iblk m c 2 t))
      (k0_pay10 (iblk m c 1 t) (iblk m c 0 t) (iblk m c 2 t) (iblk m c 3 t) (iblk m c 4 t)) (iblk m c 3 t) (iblk m c 2 t))

/-- What the first point adds to. -/
def zeros : Sums := (k0_pay3 (F := Ideal), k0_pay4 (F := Ideal), k0_pay2 (F := Ideal))

/-- What a point leaves in the buffers, from the loss it leaves and the sums it adds to. -/
def step (t : Fin cfg0.N) (l : Vec Ideal S1x128 .f32) (s : Sums) : Buffers :=
  ((rows m c t).1, (rows m c t).2, l, (sums m c t s).1, (sums m c t s).2.1, (sums m c t s).2.2)

/-- The sums in the buffers. -/
abbrev held (s : Buffers) : Sums := s.2.2.2

/-- The sums a point leaves. -/
theorem held_step (t : Fin cfg0.N) (l : Vec Ideal S1x128 .f32) (s : Sums) : held (step m c t l s) = sums m c t s := rfl

theorem first (t : Fin cfg0.N) (h0 : t.val % 8 = 0) : ∃ l, outsAt0 m c t.val t.isLt = step m c t l zeros := by
  refine ⟨(outsAt0 m c t.val t.isLt).2.2.1, ?_⟩
  rw [outsAt0_A m c t h0 (by omega)]
  unfold step sums rows zeros
  frame_out

theorem middle (t : Fin cfg0.N) (h0 : ¬t.val % 8 = 0) (h1 : ¬t.val % 8 = 7) : ∃ l, outsAt0 m c t.val t.isLt
    = step m c t l (held (outsAt0 m c (t.val - 1) (Nat.lt_of_le_of_lt (Nat.sub_le _ _) t.isLt))) := by
  refine ⟨(outsAt0 m c t.val t.isLt).2.2.1, ?_⟩
  rw [outsAt0_B m c t h0 h1]
  unfold step sums rows
  frame_out
  rw [read_unread_whole]

theorem last (t : Fin cfg0.N) (h1 : t.val % 8 = 7) : outsAt0 m c t.val t.isLt
    = step m c t (k0_pay1 (sums m c t (held (outsAt0 m c (t.val - 1) (Nat.lt_of_le_of_lt (Nat.sub_le _ _) t.isLt)))).2.2)
      (held (outsAt0 m c (t.val - 1) (Nat.lt_of_le_of_lt (Nat.sub_le _ _) t.isLt))) := by
  rw [outsAt0_C m c t (by omega) h1]
  unfold step sums rows
  frame_out
  rw [read_unread_whole]

theorem next (t : Fin cfg0.N) (h0 : ¬t.val % 8 = 0) : ∃ l, outsAt0 m c t.val t.isLt
    = step m c t l (held (outsAt0 m c (t.val - 1) (Nat.lt_of_le_of_lt (Nat.sub_le _ _) t.isLt))) := by
  by_cases h1 : t.val % 8 = 7
  · exact ⟨_, last m c t h1⟩
  · exact middle m c t h0 h1

theorem point {t : ℕ} (h : t < 8) : t < cfg0.N := lt_of_lt_of_eq h (show cfg0.N = 8 from N_0).symm

theorem lt_points (t : Fin cfg0.N) : t.val < 8 := lt_of_lt_of_eq t.isLt (show cfg0.N = 8 from N_0)

theorem stepped (t : Fin cfg0.N) : ∃ l s, outsAt0 m c t.val t.isLt = step m c t l s := by
  by_cases h0 : t.val % 8 = 0
  · obtain ⟨l, e⟩ := first m c t h0
    exact ⟨l, _, e⟩
  · obtain ⟨l, e⟩ := next m c t h0
    exact ⟨l, _, e⟩

/-- A row of a point's block, in the whole array. -/
abbrev token (t : Fin cfg0.N) (i : Fin 512) : Fin 4096 := ⟨512 * t.val + i.val, by have := lt_points t; omega⟩

/-- What every point adds its tokens' share of is, at the last point, the sum over all tokens. -/
theorem summed (f : Fin 4096 → EReal) (read : Sums → EReal) (hz : read zeros = 0)
    (hs : ∀ t s, read (sums m c t s) = read s + ∑ i : Fin 512, f (token t i)) (t : Fin cfg0.N) (h7 : t.val % 8 = 7) :
    read (held (outsAt0 m c t.val t.isLt)) = ∑ i, f i := by
  obtain ⟨a, ha⟩ : ∃ a : (t : ℕ) → t < cfg0.N → Buffers, ∀ t h, a t h = outsAt0 m c t h :=
    ⟨fun t h => outsAt0 m c t h, fun _ _ => rfl⟩
  have e0 : ∃ l, a 0 (point (by omega)) = step m c ⟨0, point (by omega)⟩ l zeros := by
    rw [ha]
    exact first m c ⟨0, point (by omega)⟩ rfl
  have e1 (t : ℕ) (h : t + 1 < 8) : ∃ l, a (t + 1) (point h) = step m c ⟨t + 1, point h⟩ l (held (a t (point (by omega)))) := by
    rw [ha, ha]
    exact next m c ⟨t + 1, point h⟩ (by show ¬(t + 1) % 8 = 0; omega)
  rw [← ha]
  clear ha
  obtain ⟨n, hn⟩ := t
  obtain rfl : n = 7 := by have := lt_points ⟨n, hn⟩; dsimp only at h7 this; omega
  refine accumulated f (fun t h => read (held (a t (point h)))) ?_ fun t h => ?_
  · obtain ⟨l, e⟩ := e0
    rw [e, held_step, hs, hz, zero_add]
  · obtain ⟨l, e⟩ := e1 t h
    rw [e, held_step, hs]

/-! ## The blocks -/

/-- The blocks of point `t`. -/
theorem idx : ∀ t : Fin cfg0.N, (win0_0.index t = ![t.val, 0] ∧ win0_1.index t = ![t.val, 0] ∧ win0_2.index t = ![0, 0]
    ∧ win0_3.index t = ![0, 0] ∧ win0_4.index t = ![t.val, 0])
    ∧ win0_5.index t = ![t.val, 0] ∧ win0_6.index t = ![t.val, 0] ∧ win0_7.index t = ![0, 0] ∧ win0_8.index t = ![0, 0]
    ∧ win0_9.index t = ![0, 0] := by
  decide +kernel

section blocks

variable (t : Fin cfg0.N) (i : Fin 512) (k : Fin 1024)

theorem block0 : iblk m c 0 t (ix2 i k) = m ((c : Thread nD τ).loc main_arg0) (ix2 (token t i) k) := by
  blk_ext [iblk, V, (idx t).1]

theorem block1 : iblk m c 1 t (ix2 i k) = m ((c : Thread nD τ).loc main_arg1) (ix2 (token t i) k) := by
  blk_ext [iblk, V, (idx t).1]

theorem block2 : iblk m c 2 t (ix2 0 k) = m ((c : Thread nD τ).loc main_arg2) (ix2 0 k) := by
  blk_ext [iblk, V, (idx t).1]

theorem block3 : iblk m c 3 t (ix2 0 k) = m ((c : Thread nD τ).loc main_arg3) (ix2 0 k) := by
  blk_ext [iblk, V, (idx t).1]

theorem block4 : iblk m c 4 t (ix2 i k) = m ((c : Thread nD τ).loc main_arg4) (ix2 (token t i) k) := by
  blk_ext [iblk, V, (idx t).1]

theorem total_block : total (iblk m c 0 t) (iblk m c 1 t) (iblk m c 2 t) i
    = total (m ((c : Thread nD τ).loc main_arg0)) (m ((c : Thread nD τ).loc main_arg1)) (m ((c : Thread nD τ).loc main_arg2))
      (token t i) :=
  funext fun k => by rw [total, block0, block1, block2, total]

theorem normed_block : normed (iblk m c 0 t) (iblk m c 1 t) (iblk m c 2 t) i k
    = normed (m ((c : Thread nD τ).loc main_arg0)) (m ((c : Thread nD τ).loc main_arg1)) (m ((c : Thread nD τ).loc main_arg2))
      (token t i) k := by
  rw [normed, total_block, normed]

theorem error_block : error (iblk m c 0 t) (iblk m c 1 t) (iblk m c 2 t) (iblk m c 3 t) (iblk m c 4 t) i k
    = error (m ((c : Thread nD τ).loc main_arg0)) (m ((c : Thread nD τ).loc main_arg1)) (m ((c : Thread nD τ).loc main_arg2))
      (m ((c : Thread nD τ).loc main_arg3)) (m ((c : Thread nD τ).loc main_arg4)) (token t i) k := by
  rw [error, normed_block, block3, block4, error]

theorem share_block : share (iblk m c 0 t) (iblk m c 1 t) (iblk m c 2 t) (iblk m c 3 t) (iblk m c 4 t) i k
    = share (m ((c : Thread nD τ).loc main_arg0)) (m ((c : Thread nD τ).loc main_arg1)) (m ((c : Thread nD τ).loc main_arg2))
      (m ((c : Thread nD τ).loc main_arg3)) (m ((c : Thread nD τ).loc main_arg4)) (token t i) k := by
  rw [share, error_block, share]

theorem stream_block : stream (iblk m c 0 t) (iblk m c 1 t) (iblk m c 2 t) (iblk m c 3 t) (iblk m c 4 t) i k
    = stream (m ((c : Thread nD τ).loc main_arg0)) (m ((c : Thread nD τ).loc main_arg1)) (m ((c : Thread nD τ).loc main_arg2))
      (m ((c : Thread nD τ).loc main_arg3)) (m ((c : Thread nD τ).loc main_arg4)) (token t i) k := by
  have h : gained (iblk m c 0 t) (iblk m c 1 t) (iblk m c 2 t) (iblk m c 3 t) (iblk m c 4 t) i
      = gained (m ((c : Thread nD τ).loc main_arg0)) (m ((c : Thread nD τ).loc main_arg1)) (m ((c : Thread nD τ).loc main_arg2))
        (m ((c : Thread nD τ).loc main_arg3)) (m ((c : Thread nD τ).loc main_arg4)) (token t i) :=
    funext fun k => by rw [gained, share_block, block3, gained]
  rw [stream, total_block, h, stream]

end blocks

/-! ## The results -/

theorem result5 : (dats m 0 c).arrAt 5 cfg0.N
    = val_main_v51 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  obtain ⟨l, s, e⟩ := stepped m c t
  obtain ⟨i, j, rfl⟩ : ∃ i j, y = ix2 i j := ⟨_, _, eq_ix2 y⟩
  rw [after0_5, e]
  refine (stream_tile (iblk m c 0 t) (iblk m c 1 t) (iblk m c 2 t) (iblk m c 3 t) (iblk m c 4 t) i j).trans ?_
  rw [stream_block, ← stream_eq]
  blk_point [idx t]

theorem result6 : (dats m 0 c).arrAt 6 cfg0.N
    = val_main_v57 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 6 _ (by decide +kernel) fun t _ y => ?_
  blk_simp
  obtain ⟨l, s, e⟩ := stepped m c t
  obtain ⟨i, j, rfl⟩ : ∃ i j, y = ix2 i j := ⟨_, _, eq_ix2 y⟩
  rw [after0_6, e]
  refine (branch_tile (iblk m c 2 t) (iblk m c 3 t) i j _ _ _).trans ?_
  rw [stream_tile (iblk m c 0 t) (iblk m c 1 t) (iblk m c 2 t) (iblk m c 3 t) (iblk m c 4 t) i j, stream_block, block2, ← branch_eq]
  blk_point [idx t]

theorem result7 : (dats m 0 c).arrAt 7 cfg0.N
    = val_main_v58 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 7 _ (by decide +kernel) fun t hf y => ?_
  have h7 := (flush0_7 t).mp hf
  blk_simp
  obtain ⟨i, j, rfl⟩ : ∃ i j, y = ix2 i j := ⟨_, _, eq_ix2 y⟩
  obtain rfl : i = 0 := Subsingleton.elim _ _
  have acc (k : Fin 1024) := summed m c (fun i => error (m ((c : Thread nD τ).loc main_arg0)) (m ((c : Thread nD τ).loc main_arg1))
      (m ((c : Thread nD τ).loc main_arg2)) (m ((c : Thread nD τ).loc main_arg3)) (m ((c : Thread nD τ).loc main_arg4)) i k
      * error (m ((c : Thread nD τ).loc main_arg0)) (m ((c : Thread nD τ).loc main_arg1)) (m ((c : Thread nD τ).loc main_arg2))
        (m ((c : Thread nD τ).loc main_arg3)) (m ((c : Thread nD τ).loc main_arg4)) i k)
    (fun s => s.2.2 (ix2 0 k)) (by pointwise [zeros, k0_pay2])
    (fun t s => (square_tile (iblk m c 0 t) (iblk m c 1 t) (iblk m c 2 t) (iblk m c 3 t) (iblk m c 4 t) s.2.2 k).trans
      (by simp only [error_block])) t h7
  rw [last m c t h7, held_step] at acc
  rw [after0_7, last m c t h7]
  refine (loss_tile _ j).trans ?_
  rw [Finset.sum_congr rfl fun k _ => acc k, ← loss_eq _ _ _ _ _ j]
  blk_point [idx t]

theorem result8 : (dats m 0 c).arrAt 8 cfg0.N
    = val_main_v35 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 8 _ (by decide +kernel) fun t hf y => ?_
  blk_simp
  obtain ⟨i, j, rfl⟩ : ∃ i j, y = ix2 i j := ⟨_, _, eq_ix2 y⟩
  obtain rfl : i = 0 := Subsingleton.elim _ _
  rw [after0_8]
  refine (summed m c (fun i => share (m ((c : Thread nD τ).loc main_arg0)) (m ((c : Thread nD τ).loc main_arg1))
      (m ((c : Thread nD τ).loc main_arg2)) (m ((c : Thread nD τ).loc main_arg3)) (m ((c : Thread nD τ).loc main_arg4)) i j
      * normed (m ((c : Thread nD τ).loc main_arg0)) (m ((c : Thread nD τ).loc main_arg1)) (m ((c : Thread nD τ).loc main_arg2)) i j)
    (fun s => s.1 (ix2 0 j)) (by pointwise [zeros, k0_pay3])
    (fun t s => (gain_tile (iblk m c 0 t) (iblk m c 1 t) (iblk m c 2 t) (iblk m c 3 t) (iblk m c 4 t) s.1 j).trans
      (by simp only [share_block, normed_block])) t ((flush0_8 t).mp hf)).trans ?_
  rw [← gain_eq]
  blk_point [idx t]

theorem result9 : (dats m 0 c).arrAt 9 cfg0.N
    = val_main_v56 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 9 _ (by decide +kernel) fun t hf y => ?_
  blk_simp
  obtain ⟨i, j, rfl⟩ : ∃ i j, y = ix2 i j := ⟨_, _, eq_ix2 y⟩
  obtain rfl : i = 0 := Subsingleton.elim _ _
  rw [after0_9]
  refine (summed m c (fun i => stream (m ((c : Thread nD τ).loc main_arg0)) (m ((c : Thread nD τ).loc main_arg1))
      (m ((c : Thread nD τ).loc main_arg2)) (m ((c : Thread nD τ).loc main_arg3)) (m ((c : Thread nD τ).loc main_arg4)) i j
      * row (m ((c : Thread nD τ).loc main_arg1)) i j)
    (fun s => s.2.1 (ix2 0 j)) (by pointwise [zeros, k0_pay4])
    (fun t s => (gate_tile (iblk m c 1 t) (iblk m c 3 t) s.2.1 j _ _ _).trans ?_) t ((flush0_9 t).mp hf)).trans ?_
  · simp only [stream_tile, stream_block, block1]
  · rw [← gate_eq]
    blk_point [idx t]

/-! ## The claims -/

/-- The reference keeps its arguments. -/
theorem reference_frame : Cert.quiescent_LossHeadReferenceIdeal := fun m ρ _ =>
  Runs.frame_of_run (by decide) ((θ_run Cert.LossHeadReferenceIdeal.defs _ _).mono
    (fun _ h c => ⟨(h c).1, (h c).2.2.2.2.2⟩) (Cert.LossHeadReferenceIdeal.Value.run m ρ))

theorem algebraic : Cert.algebraic_LossHeadIdeal_LossHeadReferenceIdeal := fun m g m' g' _ hargs =>
  ⟨_, _, _, _, _, Cert.LossHeadIdeal.Value.run_blocks m g, (θ_run Cert.LossHeadReferenceIdeal.defs _ _).mono
    (fun _ h c => by
      obtain ⟨h51, h57, h58, h35, h56, hk⟩ := h c
      obtain ⟨a0, a1, a2, a3, a4⟩ := hargs c
      refine ⟨h51.trans ?_, h57.trans ?_, h58.trans ((val_main_v58_eq _ _ _ _ _).trans ?_),
        h35.trans ((val_main_v35_eq _ _ _ _ _).trans ?_), h56.trans ?_, hk⟩
      · rw [val_main_v51_eq, a0, a1, a2, a3, a4, result5]
      · rw [val_main_v57_eq, a0, a1, a2, a3, a4, result6]
      · rw [a0, a1, a2, a3, a4, result7]
      · rw [a0, a1, a2, a3, a4, result8]
      · rw [val_main_v56_eq, a0, a1, a2, a3, a4, result9])
    (Cert.LossHeadReferenceIdeal.Value.run m' g')⟩

end Cert.LossHeadResult

end
-- ==== Proof.OptimiserSteps.lean ====
/-
  The optimiser's step, of every weight that it takes whole. The kernel multiplies by the reciprocals of the bias corrections,
  which the reference divides by.
-/
module

public import proofs.«01_k».proof.Defs
public import proofs.«01_k».proof.Proof.Runs
public import proofs.«01_k».proof.Proof.Lift
public import proofs.«01_k».proof.Proof.Gen.AdaWeightStepIdeal.Value
public import proofs.«01_k».proof.Proof.Gen.AdaWeightStepReferenceIdeal.Run
public import proofs.«01_k».proof.Proof.Gen.NormGainStepIdeal.Value
public import proofs.«01_k».proof.Proof.Gen.NormGainStepReferenceIdeal.Run
public import proofs.«01_k».proof.Proof.Gen.FinalGainStepIdeal.Value
public import proofs.«01_k».proof.Proof.Gen.FinalGainStepReferenceIdeal.Run
public import proofs.«01_k».proof.Proof.Gen.GatingNormStepIdeal.Value
public import proofs.«01_k».proof.Proof.Gen.GatingNormStepReferenceIdeal.Run
public import proofs.«01_k».proof.Proof.Gen.SpatialWeightStepIdeal.Value
public import proofs.«01_k».proof.Proof.Gen.SpatialWeightStepReferenceIdeal.Run
public import proofs.«01_k».proof.Proof.Gen.SpatialBiasStepIdeal.Value
public import proofs.«01_k».proof.Proof.Gen.SpatialBiasStepReferenceIdeal.Run
public import proofs.«01_k».proof.Proof.Gen.HeadRowsStepIdeal.Value
public import proofs.«01_k».proof.Proof.Gen.HeadRowsStepReferenceIdeal.Run
public import proofs.«01_k».proof.Proof.Gen.ConvWeightStepIdeal.Value
public import proofs.«01_k».proof.Proof.Gen.ConvWeightStepReferenceIdeal.Run
public import proofs.«01_k».proof.Proof.Gen.ConvBiasStepIdeal.Value
public import proofs.«01_k».proof.Proof.Gen.ConvBiasStepReferenceIdeal.Run
public import proofs.«01_k».proof.Proof.Gen.AdaBiasStepIdeal.Value
public import proofs.«01_k».proof.Proof.Gen.AdaBiasStepReferenceIdeal.Run

@[expose] public section

set_option maxRecDepth 16384

noncomputable section

open Idealize.ShloMosaic Idealize.ShloMosaic.TcCoe Idealize.SL.Sem

namespace Cert.OptimiserStep

/-! ## The bias corrections -/

/-- A kernel's two named constants are what the table names them. -/
abbrev Decays (κ : String → Option EReal) : Prop :=
  κ "first_decay" = some (((5463681 / 8388608 : ℝ)⁻¹ : ℝ) : EReal) ∧ κ "second_decay" = some (((2672307 / 268435456 : ℝ)⁻¹ : ℝ) : EReal)

theorem first_decay {κ : String → Option EReal} (h : Decays κ) (x : EReal) :
    x * (Named.named κ "first_decay" 0x3FC48605#32 : Ideal .f32) = Ideal.div x (Ideal.ofBits .f32 0x3F26BD02#32) := by
  have e : Ideal.ofBits .f32 0x3F26BD02#32 = ((5463681 / 8388608 : ℝ) : EReal) := by
    simp [Ideal.ofBits, Ideal.ieee, -EReal.coe_mul]; norm_num
  rw [e, Ideal.div_coe (by norm_num), one_div]
  exact congrArg (x * ·) (IdealRules.named_const.ideal_named_scalar κ "first_decay" (φ := .f32) _ _ h.1)

theorem second_decay {κ : String → Option EReal} (h : Decays κ) (x : EReal) :
    x * (Named.named κ "second_decay" 0x42C8E6D3#32 : Ideal .f32) = Ideal.div x (Ideal.ofBits .f32 0x3C231ACC#32) := by
  have e : Ideal.ofBits .f32 0x3C231ACC#32 = ((2672307 / 268435456 : ℝ) : EReal) := by
    simp [Ideal.ofBits, Ideal.ieee, -EReal.coe_mul]; norm_num
  rw [e, Ideal.div_coe (by norm_num), one_div]
  exact congrArg (x * ·) (IdealRules.named_const.ideal_named_scalar κ "second_decay" (φ := .f32) _ _ h.2)

/-! ## The step of one entry -/

/-- The first moment, from the gradient and the moment before. -/
def mean (g m : EReal) : EReal := Ideal.ofBits .f32 0x3F666666#32 * m + Ideal.ofBits .f32 0x3DCCCCCD#32 * g

/-- The second moment. -/
def spread (g v : EReal) : EReal := Ideal.ofBits .f32 0x3F7FBE77#32 * v + Ideal.ofBits .f32 0x3A83126F#32 * (g * g)

/-- The weight's change, as the reference writes it. -/
def change (w g m v : EReal) : EReal :=
  Ideal.ofBits .f32 0xBA83126F#32 * (Ideal.div (Ideal.div (mean g m) (Ideal.ofBits .f32 0x3F26BD02#32))
    (Ideal.sqrt (Ideal.div (spread g v) (Ideal.ofBits .f32 0x3C231ACC#32)) + Ideal.ofBits .f32 0x322BCC77#32)
      + Ideal.ofBits .f32 0x3C23D70A#32 * w)

/-- The kernel's change is the reference's. -/
theorem change_eq {κ : String → Option EReal} (h : Decays κ) (w g m v : EReal) :
    Ideal.ofBits .f32 0xBA83126F#32 * (Ideal.div (mean g m * (Named.named κ "first_decay" 0x3FC48605#32 : Ideal .f32))
      (Ideal.sqrt (spread g v * (Named.named κ "second_decay" 0x42C8E6D3#32 : Ideal .f32)) + Ideal.ofBits .f32 0x322BCC77#32)
        + Ideal.ofBits .f32 0x3C23D70A#32 * w) = change w g m v := by
  rw [first_decay h, second_decay h, change]

end Cert.OptimiserStep

/-! ## The steps -/

/-! The modulation's weight, one chip's columns. -/

namespace Cert.AdaWeightStepResult

open Cert.AdaWeightStepIdeal.Value

theorem preserves : Cert.preserves_AdaWeightStep_AdaWeightStepIdeal :=
  ⟨IdealRules.named_const.statement _ _ _ _ _ rfl, IdealRules.named_const.statement _ _ _ _ _ rfl⟩

/-- The reference keeps its arguments. -/
theorem reference_frame : Cert.quiescent_AdaWeightStepReferenceIdeal := fun m ρ _ =>
  Runs.frame_of_run3 (by decide) (Cert.AdaWeightStepReferenceIdeal.Value.run m ρ)

theorem algebraic : Cert.algebraic_AdaWeightStepIdeal_AdaWeightStepReferenceIdeal := fun m g m' g' _ hargs =>
  ⟨_, _, _, run_blocks m g, Runs.results_of_run3 (Cert.AdaWeightStepReferenceIdeal.Value.run m' g') fun c => by
    obtain ⟨a0, a1, a2, a3⟩ := hargs c
    rw [a0, a1, a2, a3, final4, final5, final6]
    exact ⟨funext fun i => (OptimiserStep.change_eq ⟨rfl, rfl⟩ _ _ _ _).symm, rfl, rfl⟩⟩

end Cert.AdaWeightStepResult

/-! The norms' gains, one chip's columns. -/

namespace Cert.NormGainStepResult

open Cert.NormGainStepIdeal.Value

theorem preserves : Cert.preserves_NormGainStep_NormGainStepIdeal :=
  ⟨IdealRules.named_const.statement _ _ _ _ _ rfl, IdealRules.named_const.statement _ _ _ _ _ rfl⟩

/-- The reference keeps its arguments. -/
theorem reference_frame : Cert.quiescent_NormGainStepReferenceIdeal := fun m ρ _ =>
  Runs.frame_of_run3 (by decide) (Cert.NormGainStepReferenceIdeal.Value.run m ρ)

theorem algebraic : Cert.algebraic_NormGainStepIdeal_NormGainStepReferenceIdeal := fun m g m' g' _ hargs =>
  ⟨_, _, _, run_blocks m g, Runs.results_of_run3 (Cert.NormGainStepReferenceIdeal.Value.run m' g') fun c => by
    obtain ⟨a0, a1, a2, a3⟩ := hargs c
    rw [a0, a1, a2, a3, final4, final5, final6]
    exact ⟨funext fun i => (OptimiserStep.change_eq ⟨rfl, rfl⟩ _ _ _ _).symm, rfl, rfl⟩⟩

end Cert.NormGainStepResult

/-! The last norm's gain, as eight rows. -/

namespace Cert.FinalGainStepResult

open Cert.FinalGainStepIdeal.Value

theorem preserves : Cert.preserves_FinalGainStep_FinalGainStepIdeal :=
  ⟨IdealRules.named_const.statement _ _ _ _ _ rfl, IdealRules.named_const.statement _ _ _ _ _ rfl⟩

/-- The reference keeps its arguments. -/
theorem reference_frame : Cert.quiescent_FinalGainStepReferenceIdeal := fun m ρ _ =>
  Runs.frame_of_run3 (by decide) (Cert.FinalGainStepReferenceIdeal.Value.run m ρ)

theorem algebraic : Cert.algebraic_FinalGainStepIdeal_FinalGainStepReferenceIdeal := fun m g m' g' _ hargs =>
  ⟨_, _, _, run_blocks m g, Runs.results_of_run3 (Cert.FinalGainStepReferenceIdeal.Value.run m' g') fun c => by
    obtain ⟨a0, a1, a2, a3⟩ := hargs c
    rw [a0, a1, a2, a3, final4, final5, final6]
    exact ⟨funext fun i => (OptimiserStep.change_eq ⟨rfl, rfl⟩ _ _ _ _).symm, rfl, rfl⟩⟩

end Cert.FinalGainStepResult

/-! The gating norm's gain, and its bias. -/

namespace Cert.GatingNormStepResult

open Cert.GatingNormStepIdeal.Value

theorem preserves : Cert.preserves_GatingNormStep_GatingNormStepIdeal :=
  ⟨IdealRules.named_const.statement _ _ _ _ _ rfl, IdealRules.named_const.statement _ _ _ _ _ rfl⟩

/-- The reference keeps its arguments. -/
theorem reference_frame : Cert.quiescent_GatingNormStepReferenceIdeal := fun m ρ _ =>
  Runs.frame_of_run3 (by decide) (Cert.GatingNormStepReferenceIdeal.Value.run m ρ)

theorem algebraic : Cert.algebraic_GatingNormStepIdeal_GatingNormStepReferenceIdeal := fun m g m' g' _ hargs =>
  ⟨_, _, _, run_blocks m g, Runs.results_of_run3 (Cert.GatingNormStepReferenceIdeal.Value.run m' g') fun c => by
    obtain ⟨a0, a1, a2, a3⟩ := hargs c
    rw [a0, a1, a2, a3, final4, final5, final6]
    exact ⟨funext fun i => (OptimiserStep.change_eq ⟨rfl, rfl⟩ _ _ _ _).symm, rfl, rfl⟩⟩

end Cert.GatingNormStepResult

/-! The spatial weights. -/

namespace Cert.SpatialWeightStepResult

open Cert.SpatialWeightStepIdeal.Value

theorem preserves : Cert.preserves_SpatialWeightStep_SpatialWeightStepIdeal :=
  ⟨IdealRules.named_const.statement _ _ _ _ _ rfl, IdealRules.named_const.statement _ _ _ _ _ rfl⟩

/-- The reference keeps its arguments. -/
theorem reference_frame : Cert.quiescent_SpatialWeightStepReferenceIdeal := fun m ρ _ =>
  Runs.frame_of_run3 (by decide) (Cert.SpatialWeightStepReferenceIdeal.Value.run m ρ)

theorem algebraic : Cert.algebraic_SpatialWeightStepIdeal_SpatialWeightStepReferenceIdeal := fun m g m' g' _ hargs =>
  ⟨_, _, _, run_blocks m g, Runs.results_of_run3 (Cert.SpatialWeightStepReferenceIdeal.Value.run m' g') fun c => by
    obtain ⟨a0, a1, a2, a3⟩ := hargs c
    rw [a0, a1, a2, a3, final4, final5, final6]
    exact ⟨funext fun i => (OptimiserStep.change_eq ⟨rfl, rfl⟩ _ _ _ _).symm, rfl, rfl⟩⟩

end Cert.SpatialWeightStepResult

/-! The spatial bias. -/

namespace Cert.SpatialBiasStepResult

open Cert.SpatialBiasStepIdeal.Value

theorem preserves : Cert.preserves_SpatialBiasStep_SpatialBiasStepIdeal :=
  ⟨IdealRules.named_const.statement _ _ _ _ _ rfl, IdealRules.named_const.statement _ _ _ _ _ rfl⟩

/-- The reference keeps its arguments. -/
theorem reference_frame : Cert.quiescent_SpatialBiasStepReferenceIdeal := fun m ρ _ =>
  Runs.frame_of_run3 (by decide) (Cert.SpatialBiasStepReferenceIdeal.Value.run m ρ)

theorem algebraic : Cert.algebraic_SpatialBiasStepIdeal_SpatialBiasStepReferenceIdeal := fun m g m' g' _ hargs =>
  ⟨_, _, _, run_blocks m g, Runs.results_of_run3 (Cert.SpatialBiasStepReferenceIdeal.Value.run m' g') fun c => by
    obtain ⟨a0, a1, a2, a3⟩ := hargs c
    rw [a0, a1, a2, a3, final4, final5, final6]
    exact ⟨funext fun i => (OptimiserStep.change_eq ⟨rfl, rfl⟩ _ _ _ _).symm, rfl, rfl⟩⟩

end Cert.SpatialBiasStepResult

/-! The recurrence's lower bounds, and its norm's gain, one chip's columns. -/

namespace Cert.HeadRowsStepResult

open Cert.HeadRowsStepIdeal.Value

theorem preserves : Cert.preserves_HeadRowsStep_HeadRowsStepIdeal :=
  ⟨IdealRules.named_const.statement _ _ _ _ _ rfl, IdealRules.named_const.statement _ _ _ _ _ rfl⟩

/-- The reference keeps its arguments. -/
theorem reference_frame : Cert.quiescent_HeadRowsStepReferenceIdeal := fun m ρ _ =>
  Runs.frame_of_run3 (by decide) (Cert.HeadRowsStepReferenceIdeal.Value.run m ρ)

theorem algebraic : Cert.algebraic_HeadRowsStepIdeal_HeadRowsStepReferenceIdeal := fun m g m' g' _ hargs =>
  ⟨_, _, _, run_blocks m g, Runs.results_of_run3 (Cert.HeadRowsStepReferenceIdeal.Value.run m' g') fun c => by
    obtain ⟨a0, a1, a2, a3⟩ := hargs c
    rw [a0, a1, a2, a3, final4, final5, final6]
    exact ⟨funext fun i => (OptimiserStep.change_eq ⟨rfl, rfl⟩ _ _ _ _).symm, rfl, rfl⟩⟩

end Cert.HeadRowsStepResult

/-! The convolution's weight, one chip's columns. -/

namespace Cert.ConvWeightStepResult

open Cert.ConvWeightStepIdeal.Value

theorem preserves : Cert.preserves_ConvWeightStep_ConvWeightStepIdeal :=
  ⟨IdealRules.named_const.statement _ _ _ _ _ rfl, IdealRules.named_const.statement _ _ _ _ _ rfl⟩

/-- The reference keeps its arguments. -/
theorem reference_frame : Cert.quiescent_ConvWeightStepReferenceIdeal := fun m ρ _ =>
  Runs.frame_of_run3 (by decide) (Cert.ConvWeightStepReferenceIdeal.Value.run m ρ)

theorem algebraic : Cert.algebraic_ConvWeightStepIdeal_ConvWeightStepReferenceIdeal := fun m g m' g' _ hargs =>
  ⟨_, _, _, run_blocks m g, Runs.results_of_run3 (Cert.ConvWeightStepReferenceIdeal.Value.run m' g') fun c => by
    obtain ⟨a0, a1, a2, a3⟩ := hargs c
    rw [a0, a1, a2, a3, final4, final5, final6]
    exact ⟨funext fun i => (OptimiserStep.change_eq ⟨rfl, rfl⟩ _ _ _ _).symm, rfl, rfl⟩⟩

end Cert.ConvWeightStepResult

/-! The convolution's bias. -/

namespace Cert.ConvBiasStepResult

open Cert.ConvBiasStepIdeal.Value

theorem preserves : Cert.preserves_ConvBiasStep_ConvBiasStepIdeal :=
  ⟨IdealRules.named_const.statement _ _ _ _ _ rfl, IdealRules.named_const.statement _ _ _ _ _ rfl⟩

/-- The reference keeps its arguments. -/
theorem reference_frame : Cert.quiescent_ConvBiasStepReferenceIdeal := fun m ρ _ =>
  Runs.frame_of_run3 (by decide) (Cert.ConvBiasStepReferenceIdeal.Value.run m ρ)

theorem algebraic : Cert.algebraic_ConvBiasStepIdeal_ConvBiasStepReferenceIdeal := fun m g m' g' _ hargs =>
  ⟨_, _, _, run_blocks m g, Runs.results_of_run3 (Cert.ConvBiasStepReferenceIdeal.Value.run m' g') fun c => by
    obtain ⟨a0, a1, a2, a3⟩ := hargs c
    rw [a0, a1, a2, a3, final4, final5, final6]
    exact ⟨funext fun i => (OptimiserStep.change_eq ⟨rfl, rfl⟩ _ _ _ _).symm, rfl, rfl⟩⟩

end Cert.ConvBiasStepResult

/-! The modulation's bias. -/

namespace Cert.AdaBiasStepResult

open Cert.AdaBiasStepIdeal.Value

theorem preserves : Cert.preserves_AdaBiasStep_AdaBiasStepIdeal :=
  ⟨IdealRules.named_const.statement _ _ _ _ _ rfl, IdealRules.named_const.statement _ _ _ _ _ rfl⟩

/-- The reference keeps its arguments. -/
theorem reference_frame : Cert.quiescent_AdaBiasStepReferenceIdeal := fun m ρ _ =>
  Runs.frame_of_run3 (by decide) (Cert.AdaBiasStepReferenceIdeal.Value.run m ρ)

theorem algebraic : Cert.algebraic_AdaBiasStepIdeal_AdaBiasStepReferenceIdeal := fun m g m' g' _ hargs =>
  ⟨_, _, _, run_blocks m g, Runs.results_of_run3 (Cert.AdaBiasStepReferenceIdeal.Value.run m' g') fun c => by
    obtain ⟨a0, a1, a2, a3⟩ := hargs c
    rw [a0, a1, a2, a3, final4, final5, final6]
    exact ⟨funext fun i => (OptimiserStep.change_eq ⟨rfl, rfl⟩ _ _ _ _).symm, rfl, rfl⟩⟩

end Cert.AdaBiasStepResult

end
-- ==== Proof.DeviceSums.lean ====
/-
  The sum over the devices: the kernel adds the eight parts one after another.
-/
module

public import proofs.«01_k».proof.Defs
public import proofs.«01_k».proof.Proof.Runs
public import proofs.«01_k».proof.Proof.Gen.AdaBiasSumIdeal.Value
public import proofs.«01_k».proof.Proof.Gen.AdaBiasSumReferenceIdeal.Read
public import proofs.«01_k».proof.Proof.Gen.DeviceSumIdeal.Value
public import proofs.«01_k».proof.Proof.Gen.DeviceSumReferenceIdeal.Read
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

/-- The parts' sum in the kernel's order. -/
theorem Cert.sum_eight (f : Fin 8 → EReal) :
    f 0 + f 1 + f 2 + f 3 + f 4 + f 5 + f 6 + f 7 = Ideal.ofBits .f32 0x00000000#32 + ∑ k : Fin 8, f k := by
  rw [show Ideal.ofBits .f32 0x00000000#32 = 0 by simp [Ideal.ofBits, Ideal.ieee], zero_add, Fin.sum_univ_eight]

/-! ## The modulation's bias -/

namespace Cert.AdaBiasSumResult

open Cert.AdaBiasSumIdeal Cert.AdaBiasSumIdeal.Gen Cert.AdaBiasSumReferenceIdeal.Read

/-- The blocks of point `t`. -/
theorem idx : ∀ t : Fin cfg0.N, win0_0.index t = ![0, t.val, 0] ∧ win0_1.index t = ![t.val, 0] := by decide +kernel

/-- The kernel's result is the reference's. -/
theorem result (m : (ℓ : Loc nD τ sig) → Buf (Elt Ideal) ℓ) (c : Dev nD) : (dats m 0 c).arrAt 1 cfg0.N
    = val_main_v0 (m ((c : Thread nD τ).loc main_arg0)) := by
  refine (dats m 0 c).arrAt_eq_of_covers 1 _ (by decide +kernel) fun t _ y => ?_
  blk_simp
  rw [after0_1]
  frame_out
  obtain ⟨e0, e1⟩ := idx t
  obtain ⟨i, j, rfl⟩ : ∃ i j, y = ix2 i j := ⟨_, _, eq_ix2 y⟩
  rw [val_main_v0_apply, val_main_cst_apply]
  refine Eq.trans ?_ (sum_eight _)
  pointwise [k0_pay1]
  blk_point [iblk, V, e0, e1]

/-- Both programs run, with equal results. -/
theorem algebraic : Cert.algebraic_AdaBiasSumIdeal_AdaBiasSumReferenceIdeal := fun m g m' g' _ hargs =>
  ⟨_, Cert.AdaBiasSumIdeal.Value.run_blocks m g, Runs.result_of_run (Cert.AdaBiasSumReferenceIdeal.Value.run m' g') fun c => by
    rw [val_main_v0_eq, hargs c, result]⟩

end Cert.AdaBiasSumResult

/-! ## The packed gradients and the loss -/

namespace Cert.DeviceSumResult

open Cert.DeviceSumIdeal Cert.DeviceSumIdeal.Gen Cert.DeviceSumReferenceIdeal.Read

/-- The blocks of point `t`. -/
theorem idx : ∀ t : Fin cfg0.N, win0_0.index t = ![0, t.val, 0] ∧ win0_1.index t = ![t.val, 0] := by decide +kernel

/-- The kernel's result is the reference's. -/
theorem result (m : (ℓ : Loc nD τ sig) → Buf (Elt Ideal) ℓ) (c : Dev nD) : (dats m 0 c).arrAt 1 cfg0.N
    = val_main_v0 (m ((c : Thread nD τ).loc main_arg0)) := by
  refine (dats m 0 c).arrAt_eq_of_covers 1 _ (by decide +kernel) fun t _ y => ?_
  blk_simp
  rw [after0_1]
  frame_out
  obtain ⟨e0, e1⟩ := idx t
  obtain ⟨i, j, rfl⟩ : ∃ i j, y = ix2 i j := ⟨_, _, eq_ix2 y⟩
  rw [val_main_v0_apply, val_main_cst_apply]
  refine Eq.trans ?_ (sum_eight _)
  pointwise [k0_pay1]
  blk_point [iblk, V, e0, e1]

/-- Both programs run, with equal results. -/
theorem algebraic : Cert.algebraic_DeviceSumIdeal_DeviceSumReferenceIdeal := fun m g m' g' _ hargs =>
  ⟨_, Cert.DeviceSumIdeal.Value.run_blocks m g, Runs.result_of_run (Cert.DeviceSumReferenceIdeal.Value.run m' g') fun c => by
    rw [val_main_v0_eq, hargs c, result]⟩

end Cert.DeviceSumResult

end
-- ==== Proof.GatingForward.lean ====
/-
  The gating block's forward call: its result is the reference's for all arguments, infinities included. Both programs are
  read to the same functions on the extended reals of the projected activation `A`, norm gain `lg` and bias `lb`, spatial
  weights `W` and spatial bias `B`.
-/
module

public import proofs.«01_k».proof.Defs
public import proofs.«01_k».proof.Proof.PlacedTiles
public import proofs.«01_k».proof.Proof.ReferenceForward
public import proofs.«01_k».proof.Proof.Runs
public import proofs.«01_k».proof.Proof.Gen.GatingForwardIdeal.Value
public import proofs.«01_k».proof.Proof.Gen.GatingForwardReferenceIdeal.Read
public import Idealize.ShloMosaic.Lib.Pointwise
public import Idealize.ShloMosaic.Lib.VecWindow
public import Idealize.ShloMosaic.Lib.Pipeline.ValueKit
public import Idealize.ShloMosaic.Lib.Pipeline.ReadBack

@[expose] public section

set_option maxRecDepth 16384
set_option maxHeartbeats 4000000

noncomputable section

namespace Cert.GatingForwardResult

open Idealize.ShloMosaic Idealize.ShloMosaic.TcCoe Idealize.SL.Sem Cert.Lift
open Cert.GatingForwardIdeal Cert.GatingForwardIdeal.Gen Cert.GatingForwardReferenceIdeal.Read

/-! ## The functions -/

/-- The activation, as the kernel writes it. -/
def gelu (x : EReal) : EReal := x * (((1 / 2 : ℝ) : EReal) * (1 + Ideal.erf (x * (((Real.sqrt 2)⁻¹ : ℝ) : EReal))))

/-- The reference writes it with the complementary error function. -/
theorem gelu_eq (x : EReal) :
    ((1 / 2 : ℝ) : EReal) * x * Ideal.erfc (-x * (((Real.sqrt 2)⁻¹ : ℝ) : EReal)) = gelu x := by
  rw [EReal.neg_mul, Ideal.erfc_neg, gelu, mul_comm _ x, mul_assoc]

section Functions

variable (A : ℕ → ℕ → EReal) (lg lb : ℕ → EReal) (W : ℕ → ℕ → ℕ → EReal) (B : ℕ → ℕ → EReal)

/-- The branch that is normalised and mixed: the activation of the second half of the channels. -/
def act (i j : ℕ) : EReal := gelu (A i (2048 + j))

def mean (i : ℕ) : EReal := Ideal.div (∑ k : Fin 2048, act A i k) ((2048 : ℝ) : EReal)

def centred (i j : ℕ) : EReal := act A i j - mean A i

def spread (i : ℕ) : EReal :=
  Ideal.div (∑ k : Fin 2048, centred A i k * centred A i k) ((2048 : ℝ) : EReal) + ((eps : ℝ) : EReal)

/-- The normalised branch under gain and bias. -/
def scaled (i j : ℕ) : EReal := centred A i j * Ideal.rsqrt (spread A i) * lg j + lb j

/-- The spatial weights of head `h`, causal over chunks of 64 positions. -/
def weight (h n k : ℕ) : EReal := if k / 64 ≤ n / 64 then W h n k else 0

/-- Position `i % 128` of block `i / 128` mixes the block's 128 positions, with the weights of the channel's head. -/
def gate (i j : ℕ) : EReal :=
  (∑ k : Fin 128, weight W (j / 256) (i % 128) k * scaled A lg lb (i / 128 * 128 + k) j) + B (j / 256) (i % 128)

def gated (i j : ℕ) : EReal := gelu (A i j) * gate A lg lb W B i j

variable {A lg lb W B}

theorem scaled_congr {A' : ℕ → ℕ → EReal} {i i' : ℕ} (h : ∀ j, A' i' j = A i j) (j : ℕ) :
    scaled A' lg lb i' j = scaled A lg lb i j := by
  simp only [scaled, spread, centred, mean, act, h]

/-- A grid point's 256 tokens, which start at a multiple of 128, see the whole functions. -/
theorem gated_shift {A' : ℕ → ℕ → EReal} {b : ℕ} (h : ∀ i < 256, ∀ j, A' i j = A (b * 128 + i) j) (i : ℕ) (hi : i < 256) (j : ℕ) :
    gated A' lg lb W B i j = gated A lg lb W B (b * 128 + i) j := by
  have e : (b * 128 + i) % 128 = i % 128 := by omega
  simp only [gated, gate, e, h i hi]
  congr 2
  refine Finset.sum_congr rfl fun k _ => ?_
  rw [scaled_congr (h _ (by omega))]
  congr 2; omega

end Functions

/-! ## Arrays as functions of natural numbers -/

/-- A matrix's entry, zero outside. -/
def entry {a b : ℕ} (x : (⟨2, ![a, b]⟩ : Shape).Idx → EReal) (i j : ℕ) : EReal :=
  if h : i < a ∧ j < b then x (ix2 ⟨i, h.1⟩ ⟨j, h.2⟩) else 0

theorem entry_ix2 {a b : ℕ} (x : (⟨2, ![a, b]⟩ : Shape).Idx → EReal) (i : Fin a) (j : Fin b) : x (ix2 i j) = entry x i j := by
  rw [entry, dif_pos ⟨i.isLt, j.isLt⟩]

/-- An entry of an array of three axes, zero outside. -/
def entry3 {a b d : ℕ} (x : (⟨3, ![a, b, d]⟩ : Shape).Idx → EReal) (i j k : ℕ) : EReal :=
  if h : i < a ∧ j < b ∧ k < d then x (ix3 ⟨i, h.1⟩ ⟨j, h.2.1⟩ ⟨k, h.2.2⟩) else 0

theorem entry3_ix3 {a b d : ℕ} (x : (⟨3, ![a, b, d]⟩ : Shape).Idx → EReal) (i : Fin a) (j : Fin b) (k : Fin d) :
    x (ix3 i j k) = entry3 x i j k := by
  rw [entry3, dif_pos ⟨i.isLt, j.isLt, k.isLt⟩]

theorem entry_read {a b : ℕ} (x : (⟨2, ![a, b]⟩ : Shape).Idx → EReal) (i : (⟨2, ![a, b]⟩ : Shape).Idx) :
    x i = entry x (i 0).val (i 1).val :=
  (congrArg x (eq_ix2 i)).trans (entry_ix2 x (i 0) (i 1))

theorem entry3_read {a b d : ℕ} (x : (⟨3, ![a, b, d]⟩ : Shape).Idx → EReal) (i : (⟨3, ![a, b, d]⟩ : Shape).Idx) :
    x i = entry3 x (i 0).val (i 1).val (i 2).val :=
  (congrArg x (eq_ix3 i)).trans (entry3_ix3 x (i 0) (i 1) (i 2))

/-- The functions' value on the arrays of the call. -/
abbrev value (x0 : (⟨2, ![4096, 4096]⟩ : Shape).Idx → EReal) (x1 x2 : (⟨2, ![1, 2048]⟩ : Shape).Idx → EReal)
    (x3 : (⟨3, ![8, 128, 128]⟩ : Shape).Idx → EReal) (x4 : (⟨3, ![8, 128, 1]⟩ : Shape).Idx → EReal) : ℕ → ℕ → EReal :=
  gated (entry x0) (entry x1 0) (entry x2 0) (entry3 x3) (fun h n => entry3 x4 h n 0)

/-! ## The reference -/

section Reference

variable (x0 : (⟨Cert.GatingForwardReferenceIdeal.S4096x4096, .f32⟩ : BufTy).Contents (Elt Ideal))
  (x1 x2 : (⟨Cert.GatingForwardReferenceIdeal.S1x2048, .f32⟩ : BufTy).Contents (Elt Ideal))
  (x3 : (⟨Cert.GatingForwardReferenceIdeal.S8x128x128, .f32⟩ : BufTy).Contents (Elt Ideal))
  (x4 : (⟨Cert.GatingForwardReferenceIdeal.S8x128x1, .f32⟩ : BufTy).Contents (Elt Ideal))

/-- The reference's `√½`. -/
theorem root (i : Cert.GatingForwardReferenceIdeal.S_.Idx) : val_main_v4 (F := Ideal) i = (((Real.sqrt 2)⁻¹ : ℝ) : EReal) := by
  rw [val_main_v4_apply, val_main_v3_apply, val_main_cst_0_apply]
  show Ideal.sqrt (Ideal.ofBits .f32 0x3F000000#32) = _
  rw [ofBits_half, Ideal.sqrt_coe, if_neg (by norm_num), Real.sqrt_div (by norm_num), Real.sqrt_one, one_div]

theorem activation (i : Cert.GatingForwardReferenceIdeal.S4096x4096.Idx) :
    val_main_v8 (F := Ideal) x0 i = gelu (entry x0 (i 0).val (i 1).val) := by
  rw [val_main_v8_apply, val_main_v1_apply, val_main_v0_apply, val_main_cst_apply, val_main_v7_apply, val_main_v6_apply,
    val_main_v2_apply, val_main_v5_apply, root, ← gelu_eq, ← ofBits_half, ← entry_read]
  rfl

theorem right_half (i : Cert.GatingForwardReferenceIdeal.S4096x2048.Idx) :
    val_main_v10 (F := Ideal) x0 i = act (entry x0) (i 0).val (i 1).val :=
  (val_main_v10_apply x0 i).trans (activation x0 _)

theorem row_mean (i : Cert.GatingForwardReferenceIdeal.S4096x1.Idx) :
    val_main_v14 (F := Ideal) x0 i = mean (entry x0) (i 0).val := by
  rw [val_main_v14_apply, val_main_v12_apply, val_main_v11_apply, val_main_v13_apply, val_main_cst_2_apply, val_main_cst_1_apply]
  show Ideal.div (Ideal.ofBits .f32 0x00000000#32 + _) (Ideal.ofBits .f32 0x45000000#32) = _
  rw [ofBits_zero, ofBits_2048, EReal.coe_zero, zero_add]
  exact congrArg (Ideal.div · _) (Finset.sum_congr rfl fun k _ => right_half x0 _)

/-- The deviation the variance squares. -/
theorem deviation (i : Cert.GatingForwardReferenceIdeal.S4096x2048.Idx) :
    val_main_v16 (F := Ideal) x0 i = centred (entry x0) (i 0).val (i 1).val := by
  rw [val_main_v16_apply, val_main_v15_apply, row_mean, right_half]
  rfl

/-- The deviation the norm scales. -/
theorem deviation' (i : Cert.GatingForwardReferenceIdeal.S4096x2048.Idx) :
    val_main_v23 (F := Ideal) x0 i = centred (entry x0) (i 0).val (i 1).val := by
  rw [val_main_v23_apply, val_main_v22_apply, row_mean, right_half]
  rfl

theorem row_spread (i : Cert.GatingForwardReferenceIdeal.S4096x1.Idx) :
    val_main_v25 (F := Ideal) x0 i = spread (entry x0) (i 0).val := by
  rw [val_main_v25_apply, val_main_v24_apply, val_main_cst_5_apply, val_main_v21_apply, val_main_v19_apply, val_main_v18_apply,
    val_main_v20_apply, val_main_cst_4_apply, val_main_cst_3_apply]
  show Ideal.div (Ideal.ofBits .f32 0x00000000#32 + _) (Ideal.ofBits .f32 0x45000000#32) + Ideal.ofBits .f32 0x358637BD#32 = _
  rw [ofBits_zero, ofBits_2048, ofBits_eps, EReal.coe_zero, zero_add]
  refine congrArg (Ideal.div · _ + _) (Finset.sum_congr rfl fun k _ => ?_)
  rw [val_main_v17_apply, deviation]
  rfl

theorem scaled_read (i : Cert.GatingForwardReferenceIdeal.S4096x2048.Idx) :
    val_main_v32 (F := Ideal) x0 x1 x2 i = scaled (entry x0) (entry x1 0) (entry x2 0) (i 0).val (i 1).val := by
  rw [val_main_v32_apply, val_main_v31_apply, val_main_v30_apply, val_main_v29_apply, val_main_v28_apply, val_main_v27_apply,
    val_main_v26_apply, row_spread, deviation', entry_read x1, entry_read x2]
  rfl

/-- The same in the blocks' own coordinates: block, position, head, channel. -/
theorem scaled_blocks (i : Cert.GatingForwardReferenceIdeal.S32x128x8x256.Idx) :
    val_main_v33 (F := Ideal) x0 x1 x2 i
      = scaled (entry x0) (entry x1 0) (entry x2 0) ((i 0).val * 128 + (i 1).val) ((i 2).val * 256 + (i 3).val) := by
  have b0 : (i 0).val < 32 := (i 0).isLt
  have b1 : (i 1).val < 128 := (i 1).isLt
  have b2 : (i 2).val < 8 := (i 2).isLt
  have b3 : (i 3).val < 256 := (i 3).isLt
  refine ((val_main_v33_apply x0 x1 x2 i).trans (scaled_read x0 x1 x2 _)).trans (congrArg₂ _ ?_ ?_)
  · show ((((i 0).val * 128 + (i 1).val) * 8 + (i 2).val) * 256 + (i 3).val) / 2048 = _
    omega
  · show ((((i 0).val * 128 + (i 1).val) * 8 + (i 2).val) * 256 + (i 3).val) % 2048 = _
    omega

/-- A position's chunk of 64, as the reference's rounding division computes it. -/
theorem chunk_word (i : Cert.GatingForwardReferenceIdeal.S128.Idx) :
    val_main_v35 (F := Ideal) i = BitVec.ofNat 32 ((i 0).val / 64) :=
  Cert.Reference.chunk_word i

/-- The mask: the row's chunk is at or after the column's. -/
theorem mask_read (i : Cert.GatingForwardReferenceIdeal.S8x128x128.Idx) :
    val_main_call1_v1 (F := Ideal) i = if (i 2).val / 64 ≤ (i 1).val / 64 then 1#1 else 0#1 := by
  have b1 : (i 1).val < 128 := (i 1).isLt
  have b2 : (i 2).val < 128 := (i 2).isLt
  rw [val_main_call1_v1_apply, val_main_v41_apply, val_main_v40_apply, val_main_v38_apply, val_main_v36_apply,
    val_main_v39_apply, val_main_v37_apply, chunk_word, chunk_word]
  exact Cert.Tile.chunk_le ⟨(i 1).val / 64, by omega⟩ ⟨(i 2).val / 64, by omega⟩

theorem weight_read (i : Cert.GatingForwardReferenceIdeal.S8x128x128.Idx) :
    val_main_v42 (F := Ideal) x3 i = weight (entry3 x3) (i 0).val (i 1).val (i 2).val := by
  rw [val_main_v42_apply, mask_read, weight]
  split
  · exact entry3_read x3 i
  · refine (val_main_call1_v2_apply (F := Ideal) i).trans ?_
    show (((0#32 : BitVec 32).toInt : ℝ) : EReal) = 0
    norm_num

/-- The reference's result. -/
theorem reference_eq (i : Cert.GatingForwardReferenceIdeal.S4096x2048.Idx) :
    val_main_v52 (F := Ideal) x0 x1 x2 x3 x4 i = value x0 x1 x2 x3 x4 (i 0).val (i 1).val := by
  have b0 : (i 0).val < 4096 := (i 0).isLt
  have b1 : (i 1).val < 2048 := (i 1).isLt
  have e0 : ((i 0).val * 2048 + (i 1).val) / 262144 = (i 0).val / 128 := by omega
  have e1 : ((i 0).val * 2048 + (i 1).val) / 2048 % 128 = (i 0).val % 128 := by omega
  have e2 : ((i 0).val * 2048 + (i 1).val) / 256 % 8 = (i 1).val / 256 := by omega
  have e3 : ((i 0).val * 2048 + (i 1).val) % 256 = (i 1).val % 256 := by omega
  have e4 : ((i 1).val / 256) * 256 + (i 1).val % 256 = (i 1).val := by omega
  have e5 : (((i 1).val / 256) * 128 + (i 0).val % 128) / 128 = (i 1).val / 256 := by omega
  have e6 : (((i 1).val / 256) * 128 + (i 0).val % 128) / 1 % 128 = (i 0).val % 128 := by omega
  rw [val_main_v52_apply, val_main_v51_apply, val_main_v9_apply, activation, val_main_v50_apply, val_main_v49_apply,
    val_main_v44_apply, val_main_v43_apply, val_main_v48_apply, val_main_v47_apply, val_main_v46_apply, val_main_v45_apply,
    entry3_read x4]
  simp only [scaled_blocks, weight_read]
  simp only [e0, e1, e2, e3, e4, e5, e6]
  exact congrArg (fun z : EReal => gelu _ * (z + _)) (Finset.sum_congr rfl fun k _ => mul_comm _ _)

end Reference

/-! ## The kernel's tiles -/

/-- The kernel's activation. -/
theorem gelu_read (x : EReal) :
    x * (Ideal.ofBits .f32 0x3F000000#32 * (1 + FloatOps.erf (F := Ideal) (φ := .f32)
      (x * Named.named κ "root_half" 0x3F3504F3#32))) = gelu x := by
  rw [show (Named.named κ "root_half" 0x3F3504F3#32 : Ideal .f32) = (((Real.sqrt 2)⁻¹ : ℝ) : EReal) from
    IdealRules.named_const.ideal_named_scalar κ "root_half" (φ := .f32) _ _ rfl, ofBits_half]
  rfl

/-- The mask of the spatial weights: a position reads the positions of no later chunk. -/
abbrev maskBits : IVec S128x128 1 := k0_pay6 (iota .tc S128x128 32 [0] iota_S128x128_d0_w32) 64#32 k0_pay4 k0_pay5

theorem maskBits_apply (n k : Fin 128) :
    maskBits (ix2 n k) = if (k : ℕ) / 64 ≤ n / 64 then 1#1 else 0#1 := by
  pointwise [maskBits, k0_pay6, k0_pay4, k0_pay5]
  refine (congrArg₂ (IntOp.cmpi .sge) (Cert.Tile.chunk_word n) (Cert.Tile.chunk_word k)).trans ?_
  exact Cert.Tile.chunk_le ⟨n / 64, by omega⟩ ⟨k / 64, by omega⟩

/-- The normalised branch of a block's rows. -/
theorem scaled_apply {A : ℕ → ℕ → EReal} {lg lb : ℕ → EReal} {v : Vec Ideal S256x2048 .f32} {g b : Vec Ideal S1x2048 .f32}
    (hv : ∀ n d, v (ix2 n d) = A n (2048 + d)) (hg : ∀ d, g (ix2 0 d) = lg d) (hb : ∀ d, b (ix2 0 d) = lb d)
    (n : Fin 256) (d : Fin 2048) : k0_pay3 v g b (ix2 n d) = scaled A lg lb n d := by
  pointwise [k0_pay3]
  simp only [hv, hg, hb, gelu_read, ofBits_2048, ofBits_eps]
  rfl

/-- The tile of one block and one head. -/
def tile (w : Vec Ideal S1x128x128 .f32) (vn : Vec Ideal S128x256 .bf16) (b : Vec Ideal S1x128x1 .f32)
    (a : Vec Ideal S128x256 .f32) : Vec Ideal S128x256 .bf16 := k0_pay8 maskBits w vn b a

theorem tile_apply {w : Vec Ideal S1x128x128 .f32} {vn : Vec Ideal S128x256 .bf16} {b : Vec Ideal S1x128x1 .f32}
    {a : Vec Ideal S128x256 .f32} {ω ν α : ℕ → ℕ → EReal} {β : ℕ → EReal} (hw : ∀ n k, w (ix3 0 n k) = ω n k)
    (hvn : ∀ n d, vn (ix2 n d) = ν n d) (hb : ∀ n, b (ix3 0 n 0) = β n) (ha : ∀ n d, a (ix2 n d) = α n d)
    (n : Fin 128) (d : Fin 256) :
    tile w vn b a (ix2 n d)
      = gelu (α n d) * ((∑ k : Fin 128, (if (k : ℕ) / 64 ≤ n / 64 then ω n k else 0) * ν k d) + β n) := by
  pointwise [tile, k0_pay8, k0_pay7]
  rw [ha, gelu_read, hb]
  refine congrArg (fun z : EReal => gelu (α n d) * (z + β n)) (Finset.sum_congr rfl fun k _ => ?_)
  rw [hw, hvn]
  rw [maskBits_apply]
  split
  · rfl
  · exact (zero_mul _).symm

/-! ## Loads of part of a block -/

theorem ld_part {R C a b r c : ℕ} {e : EltTy} {X : Vec Ideal (⟨2, ![R, C]⟩ : Shape) e} {Z : ℕ → ℕ → Elt Ideal e}
    (hX : ∀ n d, X (ix2 n d) = Z n d) (p : ∀ x, (![r, c] : Fin 2 → ℕ) x + ![a, b] x ≤ (⟨2, ![R, C]⟩ : Shape).size x)
    (n : Fin a) (d : Fin b) :
    View.ld (S := (⟨2, ![R, C]⟩ : Shape)) X (Rect.unit ![r, c] ![a, b] p) (ix2 n d) = Z (r + n) (c + d) := by
  have h0 : r + a ≤ R := p 0
  have h1 : c + b ≤ C := p 1
  refine (View.ld_unit_apply_of (S := (⟨2, ![R, C]⟩ : Shape)) X _ _ p (ix2 n d) (ix2 ⟨r + n, by omega⟩ ⟨c + d, by omega⟩) ?_).trans (hX _ _)
  intro x
  match x with
  | ⟨0, _⟩ => rfl
  | ⟨1, _⟩ => rfl

/-- A load of one head's plane. -/
theorem ld_plane {H N M hh : ℕ} {X : Vec Ideal (⟨3, ![H, N, M]⟩ : Shape) .f32} {Z : ℕ → ℕ → ℕ → EReal}
    (hX : ∀ h n k, X (ix3 h n k) = Z h n k)
    (p : ∀ x, (![hh, 0, 0] : Fin 3 → ℕ) x + ![1, N, M] x ≤ (⟨3, ![H, N, M]⟩ : Shape).size x) (n : Fin N) (k : Fin M) :
    View.ld (S := (⟨3, ![H, N, M]⟩ : Shape)) X (Rect.unit ![hh, 0, 0] ![1, N, M] p) (ix3 (0 : Fin 1) n k) = Z hh n k := by
  have h0 : hh + 1 ≤ H := p 0
  refine (View.ld_unit_apply_of (S := (⟨3, ![H, N, M]⟩ : Shape)) X _ _ p (ix3 (0 : Fin 1) n k) (ix3 ⟨hh, by omega⟩ n k) ?_).trans (hX _ _ _)
  intro x
  match x with
  | ⟨0, _⟩ => rfl
  | ⟨1, _⟩ => exact (Nat.zero_add _).symm
  | ⟨2, _⟩ => exact (Nat.zero_add _).symm

/-! ## A grid point -/

section Point

variable {x0 : Vec Ideal S256x4096 .f32} {x1 x2 : Vec Ideal S1x2048 .f32} {x3 : Vec Ideal S8x128x128 .f32}
  {x4 : Vec Ideal S8x128x1 .f32} {vn : Vec Ideal S256x2048 .bf16}
  {A : ℕ → ℕ → EReal} {lg lb : ℕ → EReal} {W : ℕ → ℕ → ℕ → EReal} {B : ℕ → ℕ → EReal}
  (h0 : ∀ n d, x0 (ix2 n d) = A n d) (h1 : ∀ d, x1 (ix2 0 d) = lg d) (h2 : ∀ d, x2 (ix2 0 d) = lb d)
  (h3 : ∀ h n k, x3 (ix3 h n k) = W h n k) (h4 : ∀ h n k, x4 (ix3 h n k) = B h n)
  (hvn : ∀ n d, vn (ix2 n d) = scaled A lg lb n d)

include h0 h1 h2 in
/-- The mixed branch the body keeps. -/
theorem scaled_placed (p : ∀ a, (![0, 2048] : Fin 2 → ℕ) a + ![256, 2048] a ≤ S256x4096.size a) (n : Fin 256) (d : Fin 2048) :
    k0_pay3 (View.ld x0 (Rect.unit ![0, 2048] ![256, 2048] p)) x1 x2 (ix2 n d) = scaled A lg lb n d :=
  scaled_apply (fun n d => (ld_part (e := .f32) h0 p n d).trans (congrArg (A · _) (Nat.zero_add _))) h1 h2 n d

include h0 h3 h4 hvn in
/-- A tile where the body stores it. -/
theorem tile_placed {r c hh : ℕ} (p3 : ∀ a, (![hh, 0, 0] : Fin 3 → ℕ) a + ![1, 128, 128] a ≤ S8x128x128.size a)
    (p4 : ∀ a, (![hh, 0, 0] : Fin 3 → ℕ) a + ![1, 128, 1] a ≤ S8x128x1.size a)
    (p0 : ∀ a, (![r, c] : Fin 2 → ℕ) a + ![128, 256] a ≤ S256x4096.size a)
    (pv : ∀ a, (![r, c] : Fin 2 → ℕ) a + ![128, 256] a ≤ S256x2048.size a)
    (x : S128x256.Idx) {i j : ℕ} (hr : r % 128 = 0) (hc : c = 256 * hh) (hi : i = r + x 0) (hj : j = c + x 1) :
    tile (View.ld x3 (Rect.unit ![hh, 0, 0] ![1, 128, 128] p3)) (View.ld vn (Rect.unit ![r, c] ![128, 256] pv))
      (View.ld x4 (Rect.unit ![hh, 0, 0] ![1, 128, 1] p4)) (View.ld x0 (Rect.unit ![r, c] ![128, 256] p0)) x
      = gated A lg lb W B i j := by
  obtain ⟨n, d, rfl⟩ : ∃ n d, x = ix2 n d := ⟨x 0, x 1, eq_ix2 x⟩
  refine (tile_apply (ν := fun n d => scaled A lg lb (r + n) (c + d)) (α := fun n d => A (r + n) (c + d)) (ω := W hh) (β := B hh)
    (ld_plane h3 p3) (ld_part (e := .bf16) hvn pv) (fun n => ld_plane (Z := fun h n _ => B h n) h4 p4 n 0)
    (ld_part (e := .f32) h0 p0) n d).trans ?_
  rw [ix2_0] at hi
  rw [ix2_1] at hj
  have hn : (n : ℕ) < 128 := n.isLt
  have hd : (d : ℕ) < 256 := d.isLt
  have e1 : j / 256 = hh := by omega
  have e2 : i % 128 = n := by omega
  have e3 : i / 128 * 128 = r := by omega
  rw [gated, gate]
  simp only [weight, e1, e2, e3]
  simp only [hi, hj]

end Point

section Point

variable (c : Dev nD) (i : grid0.Coords)
  (arg1 : Memref sig .tc .vmem S256x4096 .f32) (harg1 : arg1.IsWhole) (arg2 : Memref sig .tc .vmem S1x2048 .f32) (harg2 : arg2.IsWhole)
  (arg3 : Memref sig .tc .vmem S1x2048 .f32) (harg3 : arg3.IsWhole) (arg4 : Memref sig .tc .vmem S8x128x128 .f32) (harg4 : arg4.IsWhole)
  (arg5 : Memref sig .tc .vmem S8x128x1 .f32) (harg5 : arg5.IsWhole) (arg6 : Memref sig .tc .vmem S256x2048 .bf16) (harg6 : arg6.IsWhole)
  (arg7 : Memref sig .tc .vmem S256x2048 .bf16) (harg7 : arg7.IsWhole)
  (x0 : Vec Ideal S256x4096 .f32) (x1 x2 : Vec Ideal S1x2048 .f32) (x3 : Vec Ideal S8x128x128 .f32) (x4 : Vec Ideal S8x128x1 .f32)
  {A : ℕ → ℕ → EReal} {lg lb : ℕ → EReal} {W : ℕ → ℕ → ℕ → EReal} {B : ℕ → ℕ → EReal}

/-- The block a grid point leaves. -/
theorem block_value (h0 : ∀ n d, x0 (ix2 n d) = A n d) (h1 : ∀ d, x1 (ix2 0 d) = lg d) (h2 : ∀ d, x2 (ix2 0 d) = lb d)
    (h3 : ∀ h n k, x3 (ix3 h n k) = W h n k) (h4 : ∀ h n k, x4 (ix3 h n k) = B h n) (y : S256x2048.Idx) :
    out0_A_5 c i arg1 harg1 arg2 harg2 arg3 harg3 arg4 harg4 arg5 harg5 arg6 harg6 arg7 harg7 x0 x1 x2 x3 x4 y
      = gated A lg lb W B (y 0) (y 1) := by
  unfold out0_A_5
  frame_open
  simp (disch := decide) only [↓ View.readCov_cons_toLoadRect, ↓ View.readCov_fill, ↓ View.readCov_skip]
  frame_out
  canon_tiles x e using View.cover_of_tiledBy _ ![128, 256] (by sl_kernel_rfl) y <;>
    exact tile_placed h0 h3 h4 (scaled_placed h0 h1 h2 _) _ _ _ _ x rfl rfl (by omega) (by omega)

end Point

/-! ## The whole array -/

/-- The blocks of point `t`. -/
theorem idx : ∀ t : Fin cfg0.N, win0_0.index t = ![t.val, 0] ∧ win0_1.index t = ![0, 0] ∧ win0_2.index t = ![0, 0]
    ∧ win0_3.index t = ![0, 0, 0] ∧ win0_4.index t = ![0, 0, 0] ∧ win0_5.index t = ![t.val, 0] := by
  decide +kernel

section Result

variable (m : (ℓ : Loc nD τ sig) → Buf (Elt Ideal) ℓ) (c : Dev nD) (t : Fin cfg0.N)

/-- A row of a point's block, in the whole array. -/
abbrev token (i : Fin 256) : Fin 4096 := ⟨2 * t.val * 128 + i.val, by have := lt_of_lt_of_eq t.isLt (show cfg0.N = 16 from N_0); omega⟩

theorem block0 (i : Fin 256) (k : Fin 4096) : iblk m c 0 t (ix2 i k) = m ((c : Thread nD τ).loc main_arg0) (ix2 (token t i) k) := by
  blk_ext [iblk, V, idx t]

theorem block1 (k : Fin 2048) : iblk m c 1 t (ix2 0 k) = m ((c : Thread nD τ).loc main_arg1) (ix2 0 k) := by
  blk_ext [iblk, V, idx t]

theorem block2 (k : Fin 2048) : iblk m c 2 t (ix2 0 k) = m ((c : Thread nD τ).loc main_arg2) (ix2 0 k) := by
  blk_ext [iblk, V, idx t]

theorem block3 (h : Fin 8) (n k : Fin 128) : iblk m c 3 t (ix3 h n k) = m ((c : Thread nD τ).loc main_arg3) (ix3 h n k) := by
  blk_ext [iblk, V, idx t]

theorem block4 (h : Fin 8) (n : Fin 128) (k : Fin 1) : iblk m c 4 t (ix3 h n k) = m ((c : Thread nD τ).loc main_arg4) (ix3 h n k) := by
  blk_ext [iblk, V, idx t]

/-- A point's block of the activation, as a function of natural numbers, is the array's from the point's first token on. -/
theorem shifted (i : ℕ) (hi : i < 256) (j : ℕ) : entry (a := 256) (b := 4096) (iblk m c 0 t) i j
    = entry (a := 4096) (b := 4096) (m ((c : Thread nD τ).loc main_arg0)) (2 * t.val * 128 + i) j := by
  by_cases hj : j < 4096
  · exact (entry_ix2 (a := 256) (b := 4096) (iblk m c 0 t) ⟨i, hi⟩ ⟨j, hj⟩).symm.trans ((block0 m c t ⟨i, hi⟩ ⟨j, hj⟩).trans
      (entry_ix2 (a := 4096) (b := 4096) (m ((c : Thread nD τ).loc main_arg0)) (token t ⟨i, hi⟩) ⟨j, hj⟩))
  · rw [entry, entry, dif_neg fun h => hj h.2, dif_neg fun h => hj h.2]

/-- The kernel's result is the reference's. -/
theorem result : (dats m 0 c).arrAt 5 cfg0.N
    = val_main_v52 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  obtain ⟨i, j, rfl⟩ : ∃ i j, y = ix2 i j := ⟨_, _, eq_ix2 y⟩
  rw [after0_5]
  unfold outsAt0
  refine (block_value c _ _ _ _ _ _ _ _ _ _ _ _ _ _ _ (iblk m c 0 t) (iblk m c 1 t) (iblk m c 2 t) (iblk m c 3 t) (iblk m c 4 t)
    (A := entry (iblk m c 0 t)) (lg := entry (m ((c : Thread nD τ).loc main_arg1)) 0)
    (lb := entry (m ((c : Thread nD τ).loc main_arg2)) 0) (W := entry3 (m ((c : Thread nD τ).loc main_arg3)))
    (B := fun h n => entry3 (m ((c : Thread nD τ).loc main_arg4)) h n 0)
    (fun n d => entry_ix2 _ n d) (fun d => (block1 m c t d).trans (entry_ix2 _ 0 d))
    (fun d => (block2 m c t d).trans (entry_ix2 _ 0 d)) (fun h n k => (block3 m c t h n k).trans (entry3_ix3 _ h n k))
    (fun h n k => (block4 m c t h n k).trans ((entry3_ix3 _ h n k).trans (by rw [Subsingleton.elim k 0]; rfl))) (ix2 i j)).trans ?_
  refine (gated_shift (shifted m c t) i.val i.isLt j.val).trans ?_
  refine (reference_eq (m ((c : Thread nD τ).loc main_arg0)) (m ((c : Thread nD τ).loc main_arg1)) (m ((c : Thread nD τ).loc main_arg2))
    (m ((c : Thread nD τ).loc main_arg3)) (m ((c : Thread nD τ).loc main_arg4)) (ix2 (token t i) j)).symm.trans ?_
  blk_point [idx t]

end Result

/-! ## The claims -/

/-- The named constant has the value the table gives it. -/
theorem preserves : Cert.preserves_GatingForward_GatingForwardIdeal := IdealRules.named_const.statement _ _ _ _ _ rfl

/-- Both programs run, with equal results. -/
theorem algebraic : Cert.algebraic_GatingForwardIdeal_GatingForwardReferenceIdeal := fun m g m' g' _ hargs =>
  ⟨_, Cert.GatingForwardIdeal.Value.run_blocks m g, Runs.result_of_run (Cert.GatingForwardReferenceIdeal.Value.run m' g') fun c => by
    obtain ⟨a0, a1, a2, a3, a4⟩ := hargs c
    rw [val_main_v52_eq, a0, a1, a2, a3, a4, result]⟩

end Cert.GatingForwardResult

end
-- ==== Proof.ConvForward.lean ====
/-
  The convolution's forward call: a causal convolution of three taps along the tokens, channel by channel, and the gate. Its
  result is the reference's for all arguments, infinities included. Both programs are read to the same functions on the
  extended reals of the projected activation `A`, the taps `W` and the bias `b`.
-/
module

public import proofs.«01_k».proof.Defs
public import proofs.«01_k».proof.Proof.GatingForward
public import proofs.«01_k».proof.Proof.Runs
public import proofs.«01_k».proof.Proof.Gen.ConvForwardIdeal.Value
public import proofs.«01_k».proof.Proof.Gen.ConvForwardReferenceIdeal.Read
public import Idealize.ShloMosaic.Lib.Pointwise
public import Idealize.ShloMosaic.Lib.Pipeline.ValueKit

@[expose] public section

set_option maxRecDepth 16384
set_option maxHeartbeats 4000000

noncomputable section

namespace Cert.ConvForwardResult

open Idealize.ShloMosaic Idealize.ShloMosaic.TcCoe Idealize.SL.Sem Cert.Lift
open Cert.ConvForwardIdeal Cert.ConvForwardIdeal.Gen Cert.ConvForwardReferenceIdeal.Read
open Cert.GatingForwardResult (gelu gelu_eq entry entry_ix2 entry_read)

/-! ## The functions -/

section Functions

variable (A W : ℕ → ℕ → EReal) (b : ℕ → EReal)

/-- The activation `s` tokens before, zero before the first token. -/
def before (s t k : ℕ) : EReal := if s ≤ t then A (t - s) k else 0

/-- The convolution, as the kernel adds it. -/
def conv (t k : ℕ) : EReal := b k + W 2 k * A t k + W 1 k * before A 1 t k + W 0 k * before A 2 t k

/-- The gated product. -/
def gated (t k : ℕ) : EReal := gelu (conv A W b t k) * conv A W b t (2816 + k)

end Functions

/-! ## The reference -/

section Reference

variable (x0 : (⟨Cert.ConvForwardReferenceIdeal.S4096x5632, .f32⟩ : BufTy).Contents (Elt Ideal))
  (x1 : (⟨Cert.ConvForwardReferenceIdeal.S3x5632, .f32⟩ : BufTy).Contents (Elt Ideal))
  (x2 : (⟨Cert.ConvForwardReferenceIdeal.S1x5632, .f32⟩ : BufTy).Contents (Elt Ideal))

/-- The activation after two tokens of zeros. -/
theorem padded (i : Cert.ConvForwardReferenceIdeal.S4098x5632.Idx) :
    val_main_v1 (F := Ideal) x0 i = before (entry x0) 2 (i 0).val (i 1).val := by
  pointwise [val_main_v1]
  rw [before]
  split
  · rw [if_neg (by omega), val_main_v0_apply, val_main_cst_apply]
    exact Ideal.ofBits_zero _
  · exact (entry_ix2 (a := 4096) (b := 5632) x0 ⟨(i 0).val - 2, by have : (i 0).val < 4098 := (i 0).isLt; omega⟩ (i 1)).trans
      (if_pos (by omega)).symm

/-- The reference's convolution, which adds the taps in the other order. -/
theorem convolution (i : Cert.ConvForwardReferenceIdeal.S4096x5632.Idx) :
    val_main_v25 (F := Ideal) x0 x1 x2 i = conv (entry x0) (entry x1) (entry x2 0) (i 0).val (i 1).val := by
  have hk : (i 1).val % 5632 = (i 1).val := Nat.mod_eq_of_lt (i 1).isLt
  rw [val_main_v25_apply, val_main_v18_apply, val_main_v11_apply, val_main_v10_apply, val_main_v9_apply, val_main_v2_apply,
    val_main_v8_apply, val_main_v7_apply, val_main_v6_apply, val_main_v4_apply, val_main_v3_apply, val_main_v5_apply,
    val_main_v17_apply, val_main_v16_apply, val_main_v15_apply, val_main_v13_apply, val_main_v12_apply, val_main_v14_apply,
    val_main_v24_apply, val_main_v23_apply, val_main_v22_apply, val_main_v20_apply, val_main_v19_apply, val_main_v21_apply,
    padded, padded, padded]
  simp only [entry_read x1, entry_read x2]
  show ((_ + _ * before _ 2 (i 0).val (i 1).val) + _ * before _ 2 (1 + (i 0).val) (i 1).val) + _ * before _ 2 (2 + (i 0).val) (i 1).val = _
  rw [show before (entry x0) 2 (1 + (i 0).val) (i 1).val = before (entry x0) 1 (i 0).val (i 1).val by
      unfold before; split <;> split <;> first | omega | rfl | (congr 1; omega),
    show before (entry x0) 2 (2 + (i 0).val) (i 1).val = entry x0 (i 0).val (i 1).val by
      unfold before; rw [if_pos (by omega), Nat.add_sub_cancel_left], conv]
  simp only [hk, Nat.add_zero]
  rw [add_right_comm, add_right_comm (_ : EReal) (_ : EReal) (_ * entry _ _ _), add_right_comm (_ : EReal) (_ * before _ 2 _ _)]

/-- The reference's `√½`. -/
theorem root (i : Cert.ConvForwardReferenceIdeal.S_.Idx) : val_main_v32 (F := Ideal) i = (((Real.sqrt 2)⁻¹ : ℝ) : EReal) := by
  rw [val_main_v32_apply, val_main_v31_apply, val_main_cst_1_apply]
  show Ideal.sqrt (Ideal.ofBits .f32 0x3F000000#32) = _
  rw [ofBits_half, Ideal.sqrt_coe, if_neg (by norm_num), Real.sqrt_div (by norm_num), Real.sqrt_one, one_div]

theorem reference_eq (i : Cert.ConvForwardReferenceIdeal.S4096x2816.Idx) :
    val_main_v38 (F := Ideal) x0 x1 x2 i = gated (entry x0) (entry x1) (entry x2 0) (i 0).val (i 1).val := by
  rw [val_main_v38_apply, val_main_v37_apply, val_main_v36_apply, val_main_v29_apply, val_main_v28_apply, val_main_cst_0_apply,
    val_main_v35_apply, val_main_v34_apply, val_main_v30_apply, val_main_v33_apply, root, val_main_v26_apply, val_main_v27_apply,
    convolution, convolution, gated, ← gelu_eq, ← ofBits_half]
  rfl

end Reference

/-! ## The kernel's tiles -/

/-- The named constant. -/
theorem root_half : (Named.named κ "root_half" 0x3F3504F3#32 : Ideal .f32) = (((Real.sqrt 2)⁻¹ : ℝ) : EReal) :=
  IdealRules.named_const.ideal_named_scalar κ "root_half" (φ := .f32) _ _ rfl

section Tile

variable {v2 : Ideal .f32} {v10 : Vec Ideal S8x256 .f32} {v14 : Vec Ideal S512x256 .f32} {v17 : Vec Ideal S3x256 .f32}
  {v19 : Vec Ideal S1x256 .f32} {A W : ℕ → ℕ → EReal} {b : ℕ → EReal} {T c : ℕ}

/-- The convolution of a tile of 512 tokens, of which the eight before it are read too. -/
theorem conv_apply (hT : T = 0 ∨ 8 ≤ T) (h14 : ∀ n d, v14 (ix2 n d) = A (T + n) (c + d))
    (h10 : ∀ r d, v10 (ix2 r d) * v2 = if T = 0 then 0 else A (T - 8 + r) (c + d))
    (h17 : ∀ j d, v17 (ix2 j d) = W j (c + d)) (h19 : ∀ d, v19 (ix2 0 d) = b (c + d)) (n : Fin 512) (d : Fin 256) :
    k0_pay3 v2 v10 v14 v17 v19 (ix2 n d) = conv A W b (T + n) (c + d) := by
  have tap : ∀ s : ℕ, s ≤ 8 → (if h : (8 + n.val + 520 - s) % 520 < 8 then v10 (ix2 ⟨(8 + n.val + 520 - s) % 520, h⟩ d) * v2
      else v14 (ix2 ⟨(8 + n.val + 520 - s) % 520 - 8, by omega⟩ d)) = before A s (T + n) (c + d) := by
    intro s hs
    have hn : n.val < 512 := n.isLt
    rw [before]
    split
    · rw [h10]
      rcases hT with rfl | hT
      · rw [if_pos rfl, if_neg (by omega)]
      · rw [if_neg (by omega), if_pos (by omega)]
        exact congrArg (A · (c + d)) (by show T - 8 + (8 + n.val + 520 - s) % 520 = _; omega)
    · rw [h14, if_pos (by omega)]
      exact congrArg (A · (c + d)) (by show T + ((8 + n.val + 520 - s) % 520 - 8) = _; omega)
  pointwise [k0_pay3]
  rw [tap 1 (by omega), tap 2 (by omega), h19, h17, h17, h17, h14, conv]
  rfl

/-- The tile that a trip stores, from its two convolutions. -/
theorem tile_apply (v35 : FVec Ideal S512x256 .f32) (n : Fin 512) (d : Fin 256) :
    k0_pay2 v35 (k0_pay4 v2 v10 v14) v17 v19 (k0_pay5 v2 v10 v14 v17) (ix2 n d)
      = gelu (v35 (ix2 n d)) * k0_pay3 v2 v10 v14 v17 v19 (ix2 n d) := by
  pointwise [k0_pay2, k0_pay3, k0_pay4, k0_pay5]
  rw [root_half, ofBits_half]
  rfl

end Tile

/-- A load of some of a block's columns. -/
theorem ld_columns {R C w c : ℕ} {off : Fin 2 → ℕ} (ho : off = ![0, c]) (X : Vec Ideal (⟨2, ![R, C]⟩ : Shape) .f32)
    (p : ∀ x, off x + ![R, w] x ≤ (⟨2, ![R, C]⟩ : Shape).size x) (hc : c + w ≤ C) (n : Fin R) (d : Fin w) :
    View.ld (S := (⟨2, ![R, C]⟩ : Shape)) X (Rect.unit off ![R, w] p) (ix2 n d) = X (ix2 n ⟨c + d, by omega⟩) := by
  subst ho
  refine View.ld_unit_apply_of (S := (⟨2, ![R, C]⟩ : Shape)) X _ _ p (ix2 n d) (ix2 n ⟨c + d, by omega⟩) ?_
  intro x
  match x with
  | ⟨0, _⟩ => exact (Nat.zero_add _).symm
  | ⟨1, _⟩ => rfl

/-- The place of a tile of some of the columns. -/
theorem emb_columns {R C w c : ℕ} {off : Fin 2 → ℕ} (ho : off = ![0, c]) (p : ∀ x, off x + ![R, w] x ≤ (⟨2, ![R, C]⟩ : Shape).size x)
    (n : Fin R) (d : Fin w) : ((Rect.unit (s := (⟨2, ![R, C]⟩ : Shape)) off ![R, w] p).emb (ix2 n d) 0).val = n.val
      ∧ ((Rect.unit (s := (⟨2, ![R, C]⟩ : Shape)) off ![R, w] p).emb (ix2 n d) 1).val = c + d.val := by
  subst ho
  exact ⟨by show 0 + 1 * n.val = _; omega, by show c + 1 * d.val = _; omega⟩

/-! ## A grid point -/

section Point

variable (c : Dev nD) (i : grid0.Coords)
  (arg1 : Memref sig .tc .vmem S512x5632 .f32) (harg1 : arg1.IsWhole) (arg2 : Memref sig .tc .vmem S8x5632 .f32) (harg2 : arg2.IsWhole)
  (arg3 : Memref sig .tc .vmem S3x5632 .f32) (harg3 : arg3.IsWhole) (arg4 : Memref sig .tc .vmem S1x5632 .f32) (harg4 : arg4.IsWhole)
  (arg5 : Memref sig .tc .vmem S512x2816 .bf16) (harg5 : arg5.IsWhole)
  (x0 : Vec Ideal S512x5632 .f32) (x1 : Vec Ideal S8x5632 .f32) (x2 : Vec Ideal S3x5632 .f32) (x3 : Vec Ideal S1x5632 .f32)
  {A W : ℕ → ℕ → EReal} {b : ℕ → EReal} {T : ℕ}

/-- What a trip of the loop over the columns stores. -/
theorem trip_value (hT : T = 0 ∨ 8 ≤ T) (h0 : ∀ n d, x0 (ix2 n d) = A (T + n) d)
    (h1 : ∀ r d, x1 (ix2 r d) * k0_pay1 (F := Ideal) i = if T = 0 then 0 else A (T - 8 + r) d)
    (h2 : ∀ j d, x2 (ix2 j d) = W j d) (h3 : ∀ d, x3 (ix2 0 d) = b d) (k : Fin k0_t1_loop.trips) :
    ∀ p ∈ tripL_k0_t1 (F := Ideal) Variants.none c none i arg1 harg1 arg2 harg2 arg3 harg3 arg4 harg4 arg5 harg5
      (harg1.unread x0) (harg2.unread x1) (harg3.unread x2) (harg4.unread x3) k,
      ∀ x : p.1.shape.Idx, p.2 x = gated A W b (T + (p.1.emb x 0).val) (p.1.emb x 1).val := by
  have hk : k.val < 11 := Nat.lt_of_lt_of_le k.isLt k0_t1_abs.2.1
  unfold tripL_k0_t1 trip_k0_t1
  dsimp only
  intro p hp
  obtain rfl := List.mem_singleton.mp hp
  intro x
  frame_open
  frame_out
  obtain ⟨n, d, rfl⟩ : ∃ (n : Fin 512) (d : Fin 256), x = ix2 n d := ⟨x 0, x 1, eq_ix2 x⟩
  refine (tile_apply (v2 := k0_pay1 (F := Ideal) i) _ n d).trans ?_
  refine (congrArg₂ (fun a b : EReal => gelu a * b)
    (conv_apply (v2 := k0_pay1 (F := Ideal) i) (c := 256 * k.val) hT
      (fun n d => (ld_columns (k0_off2_eq k) _ _ (by omega) n d).trans ((congrFun (harg1.read_unread x0) _).trans (h0 _ _)))
      (fun r d => (congrArg (fun z : EReal => z * k0_pay1 (F := Ideal) i)
        ((ld_columns (k0_off1_eq k) _ _ (by omega) r d).trans (congrFun (harg2.read_unread x1) _))).trans (h1 _ _))
      (fun j d => (ld_columns (k0_off3_eq k) x2 _ (by omega) j d).trans (h2 _ _))
      (fun d => (ld_columns (k0_off4_eq k) x3 _ (by omega) 0 d).trans (h3 _)) n d)
    (conv_apply (v2 := k0_pay1 (F := Ideal) i) (c := 256 * k.val + 2816) hT
      (fun n d => (ld_columns (k0_off6_eq k) _ _ (by omega) n d).trans ((congrFun (harg1.read_unread x0) _).trans (h0 _ _)))
      (fun r d => (congrArg (fun z : EReal => z * k0_pay1 (F := Ideal) i)
        ((ld_columns (k0_off5_eq k) _ _ (by omega) r d).trans (congrFun (harg2.read_unread x1) _))).trans (h1 _ _))
      (fun j d => (ld_columns (k0_off7_eq k) x2 _ (by omega) j d).trans (h2 _ _))
      (fun d => (ld_columns (k0_off8_eq k) x3 _ (by omega) 0 d).trans (h3 _)) n d)).trans ?_
  rw [(emb_columns (C := 2816) (k0_off9_eq k) _ n d).1, (emb_columns (C := 2816) (k0_off9_eq k) _ n d).2, gated,
    show 2816 + (256 * k.val + d.val) = 256 * k.val + 2816 + d.val by omega]

/-- What the trips before `k` store. -/
theorem trips_value (hT : T = 0 ∨ 8 ≤ T) (h0 : ∀ n d, x0 (ix2 n d) = A (T + n) d)
    (h1 : ∀ r d, x1 (ix2 r d) * k0_pay1 (F := Ideal) i = if T = 0 then 0 else A (T - 8 + r) d)
    (h2 : ∀ j d, x2 (ix2 j d) = W j d) (h3 : ∀ d, x3 (ix2 0 d) = b d) : ∀ k : ℕ, k ≤ k0_t1_loop.trips →
    ∀ p ∈ pb_k0_t1 (F := Ideal) Variants.none c none i arg1 harg1 arg2 harg2 arg3 harg3 arg4 harg4 arg5 harg5
      (harg1.unread x0) (harg2.unread x1) (harg3.unread x2) (harg4.unread x3) k,
      ∀ x : p.1.shape.Idx, p.2 x = gated A W b (T + (p.1.emb x 0).val) (p.1.emb x 1).val
  | 0, _, p, hp => by
    rw [pb_k0_t1] at hp
    exact absurd hp List.not_mem_nil
  | k + 1, hk, p, hp => by
    rw [pb_k0_t1_succ Variants.none c none i arg1 harg1 arg2 harg2 arg3 harg3 arg4 harg4 arg5 harg5 _ _ _ _ ⟨k, hk⟩] at hp
    rcases List.mem_append.mp hp with hp | hp
    · exact trip_value c i arg1 harg1 arg2 harg2 arg3 harg3 arg4 harg4 arg5 harg5 x0 x1 x2 x3 hT h0 h1 h2 h3 ⟨k, hk⟩ p hp
    · exact trips_value hT h0 h1 h2 h3 k (Nat.le_of_succ_le hk) p hp

/-- What a point leaves in its block of the result. -/
theorem block_value (hT : T = 0 ∨ 8 ≤ T) (h0 : ∀ n d, x0 (ix2 n d) = A (T + n) d)
    (h1 : ∀ r d, x1 (ix2 r d) * k0_pay1 (F := Ideal) i = if T = 0 then 0 else A (T - 8 + r) d)
    (h2 : ∀ j d, x2 (ix2 j d) = W j d) (h3 : ∀ d, x3 (ix2 0 d) = b d) (y : S512x2816.Idx) :
    out0_A_4 (F := Ideal) c i arg1 harg1 arg2 harg2 arg3 harg3 arg4 harg4 arg5 harg5 x0 x1 x2 x3 y
      = gated A W b (T + (y 0).val) (y 1).val := by
  unfold out0_A_4
  refine View.read_writes_apply_of_pieces _ _ (fun y : S512x2816.Idx => gated A W b (T + (y 0).val) (y 1).val) _ ?_ y
    (cover0_A_4 c i arg1 harg1 arg2 harg2 arg3 harg3 arg4 harg4 arg5 harg5 x0 x1 x2 x3 y)
  unfold kernelRun0_A
  dsimp only
  exact trips_value c i arg1 harg1 arg2 harg2 arg3 harg3 arg4 harg4 arg5 harg5 x0 x1 x2 x3 hT h0 h1 h2 h3 _ le_rfl

end Point

/-! ## The whole array -/

/-- The blocks of point `t`: the eight tokens before its own are the second. -/
theorem idx : ∀ t : Fin cfg0.N, win0_0.index t = ![t.val, 0] ∧ win0_1.index t = ![64 * t.val - 1, 0] ∧ win0_2.index t = ![0, 0]
    ∧ win0_3.index t = ![0, 0] ∧ win0_4.index t = ![t.val, 0] := by
  decide +kernel

/-- The word of the test whether a point is the first. -/
theorem first_word : ∀ t : Fin cfg0.N, Scalar.extui (Scalar.cmpi .sgt (BitVec.ofNat 32 (grid0.coords t 0).val) 0#32)
    = if t.val = 0 then 0#32 else 1#32 := by
  decide +kernel

/-- The factor of the tokens before a point's own. -/
theorem first (t : Fin cfg0.N) : k0_pay1 (F := Ideal) (grid0.coords t) = if t.val = 0 then (0 : EReal) else 1 := by
  unfold k0_pay1
  dsimp only
  rw [first_word]
  split
  · show (((0#32 : BitVec 32).toInt : ℝ) : EReal) = 0
    norm_num
  · show (((1#32 : BitVec 32).toInt : ℝ) : EReal) = 1
    norm_num

section Result

variable (m : (ℓ : Loc nD τ sig) → Buf (Elt Ideal) ℓ) (c : Dev nD) (t : Fin cfg0.N)

theorem points : t.val < 8 := lt_of_lt_of_eq t.isLt (show cfg0.N = 8 from N_0)

/-- A row of a point's block, in the whole array. -/
abbrev token (i : Fin 512) : Fin 4096 := ⟨t.val * 512 + i.val, by have := points t; omega⟩

theorem block0 (i : Fin 512) (k : Fin 5632) : iblk m c 0 t (ix2 i k) = m ((c : Thread nD τ).loc main_arg0) (ix2 (token t i) k) := by
  blk_ext [iblk, V, idx t]

theorem block1 (i : Fin 8) (k : Fin 5632) : iblk m c 1 t (ix2 i k)
    = m ((c : Thread nD τ).loc main_arg0) (ix2 ⟨(64 * t.val - 1) * 8 + i.val, by have := points t; omega⟩ k) := by
  blk_ext [iblk, V, idx t]

theorem block2 (i : Fin 3) (k : Fin 5632) : iblk m c 2 t (ix2 i k) = m ((c : Thread nD τ).loc main_arg1) (ix2 i k) := by
  blk_ext [iblk, V, idx t]

theorem block3 (k : Fin 5632) : iblk m c 3 t (ix2 0 k) = m ((c : Thread nD τ).loc main_arg2) (ix2 0 k) := by
  blk_ext [iblk, V, idx t]

/-- The eight tokens before a point's own, times the point's factor. -/
theorem halo (r : Fin 8) (d : Fin 5632) : HMul.hMul (α := EReal) (β := EReal) (iblk m c 1 t (ix2 r d)) (k0_pay1 (F := Ideal) (grid0.coords t))
    = if t.val * 512 = 0 then 0 else entry (a := 4096) (b := 5632) (m ((c : Thread nD τ).loc main_arg0)) (t.val * 512 - 8 + r) d := by
  rw [first]
  by_cases h : t.val = 0
  · rw [if_pos h, if_pos (by omega), mul_zero]
  · rw [if_neg h, if_neg (by omega), mul_one, block1,
      show t.val * 512 - 8 + r.val = (64 * t.val - 1) * 8 + r.val by omega]
    exact entry_ix2 (a := 4096) (b := 5632) (m ((c : Thread nD τ).loc main_arg0)) ⟨_, _⟩ d

/-- The kernel's result is the reference's. -/
theorem result : (dats m 0 c).arrAt 4 cfg0.N
    = val_main_v38 (F := Ideal) (m ((c : Thread nD τ).loc main_arg0)) (m ((c : Thread nD τ).loc main_arg1))
        (m ((c : Thread nD τ).loc main_arg2)) := by
  refine (dats m 0 c).arrAt_eq_of_covers 4 _ (by decide +kernel) fun t _ y => ?_
  blk_simp
  obtain ⟨i, j, rfl⟩ : ∃ i j, y = ix2 i j := ⟨_, _, eq_ix2 y⟩
  rw [after0_4]
  unfold outsAt0
  refine (block_value c _ _ _ _ _ _ _ _ _ _ _ (iblk m c 0 t) (iblk m c 1 t) (iblk m c 2 t) (iblk m c 3 t)
    (A := entry (m ((c : Thread nD τ).loc main_arg0))) (W := entry (m ((c : Thread nD τ).loc main_arg1)))
    (b := entry (m ((c : Thread nD τ).loc main_arg2)) 0) (T := t.val * 512) (by omega)
    (fun n d => (block0 m c t n d).trans (entry_ix2 _ _ d)) (halo m c t)
    (fun j d => (block2 m c t j d).trans (entry_ix2 _ j d)) (fun d => (block3 m c t d).trans (entry_ix2 _ 0 d)) (ix2 i j)).trans ?_
  refine (reference_eq (m ((c : Thread nD τ).loc main_arg0)) (m ((c : Thread nD τ).loc main_arg1)) (m ((c : Thread nD τ).loc main_arg2))
    (ix2 (token t i) j)).symm.trans ?_
  blk_point [idx t]

end Result

/-! ## The claims -/

/-- The named constant has the value the table gives it. -/
theorem preserves : Cert.preserves_ConvForward_ConvForwardIdeal := IdealRules.named_const.statement _ _ _ _ _ rfl

/-- Both programs run, with equal results. -/
theorem algebraic : Cert.algebraic_ConvForwardIdeal_ConvForwardReferenceIdeal := fun m g m' g' _ hargs =>
  ⟨_, Cert.ConvForwardIdeal.Value.run_blocks m g, Runs.result_of_run (Cert.ConvForwardReferenceIdeal.Value.run m' g') fun c => by
    obtain ⟨a0, a1, a2⟩ := hargs c
    rw [val_main_v38_eq, a0, a1, a2, result]⟩

end Cert.ConvForwardResult

end
-- ==== Proof.lean ====
module

public import proofs.«01_k».proof.Defs
public import proofs.«01_k».proof.Proof.Results
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.InInput
public import proofs.«01_k».proof.Proof.Gen.InInput.Frame
public import proofs.«01_k».proof.Proof.Gen.InInputIdeal
public import proofs.«01_k».proof.Proof.Gen.InInputIdeal.Frame
public import proofs.«01_k».proof.Proof.Gen.InInputReferenceIdeal
public import proofs.«01_k».proof.Proof.Gen.InWeight
public import proofs.«01_k».proof.Proof.Gen.InWeight.Frame
public import proofs.«01_k».proof.Proof.Gen.InWeightIdeal
public import proofs.«01_k».proof.Proof.Gen.InWeightIdeal.Frame
public import proofs.«01_k».proof.Proof.Gen.InWeightReferenceIdeal
public import proofs.«01_k».proof.Proof.Gen.UpWeight
public import proofs.«01_k».proof.Proof.Gen.UpWeight.Frame
public import proofs.«01_k».proof.Proof.Gen.UpWeightIdeal
public import proofs.«01_k».proof.Proof.Gen.UpWeightIdeal.Frame
public import proofs.«01_k».proof.Proof.Gen.UpWeightReferenceIdeal
public import proofs.«01_k».proof.Proof.Gen.DownInput
public import proofs.«01_k».proof.Proof.Gen.DownInput.Frame
public import proofs.«01_k».proof.Proof.Gen.DownInputIdeal
public import proofs.«01_k».proof.Proof.Gen.DownInputIdeal.Frame
public import proofs.«01_k».proof.Proof.Gen.DownInputReferenceIdeal
public import proofs.«01_k».proof.Proof.Gen.DownWeight
public import proofs.«01_k».proof.Proof.Gen.DownWeight.Frame
public import proofs.«01_k».proof.Proof.Gen.DownWeightIdeal
public import proofs.«01_k».proof.Proof.Gen.DownWeightIdeal.Frame
public import proofs.«01_k».proof.Proof.Gen.DownWeightReferenceIdeal
public import proofs.«01_k».proof.Proof.Gen.InForward
public import proofs.«01_k».proof.Proof.Gen.InForward.Frame
public import proofs.«01_k».proof.Proof.Gen.InForwardIdeal
public import proofs.«01_k».proof.Proof.Gen.InForwardIdeal.Frame
public import proofs.«01_k».proof.Proof.Gen.InForwardReferenceIdeal
public import proofs.«01_k».proof.Proof.Gen.UpForward
public import proofs.«01_k».proof.Proof.Gen.UpForward.Frame
public import proofs.«01_k».proof.Proof.Gen.UpForwardIdeal
public import proofs.«01_k».proof.Proof.Gen.UpForwardIdeal.Frame
public import proofs.«01_k».proof.Proof.Gen.UpForwardReferenceIdeal
public import proofs.«01_k».proof.Proof.Gen.DownForward
public import proofs.«01_k».proof.Proof.Gen.DownForward.Frame
public import proofs.«01_k».proof.Proof.Gen.DownForwardIdeal
public import proofs.«01_k».proof.Proof.Gen.DownForwardIdeal.Frame
public import proofs.«01_k».proof.Proof.Gen.DownForwardReferenceIdeal
public import proofs.«01_k».proof.Proof.Gen.GmOutInput
public import proofs.«01_k».proof.Proof.Gen.GmOutInput.Frame
public import proofs.«01_k».proof.Proof.Gen.GmOutInputIdeal
public import proofs.«01_k».proof.Proof.Gen.GmOutInputIdeal.Frame
public import proofs.«01_k».proof.Proof.Gen.GmOutInputReferenceIdeal
public import proofs.«01_k».proof.Proof.Gen.GmOutWeight
public import proofs.«01_k».proof.Proof.Gen.GmOutWeight.Frame
public import proofs.«01_k».proof.Proof.Gen.GmOutWeightIdeal
public import proofs.«01_k».proof.Proof.Gen.GmOutWeightIdeal.Frame
public import proofs.«01_k».proof.Proof.Gen.GmOutWeightReferenceIdeal
public import proofs.«01_k».proof.Proof.Gen.GmOutForward
public import proofs.«01_k».proof.Proof.Gen.GmOutForward.Frame
public import proofs.«01_k».proof.Proof.Gen.GmOutForwardIdeal
public import proofs.«01_k».proof.Proof.Gen.GmOutForwardIdeal.Frame
public import proofs.«01_k».proof.Proof.Gen.GmOutForwardReferenceIdeal
public import proofs.«01_k».proof.Proof.Gen.HgOutInput
public import proofs.«01_k».proof.Proof.Gen.HgOutInput.Frame
public import proofs.«01_k».proof.Proof.Gen.HgOutInputIdeal
public import proofs.«01_k».proof.Proof.Gen.HgOutInputIdeal.Frame
public import proofs.«01_k».proof.Proof.Gen.HgOutInputReferenceIdeal
public import proofs.«01_k».proof.Proof.Gen.HgOutWeight
public import proofs.«01_k».proof.Proof.Gen.HgOutWeight.Frame
public import proofs.«01_k».proof.Proof.Gen.HgOutWeightIdeal
public import proofs.«01_k».proof.Proof.Gen.HgOutWeightIdeal.Frame
public import proofs.«01_k».proof.Proof.Gen.HgOutWeightReferenceIdeal
public import proofs.«01_k».proof.Proof.Gen.HgOutForward
public import proofs.«01_k».proof.Proof.Gen.HgOutForward.Frame
public import proofs.«01_k».proof.Proof.Gen.HgOutForwardIdeal
public import proofs.«01_k».proof.Proof.Gen.HgOutForwardIdeal.Frame
public import proofs.«01_k».proof.Proof.Gen.HgOutForwardReferenceIdeal
public import proofs.«01_k».proof.Proof.Runs
public import proofs.«01_k».proof.Proof.Forward
public import proofs.«01_k».proof.Proof.InputGradient
public import proofs.«01_k».proof.Proof.WeightGradient
public import proofs.«01_k».proof.Proof.DownWeight
public import proofs.«01_k».proof.Proof.Modulation
public import proofs.«01_k».proof.Proof.NormBackward
public import proofs.«01_k».proof.Proof.FirstNormBackward
public import proofs.«01_k».proof.Proof.NormForward
public import proofs.«01_k».proof.Proof.LossHead
public import proofs.«01_k».proof.Proof.OptimiserSteps
public import proofs.«01_k».proof.Proof.DeviceSums
public import proofs.«01_k».proof.Proof.ConvForward
public import proofs.«01_k».proof.Proof.GatingForward
public import proofs.«01_k».proof.Proof.Gen.NormBackward
public import proofs.«01_k».proof.Proof.Gen.NormBackward.Frame
public import proofs.«01_k».proof.Proof.Gen.NormBackwardIdeal
public import proofs.«01_k».proof.Proof.Gen.NormBackwardIdeal.Frame
public import proofs.«01_k».proof.Proof.Gen.NormBackwardIdeal.Value
public import proofs.«01_k».proof.Proof.Gen.NormBackwardReferenceIdeal
public import proofs.«01_k».proof.Proof.Gen.NormBackwardReferenceIdeal.Run
public import proofs.«01_k».proof.Proof.Gen.NormBackwardReferenceIdeal.Read
public import proofs.«01_k».proof.Proof.Gen.AdaForward
public import proofs.«01_k».proof.Proof.Gen.AdaForward.Frame
public import proofs.«01_k».proof.Proof.Gen.AdaForwardIdeal
public import proofs.«01_k».proof.Proof.Gen.AdaForwardIdeal.Frame
public import proofs.«01_k».proof.Proof.Gen.AdaForwardIdeal.Value
public import proofs.«01_k».proof.Proof.Gen.AdaForwardReferenceIdeal
public import proofs.«01_k».proof.Proof.Gen.AdaForwardReferenceIdeal.Run
public import proofs.«01_k».proof.Proof.Gen.AdaForwardReferenceIdeal.Read
public import proofs.«01_k».proof.Proof.Gen.AdaWeight
public import proofs.«01_k».proof.Proof.Gen.AdaWeight.Frame
public import proofs.«01_k».proof.Proof.Gen.AdaWeightIdeal
public import proofs.«01_k».proof.Proof.Gen.AdaWeightIdeal.Frame
public import proofs.«01_k».proof.Proof.Gen.AdaWeightIdeal.Value
public import proofs.«01_k».proof.Proof.Gen.AdaWeightReferenceIdeal
public import proofs.«01_k».proof.Proof.Gen.AdaWeightReferenceIdeal.Run
public import proofs.«01_k».proof.Proof.Gen.AdaWeightReferenceIdeal.Read
public import Idealize.ShloMosaic.Adequacy
public import Idealize.ShloMosaic.Init
public import proofs.«01_k».proof.Proof.Gen.FirstNormBackward
public import proofs.«01_k».proof.Proof.Gen.FirstNormBackward.Frame
public import proofs.«01_k».proof.Proof.Gen.FirstNormBackwardIdeal
public import proofs.«01_k».proof.Proof.Gen.FirstNormBackwardIdeal.Frame
public import proofs.«01_k».proof.Proof.Gen.FirstNormBackwardIdeal.Value
public import proofs.«01_k».proof.Proof.Gen.FirstNormBackwardReferenceIdeal
public import proofs.«01_k».proof.Proof.Gen.FirstNormBackwardReferenceIdeal.Run
public import proofs.«01_k».proof.Proof.Gen.FirstNormBackwardReferenceIdeal.Read
public import proofs.«01_k».proof.Proof.Gen.LossHead
public import proofs.«01_k».proof.Proof.Gen.LossHead.Frame
public import proofs.«01_k».proof.Proof.Gen.LossHeadIdeal
public import proofs.«01_k».proof.Proof.Gen.LossHeadIdeal.Frame
public import proofs.«01_k».proof.Proof.Gen.LossHeadIdeal.Value
public import proofs.«01_k».proof.Proof.Gen.LossHeadReferenceIdeal
public import proofs.«01_k».proof.Proof.Gen.LossHeadReferenceIdeal.Run
public import proofs.«01_k».proof.Proof.Gen.LossHeadReferenceIdeal.Read
public import proofs.«01_k».proof.Proof.Gen.NormForward
public import proofs.«01_k».proof.Proof.Gen.NormForward.Frame
public import proofs.«01_k».proof.Proof.Gen.NormForwardIdeal
public import proofs.«01_k».proof.Proof.Gen.NormForwardIdeal.Frame
public import proofs.«01_k».proof.Proof.Gen.NormForwardIdeal.Value
public import proofs.«01_k».proof.Proof.Gen.NormForwardReferenceIdeal
public import proofs.«01_k».proof.Proof.Gen.NormForwardReferenceIdeal.Run
public import proofs.«01_k».proof.Proof.Gen.NormForwardReferenceIdeal.Read
public import proofs.«01_k».proof.Proof.Gen.FirstNormForward
public import proofs.«01_k».proof.Proof.Gen.FirstNormForward.Frame
public import proofs.«01_k».proof.Proof.Gen.FirstNormForwardIdeal
public import proofs.«01_k».proof.Proof.Gen.FirstNormForwardIdeal.Frame
public import proofs.«01_k».proof.Proof.Gen.FirstNormForwardIdeal.Value
public import proofs.«01_k».proof.Proof.Gen.FirstNormForwardReferenceIdeal
public import proofs.«01_k».proof.Proof.Gen.FirstNormForwardReferenceIdeal.Run
public import proofs.«01_k».proof.Proof.Gen.FirstNormForwardReferenceIdeal.Read
public import proofs.«01_k».proof.Proof.Gen.AdaWeightStep
public import proofs.«01_k».proof.Proof.Gen.AdaWeightStep.Frame
public import proofs.«01_k».proof.Proof.Gen.AdaWeightStepIdeal
public import proofs.«01_k».proof.Proof.Gen.AdaWeightStepIdeal.Frame
public import proofs.«01_k».proof.Proof.Gen.AdaWeightStepIdeal.Value
public import proofs.«01_k».proof.Proof.Gen.AdaWeightStepReferenceIdeal
public import proofs.«01_k».proof.Proof.Gen.AdaWeightStepReferenceIdeal.Run
public import proofs.«01_k».proof.Proof.Gen.GatingForward
public import proofs.«01_k».proof.Proof.Gen.GatingForward.Frame
public import proofs.«01_k».proof.Proof.Gen.GatingForwardIdeal
public import proofs.«01_k».proof.Proof.Gen.GatingForwardIdeal.Frame
public import proofs.«01_k».proof.Proof.Gen.GatingForwardIdeal.Value
public import proofs.«01_k».proof.Proof.Gen.GatingForwardReferenceIdeal
public import proofs.«01_k».proof.Proof.Gen.GatingForwardReferenceIdeal.Run
public import proofs.«01_k».proof.Proof.Gen.GatingForwardReferenceIdeal.Read
public import proofs.«01_k».proof.Proof.Gen.NormGainStep
public import proofs.«01_k».proof.Proof.Gen.NormGainStep.Frame
public import proofs.«01_k».proof.Proof.Gen.NormGainStepIdeal
public import proofs.«01_k».proof.Proof.Gen.NormGainStepIdeal.Frame
public import proofs.«01_k».proof.Proof.Gen.NormGainStepIdeal.Value
public import proofs.«01_k».proof.Proof.Gen.NormGainStepReferenceIdeal
public import proofs.«01_k».proof.Proof.Gen.NormGainStepReferenceIdeal.Run
public import proofs.«01_k».proof.Proof.Gen.FinalGainStep
public import proofs.«01_k».proof.Proof.Gen.FinalGainStep.Frame
public import proofs.«01_k».proof.Proof.Gen.FinalGainStepIdeal
public import proofs.«01_k».proof.Proof.Gen.FinalGainStepIdeal.Frame
public import proofs.«01_k».proof.Proof.Gen.FinalGainStepIdeal.Value
public import proofs.«01_k».proof.Proof.Gen.FinalGainStepReferenceIdeal
public import proofs.«01_k».proof.Proof.Gen.FinalGainStepReferenceIdeal.Run
public import proofs.«01_k».proof.Proof.Gen.GatingNormStep
public import proofs.«01_k».proof.Proof.Gen.GatingNormStep.Frame
public import proofs.«01_k».proof.Proof.Gen.GatingNormStepIdeal
public import proofs.«01_k».proof.Proof.Gen.GatingNormStepIdeal.Frame
public import proofs.«01_k».proof.Proof.Gen.GatingNormStepIdeal.Value
public import proofs.«01_k».proof.Proof.Gen.GatingNormStepReferenceIdeal
public import proofs.«01_k».proof.Proof.Gen.GatingNormStepReferenceIdeal.Run
public import proofs.«01_k».proof.Proof.Gen.SpatialWeightStep
public import proofs.«01_k».proof.Proof.Gen.SpatialWeightStep.Frame
public import proofs.«01_k».proof.Proof.Gen.SpatialWeightStepIdeal
public import proofs.«01_k».proof.Proof.Gen.SpatialWeightStepIdeal.Frame
public import proofs.«01_k».proof.Proof.Gen.SpatialWeightStepIdeal.Value
public import proofs.«01_k».proof.Proof.Gen.SpatialWeightStepReferenceIdeal
public import proofs.«01_k».proof.Proof.Gen.SpatialWeightStepReferenceIdeal.Run
public import proofs.«01_k».proof.Proof.Gen.SpatialBiasStep
public import proofs.«01_k».proof.Proof.Gen.SpatialBiasStep.Frame
public import proofs.«01_k».proof.Proof.Gen.SpatialBiasStepIdeal
public import proofs.«01_k».proof.Proof.Gen.SpatialBiasStepIdeal.Frame
public import proofs.«01_k».proof.Proof.Gen.SpatialBiasStepIdeal.Value
public import proofs.«01_k».proof.Proof.Gen.SpatialBiasStepReferenceIdeal
public import proofs.«01_k».proof.Proof.Gen.SpatialBiasStepReferenceIdeal.Run
public import proofs.«01_k».proof.Proof.Gen.HeadRowsStep
public import proofs.«01_k».proof.Proof.Gen.HeadRowsStep.Frame
public import proofs.«01_k».proof.Proof.Gen.HeadRowsStepIdeal
public import proofs.«01_k».proof.Proof.Gen.HeadRowsStepIdeal.Frame
public import proofs.«01_k».proof.Proof.Gen.HeadRowsStepIdeal.Value
public import proofs.«01_k».proof.Proof.Gen.HeadRowsStepReferenceIdeal
public import proofs.«01_k».proof.Proof.Gen.HeadRowsStepReferenceIdeal.Run
public import proofs.«01_k».proof.Proof.Gen.ConvWeightStep
public import proofs.«01_k».proof.Proof.Gen.ConvWeightStep.Frame
public import proofs.«01_k».proof.Proof.Gen.ConvWeightStepIdeal
public import proofs.«01_k».proof.Proof.Gen.ConvWeightStepIdeal.Frame
public import proofs.«01_k».proof.Proof.Gen.ConvWeightStepIdeal.Value
public import proofs.«01_k».proof.Proof.Gen.ConvWeightStepReferenceIdeal
public import proofs.«01_k».proof.Proof.Gen.ConvWeightStepReferenceIdeal.Run
public import proofs.«01_k».proof.Proof.Gen.ConvBiasStep
public import proofs.«01_k».proof.Proof.Gen.ConvBiasStep.Frame
public import proofs.«01_k».proof.Proof.Gen.ConvBiasStepIdeal
public import proofs.«01_k».proof.Proof.Gen.ConvBiasStepIdeal.Frame
public import proofs.«01_k».proof.Proof.Gen.ConvBiasStepIdeal.Value
public import proofs.«01_k».proof.Proof.Gen.ConvBiasStepReferenceIdeal
public import proofs.«01_k».proof.Proof.Gen.ConvBiasStepReferenceIdeal.Run
public import proofs.«01_k».proof.Proof.Gen.AdaBiasStep
public import proofs.«01_k».proof.Proof.Gen.AdaBiasStep.Frame
public import proofs.«01_k».proof.Proof.Gen.AdaBiasStepIdeal
public import proofs.«01_k».proof.Proof.Gen.AdaBiasStepIdeal.Frame
public import proofs.«01_k».proof.Proof.Gen.AdaBiasStepIdeal.Value
public import proofs.«01_k».proof.Proof.Gen.AdaBiasStepReferenceIdeal
public import proofs.«01_k».proof.Proof.Gen.AdaBiasStepReferenceIdeal.Run
public import proofs.«01_k».proof.Proof.Gen.AdaBiasSum
public import proofs.«01_k».proof.Proof.Gen.AdaBiasSum.Frame
public import proofs.«01_k».proof.Proof.Gen.AdaBiasSumIdeal
public import proofs.«01_k».proof.Proof.Gen.AdaBiasSumIdeal.Frame
public import proofs.«01_k».proof.Proof.Gen.AdaBiasSumIdeal.Value
public import proofs.«01_k».proof.Proof.Gen.AdaBiasSumReferenceIdeal
public import proofs.«01_k».proof.Proof.Gen.AdaBiasSumReferenceIdeal.Run
public import proofs.«01_k».proof.Proof.Gen.AdaBiasSumReferenceIdeal.Read
public import proofs.«01_k».proof.Proof.Gen.DeviceSum
public import proofs.«01_k».proof.Proof.Gen.DeviceSum.Frame
public import proofs.«01_k».proof.Proof.Gen.DeviceSumIdeal
public import proofs.«01_k».proof.Proof.Gen.DeviceSumIdeal.Frame
public import proofs.«01_k».proof.Proof.Gen.DeviceSumIdeal.Value
public import proofs.«01_k».proof.Proof.Gen.DeviceSumReferenceIdeal
public import proofs.«01_k».proof.Proof.Gen.DeviceSumReferenceIdeal.Run
public import proofs.«01_k».proof.Proof.Gen.DeviceSumReferenceIdeal.Read
public import proofs.«01_k».proof.Proof.Gen.ConvForward
public import proofs.«01_k».proof.Proof.Gen.ConvForward.Frame
public import proofs.«01_k».proof.Proof.Gen.ConvForwardIdeal
public import proofs.«01_k».proof.Proof.Gen.ConvForwardIdeal.Frame
public import proofs.«01_k».proof.Proof.Gen.ConvForwardIdeal.Value
public import proofs.«01_k».proof.Proof.Gen.ConvForwardReferenceIdeal
public import proofs.«01_k».proof.Proof.Gen.ConvForwardReferenceIdeal.Run
public import proofs.«01_k».proof.Proof.Gen.ConvForwardReferenceIdeal.Read

@[expose] public section

noncomputable section

namespace Cert.Proof

open Idealize.ShloMosaic Idealize.SL.Sem

/-- The reference runs, leaves its arguments as they were, and declares no semaphore. -/
theorem reference_frame : Cert.quiescent_ReferenceIdeal := fun m ρ _ =>
  (θ_run Cert.ReferenceIdeal.defs _ _).mono
    (fun r h => ⟨fun c => (h c).2.2.2.2.2, sem_eq_zero_of_no_sems (by decide) r.2⟩)
    (Cert.ReferenceIdeal.Value.run (F := Ideal) m ρ)

/-- The two named constants have the values the table gives them. -/
theorem preserves : Cert.preserves_Kernel_KernelIdeal :=
  ⟨IdealRules.named_const.statement _ _ _ _ _ rfl, IdealRules.named_const.statement _ _ _ _ _ rfl⟩

/-- The gating block's backward kernel, over the reals, gives the gradients of the reference's forward. -/
theorem algebraic : Cert.algebraic_KernelIdeal_ReferenceIdeal_pre_finite := by
  intro m g m' g' hm hargs
  refine ⟨fun c => Cert.KernelIdeal.Value.G6 m c, fun c => Cert.KernelIdeal.Value.G7 m c,
    fun c => Cert.KernelIdeal.Value.G8 m c, fun c => Cert.KernelIdeal.Value.G9 m c, fun c => Cert.KernelIdeal.Value.G10 m c,
    Cert.KernelIdeal.Value.run m g,
    (θ_run Cert.ReferenceIdeal.defs _ _).mono (fun r h c => ?_) (Cert.ReferenceIdeal.Value.run m' g')⟩
  obtain ⟨e0, e1, e2, e3, e4, e5⟩ := hargs c
  obtain ⟨r6, r7, r8, r9, r10⟩ := Cert.Results.results hm c
  obtain ⟨p6, p7, p8, p9, p10, kept⟩ := h c
  refine ⟨p6.trans ?_, p7.trans ?_, p8.trans ?_, p9.trans ?_, p10.trans ?_, kept⟩
  · rw [Cert.ReferenceIdeal.Read.val_main_v122_eq, e0, e1, e2, e3, e4, e5]
    exact r6.symm
  · rw [Cert.ReferenceIdeal.Read.val_main_v79_eq, e0, e1, e2, e3]
    exact r7.symm
  · rw [Cert.ReferenceIdeal.Read.val_main_v125_eq, e0, e1]
    exact r8.symm
  · rw [Cert.ReferenceIdeal.Read.val_main_v85_eq, e0, e1, e4]
    exact r9.symm
  · rw [Cert.ReferenceIdeal.Read.val_main_v82_eq, e0, e1, e4]
    exact r10.symm

theorem claim : Cert.Claim :=
  ⟨Cert.Kernel.Gen.facts, Cert.KernelIdeal.Gen.facts, Cert.ReferenceIdeal.Gen.facts,
    Cert.InInput.Gen.facts, Cert.InInputIdeal.Gen.facts, Cert.InInputReferenceIdeal.Gen.facts,
    Cert.InWeight.Gen.facts, Cert.InWeightIdeal.Gen.facts, Cert.InWeightReferenceIdeal.Gen.facts,
    Cert.UpWeight.Gen.facts, Cert.UpWeightIdeal.Gen.facts, Cert.UpWeightReferenceIdeal.Gen.facts,
    Cert.DownInput.Gen.facts, Cert.DownInputIdeal.Gen.facts, Cert.DownInputReferenceIdeal.Gen.facts,
    Cert.DownWeight.Gen.facts, Cert.DownWeightIdeal.Gen.facts, Cert.DownWeightReferenceIdeal.Gen.facts,
    Cert.InForward.Gen.facts, Cert.InForwardIdeal.Gen.facts, Cert.InForwardReferenceIdeal.Gen.facts,
    Cert.UpForward.Gen.facts, Cert.UpForwardIdeal.Gen.facts, Cert.UpForwardReferenceIdeal.Gen.facts,
    Cert.DownForward.Gen.facts, Cert.DownForwardIdeal.Gen.facts, Cert.DownForwardReferenceIdeal.Gen.facts,
    Cert.GmOutInput.Gen.facts, Cert.GmOutInputIdeal.Gen.facts, Cert.GmOutInputReferenceIdeal.Gen.facts,
    Cert.GmOutWeight.Gen.facts, Cert.GmOutWeightIdeal.Gen.facts, Cert.GmOutWeightReferenceIdeal.Gen.facts,
    Cert.GmOutForward.Gen.facts, Cert.GmOutForwardIdeal.Gen.facts, Cert.GmOutForwardReferenceIdeal.Gen.facts,
    Cert.HgOutInput.Gen.facts, Cert.HgOutInputIdeal.Gen.facts, Cert.HgOutInputReferenceIdeal.Gen.facts,
    Cert.HgOutWeight.Gen.facts, Cert.HgOutWeightIdeal.Gen.facts, Cert.HgOutWeightReferenceIdeal.Gen.facts,
    Cert.HgOutForward.Gen.facts, Cert.HgOutForwardIdeal.Gen.facts, Cert.HgOutForwardReferenceIdeal.Gen.facts,
    Cert.NormBackward.Gen.facts, Cert.NormBackwardIdeal.Gen.facts, Cert.NormBackwardReferenceIdeal.Gen.facts,
    Cert.AdaForward.Gen.facts, Cert.AdaForwardIdeal.Gen.facts, Cert.AdaForwardReferenceIdeal.Gen.facts,
    Cert.AdaWeight.Gen.facts, Cert.AdaWeightIdeal.Gen.facts, Cert.AdaWeightReferenceIdeal.Gen.facts,
    Cert.FirstNormBackward.Gen.facts, Cert.FirstNormBackwardIdeal.Gen.facts, Cert.FirstNormBackwardReferenceIdeal.Gen.facts,
    Cert.LossHead.Gen.facts, Cert.LossHeadIdeal.Gen.facts, Cert.LossHeadReferenceIdeal.Gen.facts,
    Cert.NormForward.Gen.facts, Cert.NormForwardIdeal.Gen.facts, Cert.NormForwardReferenceIdeal.Gen.facts,
    Cert.FirstNormForward.Gen.facts, Cert.FirstNormForwardIdeal.Gen.facts, Cert.FirstNormForwardReferenceIdeal.Gen.facts,
    Cert.AdaWeightStep.Gen.facts, Cert.AdaWeightStepIdeal.Gen.facts, Cert.AdaWeightStepReferenceIdeal.Gen.facts,
    Cert.GatingForward.Gen.facts, Cert.GatingForwardIdeal.Gen.facts, Cert.GatingForwardReferenceIdeal.Gen.facts,
    Cert.NormGainStep.Gen.facts, Cert.NormGainStepIdeal.Gen.facts, Cert.NormGainStepReferenceIdeal.Gen.facts,
    Cert.FinalGainStep.Gen.facts, Cert.FinalGainStepIdeal.Gen.facts, Cert.FinalGainStepReferenceIdeal.Gen.facts,
    Cert.GatingNormStep.Gen.facts, Cert.GatingNormStepIdeal.Gen.facts, Cert.GatingNormStepReferenceIdeal.Gen.facts,
    Cert.SpatialWeightStep.Gen.facts, Cert.SpatialWeightStepIdeal.Gen.facts, Cert.SpatialWeightStepReferenceIdeal.Gen.facts,
    Cert.SpatialBiasStep.Gen.facts, Cert.SpatialBiasStepIdeal.Gen.facts, Cert.SpatialBiasStepReferenceIdeal.Gen.facts,
    Cert.HeadRowsStep.Gen.facts, Cert.HeadRowsStepIdeal.Gen.facts, Cert.HeadRowsStepReferenceIdeal.Gen.facts,
    Cert.ConvWeightStep.Gen.facts, Cert.ConvWeightStepIdeal.Gen.facts, Cert.ConvWeightStepReferenceIdeal.Gen.facts,
    Cert.ConvBiasStep.Gen.facts, Cert.ConvBiasStepIdeal.Gen.facts, Cert.ConvBiasStepReferenceIdeal.Gen.facts,
    Cert.AdaBiasStep.Gen.facts, Cert.AdaBiasStepIdeal.Gen.facts, Cert.AdaBiasStepReferenceIdeal.Gen.facts,
    Cert.AdaBiasSum.Gen.facts, Cert.AdaBiasSumIdeal.Gen.facts, Cert.AdaBiasSumReferenceIdeal.Gen.facts,
    Cert.DeviceSum.Gen.facts, Cert.DeviceSumIdeal.Gen.facts, Cert.DeviceSumReferenceIdeal.Gen.facts,
    Cert.ConvForward.Gen.facts, Cert.ConvForwardIdeal.Gen.facts, Cert.ConvForwardReferenceIdeal.Gen.facts,
    Cert.Results.facts,
    fun m ρ _ => Cert.Kernel.Gen.frame m ρ, fun m ρ _ => Cert.KernelIdeal.Gen.frame m ρ,
    fun m ρ _ => Cert.KernelIdeal.Gen.frame m ρ, reference_frame, fun m ρ _ => reference_frame m ρ trivial,
    fun m ρ _ => Cert.InInput.Gen.frame m ρ, fun m ρ _ => Cert.InInputIdeal.Gen.frame m ρ,
      fun m ρ _ => Cert.Runs.frame_of_run (by decide) (Cert.InInputReferenceIdeal.Value.run m ρ),
    fun m ρ _ => Cert.InWeight.Gen.frame m ρ, fun m ρ _ => Cert.InWeightIdeal.Gen.frame m ρ,
      fun m ρ _ => Cert.Runs.frame_of_run (by decide) (Cert.InWeightReferenceIdeal.Value.run m ρ),
    fun m ρ _ => Cert.UpWeight.Gen.frame m ρ, fun m ρ _ => Cert.UpWeightIdeal.Gen.frame m ρ,
      fun m ρ _ => Cert.Runs.frame_of_run (by decide) (Cert.UpWeightReferenceIdeal.Value.run m ρ),
    fun m ρ _ => Cert.DownInput.Gen.frame m ρ, fun m ρ _ => Cert.DownInputIdeal.Gen.frame m ρ,
      fun m ρ _ => Cert.Runs.frame_of_run (by decide) (Cert.DownInputReferenceIdeal.Value.run m ρ),
    fun m ρ _ => Cert.DownWeight.Gen.frame m ρ, fun m ρ _ => Cert.DownWeightIdeal.Gen.frame m ρ,
      fun m ρ _ => Cert.Runs.frame_of_run (by decide) (Cert.DownWeightReferenceIdeal.Value.run m ρ),
    fun m ρ _ => Cert.InForward.Gen.frame m ρ, fun m ρ _ => Cert.InForwardIdeal.Gen.frame m ρ,
      fun m ρ _ => Cert.Runs.frame_of_run (by decide) (Cert.InForwardReferenceIdeal.Value.run m ρ),
    fun m ρ _ => Cert.UpForward.Gen.frame m ρ, fun m ρ _ => Cert.UpForwardIdeal.Gen.frame m ρ,
      fun m ρ _ => Cert.Runs.frame_of_run (by decide) (Cert.UpForwardReferenceIdeal.Value.run m ρ),
    fun m ρ _ => Cert.DownForward.Gen.frame m ρ, fun m ρ _ => Cert.DownForwardIdeal.Gen.frame m ρ,
      fun m ρ _ => Cert.Runs.frame_of_run (by decide) (Cert.DownForwardReferenceIdeal.Value.run m ρ),
    fun m ρ _ => Cert.GmOutInput.Gen.frame m ρ, fun m ρ _ => Cert.GmOutInputIdeal.Gen.frame m ρ,
      fun m ρ _ => Cert.Runs.frame_of_run (by decide) (Cert.GmOutInputReferenceIdeal.Value.run m ρ),
    fun m ρ _ => Cert.GmOutWeight.Gen.frame m ρ, fun m ρ _ => Cert.GmOutWeightIdeal.Gen.frame m ρ,
      fun m ρ _ => Cert.Runs.frame_of_run (by decide) (Cert.GmOutWeightReferenceIdeal.Value.run m ρ),
    fun m ρ _ => Cert.GmOutForward.Gen.frame m ρ, fun m ρ _ => Cert.GmOutForwardIdeal.Gen.frame m ρ,
      fun m ρ _ => Cert.Runs.frame_of_run (by decide) (Cert.GmOutForwardReferenceIdeal.Value.run m ρ),
    fun m ρ _ => Cert.HgOutInput.Gen.frame m ρ, fun m ρ _ => Cert.HgOutInputIdeal.Gen.frame m ρ,
      fun m ρ _ => Cert.Runs.frame_of_run (by decide) (Cert.HgOutInputReferenceIdeal.Value.run m ρ),
    fun m ρ _ => Cert.HgOutWeight.Gen.frame m ρ, fun m ρ _ => Cert.HgOutWeightIdeal.Gen.frame m ρ,
      fun m ρ _ => Cert.Runs.frame_of_run (by decide) (Cert.HgOutWeightReferenceIdeal.Value.run m ρ),
    fun m ρ _ => Cert.HgOutForward.Gen.frame m ρ, fun m ρ _ => Cert.HgOutForwardIdeal.Gen.frame m ρ,
      fun m ρ _ => Cert.Runs.frame_of_run (by decide) (Cert.HgOutForwardReferenceIdeal.Value.run m ρ),
    fun m ρ _ => Cert.NormBackward.Gen.frame m ρ, fun m ρ _ => Cert.NormBackwardIdeal.Gen.frame m ρ,
      Cert.NormBackwardResult.reference_frame,
    fun m ρ _ => Cert.AdaForward.Gen.frame m ρ, fun m ρ _ => Cert.AdaForwardIdeal.Gen.frame m ρ,
      fun m ρ _ => Cert.Runs.frame_of_run (by decide) (Cert.AdaForwardReferenceIdeal.Value.run m ρ),
    fun m ρ _ => Cert.AdaWeight.Gen.frame m ρ, fun m ρ _ => Cert.AdaWeightIdeal.Gen.frame m ρ,
      fun m ρ _ => Cert.Runs.frame_of_run (by decide) (Cert.AdaWeightReferenceIdeal.Value.run m ρ),
    fun m ρ _ => Cert.FirstNormBackward.Gen.frame m ρ, fun m ρ _ => Cert.FirstNormBackwardIdeal.Gen.frame m ρ,
      Cert.FirstNormBackwardResult.reference_frame,
    fun m ρ _ => Cert.LossHead.Gen.frame m ρ, fun m ρ _ => Cert.LossHeadIdeal.Gen.frame m ρ,
      Cert.LossHeadResult.reference_frame,
    fun m ρ _ => Cert.NormForward.Gen.frame m ρ, fun m ρ _ => Cert.NormForwardIdeal.Gen.frame m ρ,
      Cert.NormForwardResult.reference_frame,
    fun m ρ _ => Cert.FirstNormForward.Gen.frame m ρ, fun m ρ _ => Cert.FirstNormForwardIdeal.Gen.frame m ρ,
      fun m ρ _ => Cert.Runs.frame_of_run (by decide) (Cert.FirstNormForwardReferenceIdeal.Value.run m ρ),
    fun m ρ _ => Cert.AdaWeightStep.Gen.frame m ρ, fun m ρ _ => Cert.AdaWeightStepIdeal.Gen.frame m ρ,
      Cert.AdaWeightStepResult.reference_frame,
    fun m ρ _ => Cert.GatingForward.Gen.frame m ρ, fun m ρ _ => Cert.GatingForwardIdeal.Gen.frame m ρ,
      fun m ρ _ => Cert.Runs.frame_of_run (by decide) (Cert.GatingForwardReferenceIdeal.Value.run m ρ),
    fun m ρ _ => Cert.NormGainStep.Gen.frame m ρ, fun m ρ _ => Cert.NormGainStepIdeal.Gen.frame m ρ,
      Cert.NormGainStepResult.reference_frame,
    fun m ρ _ => Cert.FinalGainStep.Gen.frame m ρ, fun m ρ _ => Cert.FinalGainStepIdeal.Gen.frame m ρ,
      Cert.FinalGainStepResult.reference_frame,
    fun m ρ _ => Cert.GatingNormStep.Gen.frame m ρ, fun m ρ _ => Cert.GatingNormStepIdeal.Gen.frame m ρ,
      Cert.GatingNormStepResult.reference_frame,
    fun m ρ _ => Cert.SpatialWeightStep.Gen.frame m ρ, fun m ρ _ => Cert.SpatialWeightStepIdeal.Gen.frame m ρ,
      Cert.SpatialWeightStepResult.reference_frame,
    fun m ρ _ => Cert.SpatialBiasStep.Gen.frame m ρ, fun m ρ _ => Cert.SpatialBiasStepIdeal.Gen.frame m ρ,
      Cert.SpatialBiasStepResult.reference_frame,
    fun m ρ _ => Cert.HeadRowsStep.Gen.frame m ρ, fun m ρ _ => Cert.HeadRowsStepIdeal.Gen.frame m ρ,
      Cert.HeadRowsStepResult.reference_frame,
    fun m ρ _ => Cert.ConvWeightStep.Gen.frame m ρ, fun m ρ _ => Cert.ConvWeightStepIdeal.Gen.frame m ρ,
      Cert.ConvWeightStepResult.reference_frame,
    fun m ρ _ => Cert.ConvBiasStep.Gen.frame m ρ, fun m ρ _ => Cert.ConvBiasStepIdeal.Gen.frame m ρ,
      Cert.ConvBiasStepResult.reference_frame,
    fun m ρ _ => Cert.AdaBiasStep.Gen.frame m ρ, fun m ρ _ => Cert.AdaBiasStepIdeal.Gen.frame m ρ,
      Cert.AdaBiasStepResult.reference_frame,
    fun m ρ _ => Cert.AdaBiasSum.Gen.frame m ρ, fun m ρ _ => Cert.AdaBiasSumIdeal.Gen.frame m ρ,
      fun m ρ _ => Cert.Runs.frame_of_run (by decide) (Cert.AdaBiasSumReferenceIdeal.Value.run m ρ),
    fun m ρ _ => Cert.DeviceSum.Gen.frame m ρ, fun m ρ _ => Cert.DeviceSumIdeal.Gen.frame m ρ,
      fun m ρ _ => Cert.Runs.frame_of_run (by decide) (Cert.DeviceSumReferenceIdeal.Value.run m ρ),
    fun m ρ _ => Cert.ConvForward.Gen.frame m ρ, fun m ρ _ => Cert.ConvForwardIdeal.Gen.frame m ρ,
      fun m ρ _ => Cert.Runs.frame_of_run (by decide) (Cert.ConvForwardReferenceIdeal.Value.run m ρ),
    preserves, algebraic,
    trivial, Cert.InInputResult.algebraic,
    trivial, Cert.InWeightResult.algebraic,
    trivial, Cert.UpWeightResult.algebraic,
    trivial, Cert.DownInputResult.algebraic,
    trivial, Cert.DownWeightResult.algebraic,
    trivial, Cert.InForwardResult.algebraic,
    trivial, Cert.UpForwardResult.algebraic,
    trivial, Cert.DownForwardResult.algebraic,
    trivial, Cert.GmOutInputResult.algebraic,
    trivial, Cert.GmOutWeightResult.algebraic,
    trivial, Cert.GmOutForwardResult.algebraic,
    trivial, Cert.HgOutInputResult.algebraic,
    trivial, Cert.HgOutWeightResult.algebraic,
    trivial, Cert.HgOutForwardResult.algebraic,
    trivial, Cert.NormBackwardResult.algebraic,
    trivial, Cert.AdaForwardResult.algebraic,
    trivial, Cert.AdaWeightResult.algebraic,
    trivial, Cert.FirstNormBackwardResult.algebraic,
    trivial, Cert.LossHeadResult.algebraic,
    trivial, Cert.NormForwardResult.algebraic,
    trivial, Cert.FirstNormForwardResult.algebraic,
    Cert.AdaWeightStepResult.preserves, Cert.AdaWeightStepResult.algebraic,
    Cert.GatingForwardResult.preserves, Cert.GatingForwardResult.algebraic,
    Cert.NormGainStepResult.preserves, Cert.NormGainStepResult.algebraic,
    Cert.FinalGainStepResult.preserves, Cert.FinalGainStepResult.algebraic,
    Cert.GatingNormStepResult.preserves, Cert.GatingNormStepResult.algebraic,
    Cert.SpatialWeightStepResult.preserves, Cert.SpatialWeightStepResult.algebraic,
    Cert.SpatialBiasStepResult.preserves, Cert.SpatialBiasStepResult.algebraic,
    Cert.HeadRowsStepResult.preserves, Cert.HeadRowsStepResult.algebraic,
    Cert.ConvWeightStepResult.preserves, Cert.ConvWeightStepResult.algebraic,
    Cert.ConvBiasStepResult.preserves, Cert.ConvBiasStepResult.algebraic,
    Cert.AdaBiasStepResult.preserves, Cert.AdaBiasStepResult.algebraic,
    trivial, Cert.AdaBiasSumResult.algebraic,
    trivial, Cert.DeviceSumResult.algebraic,
    Cert.ConvForwardResult.preserves, Cert.ConvForwardResult.algebraic⟩

end Cert.Proof

end
